-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_Gather1 (m : (ℓ : Loc Cert.Gather1.nD Cert.Gather1.τ Cert.Gather1.sig) → Buf (Elt Bits) ℓ) : Prop :=
  True

def Pre_Gather1Ideal (m : (ℓ : Loc Cert.Gather1Ideal.nD Cert.Gather1Ideal.τ Cert.Gather1Ideal.sig) → Buf (Elt Ideal) ℓ) : Prop :=
  True

def Pre_GatherRef1Ideal (m : (ℓ : Loc Cert.GatherRef1Ideal.nD Cert.GatherRef1Ideal.τ Cert.GatherRef1Ideal.sig) → Buf (Elt Ideal) ℓ) : Prop :=
  True

def Pre_GatherRef1 (m : (ℓ : Loc Cert.GatherRef1.nD Cert.GatherRef1.τ Cert.GatherRef1.sig) → Buf (Elt Bits) ℓ) : Prop :=
  True

def Pre_Scatter1 (m : (ℓ : Loc Cert.Scatter1.nD Cert.Scatter1.τ Cert.Scatter1.sig) → Buf (Elt Bits) ℓ) : Prop :=
  True

def Pre_Scatter1Ideal (m : (ℓ : Loc Cert.Scatter1Ideal.nD Cert.Scatter1Ideal.τ Cert.Scatter1Ideal.sig) → Buf (Elt Ideal) ℓ) : Prop :=
  True

def Pre_ScatterRef1Ideal (m : (ℓ : Loc Cert.ScatterRef1Ideal.nD Cert.ScatterRef1Ideal.τ Cert.ScatterRef1Ideal.sig) → Buf (Elt Ideal) ℓ) : Prop :=
  True

def Pre_Gather2 (m : (ℓ : Loc Cert.Gather2.nD Cert.Gather2.τ Cert.Gather2.sig) → Buf (Elt Bits) ℓ) : Prop :=
  True

def Pre_Gather2Ideal (m : (ℓ : Loc Cert.Gather2Ideal.nD Cert.Gather2Ideal.τ Cert.Gather2Ideal.sig) → Buf (Elt Ideal) ℓ) : Prop :=
  True

def Pre_GatherRef2Ideal (m : (ℓ : Loc Cert.GatherRef2Ideal.nD Cert.GatherRef2Ideal.τ Cert.GatherRef2Ideal.sig) → Buf (Elt Ideal) ℓ) : Prop :=
  True

def Pre_GatherRef2 (m : (ℓ : Loc Cert.GatherRef2.nD Cert.GatherRef2.τ Cert.GatherRef2.sig) → Buf (Elt Bits) ℓ) : Prop :=
  True

def Pre_Scatter2 (m : (ℓ : Loc Cert.Scatter2.nD Cert.Scatter2.τ Cert.Scatter2.sig) → Buf (Elt Bits) ℓ) : Prop :=
  True

def Pre_Scatter2Ideal (m : (ℓ : Loc Cert.Scatter2Ideal.nD Cert.Scatter2Ideal.τ Cert.Scatter2Ideal.sig) → Buf (Elt Ideal) ℓ) : Prop :=
  True

def Pre_ScatterRef2Ideal (m : (ℓ : Loc Cert.ScatterRef2Ideal.nD Cert.ScatterRef2Ideal.τ Cert.ScatterRef2Ideal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Adam0 (m : (ℓ : Loc Cert.Adam0.nD Cert.Adam0.τ Cert.Adam0.sig) → Buf (Elt Bits) ℓ) : Prop :=
  True

def Pre_Adam0Ideal (m : (ℓ : Loc Cert.Adam0Ideal.nD Cert.Adam0Ideal.τ Cert.Adam0Ideal.sig) → Buf (Elt Ideal) ℓ) : Prop :=
  True

def Pre_AdamRef0Ideal (m : (ℓ : Loc Cert.AdamRef0Ideal.nD Cert.AdamRef0Ideal.τ Cert.AdamRef0Ideal.sig) → Buf (Elt Ideal) ℓ) : Prop :=
  True

def Pre_Adam1 (m : (ℓ : Loc Cert.Adam1.nD Cert.Adam1.τ Cert.Adam1.sig) → Buf (Elt Bits) ℓ) : Prop :=
  True

def Pre_Adam1Ideal (m : (ℓ : Loc Cert.Adam1Ideal.nD Cert.Adam1Ideal.τ Cert.Adam1Ideal.sig) → Buf (Elt Ideal) ℓ) : Prop :=
  True

def Pre_AdamRef1Ideal (m : (ℓ : Loc Cert.AdamRef1Ideal.nD Cert.AdamRef1Ideal.τ Cert.AdamRef1Ideal.sig) → Buf (Elt Ideal) ℓ) : Prop :=
  True

def Pre_Adam2 (m : (ℓ : Loc Cert.Adam2.nD Cert.Adam2.τ Cert.Adam2.sig) → Buf (Elt Bits) ℓ) : Prop :=
  True

def Pre_Adam2Ideal (m : (ℓ : Loc Cert.Adam2Ideal.nD Cert.Adam2Ideal.τ Cert.Adam2Ideal.sig) → Buf (Elt Ideal) ℓ) : Prop :=
  True

def Pre_AdamRef2Ideal (m : (ℓ : Loc Cert.AdamRef2Ideal.nD Cert.AdamRef2Ideal.τ Cert.AdamRef2Ideal.sig) → Buf (Elt Ideal) ℓ) : Prop :=
  True

def Pre_Adam3 (m : (ℓ : Loc Cert.Adam3.nD Cert.Adam3.τ Cert.Adam3.sig) → Buf (Elt Bits) ℓ) : Prop :=
  True

def Pre_Adam3Ideal (m : (ℓ : Loc Cert.Adam3Ideal.nD Cert.Adam3Ideal.τ Cert.Adam3Ideal.sig) → Buf (Elt Ideal) ℓ) : Prop :=
  True

def Pre_AdamRef3Ideal (m : (ℓ : Loc Cert.AdamRef3Ideal.nD Cert.AdamRef3Ideal.τ Cert.AdamRef3Ideal.sig) → Buf (Elt Ideal) ℓ) : Prop :=
  True

def Pre_Adam4 (m : (ℓ : Loc Cert.Adam4.nD Cert.Adam4.τ Cert.Adam4.sig) → Buf (Elt Bits) ℓ) : Prop :=
  True

def Pre_Adam4Ideal (m : (ℓ : Loc Cert.Adam4Ideal.nD Cert.Adam4Ideal.τ Cert.Adam4Ideal.sig) → Buf (Elt Ideal) ℓ) : Prop :=
  True

def Pre_AdamRef4Ideal (m : (ℓ : Loc Cert.AdamRef4Ideal.nD Cert.AdamRef4Ideal.τ Cert.AdamRef4Ideal.sig) → Buf (Elt Ideal) ℓ) : Prop :=
  True

def Pre_Adam5 (m : (ℓ : Loc Cert.Adam5.nD Cert.Adam5.τ Cert.Adam5.sig) → Buf (Elt Bits) ℓ) : Prop :=
  True

def Pre_Adam5Ideal (m : (ℓ : Loc Cert.Adam5Ideal.nD Cert.Adam5Ideal.τ Cert.Adam5Ideal.sig) → Buf (Elt Ideal) ℓ) : Prop :=
  True

def Pre_AdamRef5Ideal (m : (ℓ : Loc Cert.AdamRef5Ideal.nD Cert.AdamRef5Ideal.τ Cert.AdamRef5Ideal.sig) → Buf (Elt Ideal) ℓ) : Prop :=
  True

def Pre_Adam6 (m : (ℓ : Loc Cert.Adam6.nD Cert.Adam6.τ Cert.Adam6.sig) → Buf (Elt Bits) ℓ) : Prop :=
  True

def Pre_Adam6Ideal (m : (ℓ : Loc Cert.Adam6Ideal.nD Cert.Adam6Ideal.τ Cert.Adam6Ideal.sig) → Buf (Elt Ideal) ℓ) : Prop :=
  True

def Pre_AdamRef6Ideal (m : (ℓ : Loc Cert.AdamRef6Ideal.nD Cert.AdamRef6Ideal.τ Cert.AdamRef6Ideal.sig) → Buf (Elt Ideal) ℓ) : Prop :=
  True

def Pre_Adam7 (m : (ℓ : Loc Cert.Adam7.nD Cert.Adam7.τ Cert.Adam7.sig) → Buf (Elt Bits) ℓ) : Prop :=
  True

def Pre_Adam7Ideal (m : (ℓ : Loc Cert.Adam7Ideal.nD Cert.Adam7Ideal.τ Cert.Adam7Ideal.sig) → Buf (Elt Ideal) ℓ) : Prop :=
  True

def Pre_AdamRef7Ideal (m : (ℓ : Loc Cert.AdamRef7Ideal.nD Cert.AdamRef7Ideal.τ Cert.AdamRef7Ideal.sig) → Buf (Elt Ideal) ℓ) : Prop :=
  True

def Pre_Adam8 (m : (ℓ : Loc Cert.Adam8.nD Cert.Adam8.τ Cert.Adam8.sig) → Buf (Elt Bits) ℓ) : Prop :=
  True

def Pre_Adam8Ideal (m : (ℓ : Loc Cert.Adam8Ideal.nD Cert.Adam8Ideal.τ Cert.Adam8Ideal.sig) → Buf (Elt Ideal) ℓ) : Prop :=
  True

def Pre_AdamRef8Ideal (m : (ℓ : Loc Cert.AdamRef8Ideal.nD Cert.AdamRef8Ideal.τ Cert.AdamRef8Ideal.sig) → Buf (Elt Ideal) ℓ) : Prop :=
  True

def Pre_Adam9 (m : (ℓ : Loc Cert.Adam9.nD Cert.Adam9.τ Cert.Adam9.sig) → Buf (Elt Bits) ℓ) : Prop :=
  True

def Pre_Adam9Ideal (m : (ℓ : Loc Cert.Adam9Ideal.nD Cert.Adam9Ideal.τ Cert.Adam9Ideal.sig) → Buf (Elt Ideal) ℓ) : Prop :=
  True

def Pre_AdamRef9Ideal (m : (ℓ : Loc Cert.AdamRef9Ideal.nD Cert.AdamRef9Ideal.τ Cert.AdamRef9Ideal.sig) → Buf (Elt Ideal) ℓ) : Prop :=
  True

def Pre_Adam10 (m : (ℓ : Loc Cert.Adam10.nD Cert.Adam10.τ Cert.Adam10.sig) → Buf (Elt Bits) ℓ) : Prop :=
  True

def Pre_Adam10Ideal (m : (ℓ : Loc Cert.Adam10Ideal.nD Cert.Adam10Ideal.τ Cert.Adam10Ideal.sig) → Buf (Elt Ideal) ℓ) : Prop :=
  True

def Pre_AdamRef10Ideal (m : (ℓ : Loc Cert.AdamRef10Ideal.nD Cert.AdamRef10Ideal.τ Cert.AdamRef10Ideal.sig) → Buf (Elt Ideal) ℓ) : Prop :=
  True

def Pre_Adam11 (m : (ℓ : Loc Cert.Adam11.nD Cert.Adam11.τ Cert.Adam11.sig) → Buf (Elt Bits) ℓ) : Prop :=
  True

def Pre_Adam11Ideal (m : (ℓ : Loc Cert.Adam11Ideal.nD Cert.Adam11Ideal.τ Cert.Adam11Ideal.sig) → Buf (Elt Ideal) ℓ) : Prop :=
  True

def Pre_AdamRef11Ideal (m : (ℓ : Loc Cert.AdamRef11Ideal.nD Cert.AdamRef11Ideal.τ Cert.AdamRef11Ideal.sig) → Buf (Elt Ideal) ℓ) : Prop :=
  True

def Pre_Adam12 (m : (ℓ : Loc Cert.Adam12.nD Cert.Adam12.τ Cert.Adam12.sig) → Buf (Elt Bits) ℓ) : Prop :=
  True

def Pre_Adam12Ideal (m : (ℓ : Loc Cert.Adam12Ideal.nD Cert.Adam12Ideal.τ Cert.Adam12Ideal.sig) → Buf (Elt Ideal) ℓ) : Prop :=
  True

def Pre_AdamRef12Ideal (m : (ℓ : Loc Cert.AdamRef12Ideal.nD Cert.AdamRef12Ideal.τ Cert.AdamRef12Ideal.sig) → Buf (Elt Ideal) ℓ) : Prop :=
  True

def Pre_Adam13 (m : (ℓ : Loc Cert.Adam13.nD Cert.Adam13.τ Cert.Adam13.sig) → Buf (Elt Bits) ℓ) : Prop :=
  True

def Pre_Adam13Ideal (m : (ℓ : Loc Cert.Adam13Ideal.nD Cert.Adam13Ideal.τ Cert.Adam13Ideal.sig) → Buf (Elt Ideal) ℓ) : Prop :=
  True

def Pre_AdamRef13Ideal (m : (ℓ : Loc Cert.AdamRef13Ideal.nD Cert.AdamRef13Ideal.τ Cert.AdamRef13Ideal.sig) → Buf (Elt Ideal) ℓ) : Prop :=
  True

def Pre_Mul0 (m : (ℓ : Loc Cert.Mul0.nD Cert.Mul0.τ Cert.Mul0.sig) → Buf (Elt Bits) ℓ) : Prop :=
  True

def Pre_Mul0Ideal (m : (ℓ : Loc Cert.Mul0Ideal.nD Cert.Mul0Ideal.τ Cert.Mul0Ideal.sig) → Buf (Elt Ideal) ℓ) : Prop :=
  True

def Pre_MulRef0Ideal (m : (ℓ : Loc Cert.MulRef0Ideal.nD Cert.MulRef0Ideal.τ Cert.MulRef0Ideal.sig) → Buf (Elt Ideal) ℓ) : Prop :=
  True

def Pre_Mul1 (m : (ℓ : Loc Cert.Mul1.nD Cert.Mul1.τ Cert.Mul1.sig) → Buf (Elt Bits) ℓ) : Prop :=
  True

def Pre_Mul1Ideal (m : (ℓ : Loc Cert.Mul1Ideal.nD Cert.Mul1Ideal.τ Cert.Mul1Ideal.sig) → Buf (Elt Ideal) ℓ) : Prop :=
  True

def Pre_MulRef1Ideal (m : (ℓ : Loc Cert.MulRef1Ideal.nD Cert.MulRef1Ideal.τ Cert.MulRef1Ideal.sig) → Buf (Elt Ideal) ℓ) : Prop :=
  True

def Pre_Mul2 (m : (ℓ : Loc Cert.Mul2.nD Cert.Mul2.τ Cert.Mul2.sig) → Buf (Elt Bits) ℓ) : Prop :=
  True

def Pre_Mul2Ideal (m : (ℓ : Loc Cert.Mul2Ideal.nD Cert.Mul2Ideal.τ Cert.Mul2Ideal.sig) → Buf (Elt Ideal) ℓ) : Prop :=
  True

def Pre_MulRef2Ideal (m : (ℓ : Loc Cert.MulRef2Ideal.nD Cert.MulRef2Ideal.τ Cert.MulRef2Ideal.sig) → Buf (Elt Ideal) ℓ) : Prop :=
  True

def Pre_Mul3 (m : (ℓ : Loc Cert.Mul3.nD Cert.Mul3.τ Cert.Mul3.sig) → Buf (Elt Bits) ℓ) : Prop :=
  True

def Pre_Mul3Ideal (m : (ℓ : Loc Cert.Mul3Ideal.nD Cert.Mul3Ideal.τ Cert.Mul3Ideal.sig) → Buf (Elt Ideal) ℓ) : Prop :=
  True

def Pre_MulRef3Ideal (m : (ℓ : Loc Cert.MulRef3Ideal.nD Cert.MulRef3Ideal.τ Cert.MulRef3Ideal.sig) → Buf (Elt Ideal) ℓ) : Prop :=
  True

def Pre_Mul4 (m : (ℓ : Loc Cert.Mul4.nD Cert.Mul4.τ Cert.Mul4.sig) → Buf (Elt Bits) ℓ) : Prop :=
  True

def Pre_Mul4Ideal (m : (ℓ : Loc Cert.Mul4Ideal.nD Cert.Mul4Ideal.τ Cert.Mul4Ideal.sig) → Buf (Elt Ideal) ℓ) : Prop :=
  True

def Pre_MulRef4Ideal (m : (ℓ : Loc Cert.MulRef4Ideal.nD Cert.MulRef4Ideal.τ Cert.MulRef4Ideal.sig) → Buf (Elt Ideal) ℓ) : Prop :=
  True

def Pre_Mul5 (m : (ℓ : Loc Cert.Mul5.nD Cert.Mul5.τ Cert.Mul5.sig) → Buf (Elt Bits) ℓ) : Prop :=
  True

def Pre_Mul5Ideal (m : (ℓ : Loc Cert.Mul5Ideal.nD Cert.Mul5Ideal.τ Cert.Mul5Ideal.sig) → Buf (Elt Ideal) ℓ) : Prop :=
  True

def Pre_MulRef5Ideal (m : (ℓ : Loc Cert.MulRef5Ideal.nD Cert.MulRef5Ideal.τ Cert.MulRef5Ideal.sig) → Buf (Elt Ideal) ℓ) : Prop :=
  True

def Pre_Mul6 (m : (ℓ : Loc Cert.Mul6.nD Cert.Mul6.τ Cert.Mul6.sig) → Buf (Elt Bits) ℓ) : Prop :=
  True

def Pre_Mul6Ideal (m : (ℓ : Loc Cert.Mul6Ideal.nD Cert.Mul6Ideal.τ Cert.Mul6Ideal.sig) → Buf (Elt Ideal) ℓ) : Prop :=
  True

def Pre_MulRef6Ideal (m : (ℓ : Loc Cert.MulRef6Ideal.nD Cert.MulRef6Ideal.τ Cert.MulRef6Ideal.sig) → Buf (Elt Ideal) ℓ) : Prop :=
  True

def Pre_Norm0 (m : (ℓ : Loc Cert.Norm0.nD Cert.Norm0.τ Cert.Norm0.sig) → Buf (Elt Bits) ℓ) : Prop :=
  True

def Pre_Norm0Ideal (m : (ℓ : Loc Cert.Norm0Ideal.nD Cert.Norm0Ideal.τ Cert.Norm0Ideal.sig) → Buf (Elt Ideal) ℓ) : Prop :=
  True

def Pre_NormRef0Ideal (m : (ℓ : Loc Cert.NormRef0Ideal.nD Cert.NormRef0Ideal.τ Cert.NormRef0Ideal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_NormRef1Ideal (m : (ℓ : Loc Cert.NormRef1Ideal.nD Cert.NormRef1Ideal.τ Cert.NormRef1Ideal.sig) → Buf (Elt Ideal) ℓ) : Prop :=
  True

def Pre_Dx0 (m : (ℓ : Loc Cert.Dx0.nD Cert.Dx0.τ Cert.Dx0.sig) → Buf (Elt Bits) ℓ) : Prop :=
  True

def Pre_Dx0Ideal (m : (ℓ : Loc Cert.Dx0Ideal.nD Cert.Dx0Ideal.τ Cert.Dx0Ideal.sig) → Buf (Elt Ideal) ℓ) : Prop :=
  True

def Pre_DxRef0Ideal (m : (ℓ : Loc Cert.DxRef0Ideal.nD Cert.DxRef0Ideal.τ Cert.DxRef0Ideal.sig) → Buf (Elt Ideal) ℓ) : Prop :=
  True

def Pre_Dx1 (m : (ℓ : Loc Cert.Dx1.nD Cert.Dx1.τ Cert.Dx1.sig) → Buf (Elt Bits) ℓ) : Prop :=
  True

def Pre_Dx1Ideal (m : (ℓ : Loc Cert.Dx1Ideal.nD Cert.Dx1Ideal.τ Cert.Dx1Ideal.sig) → Buf (Elt Ideal) ℓ) : Prop :=
  True

def Pre_DxRef1Ideal (m : (ℓ : Loc Cert.DxRef1Ideal.nD Cert.DxRef1Ideal.τ Cert.DxRef1Ideal.sig) → Buf (Elt Ideal) ℓ) : Prop :=
  True

def Pre_Dx2 (m : (ℓ : Loc Cert.Dx2.nD Cert.Dx2.τ Cert.Dx2.sig) → Buf (Elt Bits) ℓ) : Prop :=
  True

def Pre_Dx2Ideal (m : (ℓ : Loc Cert.Dx2Ideal.nD Cert.Dx2Ideal.τ Cert.Dx2Ideal.sig) → Buf (Elt Ideal) ℓ) : Prop :=
  True

def Pre_DxRef2Ideal (m : (ℓ : Loc Cert.DxRef2Ideal.nD Cert.DxRef2Ideal.τ Cert.DxRef2Ideal.sig) → Buf (Elt Ideal) ℓ) : Prop :=
  True

def Pre_Dx3 (m : (ℓ : Loc Cert.Dx3.nD Cert.Dx3.τ Cert.Dx3.sig) → Buf (Elt Bits) ℓ) : Prop :=
  True

def Pre_Dx3Ideal (m : (ℓ : Loc Cert.Dx3Ideal.nD Cert.Dx3Ideal.τ Cert.Dx3Ideal.sig) → Buf (Elt Ideal) ℓ) : Prop :=
  True

def Pre_DxRef3Ideal (m : (ℓ : Loc Cert.DxRef3Ideal.nD Cert.DxRef3Ideal.τ Cert.DxRef3Ideal.sig) → Buf (Elt Ideal) ℓ) : Prop :=
  True

def Pre_Dx4 (m : (ℓ : Loc Cert.Dx4.nD Cert.Dx4.τ Cert.Dx4.sig) → Buf (Elt Bits) ℓ) : Prop :=
  True

def Pre_Dx4Ideal (m : (ℓ : Loc Cert.Dx4Ideal.nD Cert.Dx4Ideal.τ Cert.Dx4Ideal.sig) → Buf (Elt Ideal) ℓ) : Prop :=
  True

def Pre_DxRef4Ideal (m : (ℓ : Loc Cert.DxRef4Ideal.nD Cert.DxRef4Ideal.τ Cert.DxRef4Ideal.sig) → Buf (Elt Ideal) ℓ) : Prop :=
  True

def Pre_Dx5 (m : (ℓ : Loc Cert.Dx5.nD Cert.Dx5.τ Cert.Dx5.sig) → Buf (Elt Bits) ℓ) : Prop :=
  True

def Pre_Dx5Ideal (m : (ℓ : Loc Cert.Dx5Ideal.nD Cert.Dx5Ideal.τ Cert.Dx5Ideal.sig) → Buf (Elt Ideal) ℓ) : Prop :=
  True

def Pre_DxRef5Ideal (m : (ℓ : Loc Cert.DxRef5Ideal.nD Cert.DxRef5Ideal.τ Cert.DxRef5Ideal.sig) → Buf (Elt Ideal) ℓ) : Prop :=
  True

def Pre_Dx6 (m : (ℓ : Loc Cert.Dx6.nD Cert.Dx6.τ Cert.Dx6.sig) → Buf (Elt Bits) ℓ) : Prop :=
  True

def Pre_Dx6Ideal (m : (ℓ : Loc Cert.Dx6Ideal.nD Cert.Dx6Ideal.τ Cert.Dx6Ideal.sig) → Buf (Elt Ideal) ℓ) : Prop :=
  True

def Pre_DxRef6Ideal (m : (ℓ : Loc Cert.DxRef6Ideal.nD Cert.DxRef6Ideal.τ Cert.DxRef6Ideal.sig) → Buf (Elt Ideal) ℓ) : Prop :=
  True

def Pre_Dw0 (m : (ℓ : Loc Cert.Dw0.nD Cert.Dw0.τ Cert.Dw0.sig) → Buf (Elt Bits) ℓ) : Prop :=
  True

def Pre_Dw0Ideal (m : (ℓ : Loc Cert.Dw0Ideal.nD Cert.Dw0Ideal.τ Cert.Dw0Ideal.sig) → Buf (Elt Ideal) ℓ) : Prop :=
  True

def Pre_DwRef0Ideal (m : (ℓ : Loc Cert.DwRef0Ideal.nD Cert.DwRef0Ideal.τ Cert.DwRef0Ideal.sig) → Buf (Elt Ideal) ℓ) : Prop :=
  True

def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_DwRef1Ideal (m : (ℓ : Loc Cert.DwRef1Ideal.nD Cert.DwRef1Ideal.τ Cert.DwRef1Ideal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_DwRef2Ideal (m : (ℓ : Loc Cert.DwRef2Ideal.nD Cert.DwRef2Ideal.τ Cert.DwRef2Ideal.sig) → Buf (Elt Ideal) ℓ) : Prop :=
  True

def Pre_Dw3 (m : (ℓ : Loc Cert.Dw3.nD Cert.Dw3.τ Cert.Dw3.sig) → Buf (Elt Bits) ℓ) : Prop :=
  True

def Pre_Dw3Ideal (m : (ℓ : Loc Cert.Dw3Ideal.nD Cert.Dw3Ideal.τ Cert.Dw3Ideal.sig) → Buf (Elt Ideal) ℓ) : Prop :=
  True

def Pre_DwRef3Ideal (m : (ℓ : Loc Cert.DwRef3Ideal.nD Cert.DwRef3Ideal.τ Cert.DwRef3Ideal.sig) → Buf (Elt Ideal) ℓ) : Prop :=
  True

def Pre_Dw4 (m : (ℓ : Loc Cert.Dw4.nD Cert.Dw4.τ Cert.Dw4.sig) → Buf (Elt Bits) ℓ) : Prop :=
  True

def Pre_Dw4Ideal (m : (ℓ : Loc Cert.Dw4Ideal.nD Cert.Dw4Ideal.τ Cert.Dw4Ideal.sig) → Buf (Elt Ideal) ℓ) : Prop :=
  True

def Pre_DwRef4Ideal (m : (ℓ : Loc Cert.DwRef4Ideal.nD Cert.DwRef4Ideal.τ Cert.DwRef4Ideal.sig) → Buf (Elt Ideal) ℓ) : Prop :=
  True

def Pre_Dw5 (m : (ℓ : Loc Cert.Dw5.nD Cert.Dw5.τ Cert.Dw5.sig) → Buf (Elt Bits) ℓ) : Prop :=
  True

def Pre_Dw5Ideal (m : (ℓ : Loc Cert.Dw5Ideal.nD Cert.Dw5Ideal.τ Cert.Dw5Ideal.sig) → Buf (Elt Ideal) ℓ) : Prop :=
  True

def Pre_DwRef5Ideal (m : (ℓ : Loc Cert.DwRef5Ideal.nD Cert.DwRef5Ideal.τ Cert.DwRef5Ideal.sig) → Buf (Elt Ideal) ℓ) : Prop :=
  True

def Pre_Dw6 (m : (ℓ : Loc Cert.Dw6.nD Cert.Dw6.τ Cert.Dw6.sig) → Buf (Elt Bits) ℓ) : Prop :=
  True

def Pre_Dw6Ideal (m : (ℓ : Loc Cert.Dw6Ideal.nD Cert.Dw6Ideal.τ Cert.Dw6Ideal.sig) → Buf (Elt Ideal) ℓ) : Prop :=
  True

def Pre_DwRef6Ideal (m : (ℓ : Loc Cert.DwRef6Ideal.nD Cert.DwRef6Ideal.τ Cert.DwRef6Ideal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0))
      ∧ r.2.sem = fun _ => 0)

def quiescent_Gather1 [hGather1 : Cert.Gather1.Facts] : Prop :=
  ∀ (m : (ℓ : Loc Cert.Gather1.nD Cert.Gather1.τ Cert.Gather1.sig) → Buf (Elt Bits) ℓ) (g : Dev Cert.Gather1.nD → PrngReg), Pre_Gather1 m →
    θ_run (Cert.Gather1.defs (F := Bits)) (onTc (τ := Cert.Gather1.τ) (Cert.Gather1.main (F := Bits))) ⟨m, fun _ => 0, g⟩ (fun r => (∀ c : Dev Cert.Gather1.nD,
      r.2.mem ((c.tc : Thread Cert.Gather1.nD Cert.Gather1.τ).loc Cert.Gather1.main_arg0) = m ((c.tc : Thread Cert.Gather1.nD Cert.Gather1.τ).loc Cert.Gather1.main_arg0))
      ∧ r.2.sem = fun _ => 0)

def quiescent_Gather1Ideal [hGather1Ideal : Cert.Gather1Ideal.Facts] : Prop :=
  ∀ (m : (ℓ : Loc Cert.Gather1Ideal.nD Cert.Gather1Ideal.τ Cert.Gather1Ideal.sig) → Buf (Elt Ideal) ℓ) (g : Dev Cert.Gather1Ideal.nD → PrngReg), Pre_Gather1Ideal m →
    θ_run (Cert.Gather1Ideal.defs (F := Ideal)) (onTc (τ := Cert.Gather1Ideal.τ) (Cert.Gather1Ideal.main (F := Ideal))) ⟨m, fun _ => 0, g⟩ (fun r => (∀ c : Dev Cert.Gather1Ideal.nD,
      r.2.mem ((c.tc : Thread Cert.Gather1Ideal.nD Cert.Gather1Ideal.τ).loc Cert.Gather1Ideal.main_arg0) = m ((c.tc : Thread Cert.Gather1Ideal.nD Cert.Gather1Ideal.τ).loc Cert.Gather1Ideal.main_arg0))
      ∧ r.2.sem = fun _ => 0)

def quiescent_GatherRef1Ideal [hGatherRef1Ideal : Cert.GatherRef1Ideal.Facts] : Prop :=
  ∀ (m : (ℓ : Loc Cert.GatherRef1Ideal.nD Cert.GatherRef1Ideal.τ Cert.GatherRef1Ideal.sig) → Buf (Elt Ideal) ℓ) (g : Dev Cert.GatherRef1Ideal.nD → PrngReg), Pre_GatherRef1Ideal m →
    θ_run (Cert.GatherRef1Ideal.defs (F := Ideal)) (onTc (τ := Cert.GatherRef1Ideal.τ) (Cert.GatherRef1Ideal.main (F := Ideal))) ⟨m, fun _ => 0, g⟩ (fun r => (∀ c : Dev Cert.GatherRef1Ideal.nD,
      r.2.mem ((c.tc : Thread Cert.GatherRef1Ideal.nD Cert.GatherRef1Ideal.τ).loc Cert.GatherRef1Ideal.main_arg0) = m ((c.tc : Thread Cert.GatherRef1Ideal.nD Cert.GatherRef1Ideal.τ).loc Cert.GatherRef1Ideal.main_arg0))
      ∧ r.2.sem = fun _ => 0)

def quiescent_GatherRef1 [hGatherRef1 : Cert.GatherRef1.Facts] : Prop :=
  ∀ (m : (ℓ : Loc Cert.GatherRef1.nD Cert.GatherRef1.τ Cert.GatherRef1.sig) → Buf (Elt Bits) ℓ) (g : Dev Cert.GatherRef1.nD → PrngReg), Pre_GatherRef1 m →
    θ_run (Cert.GatherRef1.defs (F := Bits)) (onTc (τ := Cert.GatherRef1.τ) (Cert.GatherRef1.main (F := Bits))) ⟨m, fun _ => 0, g⟩ (fun r => (∀ c : Dev Cert.GatherRef1.nD,
      r.2.mem ((c.tc : Thread Cert.GatherRef1.nD Cert.GatherRef1.τ).loc Cert.GatherRef1.main_arg0) = m ((c.tc : Thread Cert.GatherRef1.nD Cert.GatherRef1.τ).loc Cert.GatherRef1.main_arg0))
      ∧ r.2.sem = fun _ => 0)

def quiescent_Scatter1 [hScatter1 : Cert.Scatter1.Facts] : Prop :=
  ∀ (m : (ℓ : Loc Cert.Scatter1.nD Cert.Scatter1.τ Cert.Scatter1.sig) → Buf (Elt Bits) ℓ) (g : Dev Cert.Scatter1.nD → PrngReg), Pre_Scatter1 m →
    θ_run (Cert.Scatter1.defs (F := Bits)) (onTc (τ := Cert.Scatter1.τ) (Cert.Scatter1.main (F := Bits))) ⟨m, fun _ => 0, g⟩ (fun r => (∀ c : Dev Cert.Scatter1.nD,
      r.2.mem ((c.tc : Thread Cert.Scatter1.nD Cert.Scatter1.τ).loc Cert.Scatter1.main_arg0) = m ((c.tc : Thread Cert.Scatter1.nD Cert.Scatter1.τ).loc Cert.Scatter1.main_arg0))
      ∧ r.2.sem = fun _ => 0)

def quiescent_Scatter1Ideal [hScatter1Ideal : Cert.Scatter1Ideal.Facts] : Prop :=
  ∀ (m : (ℓ : Loc Cert.Scatter1Ideal.nD Cert.Scatter1Ideal.τ Cert.Scatter1Ideal.sig) → Buf (Elt Ideal) ℓ) (g : Dev Cert.Scatter1Ideal.nD → PrngReg), Pre_Scatter1Ideal m →
    θ_run (Cert.Scatter1Ideal.defs (F := Ideal)) (onTc (τ := Cert.Scatter1Ideal.τ) (Cert.Scatter1Ideal.main (F := Ideal))) ⟨m, fun _ => 0, g⟩ (fun r => (∀ c : Dev Cert.Scatter1Ideal.nD,
      r.2.mem ((c.tc : Thread Cert.Scatter1Ideal.nD Cert.Scatter1Ideal.τ).loc Cert.Scatter1Ideal.main_arg0) = m ((c.tc : Thread Cert.Scatter1Ideal.nD Cert.Scatter1Ideal.τ).loc Cert.Scatter1Ideal.main_arg0))
      ∧ r.2.sem = fun _ => 0)

def quiescent_ScatterRef1Ideal [hScatterRef1Ideal : Cert.ScatterRef1Ideal.Facts] : Prop :=
  ∀ (m : (ℓ : Loc Cert.ScatterRef1Ideal.nD Cert.ScatterRef1Ideal.τ Cert.ScatterRef1Ideal.sig) → Buf (Elt Ideal) ℓ) (g : Dev Cert.ScatterRef1Ideal.nD → PrngReg), Pre_ScatterRef1Ideal m →
    θ_run (Cert.ScatterRef1Ideal.defs (F := Ideal)) (onTc (τ := Cert.ScatterRef1Ideal.τ) (Cert.ScatterRef1Ideal.main (F := Ideal))) ⟨m, fun _ => 0, g⟩ (fun r => (∀ c : Dev Cert.ScatterRef1Ideal.nD,
      r.2.mem ((c.tc : Thread Cert.ScatterRef1Ideal.nD Cert.ScatterRef1Ideal.τ).loc Cert.ScatterRef1Ideal.main_arg0) = m ((c.tc : Thread Cert.ScatterRef1Ideal.nD Cert.ScatterRef1Ideal.τ).loc Cert.ScatterRef1Ideal.main_arg0))
      ∧ r.2.sem = fun _ => 0)

def quiescent_Gather2 [hGather2 : Cert.Gather2.Facts] : Prop :=
  ∀ (m : (ℓ : Loc Cert.Gather2.nD Cert.Gather2.τ Cert.Gather2.sig) → Buf (Elt Bits) ℓ) (g : Dev Cert.Gather2.nD → PrngReg), Pre_Gather2 m →
    θ_run (Cert.Gather2.defs (F := Bits)) (onTc (τ := Cert.Gather2.τ) (Cert.Gather2.main (F := Bits))) ⟨m, fun _ => 0, g⟩ (fun r => (∀ c : Dev Cert.Gather2.nD,
      r.2.mem ((c.tc : Thread Cert.Gather2.nD Cert.Gather2.τ).loc Cert.Gather2.main_arg0) = m ((c.tc : Thread Cert.Gather2.nD Cert.Gather2.τ).loc Cert.Gather2.main_arg0))
      ∧ r.2.sem = fun _ => 0)

def quiescent_Gather2Ideal [hGather2Ideal : Cert.Gather2Ideal.Facts] : Prop :=
  ∀ (m : (ℓ : Loc Cert.Gather2Ideal.nD Cert.Gather2Ideal.τ Cert.Gather2Ideal.sig) → Buf (Elt Ideal) ℓ) (g : Dev Cert.Gather2Ideal.nD → PrngReg), Pre_Gather2Ideal m →
    θ_run (Cert.Gather2Ideal.defs (F := Ideal)) (onTc (τ := Cert.Gather2Ideal.τ) (Cert.Gather2Ideal.main (F := Ideal))) ⟨m, fun _ => 0, g⟩ (fun r => (∀ c : Dev Cert.Gather2Ideal.nD,
      r.2.mem ((c.tc : Thread Cert.Gather2Ideal.nD Cert.Gather2Ideal.τ).loc Cert.Gather2Ideal.main_arg0) = m ((c.tc : Thread Cert.Gather2Ideal.nD Cert.Gather2Ideal.τ).loc Cert.Gather2Ideal.main_arg0))
      ∧ r.2.sem = fun _ => 0)

def quiescent_GatherRef2Ideal [hGatherRef2Ideal : Cert.GatherRef2Ideal.Facts] : Prop :=
  ∀ (m : (ℓ : Loc Cert.GatherRef2Ideal.nD Cert.GatherRef2Ideal.τ Cert.GatherRef2Ideal.sig) → Buf (Elt Ideal) ℓ) (g : Dev Cert.GatherRef2Ideal.nD → PrngReg), Pre_GatherRef2Ideal m →
    θ_run (Cert.GatherRef2Ideal.defs (F := Ideal)) (onTc (τ := Cert.GatherRef2Ideal.τ) (Cert.GatherRef2Ideal.main (F := Ideal))) ⟨m, fun _ => 0, g⟩ (fun r => (∀ c : Dev Cert.GatherRef2Ideal.nD,
      r.2.mem ((c.tc : Thread Cert.GatherRef2Ideal.nD Cert.GatherRef2Ideal.τ).loc Cert.GatherRef2Ideal.main_arg0) = m ((c.tc : Thread Cert.GatherRef2Ideal.nD Cert.GatherRef2Ideal.τ).loc Cert.GatherRef2Ideal.main_arg0))
      ∧ r.2.sem = fun _ => 0)

def quiescent_GatherRef2 [hGatherRef2 : Cert.GatherRef2.Facts] : Prop :=
  ∀ (m : (ℓ : Loc Cert.GatherRef2.nD Cert.GatherRef2.τ Cert.GatherRef2.sig) → Buf (Elt Bits) ℓ) (g : Dev Cert.GatherRef2.nD → PrngReg), Pre_GatherRef2 m →
    θ_run (Cert.GatherRef2.defs (F := Bits)) (onTc (τ := Cert.GatherRef2.τ) (Cert.GatherRef2.main (F := Bits))) ⟨m, fun _ => 0, g⟩ (fun r => (∀ c : Dev Cert.GatherRef2.nD,
      r.2.mem ((c.tc : Thread Cert.GatherRef2.nD Cert.GatherRef2.τ).loc Cert.GatherRef2.main_arg0) = m ((c.tc : Thread Cert.GatherRef2.nD Cert.GatherRef2.τ).loc Cert.GatherRef2.main_arg0))
      ∧ r.2.sem = fun _ => 0)

def quiescent_Scatter2 [hScatter2 : Cert.Scatter2.Facts] : Prop :=
  ∀ (m : (ℓ : Loc Cert.Scatter2.nD Cert.Scatter2.τ Cert.Scatter2.sig) → Buf (Elt Bits) ℓ) (g : Dev Cert.Scatter2.nD → PrngReg), Pre_Scatter2 m →
    θ_run (Cert.Scatter2.defs (F := Bits)) (onTc (τ := Cert.Scatter2.τ) (Cert.Scatter2.main (F := Bits))) ⟨m, fun _ => 0, g⟩ (fun r => (∀ c : Dev Cert.Scatter2.nD,
      r.2.mem ((c.tc : Thread Cert.Scatter2.nD Cert.Scatter2.τ).loc Cert.Scatter2.main_arg0) = m ((c.tc : Thread Cert.Scatter2.nD Cert.Scatter2.τ).loc Cert.Scatter2.main_arg0))
      ∧ r.2.sem = fun _ => 0)

def quiescent_Scatter2Ideal [hScatter2Ideal : Cert.Scatter2Ideal.Facts] : Prop :=
  ∀ (m : (ℓ : Loc Cert.Scatter2Ideal.nD Cert.Scatter2Ideal.τ Cert.Scatter2Ideal.sig) → Buf (Elt Ideal) ℓ) (g : Dev Cert.Scatter2Ideal.nD → PrngReg), Pre_Scatter2Ideal m →
    θ_run (Cert.Scatter2Ideal.defs (F := Ideal)) (onTc (τ := Cert.Scatter2Ideal.τ) (Cert.Scatter2Ideal.main (F := Ideal))) ⟨m, fun _ => 0, g⟩ (fun r => (∀ c : Dev Cert.Scatter2Ideal.nD,
      r.2.mem ((c.tc : Thread Cert.Scatter2Ideal.nD Cert.Scatter2Ideal.τ).loc Cert.Scatter2Ideal.main_arg0) = m ((c.tc : Thread Cert.Scatter2Ideal.nD Cert.Scatter2Ideal.τ).loc Cert.Scatter2Ideal.main_arg0))
      ∧ r.2.sem = fun _ => 0)

def quiescent_ScatterRef2Ideal [hScatterRef2Ideal : Cert.ScatterRef2Ideal.Facts] : Prop :=
  ∀ (m : (ℓ : Loc Cert.ScatterRef2Ideal.nD Cert.ScatterRef2Ideal.τ Cert.ScatterRef2Ideal.sig) → Buf (Elt Ideal) ℓ) (g : Dev Cert.ScatterRef2Ideal.nD → PrngReg), Pre_ScatterRef2Ideal m →
    θ_run (Cert.ScatterRef2Ideal.defs (F := Ideal)) (onTc (τ := Cert.ScatterRef2Ideal.τ) (Cert.ScatterRef2Ideal.main (F := Ideal))) ⟨m, fun _ => 0, g⟩ (fun r => (∀ c : Dev Cert.ScatterRef2Ideal.nD,
      r.2.mem ((c.tc : Thread Cert.ScatterRef2Ideal.nD Cert.ScatterRef2Ideal.τ).loc Cert.ScatterRef2Ideal.main_arg0) = m ((c.tc : Thread Cert.ScatterRef2Ideal.nD Cert.ScatterRef2Ideal.τ).loc Cert.ScatterRef2Ideal.main_arg0))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0))
      ∧ r.2.sem = fun _ => 0)

def quiescent_Adam0 [hAdam0 : Cert.Adam0.Facts] : Prop :=
  ∀ (m : (ℓ : Loc Cert.Adam0.nD Cert.Adam0.τ Cert.Adam0.sig) → Buf (Elt Bits) ℓ) (g : Dev Cert.Adam0.nD → PrngReg), Pre_Adam0 m →
    θ_run (Cert.Adam0.defs (F := Bits)) (onTc (τ := Cert.Adam0.τ) (Cert.Adam0.main (F := Bits))) ⟨m, fun _ => 0, g⟩ (fun r => (∀ c : Dev Cert.Adam0.nD,
      r.2.mem ((c.tc : Thread Cert.Adam0.nD Cert.Adam0.τ).loc Cert.Adam0.main_arg0) = m ((c.tc : Thread Cert.Adam0.nD Cert.Adam0.τ).loc Cert.Adam0.main_arg0)
      ∧ r.2.mem ((c.tc : Thread Cert.Adam0.nD Cert.Adam0.τ).loc Cert.Adam0.main_arg1) = m ((c.tc : Thread Cert.Adam0.nD Cert.Adam0.τ).loc Cert.Adam0.main_arg1)
      ∧ r.2.mem ((c.tc : Thread Cert.Adam0.nD Cert.Adam0.τ).loc Cert.Adam0.main_arg2) = m ((c.tc : Thread Cert.Adam0.nD Cert.Adam0.τ).loc Cert.Adam0.main_arg2)
      ∧ r.2.mem ((c.tc : Thread Cert.Adam0.nD Cert.Adam0.τ).loc Cert.Adam0.main_arg3) = m ((c.tc : Thread Cert.Adam0.nD Cert.Adam0.τ).loc Cert.Adam0.main_arg3))
      ∧ r.2.sem = fun _ => 0)

def quiescent_Adam0Ideal [hAdam0Ideal : Cert.Adam0Ideal.Facts] : Prop :=
  ∀ (m : (ℓ : Loc Cert.Adam0Ideal.nD Cert.Adam0Ideal.τ Cert.Adam0Ideal.sig) → Buf (Elt Ideal) ℓ) (g : Dev Cert.Adam0Ideal.nD → PrngReg), Pre_Adam0Ideal m →
    θ_run (Cert.Adam0Ideal.defs (F := Ideal)) (onTc (τ := Cert.Adam0Ideal.τ) (Cert.Adam0Ideal.main (F := Ideal))) ⟨m, fun _ => 0, g⟩ (fun r => (∀ c : Dev Cert.Adam0Ideal.nD,
      r.2.mem ((c.tc : Thread Cert.Adam0Ideal.nD Cert.Adam0Ideal.τ).loc Cert.Adam0Ideal.main_arg0) = m ((c.tc : Thread Cert.Adam0Ideal.nD Cert.Adam0Ideal.τ).loc Cert.Adam0Ideal.main_arg0)
      ∧ r.2.mem ((c.tc : Thread Cert.Adam0Ideal.nD Cert.Adam0Ideal.τ).loc Cert.Adam0Ideal.main_arg1) = m ((c.tc : Thread Cert.Adam0Ideal.nD Cert.Adam0Ideal.τ).loc Cert.Adam0Ideal.main_arg1)
      ∧ r.2.mem ((c.tc : Thread Cert.Adam0Ideal.nD Cert.Adam0Ideal.τ).loc Cert.Adam0Ideal.main_arg2) = m ((c.tc : Thread Cert.Adam0Ideal.nD Cert.Adam0Ideal.τ).loc Cert.Adam0Ideal.main_arg2)
      ∧ r.2.mem ((c.tc : Thread Cert.Adam0Ideal.nD Cert.Adam0Ideal.τ).loc Cert.Adam0Ideal.main_arg3) = m ((c.tc : Thread Cert.Adam0Ideal.nD Cert.Adam0Ideal.τ).loc Cert.Adam0Ideal.main_arg3))
      ∧ r.2.sem = fun _ => 0)

def quiescent_AdamRef0Ideal [hAdamRef0Ideal : Cert.AdamRef0Ideal.Facts] : Prop :=
  ∀ (m : (ℓ : Loc Cert.AdamRef0Ideal.nD Cert.AdamRef0Ideal.τ Cert.AdamRef0Ideal.sig) → Buf (Elt Ideal) ℓ) (g : Dev Cert.AdamRef0Ideal.nD → PrngReg), Pre_AdamRef0Ideal m →
    θ_run (Cert.AdamRef0Ideal.defs (F := Ideal)) (onTc (τ := Cert.AdamRef0Ideal.τ) (Cert.AdamRef0Ideal.main (F := Ideal))) ⟨m, fun _ => 0, g⟩ (fun r => (∀ c : Dev Cert.AdamRef0Ideal.nD,
      r.2.mem ((c.tc : Thread Cert.AdamRef0Ideal.nD Cert.AdamRef0Ideal.τ).loc Cert.AdamRef0Ideal.main_arg0) = m ((c.tc : Thread Cert.AdamRef0Ideal.nD Cert.AdamRef0Ideal.τ).loc Cert.AdamRef0Ideal.main_arg0)
      ∧ r.2.mem ((c.tc : Thread Cert.AdamRef0Ideal.nD Cert.AdamRef0Ideal.τ).loc Cert.AdamRef0Ideal.main_arg1) = m ((c.tc : Thread Cert.AdamRef0Ideal.nD Cert.AdamRef0Ideal.τ).loc Cert.AdamRef0Ideal.main_arg1)
      ∧ r.2.mem ((c.tc : Thread Cert.AdamRef0Ideal.nD Cert.AdamRef0Ideal.τ).loc Cert.AdamRef0Ideal.main_arg2) = m ((c.tc : Thread Cert.AdamRef0Ideal.nD Cert.AdamRef0Ideal.τ).loc Cert.AdamRef0Ideal.main_arg2)
      ∧ r.2.mem ((c.tc : Thread Cert.AdamRef0Ideal.nD Cert.AdamRef0Ideal.τ).loc Cert.AdamRef0Ideal.main_arg3) = m ((c.tc : Thread Cert.AdamRef0Ideal.nD Cert.AdamRef0Ideal.τ).loc Cert.AdamRef0Ideal.main_arg3))
      ∧ r.2.sem = fun _ => 0)

def quiescent_Adam1 [hAdam1 : Cert.Adam1.Facts] : Prop :=
  ∀ (m : (ℓ : Loc Cert.Adam1.nD Cert.Adam1.τ Cert.Adam1.sig) → Buf (Elt Bits) ℓ) (g : Dev Cert.Adam1.nD → PrngReg), Pre_Adam1 m →
    θ_run (Cert.Adam1.defs (F := Bits)) (onTc (τ := Cert.Adam1.τ) (Cert.Adam1.main (F := Bits))) ⟨m, fun _ => 0, g⟩ (fun r => (∀ c : Dev Cert.Adam1.nD,
      r.2.mem ((c.tc : Thread Cert.Adam1.nD Cert.Adam1.τ).loc Cert.Adam1.main_arg0) = m ((c.tc : Thread Cert.Adam1.nD Cert.Adam1.τ).loc Cert.Adam1.main_arg0)
      ∧ r.2.mem ((c.tc : Thread Cert.Adam1.nD Cert.Adam1.τ).loc Cert.Adam1.main_arg1) = m ((c.tc : Thread Cert.Adam1.nD Cert.Adam1.τ).loc Cert.Adam1.main_arg1)
      ∧ r.2.mem ((c.tc : Thread Cert.Adam1.nD Cert.Adam1.τ).loc Cert.Adam1.main_arg2) = m ((c.tc : Thread Cert.Adam1.nD Cert.Adam1.τ).loc Cert.Adam1.main_arg2)
      ∧ r.2.mem ((c.tc : Thread Cert.Adam1.nD Cert.Adam1.τ).loc Cert.Adam1.main_arg3) = m ((c.tc : Thread Cert.Adam1.nD Cert.Adam1.τ).loc Cert.Adam1.main_arg3))
      ∧ r.2.sem = fun _ => 0)

def quiescent_Adam1Ideal [hAdam1Ideal : Cert.Adam1Ideal.Facts] : Prop :=
  ∀ (m : (ℓ : Loc Cert.Adam1Ideal.nD Cert.Adam1Ideal.τ Cert.Adam1Ideal.sig) → Buf (Elt Ideal) ℓ) (g : Dev Cert.Adam1Ideal.nD → PrngReg), Pre_Adam1Ideal m →
    θ_run (Cert.Adam1Ideal.defs (F := Ideal)) (onTc (τ := Cert.Adam1Ideal.τ) (Cert.Adam1Ideal.main (F := Ideal))) ⟨m, fun _ => 0, g⟩ (fun r => (∀ c : Dev Cert.Adam1Ideal.nD,
      r.2.mem ((c.tc : Thread Cert.Adam1Ideal.nD Cert.Adam1Ideal.τ).loc Cert.Adam1Ideal.main_arg0) = m ((c.tc : Thread Cert.Adam1Ideal.nD Cert.Adam1Ideal.τ).loc Cert.Adam1Ideal.main_arg0)
      ∧ r.2.mem ((c.tc : Thread Cert.Adam1Ideal.nD Cert.Adam1Ideal.τ).loc Cert.Adam1Ideal.main_arg1) = m ((c.tc : Thread Cert.Adam1Ideal.nD Cert.Adam1Ideal.τ).loc Cert.Adam1Ideal.main_arg1)
      ∧ r.2.mem ((c.tc : Thread Cert.Adam1Ideal.nD Cert.Adam1Ideal.τ).loc Cert.Adam1Ideal.main_arg2) = m ((c.tc : Thread Cert.Adam1Ideal.nD Cert.Adam1Ideal.τ).loc Cert.Adam1Ideal.main_arg2)
      ∧ r.2.mem ((c.tc : Thread Cert.Adam1Ideal.nD Cert.Adam1Ideal.τ).loc Cert.Adam1Ideal.main_arg3) = m ((c.tc : Thread Cert.Adam1Ideal.nD Cert.Adam1Ideal.τ).loc Cert.Adam1Ideal.main_arg3))
      ∧ r.2.sem = fun _ => 0)

def quiescent_AdamRef1Ideal [hAdamRef1Ideal : Cert.AdamRef1Ideal.Facts] : Prop :=
  ∀ (m : (ℓ : Loc Cert.AdamRef1Ideal.nD Cert.AdamRef1Ideal.τ Cert.AdamRef1Ideal.sig) → Buf (Elt Ideal) ℓ) (g : Dev Cert.AdamRef1Ideal.nD → PrngReg), Pre_AdamRef1Ideal m →
    θ_run (Cert.AdamRef1Ideal.defs (F := Ideal)) (onTc (τ := Cert.AdamRef1Ideal.τ) (Cert.AdamRef1Ideal.main (F := Ideal))) ⟨m, fun _ => 0, g⟩ (fun r => (∀ c : Dev Cert.AdamRef1Ideal.nD,
      r.2.mem ((c.tc : Thread Cert.AdamRef1Ideal.nD Cert.AdamRef1Ideal.τ).loc Cert.AdamRef1Ideal.main_arg0) = m ((c.tc : Thread Cert.AdamRef1Ideal.nD Cert.AdamRef1Ideal.τ).loc Cert.AdamRef1Ideal.main_arg0)
      ∧ r.2.mem ((c.tc : Thread Cert.AdamRef1Ideal.nD Cert.AdamRef1Ideal.τ).loc Cert.AdamRef1Ideal.main_arg1) = m ((c.tc : Thread Cert.AdamRef1Ideal.nD Cert.AdamRef1Ideal.τ).loc Cert.AdamRef1Ideal.main_arg1)
      ∧ r.2.mem ((c.tc : Thread Cert.AdamRef1Ideal.nD Cert.AdamRef1Ideal.τ).loc Cert.AdamRef1Ideal.main_arg2) = m ((c.tc : Thread Cert.AdamRef1Ideal.nD Cert.AdamRef1Ideal.τ).loc Cert.AdamRef1Ideal.main_arg2)
      ∧ r.2.mem ((c.tc : Thread Cert.AdamRef1Ideal.nD Cert.AdamRef1Ideal.τ).loc Cert.AdamRef1Ideal.main_arg3) = m ((c.tc : Thread Cert.AdamRef1Ideal.nD Cert.AdamRef1Ideal.τ).loc Cert.AdamRef1Ideal.main_arg3))
      ∧ r.2.sem = fun _ => 0)

def quiescent_Adam2 [hAdam2 : Cert.Adam2.Facts] : Prop :=
  ∀ (m : (ℓ : Loc Cert.Adam2.nD Cert.Adam2.τ Cert.Adam2.sig) → Buf (Elt Bits) ℓ) (g : Dev Cert.Adam2.nD → PrngReg), Pre_Adam2 m →
    θ_run (Cert.Adam2.defs (F := Bits)) (onTc (τ := Cert.Adam2.τ) (Cert.Adam2.main (F := Bits))) ⟨m, fun _ => 0, g⟩ (fun r => (∀ c : Dev Cert.Adam2.nD,
      r.2.mem ((c.tc : Thread Cert.Adam2.nD Cert.Adam2.τ).loc Cert.Adam2.main_arg0) = m ((c.tc : Thread Cert.Adam2.nD Cert.Adam2.τ).loc Cert.Adam2.main_arg0)
      ∧ r.2.mem ((c.tc : Thread Cert.Adam2.nD Cert.Adam2.τ).loc Cert.Adam2.main_arg1) = m ((c.tc : Thread Cert.Adam2.nD Cert.Adam2.τ).loc Cert.Adam2.main_arg1)
      ∧ r.2.mem ((c.tc : Thread Cert.Adam2.nD Cert.Adam2.τ).loc Cert.Adam2.main_arg2) = m ((c.tc : Thread Cert.Adam2.nD Cert.Adam2.τ).loc Cert.Adam2.main_arg2)
      ∧ r.2.mem ((c.tc : Thread Cert.Adam2.nD Cert.Adam2.τ).loc Cert.Adam2.main_arg3) = m ((c.tc : Thread Cert.Adam2.nD Cert.Adam2.τ).loc Cert.Adam2.main_arg3))
      ∧ r.2.sem = fun _ => 0)

def quiescent_Adam2Ideal [hAdam2Ideal : Cert.Adam2Ideal.Facts] : Prop :=
  ∀ (m : (ℓ : Loc Cert.Adam2Ideal.nD Cert.Adam2Ideal.τ Cert.Adam2Ideal.sig) → Buf (Elt Ideal) ℓ) (g : Dev Cert.Adam2Ideal.nD → PrngReg), Pre_Adam2Ideal m →
    θ_run (Cert.Adam2Ideal.defs (F := Ideal)) (onTc (τ := Cert.Adam2Ideal.τ) (Cert.Adam2Ideal.main (F := Ideal))) ⟨m, fun _ => 0, g⟩ (fun r => (∀ c : Dev Cert.Adam2Ideal.nD,
      r.2.mem ((c.tc : Thread Cert.Adam2Ideal.nD Cert.Adam2Ideal.τ).loc Cert.Adam2Ideal.main_arg0) = m ((c.tc : Thread Cert.Adam2Ideal.nD Cert.Adam2Ideal.τ).loc Cert.Adam2Ideal.main_arg0)
      ∧ r.2.mem ((c.tc : Thread Cert.Adam2Ideal.nD Cert.Adam2Ideal.τ).loc Cert.Adam2Ideal.main_arg1) = m ((c.tc : Thread Cert.Adam2Ideal.nD Cert.Adam2Ideal.τ).loc Cert.Adam2Ideal.main_arg1)
      ∧ r.2.mem ((c.tc : Thread Cert.Adam2Ideal.nD Cert.Adam2Ideal.τ).loc Cert.Adam2Ideal.main_arg2) = m ((c.tc : Thread Cert.Adam2Ideal.nD Cert.Adam2Ideal.τ).loc Cert.Adam2Ideal.main_arg2)
      ∧ r.2.mem ((c.tc : Thread Cert.Adam2Ideal.nD Cert.Adam2Ideal.τ).loc Cert.Adam2Ideal.main_arg3) = m ((c.tc : Thread Cert.Adam2Ideal.nD Cert.Adam2Ideal.τ).loc Cert.Adam2Ideal.main_arg3))
      ∧ r.2.sem = fun _ => 0)

def quiescent_AdamRef2Ideal [hAdamRef2Ideal : Cert.AdamRef2Ideal.Facts] : Prop :=
  ∀ (m : (ℓ : Loc Cert.AdamRef2Ideal.nD Cert.AdamRef2Ideal.τ Cert.AdamRef2Ideal.sig) → Buf (Elt Ideal) ℓ) (g : Dev Cert.AdamRef2Ideal.nD → PrngReg), Pre_AdamRef2Ideal m →
    θ_run (Cert.AdamRef2Ideal.defs (F := Ideal)) (onTc (τ := Cert.AdamRef2Ideal.τ) (Cert.AdamRef2Ideal.main (F := Ideal))) ⟨m, fun _ => 0, g⟩ (fun r => (∀ c : Dev Cert.AdamRef2Ideal.nD,
      r.2.mem ((c.tc : Thread Cert.AdamRef2Ideal.nD Cert.AdamRef2Ideal.τ).loc Cert.AdamRef2Ideal.main_arg0) = m ((c.tc : Thread Cert.AdamRef2Ideal.nD Cert.AdamRef2Ideal.τ).loc Cert.AdamRef2Ideal.main_arg0)
      ∧ r.2.mem ((c.tc : Thread Cert.AdamRef2Ideal.nD Cert.AdamRef2Ideal.τ).loc Cert.AdamRef2Ideal.main_arg1) = m ((c.tc : Thread Cert.AdamRef2Ideal.nD Cert.AdamRef2Ideal.τ).loc Cert.AdamRef2Ideal.main_arg1)
      ∧ r.2.mem ((c.tc : Thread Cert.AdamRef2Ideal.nD Cert.AdamRef2Ideal.τ).loc Cert.AdamRef2Ideal.main_arg2) = m ((c.tc : Thread Cert.AdamRef2Ideal.nD Cert.AdamRef2Ideal.τ).loc Cert.AdamRef2Ideal.main_arg2)
      ∧ r.2.mem ((c.tc : Thread Cert.AdamRef2Ideal.nD Cert.AdamRef2Ideal.τ).loc Cert.AdamRef2Ideal.main_arg3) = m ((c.tc : Thread Cert.AdamRef2Ideal.nD Cert.AdamRef2Ideal.τ).loc Cert.AdamRef2Ideal.main_arg3))
      ∧ r.2.sem = fun _ => 0)

def quiescent_Adam3 [hAdam3 : Cert.Adam3.Facts] : Prop :=
  ∀ (m : (ℓ : Loc Cert.Adam3.nD Cert.Adam3.τ Cert.Adam3.sig) → Buf (Elt Bits) ℓ) (g : Dev Cert.Adam3.nD → PrngReg), Pre_Adam3 m →
    θ_run (Cert.Adam3.defs (F := Bits)) (onTc (τ := Cert.Adam3.τ) (Cert.Adam3.main (F := Bits))) ⟨m, fun _ => 0, g⟩ (fun r => (∀ c : Dev Cert.Adam3.nD,
      r.2.mem ((c.tc : Thread Cert.Adam3.nD Cert.Adam3.τ).loc Cert.Adam3.main_arg0) = m ((c.tc : Thread Cert.Adam3.nD Cert.Adam3.τ).loc Cert.Adam3.main_arg0)
      ∧ r.2.mem ((c.tc : Thread Cert.Adam3.nD Cert.Adam3.τ).loc Cert.Adam3.main_arg1) = m ((c.tc : Thread Cert.Adam3.nD Cert.Adam3.τ).loc Cert.Adam3.main_arg1)
      ∧ r.2.mem ((c.tc : Thread Cert.Adam3.nD Cert.Adam3.τ).loc Cert.Adam3.main_arg2) = m ((c.tc : Thread Cert.Adam3.nD Cert.Adam3.τ).loc Cert.Adam3.main_arg2)
      ∧ r.2.mem ((c.tc : Thread Cert.Adam3.nD Cert.Adam3.τ).loc Cert.Adam3.main_arg3) = m ((c.tc : Thread Cert.Adam3.nD Cert.Adam3.τ).loc Cert.Adam3.main_arg3))
      ∧ r.2.sem = fun _ => 0)

def quiescent_Adam3Ideal [hAdam3Ideal : Cert.Adam3Ideal.Facts] : Prop :=
  ∀ (m : (ℓ : Loc Cert.Adam3Ideal.nD Cert.Adam3Ideal.τ Cert.Adam3Ideal.sig) → Buf (Elt Ideal) ℓ) (g : Dev Cert.Adam3Ideal.nD → PrngReg), Pre_Adam3Ideal m →
    θ_run (Cert.Adam3Ideal.defs (F := Ideal)) (onTc (τ := Cert.Adam3Ideal.τ) (Cert.Adam3Ideal.main (F := Ideal))) ⟨m, fun _ => 0, g⟩ (fun r => (∀ c : Dev Cert.Adam3Ideal.nD,
      r.2.mem ((c.tc : Thread Cert.Adam3Ideal.nD Cert.Adam3Ideal.τ).loc Cert.Adam3Ideal.main_arg0) = m ((c.tc : Thread Cert.Adam3Ideal.nD Cert.Adam3Ideal.τ).loc Cert.Adam3Ideal.main_arg0)
      ∧ r.2.mem ((c.tc : Thread Cert.Adam3Ideal.nD Cert.Adam3Ideal.τ).loc Cert.Adam3Ideal.main_arg1) = m ((c.tc : Thread Cert.Adam3Ideal.nD Cert.Adam3Ideal.τ).loc Cert.Adam3Ideal.main_arg1)
      ∧ r.2.mem ((c.tc : Thread Cert.Adam3Ideal.nD Cert.Adam3Ideal.τ).loc Cert.Adam3Ideal.main_arg2) = m ((c.tc : Thread Cert.Adam3Ideal.nD Cert.Adam3Ideal.τ).loc Cert.Adam3Ideal.main_arg2)
      ∧ r.2.mem ((c.tc : Thread Cert.Adam3Ideal.nD Cert.Adam3Ideal.τ).loc Cert.Adam3Ideal.main_arg3) = m ((c.tc : Thread Cert.Adam3Ideal.nD Cert.Adam3Ideal.τ).loc Cert.Adam3Ideal.main_arg3))
      ∧ r.2.sem = fun _ => 0)

def quiescent_AdamRef3Ideal [hAdamRef3Ideal : Cert.AdamRef3Ideal.Facts] : Prop :=
  ∀ (m : (ℓ : Loc Cert.AdamRef3Ideal.nD Cert.AdamRef3Ideal.τ Cert.AdamRef3Ideal.sig) → Buf (Elt Ideal) ℓ) (g : Dev Cert.AdamRef3Ideal.nD → PrngReg), Pre_AdamRef3Ideal m →
    θ_run (Cert.AdamRef3Ideal.defs (F := Ideal)) (onTc (τ := Cert.AdamRef3Ideal.τ) (Cert.AdamRef3Ideal.main (F := Ideal))) ⟨m, fun _ => 0, g⟩ (fun r => (∀ c : Dev Cert.AdamRef3Ideal.nD,
      r.2.mem ((c.tc : Thread Cert.AdamRef3Ideal.nD Cert.AdamRef3Ideal.τ).loc Cert.AdamRef3Ideal.main_arg0) = m ((c.tc : Thread Cert.AdamRef3Ideal.nD Cert.AdamRef3Ideal.τ).loc Cert.AdamRef3Ideal.main_arg0)
      ∧ r.2.mem ((c.tc : Thread Cert.AdamRef3Ideal.nD Cert.AdamRef3Ideal.τ).loc Cert.AdamRef3Ideal.main_arg1) = m ((c.tc : Thread Cert.AdamRef3Ideal.nD Cert.AdamRef3Ideal.τ).loc Cert.AdamRef3Ideal.main_arg1)
      ∧ r.2.mem ((c.tc : Thread Cert.AdamRef3Ideal.nD Cert.AdamRef3Ideal.τ).loc Cert.AdamRef3Ideal.main_arg2) = m ((c.tc : Thread Cert.AdamRef3Ideal.nD Cert.AdamRef3Ideal.τ).loc Cert.AdamRef3Ideal.main_arg2)
      ∧ r.2.mem ((c.tc : Thread Cert.AdamRef3Ideal.nD Cert.AdamRef3Ideal.τ).loc Cert.AdamRef3Ideal.main_arg3) = m ((c.tc : Thread Cert.AdamRef3Ideal.nD Cert.AdamRef3Ideal.τ).loc Cert.AdamRef3Ideal.main_arg3))
      ∧ r.2.sem = fun _ => 0)

def quiescent_Adam4 [hAdam4 : Cert.Adam4.Facts] : Prop :=
  ∀ (m : (ℓ : Loc Cert.Adam4.nD Cert.Adam4.τ Cert.Adam4.sig) → Buf (Elt Bits) ℓ) (g : Dev Cert.Adam4.nD → PrngReg), Pre_Adam4 m →
    θ_run (Cert.Adam4.defs (F := Bits)) (onTc (τ := Cert.Adam4.τ) (Cert.Adam4.main (F := Bits))) ⟨m, fun _ => 0, g⟩ (fun r => (∀ c : Dev Cert.Adam4.nD,
      r.2.mem ((c.tc : Thread Cert.Adam4.nD Cert.Adam4.τ).loc Cert.Adam4.main_arg0) = m ((c.tc : Thread Cert.Adam4.nD Cert.Adam4.τ).loc Cert.Adam4.main_arg0)
      ∧ r.2.mem ((c.tc : Thread Cert.Adam4.nD Cert.Adam4.τ).loc Cert.Adam4.main_arg1) = m ((c.tc : Thread Cert.Adam4.nD Cert.Adam4.τ).loc Cert.Adam4.main_arg1)
      ∧ r.2.mem ((c.tc : Thread Cert.Adam4.nD Cert.Adam4.τ).loc Cert.Adam4.main_arg2) = m ((c.tc : Thread Cert.Adam4.nD Cert.Adam4.τ).loc Cert.Adam4.main_arg2)
      ∧ r.2.mem ((c.tc : Thread Cert.Adam4.nD Cert.Adam4.τ).loc Cert.Adam4.main_arg3) = m ((c.tc : Thread Cert.Adam4.nD Cert.Adam4.τ).loc Cert.Adam4.main_arg3))
      ∧ r.2.sem = fun _ => 0)

def quiescent_Adam4Ideal [hAdam4Ideal : Cert.Adam4Ideal.Facts] : Prop :=
  ∀ (m : (ℓ : Loc Cert.Adam4Ideal.nD Cert.Adam4Ideal.τ Cert.Adam4Ideal.sig) → Buf (Elt Ideal) ℓ) (g : Dev Cert.Adam4Ideal.nD → PrngReg), Pre_Adam4Ideal m →
    θ_run (Cert.Adam4Ideal.defs (F := Ideal)) (onTc (τ := Cert.Adam4Ideal.τ) (Cert.Adam4Ideal.main (F := Ideal))) ⟨m, fun _ => 0, g⟩ (fun r => (∀ c : Dev Cert.Adam4Ideal.nD,
      r.2.mem ((c.tc : Thread Cert.Adam4Ideal.nD Cert.Adam4Ideal.τ).loc Cert.Adam4Ideal.main_arg0) = m ((c.tc : Thread Cert.Adam4Ideal.nD Cert.Adam4Ideal.τ).loc Cert.Adam4Ideal.main_arg0)
      ∧ r.2.mem ((c.tc : Thread Cert.Adam4Ideal.nD Cert.Adam4Ideal.τ).loc Cert.Adam4Ideal.main_arg1) = m ((c.tc : Thread Cert.Adam4Ideal.nD Cert.Adam4Ideal.τ).loc Cert.Adam4Ideal.main_arg1)
      ∧ r.2.mem ((c.tc : Thread Cert.Adam4Ideal.nD Cert.Adam4Ideal.τ).loc Cert.Adam4Ideal.main_arg2) = m ((c.tc : Thread Cert.Adam4Ideal.nD Cert.Adam4Ideal.τ).loc Cert.Adam4Ideal.main_arg2)
      ∧ r.2.mem ((c.tc : Thread Cert.Adam4Ideal.nD Cert.Adam4Ideal.τ).loc Cert.Adam4Ideal.main_arg3) = m ((c.tc : Thread Cert.Adam4Ideal.nD Cert.Adam4Ideal.τ).loc Cert.Adam4Ideal.main_arg3))
      ∧ r.2.sem = fun _ => 0)

def quiescent_AdamRef4Ideal [hAdamRef4Ideal : Cert.AdamRef4Ideal.Facts] : Prop :=
  ∀ (m : (ℓ : Loc Cert.AdamRef4Ideal.nD Cert.AdamRef4Ideal.τ Cert.AdamRef4Ideal.sig) → Buf (Elt Ideal) ℓ) (g : Dev Cert.AdamRef4Ideal.nD → PrngReg), Pre_AdamRef4Ideal m →
    θ_run (Cert.AdamRef4Ideal.defs (F := Ideal)) (onTc (τ := Cert.AdamRef4Ideal.τ) (Cert.AdamRef4Ideal.main (F := Ideal))) ⟨m, fun _ => 0, g⟩ (fun r => (∀ c : Dev Cert.AdamRef4Ideal.nD,
      r.2.mem ((c.tc : Thread Cert.AdamRef4Ideal.nD Cert.AdamRef4Ideal.τ).loc Cert.AdamRef4Ideal.main_arg0) = m ((c.tc : Thread Cert.AdamRef4Ideal.nD Cert.AdamRef4Ideal.τ).loc Cert.AdamRef4Ideal.main_arg0)
      ∧ r.2.mem ((c.tc : Thread Cert.AdamRef4Ideal.nD Cert.AdamRef4Ideal.τ).loc Cert.AdamRef4Ideal.main_arg1) = m ((c.tc : Thread Cert.AdamRef4Ideal.nD Cert.AdamRef4Ideal.τ).loc Cert.AdamRef4Ideal.main_arg1)
      ∧ r.2.mem ((c.tc : Thread Cert.AdamRef4Ideal.nD Cert.AdamRef4Ideal.τ).loc Cert.AdamRef4Ideal.main_arg2) = m ((c.tc : Thread Cert.AdamRef4Ideal.nD Cert.AdamRef4Ideal.τ).loc Cert.AdamRef4Ideal.main_arg2)
      ∧ r.2.mem ((c.tc : Thread Cert.AdamRef4Ideal.nD Cert.AdamRef4Ideal.τ).loc Cert.AdamRef4Ideal.main_arg3) = m ((c.tc : Thread Cert.AdamRef4Ideal.nD Cert.AdamRef4Ideal.τ).loc Cert.AdamRef4Ideal.main_arg3))
      ∧ r.2.sem = fun _ => 0)

def quiescent_Adam5 [hAdam5 : Cert.Adam5.Facts] : Prop :=
  ∀ (m : (ℓ : Loc Cert.Adam5.nD Cert.Adam5.τ Cert.Adam5.sig) → Buf (Elt Bits) ℓ) (g : Dev Cert.Adam5.nD → PrngReg), Pre_Adam5 m →
    θ_run (Cert.Adam5.defs (F := Bits)) (onTc (τ := Cert.Adam5.τ) (Cert.Adam5.main (F := Bits))) ⟨m, fun _ => 0, g⟩ (fun r => (∀ c : Dev Cert.Adam5.nD,
      r.2.mem ((c.tc : Thread Cert.Adam5.nD Cert.Adam5.τ).loc Cert.Adam5.main_arg0) = m ((c.tc : Thread Cert.Adam5.nD Cert.Adam5.τ).loc Cert.Adam5.main_arg0)
      ∧ r.2.mem ((c.tc : Thread Cert.Adam5.nD Cert.Adam5.τ).loc Cert.Adam5.main_arg1) = m ((c.tc : Thread Cert.Adam5.nD Cert.Adam5.τ).loc Cert.Adam5.main_arg1)
      ∧ r.2.mem ((c.tc : Thread Cert.Adam5.nD Cert.Adam5.τ).loc Cert.Adam5.main_arg2) = m ((c.tc : Thread Cert.Adam5.nD Cert.Adam5.τ).loc Cert.Adam5.main_arg2)
      ∧ r.2.mem ((c.tc : Thread Cert.Adam5.nD Cert.Adam5.τ).loc Cert.Adam5.main_arg3) = m ((c.tc : Thread Cert.Adam5.nD Cert.Adam5.τ).loc Cert.Adam5.main_arg3))
      ∧ r.2.sem = fun _ => 0)

def quiescent_Adam5Ideal [hAdam5Ideal : Cert.Adam5Ideal.Facts] : Prop :=
  ∀ (m : (ℓ : Loc Cert.Adam5Ideal.nD Cert.Adam5Ideal.τ Cert.Adam5Ideal.sig) → Buf (Elt Ideal) ℓ) (g : Dev Cert.Adam5Ideal.nD → PrngReg), Pre_Adam5Ideal m →
    θ_run (Cert.Adam5Ideal.defs (F := Ideal)) (onTc (τ := Cert.Adam5Ideal.τ) (Cert.Adam5Ideal.main (F := Ideal))) ⟨m, fun _ => 0, g⟩ (fun r => (∀ c : Dev Cert.Adam5Ideal.nD,
      r.2.mem ((c.tc : Thread Cert.Adam5Ideal.nD Cert.Adam5Ideal.τ).loc Cert.Adam5Ideal.main_arg0) = m ((c.tc : Thread Cert.Adam5Ideal.nD Cert.Adam5Ideal.τ).loc Cert.Adam5Ideal.main_arg0)
      ∧ r.2.mem ((c.tc : Thread Cert.Adam5Ideal.nD Cert.Adam5Ideal.τ).loc Cert.Adam5Ideal.main_arg1) = m ((c.tc : Thread Cert.Adam5Ideal.nD Cert.Adam5Ideal.τ).loc Cert.Adam5Ideal.main_arg1)
      ∧ r.2.mem ((c.tc : Thread Cert.Adam5Ideal.nD Cert.Adam5Ideal.τ).loc Cert.Adam5Ideal.main_arg2) = m ((c.tc : Thread Cert.Adam5Ideal.nD Cert.Adam5Ideal.τ).loc Cert.Adam5Ideal.main_arg2)
      ∧ r.2.mem ((c.tc : Thread Cert.Adam5Ideal.nD Cert.Adam5Ideal.τ).loc Cert.Adam5Ideal.main_arg3) = m ((c.tc : Thread Cert.Adam5Ideal.nD Cert.Adam5Ideal.τ).loc Cert.Adam5Ideal.main_arg3))
      ∧ r.2.sem = fun _ => 0)

def quiescent_AdamRef5Ideal [hAdamRef5Ideal : Cert.AdamRef5Ideal.Facts] : Prop :=
  ∀ (m : (ℓ : Loc Cert.AdamRef5Ideal.nD Cert.AdamRef5Ideal.τ Cert.AdamRef5Ideal.sig) → Buf (Elt Ideal) ℓ) (g : Dev Cert.AdamRef5Ideal.nD → PrngReg), Pre_AdamRef5Ideal m →
    θ_run (Cert.AdamRef5Ideal.defs (F := Ideal)) (onTc (τ := Cert.AdamRef5Ideal.τ) (Cert.AdamRef5Ideal.main (F := Ideal))) ⟨m, fun _ => 0, g⟩ (fun r => (∀ c : Dev Cert.AdamRef5Ideal.nD,
      r.2.mem ((c.tc : Thread Cert.AdamRef5Ideal.nD Cert.AdamRef5Ideal.τ).loc Cert.AdamRef5Ideal.main_arg0) = m ((c.tc : Thread Cert.AdamRef5Ideal.nD Cert.AdamRef5Ideal.τ).loc Cert.AdamRef5Ideal.main_arg0)
      ∧ r.2.mem ((c.tc : Thread Cert.AdamRef5Ideal.nD Cert.AdamRef5Ideal.τ).loc Cert.AdamRef5Ideal.main_arg1) = m ((c.tc : Thread Cert.AdamRef5Ideal.nD Cert.AdamRef5Ideal.τ).loc Cert.AdamRef5Ideal.main_arg1)
      ∧ r.2.mem ((c.tc : Thread Cert.AdamRef5Ideal.nD Cert.AdamRef5Ideal.τ).loc Cert.AdamRef5Ideal.main_arg2) = m ((c.tc : Thread Cert.AdamRef5Ideal.nD Cert.AdamRef5Ideal.τ).loc Cert.AdamRef5Ideal.main_arg2)
      ∧ r.2.mem ((c.tc : Thread Cert.AdamRef5Ideal.nD Cert.AdamRef5Ideal.τ).loc Cert.AdamRef5Ideal.main_arg3) = m ((c.tc : Thread Cert.AdamRef5Ideal.nD Cert.AdamRef5Ideal.τ).loc Cert.AdamRef5Ideal.main_arg3))
      ∧ r.2.sem = fun _ => 0)

def quiescent_Adam6 [hAdam6 : Cert.Adam6.Facts] : Prop :=
  ∀ (m : (ℓ : Loc Cert.Adam6.nD Cert.Adam6.τ Cert.Adam6.sig) → Buf (Elt Bits) ℓ) (g : Dev Cert.Adam6.nD → PrngReg), Pre_Adam6 m →
    θ_run (Cert.Adam6.defs (F := Bits)) (onTc (τ := Cert.Adam6.τ) (Cert.Adam6.main (F := Bits))) ⟨m, fun _ => 0, g⟩ (fun r => (∀ c : Dev Cert.Adam6.nD,
      r.2.mem ((c.tc : Thread Cert.Adam6.nD Cert.Adam6.τ).loc Cert.Adam6.main_arg0) = m ((c.tc : Thread Cert.Adam6.nD Cert.Adam6.τ).loc Cert.Adam6.main_arg0)
      ∧ r.2.mem ((c.tc : Thread Cert.Adam6.nD Cert.Adam6.τ).loc Cert.Adam6.main_arg1) = m ((c.tc : Thread Cert.Adam6.nD Cert.Adam6.τ).loc Cert.Adam6.main_arg1)
      ∧ r.2.mem ((c.tc : Thread Cert.Adam6.nD Cert.Adam6.τ).loc Cert.Adam6.main_arg2) = m ((c.tc : Thread Cert.Adam6.nD Cert.Adam6.τ).loc Cert.Adam6.main_arg2)
      ∧ r.2.mem ((c.tc : Thread Cert.Adam6.nD Cert.Adam6.τ).loc Cert.Adam6.main_arg3) = m ((c.tc : Thread Cert.Adam6.nD Cert.Adam6.τ).loc Cert.Adam6.main_arg3))
      ∧ r.2.sem = fun _ => 0)

def quiescent_Adam6Ideal [hAdam6Ideal : Cert.Adam6Ideal.Facts] : Prop :=
  ∀ (m : (ℓ : Loc Cert.Adam6Ideal.nD Cert.Adam6Ideal.τ Cert.Adam6Ideal.sig) → Buf (Elt Ideal) ℓ) (g : Dev Cert.Adam6Ideal.nD → PrngReg), Pre_Adam6Ideal m →
    θ_run (Cert.Adam6Ideal.defs (F := Ideal)) (onTc (τ := Cert.Adam6Ideal.τ) (Cert.Adam6Ideal.main (F := Ideal))) ⟨m, fun _ => 0, g⟩ (fun r => (∀ c : Dev Cert.Adam6Ideal.nD,
      r.2.mem ((c.tc : Thread Cert.Adam6Ideal.nD Cert.Adam6Ideal.τ).loc Cert.Adam6Ideal.main_arg0) = m ((c.tc : Thread Cert.Adam6Ideal.nD Cert.Adam6Ideal.τ).loc Cert.Adam6Ideal.main_arg0)
      ∧ r.2.mem ((c.tc : Thread Cert.Adam6Ideal.nD Cert.Adam6Ideal.τ).loc Cert.Adam6Ideal.main_arg1) = m ((c.tc : Thread Cert.Adam6Ideal.nD Cert.Adam6Ideal.τ).loc Cert.Adam6Ideal.main_arg1)
      ∧ r.2.mem ((c.tc : Thread Cert.Adam6Ideal.nD Cert.Adam6Ideal.τ).loc Cert.Adam6Ideal.main_arg2) = m ((c.tc : Thread Cert.Adam6Ideal.nD Cert.Adam6Ideal.τ).loc Cert.Adam6Ideal.main_arg2)
      ∧ r.2.mem ((c.tc : Thread Cert.Adam6Ideal.nD Cert.Adam6Ideal.τ).loc Cert.Adam6Ideal.main_arg3) = m ((c.tc : Thread Cert.Adam6Ideal.nD Cert.Adam6Ideal.τ).loc Cert.Adam6Ideal.main_arg3))
      ∧ r.2.sem = fun _ => 0)

def quiescent_AdamRef6Ideal [hAdamRef6Ideal : Cert.AdamRef6Ideal.Facts] : Prop :=
  ∀ (m : (ℓ : Loc Cert.AdamRef6Ideal.nD Cert.AdamRef6Ideal.τ Cert.AdamRef6Ideal.sig) → Buf (Elt Ideal) ℓ) (g : Dev Cert.AdamRef6Ideal.nD → PrngReg), Pre_AdamRef6Ideal m →
    θ_run (Cert.AdamRef6Ideal.defs (F := Ideal)) (onTc (τ := Cert.AdamRef6Ideal.τ) (Cert.AdamRef6Ideal.main (F := Ideal))) ⟨m, fun _ => 0, g⟩ (fun r => (∀ c : Dev Cert.AdamRef6Ideal.nD,
      r.2.mem ((c.tc : Thread Cert.AdamRef6Ideal.nD Cert.AdamRef6Ideal.τ).loc Cert.AdamRef6Ideal.main_arg0) = m ((c.tc : Thread Cert.AdamRef6Ideal.nD Cert.AdamRef6Ideal.τ).loc Cert.AdamRef6Ideal.main_arg0)
      ∧ r.2.mem ((c.tc : Thread Cert.AdamRef6Ideal.nD Cert.AdamRef6Ideal.τ).loc Cert.AdamRef6Ideal.main_arg1) = m ((c.tc : Thread Cert.AdamRef6Ideal.nD Cert.AdamRef6Ideal.τ).loc Cert.AdamRef6Ideal.main_arg1)
      ∧ r.2.mem ((c.tc : Thread Cert.AdamRef6Ideal.nD Cert.AdamRef6Ideal.τ).loc Cert.AdamRef6Ideal.main_arg2) = m ((c.tc : Thread Cert.AdamRef6Ideal.nD Cert.AdamRef6Ideal.τ).loc Cert.AdamRef6Ideal.main_arg2)
      ∧ r.2.mem ((c.tc : Thread Cert.AdamRef6Ideal.nD Cert.AdamRef6Ideal.τ).loc Cert.AdamRef6Ideal.main_arg3) = m ((c.tc : Thread Cert.AdamRef6Ideal.nD Cert.AdamRef6Ideal.τ).loc Cert.AdamRef6Ideal.main_arg3))
      ∧ r.2.sem = fun _ => 0)

def quiescent_Adam7 [hAdam7 : Cert.Adam7.Facts] : Prop :=
  ∀ (m : (ℓ : Loc Cert.Adam7.nD Cert.Adam7.τ Cert.Adam7.sig) → Buf (Elt Bits) ℓ) (g : Dev Cert.Adam7.nD → PrngReg), Pre_Adam7 m →
    θ_run (Cert.Adam7.defs (F := Bits)) (onTc (τ := Cert.Adam7.τ) (Cert.Adam7.main (F := Bits))) ⟨m, fun _ => 0, g⟩ (fun r => (∀ c : Dev Cert.Adam7.nD,
      r.2.mem ((c.tc : Thread Cert.Adam7.nD Cert.Adam7.τ).loc Cert.Adam7.main_arg0) = m ((c.tc : Thread Cert.Adam7.nD Cert.Adam7.τ).loc Cert.Adam7.main_arg0)
      ∧ r.2.mem ((c.tc : Thread Cert.Adam7.nD Cert.Adam7.τ).loc Cert.Adam7.main_arg1) = m ((c.tc : Thread Cert.Adam7.nD Cert.Adam7.τ).loc Cert.Adam7.main_arg1)
      ∧ r.2.mem ((c.tc : Thread Cert.Adam7.nD Cert.Adam7.τ).loc Cert.Adam7.main_arg2) = m ((c.tc : Thread Cert.Adam7.nD Cert.Adam7.τ).loc Cert.Adam7.main_arg2)
      ∧ r.2.mem ((c.tc : Thread Cert.Adam7.nD Cert.Adam7.τ).loc Cert.Adam7.main_arg3) = m ((c.tc : Thread Cert.Adam7.nD Cert.Adam7.τ).loc Cert.Adam7.main_arg3))
      ∧ r.2.sem = fun _ => 0)

def quiescent_Adam7Ideal [hAdam7Ideal : Cert.Adam7Ideal.Facts] : Prop :=
  ∀ (m : (ℓ : Loc Cert.Adam7Ideal.nD Cert.Adam7Ideal.τ Cert.Adam7Ideal.sig) → Buf (Elt Ideal) ℓ) (g : Dev Cert.Adam7Ideal.nD → PrngReg), Pre_Adam7Ideal m →
    θ_run (Cert.Adam7Ideal.defs (F := Ideal)) (onTc (τ := Cert.Adam7Ideal.τ) (Cert.Adam7Ideal.main (F := Ideal))) ⟨m, fun _ => 0, g⟩ (fun r => (∀ c : Dev Cert.Adam7Ideal.nD,
      r.2.mem ((c.tc : Thread Cert.Adam7Ideal.nD Cert.Adam7Ideal.τ).loc Cert.Adam7Ideal.main_arg0) = m ((c.tc : Thread Cert.Adam7Ideal.nD Cert.Adam7Ideal.τ).loc Cert.Adam7Ideal.main_arg0)
      ∧ r.2.mem ((c.tc : Thread Cert.Adam7Ideal.nD Cert.Adam7Ideal.τ).loc Cert.Adam7Ideal.main_arg1) = m ((c.tc : Thread Cert.Adam7Ideal.nD Cert.Adam7Ideal.τ).loc Cert.Adam7Ideal.main_arg1)
      ∧ r.2.mem ((c.tc : Thread Cert.Adam7Ideal.nD Cert.Adam7Ideal.τ).loc Cert.Adam7Ideal.main_arg2) = m ((c.tc : Thread Cert.Adam7Ideal.nD Cert.Adam7Ideal.τ).loc Cert.Adam7Ideal.main_arg2)
      ∧ r.2.mem ((c.tc : Thread Cert.Adam7Ideal.nD Cert.Adam7Ideal.τ).loc Cert.Adam7Ideal.main_arg3) = m ((c.tc : Thread Cert.Adam7Ideal.nD Cert.Adam7Ideal.τ).loc Cert.Adam7Ideal.main_arg3))
      ∧ r.2.sem = fun _ => 0)

def quiescent_AdamRef7Ideal [hAdamRef7Ideal : Cert.AdamRef7Ideal.Facts] : Prop :=
  ∀ (m : (ℓ : Loc Cert.AdamRef7Ideal.nD Cert.AdamRef7Ideal.τ Cert.AdamRef7Ideal.sig) → Buf (Elt Ideal) ℓ) (g : Dev Cert.AdamRef7Ideal.nD → PrngReg), Pre_AdamRef7Ideal m →
    θ_run (Cert.AdamRef7Ideal.defs (F := Ideal)) (onTc (τ := Cert.AdamRef7Ideal.τ) (Cert.AdamRef7Ideal.main (F := Ideal))) ⟨m, fun _ => 0, g⟩ (fun r => (∀ c : Dev Cert.AdamRef7Ideal.nD,
      r.2.mem ((c.tc : Thread Cert.AdamRef7Ideal.nD Cert.AdamRef7Ideal.τ).loc Cert.AdamRef7Ideal.main_arg0) = m ((c.tc : Thread Cert.AdamRef7Ideal.nD Cert.AdamRef7Ideal.τ).loc Cert.AdamRef7Ideal.main_arg0)
      ∧ r.2.mem ((c.tc : Thread Cert.AdamRef7Ideal.nD Cert.AdamRef7Ideal.τ).loc Cert.AdamRef7Ideal.main_arg1) = m ((c.tc : Thread Cert.AdamRef7Ideal.nD Cert.AdamRef7Ideal.τ).loc Cert.AdamRef7Ideal.main_arg1)
      ∧ r.2.mem ((c.tc : Thread Cert.AdamRef7Ideal.nD Cert.AdamRef7Ideal.τ).loc Cert.AdamRef7Ideal.main_arg2) = m ((c.tc : Thread Cert.AdamRef7Ideal.nD Cert.AdamRef7Ideal.τ).loc Cert.AdamRef7Ideal.main_arg2)
      ∧ r.2.mem ((c.tc : Thread Cert.AdamRef7Ideal.nD Cert.AdamRef7Ideal.τ).loc Cert.AdamRef7Ideal.main_arg3) = m ((c.tc : Thread Cert.AdamRef7Ideal.nD Cert.AdamRef7Ideal.τ).loc Cert.AdamRef7Ideal.main_arg3))
      ∧ r.2.sem = fun _ => 0)

def quiescent_Adam8 [hAdam8 : Cert.Adam8.Facts] : Prop :=
  ∀ (m : (ℓ : Loc Cert.Adam8.nD Cert.Adam8.τ Cert.Adam8.sig) → Buf (Elt Bits) ℓ) (g : Dev Cert.Adam8.nD → PrngReg), Pre_Adam8 m →
    θ_run (Cert.Adam8.defs (F := Bits)) (onTc (τ := Cert.Adam8.τ) (Cert.Adam8.main (F := Bits))) ⟨m, fun _ => 0, g⟩ (fun r => (∀ c : Dev Cert.Adam8.nD,
      r.2.mem ((c.tc : Thread Cert.Adam8.nD Cert.Adam8.τ).loc Cert.Adam8.main_arg0) = m ((c.tc : Thread Cert.Adam8.nD Cert.Adam8.τ).loc Cert.Adam8.main_arg0)
      ∧ r.2.mem ((c.tc : Thread Cert.Adam8.nD Cert.Adam8.τ).loc Cert.Adam8.main_arg1) = m ((c.tc : Thread Cert.Adam8.nD Cert.Adam8.τ).loc Cert.Adam8.main_arg1)
      ∧ r.2.mem ((c.tc : Thread Cert.Adam8.nD Cert.Adam8.τ).loc Cert.Adam8.main_arg2) = m ((c.tc : Thread Cert.Adam8.nD Cert.Adam8.τ).loc Cert.Adam8.main_arg2)
      ∧ r.2.mem ((c.tc : Thread Cert.Adam8.nD Cert.Adam8.τ).loc Cert.Adam8.main_arg3) = m ((c.tc : Thread Cert.Adam8.nD Cert.Adam8.τ).loc Cert.Adam8.main_arg3))
      ∧ r.2.sem = fun _ => 0)

def quiescent_Adam8Ideal [hAdam8Ideal : Cert.Adam8Ideal.Facts] : Prop :=
  ∀ (m : (ℓ : Loc Cert.Adam8Ideal.nD Cert.Adam8Ideal.τ Cert.Adam8Ideal.sig) → Buf (Elt Ideal) ℓ) (g : Dev Cert.Adam8Ideal.nD → PrngReg), Pre_Adam8Ideal m →
    θ_run (Cert.Adam8Ideal.defs (F := Ideal)) (onTc (τ := Cert.Adam8Ideal.τ) (Cert.Adam8Ideal.main (F := Ideal))) ⟨m, fun _ => 0, g⟩ (fun r => (∀ c : Dev Cert.Adam8Ideal.nD,
      r.2.mem ((c.tc : Thread Cert.Adam8Ideal.nD Cert.Adam8Ideal.τ).loc Cert.Adam8Ideal.main_arg0) = m ((c.tc : Thread Cert.Adam8Ideal.nD Cert.Adam8Ideal.τ).loc Cert.Adam8Ideal.main_arg0)
      ∧ r.2.mem ((c.tc : Thread Cert.Adam8Ideal.nD Cert.Adam8Ideal.τ).loc Cert.Adam8Ideal.main_arg1) = m ((c.tc : Thread Cert.Adam8Ideal.nD Cert.Adam8Ideal.τ).loc Cert.Adam8Ideal.main_arg1)
      ∧ r.2.mem ((c.tc : Thread Cert.Adam8Ideal.nD Cert.Adam8Ideal.τ).loc Cert.Adam8Ideal.main_arg2) = m ((c.tc : Thread Cert.Adam8Ideal.nD Cert.Adam8Ideal.τ).loc Cert.Adam8Ideal.main_arg2)
      ∧ r.2.mem ((c.tc : Thread Cert.Adam8Ideal.nD Cert.Adam8Ideal.τ).loc Cert.Adam8Ideal.main_arg3) = m ((c.tc : Thread Cert.Adam8Ideal.nD Cert.Adam8Ideal.τ).loc Cert.Adam8Ideal.main_arg3))
      ∧ r.2.sem = fun _ => 0)

def quiescent_AdamRef8Ideal [hAdamRef8Ideal : Cert.AdamRef8Ideal.Facts] : Prop :=
  ∀ (m : (ℓ : Loc Cert.AdamRef8Ideal.nD Cert.AdamRef8Ideal.τ Cert.AdamRef8Ideal.sig) → Buf (Elt Ideal) ℓ) (g : Dev Cert.AdamRef8Ideal.nD → PrngReg), Pre_AdamRef8Ideal m →
    θ_run (Cert.AdamRef8Ideal.defs (F := Ideal)) (onTc (τ := Cert.AdamRef8Ideal.τ) (Cert.AdamRef8Ideal.main (F := Ideal))) ⟨m, fun _ => 0, g⟩ (fun r => (∀ c : Dev Cert.AdamRef8Ideal.nD,
      r.2.mem ((c.tc : Thread Cert.AdamRef8Ideal.nD Cert.AdamRef8Ideal.τ).loc Cert.AdamRef8Ideal.main_arg0) = m ((c.tc : Thread Cert.AdamRef8Ideal.nD Cert.AdamRef8Ideal.τ).loc Cert.AdamRef8Ideal.main_arg0)
      ∧ r.2.mem ((c.tc : Thread Cert.AdamRef8Ideal.nD Cert.AdamRef8Ideal.τ).loc Cert.AdamRef8Ideal.main_arg1) = m ((c.tc : Thread Cert.AdamRef8Ideal.nD Cert.AdamRef8Ideal.τ).loc Cert.AdamRef8Ideal.main_arg1)
      ∧ r.2.mem ((c.tc : Thread Cert.AdamRef8Ideal.nD Cert.AdamRef8Ideal.τ).loc Cert.AdamRef8Ideal.main_arg2) = m ((c.tc : Thread Cert.AdamRef8Ideal.nD Cert.AdamRef8Ideal.τ).loc Cert.AdamRef8Ideal.main_arg2)
      ∧ r.2.mem ((c.tc : Thread Cert.AdamRef8Ideal.nD Cert.AdamRef8Ideal.τ).loc Cert.AdamRef8Ideal.main_arg3) = m ((c.tc : Thread Cert.AdamRef8Ideal.nD Cert.AdamRef8Ideal.τ).loc Cert.AdamRef8Ideal.main_arg3))
      ∧ r.2.sem = fun _ => 0)

def quiescent_Adam9 [hAdam9 : Cert.Adam9.Facts] : Prop :=
  ∀ (m : (ℓ : Loc Cert.Adam9.nD Cert.Adam9.τ Cert.Adam9.sig) → Buf (Elt Bits) ℓ) (g : Dev Cert.Adam9.nD → PrngReg), Pre_Adam9 m →
    θ_run (Cert.Adam9.defs (F := Bits)) (onTc (τ := Cert.Adam9.τ) (Cert.Adam9.main (F := Bits))) ⟨m, fun _ => 0, g⟩ (fun r => (∀ c : Dev Cert.Adam9.nD,
      r.2.mem ((c.tc : Thread Cert.Adam9.nD Cert.Adam9.τ).loc Cert.Adam9.main_arg0) = m ((c.tc : Thread Cert.Adam9.nD Cert.Adam9.τ).loc Cert.Adam9.main_arg0)
      ∧ r.2.mem ((c.tc : Thread Cert.Adam9.nD Cert.Adam9.τ).loc Cert.Adam9.main_arg1) = m ((c.tc : Thread Cert.Adam9.nD Cert.Adam9.τ).loc Cert.Adam9.main_arg1)
      ∧ r.2.mem ((c.tc : Thread Cert.Adam9.nD Cert.Adam9.τ).loc Cert.Adam9.main_arg2) = m ((c.tc : Thread Cert.Adam9.nD Cert.Adam9.τ).loc Cert.Adam9.main_arg2)
      ∧ r.2.mem ((c.tc : Thread Cert.Adam9.nD Cert.Adam9.τ).loc Cert.Adam9.main_arg3) = m ((c.tc : Thread Cert.Adam9.nD Cert.Adam9.τ).loc Cert.Adam9.main_arg3))
      ∧ r.2.sem = fun _ => 0)

def quiescent_Adam9Ideal [hAdam9Ideal : Cert.Adam9Ideal.Facts] : Prop :=
  ∀ (m : (ℓ : Loc Cert.Adam9Ideal.nD Cert.Adam9Ideal.τ Cert.Adam9Ideal.sig) → Buf (Elt Ideal) ℓ) (g : Dev Cert.Adam9Ideal.nD → PrngReg), Pre_Adam9Ideal m →
    θ_run (Cert.Adam9Ideal.defs (F := Ideal)) (onTc (τ := Cert.Adam9Ideal.τ) (Cert.Adam9Ideal.main (F := Ideal))) ⟨m, fun _ => 0, g⟩ (fun r => (∀ c : Dev Cert.Adam9Ideal.nD,
      r.2.mem ((c.tc : Thread Cert.Adam9Ideal.nD Cert.Adam9Ideal.τ).loc Cert.Adam9Ideal.main_arg0) = m ((c.tc : Thread Cert.Adam9Ideal.nD Cert.Adam9Ideal.τ).loc Cert.Adam9Ideal.main_arg0)
      ∧ r.2.mem ((c.tc : Thread Cert.Adam9Ideal.nD Cert.Adam9Ideal.τ).loc Cert.Adam9Ideal.main_arg1) = m ((c.tc : Thread Cert.Adam9Ideal.nD Cert.Adam9Ideal.τ).loc Cert.Adam9Ideal.main_arg1)
      ∧ r.2.mem ((c.tc : Thread Cert.Adam9Ideal.nD Cert.Adam9Ideal.τ).loc Cert.Adam9Ideal.main_arg2) = m ((c.tc : Thread Cert.Adam9Ideal.nD Cert.Adam9Ideal.τ).loc Cert.Adam9Ideal.main_arg2)
      ∧ r.2.mem ((c.tc : Thread Cert.Adam9Ideal.nD Cert.Adam9Ideal.τ).loc Cert.Adam9Ideal.main_arg3) = m ((c.tc : Thread Cert.Adam9Ideal.nD Cert.Adam9Ideal.τ).loc Cert.Adam9Ideal.main_arg3))
      ∧ r.2.sem = fun _ => 0)

def quiescent_AdamRef9Ideal [hAdamRef9Ideal : Cert.AdamRef9Ideal.Facts] : Prop :=
  ∀ (m : (ℓ : Loc Cert.AdamRef9Ideal.nD Cert.AdamRef9Ideal.τ Cert.AdamRef9Ideal.sig) → Buf (Elt Ideal) ℓ) (g : Dev Cert.AdamRef9Ideal.nD → PrngReg), Pre_AdamRef9Ideal m →
    θ_run (Cert.AdamRef9Ideal.defs (F := Ideal)) (onTc (τ := Cert.AdamRef9Ideal.τ) (Cert.AdamRef9Ideal.main (F := Ideal))) ⟨m, fun _ => 0, g⟩ (fun r => (∀ c : Dev Cert.AdamRef9Ideal.nD,
      r.2.mem ((c.tc : Thread Cert.AdamRef9Ideal.nD Cert.AdamRef9Ideal.τ).loc Cert.AdamRef9Ideal.main_arg0) = m ((c.tc : Thread Cert.AdamRef9Ideal.nD Cert.AdamRef9Ideal.τ).loc Cert.AdamRef9Ideal.main_arg0)
      ∧ r.2.mem ((c.tc : Thread Cert.AdamRef9Ideal.nD Cert.AdamRef9Ideal.τ).loc Cert.AdamRef9Ideal.main_arg1) = m ((c.tc : Thread Cert.AdamRef9Ideal.nD Cert.AdamRef9Ideal.τ).loc Cert.AdamRef9Ideal.main_arg1)
      ∧ r.2.mem ((c.tc : Thread Cert.AdamRef9Ideal.nD Cert.AdamRef9Ideal.τ).loc Cert.AdamRef9Ideal.main_arg2) = m ((c.tc : Thread Cert.AdamRef9Ideal.nD Cert.AdamRef9Ideal.τ).loc Cert.AdamRef9Ideal.main_arg2)
      ∧ r.2.mem ((c.tc : Thread Cert.AdamRef9Ideal.nD Cert.AdamRef9Ideal.τ).loc Cert.AdamRef9Ideal.main_arg3) = m ((c.tc : Thread Cert.AdamRef9Ideal.nD Cert.AdamRef9Ideal.τ).loc Cert.AdamRef9Ideal.main_arg3))
      ∧ r.2.sem = fun _ => 0)

def quiescent_Adam10 [hAdam10 : Cert.Adam10.Facts] : Prop :=
  ∀ (m : (ℓ : Loc Cert.Adam10.nD Cert.Adam10.τ Cert.Adam10.sig) → Buf (Elt Bits) ℓ) (g : Dev Cert.Adam10.nD → PrngReg), Pre_Adam10 m →
    θ_run (Cert.Adam10.defs (F := Bits)) (onTc (τ := Cert.Adam10.τ) (Cert.Adam10.main (F := Bits))) ⟨m, fun _ => 0, g⟩ (fun r => (∀ c : Dev Cert.Adam10.nD,
      r.2.mem ((c.tc : Thread Cert.Adam10.nD Cert.Adam10.τ).loc Cert.Adam10.main_arg0) = m ((c.tc : Thread Cert.Adam10.nD Cert.Adam10.τ).loc Cert.Adam10.main_arg0)
      ∧ r.2.mem ((c.tc : Thread Cert.Adam10.nD Cert.Adam10.τ).loc Cert.Adam10.main_arg1) = m ((c.tc : Thread Cert.Adam10.nD Cert.Adam10.τ).loc Cert.Adam10.main_arg1)
      ∧ r.2.mem ((c.tc : Thread Cert.Adam10.nD Cert.Adam10.τ).loc Cert.Adam10.main_arg2) = m ((c.tc : Thread Cert.Adam10.nD Cert.Adam10.τ).loc Cert.Adam10.main_arg2)
      ∧ r.2.mem ((c.tc : Thread Cert.Adam10.nD Cert.Adam10.τ).loc Cert.Adam10.main_arg3) = m ((c.tc : Thread Cert.Adam10.nD Cert.Adam10.τ).loc Cert.Adam10.main_arg3))
      ∧ r.2.sem = fun _ => 0)

def quiescent_Adam10Ideal [hAdam10Ideal : Cert.Adam10Ideal.Facts] : Prop :=
  ∀ (m : (ℓ : Loc Cert.Adam10Ideal.nD Cert.Adam10Ideal.τ Cert.Adam10Ideal.sig) → Buf (Elt Ideal) ℓ) (g : Dev Cert.Adam10Ideal.nD → PrngReg), Pre_Adam10Ideal m →
    θ_run (Cert.Adam10Ideal.defs (F := Ideal)) (onTc (τ := Cert.Adam10Ideal.τ) (Cert.Adam10Ideal.main (F := Ideal))) ⟨m, fun _ => 0, g⟩ (fun r => (∀ c : Dev Cert.Adam10Ideal.nD,
      r.2.mem ((c.tc : Thread Cert.Adam10Ideal.nD Cert.Adam10Ideal.τ).loc Cert.Adam10Ideal.main_arg0) = m ((c.tc : Thread Cert.Adam10Ideal.nD Cert.Adam10Ideal.τ).loc Cert.Adam10Ideal.main_arg0)
      ∧ r.2.mem ((c.tc : Thread Cert.Adam10Ideal.nD Cert.Adam10Ideal.τ).loc Cert.Adam10Ideal.main_arg1) = m ((c.tc : Thread Cert.Adam10Ideal.nD Cert.Adam10Ideal.τ).loc Cert.Adam10Ideal.main_arg1)
      ∧ r.2.mem ((c.tc : Thread Cert.Adam10Ideal.nD Cert.Adam10Ideal.τ).loc Cert.Adam10Ideal.main_arg2) = m ((c.tc : Thread Cert.Adam10Ideal.nD Cert.Adam10Ideal.τ).loc Cert.Adam10Ideal.main_arg2)
      ∧ r.2.mem ((c.tc : Thread Cert.Adam10Ideal.nD Cert.Adam10Ideal.τ).loc Cert.Adam10Ideal.main_arg3) = m ((c.tc : Thread Cert.Adam10Ideal.nD Cert.Adam10Ideal.τ).loc Cert.Adam10Ideal.main_arg3))
      ∧ r.2.sem = fun _ => 0)

def quiescent_AdamRef10Ideal [hAdamRef10Ideal : Cert.AdamRef10Ideal.Facts] : Prop :=
  ∀ (m : (ℓ : Loc Cert.AdamRef10Ideal.nD Cert.AdamRef10Ideal.τ Cert.AdamRef10Ideal.sig) → Buf (Elt Ideal) ℓ) (g : Dev Cert.AdamRef10Ideal.nD → PrngReg), Pre_AdamRef10Ideal m →
    θ_run (Cert.AdamRef10Ideal.defs (F := Ideal)) (onTc (τ := Cert.AdamRef10Ideal.τ) (Cert.AdamRef10Ideal.main (F := Ideal))) ⟨m, fun _ => 0, g⟩ (fun r => (∀ c : Dev Cert.AdamRef10Ideal.nD,
      r.2.mem ((c.tc : Thread Cert.AdamRef10Ideal.nD Cert.AdamRef10Ideal.τ).loc Cert.AdamRef10Ideal.main_arg0) = m ((c.tc : Thread Cert.AdamRef10Ideal.nD Cert.AdamRef10Ideal.τ).loc Cert.AdamRef10Ideal.main_arg0)
      ∧ r.2.mem ((c.tc : Thread Cert.AdamRef10Ideal.nD Cert.AdamRef10Ideal.τ).loc Cert.AdamRef10Ideal.main_arg1) = m ((c.tc : Thread Cert.AdamRef10Ideal.nD Cert.AdamRef10Ideal.τ).loc Cert.AdamRef10Ideal.main_arg1)
      ∧ r.2.mem ((c.tc : Thread Cert.AdamRef10Ideal.nD Cert.AdamRef10Ideal.τ).loc Cert.AdamRef10Ideal.main_arg2) = m ((c.tc : Thread Cert.AdamRef10Ideal.nD Cert.AdamRef10Ideal.τ).loc Cert.AdamRef10Ideal.main_arg2)
      ∧ r.2.mem ((c.tc : Thread Cert.AdamRef10Ideal.nD Cert.AdamRef10Ideal.τ).loc Cert.AdamRef10Ideal.main_arg3) = m ((c.tc : Thread Cert.AdamRef10Ideal.nD Cert.AdamRef10Ideal.τ).loc Cert.AdamRef10Ideal.main_arg3))
      ∧ r.2.sem = fun _ => 0)

def quiescent_Adam11 [hAdam11 : Cert.Adam11.Facts] : Prop :=
  ∀ (m : (ℓ : Loc Cert.Adam11.nD Cert.Adam11.τ Cert.Adam11.sig) → Buf (Elt Bits) ℓ) (g : Dev Cert.Adam11.nD → PrngReg), Pre_Adam11 m →
    θ_run (Cert.Adam11.defs (F := Bits)) (onTc (τ := Cert.Adam11.τ) (Cert.Adam11.main (F := Bits))) ⟨m, fun _ => 0, g⟩ (fun r => (∀ c : Dev Cert.Adam11.nD,
      r.2.mem ((c.tc : Thread Cert.Adam11.nD Cert.Adam11.τ).loc Cert.Adam11.main_arg0) = m ((c.tc : Thread Cert.Adam11.nD Cert.Adam11.τ).loc Cert.Adam11.main_arg0)
      ∧ r.2.mem ((c.tc : Thread Cert.Adam11.nD Cert.Adam11.τ).loc Cert.Adam11.main_arg1) = m ((c.tc : Thread Cert.Adam11.nD Cert.Adam11.τ).loc Cert.Adam11.main_arg1)
      ∧ r.2.mem ((c.tc : Thread Cert.Adam11.nD Cert.Adam11.τ).loc Cert.Adam11.main_arg2) = m ((c.tc : Thread Cert.Adam11.nD Cert.Adam11.τ).loc Cert.Adam11.main_arg2)
      ∧ r.2.mem ((c.tc : Thread Cert.Adam11.nD Cert.Adam11.τ).loc Cert.Adam11.main_arg3) = m ((c.tc : Thread Cert.Adam11.nD Cert.Adam11.τ).loc Cert.Adam11.main_arg3))
      ∧ r.2.sem = fun _ => 0)

def quiescent_Adam11Ideal [hAdam11Ideal : Cert.Adam11Ideal.Facts] : Prop :=
  ∀ (m : (ℓ : Loc Cert.Adam11Ideal.nD Cert.Adam11Ideal.τ Cert.Adam11Ideal.sig) → Buf (Elt Ideal) ℓ) (g : Dev Cert.Adam11Ideal.nD → PrngReg), Pre_Adam11Ideal m →
    θ_run (Cert.Adam11Ideal.defs (F := Ideal)) (onTc (τ := Cert.Adam11Ideal.τ) (Cert.Adam11Ideal.main (F := Ideal))) ⟨m, fun _ => 0, g⟩ (fun r => (∀ c : Dev Cert.Adam11Ideal.nD,
      r.2.mem ((c.tc : Thread Cert.Adam11Ideal.nD Cert.Adam11Ideal.τ).loc Cert.Adam11Ideal.main_arg0) = m ((c.tc : Thread Cert.Adam11Ideal.nD Cert.Adam11Ideal.τ).loc Cert.Adam11Ideal.main_arg0)
      ∧ r.2.mem ((c.tc : Thread Cert.Adam11Ideal.nD Cert.Adam11Ideal.τ).loc Cert.Adam11Ideal.main_arg1) = m ((c.tc : Thread Cert.Adam11Ideal.nD Cert.Adam11Ideal.τ).loc Cert.Adam11Ideal.main_arg1)
      ∧ r.2.mem ((c.tc : Thread Cert.Adam11Ideal.nD Cert.Adam11Ideal.τ).loc Cert.Adam11Ideal.main_arg2) = m ((c.tc : Thread Cert.Adam11Ideal.nD Cert.Adam11Ideal.τ).loc Cert.Adam11Ideal.main_arg2)
      ∧ r.2.mem ((c.tc : Thread Cert.Adam11Ideal.nD Cert.Adam11Ideal.τ).loc Cert.Adam11Ideal.main_arg3) = m ((c.tc : Thread Cert.Adam11Ideal.nD Cert.Adam11Ideal.τ).loc Cert.Adam11Ideal.main_arg3))
      ∧ r.2.sem = fun _ => 0)

def quiescent_AdamRef11Ideal [hAdamRef11Ideal : Cert.AdamRef11Ideal.Facts] : Prop :=
  ∀ (m : (ℓ : Loc Cert.AdamRef11Ideal.nD Cert.AdamRef11Ideal.τ Cert.AdamRef11Ideal.sig) → Buf (Elt Ideal) ℓ) (g : Dev Cert.AdamRef11Ideal.nD → PrngReg), Pre_AdamRef11Ideal m →
    θ_run (Cert.AdamRef11Ideal.defs (F := Ideal)) (onTc (τ := Cert.AdamRef11Ideal.τ) (Cert.AdamRef11Ideal.main (F := Ideal))) ⟨m, fun _ => 0, g⟩ (fun r => (∀ c : Dev Cert.AdamRef11Ideal.nD,
      r.2.mem ((c.tc : Thread Cert.AdamRef11Ideal.nD Cert.AdamRef11Ideal.τ).loc Cert.AdamRef11Ideal.main_arg0) = m ((c.tc : Thread Cert.AdamRef11Ideal.nD Cert.AdamRef11Ideal.τ).loc Cert.AdamRef11Ideal.main_arg0)
      ∧ r.2.mem ((c.tc : Thread Cert.AdamRef11Ideal.nD Cert.AdamRef11Ideal.τ).loc Cert.AdamRef11Ideal.main_arg1) = m ((c.tc : Thread Cert.AdamRef11Ideal.nD Cert.AdamRef11Ideal.τ).loc Cert.AdamRef11Ideal.main_arg1)
      ∧ r.2.mem ((c.tc : Thread Cert.AdamRef11Ideal.nD Cert.AdamRef11Ideal.τ).loc Cert.AdamRef11Ideal.main_arg2) = m ((c.tc : Thread Cert.AdamRef11Ideal.nD Cert.AdamRef11Ideal.τ).loc Cert.AdamRef11Ideal.main_arg2)
      ∧ r.2.mem ((c.tc : Thread Cert.AdamRef11Ideal.nD Cert.AdamRef11Ideal.τ).loc Cert.AdamRef11Ideal.main_arg3) = m ((c.tc : Thread Cert.AdamRef11Ideal.nD Cert.AdamRef11Ideal.τ).loc Cert.AdamRef11Ideal.main_arg3))
      ∧ r.2.sem = fun _ => 0)

def quiescent_Adam12 [hAdam12 : Cert.Adam12.Facts] : Prop :=
  ∀ (m : (ℓ : Loc Cert.Adam12.nD Cert.Adam12.τ Cert.Adam12.sig) → Buf (Elt Bits) ℓ) (g : Dev Cert.Adam12.nD → PrngReg), Pre_Adam12 m →
    θ_run (Cert.Adam12.defs (F := Bits)) (onTc (τ := Cert.Adam12.τ) (Cert.Adam12.main (F := Bits))) ⟨m, fun _ => 0, g⟩ (fun r => (∀ c : Dev Cert.Adam12.nD,
      r.2.mem ((c.tc : Thread Cert.Adam12.nD Cert.Adam12.τ).loc Cert.Adam12.main_arg0) = m ((c.tc : Thread Cert.Adam12.nD Cert.Adam12.τ).loc Cert.Adam12.main_arg0)
      ∧ r.2.mem ((c.tc : Thread Cert.Adam12.nD Cert.Adam12.τ).loc Cert.Adam12.main_arg1) = m ((c.tc : Thread Cert.Adam12.nD Cert.Adam12.τ).loc Cert.Adam12.main_arg1)
      ∧ r.2.mem ((c.tc : Thread Cert.Adam12.nD Cert.Adam12.τ).loc Cert.Adam12.main_arg2) = m ((c.tc : Thread Cert.Adam12.nD Cert.Adam12.τ).loc Cert.Adam12.main_arg2)
      ∧ r.2.mem ((c.tc : Thread Cert.Adam12.nD Cert.Adam12.τ).loc Cert.Adam12.main_arg3) = m ((c.tc : Thread Cert.Adam12.nD Cert.Adam12.τ).loc Cert.Adam12.main_arg3))
      ∧ r.2.sem = fun _ => 0)

def quiescent_Adam12Ideal [hAdam12Ideal : Cert.Adam12Ideal.Facts] : Prop :=
  ∀ (m : (ℓ : Loc Cert.Adam12Ideal.nD Cert.Adam12Ideal.τ Cert.Adam12Ideal.sig) → Buf (Elt Ideal) ℓ) (g : Dev Cert.Adam12Ideal.nD → PrngReg), Pre_Adam12Ideal m →
    θ_run (Cert.Adam12Ideal.defs (F := Ideal)) (onTc (τ := Cert.Adam12Ideal.τ) (Cert.Adam12Ideal.main (F := Ideal))) ⟨m, fun _ => 0, g⟩ (fun r => (∀ c : Dev Cert.Adam12Ideal.nD,
      r.2.mem ((c.tc : Thread Cert.Adam12Ideal.nD Cert.Adam12Ideal.τ).loc Cert.Adam12Ideal.main_arg0) = m ((c.tc : Thread Cert.Adam12Ideal.nD Cert.Adam12Ideal.τ).loc Cert.Adam12Ideal.main_arg0)
      ∧ r.2.mem ((c.tc : Thread Cert.Adam12Ideal.nD Cert.Adam12Ideal.τ).loc Cert.Adam12Ideal.main_arg1) = m ((c.tc : Thread Cert.Adam12Ideal.nD Cert.Adam12Ideal.τ).loc Cert.Adam12Ideal.main_arg1)
      ∧ r.2.mem ((c.tc : Thread Cert.Adam12Ideal.nD Cert.Adam12Ideal.τ).loc Cert.Adam12Ideal.main_arg2) = m ((c.tc : Thread Cert.Adam12Ideal.nD Cert.Adam12Ideal.τ).loc Cert.Adam12Ideal.main_arg2)
      ∧ r.2.mem ((c.tc : Thread Cert.Adam12Ideal.nD Cert.Adam12Ideal.τ).loc Cert.Adam12Ideal.main_arg3) = m ((c.tc : Thread Cert.Adam12Ideal.nD Cert.Adam12Ideal.τ).loc Cert.Adam12Ideal.main_arg3))
      ∧ r.2.sem = fun _ => 0)

def quiescent_AdamRef12Ideal [hAdamRef12Ideal : Cert.AdamRef12Ideal.Facts] : Prop :=
  ∀ (m : (ℓ : Loc Cert.AdamRef12Ideal.nD Cert.AdamRef12Ideal.τ Cert.AdamRef12Ideal.sig) → Buf (Elt Ideal) ℓ) (g : Dev Cert.AdamRef12Ideal.nD → PrngReg), Pre_AdamRef12Ideal m →
    θ_run (Cert.AdamRef12Ideal.defs (F := Ideal)) (onTc (τ := Cert.AdamRef12Ideal.τ) (Cert.AdamRef12Ideal.main (F := Ideal))) ⟨m, fun _ => 0, g⟩ (fun r => (∀ c : Dev Cert.AdamRef12Ideal.nD,
      r.2.mem ((c.tc : Thread Cert.AdamRef12Ideal.nD Cert.AdamRef12Ideal.τ).loc Cert.AdamRef12Ideal.main_arg0) = m ((c.tc : Thread Cert.AdamRef12Ideal.nD Cert.AdamRef12Ideal.τ).loc Cert.AdamRef12Ideal.main_arg0)
      ∧ r.2.mem ((c.tc : Thread Cert.AdamRef12Ideal.nD Cert.AdamRef12Ideal.τ).loc Cert.AdamRef12Ideal.main_arg1) = m ((c.tc : Thread Cert.AdamRef12Ideal.nD Cert.AdamRef12Ideal.τ).loc Cert.AdamRef12Ideal.main_arg1)
      ∧ r.2.mem ((c.tc : Thread Cert.AdamRef12Ideal.nD Cert.AdamRef12Ideal.τ).loc Cert.AdamRef12Ideal.main_arg2) = m ((c.tc : Thread Cert.AdamRef12Ideal.nD Cert.AdamRef12Ideal.τ).loc Cert.AdamRef12Ideal.main_arg2)
      ∧ r.2.mem ((c.tc : Thread Cert.AdamRef12Ideal.nD Cert.AdamRef12Ideal.τ).loc Cert.AdamRef12Ideal.main_arg3) = m ((c.tc : Thread Cert.AdamRef12Ideal.nD Cert.AdamRef12Ideal.τ).loc Cert.AdamRef12Ideal.main_arg3))
      ∧ r.2.sem = fun _ => 0)

def quiescent_Adam13 [hAdam13 : Cert.Adam13.Facts] : Prop :=
  ∀ (m : (ℓ : Loc Cert.Adam13.nD Cert.Adam13.τ Cert.Adam13.sig) → Buf (Elt Bits) ℓ) (g : Dev Cert.Adam13.nD → PrngReg), Pre_Adam13 m →
    θ_run (Cert.Adam13.defs (F := Bits)) (onTc (τ := Cert.Adam13.τ) (Cert.Adam13.main (F := Bits))) ⟨m, fun _ => 0, g⟩ (fun r => (∀ c : Dev Cert.Adam13.nD,
      r.2.mem ((c.tc : Thread Cert.Adam13.nD Cert.Adam13.τ).loc Cert.Adam13.main_arg0) = m ((c.tc : Thread Cert.Adam13.nD Cert.Adam13.τ).loc Cert.Adam13.main_arg0)
      ∧ r.2.mem ((c.tc : Thread Cert.Adam13.nD Cert.Adam13.τ).loc Cert.Adam13.main_arg1) = m ((c.tc : Thread Cert.Adam13.nD Cert.Adam13.τ).loc Cert.Adam13.main_arg1)
      ∧ r.2.mem ((c.tc : Thread Cert.Adam13.nD Cert.Adam13.τ).loc Cert.Adam13.main_arg2) = m ((c.tc : Thread Cert.Adam13.nD Cert.Adam13.τ).loc Cert.Adam13.main_arg2)
      ∧ r.2.mem ((c.tc : Thread Cert.Adam13.nD Cert.Adam13.τ).loc Cert.Adam13.main_arg3) = m ((c.tc : Thread Cert.Adam13.nD Cert.Adam13.τ).loc Cert.Adam13.main_arg3))
      ∧ r.2.sem = fun _ => 0)

def quiescent_Adam13Ideal [hAdam13Ideal : Cert.Adam13Ideal.Facts] : Prop :=
  ∀ (m : (ℓ : Loc Cert.Adam13Ideal.nD Cert.Adam13Ideal.τ Cert.Adam13Ideal.sig) → Buf (Elt Ideal) ℓ) (g : Dev Cert.Adam13Ideal.nD → PrngReg), Pre_Adam13Ideal m →
    θ_run (Cert.Adam13Ideal.defs (F := Ideal)) (onTc (τ := Cert.Adam13Ideal.τ) (Cert.Adam13Ideal.main (F := Ideal))) ⟨m, fun _ => 0, g⟩ (fun r => (∀ c : Dev Cert.Adam13Ideal.nD,
      r.2.mem ((c.tc : Thread Cert.Adam13Ideal.nD Cert.Adam13Ideal.τ).loc Cert.Adam13Ideal.main_arg0) = m ((c.tc : Thread Cert.Adam13Ideal.nD Cert.Adam13Ideal.τ).loc Cert.Adam13Ideal.main_arg0)
      ∧ r.2.mem ((c.tc : Thread Cert.Adam13Ideal.nD Cert.Adam13Ideal.τ).loc Cert.Adam13Ideal.main_arg1) = m ((c.tc : Thread Cert.Adam13Ideal.nD Cert.Adam13Ideal.τ).loc Cert.Adam13Ideal.main_arg1)
      ∧ r.2.mem ((c.tc : Thread Cert.Adam13Ideal.nD Cert.Adam13Ideal.τ).loc Cert.Adam13Ideal.main_arg2) = m ((c.tc : Thread Cert.Adam13Ideal.nD Cert.Adam13Ideal.τ).loc Cert.Adam13Ideal.main_arg2)
      ∧ r.2.mem ((c.tc : Thread Cert.Adam13Ideal.nD Cert.Adam13Ideal.τ).loc Cert.Adam13Ideal.main_arg3) = m ((c.tc : Thread Cert.Adam13Ideal.nD Cert.Adam13Ideal.τ).loc Cert.Adam13Ideal.main_arg3))
      ∧ r.2.sem = fun _ => 0)

def quiescent_AdamRef13Ideal [hAdamRef13Ideal : Cert.AdamRef13Ideal.Facts] : Prop :=
  ∀ (m : (ℓ : Loc Cert.AdamRef13Ideal.nD Cert.AdamRef13Ideal.τ Cert.AdamRef13Ideal.sig) → Buf (Elt Ideal) ℓ) (g : Dev Cert.AdamRef13Ideal.nD → PrngReg), Pre_AdamRef13Ideal m →
    θ_run (Cert.AdamRef13Ideal.defs (F := Ideal)) (onTc (τ := Cert.AdamRef13Ideal.τ) (Cert.AdamRef13Ideal.main (F := Ideal))) ⟨m, fun _ => 0, g⟩ (fun r => (∀ c : Dev Cert.AdamRef13Ideal.nD,
      r.2.mem ((c.tc : Thread Cert.AdamRef13Ideal.nD Cert.AdamRef13Ideal.τ).loc Cert.AdamRef13Ideal.main_arg0) = m ((c.tc : Thread Cert.AdamRef13Ideal.nD Cert.AdamRef13Ideal.τ).loc Cert.AdamRef13Ideal.main_arg0)
      ∧ r.2.mem ((c.tc : Thread Cert.AdamRef13Ideal.nD Cert.AdamRef13Ideal.τ).loc Cert.AdamRef13Ideal.main_arg1) = m ((c.tc : Thread Cert.AdamRef13Ideal.nD Cert.AdamRef13Ideal.τ).loc Cert.AdamRef13Ideal.main_arg1)
      ∧ r.2.mem ((c.tc : Thread Cert.AdamRef13Ideal.nD Cert.AdamRef13Ideal.τ).loc Cert.AdamRef13Ideal.main_arg2) = m ((c.tc : Thread Cert.AdamRef13Ideal.nD Cert.AdamRef13Ideal.τ).loc Cert.AdamRef13Ideal.main_arg2)
      ∧ r.2.mem ((c.tc : Thread Cert.AdamRef13Ideal.nD Cert.AdamRef13Ideal.τ).loc Cert.AdamRef13Ideal.main_arg3) = m ((c.tc : Thread Cert.AdamRef13Ideal.nD Cert.AdamRef13Ideal.τ).loc Cert.AdamRef13Ideal.main_arg3))
      ∧ r.2.sem = fun _ => 0)

def quiescent_Mul0 [hMul0 : Cert.Mul0.Facts] : Prop :=
  ∀ (m : (ℓ : Loc Cert.Mul0.nD Cert.Mul0.τ Cert.Mul0.sig) → Buf (Elt Bits) ℓ) (g : Dev Cert.Mul0.nD → PrngReg), Pre_Mul0 m →
    θ_run (Cert.Mul0.defs (F := Bits)) (onTc (τ := Cert.Mul0.τ) (Cert.Mul0.main (F := Bits))) ⟨m, fun _ => 0, g⟩ (fun r => (∀ c : Dev Cert.Mul0.nD,
      r.2.mem ((c.tc : Thread Cert.Mul0.nD Cert.Mul0.τ).loc Cert.Mul0.main_arg0) = m ((c.tc : Thread Cert.Mul0.nD Cert.Mul0.τ).loc Cert.Mul0.main_arg0)
      ∧ r.2.mem ((c.tc : Thread Cert.Mul0.nD Cert.Mul0.τ).loc Cert.Mul0.main_arg1) = m ((c.tc : Thread Cert.Mul0.nD Cert.Mul0.τ).loc Cert.Mul0.main_arg1))
      ∧ r.2.sem = fun _ => 0)

def quiescent_Mul0Ideal [hMul0Ideal : Cert.Mul0Ideal.Facts] : Prop :=
  ∀ (m : (ℓ : Loc Cert.Mul0Ideal.nD Cert.Mul0Ideal.τ Cert.Mul0Ideal.sig) → Buf (Elt Ideal) ℓ) (g : Dev Cert.Mul0Ideal.nD → PrngReg), Pre_Mul0Ideal m →
    θ_run (Cert.Mul0Ideal.defs (F := Ideal)) (onTc (τ := Cert.Mul0Ideal.τ) (Cert.Mul0Ideal.main (F := Ideal))) ⟨m, fun _ => 0, g⟩ (fun r => (∀ c : Dev Cert.Mul0Ideal.nD,
      r.2.mem ((c.tc : Thread Cert.Mul0Ideal.nD Cert.Mul0Ideal.τ).loc Cert.Mul0Ideal.main_arg0) = m ((c.tc : Thread Cert.Mul0Ideal.nD Cert.Mul0Ideal.τ).loc Cert.Mul0Ideal.main_arg0)
      ∧ r.2.mem ((c.tc : Thread Cert.Mul0Ideal.nD Cert.Mul0Ideal.τ).loc Cert.Mul0Ideal.main_arg1) = m ((c.tc : Thread Cert.Mul0Ideal.nD Cert.Mul0Ideal.τ).loc Cert.Mul0Ideal.main_arg1))
      ∧ r.2.sem = fun _ => 0)

def quiescent_MulRef0Ideal [hMulRef0Ideal : Cert.MulRef0Ideal.Facts] : Prop :=
  ∀ (m : (ℓ : Loc Cert.MulRef0Ideal.nD Cert.MulRef0Ideal.τ Cert.MulRef0Ideal.sig) → Buf (Elt Ideal) ℓ) (g : Dev Cert.MulRef0Ideal.nD → PrngReg), Pre_MulRef0Ideal m →
    θ_run (Cert.MulRef0Ideal.defs (F := Ideal)) (onTc (τ := Cert.MulRef0Ideal.τ) (Cert.MulRef0Ideal.main (F := Ideal))) ⟨m, fun _ => 0, g⟩ (fun r => (∀ c : Dev Cert.MulRef0Ideal.nD,
      r.2.mem ((c.tc : Thread Cert.MulRef0Ideal.nD Cert.MulRef0Ideal.τ).loc Cert.MulRef0Ideal.main_arg0) = m ((c.tc : Thread Cert.MulRef0Ideal.nD Cert.MulRef0Ideal.τ).loc Cert.MulRef0Ideal.main_arg0)
      ∧ r.2.mem ((c.tc : Thread Cert.MulRef0Ideal.nD Cert.MulRef0Ideal.τ).loc Cert.MulRef0Ideal.main_arg1) = m ((c.tc : Thread Cert.MulRef0Ideal.nD Cert.MulRef0Ideal.τ).loc Cert.MulRef0Ideal.main_arg1))
      ∧ r.2.sem = fun _ => 0)

def quiescent_Mul1 [hMul1 : Cert.Mul1.Facts] : Prop :=
  ∀ (m : (ℓ : Loc Cert.Mul1.nD Cert.Mul1.τ Cert.Mul1.sig) → Buf (Elt Bits) ℓ) (g : Dev Cert.Mul1.nD → PrngReg), Pre_Mul1 m →
    θ_run (Cert.Mul1.defs (F := Bits)) (onTc (τ := Cert.Mul1.τ) (Cert.Mul1.main (F := Bits))) ⟨m, fun _ => 0, g⟩ (fun r => (∀ c : Dev Cert.Mul1.nD,
      r.2.mem ((c.tc : Thread Cert.Mul1.nD Cert.Mul1.τ).loc Cert.Mul1.main_arg0) = m ((c.tc : Thread Cert.Mul1.nD Cert.Mul1.τ).loc Cert.Mul1.main_arg0)
      ∧ r.2.mem ((c.tc : Thread Cert.Mul1.nD Cert.Mul1.τ).loc Cert.Mul1.main_arg1) = m ((c.tc : Thread Cert.Mul1.nD Cert.Mul1.τ).loc Cert.Mul1.main_arg1))
      ∧ r.2.sem = fun _ => 0)

def quiescent_Mul1Ideal [hMul1Ideal : Cert.Mul1Ideal.Facts] : Prop :=
  ∀ (m : (ℓ : Loc Cert.Mul1Ideal.nD Cert.Mul1Ideal.τ Cert.Mul1Ideal.sig) → Buf (Elt Ideal) ℓ) (g : Dev Cert.Mul1Ideal.nD → PrngReg), Pre_Mul1Ideal m →
    θ_run (Cert.Mul1Ideal.defs (F := Ideal)) (onTc (τ := Cert.Mul1Ideal.τ) (Cert.Mul1Ideal.main (F := Ideal))) ⟨m, fun _ => 0, g⟩ (fun r => (∀ c : Dev Cert.Mul1Ideal.nD,
      r.2.mem ((c.tc : Thread Cert.Mul1Ideal.nD Cert.Mul1Ideal.τ).loc Cert.Mul1Ideal.main_arg0) = m ((c.tc : Thread Cert.Mul1Ideal.nD Cert.Mul1Ideal.τ).loc Cert.Mul1Ideal.main_arg0)
      ∧ r.2.mem ((c.tc : Thread Cert.Mul1Ideal.nD Cert.Mul1Ideal.τ).loc Cert.Mul1Ideal.main_arg1) = m ((c.tc : Thread Cert.Mul1Ideal.nD Cert.Mul1Ideal.τ).loc Cert.Mul1Ideal.main_arg1))
      ∧ r.2.sem = fun _ => 0)

def quiescent_MulRef1Ideal [hMulRef1Ideal : Cert.MulRef1Ideal.Facts] : Prop :=
  ∀ (m : (ℓ : Loc Cert.MulRef1Ideal.nD Cert.MulRef1Ideal.τ Cert.MulRef1Ideal.sig) → Buf (Elt Ideal) ℓ) (g : Dev Cert.MulRef1Ideal.nD → PrngReg), Pre_MulRef1Ideal m →
    θ_run (Cert.MulRef1Ideal.defs (F := Ideal)) (onTc (τ := Cert.MulRef1Ideal.τ) (Cert.MulRef1Ideal.main (F := Ideal))) ⟨m, fun _ => 0, g⟩ (fun r => (∀ c : Dev Cert.MulRef1Ideal.nD,
      r.2.mem ((c.tc : Thread Cert.MulRef1Ideal.nD Cert.MulRef1Ideal.τ).loc Cert.MulRef1Ideal.main_arg0) = m ((c.tc : Thread Cert.MulRef1Ideal.nD Cert.MulRef1Ideal.τ).loc Cert.MulRef1Ideal.main_arg0)
      ∧ r.2.mem ((c.tc : Thread Cert.MulRef1Ideal.nD Cert.MulRef1Ideal.τ).loc Cert.MulRef1Ideal.main_arg1) = m ((c.tc : Thread Cert.MulRef1Ideal.nD Cert.MulRef1Ideal.τ).loc Cert.MulRef1Ideal.main_arg1))
      ∧ r.2.sem = fun _ => 0)

def quiescent_Mul2 [hMul2 : Cert.Mul2.Facts] : Prop :=
  ∀ (m : (ℓ : Loc Cert.Mul2.nD Cert.Mul2.τ Cert.Mul2.sig) → Buf (Elt Bits) ℓ) (g : Dev Cert.Mul2.nD → PrngReg), Pre_Mul2 m →
    θ_run (Cert.Mul2.defs (F := Bits)) (onTc (τ := Cert.Mul2.τ) (Cert.Mul2.main (F := Bits))) ⟨m, fun _ => 0, g⟩ (fun r => (∀ c : Dev Cert.Mul2.nD,
      r.2.mem ((c.tc : Thread Cert.Mul2.nD Cert.Mul2.τ).loc Cert.Mul2.main_arg0) = m ((c.tc : Thread Cert.Mul2.nD Cert.Mul2.τ).loc Cert.Mul2.main_arg0)
      ∧ r.2.mem ((c.tc : Thread Cert.Mul2.nD Cert.Mul2.τ).loc Cert.Mul2.main_arg1) = m ((c.tc : Thread Cert.Mul2.nD Cert.Mul2.τ).loc Cert.Mul2.main_arg1))
      ∧ r.2.sem = fun _ => 0)

def quiescent_Mul2Ideal [hMul2Ideal : Cert.Mul2Ideal.Facts] : Prop :=
  ∀ (m : (ℓ : Loc Cert.Mul2Ideal.nD Cert.Mul2Ideal.τ Cert.Mul2Ideal.sig) → Buf (Elt Ideal) ℓ) (g : Dev Cert.Mul2Ideal.nD → PrngReg), Pre_Mul2Ideal m →
    θ_run (Cert.Mul2Ideal.defs (F := Ideal)) (onTc (τ := Cert.Mul2Ideal.τ) (Cert.Mul2Ideal.main (F := Ideal))) ⟨m, fun _ => 0, g⟩ (fun r => (∀ c : Dev Cert.Mul2Ideal.nD,
      r.2.mem ((c.tc : Thread Cert.Mul2Ideal.nD Cert.Mul2Ideal.τ).loc Cert.Mul2Ideal.main_arg0) = m ((c.tc : Thread Cert.Mul2Ideal.nD Cert.Mul2Ideal.τ).loc Cert.Mul2Ideal.main_arg0)
      ∧ r.2.mem ((c.tc : Thread Cert.Mul2Ideal.nD Cert.Mul2Ideal.τ).loc Cert.Mul2Ideal.main_arg1) = m ((c.tc : Thread Cert.Mul2Ideal.nD Cert.Mul2Ideal.τ).loc Cert.Mul2Ideal.main_arg1))
      ∧ r.2.sem = fun _ => 0)

def quiescent_MulRef2Ideal [hMulRef2Ideal : Cert.MulRef2Ideal.Facts] : Prop :=
  ∀ (m : (ℓ : Loc Cert.MulRef2Ideal.nD Cert.MulRef2Ideal.τ Cert.MulRef2Ideal.sig) → Buf (Elt Ideal) ℓ) (g : Dev Cert.MulRef2Ideal.nD → PrngReg), Pre_MulRef2Ideal m →
    θ_run (Cert.MulRef2Ideal.defs (F := Ideal)) (onTc (τ := Cert.MulRef2Ideal.τ) (Cert.MulRef2Ideal.main (F := Ideal))) ⟨m, fun _ => 0, g⟩ (fun r => (∀ c : Dev Cert.MulRef2Ideal.nD,
      r.2.mem ((c.tc : Thread Cert.MulRef2Ideal.nD Cert.MulRef2Ideal.τ).loc Cert.MulRef2Ideal.main_arg0) = m ((c.tc : Thread Cert.MulRef2Ideal.nD Cert.MulRef2Ideal.τ).loc Cert.MulRef2Ideal.main_arg0)
      ∧ r.2.mem ((c.tc : Thread Cert.MulRef2Ideal.nD Cert.MulRef2Ideal.τ).loc Cert.MulRef2Ideal.main_arg1) = m ((c.tc : Thread Cert.MulRef2Ideal.nD Cert.MulRef2Ideal.τ).loc Cert.MulRef2Ideal.main_arg1))
      ∧ r.2.sem = fun _ => 0)

def quiescent_Mul3 [hMul3 : Cert.Mul3.Facts] : Prop :=
  ∀ (m : (ℓ : Loc Cert.Mul3.nD Cert.Mul3.τ Cert.Mul3.sig) → Buf (Elt Bits) ℓ) (g : Dev Cert.Mul3.nD → PrngReg), Pre_Mul3 m →
    θ_run (Cert.Mul3.defs (F := Bits)) (onTc (τ := Cert.Mul3.τ) (Cert.Mul3.main (F := Bits))) ⟨m, fun _ => 0, g⟩ (fun r => (∀ c : Dev Cert.Mul3.nD,
      r.2.mem ((c.tc : Thread Cert.Mul3.nD Cert.Mul3.τ).loc Cert.Mul3.main_arg0) = m ((c.tc : Thread Cert.Mul3.nD Cert.Mul3.τ).loc Cert.Mul3.main_arg0)
      ∧ r.2.mem ((c.tc : Thread Cert.Mul3.nD Cert.Mul3.τ).loc Cert.Mul3.main_arg1) = m ((c.tc : Thread Cert.Mul3.nD Cert.Mul3.τ).loc Cert.Mul3.main_arg1))
      ∧ r.2.sem = fun _ => 0)

def quiescent_Mul3Ideal [hMul3Ideal : Cert.Mul3Ideal.Facts] : Prop :=
  ∀ (m : (ℓ : Loc Cert.Mul3Ideal.nD Cert.Mul3Ideal.τ Cert.Mul3Ideal.sig) → Buf (Elt Ideal) ℓ) (g : Dev Cert.Mul3Ideal.nD → PrngReg), Pre_Mul3Ideal m →
    θ_run (Cert.Mul3Ideal.defs (F := Ideal)) (onTc (τ := Cert.Mul3Ideal.τ) (Cert.Mul3Ideal.main (F := Ideal))) ⟨m, fun _ => 0, g⟩ (fun r => (∀ c : Dev Cert.Mul3Ideal.nD,
      r.2.mem ((c.tc : Thread Cert.Mul3Ideal.nD Cert.Mul3Ideal.τ).loc Cert.Mul3Ideal.main_arg0) = m ((c.tc : Thread Cert.Mul3Ideal.nD Cert.Mul3Ideal.τ).loc Cert.Mul3Ideal.main_arg0)
      ∧ r.2.mem ((c.tc : Thread Cert.Mul3Ideal.nD Cert.Mul3Ideal.τ).loc Cert.Mul3Ideal.main_arg1) = m ((c.tc : Thread Cert.Mul3Ideal.nD Cert.Mul3Ideal.τ).loc Cert.Mul3Ideal.main_arg1))
      ∧ r.2.sem = fun _ => 0)

def quiescent_MulRef3Ideal [hMulRef3Ideal : Cert.MulRef3Ideal.Facts] : Prop :=
  ∀ (m : (ℓ : Loc Cert.MulRef3Ideal.nD Cert.MulRef3Ideal.τ Cert.MulRef3Ideal.sig) → Buf (Elt Ideal) ℓ) (g : Dev Cert.MulRef3Ideal.nD → PrngReg), Pre_MulRef3Ideal m →
    θ_run (Cert.MulRef3Ideal.defs (F := Ideal)) (onTc (τ := Cert.MulRef3Ideal.τ) (Cert.MulRef3Ideal.main (F := Ideal))) ⟨m, fun _ => 0, g⟩ (fun r => (∀ c : Dev Cert.MulRef3Ideal.nD,
      r.2.mem ((c.tc : Thread Cert.MulRef3Ideal.nD Cert.MulRef3Ideal.τ).loc Cert.MulRef3Ideal.main_arg0) = m ((c.tc : Thread Cert.MulRef3Ideal.nD Cert.MulRef3Ideal.τ).loc Cert.MulRef3Ideal.main_arg0)
      ∧ r.2.mem ((c.tc : Thread Cert.MulRef3Ideal.nD Cert.MulRef3Ideal.τ).loc Cert.MulRef3Ideal.main_arg1) = m ((c.tc : Thread Cert.MulRef3Ideal.nD Cert.MulRef3Ideal.τ).loc Cert.MulRef3Ideal.main_arg1))
      ∧ r.2.sem = fun _ => 0)

def quiescent_Mul4 [hMul4 : Cert.Mul4.Facts] : Prop :=
  ∀ (m : (ℓ : Loc Cert.Mul4.nD Cert.Mul4.τ Cert.Mul4.sig) → Buf (Elt Bits) ℓ) (g : Dev Cert.Mul4.nD → PrngReg), Pre_Mul4 m →
    θ_run (Cert.Mul4.defs (F := Bits)) (onTc (τ := Cert.Mul4.τ) (Cert.Mul4.main (F := Bits))) ⟨m, fun _ => 0, g⟩ (fun r => (∀ c : Dev Cert.Mul4.nD,
      r.2.mem ((c.tc : Thread Cert.Mul4.nD Cert.Mul4.τ).loc Cert.Mul4.main_arg0) = m ((c.tc : Thread Cert.Mul4.nD Cert.Mul4.τ).loc Cert.Mul4.main_arg0)
      ∧ r.2.mem ((c.tc : Thread Cert.Mul4.nD Cert.Mul4.τ).loc Cert.Mul4.main_arg1) = m ((c.tc : Thread Cert.Mul4.nD Cert.Mul4.τ).loc Cert.Mul4.main_arg1))
      ∧ r.2.sem = fun _ => 0)

def quiescent_Mul4Ideal [hMul4Ideal : Cert.Mul4Ideal.Facts] : Prop :=
  ∀ (m : (ℓ : Loc Cert.Mul4Ideal.nD Cert.Mul4Ideal.τ Cert.Mul4Ideal.sig) → Buf (Elt Ideal) ℓ) (g : Dev Cert.Mul4Ideal.nD → PrngReg), Pre_Mul4Ideal m →
    θ_run (Cert.Mul4Ideal.defs (F := Ideal)) (onTc (τ := Cert.Mul4Ideal.τ) (Cert.Mul4Ideal.main (F := Ideal))) ⟨m, fun _ => 0, g⟩ (fun r => (∀ c : Dev Cert.Mul4Ideal.nD,
      r.2.mem ((c.tc : Thread Cert.Mul4Ideal.nD Cert.Mul4Ideal.τ).loc Cert.Mul4Ideal.main_arg0) = m ((c.tc : Thread Cert.Mul4Ideal.nD Cert.Mul4Ideal.τ).loc Cert.Mul4Ideal.main_arg0)
      ∧ r.2.mem ((c.tc : Thread Cert.Mul4Ideal.nD Cert.Mul4Ideal.τ).loc Cert.Mul4Ideal.main_arg1) = m ((c.tc : Thread Cert.Mul4Ideal.nD Cert.Mul4Ideal.τ).loc Cert.Mul4Ideal.main_arg1))
      ∧ r.2.sem = fun _ => 0)

def quiescent_MulRef4Ideal [hMulRef4Ideal : Cert.MulRef4Ideal.Facts] : Prop :=
  ∀ (m : (ℓ : Loc Cert.MulRef4Ideal.nD Cert.MulRef4Ideal.τ Cert.MulRef4Ideal.sig) → Buf (Elt Ideal) ℓ) (g : Dev Cert.MulRef4Ideal.nD → PrngReg), Pre_MulRef4Ideal m →
    θ_run (Cert.MulRef4Ideal.defs (F := Ideal)) (onTc (τ := Cert.MulRef4Ideal.τ) (Cert.MulRef4Ideal.main (F := Ideal))) ⟨m, fun _ => 0, g⟩ (fun r => (∀ c : Dev Cert.MulRef4Ideal.nD,
      r.2.mem ((c.tc : Thread Cert.MulRef4Ideal.nD Cert.MulRef4Ideal.τ).loc Cert.MulRef4Ideal.main_arg0) = m ((c.tc : Thread Cert.MulRef4Ideal.nD Cert.MulRef4Ideal.τ).loc Cert.MulRef4Ideal.main_arg0)
      ∧ r.2.mem ((c.tc : Thread Cert.MulRef4Ideal.nD Cert.MulRef4Ideal.τ).loc Cert.MulRef4Ideal.main_arg1) = m ((c.tc : Thread Cert.MulRef4Ideal.nD Cert.MulRef4Ideal.τ).loc Cert.MulRef4Ideal.main_arg1))
      ∧ r.2.sem = fun _ => 0)

def quiescent_Mul5 [hMul5 : Cert.Mul5.Facts] : Prop :=
  ∀ (m : (ℓ : Loc Cert.Mul5.nD Cert.Mul5.τ Cert.Mul5.sig) → Buf (Elt Bits) ℓ) (g : Dev Cert.Mul5.nD → PrngReg), Pre_Mul5 m →
    θ_run (Cert.Mul5.defs (F := Bits)) (onTc (τ := Cert.Mul5.τ) (Cert.Mul5.main (F := Bits))) ⟨m, fun _ => 0, g⟩ (fun r => (∀ c : Dev Cert.Mul5.nD,
      r.2.mem ((c.tc : Thread Cert.Mul5.nD Cert.Mul5.τ).loc Cert.Mul5.main_arg0) = m ((c.tc : Thread Cert.Mul5.nD Cert.Mul5.τ).loc Cert.Mul5.main_arg0)
      ∧ r.2.mem ((c.tc : Thread Cert.Mul5.nD Cert.Mul5.τ).loc Cert.Mul5.main_arg1) = m ((c.tc : Thread Cert.Mul5.nD Cert.Mul5.τ).loc Cert.Mul5.main_arg1))
      ∧ r.2.sem = fun _ => 0)

def quiescent_Mul5Ideal [hMul5Ideal : Cert.Mul5Ideal.Facts] : Prop :=
  ∀ (m : (ℓ : Loc Cert.Mul5Ideal.nD Cert.Mul5Ideal.τ Cert.Mul5Ideal.sig) → Buf (Elt Ideal) ℓ) (g : Dev Cert.Mul5Ideal.nD → PrngReg), Pre_Mul5Ideal m →
    θ_run (Cert.Mul5Ideal.defs (F := Ideal)) (onTc (τ := Cert.Mul5Ideal.τ) (Cert.Mul5Ideal.main (F := Ideal))) ⟨m, fun _ => 0, g⟩ (fun r => (∀ c : Dev Cert.Mul5Ideal.nD,
      r.2.mem ((c.tc : Thread Cert.Mul5Ideal.nD Cert.Mul5Ideal.τ).loc Cert.Mul5Ideal.main_arg0) = m ((c.tc : Thread Cert.Mul5Ideal.nD Cert.Mul5Ideal.τ).loc Cert.Mul5Ideal.main_arg0)
      ∧ r.2.mem ((c.tc : Thread Cert.Mul5Ideal.nD Cert.Mul5Ideal.τ).loc Cert.Mul5Ideal.main_arg1) = m ((c.tc : Thread Cert.Mul5Ideal.nD Cert.Mul5Ideal.τ).loc Cert.Mul5Ideal.main_arg1))
      ∧ r.2.sem = fun _ => 0)

def quiescent_MulRef5Ideal [hMulRef5Ideal : Cert.MulRef5Ideal.Facts] : Prop :=
  ∀ (m : (ℓ : Loc Cert.MulRef5Ideal.nD Cert.MulRef5Ideal.τ Cert.MulRef5Ideal.sig) → Buf (Elt Ideal) ℓ) (g : Dev Cert.MulRef5Ideal.nD → PrngReg), Pre_MulRef5Ideal m →
    θ_run (Cert.MulRef5Ideal.defs (F := Ideal)) (onTc (τ := Cert.MulRef5Ideal.τ) (Cert.MulRef5Ideal.main (F := Ideal))) ⟨m, fun _ => 0, g⟩ (fun r => (∀ c : Dev Cert.MulRef5Ideal.nD,
      r.2.mem ((c.tc : Thread Cert.MulRef5Ideal.nD Cert.MulRef5Ideal.τ).loc Cert.MulRef5Ideal.main_arg0) = m ((c.tc : Thread Cert.MulRef5Ideal.nD Cert.MulRef5Ideal.τ).loc Cert.MulRef5Ideal.main_arg0)
      ∧ r.2.mem ((c.tc : Thread Cert.MulRef5Ideal.nD Cert.MulRef5Ideal.τ).loc Cert.MulRef5Ideal.main_arg1) = m ((c.tc : Thread Cert.MulRef5Ideal.nD Cert.MulRef5Ideal.τ).loc Cert.MulRef5Ideal.main_arg1))
      ∧ r.2.sem = fun _ => 0)

def quiescent_Mul6 [hMul6 : Cert.Mul6.Facts] : Prop :=
  ∀ (m : (ℓ : Loc Cert.Mul6.nD Cert.Mul6.τ Cert.Mul6.sig) → Buf (Elt Bits) ℓ) (g : Dev Cert.Mul6.nD → PrngReg), Pre_Mul6 m →
    θ_run (Cert.Mul6.defs (F := Bits)) (onTc (τ := Cert.Mul6.τ) (Cert.Mul6.main (F := Bits))) ⟨m, fun _ => 0, g⟩ (fun r => (∀ c : Dev Cert.Mul6.nD,
      r.2.mem ((c.tc : Thread Cert.Mul6.nD Cert.Mul6.τ).loc Cert.Mul6.main_arg0) = m ((c.tc : Thread Cert.Mul6.nD Cert.Mul6.τ).loc Cert.Mul6.main_arg0)
      ∧ r.2.mem ((c.tc : Thread Cert.Mul6.nD Cert.Mul6.τ).loc Cert.Mul6.main_arg1) = m ((c.tc : Thread Cert.Mul6.nD Cert.Mul6.τ).loc Cert.Mul6.main_arg1))
      ∧ r.2.sem = fun _ => 0)

def quiescent_Mul6Ideal [hMul6Ideal : Cert.Mul6Ideal.Facts] : Prop :=
  ∀ (m : (ℓ : Loc Cert.Mul6Ideal.nD Cert.Mul6Ideal.τ Cert.Mul6Ideal.sig) → Buf (Elt Ideal) ℓ) (g : Dev Cert.Mul6Ideal.nD → PrngReg), Pre_Mul6Ideal m →
    θ_run (Cert.Mul6Ideal.defs (F := Ideal)) (onTc (τ := Cert.Mul6Ideal.τ) (Cert.Mul6Ideal.main (F := Ideal))) ⟨m, fun _ => 0, g⟩ (fun r => (∀ c : Dev Cert.Mul6Ideal.nD,
      r.2.mem ((c.tc : Thread Cert.Mul6Ideal.nD Cert.Mul6Ideal.τ).loc Cert.Mul6Ideal.main_arg0) = m ((c.tc : Thread Cert.Mul6Ideal.nD Cert.Mul6Ideal.τ).loc Cert.Mul6Ideal.main_arg0)
      ∧ r.2.mem ((c.tc : Thread Cert.Mul6Ideal.nD Cert.Mul6Ideal.τ).loc Cert.Mul6Ideal.main_arg1) = m ((c.tc : Thread Cert.Mul6Ideal.nD Cert.Mul6Ideal.τ).loc Cert.Mul6Ideal.main_arg1))
      ∧ r.2.sem = fun _ => 0)

def quiescent_MulRef6Ideal [hMulRef6Ideal : Cert.MulRef6Ideal.Facts] : Prop :=
  ∀ (m : (ℓ : Loc Cert.MulRef6Ideal.nD Cert.MulRef6Ideal.τ Cert.MulRef6Ideal.sig) → Buf (Elt Ideal) ℓ) (g : Dev Cert.MulRef6Ideal.nD → PrngReg), Pre_MulRef6Ideal m →
    θ_run (Cert.MulRef6Ideal.defs (F := Ideal)) (onTc (τ := Cert.MulRef6Ideal.τ) (Cert.MulRef6Ideal.main (F := Ideal))) ⟨m, fun _ => 0, g⟩ (fun r => (∀ c : Dev Cert.MulRef6Ideal.nD,
      r.2.mem ((c.tc : Thread Cert.MulRef6Ideal.nD Cert.MulRef6Ideal.τ).loc Cert.MulRef6Ideal.main_arg0) = m ((c.tc : Thread Cert.MulRef6Ideal.nD Cert.MulRef6Ideal.τ).loc Cert.MulRef6Ideal.main_arg0)
      ∧ r.2.mem ((c.tc : Thread Cert.MulRef6Ideal.nD Cert.MulRef6Ideal.τ).loc Cert.MulRef6Ideal.main_arg1) = m ((c.tc : Thread Cert.MulRef6Ideal.nD Cert.MulRef6Ideal.τ).loc Cert.MulRef6Ideal.main_arg1))
      ∧ r.2.sem = fun _ => 0)

def quiescent_Norm0 [hNorm0 : Cert.Norm0.Facts] : Prop :=
  ∀ (m : (ℓ : Loc Cert.Norm0.nD Cert.Norm0.τ Cert.Norm0.sig) → Buf (Elt Bits) ℓ) (g : Dev Cert.Norm0.nD → PrngReg), Pre_Norm0 m →
    θ_run (Cert.Norm0.defs (F := Bits)) (onTc (τ := Cert.Norm0.τ) (Cert.Norm0.main (F := Bits))) ⟨m, fun _ => 0, g⟩ (fun r => (∀ c : Dev Cert.Norm0.nD,
      r.2.mem ((c.tc : Thread Cert.Norm0.nD Cert.Norm0.τ).loc Cert.Norm0.main_arg0) = m ((c.tc : Thread Cert.Norm0.nD Cert.Norm0.τ).loc Cert.Norm0.main_arg0)
      ∧ r.2.mem ((c.tc : Thread Cert.Norm0.nD Cert.Norm0.τ).loc Cert.Norm0.main_arg1) = m ((c.tc : Thread Cert.Norm0.nD Cert.Norm0.τ).loc Cert.Norm0.main_arg1))
      ∧ r.2.sem = fun _ => 0)

def quiescent_Norm0Ideal [hNorm0Ideal : Cert.Norm0Ideal.Facts] : Prop :=
  ∀ (m : (ℓ : Loc Cert.Norm0Ideal.nD Cert.Norm0Ideal.τ Cert.Norm0Ideal.sig) → Buf (Elt Ideal) ℓ) (g : Dev Cert.Norm0Ideal.nD → PrngReg), Pre_Norm0Ideal m →
    θ_run (Cert.Norm0Ideal.defs (F := Ideal)) (onTc (τ := Cert.Norm0Ideal.τ) (Cert.Norm0Ideal.main (F := Ideal))) ⟨m, fun _ => 0, g⟩ (fun r => (∀ c : Dev Cert.Norm0Ideal.nD,
      r.2.mem ((c.tc : Thread Cert.Norm0Ideal.nD Cert.Norm0Ideal.τ).loc Cert.Norm0Ideal.main_arg0) = m ((c.tc : Thread Cert.Norm0Ideal.nD Cert.Norm0Ideal.τ).loc Cert.Norm0Ideal.main_arg0)
      ∧ r.2.mem ((c.tc : Thread Cert.Norm0Ideal.nD Cert.Norm0Ideal.τ).loc Cert.Norm0Ideal.main_arg1) = m ((c.tc : Thread Cert.Norm0Ideal.nD Cert.Norm0Ideal.τ).loc Cert.Norm0Ideal.main_arg1))
      ∧ r.2.sem = fun _ => 0)

def quiescent_NormRef0Ideal [hNormRef0Ideal : Cert.NormRef0Ideal.Facts] : Prop :=
  ∀ (m : (ℓ : Loc Cert.NormRef0Ideal.nD Cert.NormRef0Ideal.τ Cert.NormRef0Ideal.sig) → Buf (Elt Ideal) ℓ) (g : Dev Cert.NormRef0Ideal.nD → PrngReg), Pre_NormRef0Ideal m →
    θ_run (Cert.NormRef0Ideal.defs (F := Ideal)) (onTc (τ := Cert.NormRef0Ideal.τ) (Cert.NormRef0Ideal.main (F := Ideal))) ⟨m, fun _ => 0, g⟩ (fun r => (∀ c : Dev Cert.NormRef0Ideal.nD,
      r.2.mem ((c.tc : Thread Cert.NormRef0Ideal.nD Cert.NormRef0Ideal.τ).loc Cert.NormRef0Ideal.main_arg0) = m ((c.tc : Thread Cert.NormRef0Ideal.nD Cert.NormRef0Ideal.τ).loc Cert.NormRef0Ideal.main_arg0)
      ∧ r.2.mem ((c.tc : Thread Cert.NormRef0Ideal.nD Cert.NormRef0Ideal.τ).loc Cert.NormRef0Ideal.main_arg1) = m ((c.tc : Thread Cert.NormRef0Ideal.nD Cert.NormRef0Ideal.τ).loc Cert.NormRef0Ideal.main_arg1))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2))
      ∧ r.2.sem = fun _ => 0)

def quiescent_NormRef1Ideal [hNormRef1Ideal : Cert.NormRef1Ideal.Facts] : Prop :=
  ∀ (m : (ℓ : Loc Cert.NormRef1Ideal.nD Cert.NormRef1Ideal.τ Cert.NormRef1Ideal.sig) → Buf (Elt Ideal) ℓ) (g : Dev Cert.NormRef1Ideal.nD → PrngReg), Pre_NormRef1Ideal m →
    θ_run (Cert.NormRef1Ideal.defs (F := Ideal)) (onTc (τ := Cert.NormRef1Ideal.τ) (Cert.NormRef1Ideal.main (F := Ideal))) ⟨m, fun _ => 0, g⟩ (fun r => (∀ c : Dev Cert.NormRef1Ideal.nD,
      r.2.mem ((c.tc : Thread Cert.NormRef1Ideal.nD Cert.NormRef1Ideal.τ).loc Cert.NormRef1Ideal.main_arg0) = m ((c.tc : Thread Cert.NormRef1Ideal.nD Cert.NormRef1Ideal.τ).loc Cert.NormRef1Ideal.main_arg0)
      ∧ r.2.mem ((c.tc : Thread Cert.NormRef1Ideal.nD Cert.NormRef1Ideal.τ).loc Cert.NormRef1Ideal.main_arg1) = m ((c.tc : Thread Cert.NormRef1Ideal.nD Cert.NormRef1Ideal.τ).loc Cert.NormRef1Ideal.main_arg1)
      ∧ r.2.mem ((c.tc : Thread Cert.NormRef1Ideal.nD Cert.NormRef1Ideal.τ).loc Cert.NormRef1Ideal.main_arg2) = m ((c.tc : Thread Cert.NormRef1Ideal.nD Cert.NormRef1Ideal.τ).loc Cert.NormRef1Ideal.main_arg2))
      ∧ r.2.sem = fun _ => 0)

def quiescent_Dx0 [hDx0 : Cert.Dx0.Facts] : Prop :=
  ∀ (m : (ℓ : Loc Cert.Dx0.nD Cert.Dx0.τ Cert.Dx0.sig) → Buf (Elt Bits) ℓ) (g : Dev Cert.Dx0.nD → PrngReg), Pre_Dx0 m →
    θ_run (Cert.Dx0.defs (F := Bits)) (onTc (τ := Cert.Dx0.τ) (Cert.Dx0.main (F := Bits))) ⟨m, fun _ => 0, g⟩ (fun r => (∀ c : Dev Cert.Dx0.nD,
      r.2.mem ((c.tc : Thread Cert.Dx0.nD Cert.Dx0.τ).loc Cert.Dx0.main_arg0) = m ((c.tc : Thread Cert.Dx0.nD Cert.Dx0.τ).loc Cert.Dx0.main_arg0)
      ∧ r.2.mem ((c.tc : Thread Cert.Dx0.nD Cert.Dx0.τ).loc Cert.Dx0.main_arg1) = m ((c.tc : Thread Cert.Dx0.nD Cert.Dx0.τ).loc Cert.Dx0.main_arg1))
      ∧ r.2.sem = fun _ => 0)

def quiescent_Dx0Ideal [hDx0Ideal : Cert.Dx0Ideal.Facts] : Prop :=
  ∀ (m : (ℓ : Loc Cert.Dx0Ideal.nD Cert.Dx0Ideal.τ Cert.Dx0Ideal.sig) → Buf (Elt Ideal) ℓ) (g : Dev Cert.Dx0Ideal.nD → PrngReg), Pre_Dx0Ideal m →
    θ_run (Cert.Dx0Ideal.defs (F := Ideal)) (onTc (τ := Cert.Dx0Ideal.τ) (Cert.Dx0Ideal.main (F := Ideal))) ⟨m, fun _ => 0, g⟩ (fun r => (∀ c : Dev Cert.Dx0Ideal.nD,
      r.2.mem ((c.tc : Thread Cert.Dx0Ideal.nD Cert.Dx0Ideal.τ).loc Cert.Dx0Ideal.main_arg0) = m ((c.tc : Thread Cert.Dx0Ideal.nD Cert.Dx0Ideal.τ).loc Cert.Dx0Ideal.main_arg0)
      ∧ r.2.mem ((c.tc : Thread Cert.Dx0Ideal.nD Cert.Dx0Ideal.τ).loc Cert.Dx0Ideal.main_arg1) = m ((c.tc : Thread Cert.Dx0Ideal.nD Cert.Dx0Ideal.τ).loc Cert.Dx0Ideal.main_arg1))
      ∧ r.2.sem = fun _ => 0)

def quiescent_DxRef0Ideal [hDxRef0Ideal : Cert.DxRef0Ideal.Facts] : Prop :=
  ∀ (m : (ℓ : Loc Cert.DxRef0Ideal.nD Cert.DxRef0Ideal.τ Cert.DxRef0Ideal.sig) → Buf (Elt Ideal) ℓ) (g : Dev Cert.DxRef0Ideal.nD → PrngReg), Pre_DxRef0Ideal m →
    θ_run (Cert.DxRef0Ideal.defs (F := Ideal)) (onTc (τ := Cert.DxRef0Ideal.τ) (Cert.DxRef0Ideal.main (F := Ideal))) ⟨m, fun _ => 0, g⟩ (fun r => (∀ c : Dev Cert.DxRef0Ideal.nD,
      r.2.mem ((c.tc : Thread Cert.DxRef0Ideal.nD Cert.DxRef0Ideal.τ).loc Cert.DxRef0Ideal.main_arg0) = m ((c.tc : Thread Cert.DxRef0Ideal.nD Cert.DxRef0Ideal.τ).loc Cert.DxRef0Ideal.main_arg0)
      ∧ r.2.mem ((c.tc : Thread Cert.DxRef0Ideal.nD Cert.DxRef0Ideal.τ).loc Cert.DxRef0Ideal.main_arg1) = m ((c.tc : Thread Cert.DxRef0Ideal.nD Cert.DxRef0Ideal.τ).loc Cert.DxRef0Ideal.main_arg1))
      ∧ r.2.sem = fun _ => 0)

def quiescent_Dx1 [hDx1 : Cert.Dx1.Facts] : Prop :=
  ∀ (m : (ℓ : Loc Cert.Dx1.nD Cert.Dx1.τ Cert.Dx1.sig) → Buf (Elt Bits) ℓ) (g : Dev Cert.Dx1.nD → PrngReg), Pre_Dx1 m →
    θ_run (Cert.Dx1.defs (F := Bits)) (onTc (τ := Cert.Dx1.τ) (Cert.Dx1.main (F := Bits))) ⟨m, fun _ => 0, g⟩ (fun r => (∀ c : Dev Cert.Dx1.nD,
      r.2.mem ((c.tc : Thread Cert.Dx1.nD Cert.Dx1.τ).loc Cert.Dx1.main_arg0) = m ((c.tc : Thread Cert.Dx1.nD Cert.Dx1.τ).loc Cert.Dx1.main_arg0)
      ∧ r.2.mem ((c.tc : Thread Cert.Dx1.nD Cert.Dx1.τ).loc Cert.Dx1.main_arg1) = m ((c.tc : Thread Cert.Dx1.nD Cert.Dx1.τ).loc Cert.Dx1.main_arg1))
      ∧ r.2.sem = fun _ => 0)

def quiescent_Dx1Ideal [hDx1Ideal : Cert.Dx1Ideal.Facts] : Prop :=
  ∀ (m : (ℓ : Loc Cert.Dx1Ideal.nD Cert.Dx1Ideal.τ Cert.Dx1Ideal.sig) → Buf (Elt Ideal) ℓ) (g : Dev Cert.Dx1Ideal.nD → PrngReg), Pre_Dx1Ideal m →
    θ_run (Cert.Dx1Ideal.defs (F := Ideal)) (onTc (τ := Cert.Dx1Ideal.τ) (Cert.Dx1Ideal.main (F := Ideal))) ⟨m, fun _ => 0, g⟩ (fun r => (∀ c : Dev Cert.Dx1Ideal.nD,
      r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
      ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1))
      ∧ r.2.sem = fun _ => 0)

def quiescent_DxRef1Ideal [hDxRef1Ideal : Cert.DxRef1Ideal.Facts] : Prop :=
  ∀ (m : (ℓ : Loc Cert.DxRef1Ideal.nD Cert.DxRef1Ideal.τ Cert.DxRef1Ideal.sig) → Buf (Elt Ideal) ℓ) (g : Dev Cert.DxRef1Ideal.nD → PrngReg), Pre_DxRef1Ideal m →
    θ_run (Cert.DxRef1Ideal.defs (F := Ideal)) (onTc (τ := Cert.DxRef1Ideal.τ) (Cert.DxRef1Ideal.main (F := Ideal))) ⟨m, fun _ => 0, g⟩ (fun r => (∀ c : Dev Cert.DxRef1Ideal.nD,
      r.2.mem ((c.tc : Thread Cert.DxRef1Ideal.nD Cert.DxRef1Ideal.τ).loc Cert.DxRef1Ideal.main_arg0) = m ((c.tc : Thread Cert.DxRef1Ideal.nD Cert.DxRef1Ideal.τ).loc Cert.DxRef1Ideal.main_arg0)
      ∧ r.2.mem ((c.tc : Thread Cert.DxRef1Ideal.nD Cert.DxRef1Ideal.τ).loc Cert.DxRef1Ideal.main_arg1) = m ((c.tc : Thread Cert.DxRef1Ideal.nD Cert.DxRef1Ideal.τ).loc Cert.DxRef1Ideal.main_arg1))
      ∧ r.2.sem = fun _ => 0)

def quiescent_Dx2 [hDx2 : Cert.Dx2.Facts] : Prop :=
  ∀ (m : (ℓ : Loc Cert.Dx2.nD Cert.Dx2.τ Cert.Dx2.sig) → Buf (Elt Bits) ℓ) (g : Dev Cert.Dx2.nD → PrngReg), Pre_Dx2 m →
    θ_run (Cert.Dx2.defs (F := Bits)) (onTc (τ := Cert.Dx2.τ) (Cert.Dx2.main (F := Bits))) ⟨m, fun _ => 0, g⟩ (fun r => (∀ c : Dev Cert.Dx2.nD,
      r.2.mem ((c.tc : Thread Cert.Dx2.nD Cert.Dx2.τ).loc Cert.Dx2.main_arg0) = m ((c.tc : Thread Cert.Dx2.nD Cert.Dx2.τ).loc Cert.Dx2.main_arg0)
      ∧ r.2.mem ((c.tc : Thread Cert.Dx2.nD Cert.Dx2.τ).loc Cert.Dx2.main_arg1) = m ((c.tc : Thread Cert.Dx2.nD Cert.Dx2.τ).loc Cert.Dx2.main_arg1))
      ∧ r.2.sem = fun _ => 0)

def quiescent_Dx2Ideal [hDx2Ideal : Cert.Dx2Ideal.Facts] : Prop :=
  ∀ (m : (ℓ : Loc Cert.Dx2Ideal.nD Cert.Dx2Ideal.τ Cert.Dx2Ideal.sig) → Buf (Elt Ideal) ℓ) (g : Dev Cert.Dx2Ideal.nD → PrngReg), Pre_Dx2Ideal m →
    θ_run (Cert.Dx2Ideal.defs (F := Ideal)) (onTc (τ := Cert.Dx2Ideal.τ) (Cert.Dx2Ideal.main (F := Ideal))) ⟨m, fun _ => 0, g⟩ (fun r => (∀ c : Dev Cert.Dx2Ideal.nD,
      r.2.mem ((c.tc : Thread Cert.Dx2Ideal.nD Cert.Dx2Ideal.τ).loc Cert.Dx2Ideal.main_arg0) = m ((c.tc : Thread Cert.Dx2Ideal.nD Cert.Dx2Ideal.τ).loc Cert.Dx2Ideal.main_arg0)
      ∧ r.2.mem ((c.tc : Thread Cert.Dx2Ideal.nD Cert.Dx2Ideal.τ).loc Cert.Dx2Ideal.main_arg1) = m ((c.tc : Thread Cert.Dx2Ideal.nD Cert.Dx2Ideal.τ).loc Cert.Dx2Ideal.main_arg1))
      ∧ r.2.sem = fun _ => 0)

def quiescent_DxRef2Ideal [hDxRef2Ideal : Cert.DxRef2Ideal.Facts] : Prop :=
  ∀ (m : (ℓ : Loc Cert.DxRef2Ideal.nD Cert.DxRef2Ideal.τ Cert.DxRef2Ideal.sig) → Buf (Elt Ideal) ℓ) (g : Dev Cert.DxRef2Ideal.nD → PrngReg), Pre_DxRef2Ideal m →
    θ_run (Cert.DxRef2Ideal.defs (F := Ideal)) (onTc (τ := Cert.DxRef2Ideal.τ) (Cert.DxRef2Ideal.main (F := Ideal))) ⟨m, fun _ => 0, g⟩ (fun r => (∀ c : Dev Cert.DxRef2Ideal.nD,
      r.2.mem ((c.tc : Thread Cert.DxRef2Ideal.nD Cert.DxRef2Ideal.τ).loc Cert.DxRef2Ideal.main_arg0) = m ((c.tc : Thread Cert.DxRef2Ideal.nD Cert.DxRef2Ideal.τ).loc Cert.DxRef2Ideal.main_arg0)
      ∧ r.2.mem ((c.tc : Thread Cert.DxRef2Ideal.nD Cert.DxRef2Ideal.τ).loc Cert.DxRef2Ideal.main_arg1) = m ((c.tc : Thread Cert.DxRef2Ideal.nD Cert.DxRef2Ideal.τ).loc Cert.DxRef2Ideal.main_arg1))
      ∧ r.2.sem = fun _ => 0)

def quiescent_Dx3 [hDx3 : Cert.Dx3.Facts] : Prop :=
  ∀ (m : (ℓ : Loc Cert.Dx3.nD Cert.Dx3.τ Cert.Dx3.sig) → Buf (Elt Bits) ℓ) (g : Dev Cert.Dx3.nD → PrngReg), Pre_Dx3 m →
    θ_run (Cert.Dx3.defs (F := Bits)) (onTc (τ := Cert.Dx3.τ) (Cert.Dx3.main (F := Bits))) ⟨m, fun _ => 0, g⟩ (fun r => (∀ c : Dev Cert.Dx3.nD,
      r.2.mem ((c.tc : Thread Cert.Dx3.nD Cert.Dx3.τ).loc Cert.Dx3.main_arg0) = m ((c.tc : Thread Cert.Dx3.nD Cert.Dx3.τ).loc Cert.Dx3.main_arg0)
      ∧ r.2.mem ((c.tc : Thread Cert.Dx3.nD Cert.Dx3.τ).loc Cert.Dx3.main_arg1) = m ((c.tc : Thread Cert.Dx3.nD Cert.Dx3.τ).loc Cert.Dx3.main_arg1))
      ∧ r.2.sem = fun _ => 0)

def quiescent_Dx3Ideal [hDx3Ideal : Cert.Dx3Ideal.Facts] : Prop :=
  ∀ (m : (ℓ : Loc Cert.Dx3Ideal.nD Cert.Dx3Ideal.τ Cert.Dx3Ideal.sig) → Buf (Elt Ideal) ℓ) (g : Dev Cert.Dx3Ideal.nD → PrngReg), Pre_Dx3Ideal m →
    θ_run (Cert.Dx3Ideal.defs (F := Ideal)) (onTc (τ := Cert.Dx3Ideal.τ) (Cert.Dx3Ideal.main (F := Ideal))) ⟨m, fun _ => 0, g⟩ (fun r => (∀ c : Dev Cert.Dx3Ideal.nD,
      r.2.mem ((c.tc : Thread Cert.Dx3Ideal.nD Cert.Dx3Ideal.τ).loc Cert.Dx3Ideal.main_arg0) = m ((c.tc : Thread Cert.Dx3Ideal.nD Cert.Dx3Ideal.τ).loc Cert.Dx3Ideal.main_arg0)
      ∧ r.2.mem ((c.tc : Thread Cert.Dx3Ideal.nD Cert.Dx3Ideal.τ).loc Cert.Dx3Ideal.main_arg1) = m ((c.tc : Thread Cert.Dx3Ideal.nD Cert.Dx3Ideal.τ).loc Cert.Dx3Ideal.main_arg1))
      ∧ r.2.sem = fun _ => 0)

def quiescent_DxRef3Ideal [hDxRef3Ideal : Cert.DxRef3Ideal.Facts] : Prop :=
  ∀ (m : (ℓ : Loc Cert.DxRef3Ideal.nD Cert.DxRef3Ideal.τ Cert.DxRef3Ideal.sig) → Buf (Elt Ideal) ℓ) (g : Dev Cert.DxRef3Ideal.nD → PrngReg), Pre_DxRef3Ideal m →
    θ_run (Cert.DxRef3Ideal.defs (F := Ideal)) (onTc (τ := Cert.DxRef3Ideal.τ) (Cert.DxRef3Ideal.main (F := Ideal))) ⟨m, fun _ => 0, g⟩ (fun r => (∀ c : Dev Cert.DxRef3Ideal.nD,
      r.2.mem ((c.tc : Thread Cert.DxRef3Ideal.nD Cert.DxRef3Ideal.τ).loc Cert.DxRef3Ideal.main_arg0) = m ((c.tc : Thread Cert.DxRef3Ideal.nD Cert.DxRef3Ideal.τ).loc Cert.DxRef3Ideal.main_arg0)
      ∧ r.2.mem ((c.tc : Thread Cert.DxRef3Ideal.nD Cert.DxRef3Ideal.τ).loc Cert.DxRef3Ideal.main_arg1) = m ((c.tc : Thread Cert.DxRef3Ideal.nD Cert.DxRef3Ideal.τ).loc Cert.DxRef3Ideal.main_arg1))
      ∧ r.2.sem = fun _ => 0)

def quiescent_Dx4 [hDx4 : Cert.Dx4.Facts] : Prop :=
  ∀ (m : (ℓ : Loc Cert.Dx4.nD Cert.Dx4.τ Cert.Dx4.sig) → Buf (Elt Bits) ℓ) (g : Dev Cert.Dx4.nD → PrngReg), Pre_Dx4 m →
    θ_run (Cert.Dx4.defs (F := Bits)) (onTc (τ := Cert.Dx4.τ) (Cert.Dx4.main (F := Bits))) ⟨m, fun _ => 0, g⟩ (fun r => (∀ c : Dev Cert.Dx4.nD,
      r.2.mem ((c.tc : Thread Cert.Dx4.nD Cert.Dx4.τ).loc Cert.Dx4.main_arg0) = m ((c.tc : Thread Cert.Dx4.nD Cert.Dx4.τ).loc Cert.Dx4.main_arg0)
      ∧ r.2.mem ((c.tc : Thread Cert.Dx4.nD Cert.Dx4.τ).loc Cert.Dx4.main_arg1) = m ((c.tc : Thread Cert.Dx4.nD Cert.Dx4.τ).loc Cert.Dx4.main_arg1))
      ∧ r.2.sem = fun _ => 0)

def quiescent_Dx4Ideal [hDx4Ideal : Cert.Dx4Ideal.Facts] : Prop :=
  ∀ (m : (ℓ : Loc Cert.Dx4Ideal.nD Cert.Dx4Ideal.τ Cert.Dx4Ideal.sig) → Buf (Elt Ideal) ℓ) (g : Dev Cert.Dx4Ideal.nD → PrngReg), Pre_Dx4Ideal m →
    θ_run (Cert.Dx4Ideal.defs (F := Ideal)) (onTc (τ := Cert.Dx4Ideal.τ) (Cert.Dx4Ideal.main (F := Ideal))) ⟨m, fun _ => 0, g⟩ (fun r => (∀ c : Dev Cert.Dx4Ideal.nD,
      r.2.mem ((c.tc : Thread Cert.Dx4Ideal.nD Cert.Dx4Ideal.τ).loc Cert.Dx4Ideal.main_arg0) = m ((c.tc : Thread Cert.Dx4Ideal.nD Cert.Dx4Ideal.τ).loc Cert.Dx4Ideal.main_arg0)
      ∧ r.2.mem ((c.tc : Thread Cert.Dx4Ideal.nD Cert.Dx4Ideal.τ).loc Cert.Dx4Ideal.main_arg1) = m ((c.tc : Thread Cert.Dx4Ideal.nD Cert.Dx4Ideal.τ).loc Cert.Dx4Ideal.main_arg1))
      ∧ r.2.sem = fun _ => 0)

def quiescent_DxRef4Ideal [hDxRef4Ideal : Cert.DxRef4Ideal.Facts] : Prop :=
  ∀ (m : (ℓ : Loc Cert.DxRef4Ideal.nD Cert.DxRef4Ideal.τ Cert.DxRef4Ideal.sig) → Buf (Elt Ideal) ℓ) (g : Dev Cert.DxRef4Ideal.nD → PrngReg), Pre_DxRef4Ideal m →
    θ_run (Cert.DxRef4Ideal.defs (F := Ideal)) (onTc (τ := Cert.DxRef4Ideal.τ) (Cert.DxRef4Ideal.main (F := Ideal))) ⟨m, fun _ => 0, g⟩ (fun r => (∀ c : Dev Cert.DxRef4Ideal.nD,
      r.2.mem ((c.tc : Thread Cert.DxRef4Ideal.nD Cert.DxRef4Ideal.τ).loc Cert.DxRef4Ideal.main_arg0) = m ((c.tc : Thread Cert.DxRef4Ideal.nD Cert.DxRef4Ideal.τ).loc Cert.DxRef4Ideal.main_arg0)
      ∧ r.2.mem ((c.tc : Thread Cert.DxRef4Ideal.nD Cert.DxRef4Ideal.τ).loc Cert.DxRef4Ideal.main_arg1) = m ((c.tc : Thread Cert.DxRef4Ideal.nD Cert.DxRef4Ideal.τ).loc Cert.DxRef4Ideal.main_arg1))
      ∧ r.2.sem = fun _ => 0)

def quiescent_Dx5 [hDx5 : Cert.Dx5.Facts] : Prop :=
  ∀ (m : (ℓ : Loc Cert.Dx5.nD Cert.Dx5.τ Cert.Dx5.sig) → Buf (Elt Bits) ℓ) (g : Dev Cert.Dx5.nD → PrngReg), Pre_Dx5 m →
    θ_run (Cert.Dx5.defs (F := Bits)) (onTc (τ := Cert.Dx5.τ) (Cert.Dx5.main (F := Bits))) ⟨m, fun _ => 0, g⟩ (fun r => (∀ c : Dev Cert.Dx5.nD,
      r.2.mem ((c.tc : Thread Cert.Dx5.nD Cert.Dx5.τ).loc Cert.Dx5.main_arg0) = m ((c.tc : Thread Cert.Dx5.nD Cert.Dx5.τ).loc Cert.Dx5.main_arg0)
      ∧ r.2.mem ((c.tc : Thread Cert.Dx5.nD Cert.Dx5.τ).loc Cert.Dx5.main_arg1) = m ((c.tc : Thread Cert.Dx5.nD Cert.Dx5.τ).loc Cert.Dx5.main_arg1))
      ∧ r.2.sem = fun _ => 0)

def quiescent_Dx5Ideal [hDx5Ideal : Cert.Dx5Ideal.Facts] : Prop :=
  ∀ (m : (ℓ : Loc Cert.Dx5Ideal.nD Cert.Dx5Ideal.τ Cert.Dx5Ideal.sig) → Buf (Elt Ideal) ℓ) (g : Dev Cert.Dx5Ideal.nD → PrngReg), Pre_Dx5Ideal m →
    θ_run (Cert.Dx5Ideal.defs (F := Ideal)) (onTc (τ := Cert.Dx5Ideal.τ) (Cert.Dx5Ideal.main (F := Ideal))) ⟨m, fun _ => 0, g⟩ (fun r => (∀ c : Dev Cert.Dx5Ideal.nD,
      r.2.mem ((c.tc : Thread Cert.Dx5Ideal.nD Cert.Dx5Ideal.τ).loc Cert.Dx5Ideal.main_arg0) = m ((c.tc : Thread Cert.Dx5Ideal.nD Cert.Dx5Ideal.τ).loc Cert.Dx5Ideal.main_arg0)
      ∧ r.2.mem ((c.tc : Thread Cert.Dx5Ideal.nD Cert.Dx5Ideal.τ).loc Cert.Dx5Ideal.main_arg1) = m ((c.tc : Thread Cert.Dx5Ideal.nD Cert.Dx5Ideal.τ).loc Cert.Dx5Ideal.main_arg1))
      ∧ r.2.sem = fun _ => 0)

def quiescent_DxRef5Ideal [hDxRef5Ideal : Cert.DxRef5Ideal.Facts] : Prop :=
  ∀ (m : (ℓ : Loc Cert.DxRef5Ideal.nD Cert.DxRef5Ideal.τ Cert.DxRef5Ideal.sig) → Buf (Elt Ideal) ℓ) (g : Dev Cert.DxRef5Ideal.nD → PrngReg), Pre_DxRef5Ideal m →
    θ_run (Cert.DxRef5Ideal.defs (F := Ideal)) (onTc (τ := Cert.DxRef5Ideal.τ) (Cert.DxRef5Ideal.main (F := Ideal))) ⟨m, fun _ => 0, g⟩ (fun r => (∀ c : Dev Cert.DxRef5Ideal.nD,
      r.2.mem ((c.tc : Thread Cert.DxRef5Ideal.nD Cert.DxRef5Ideal.τ).loc Cert.DxRef5Ideal.main_arg0) = m ((c.tc : Thread Cert.DxRef5Ideal.nD Cert.DxRef5Ideal.τ).loc Cert.DxRef5Ideal.main_arg0)
      ∧ r.2.mem ((c.tc : Thread Cert.DxRef5Ideal.nD Cert.DxRef5Ideal.τ).loc Cert.DxRef5Ideal.main_arg1) = m ((c.tc : Thread Cert.DxRef5Ideal.nD Cert.DxRef5Ideal.τ).loc Cert.DxRef5Ideal.main_arg1))
      ∧ r.2.sem = fun _ => 0)

def quiescent_Dx6 [hDx6 : Cert.Dx6.Facts] : Prop :=
  ∀ (m : (ℓ : Loc Cert.Dx6.nD Cert.Dx6.τ Cert.Dx6.sig) → Buf (Elt Bits) ℓ) (g : Dev Cert.Dx6.nD → PrngReg), Pre_Dx6 m →
    θ_run (Cert.Dx6.defs (F := Bits)) (onTc (τ := Cert.Dx6.τ) (Cert.Dx6.main (F := Bits))) ⟨m, fun _ => 0, g⟩ (fun r => (∀ c : Dev Cert.Dx6.nD,
      r.2.mem ((c.tc : Thread Cert.Dx6.nD Cert.Dx6.τ).loc Cert.Dx6.main_arg0) = m ((c.tc : Thread Cert.Dx6.nD Cert.Dx6.τ).loc Cert.Dx6.main_arg0)
      ∧ r.2.mem ((c.tc : Thread Cert.Dx6.nD Cert.Dx6.τ).loc Cert.Dx6.main_arg1) = m ((c.tc : Thread Cert.Dx6.nD Cert.Dx6.τ).loc Cert.Dx6.main_arg1))
      ∧ r.2.sem = fun _ => 0)

def quiescent_Dx6Ideal [hDx6Ideal : Cert.Dx6Ideal.Facts] : Prop :=
  ∀ (m : (ℓ : Loc Cert.Dx6Ideal.nD Cert.Dx6Ideal.τ Cert.Dx6Ideal.sig) → Buf (Elt Ideal) ℓ) (g : Dev Cert.Dx6Ideal.nD → PrngReg), Pre_Dx6Ideal m →
    θ_run (Cert.Dx6Ideal.defs (F := Ideal)) (onTc (τ := Cert.Dx6Ideal.τ) (Cert.Dx6Ideal.main (F := Ideal))) ⟨m, fun _ => 0, g⟩ (fun r => (∀ c : Dev Cert.Dx6Ideal.nD,
      r.2.mem ((c.tc : Thread Cert.Dx6Ideal.nD Cert.Dx6Ideal.τ).loc Cert.Dx6Ideal.main_arg0) = m ((c.tc : Thread Cert.Dx6Ideal.nD Cert.Dx6Ideal.τ).loc Cert.Dx6Ideal.main_arg0)
      ∧ r.2.mem ((c.tc : Thread Cert.Dx6Ideal.nD Cert.Dx6Ideal.τ).loc Cert.Dx6Ideal.main_arg1) = m ((c.tc : Thread Cert.Dx6Ideal.nD Cert.Dx6Ideal.τ).loc Cert.Dx6Ideal.main_arg1))
      ∧ r.2.sem = fun _ => 0)

def quiescent_DxRef6Ideal [hDxRef6Ideal : Cert.DxRef6Ideal.Facts] : Prop :=
  ∀ (m : (ℓ : Loc Cert.DxRef6Ideal.nD Cert.DxRef6Ideal.τ Cert.DxRef6Ideal.sig) → Buf (Elt Ideal) ℓ) (g : Dev Cert.DxRef6Ideal.nD → PrngReg), Pre_DxRef6Ideal m →
    θ_run (Cert.DxRef6Ideal.defs (F := Ideal)) (onTc (τ := Cert.DxRef6Ideal.τ) (Cert.DxRef6Ideal.main (F := Ideal))) ⟨m, fun _ => 0, g⟩ (fun r => (∀ c : Dev Cert.DxRef6Ideal.nD,
      r.2.mem ((c.tc : Thread Cert.DxRef6Ideal.nD Cert.DxRef6Ideal.τ).loc Cert.DxRef6Ideal.main_arg0) = m ((c.tc : Thread Cert.DxRef6Ideal.nD Cert.DxRef6Ideal.τ).loc Cert.DxRef6Ideal.main_arg0)
      ∧ r.2.mem ((c.tc : Thread Cert.DxRef6Ideal.nD Cert.DxRef6Ideal.τ).loc Cert.DxRef6Ideal.main_arg1) = m ((c.tc : Thread Cert.DxRef6Ideal.nD Cert.DxRef6Ideal.τ).loc Cert.DxRef6Ideal.main_arg1))
      ∧ r.2.sem = fun _ => 0)

def quiescent_Dw0 [hDw0 : Cert.Dw0.Facts] : Prop :=
  ∀ (m : (ℓ : Loc Cert.Dw0.nD Cert.Dw0.τ Cert.Dw0.sig) → Buf (Elt Bits) ℓ) (g : Dev Cert.Dw0.nD → PrngReg), Pre_Dw0 m →
    θ_run (Cert.Dw0.defs (F := Bits)) (onTc (τ := Cert.Dw0.τ) (Cert.Dw0.main (F := Bits))) ⟨m, fun _ => 0, g⟩ (fun r => (∀ c : Dev Cert.Dw0.nD,
      r.2.mem ((c.tc : Thread Cert.Dw0.nD Cert.Dw0.τ).loc Cert.Dw0.main_arg0) = m ((c.tc : Thread Cert.Dw0.nD Cert.Dw0.τ).loc Cert.Dw0.main_arg0)
      ∧ r.2.mem ((c.tc : Thread Cert.Dw0.nD Cert.Dw0.τ).loc Cert.Dw0.main_arg1) = m ((c.tc : Thread Cert.Dw0.nD Cert.Dw0.τ).loc Cert.Dw0.main_arg1))
      ∧ r.2.sem = fun _ => 0)

def quiescent_Dw0Ideal [hDw0Ideal : Cert.Dw0Ideal.Facts] : Prop :=
  ∀ (m : (ℓ : Loc Cert.Dw0Ideal.nD Cert.Dw0Ideal.τ Cert.Dw0Ideal.sig) → Buf (Elt Ideal) ℓ) (g : Dev Cert.Dw0Ideal.nD → PrngReg), Pre_Dw0Ideal m →
    θ_run (Cert.Dw0Ideal.defs (F := Ideal)) (onTc (τ := Cert.Dw0Ideal.τ) (Cert.Dw0Ideal.main (F := Ideal))) ⟨m, fun _ => 0, g⟩ (fun r => (∀ c : Dev Cert.Dw0Ideal.nD,
      r.2.mem ((c.tc : Thread Cert.Dw0Ideal.nD Cert.Dw0Ideal.τ).loc Cert.Dw0Ideal.main_arg0) = m ((c.tc : Thread Cert.Dw0Ideal.nD Cert.Dw0Ideal.τ).loc Cert.Dw0Ideal.main_arg0)
      ∧ r.2.mem ((c.tc : Thread Cert.Dw0Ideal.nD Cert.Dw0Ideal.τ).loc Cert.Dw0Ideal.main_arg1) = m ((c.tc : Thread Cert.Dw0Ideal.nD Cert.Dw0Ideal.τ).loc Cert.Dw0Ideal.main_arg1))
      ∧ r.2.sem = fun _ => 0)

def quiescent_DwRef0Ideal [hDwRef0Ideal : Cert.DwRef0Ideal.Facts] : Prop :=
  ∀ (m : (ℓ : Loc Cert.DwRef0Ideal.nD Cert.DwRef0Ideal.τ Cert.DwRef0Ideal.sig) → Buf (Elt Ideal) ℓ) (g : Dev Cert.DwRef0Ideal.nD → PrngReg), Pre_DwRef0Ideal m →
    θ_run (Cert.DwRef0Ideal.defs (F := Ideal)) (onTc (τ := Cert.DwRef0Ideal.τ) (Cert.DwRef0Ideal.main (F := Ideal))) ⟨m, fun _ => 0, g⟩ (fun r => (∀ c : Dev Cert.DwRef0Ideal.nD,
      r.2.mem ((c.tc : Thread Cert.DwRef0Ideal.nD Cert.DwRef0Ideal.τ).loc Cert.DwRef0Ideal.main_arg0) = m ((c.tc : Thread Cert.DwRef0Ideal.nD Cert.DwRef0Ideal.τ).loc Cert.DwRef0Ideal.main_arg0)
      ∧ r.2.mem ((c.tc : Thread Cert.DwRef0Ideal.nD Cert.DwRef0Ideal.τ).loc Cert.DwRef0Ideal.main_arg1) = m ((c.tc : Thread Cert.DwRef0Ideal.nD Cert.DwRef0Ideal.τ).loc Cert.DwRef0Ideal.main_arg1))
      ∧ r.2.sem = fun _ => 0)

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ r.2.sem = fun _ => 0)

def quiescent_DwRef1Ideal [hDwRef1Ideal : Cert.DwRef1Ideal.Facts] : Prop :=
  ∀ (m : (ℓ : Loc Cert.DwRef1Ideal.nD Cert.DwRef1Ideal.τ Cert.DwRef1Ideal.sig) → Buf (Elt Ideal) ℓ) (g : Dev Cert.DwRef1Ideal.nD → PrngReg), Pre_DwRef1Ideal m →
    θ_run (Cert.DwRef1Ideal.defs (F := Ideal)) (onTc (τ := Cert.DwRef1Ideal.τ) (Cert.DwRef1Ideal.main (F := Ideal))) ⟨m, fun _ => 0, g⟩ (fun r => (∀ c : Dev Cert.DwRef1Ideal.nD,
      r.2.mem ((c.tc : Thread Cert.DwRef1Ideal.nD Cert.DwRef1Ideal.τ).loc Cert.DwRef1Ideal.main_arg0) = m ((c.tc : Thread Cert.DwRef1Ideal.nD Cert.DwRef1Ideal.τ).loc Cert.DwRef1Ideal.main_arg0)
      ∧ r.2.mem ((c.tc : Thread Cert.DwRef1Ideal.nD Cert.DwRef1Ideal.τ).loc Cert.DwRef1Ideal.main_arg1) = m ((c.tc : Thread Cert.DwRef1Ideal.nD Cert.DwRef1Ideal.τ).loc Cert.DwRef1Ideal.main_arg1))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ r.2.sem = fun _ => 0)

def quiescent_DwRef2Ideal [hDwRef2Ideal : Cert.DwRef2Ideal.Facts] : Prop :=
  ∀ (m : (ℓ : Loc Cert.DwRef2Ideal.nD Cert.DwRef2Ideal.τ Cert.DwRef2Ideal.sig) → Buf (Elt Ideal) ℓ) (g : Dev Cert.DwRef2Ideal.nD → PrngReg), Pre_DwRef2Ideal m →
    θ_run (Cert.DwRef2Ideal.defs (F := Ideal)) (onTc (τ := Cert.DwRef2Ideal.τ) (Cert.DwRef2Ideal.main (F := Ideal))) ⟨m, fun _ => 0, g⟩ (fun r => (∀ c : Dev Cert.DwRef2Ideal.nD,
      r.2.mem ((c.tc : Thread Cert.DwRef2Ideal.nD Cert.DwRef2Ideal.τ).loc Cert.DwRef2Ideal.main_arg0) = m ((c.tc : Thread Cert.DwRef2Ideal.nD Cert.DwRef2Ideal.τ).loc Cert.DwRef2Ideal.main_arg0)
      ∧ r.2.mem ((c.tc : Thread Cert.DwRef2Ideal.nD Cert.DwRef2Ideal.τ).loc Cert.DwRef2Ideal.main_arg1) = m ((c.tc : Thread Cert.DwRef2Ideal.nD Cert.DwRef2Ideal.τ).loc Cert.DwRef2Ideal.main_arg1))
      ∧ r.2.sem = fun _ => 0)

def quiescent_Dw3 [hDw3 : Cert.Dw3.Facts] : Prop :=
  ∀ (m : (ℓ : Loc Cert.Dw3.nD Cert.Dw3.τ Cert.Dw3.sig) → Buf (Elt Bits) ℓ) (g : Dev Cert.Dw3.nD → PrngReg), Pre_Dw3 m →
    θ_run (Cert.Dw3.defs (F := Bits)) (onTc (τ := Cert.Dw3.τ) (Cert.Dw3.main (F := Bits))) ⟨m, fun _ => 0, g⟩ (fun r => (∀ c : Dev Cert.Dw3.nD,
      r.2.mem ((c.tc : Thread Cert.Dw3.nD Cert.Dw3.τ).loc Cert.Dw3.main_arg0) = m ((c.tc : Thread Cert.Dw3.nD Cert.Dw3.τ).loc Cert.Dw3.main_arg0)
      ∧ r.2.mem ((c.tc : Thread Cert.Dw3.nD Cert.Dw3.τ).loc Cert.Dw3.main_arg1) = m ((c.tc : Thread Cert.Dw3.nD Cert.Dw3.τ).loc Cert.Dw3.main_arg1))
      ∧ r.2.sem = fun _ => 0)

def quiescent_Dw3Ideal [hDw3Ideal : Cert.Dw3Ideal.Facts] : Prop :=
  ∀ (m : (ℓ : Loc Cert.Dw3Ideal.nD Cert.Dw3Ideal.τ Cert.Dw3Ideal.sig) → Buf (Elt Ideal) ℓ) (g : Dev Cert.Dw3Ideal.nD → PrngReg), Pre_Dw3Ideal m →
    θ_run (Cert.Dw3Ideal.defs (F := Ideal)) (onTc (τ := Cert.Dw3Ideal.τ) (Cert.Dw3Ideal.main (F := Ideal))) ⟨m, fun _ => 0, g⟩ (fun r => (∀ c : Dev Cert.Dw3Ideal.nD,
      r.2.mem ((c.tc : Thread Cert.Dw3Ideal.nD Cert.Dw3Ideal.τ).loc Cert.Dw3Ideal.main_arg0) = m ((c.tc : Thread Cert.Dw3Ideal.nD Cert.Dw3Ideal.τ).loc Cert.Dw3Ideal.main_arg0)
      ∧ r.2.mem ((c.tc : Thread Cert.Dw3Ideal.nD Cert.Dw3Ideal.τ).loc Cert.Dw3Ideal.main_arg1) = m ((c.tc : Thread Cert.Dw3Ideal.nD Cert.Dw3Ideal.τ).loc Cert.Dw3Ideal.main_arg1))
      ∧ r.2.sem = fun _ => 0)

def quiescent_DwRef3Ideal [hDwRef3Ideal : Cert.DwRef3Ideal.Facts] : Prop :=
  ∀ (m : (ℓ : Loc Cert.DwRef3Ideal.nD Cert.DwRef3Ideal.τ Cert.DwRef3Ideal.sig) → Buf (Elt Ideal) ℓ) (g : Dev Cert.DwRef3Ideal.nD → PrngReg), Pre_DwRef3Ideal m →
    θ_run (Cert.DwRef3Ideal.defs (F := Ideal)) (onTc (τ := Cert.DwRef3Ideal.τ) (Cert.DwRef3Ideal.main (F := Ideal))) ⟨m, fun _ => 0, g⟩ (fun r => (∀ c : Dev Cert.DwRef3Ideal.nD,
      r.2.mem ((c.tc : Thread Cert.DwRef3Ideal.nD Cert.DwRef3Ideal.τ).loc Cert.DwRef3Ideal.main_arg0) = m ((c.tc : Thread Cert.DwRef3Ideal.nD Cert.DwRef3Ideal.τ).loc Cert.DwRef3Ideal.main_arg0)
      ∧ r.2.mem ((c.tc : Thread Cert.DwRef3Ideal.nD Cert.DwRef3Ideal.τ).loc Cert.DwRef3Ideal.main_arg1) = m ((c.tc : Thread Cert.DwRef3Ideal.nD Cert.DwRef3Ideal.τ).loc Cert.DwRef3Ideal.main_arg1))
      ∧ r.2.sem = fun _ => 0)

def quiescent_Dw4 [hDw4 : Cert.Dw4.Facts] : Prop :=
  ∀ (m : (ℓ : Loc Cert.Dw4.nD Cert.Dw4.τ Cert.Dw4.sig) → Buf (Elt Bits) ℓ) (g : Dev Cert.Dw4.nD → PrngReg), Pre_Dw4 m →
    θ_run (Cert.Dw4.defs (F := Bits)) (onTc (τ := Cert.Dw4.τ) (Cert.Dw4.main (F := Bits))) ⟨m, fun _ => 0, g⟩ (fun r => (∀ c : Dev Cert.Dw4.nD,
      r.2.mem ((c.tc : Thread Cert.Dw4.nD Cert.Dw4.τ).loc Cert.Dw4.main_arg0) = m ((c.tc : Thread Cert.Dw4.nD Cert.Dw4.τ).loc Cert.Dw4.main_arg0)
      ∧ r.2.mem ((c.tc : Thread Cert.Dw4.nD Cert.Dw4.τ).loc Cert.Dw4.main_arg1) = m ((c.tc : Thread Cert.Dw4.nD Cert.Dw4.τ).loc Cert.Dw4.main_arg1))
      ∧ r.2.sem = fun _ => 0)

def quiescent_Dw4Ideal [hDw4Ideal : Cert.Dw4Ideal.Facts] : Prop :=
  ∀ (m : (ℓ : Loc Cert.Dw4Ideal.nD Cert.Dw4Ideal.τ Cert.Dw4Ideal.sig) → Buf (Elt Ideal) ℓ) (g : Dev Cert.Dw4Ideal.nD → PrngReg), Pre_Dw4Ideal m →
    θ_run (Cert.Dw4Ideal.defs (F := Ideal)) (onTc (τ := Cert.Dw4Ideal.τ) (Cert.Dw4Ideal.main (F := Ideal))) ⟨m, fun _ => 0, g⟩ (fun r => (∀ c : Dev Cert.Dw4Ideal.nD,
      r.2.mem ((c.tc : Thread Cert.Dw4Ideal.nD Cert.Dw4Ideal.τ).loc Cert.Dw4Ideal.main_arg0) = m ((c.tc : Thread Cert.Dw4Ideal.nD Cert.Dw4Ideal.τ).loc Cert.Dw4Ideal.main_arg0)
      ∧ r.2.mem ((c.tc : Thread Cert.Dw4Ideal.nD Cert.Dw4Ideal.τ).loc Cert.Dw4Ideal.main_arg1) = m ((c.tc : Thread Cert.Dw4Ideal.nD Cert.Dw4Ideal.τ).loc Cert.Dw4Ideal.main_arg1))
      ∧ r.2.sem = fun _ => 0)

def quiescent_DwRef4Ideal [hDwRef4Ideal : Cert.DwRef4Ideal.Facts] : Prop :=
  ∀ (m : (ℓ : Loc Cert.DwRef4Ideal.nD Cert.DwRef4Ideal.τ Cert.DwRef4Ideal.sig) → Buf (Elt Ideal) ℓ) (g : Dev Cert.DwRef4Ideal.nD → PrngReg), Pre_DwRef4Ideal m →
    θ_run (Cert.DwRef4Ideal.defs (F := Ideal)) (onTc (τ := Cert.DwRef4Ideal.τ) (Cert.DwRef4Ideal.main (F := Ideal))) ⟨m, fun _ => 0, g⟩ (fun r => (∀ c : Dev Cert.DwRef4Ideal.nD,
      r.2.mem ((c.tc : Thread Cert.DwRef4Ideal.nD Cert.DwRef4Ideal.τ).loc Cert.DwRef4Ideal.main_arg0) = m ((c.tc : Thread Cert.DwRef4Ideal.nD Cert.DwRef4Ideal.τ).loc Cert.DwRef4Ideal.main_arg0)
      ∧ r.2.mem ((c.tc : Thread Cert.DwRef4Ideal.nD Cert.DwRef4Ideal.τ).loc Cert.DwRef4Ideal.main_arg1) = m ((c.tc : Thread Cert.DwRef4Ideal.nD Cert.DwRef4Ideal.τ).loc Cert.DwRef4Ideal.main_arg1))
      ∧ r.2.sem = fun _ => 0)

def quiescent_Dw5 [hDw5 : Cert.Dw5.Facts] : Prop :=
  ∀ (m : (ℓ : Loc Cert.Dw5.nD Cert.Dw5.τ Cert.Dw5.sig) → Buf (Elt Bits) ℓ) (g : Dev Cert.Dw5.nD → PrngReg), Pre_Dw5 m →
    θ_run (Cert.Dw5.defs (F := Bits)) (onTc (τ := Cert.Dw5.τ) (Cert.Dw5.main (F := Bits))) ⟨m, fun _ => 0, g⟩ (fun r => (∀ c : Dev Cert.Dw5.nD,
      r.2.mem ((c.tc : Thread Cert.Dw5.nD Cert.Dw5.τ).loc Cert.Dw5.main_arg0) = m ((c.tc : Thread Cert.Dw5.nD Cert.Dw5.τ).loc Cert.Dw5.main_arg0)
      ∧ r.2.mem ((c.tc : Thread Cert.Dw5.nD Cert.Dw5.τ).loc Cert.Dw5.main_arg1) = m ((c.tc : Thread Cert.Dw5.nD Cert.Dw5.τ).loc Cert.Dw5.main_arg1))
      ∧ r.2.sem = fun _ => 0)

def quiescent_Dw5Ideal [hDw5Ideal : Cert.Dw5Ideal.Facts] : Prop :=
  ∀ (m : (ℓ : Loc Cert.Dw5Ideal.nD Cert.Dw5Ideal.τ Cert.Dw5Ideal.sig) → Buf (Elt Ideal) ℓ) (g : Dev Cert.Dw5Ideal.nD → PrngReg), Pre_Dw5Ideal m →
    θ_run (Cert.Dw5Ideal.defs (F := Ideal)) (onTc (τ := Cert.Dw5Ideal.τ) (Cert.Dw5Ideal.main (F := Ideal))) ⟨m, fun _ => 0, g⟩ (fun r => (∀ c : Dev Cert.Dw5Ideal.nD,
      r.2.mem ((c.tc : Thread Cert.Dw5Ideal.nD Cert.Dw5Ideal.τ).loc Cert.Dw5Ideal.main_arg0) = m ((c.tc : Thread Cert.Dw5Ideal.nD Cert.Dw5Ideal.τ).loc Cert.Dw5Ideal.main_arg0)
      ∧ r.2.mem ((c.tc : Thread Cert.Dw5Ideal.nD Cert.Dw5Ideal.τ).loc Cert.Dw5Ideal.main_arg1) = m ((c.tc : Thread Cert.Dw5Ideal.nD Cert.Dw5Ideal.τ).loc Cert.Dw5Ideal.main_arg1))
      ∧ r.2.sem = fun _ => 0)

def quiescent_DwRef5Ideal [hDwRef5Ideal : Cert.DwRef5Ideal.Facts] : Prop :=
  ∀ (m : (ℓ : Loc Cert.DwRef5Ideal.nD Cert.DwRef5Ideal.τ Cert.DwRef5Ideal.sig) → Buf (Elt Ideal) ℓ) (g : Dev Cert.DwRef5Ideal.nD → PrngReg), Pre_DwRef5Ideal m →
    θ_run (Cert.DwRef5Ideal.defs (F := Ideal)) (onTc (τ := Cert.DwRef5Ideal.τ) (Cert.DwRef5Ideal.main (F := Ideal))) ⟨m, fun _ => 0, g⟩ (fun r => (∀ c : Dev Cert.DwRef5Ideal.nD,
      r.2.mem ((c.tc : Thread Cert.DwRef5Ideal.nD Cert.DwRef5Ideal.τ).loc Cert.DwRef5Ideal.main_arg0) = m ((c.tc : Thread Cert.DwRef5Ideal.nD Cert.DwRef5Ideal.τ).loc Cert.DwRef5Ideal.main_arg0)
      ∧ r.2.mem ((c.tc : Thread Cert.DwRef5Ideal.nD Cert.DwRef5Ideal.τ).loc Cert.DwRef5Ideal.main_arg1) = m ((c.tc : Thread Cert.DwRef5Ideal.nD Cert.DwRef5Ideal.τ).loc Cert.DwRef5Ideal.main_arg1))
      ∧ r.2.sem = fun _ => 0)

def quiescent_Dw6 [hDw6 : Cert.Dw6.Facts] : Prop :=
  ∀ (m : (ℓ : Loc Cert.Dw6.nD Cert.Dw6.τ Cert.Dw6.sig) → Buf (Elt Bits) ℓ) (g : Dev Cert.Dw6.nD → PrngReg), Pre_Dw6 m →
    θ_run (Cert.Dw6.defs (F := Bits)) (onTc (τ := Cert.Dw6.τ) (Cert.Dw6.main (F := Bits))) ⟨m, fun _ => 0, g⟩ (fun r => (∀ c : Dev Cert.Dw6.nD,
      r.2.mem ((c.tc : Thread Cert.Dw6.nD Cert.Dw6.τ).loc Cert.Dw6.main_arg0) = m ((c.tc : Thread Cert.Dw6.nD Cert.Dw6.τ).loc Cert.Dw6.main_arg0)
      ∧ r.2.mem ((c.tc : Thread Cert.Dw6.nD Cert.Dw6.τ).loc Cert.Dw6.main_arg1) = m ((c.tc : Thread Cert.Dw6.nD Cert.Dw6.τ).loc Cert.Dw6.main_arg1))
      ∧ r.2.sem = fun _ => 0)

def quiescent_Dw6Ideal [hDw6Ideal : Cert.Dw6Ideal.Facts] : Prop :=
  ∀ (m : (ℓ : Loc Cert.Dw6Ideal.nD Cert.Dw6Ideal.τ Cert.Dw6Ideal.sig) → Buf (Elt Ideal) ℓ) (g : Dev Cert.Dw6Ideal.nD → PrngReg), Pre_Dw6Ideal m →
    θ_run (Cert.Dw6Ideal.defs (F := Ideal)) (onTc (τ := Cert.Dw6Ideal.τ) (Cert.Dw6Ideal.main (F := Ideal))) ⟨m, fun _ => 0, g⟩ (fun r => (∀ c : Dev Cert.Dw6Ideal.nD,
      r.2.mem ((c.tc : Thread Cert.Dw6Ideal.nD Cert.Dw6Ideal.τ).loc Cert.Dw6Ideal.main_arg0) = m ((c.tc : Thread Cert.Dw6Ideal.nD Cert.Dw6Ideal.τ).loc Cert.Dw6Ideal.main_arg0)
      ∧ r.2.mem ((c.tc : Thread Cert.Dw6Ideal.nD Cert.Dw6Ideal.τ).loc Cert.Dw6Ideal.main_arg1) = m ((c.tc : Thread Cert.Dw6Ideal.nD Cert.Dw6Ideal.τ).loc Cert.Dw6Ideal.main_arg1))
      ∧ r.2.sem = fun _ => 0)

def quiescent_DwRef6Ideal [hDwRef6Ideal : Cert.DwRef6Ideal.Facts] : Prop :=
  ∀ (m : (ℓ : Loc Cert.DwRef6Ideal.nD Cert.DwRef6Ideal.τ Cert.DwRef6Ideal.sig) → Buf (Elt Ideal) ℓ) (g : Dev Cert.DwRef6Ideal.nD → PrngReg), Pre_DwRef6Ideal m →
    θ_run (Cert.DwRef6Ideal.defs (F := Ideal)) (onTc (τ := Cert.DwRef6Ideal.τ) (Cert.DwRef6Ideal.main (F := Ideal))) ⟨m, fun _ => 0, g⟩ (fun r => (∀ c : Dev Cert.DwRef6Ideal.nD,
      r.2.mem ((c.tc : Thread Cert.DwRef6Ideal.nD Cert.DwRef6Ideal.τ).loc Cert.DwRef6Ideal.main_arg0) = m ((c.tc : Thread Cert.DwRef6Ideal.nD Cert.DwRef6Ideal.τ).loc Cert.DwRef6Ideal.main_arg0)
      ∧ r.2.mem ((c.tc : Thread Cert.DwRef6Ideal.nD Cert.DwRef6Ideal.τ).loc Cert.DwRef6Ideal.main_arg1) = m ((c.tc : Thread Cert.DwRef6Ideal.nD Cert.DwRef6Ideal.τ).loc Cert.DwRef6Ideal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![13824, 512]⟩ ⟨2, ![110592, 512]⟩ 0 8 c (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![13824, 512]⟩ ⟨2, ![110592, 512]⟩ 0 8 c (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![8, 13824, 512]⟩ ⟨3, ![64, 13824, 512]⟩ 0 8 c (m' (((0 : Dev Cert.ScatterRefIdeal.nD).tc : Thread Cert.ScatterRefIdeal.nD Cert.ScatterRefIdeal.τ).loc Cert.ScatterRefIdeal.main_arg0))) →
    ∃ (v0 : Buf (Elt Ideal) (((0 : Dev Cert.ScatterRefIdeal.nD).tc : Thread Cert.ScatterRefIdeal.nD Cert.ScatterRefIdeal.τ).loc Cert.ScatterRefIdeal.main_v3)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v2) = Layout.block ⟨2, ![13824, 512]⟩ ⟨2, ![110592, 512]⟩ 0 8 c v0
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v3) = v0
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0))

def preserves_Gather1_Gather1Ideal : Prop :=
  True

def algebraic_Gather1Ideal_GatherRef1Ideal [hGather1Ideal : Cert.Gather1Ideal.Facts] [hGatherRef1Ideal : Cert.GatherRef1Ideal.Facts] : Prop :=
  ∀ (m : (ℓ : Loc Cert.Gather1Ideal.nD Cert.Gather1Ideal.τ Cert.Gather1Ideal.sig) → Buf (Elt Ideal) ℓ) (g : Dev Cert.Gather1Ideal.nD → PrngReg)
    (m' : (ℓ : Loc Cert.GatherRef1Ideal.nD Cert.GatherRef1Ideal.τ Cert.GatherRef1Ideal.sig) → Buf (Elt Ideal) ℓ) (g' : Dev Cert.GatherRef1Ideal.nD → PrngReg), Pre_Gather1Ideal m →
    (∀ c : Dev Cert.Gather1Ideal.nD,
      m ((c.tc : Thread Cert.Gather1Ideal.nD Cert.Gather1Ideal.τ).loc Cert.Gather1Ideal.main_arg0) = Layout.block ⟨2, ![11264, 512]⟩ ⟨2, ![90112, 512]⟩ 0 8 c (m' (((0 : Dev Cert.GatherRef1Ideal.nD).tc : Thread Cert.GatherRef1Ideal.nD Cert.GatherRef1Ideal.τ).loc Cert.GatherRef1Ideal.main_arg0))) →
    ∃ (v0 : Buf (Elt Ideal) (((0 : Dev Cert.GatherRef1Ideal.nD).tc : Thread Cert.GatherRef1Ideal.nD Cert.GatherRef1Ideal.τ).loc Cert.GatherRef1Ideal.main_v0)),
      θ_run (Cert.Gather1Ideal.defs (F := Ideal)) (onTc (τ := Cert.Gather1Ideal.τ) (Cert.Gather1Ideal.main (F := Ideal))) ⟨m, fun _ => 0, g⟩ (fun r => ∀ c : Dev Cert.Gather1Ideal.nD,
          r.2.mem ((c.tc : Thread Cert.Gather1Ideal.nD Cert.Gather1Ideal.τ).loc Cert.Gather1Ideal.main_v1) = v0
          ∧ r.2.mem ((c.tc : Thread Cert.Gather1Ideal.nD Cert.Gather1Ideal.τ).loc Cert.Gather1Ideal.main_arg0) = m ((c.tc : Thread Cert.Gather1Ideal.nD Cert.Gather1Ideal.τ).loc Cert.Gather1Ideal.main_arg0))
      ∧ θ_run (Cert.GatherRef1Ideal.defs (F := Ideal)) (onTc (τ := Cert.GatherRef1Ideal.τ) (Cert.GatherRef1Ideal.main (F := Ideal))) ⟨m', fun _ => 0, g'⟩ (fun r =>
          r.2.mem (((0 : Dev Cert.GatherRef1Ideal.nD).tc : Thread Cert.GatherRef1Ideal.nD Cert.GatherRef1Ideal.τ).loc Cert.GatherRef1Ideal.main_v0) = v0
          ∧ r.2.mem (((0 : Dev Cert.GatherRef1Ideal.nD).tc : Thread Cert.GatherRef1Ideal.nD Cert.GatherRef1Ideal.τ).loc Cert.GatherRef1Ideal.main_arg0) = m' (((0 : Dev Cert.GatherRef1Ideal.nD).tc : Thread Cert.GatherRef1Ideal.nD Cert.GatherRef1Ideal.τ).loc Cert.GatherRef1Ideal.main_arg0))

def bitexact_Gather1_GatherRef1 [hGather1 : Cert.Gather1.Facts] [hGatherRef1 : Cert.GatherRef1.Facts] : Prop :=
  ∀ (m : (ℓ : Loc Cert.Gather1.nD Cert.Gather1.τ Cert.Gather1.sig) → Buf (Elt Bits) ℓ) (g : Dev Cert.Gather1.nD → PrngReg)
    (m' : (ℓ : Loc Cert.GatherRef1.nD Cert.GatherRef1.τ Cert.GatherRef1.sig) → Buf (Elt Bits) ℓ) (g' : Dev Cert.GatherRef1.nD → PrngReg), Pre_Gather1 m →
    (∀ c : Dev Cert.Gather1.nD,
      m ((c.tc : Thread Cert.Gather1.nD Cert.Gather1.τ).loc Cert.Gather1.main_arg0) = Layout.block ⟨2, ![11264, 512]⟩ ⟨2, ![90112, 512]⟩ 0 8 c (m' (((0 : Dev Cert.GatherRef1.nD).tc : Thread Cert.GatherRef1.nD Cert.GatherRef1.τ).loc Cert.GatherRef1.main_arg0))) →
    ∃ (v0 : Buf (Elt Bits) (((0 : Dev Cert.GatherRef1.nD).tc : Thread Cert.GatherRef1.nD Cert.GatherRef1.τ).loc Cert.GatherRef1.main_v0)),
      θ_run (Cert.Gather1.defs (F := Bits)) (onTc (τ := Cert.Gather1.τ) (Cert.Gather1.main (F := Bits))) ⟨m, fun _ => 0, g⟩ (fun r => ∀ c : Dev Cert.Gather1.nD,
          r.2.mem ((c.tc : Thread Cert.Gather1.nD Cert.Gather1.τ).loc Cert.Gather1.main_v1) = v0
          ∧ r.2.mem ((c.tc : Thread Cert.Gather1.nD Cert.Gather1.τ).loc Cert.Gather1.main_arg0) = m ((c.tc : Thread Cert.Gather1.nD Cert.Gather1.τ).loc Cert.Gather1.main_arg0))
      ∧ θ_run (Cert.GatherRef1.defs (F := Bits)) (onTc (τ := Cert.GatherRef1.τ) (Cert.GatherRef1.main (F := Bits))) ⟨m', fun _ => 0, g'⟩ (fun r =>
          r.2.mem (((0 : Dev Cert.GatherRef1.nD).tc : Thread Cert.GatherRef1.nD Cert.GatherRef1.τ).loc Cert.GatherRef1.main_v0) = v0
          ∧ r.2.mem (((0 : Dev Cert.GatherRef1.nD).tc : Thread Cert.GatherRef1.nD Cert.GatherRef1.τ).loc Cert.GatherRef1.main_arg0) = m' (((0 : Dev Cert.GatherRef1.nD).tc : Thread Cert.GatherRef1.nD Cert.GatherRef1.τ).loc Cert.GatherRef1.main_arg0))

def preserves_Scatter1_Scatter1Ideal : Prop :=
  True

def algebraic_Scatter1Ideal_ScatterRef1Ideal [hScatter1Ideal : Cert.Scatter1Ideal.Facts] [hScatterRef1Ideal : Cert.ScatterRef1Ideal.Facts] : Prop :=
  ∀ (m : (ℓ : Loc Cert.Scatter1Ideal.nD Cert.Scatter1Ideal.τ Cert.Scatter1Ideal.sig) → Buf (Elt Ideal) ℓ) (g : Dev Cert.Scatter1Ideal.nD → PrngReg)
    (m' : (ℓ : Loc Cert.ScatterRef1Ideal.nD Cert.ScatterRef1Ideal.τ Cert.ScatterRef1Ideal.sig) → Buf (Elt Ideal) ℓ) (g' : Dev Cert.ScatterRef1Ideal.nD → PrngReg), Pre_Scatter1Ideal m →
    (∀ c : Dev Cert.Scatter1Ideal.nD,
      m ((c.tc : Thread Cert.Scatter1Ideal.nD Cert.Scatter1Ideal.τ).loc Cert.Scatter1Ideal.main_arg0) = Layout.block ⟨3, ![8, 11264, 512]⟩ ⟨3, ![64, 11264, 512]⟩ 0 8 c (m' (((0 : Dev Cert.ScatterRef1Ideal.nD).tc : Thread Cert.ScatterRef1Ideal.nD Cert.ScatterRef1Ideal.τ).loc Cert.ScatterRef1Ideal.main_arg0))) →
    ∃ (v0 : Buf (Elt Ideal) (((0 : Dev Cert.ScatterRef1Ideal.nD).tc : Thread Cert.ScatterRef1Ideal.nD Cert.ScatterRef1Ideal.τ).loc Cert.ScatterRef1Ideal.main_v3)),
      θ_run (Cert.Scatter1Ideal.defs (F := Ideal)) (onTc (τ := Cert.Scatter1Ideal.τ) (Cert.Scatter1Ideal.main (F := Ideal))) ⟨m, fun _ => 0, g⟩ (fun r => ∀ c : Dev Cert.Scatter1Ideal.nD,
          r.2.mem ((c.tc : Thread Cert.Scatter1Ideal.nD Cert.Scatter1Ideal.τ).loc Cert.Scatter1Ideal.main_v2) = Layout.block ⟨2, ![11264, 512]⟩ ⟨2, ![90112, 512]⟩ 0 8 c v0
          ∧ r.2.mem ((c.tc : Thread Cert.Scatter1Ideal.nD Cert.Scatter1Ideal.τ).loc Cert.Scatter1Ideal.main_arg0) = m ((c.tc : Thread Cert.Scatter1Ideal.nD Cert.Scatter1Ideal.τ).loc Cert.Scatter1Ideal.main_arg0))
      ∧ θ_run (Cert.ScatterRef1Ideal.defs (F := Ideal)) (onTc (τ := Cert.ScatterRef1Ideal.τ) (Cert.ScatterRef1Ideal.main (F := Ideal))) ⟨m', fun _ => 0, g'⟩ (fun r =>
          r.2.mem (((0 : Dev Cert.ScatterRef1Ideal.nD).tc : Thread Cert.ScatterRef1Ideal.nD Cert.ScatterRef1Ideal.τ).loc Cert.ScatterRef1Ideal.main_v3) = v0
          ∧ r.2.mem (((0 : Dev Cert.ScatterRef1Ideal.nD).tc : Thread Cert.ScatterRef1Ideal.nD Cert.ScatterRef1Ideal.τ).loc Cert.ScatterRef1Ideal.main_arg0) = m' (((0 : Dev Cert.ScatterRef1Ideal.nD).tc : Thread Cert.ScatterRef1Ideal.nD Cert.ScatterRef1Ideal.τ).loc Cert.ScatterRef1Ideal.main_arg0))

def preserves_Gather2_Gather2Ideal : Prop :=
  True

def algebraic_Gather2Ideal_GatherRef2Ideal [hGather2Ideal : Cert.Gather2Ideal.Facts] [hGatherRef2Ideal : Cert.GatherRef2Ideal.Facts] : Prop :=
  ∀ (m : (ℓ : Loc Cert.Gather2Ideal.nD Cert.Gather2Ideal.τ Cert.Gather2Ideal.sig) → Buf (Elt Ideal) ℓ) (g : Dev Cert.Gather2Ideal.nD → PrngReg)
    (m' : (ℓ : Loc Cert.GatherRef2Ideal.nD Cert.GatherRef2Ideal.τ Cert.GatherRef2Ideal.sig) → Buf (Elt Ideal) ℓ) (g' : Dev Cert.GatherRef2Ideal.nD → PrngReg), Pre_Gather2Ideal m →
    (∀ c : Dev Cert.Gather2Ideal.nD,
      m ((c.tc : Thread Cert.Gather2Ideal.nD Cert.Gather2Ideal.τ).loc Cert.Gather2Ideal.main_arg0) = Layout.block ⟨2, ![12800, 512]⟩ ⟨2, ![102400, 512]⟩ 0 8 c (m' (((0 : Dev Cert.GatherRef2Ideal.nD).tc : Thread Cert.GatherRef2Ideal.nD Cert.GatherRef2Ideal.τ).loc Cert.GatherRef2Ideal.main_arg0))) →
    ∃ (v0 : Buf (Elt Ideal) (((0 : Dev Cert.GatherRef2Ideal.nD).tc : Thread Cert.GatherRef2Ideal.nD Cert.GatherRef2Ideal.τ).loc Cert.GatherRef2Ideal.main_v0)),
      θ_run (Cert.Gather2Ideal.defs (F := Ideal)) (onTc (τ := Cert.Gather2Ideal.τ) (Cert.Gather2Ideal.main (F := Ideal))) ⟨m, fun _ => 0, g⟩ (fun r => ∀ c : Dev Cert.Gather2Ideal.nD,
          r.2.mem ((c.tc : Thread Cert.Gather2Ideal.nD Cert.Gather2Ideal.τ).loc Cert.Gather2Ideal.main_v1) = v0
          ∧ r.2.mem ((c.tc : Thread Cert.Gather2Ideal.nD Cert.Gather2Ideal.τ).loc Cert.Gather2Ideal.main_arg0) = m ((c.tc : Thread Cert.Gather2Ideal.nD Cert.Gather2Ideal.τ).loc Cert.Gather2Ideal.main_arg0))
      ∧ θ_run (Cert.GatherRef2Ideal.defs (F := Ideal)) (onTc (τ := Cert.GatherRef2Ideal.τ) (Cert.GatherRef2Ideal.main (F := Ideal))) ⟨m', fun _ => 0, g'⟩ (fun r =>
          r.2.mem (((0 : Dev Cert.GatherRef2Ideal.nD).tc : Thread Cert.GatherRef2Ideal.nD Cert.GatherRef2Ideal.τ).loc Cert.GatherRef2Ideal.main_v0) = v0
          ∧ r.2.mem (((0 : Dev Cert.GatherRef2Ideal.nD).tc : Thread Cert.GatherRef2Ideal.nD Cert.GatherRef2Ideal.τ).loc Cert.GatherRef2Ideal.main_arg0) = m' (((0 : Dev Cert.GatherRef2Ideal.nD).tc : Thread Cert.GatherRef2Ideal.nD Cert.GatherRef2Ideal.τ).loc Cert.GatherRef2Ideal.main_arg0))

def bitexact_Gather2_GatherRef2 [hGather2 : Cert.Gather2.Facts] [hGatherRef2 : Cert.GatherRef2.Facts] : Prop :=
  ∀ (m : (ℓ : Loc Cert.Gather2.nD Cert.Gather2.τ Cert.Gather2.sig) → Buf (Elt Bits) ℓ) (g : Dev Cert.Gather2.nD → PrngReg)
    (m' : (ℓ : Loc Cert.GatherRef2.nD Cert.GatherRef2.τ Cert.GatherRef2.sig) → Buf (Elt Bits) ℓ) (g' : Dev Cert.GatherRef2.nD → PrngReg), Pre_Gather2 m →
    (∀ c : Dev Cert.Gather2.nD,
      m ((c.tc : Thread Cert.Gather2.nD Cert.Gather2.τ).loc Cert.Gather2.main_arg0) = Layout.block ⟨2, ![12800, 512]⟩ ⟨2, ![102400, 512]⟩ 0 8 c (m' (((0 : Dev Cert.GatherRef2.nD).tc : Thread Cert.GatherRef2.nD Cert.GatherRef2.τ).loc Cert.GatherRef2.main_arg0))) →
    ∃ (v0 : Buf (Elt Bits) (((0 : Dev Cert.GatherRef2.nD).tc : Thread Cert.GatherRef2.nD Cert.GatherRef2.τ).loc Cert.GatherRef2.main_v0)),
      θ_run (Cert.Gather2.defs (F := Bits)) (onTc (τ := Cert.Gather2.τ) (Cert.Gather2.main (F := Bits))) ⟨m, fun _ => 0, g⟩ (fun r => ∀ c : Dev Cert.Gather2.nD,
          r.2.mem ((c.tc : Thread Cert.Gather2.nD Cert.Gather2.τ).loc Cert.Gather2.main_v1) = v0
          ∧ r.2.mem ((c.tc : Thread Cert.Gather2.nD Cert.Gather2.τ).loc Cert.Gather2.main_arg0) = m ((c.tc : Thread Cert.Gather2.nD Cert.Gather2.τ).loc Cert.Gather2.main_arg0))
      ∧ θ_run (Cert.GatherRef2.defs (F := Bits)) (onTc (τ := Cert.GatherRef2.τ) (Cert.GatherRef2.main (F := Bits))) ⟨m', fun _ => 0, g'⟩ (fun r =>
          r.2.mem (((0 : Dev Cert.GatherRef2.nD).tc : Thread Cert.GatherRef2.nD Cert.GatherRef2.τ).loc Cert.GatherRef2.main_v0) = v0
          ∧ r.2.mem (((0 : Dev Cert.GatherRef2.nD).tc : Thread Cert.GatherRef2.nD Cert.GatherRef2.τ).loc Cert.GatherRef2.main_arg0) = m' (((0 : Dev Cert.GatherRef2.nD).tc : Thread Cert.GatherRef2.nD Cert.GatherRef2.τ).loc Cert.GatherRef2.main_arg0))

def preserves_Scatter2_Scatter2Ideal : Prop :=
  True

def algebraic_Scatter2Ideal_ScatterRef2Ideal [hScatter2Ideal : Cert.Scatter2Ideal.Facts] [hScatterRef2Ideal : Cert.ScatterRef2Ideal.Facts] : Prop :=
  ∀ (m : (ℓ : Loc Cert.Scatter2Ideal.nD Cert.Scatter2Ideal.τ Cert.Scatter2Ideal.sig) → Buf (Elt Ideal) ℓ) (g : Dev Cert.Scatter2Ideal.nD → PrngReg)
    (m' : (ℓ : Loc Cert.ScatterRef2Ideal.nD Cert.ScatterRef2Ideal.τ Cert.ScatterRef2Ideal.sig) → Buf (Elt Ideal) ℓ) (g' : Dev Cert.ScatterRef2Ideal.nD → PrngReg), Pre_Scatter2Ideal m →
    (∀ c : Dev Cert.Scatter2Ideal.nD,
      m ((c.tc : Thread Cert.Scatter2Ideal.nD Cert.Scatter2Ideal.τ).loc Cert.Scatter2Ideal.main_arg0) = Layout.block ⟨3, ![8, 12800, 512]⟩ ⟨3, ![64, 12800, 512]⟩ 0 8 c (m' (((0 : Dev Cert.ScatterRef2Ideal.nD).tc : Thread Cert.ScatterRef2Ideal.nD Cert.ScatterRef2Ideal.τ).loc Cert.ScatterRef2Ideal.main_arg0))) →
    ∃ (v0 : Buf (Elt Ideal) (((0 : Dev Cert.ScatterRef2Ideal.nD).tc : Thread Cert.ScatterRef2Ideal.nD Cert.ScatterRef2Ideal.τ).loc Cert.ScatterRef2Ideal.main_v3)),
      θ_run (Cert.Scatter2Ideal.defs (F := Ideal)) (onTc (τ := Cert.Scatter2Ideal.τ) (Cert.Scatter2Ideal.main (F := Ideal))) ⟨m, fun _ => 0, g⟩ (fun r => ∀ c : Dev Cert.Scatter2Ideal.nD,
          r.2.mem ((c.tc : Thread Cert.Scatter2Ideal.nD Cert.Scatter2Ideal.τ).loc Cert.Scatter2Ideal.main_v2) = Layout.block ⟨2, ![12800, 512]⟩ ⟨2, ![102400, 512]⟩ 0 8 c v0
          ∧ r.2.mem ((c.tc : Thread Cert.Scatter2Ideal.nD Cert.Scatter2Ideal.τ).loc Cert.Scatter2Ideal.main_arg0) = m ((c.tc : Thread Cert.Scatter2Ideal.nD Cert.Scatter2Ideal.τ).loc Cert.Scatter2Ideal.main_arg0))
      ∧ θ_run (Cert.ScatterRef2Ideal.defs (F := Ideal)) (onTc (τ := Cert.ScatterRef2Ideal.τ) (Cert.ScatterRef2Ideal.main (F := Ideal))) ⟨m', fun _ => 0, g'⟩ (fun r =>
          r.2.mem (((0 : Dev Cert.ScatterRef2Ideal.nD).tc : Thread Cert.ScatterRef2Ideal.nD Cert.ScatterRef2Ideal.τ).loc Cert.ScatterRef2Ideal.main_v3) = v0
          ∧ r.2.mem (((0 : Dev Cert.ScatterRef2Ideal.nD).tc : Thread Cert.ScatterRef2Ideal.nD Cert.ScatterRef2Ideal.τ).loc Cert.ScatterRef2Ideal.main_arg0) = m' (((0 : Dev Cert.ScatterRef2Ideal.nD).tc : Thread Cert.ScatterRef2Ideal.nD Cert.ScatterRef2Ideal.τ).loc Cert.ScatterRef2Ideal.main_arg0))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![88, 1024]⟩ ⟨2, ![704, 1024]⟩ 0 8 c (m' (((0 : Dev Cert.SmallRefIdeal.nD).tc : Thread Cert.SmallRefIdeal.nD Cert.SmallRefIdeal.τ).loc Cert.SmallRefIdeal.main_arg0))) →
    ∃ (v0 : Buf (Elt Ideal) (((0 : Dev Cert.SmallRefIdeal.nD).tc : Thread Cert.SmallRefIdeal.nD Cert.SmallRefIdeal.τ).loc Cert.SmallRefIdeal.main_v1)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v2) = v0
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallRefIdeal.defs (F := Ideal)) (onTc (τ := Cert.SmallRefIdeal.τ) (Cert.SmallRefIdeal.main (F := Ideal))) ⟨m', fun _ => 0, g'⟩ (fun r =>
          r.2.mem (((0 : Dev Cert.SmallRefIdeal.nD).tc : Thread Cert.SmallRefIdeal.nD Cert.SmallRefIdeal.τ).loc Cert.SmallRefIdeal.main_v1) = v0
          ∧ r.2.mem (((0 : Dev Cert.SmallRefIdeal.nD).tc : Thread Cert.SmallRefIdeal.nD Cert.SmallRefIdeal.τ).loc Cert.SmallRefIdeal.main_arg0) = m' (((0 : Dev Cert.SmallRefIdeal.nD).tc : Thread Cert.SmallRefIdeal.nD Cert.SmallRefIdeal.τ).loc Cert.SmallRefIdeal.main_arg0))

def preserves_Adam0_Adam0Ideal : Prop :=
  True

def algebraic_Adam0Ideal_AdamRef0Ideal [hAdam0Ideal : Cert.Adam0Ideal.Facts] [hAdamRef0Ideal : Cert.AdamRef0Ideal.Facts] : Prop :=
  ∀ (m : (ℓ : Loc Cert.Adam0Ideal.nD Cert.Adam0Ideal.τ Cert.Adam0Ideal.sig) → Buf (Elt Ideal) ℓ) (g : Dev Cert.Adam0Ideal.nD → PrngReg)
    (m' : (ℓ : Loc Cert.AdamRef0Ideal.nD Cert.AdamRef0Ideal.τ Cert.AdamRef0Ideal.sig) → Buf (Elt Ideal) ℓ) (g' : Dev Cert.AdamRef0Ideal.nD → PrngReg), Pre_Adam0Ideal m →
    (∀ c : Dev Cert.Adam0Ideal.nD,
      m' ((c.tc : Thread Cert.AdamRef0Ideal.nD Cert.AdamRef0Ideal.τ).loc Cert.AdamRef0Ideal.main_arg0) = m ((c.tc : Thread Cert.Adam0Ideal.nD Cert.Adam0Ideal.τ).loc Cert.Adam0Ideal.main_arg0)
      ∧ m' ((c.tc : Thread Cert.AdamRef0Ideal.nD Cert.AdamRef0Ideal.τ).loc Cert.AdamRef0Ideal.main_arg1) = m ((c.tc : Thread Cert.Adam0Ideal.nD Cert.Adam0Ideal.τ).loc Cert.Adam0Ideal.main_arg1)
      ∧ m' ((c.tc : Thread Cert.AdamRef0Ideal.nD Cert.AdamRef0Ideal.τ).loc Cert.AdamRef0Ideal.main_arg2) = m ((c.tc : Thread Cert.Adam0Ideal.nD Cert.Adam0Ideal.τ).loc Cert.Adam0Ideal.main_arg2)
      ∧ m' ((c.tc : Thread Cert.AdamRef0Ideal.nD Cert.AdamRef0Ideal.τ).loc Cert.AdamRef0Ideal.main_arg3) = m ((c.tc : Thread Cert.Adam0Ideal.nD Cert.Adam0Ideal.τ).loc Cert.Adam0Ideal.main_arg3)) →
    ∃ (v0 : (c : Dev Cert.Adam0Ideal.nD) → Buf (Elt Ideal) ((c.tc : Thread Cert.Adam0Ideal.nD Cert.Adam0Ideal.τ).loc Cert.Adam0Ideal.main_v0_0)) (v1 : (c : Dev Cert.Adam0Ideal.nD) → Buf (Elt Ideal) ((c.tc : Thread Cert.Adam0Ideal.nD Cert.Adam0Ideal.τ).loc Cert.Adam0Ideal.main_v0_1)) (v2 : (c : Dev Cert.Adam0Ideal.nD) → Buf (Elt Ideal) ((c.tc : Thread Cert.Adam0Ideal.nD Cert.Adam0Ideal.τ).loc Cert.Adam0Ideal.main_v0_2)),
      θ_run (Cert.Adam0Ideal.defs (F := Ideal)) (onTc (τ := Cert.Adam0Ideal.τ) (Cert.Adam0Ideal.main (F := Ideal))) ⟨m, fun _ => 0, g⟩ (fun r => ∀ c : Dev Cert.Adam0Ideal.nD,
          r.2.mem ((c.tc : Thread Cert.Adam0Ideal.nD Cert.Adam0Ideal.τ).loc Cert.Adam0Ideal.main_v0_0) = v0 c
          ∧ r.2.mem ((c.tc : Thread Cert.Adam0Ideal.nD Cert.Adam0Ideal.τ).loc Cert.Adam0Ideal.main_v0_1) = v1 c
          ∧ r.2.mem ((c.tc : Thread Cert.Adam0Ideal.nD Cert.Adam0Ideal.τ).loc Cert.Adam0Ideal.main_v0_2) = v2 c
          ∧ r.2.mem ((c.tc : Thread Cert.Adam0Ideal.nD Cert.Adam0Ideal.τ).loc Cert.Adam0Ideal.main_arg0) = m ((c.tc : Thread Cert.Adam0Ideal.nD Cert.Adam0Ideal.τ).loc Cert.Adam0Ideal.main_arg0)
          ∧ r.2.mem ((c.tc : Thread Cert.Adam0Ideal.nD Cert.Adam0Ideal.τ).loc Cert.Adam0Ideal.main_arg1) = m ((c.tc : Thread Cert.Adam0Ideal.nD Cert.Adam0Ideal.τ).loc Cert.Adam0Ideal.main_arg1)
          ∧ r.2.mem ((c.tc : Thread Cert.Adam0Ideal.nD Cert.Adam0Ideal.τ).loc Cert.Adam0Ideal.main_arg2) = m ((c.tc : Thread Cert.Adam0Ideal.nD Cert.Adam0Ideal.τ).loc Cert.Adam0Ideal.main_arg2)
          ∧ r.2.mem ((c.tc : Thread Cert.Adam0Ideal.nD Cert.Adam0Ideal.τ).loc Cert.Adam0Ideal.main_arg3) = m ((c.tc : Thread Cert.Adam0Ideal.nD Cert.Adam0Ideal.τ).loc Cert.Adam0Ideal.main_arg3))
      ∧ θ_run (Cert.AdamRef0Ideal.defs (F := Ideal)) (onTc (τ := Cert.AdamRef0Ideal.τ) (Cert.AdamRef0Ideal.main (F := Ideal))) ⟨m', fun _ => 0, g'⟩ (fun r => ∀ c : Dev Cert.AdamRef0Ideal.nD,
          r.2.mem ((c.tc : Thread Cert.AdamRef0Ideal.nD Cert.AdamRef0Ideal.τ).loc Cert.AdamRef0Ideal.main_v23) = v0 c
          ∧ r.2.mem ((c.tc : Thread Cert.AdamRef0Ideal.nD Cert.AdamRef0Ideal.τ).loc Cert.AdamRef0Ideal.main_v4) = v1 c
          ∧ r.2.mem ((c.tc : Thread Cert.AdamRef0Ideal.nD Cert.AdamRef0Ideal.τ).loc Cert.AdamRef0Ideal.main_v10) = v2 c
          ∧ r.2.mem ((c.tc : Thread Cert.AdamRef0Ideal.nD Cert.AdamRef0Ideal.τ).loc Cert.AdamRef0Ideal.main_arg0) = m' ((c.tc : Thread Cert.AdamRef0Ideal.nD Cert.AdamRef0Ideal.τ).loc Cert.AdamRef0Ideal.main_arg0)
          ∧ r.2.mem ((c.tc : Thread Cert.AdamRef0Ideal.nD Cert.AdamRef0Ideal.τ).loc Cert.AdamRef0Ideal.main_arg1) = m' ((c.tc : Thread Cert.AdamRef0Ideal.nD Cert.AdamRef0Ideal.τ).loc Cert.AdamRef0Ideal.main_arg1)
          ∧ r.2.mem ((c.tc : Thread Cert.AdamRef0Ideal.nD Cert.AdamRef0Ideal.τ).loc Cert.AdamRef0Ideal.main_arg2) = m' ((c.tc : Thread Cert.AdamRef0Ideal.nD Cert.AdamRef0Ideal.τ).loc Cert.AdamRef0Ideal.main_arg2)
          ∧ r.2.mem ((c.tc : Thread Cert.AdamRef0Ideal.nD Cert.AdamRef0Ideal.τ).loc Cert.AdamRef0Ideal.main_arg3) = m' ((c.tc : Thread Cert.AdamRef0Ideal.nD Cert.AdamRef0Ideal.τ).loc Cert.AdamRef0Ideal.main_arg3))

def preserves_Adam1_Adam1Ideal : Prop :=
  True

def algebraic_Adam1Ideal_AdamRef1Ideal [hAdam1Ideal : Cert.Adam1Ideal.Facts] [hAdamRef1Ideal : Cert.AdamRef1Ideal.Facts] : Prop :=
  ∀ (m : (ℓ : Loc Cert.Adam1Ideal.nD Cert.Adam1Ideal.τ Cert.Adam1Ideal.sig) → Buf (Elt Ideal) ℓ) (g : Dev Cert.Adam1Ideal.nD → PrngReg)
    (m' : (ℓ : Loc Cert.AdamRef1Ideal.nD Cert.AdamRef1Ideal.τ Cert.AdamRef1Ideal.sig) → Buf (Elt Ideal) ℓ) (g' : Dev Cert.AdamRef1Ideal.nD → PrngReg), Pre_Adam1Ideal m →
    (∀ c : Dev Cert.Adam1Ideal.nD,
      m' ((c.tc : Thread Cert.AdamRef1Ideal.nD Cert.AdamRef1Ideal.τ).loc Cert.AdamRef1Ideal.main_arg0) = m ((c.tc : Thread Cert.Adam1Ideal.nD Cert.Adam1Ideal.τ).loc Cert.Adam1Ideal.main_arg0)
      ∧ m' ((c.tc : Thread Cert.AdamRef1Ideal.nD Cert.AdamRef1Ideal.τ).loc Cert.AdamRef1Ideal.main_arg1) = m ((c.tc : Thread Cert.Adam1Ideal.nD Cert.Adam1Ideal.τ).loc Cert.Adam1Ideal.main_arg1)
      ∧ m' ((c.tc : Thread Cert.AdamRef1Ideal.nD Cert.AdamRef1Ideal.τ).loc Cert.AdamRef1Ideal.main_arg2) = m ((c.tc : Thread Cert.Adam1Ideal.nD Cert.Adam1Ideal.τ).loc Cert.Adam1Ideal.main_arg2)
      ∧ m' ((c.tc : Thread Cert.AdamRef1Ideal.nD Cert.AdamRef1Ideal.τ).loc Cert.AdamRef1Ideal.main_arg3) = m ((c.tc : Thread Cert.Adam1Ideal.nD Cert.Adam1Ideal.τ).loc Cert.Adam1Ideal.main_arg3)) →
    ∃ (v0 : (c : Dev Cert.Adam1Ideal.nD) → Buf (Elt Ideal) ((c.tc : Thread Cert.Adam1Ideal.nD Cert.Adam1Ideal.τ).loc Cert.Adam1Ideal.main_v0_0)) (v1 : (c : Dev Cert.Adam1Ideal.nD) → Buf (Elt Ideal) ((c.tc : Thread Cert.Adam1Ideal.nD Cert.Adam1Ideal.τ).loc Cert.Adam1Ideal.main_v0_1)) (v2 : (c : Dev Cert.Adam1Ideal.nD) → Buf (Elt Ideal) ((c.tc : Thread Cert.Adam1Ideal.nD Cert.Adam1Ideal.τ).loc Cert.Adam1Ideal.main_v0_2)),
      θ_run (Cert.Adam1Ideal.defs (F := Ideal)) (onTc (τ := Cert.Adam1Ideal.τ) (Cert.Adam1Ideal.main (F := Ideal))) ⟨m, fun _ => 0, g⟩ (fun r => ∀ c : Dev Cert.Adam1Ideal.nD,
          r.2.mem ((c.tc : Thread Cert.Adam1Ideal.nD Cert.Adam1Ideal.τ).loc Cert.Adam1Ideal.main_v0_0) = v0 c
          ∧ r.2.mem ((c.tc : Thread Cert.Adam1Ideal.nD Cert.Adam1Ideal.τ).loc Cert.Adam1Ideal.main_v0_1) = v1 c
          ∧ r.2.mem ((c.tc : Thread Cert.Adam1Ideal.nD Cert.Adam1Ideal.τ).loc Cert.Adam1Ideal.main_v0_2) = v2 c
          ∧ r.2.mem ((c.tc : Thread Cert.Adam1Ideal.nD Cert.Adam1Ideal.τ).loc Cert.Adam1Ideal.main_arg0) = m ((c.tc : Thread Cert.Adam1Ideal.nD Cert.Adam1Ideal.τ).loc Cert.Adam1Ideal.main_arg0)
          ∧ r.2.mem ((c.tc : Thread Cert.Adam1Ideal.nD Cert.Adam1Ideal.τ).loc Cert.Adam1Ideal.main_arg1) = m ((c.tc : Thread Cert.Adam1Ideal.nD Cert.Adam1Ideal.τ).loc Cert.Adam1Ideal.main_arg1)
          ∧ r.2.mem ((c.tc : Thread Cert.Adam1Ideal.nD Cert.Adam1Ideal.τ).loc Cert.Adam1Ideal.main_arg2) = m ((c.tc : Thread Cert.Adam1Ideal.nD Cert.Adam1Ideal.τ).loc Cert.Adam1Ideal.main_arg2)
          ∧ r.2.mem ((c.tc : Thread Cert.Adam1Ideal.nD Cert.Adam1Ideal.τ).loc Cert.Adam1Ideal.main_arg3) = m ((c.tc : Thread Cert.Adam1Ideal.nD Cert.Adam1Ideal.τ).loc Cert.Adam1Ideal.main_arg3))
      ∧ θ_run (Cert.AdamRef1Ideal.defs (F := Ideal)) (onTc (τ := Cert.AdamRef1Ideal.τ) (Cert.AdamRef1Ideal.main (F := Ideal))) ⟨m', fun _ => 0, g'⟩ (fun r => ∀ c : Dev Cert.AdamRef1Ideal.nD,
          r.2.mem ((c.tc : Thread Cert.AdamRef1Ideal.nD Cert.AdamRef1Ideal.τ).loc Cert.AdamRef1Ideal.main_v23) = v0 c
          ∧ r.2.mem ((c.tc : Thread Cert.AdamRef1Ideal.nD Cert.AdamRef1Ideal.τ).loc Cert.AdamRef1Ideal.main_v4) = v1 c
          ∧ r.2.mem ((c.tc : Thread Cert.AdamRef1Ideal.nD Cert.AdamRef1Ideal.τ).loc Cert.AdamRef1Ideal.main_v10) = v2 c
          ∧ r.2.mem ((c.tc : Thread Cert.AdamRef1Ideal.nD Cert.AdamRef1Ideal.τ).loc Cert.AdamRef1Ideal.main_arg0) = m' ((c.tc : Thread Cert.AdamRef1Ideal.nD Cert.AdamRef1Ideal.τ).loc Cert.AdamRef1Ideal.main_arg0)
          ∧ r.2.mem ((c.tc : Thread Cert.AdamRef1Ideal.nD Cert.AdamRef1Ideal.τ).loc Cert.AdamRef1Ideal.main_arg1) = m' ((c.tc : Thread Cert.AdamRef1Ideal.nD Cert.AdamRef1Ideal.τ).loc Cert.AdamRef1Ideal.main_arg1)
          ∧ r.2.mem ((c.tc : Thread Cert.AdamRef1Ideal.nD Cert.AdamRef1Ideal.τ).loc Cert.AdamRef1Ideal.main_arg2) = m' ((c.tc : Thread Cert.AdamRef1Ideal.nD Cert.AdamRef1Ideal.τ).loc Cert.AdamRef1Ideal.main_arg2)
          ∧ r.2.mem ((c.tc : Thread Cert.AdamRef1Ideal.nD Cert.AdamRef1Ideal.τ).loc Cert.AdamRef1Ideal.main_arg3) = m' ((c.tc : Thread Cert.AdamRef1Ideal.nD Cert.AdamRef1Ideal.τ).loc Cert.AdamRef1Ideal.main_arg3))

def preserves_Adam2_Adam2Ideal : Prop :=
  True

def algebraic_Adam2Ideal_AdamRef2Ideal [hAdam2Ideal : Cert.Adam2Ideal.Facts] [hAdamRef2Ideal : Cert.AdamRef2Ideal.Facts] : Prop :=
  ∀ (m : (ℓ : Loc Cert.Adam2Ideal.nD Cert.Adam2Ideal.τ Cert.Adam2Ideal.sig) → Buf (Elt Ideal) ℓ) (g : Dev Cert.Adam2Ideal.nD → PrngReg)
    (m' : (ℓ : Loc Cert.AdamRef2Ideal.nD Cert.AdamRef2Ideal.τ Cert.AdamRef2Ideal.sig) → Buf (Elt Ideal) ℓ) (g' : Dev Cert.AdamRef2Ideal.nD → PrngReg), Pre_Adam2Ideal m →
    (∀ c : Dev Cert.Adam2Ideal.nD,
      m' ((c.tc : Thread Cert.AdamRef2Ideal.nD Cert.AdamRef2Ideal.τ).loc Cert.AdamRef2Ideal.main_arg0) = m ((c.tc : Thread Cert.Adam2Ideal.nD Cert.Adam2Ideal.τ).loc Cert.Adam2Ideal.main_arg0)
      ∧ m' ((c.tc : Thread Cert.AdamRef2Ideal.nD Cert.AdamRef2Ideal.τ).loc Cert.AdamRef2Ideal.main_arg1) = m ((c.tc : Thread Cert.Adam2Ideal.nD Cert.Adam2Ideal.τ).loc Cert.Adam2Ideal.main_arg1)
      ∧ m' ((c.tc : Thread Cert.AdamRef2Ideal.nD Cert.AdamRef2Ideal.τ).loc Cert.AdamRef2Ideal.main_arg2) = m ((c.tc : Thread Cert.Adam2Ideal.nD Cert.Adam2Ideal.τ).loc Cert.Adam2Ideal.main_arg2)
      ∧ m' ((c.tc : Thread Cert.AdamRef2Ideal.nD Cert.AdamRef2Ideal.τ).loc Cert.AdamRef2Ideal.main_arg3) = m ((c.tc : Thread Cert.Adam2Ideal.nD Cert.Adam2Ideal.τ).loc Cert.Adam2Ideal.main_arg3)) →
    ∃ (v0 : (c : Dev Cert.Adam2Ideal.nD) → Buf (Elt Ideal) ((c.tc : Thread Cert.Adam2Ideal.nD Cert.Adam2Ideal.τ).loc Cert.Adam2Ideal.main_v0_0)) (v1 : (c : Dev Cert.Adam2Ideal.nD) → Buf (Elt Ideal) ((c.tc : Thread Cert.Adam2Ideal.nD Cert.Adam2Ideal.τ).loc Cert.Adam2Ideal.main_v0_1)) (v2 : (c : Dev Cert.Adam2Ideal.nD) → Buf (Elt Ideal) ((c.tc : Thread Cert.Adam2Ideal.nD Cert.Adam2Ideal.τ).loc Cert.Adam2Ideal.main_v0_2)),
      θ_run (Cert.Adam2Ideal.defs (F := Ideal)) (onTc (τ := Cert.Adam2Ideal.τ) (Cert.Adam2Ideal.main (F := Ideal))) ⟨m, fun _ => 0, g⟩ (fun r => ∀ c : Dev Cert.Adam2Ideal.nD,
          r.2.mem ((c.tc : Thread Cert.Adam2Ideal.nD Cert.Adam2Ideal.τ).loc Cert.Adam2Ideal.main_v0_0) = v0 c
          ∧ r.2.mem ((c.tc : Thread Cert.Adam2Ideal.nD Cert.Adam2Ideal.τ).loc Cert.Adam2Ideal.main_v0_1) = v1 c
          ∧ r.2.mem ((c.tc : Thread Cert.Adam2Ideal.nD Cert.Adam2Ideal.τ).loc Cert.Adam2Ideal.main_v0_2) = v2 c
          ∧ r.2.mem ((c.tc : Thread Cert.Adam2Ideal.nD Cert.Adam2Ideal.τ).loc Cert.Adam2Ideal.main_arg0) = m ((c.tc : Thread Cert.Adam2Ideal.nD Cert.Adam2Ideal.τ).loc Cert.Adam2Ideal.main_arg0)
          ∧ r.2.mem ((c.tc : Thread Cert.Adam2Ideal.nD Cert.Adam2Ideal.τ).loc Cert.Adam2Ideal.main_arg1) = m ((c.tc : Thread Cert.Adam2Ideal.nD Cert.Adam2Ideal.τ).loc Cert.Adam2Ideal.main_arg1)
          ∧ r.2.mem ((c.tc : Thread Cert.Adam2Ideal.nD Cert.Adam2Ideal.τ).loc Cert.Adam2Ideal.main_arg2) = m ((c.tc : Thread Cert.Adam2Ideal.nD Cert.Adam2Ideal.τ).loc Cert.Adam2Ideal.main_arg2)
          ∧ r.2.mem ((c.tc : Thread Cert.Adam2Ideal.nD Cert.Adam2Ideal.τ).loc Cert.Adam2Ideal.main_arg3) = m ((c.tc : Thread Cert.Adam2Ideal.nD Cert.Adam2Ideal.τ).loc Cert.Adam2Ideal.main_arg3))
      ∧ θ_run (Cert.AdamRef2Ideal.defs (F := Ideal)) (onTc (τ := Cert.AdamRef2Ideal.τ) (Cert.AdamRef2Ideal.main (F := Ideal))) ⟨m', fun _ => 0, g'⟩ (fun r => ∀ c : Dev Cert.AdamRef2Ideal.nD,
          r.2.mem ((c.tc : Thread Cert.AdamRef2Ideal.nD Cert.AdamRef2Ideal.τ).loc Cert.AdamRef2Ideal.main_v23) = v0 c
          ∧ r.2.mem ((c.tc : Thread Cert.AdamRef2Ideal.nD Cert.AdamRef2Ideal.τ).loc Cert.AdamRef2Ideal.main_v4) = v1 c
          ∧ r.2.mem ((c.tc : Thread Cert.AdamRef2Ideal.nD Cert.AdamRef2Ideal.τ).loc Cert.AdamRef2Ideal.main_v10) = v2 c
          ∧ r.2.mem ((c.tc : Thread Cert.AdamRef2Ideal.nD Cert.AdamRef2Ideal.τ).loc Cert.AdamRef2Ideal.main_arg0) = m' ((c.tc : Thread Cert.AdamRef2Ideal.nD Cert.AdamRef2Ideal.τ).loc Cert.AdamRef2Ideal.main_arg0)
          ∧ r.2.mem ((c.tc : Thread Cert.AdamRef2Ideal.nD Cert.AdamRef2Ideal.τ).loc Cert.AdamRef2Ideal.main_arg1) = m' ((c.tc : Thread Cert.AdamRef2Ideal.nD Cert.AdamRef2Ideal.τ).loc Cert.AdamRef2Ideal.main_arg1)
          ∧ r.2.mem ((c.tc : Thread Cert.AdamRef2Ideal.nD Cert.AdamRef2Ideal.τ).loc Cert.AdamRef2Ideal.main_arg2) = m' ((c.tc : Thread Cert.AdamRef2Ideal.nD Cert.AdamRef2Ideal.τ).loc Cert.AdamRef2Ideal.main_arg2)
          ∧ r.2.mem ((c.tc : Thread Cert.AdamRef2Ideal.nD Cert.AdamRef2Ideal.τ).loc Cert.AdamRef2Ideal.main_arg3) = m' ((c.tc : Thread Cert.AdamRef2Ideal.nD Cert.AdamRef2Ideal.τ).loc Cert.AdamRef2Ideal.main_arg3))

def preserves_Adam3_Adam3Ideal : Prop :=
  True

def algebraic_Adam3Ideal_AdamRef3Ideal [hAdam3Ideal : Cert.Adam3Ideal.Facts] [hAdamRef3Ideal : Cert.AdamRef3Ideal.Facts] : Prop :=
  ∀ (m : (ℓ : Loc Cert.Adam3Ideal.nD Cert.Adam3Ideal.τ Cert.Adam3Ideal.sig) → Buf (Elt Ideal) ℓ) (g : Dev Cert.Adam3Ideal.nD → PrngReg)
    (m' : (ℓ : Loc Cert.AdamRef3Ideal.nD Cert.AdamRef3Ideal.τ Cert.AdamRef3Ideal.sig) → Buf (Elt Ideal) ℓ) (g' : Dev Cert.AdamRef3Ideal.nD → PrngReg), Pre_Adam3Ideal m →
    (∀ c : Dev Cert.Adam3Ideal.nD,
      m' ((c.tc : Thread Cert.AdamRef3Ideal.nD Cert.AdamRef3Ideal.τ).loc Cert.AdamRef3Ideal.main_arg0) = m ((c.tc : Thread Cert.Adam3Ideal.nD Cert.Adam3Ideal.τ).loc Cert.Adam3Ideal.main_arg0)
      ∧ m' ((c.tc : Thread Cert.AdamRef3Ideal.nD Cert.AdamRef3Ideal.τ).loc Cert.AdamRef3Ideal.main_arg1) = m ((c.tc : Thread Cert.Adam3Ideal.nD Cert.Adam3Ideal.τ).loc Cert.Adam3Ideal.main_arg1)
      ∧ m' ((c.tc : Thread Cert.AdamRef3Ideal.nD Cert.AdamRef3Ideal.τ).loc Cert.AdamRef3Ideal.main_arg2) = m ((c.tc : Thread Cert.Adam3Ideal.nD Cert.Adam3Ideal.τ).loc Cert.Adam3Ideal.main_arg2)
      ∧ m' ((c.tc : Thread Cert.AdamRef3Ideal.nD Cert.AdamRef3Ideal.τ).loc Cert.AdamRef3Ideal.main_arg3) = m ((c.tc : Thread Cert.Adam3Ideal.nD Cert.Adam3Ideal.τ).loc Cert.Adam3Ideal.main_arg3)) →
    ∃ (v0 : (c : Dev Cert.Adam3Ideal.nD) → Buf (Elt Ideal) ((c.tc : Thread Cert.Adam3Ideal.nD Cert.Adam3Ideal.τ).loc Cert.Adam3Ideal.main_v0_0)) (v1 : (c : Dev Cert.Adam3Ideal.nD) → Buf (Elt Ideal) ((c.tc : Thread Cert.Adam3Ideal.nD Cert.Adam3Ideal.τ).loc Cert.Adam3Ideal.main_v0_1)) (v2 : (c : Dev Cert.Adam3Ideal.nD) → Buf (Elt Ideal) ((c.tc : Thread Cert.Adam3Ideal.nD Cert.Adam3Ideal.τ).loc Cert.Adam3Ideal.main_v0_2)),
      θ_run (Cert.Adam3Ideal.defs (F := Ideal)) (onTc (τ := Cert.Adam3Ideal.τ) (Cert.Adam3Ideal.main (F := Ideal))) ⟨m, fun _ => 0, g⟩ (fun r => ∀ c : Dev Cert.Adam3Ideal.nD,
          r.2.mem ((c.tc : Thread Cert.Adam3Ideal.nD Cert.Adam3Ideal.τ).loc Cert.Adam3Ideal.main_v0_0) = v0 c
          ∧ r.2.mem ((c.tc : Thread Cert.Adam3Ideal.nD Cert.Adam3Ideal.τ).loc Cert.Adam3Ideal.main_v0_1) = v1 c
          ∧ r.2.mem ((c.tc : Thread Cert.Adam3Ideal.nD Cert.Adam3Ideal.τ).loc Cert.Adam3Ideal.main_v0_2) = v2 c
          ∧ r.2.mem ((c.tc : Thread Cert.Adam3Ideal.nD Cert.Adam3Ideal.τ).loc Cert.Adam3Ideal.main_arg0) = m ((c.tc : Thread Cert.Adam3Ideal.nD Cert.Adam3Ideal.τ).loc Cert.Adam3Ideal.main_arg0)
          ∧ r.2.mem ((c.tc : Thread Cert.Adam3Ideal.nD Cert.Adam3Ideal.τ).loc Cert.Adam3Ideal.main_arg1) = m ((c.tc : Thread Cert.Adam3Ideal.nD Cert.Adam3Ideal.τ).loc Cert.Adam3Ideal.main_arg1)
          ∧ r.2.mem ((c.tc : Thread Cert.Adam3Ideal.nD Cert.Adam3Ideal.τ).loc Cert.Adam3Ideal.main_arg2) = m ((c.tc : Thread Cert.Adam3Ideal.nD Cert.Adam3Ideal.τ).loc Cert.Adam3Ideal.main_arg2)
          ∧ r.2.mem ((c.tc : Thread Cert.Adam3Ideal.nD Cert.Adam3Ideal.τ).loc Cert.Adam3Ideal.main_arg3) = m ((c.tc : Thread Cert.Adam3Ideal.nD Cert.Adam3Ideal.τ).loc Cert.Adam3Ideal.main_arg3))
      ∧ θ_run (Cert.AdamRef3Ideal.defs (F := Ideal)) (onTc (τ := Cert.AdamRef3Ideal.τ) (Cert.AdamRef3Ideal.main (F := Ideal))) ⟨m', fun _ => 0, g'⟩ (fun r => ∀ c : Dev Cert.AdamRef3Ideal.nD,
          r.2.mem ((c.tc : Thread Cert.AdamRef3Ideal.nD Cert.AdamRef3Ideal.τ).loc Cert.AdamRef3Ideal.main_v23) = v0 c
          ∧ r.2.mem ((c.tc : Thread Cert.AdamRef3Ideal.nD Cert.AdamRef3Ideal.τ).loc Cert.AdamRef3Ideal.main_v4) = v1 c
          ∧ r.2.mem ((c.tc : Thread Cert.AdamRef3Ideal.nD Cert.AdamRef3Ideal.τ).loc Cert.AdamRef3Ideal.main_v10) = v2 c
          ∧ r.2.mem ((c.tc : Thread Cert.AdamRef3Ideal.nD Cert.AdamRef3Ideal.τ).loc Cert.AdamRef3Ideal.main_arg0) = m' ((c.tc : Thread Cert.AdamRef3Ideal.nD Cert.AdamRef3Ideal.τ).loc Cert.AdamRef3Ideal.main_arg0)
          ∧ r.2.mem ((c.tc : Thread Cert.AdamRef3Ideal.nD Cert.AdamRef3Ideal.τ).loc Cert.AdamRef3Ideal.main_arg1) = m' ((c.tc : Thread Cert.AdamRef3Ideal.nD Cert.AdamRef3Ideal.τ).loc Cert.AdamRef3Ideal.main_arg1)
          ∧ r.2.mem ((c.tc : Thread Cert.AdamRef3Ideal.nD Cert.AdamRef3Ideal.τ).loc Cert.AdamRef3Ideal.main_arg2) = m' ((c.tc : Thread Cert.AdamRef3Ideal.nD Cert.AdamRef3Ideal.τ).loc Cert.AdamRef3Ideal.main_arg2)
          ∧ r.2.mem ((c.tc : Thread Cert.AdamRef3Ideal.nD Cert.AdamRef3Ideal.τ).loc Cert.AdamRef3Ideal.main_arg3) = m' ((c.tc : Thread Cert.AdamRef3Ideal.nD Cert.AdamRef3Ideal.τ).loc Cert.AdamRef3Ideal.main_arg3))

def preserves_Adam4_Adam4Ideal : Prop :=
  True

def algebraic_Adam4Ideal_AdamRef4Ideal [hAdam4Ideal : Cert.Adam4Ideal.Facts] [hAdamRef4Ideal : Cert.AdamRef4Ideal.Facts] : Prop :=
  ∀ (m : (ℓ : Loc Cert.Adam4Ideal.nD Cert.Adam4Ideal.τ Cert.Adam4Ideal.sig) → Buf (Elt Ideal) ℓ) (g : Dev Cert.Adam4Ideal.nD → PrngReg)
    (m' : (ℓ : Loc Cert.AdamRef4Ideal.nD Cert.AdamRef4Ideal.τ Cert.AdamRef4Ideal.sig) → Buf (Elt Ideal) ℓ) (g' : Dev Cert.AdamRef4Ideal.nD → PrngReg), Pre_Adam4Ideal m →
    (∀ c : Dev Cert.Adam4Ideal.nD,
      m' ((c.tc : Thread Cert.AdamRef4Ideal.nD Cert.AdamRef4Ideal.τ).loc Cert.AdamRef4Ideal.main_arg0) = m ((c.tc : Thread Cert.Adam4Ideal.nD Cert.Adam4Ideal.τ).loc Cert.Adam4Ideal.main_arg0)
      ∧ m' ((c.tc : Thread Cert.AdamRef4Ideal.nD Cert.AdamRef4Ideal.τ).loc Cert.AdamRef4Ideal.main_arg1) = m ((c.tc : Thread Cert.Adam4Ideal.nD Cert.Adam4Ideal.τ).loc Cert.Adam4Ideal.main_arg1)
      ∧ m' ((c.tc : Thread Cert.AdamRef4Ideal.nD Cert.AdamRef4Ideal.τ).loc Cert.AdamRef4Ideal.main_arg2) = m ((c.tc : Thread Cert.Adam4Ideal.nD Cert.Adam4Ideal.τ).loc Cert.Adam4Ideal.main_arg2)
      ∧ m' ((c.tc : Thread Cert.AdamRef4Ideal.nD Cert.AdamRef4Ideal.τ).loc Cert.AdamRef4Ideal.main_arg3) = m ((c.tc : Thread Cert.Adam4Ideal.nD Cert.Adam4Ideal.τ).loc Cert.Adam4Ideal.main_arg3)) →
    ∃ (v0 : (c : Dev Cert.Adam4Ideal.nD) → Buf (Elt Ideal) ((c.tc : Thread Cert.Adam4Ideal.nD Cert.Adam4Ideal.τ).loc Cert.Adam4Ideal.main_v0_0)) (v1 : (c : Dev Cert.Adam4Ideal.nD) → Buf (Elt Ideal) ((c.tc : Thread Cert.Adam4Ideal.nD Cert.Adam4Ideal.τ).loc Cert.Adam4Ideal.main_v0_1)) (v2 : (c : Dev Cert.Adam4Ideal.nD) → Buf (Elt Ideal) ((c.tc : Thread Cert.Adam4Ideal.nD Cert.Adam4Ideal.τ).loc Cert.Adam4Ideal.main_v0_2)),
      θ_run (Cert.Adam4Ideal.defs (F := Ideal)) (onTc (τ := Cert.Adam4Ideal.τ) (Cert.Adam4Ideal.main (F := Ideal))) ⟨m, fun _ => 0, g⟩ (fun r => ∀ c : Dev Cert.Adam4Ideal.nD,
          r.2.mem ((c.tc : Thread Cert.Adam4Ideal.nD Cert.Adam4Ideal.τ).loc Cert.Adam4Ideal.main_v0_0) = v0 c
          ∧ r.2.mem ((c.tc : Thread Cert.Adam4Ideal.nD Cert.Adam4Ideal.τ).loc Cert.Adam4Ideal.main_v0_1) = v1 c
          ∧ r.2.mem ((c.tc : Thread Cert.Adam4Ideal.nD Cert.Adam4Ideal.τ).loc Cert.Adam4Ideal.main_v0_2) = v2 c
          ∧ r.2.mem ((c.tc : Thread Cert.Adam4Ideal.nD Cert.Adam4Ideal.τ).loc Cert.Adam4Ideal.main_arg0) = m ((c.tc : Thread Cert.Adam4Ideal.nD Cert.Adam4Ideal.τ).loc Cert.Adam4Ideal.main_arg0)
          ∧ r.2.mem ((c.tc : Thread Cert.Adam4Ideal.nD Cert.Adam4Ideal.τ).loc Cert.Adam4Ideal.main_arg1) = m ((c.tc : Thread Cert.Adam4Ideal.nD Cert.Adam4Ideal.τ).loc Cert.Adam4Ideal.main_arg1)
          ∧ r.2.mem ((c.tc : Thread Cert.Adam4Ideal.nD Cert.Adam4Ideal.τ).loc Cert.Adam4Ideal.main_arg2) = m ((c.tc : Thread Cert.Adam4Ideal.nD Cert.Adam4Ideal.τ).loc Cert.Adam4Ideal.main_arg2)
          ∧ r.2.mem ((c.tc : Thread Cert.Adam4Ideal.nD Cert.Adam4Ideal.τ).loc Cert.Adam4Ideal.main_arg3) = m ((c.tc : Thread Cert.Adam4Ideal.nD Cert.Adam4Ideal.τ).loc Cert.Adam4Ideal.main_arg3))
      ∧ θ_run (Cert.AdamRef4Ideal.defs (F := Ideal)) (onTc (τ := Cert.AdamRef4Ideal.τ) (Cert.AdamRef4Ideal.main (F := Ideal))) ⟨m', fun _ => 0, g'⟩ (fun r => ∀ c : Dev Cert.AdamRef4Ideal.nD,
          r.2.mem ((c.tc : Thread Cert.AdamRef4Ideal.nD Cert.AdamRef4Ideal.τ).loc Cert.AdamRef4Ideal.main_v23) = v0 c
          ∧ r.2.mem ((c.tc : Thread Cert.AdamRef4Ideal.nD Cert.AdamRef4Ideal.τ).loc Cert.AdamRef4Ideal.main_v4) = v1 c
          ∧ r.2.mem ((c.tc : Thread Cert.AdamRef4Ideal.nD Cert.AdamRef4Ideal.τ).loc Cert.AdamRef4Ideal.main_v10) = v2 c
          ∧ r.2.mem ((c.tc : Thread Cert.AdamRef4Ideal.nD Cert.AdamRef4Ideal.τ).loc Cert.AdamRef4Ideal.main_arg0) = m' ((c.tc : Thread Cert.AdamRef4Ideal.nD Cert.AdamRef4Ideal.τ).loc Cert.AdamRef4Ideal.main_arg0)
          ∧ r.2.mem ((c.tc : Thread Cert.AdamRef4Ideal.nD Cert.AdamRef4Ideal.τ).loc Cert.AdamRef4Ideal.main_arg1) = m' ((c.tc : Thread Cert.AdamRef4Ideal.nD Cert.AdamRef4Ideal.τ).loc Cert.AdamRef4Ideal.main_arg1)
          ∧ r.2.mem ((c.tc : Thread Cert.AdamRef4Ideal.nD Cert.AdamRef4Ideal.τ).loc Cert.AdamRef4Ideal.main_arg2) = m' ((c.tc : Thread Cert.AdamRef4Ideal.nD Cert.AdamRef4Ideal.τ).loc Cert.AdamRef4Ideal.main_arg2)
          ∧ r.2.mem ((c.tc : Thread Cert.AdamRef4Ideal.nD Cert.AdamRef4Ideal.τ).loc Cert.AdamRef4Ideal.main_arg3) = m' ((c.tc : Thread Cert.AdamRef4Ideal.nD Cert.AdamRef4Ideal.τ).loc Cert.AdamRef4Ideal.main_arg3))

def preserves_Adam5_Adam5Ideal : Prop :=
  True

def algebraic_Adam5Ideal_AdamRef5Ideal [hAdam5Ideal : Cert.Adam5Ideal.Facts] [hAdamRef5Ideal : Cert.AdamRef5Ideal.Facts] : Prop :=
  ∀ (m : (ℓ : Loc Cert.Adam5Ideal.nD Cert.Adam5Ideal.τ Cert.Adam5Ideal.sig) → Buf (Elt Ideal) ℓ) (g : Dev Cert.Adam5Ideal.nD → PrngReg)
    (m' : (ℓ : Loc Cert.AdamRef5Ideal.nD Cert.AdamRef5Ideal.τ Cert.AdamRef5Ideal.sig) → Buf (Elt Ideal) ℓ) (g' : Dev Cert.AdamRef5Ideal.nD → PrngReg), Pre_Adam5Ideal m →
    (∀ c : Dev Cert.Adam5Ideal.nD,
      m' ((c.tc : Thread Cert.AdamRef5Ideal.nD Cert.AdamRef5Ideal.τ).loc Cert.AdamRef5Ideal.main_arg0) = m ((c.tc : Thread Cert.Adam5Ideal.nD Cert.Adam5Ideal.τ).loc Cert.Adam5Ideal.main_arg0)
      ∧ m' ((c.tc : Thread Cert.AdamRef5Ideal.nD Cert.AdamRef5Ideal.τ).loc Cert.AdamRef5Ideal.main_arg1) = m ((c.tc : Thread Cert.Adam5Ideal.nD Cert.Adam5Ideal.τ).loc Cert.Adam5Ideal.main_arg1)
      ∧ m' ((c.tc : Thread Cert.AdamRef5Ideal.nD Cert.AdamRef5Ideal.τ).loc Cert.AdamRef5Ideal.main_arg2) = m ((c.tc : Thread Cert.Adam5Ideal.nD Cert.Adam5Ideal.τ).loc Cert.Adam5Ideal.main_arg2)
      ∧ m' ((c.tc : Thread Cert.AdamRef5Ideal.nD Cert.AdamRef5Ideal.τ).loc Cert.AdamRef5Ideal.main_arg3) = m ((c.tc : Thread Cert.Adam5Ideal.nD Cert.Adam5Ideal.τ).loc Cert.Adam5Ideal.main_arg3)) →
    ∃ (v0 : (c : Dev Cert.Adam5Ideal.nD) → Buf (Elt Ideal) ((c.tc : Thread Cert.Adam5Ideal.nD Cert.Adam5Ideal.τ).loc Cert.Adam5Ideal.main_v0_0)) (v1 : (c : Dev Cert.Adam5Ideal.nD) → Buf (Elt Ideal) ((c.tc : Thread Cert.Adam5Ideal.nD Cert.Adam5Ideal.τ).loc Cert.Adam5Ideal.main_v0_1)) (v2 : (c : Dev Cert.Adam5Ideal.nD) → Buf (Elt Ideal) ((c.tc : Thread Cert.Adam5Ideal.nD Cert.Adam5Ideal.τ).loc Cert.Adam5Ideal.main_v0_2)),
      θ_run (Cert.Adam5Ideal.defs (F := Ideal)) (onTc (τ := Cert.Adam5Ideal.τ) (Cert.Adam5Ideal.main (F := Ideal))) ⟨m, fun _ => 0, g⟩ (fun r => ∀ c : Dev Cert.Adam5Ideal.nD,
          r.2.mem ((c.tc : Thread Cert.Adam5Ideal.nD Cert.Adam5Ideal.τ).loc Cert.Adam5Ideal.main_v0_0) = v0 c
          ∧ r.2.mem ((c.tc : Thread Cert.Adam5Ideal.nD Cert.Adam5Ideal.τ).loc Cert.Adam5Ideal.main_v0_1) = v1 c
          ∧ r.2.mem ((c.tc : Thread Cert.Adam5Ideal.nD Cert.Adam5Ideal.τ).loc Cert.Adam5Ideal.main_v0_2) = v2 c
          ∧ r.2.mem ((c.tc : Thread Cert.Adam5Ideal.nD Cert.Adam5Ideal.τ).loc Cert.Adam5Ideal.main_arg0) = m ((c.tc : Thread Cert.Adam5Ideal.nD Cert.Adam5Ideal.τ).loc Cert.Adam5Ideal.main_arg0)
          ∧ r.2.mem ((c.tc : Thread Cert.Adam5Ideal.nD Cert.Adam5Ideal.τ).loc Cert.Adam5Ideal.main_arg1) = m ((c.tc : Thread Cert.Adam5Ideal.nD Cert.Adam5Ideal.τ).loc Cert.Adam5Ideal.main_arg1)
          ∧ r.2.mem ((c.tc : Thread Cert.Adam5Ideal.nD Cert.Adam5Ideal.τ).loc Cert.Adam5Ideal.main_arg2) = m ((c.tc : Thread Cert.Adam5Ideal.nD Cert.Adam5Ideal.τ).loc Cert.Adam5Ideal.main_arg2)
          ∧ r.2.mem ((c.tc : Thread Cert.Adam5Ideal.nD Cert.Adam5Ideal.τ).loc Cert.Adam5Ideal.main_arg3) = m ((c.tc : Thread Cert.Adam5Ideal.nD Cert.Adam5Ideal.τ).loc Cert.Adam5Ideal.main_arg3))
      ∧ θ_run (Cert.AdamRef5Ideal.defs (F := Ideal)) (onTc (τ := Cert.AdamRef5Ideal.τ) (Cert.AdamRef5Ideal.main (F := Ideal))) ⟨m', fun _ => 0, g'⟩ (fun r => ∀ c : Dev Cert.AdamRef5Ideal.nD,
          r.2.mem ((c.tc : Thread Cert.AdamRef5Ideal.nD Cert.AdamRef5Ideal.τ).loc Cert.AdamRef5Ideal.main_v23) = v0 c
          ∧ r.2.mem ((c.tc : Thread Cert.AdamRef5Ideal.nD Cert.AdamRef5Ideal.τ).loc Cert.AdamRef5Ideal.main_v4) = v1 c
          ∧ r.2.mem ((c.tc : Thread Cert.AdamRef5Ideal.nD Cert.AdamRef5Ideal.τ).loc Cert.AdamRef5Ideal.main_v10) = v2 c
          ∧ r.2.mem ((c.tc : Thread Cert.AdamRef5Ideal.nD Cert.AdamRef5Ideal.τ).loc Cert.AdamRef5Ideal.main_arg0) = m' ((c.tc : Thread Cert.AdamRef5Ideal.nD Cert.AdamRef5Ideal.τ).loc Cert.AdamRef5Ideal.main_arg0)
          ∧ r.2.mem ((c.tc : Thread Cert.AdamRef5Ideal.nD Cert.AdamRef5Ideal.τ).loc Cert.AdamRef5Ideal.main_arg1) = m' ((c.tc : Thread Cert.AdamRef5Ideal.nD Cert.AdamRef5Ideal.τ).loc Cert.AdamRef5Ideal.main_arg1)
          ∧ r.2.mem ((c.tc : Thread Cert.AdamRef5Ideal.nD Cert.AdamRef5Ideal.τ).loc Cert.AdamRef5Ideal.main_arg2) = m' ((c.tc : Thread Cert.AdamRef5Ideal.nD Cert.AdamRef5Ideal.τ).loc Cert.AdamRef5Ideal.main_arg2)
          ∧ r.2.mem ((c.tc : Thread Cert.AdamRef5Ideal.nD Cert.AdamRef5Ideal.τ).loc Cert.AdamRef5Ideal.main_arg3) = m' ((c.tc : Thread Cert.AdamRef5Ideal.nD Cert.AdamRef5Ideal.τ).loc Cert.AdamRef5Ideal.main_arg3))

def preserves_Adam6_Adam6Ideal : Prop :=
  True

def algebraic_Adam6Ideal_AdamRef6Ideal [hAdam6Ideal : Cert.Adam6Ideal.Facts] [hAdamRef6Ideal : Cert.AdamRef6Ideal.Facts] : Prop :=
  ∀ (m : (ℓ : Loc Cert.Adam6Ideal.nD Cert.Adam6Ideal.τ Cert.Adam6Ideal.sig) → Buf (Elt Ideal) ℓ) (g : Dev Cert.Adam6Ideal.nD → PrngReg)
    (m' : (ℓ : Loc Cert.AdamRef6Ideal.nD Cert.AdamRef6Ideal.τ Cert.AdamRef6Ideal.sig) → Buf (Elt Ideal) ℓ) (g' : Dev Cert.AdamRef6Ideal.nD → PrngReg), Pre_Adam6Ideal m →
    (∀ c : Dev Cert.Adam6Ideal.nD,
      m' ((c.tc : Thread Cert.AdamRef6Ideal.nD Cert.AdamRef6Ideal.τ).loc Cert.AdamRef6Ideal.main_arg0) = m ((c.tc : Thread Cert.Adam6Ideal.nD Cert.Adam6Ideal.τ).loc Cert.Adam6Ideal.main_arg0)
      ∧ m' ((c.tc : Thread Cert.AdamRef6Ideal.nD Cert.AdamRef6Ideal.τ).loc Cert.AdamRef6Ideal.main_arg1) = m ((c.tc : Thread Cert.Adam6Ideal.nD Cert.Adam6Ideal.τ).loc Cert.Adam6Ideal.main_arg1)
      ∧ m' ((c.tc : Thread Cert.AdamRef6Ideal.nD Cert.AdamRef6Ideal.τ).loc Cert.AdamRef6Ideal.main_arg2) = m ((c.tc : Thread Cert.Adam6Ideal.nD Cert.Adam6Ideal.τ).loc Cert.Adam6Ideal.main_arg2)
      ∧ m' ((c.tc : Thread Cert.AdamRef6Ideal.nD Cert.AdamRef6Ideal.τ).loc Cert.AdamRef6Ideal.main_arg3) = m ((c.tc : Thread Cert.Adam6Ideal.nD Cert.Adam6Ideal.τ).loc Cert.Adam6Ideal.main_arg3)) →
    ∃ (v0 : (c : Dev Cert.Adam6Ideal.nD) → Buf (Elt Ideal) ((c.tc : Thread Cert.Adam6Ideal.nD Cert.Adam6Ideal.τ).loc Cert.Adam6Ideal.main_v0_0)) (v1 : (c : Dev Cert.Adam6Ideal.nD) → Buf (Elt Ideal) ((c.tc : Thread Cert.Adam6Ideal.nD Cert.Adam6Ideal.τ).loc Cert.Adam6Ideal.main_v0_1)) (v2 : (c : Dev Cert.Adam6Ideal.nD) → Buf (Elt Ideal) ((c.tc : Thread Cert.Adam6Ideal.nD Cert.Adam6Ideal.τ).loc Cert.Adam6Ideal.main_v0_2)),
      θ_run (Cert.Adam6Ideal.defs (F := Ideal)) (onTc (τ := Cert.Adam6Ideal.τ) (Cert.Adam6Ideal.main (F := Ideal))) ⟨m, fun _ => 0, g⟩ (fun r => ∀ c : Dev Cert.Adam6Ideal.nD,
          r.2.mem ((c.tc : Thread Cert.Adam6Ideal.nD Cert.Adam6Ideal.τ).loc Cert.Adam6Ideal.main_v0_0) = v0 c
          ∧ r.2.mem ((c.tc : Thread Cert.Adam6Ideal.nD Cert.Adam6Ideal.τ).loc Cert.Adam6Ideal.main_v0_1) = v1 c
          ∧ r.2.mem ((c.tc : Thread Cert.Adam6Ideal.nD Cert.Adam6Ideal.τ).loc Cert.Adam6Ideal.main_v0_2) = v2 c
          ∧ r.2.mem ((c.tc : Thread Cert.Adam6Ideal.nD Cert.Adam6Ideal.τ).loc Cert.Adam6Ideal.main_arg0) = m ((c.tc : Thread Cert.Adam6Ideal.nD Cert.Adam6Ideal.τ).loc Cert.Adam6Ideal.main_arg0)
          ∧ r.2.mem ((c.tc : Thread Cert.Adam6Ideal.nD Cert.Adam6Ideal.τ).loc Cert.Adam6Ideal.main_arg1) = m ((c.tc : Thread Cert.Adam6Ideal.nD Cert.Adam6Ideal.τ).loc Cert.Adam6Ideal.main_arg1)
          ∧ r.2.mem ((c.tc : Thread Cert.Adam6Ideal.nD Cert.Adam6Ideal.τ).loc Cert.Adam6Ideal.main_arg2) = m ((c.tc : Thread Cert.Adam6Ideal.nD Cert.Adam6Ideal.τ).loc Cert.Adam6Ideal.main_arg2)
          ∧ r.2.mem ((c.tc : Thread Cert.Adam6Ideal.nD Cert.Adam6Ideal.τ).loc Cert.Adam6Ideal.main_arg3) = m ((c.tc : Thread Cert.Adam6Ideal.nD Cert.Adam6Ideal.τ).loc Cert.Adam6Ideal.main_arg3))
      ∧ θ_run (Cert.AdamRef6Ideal.defs (F := Ideal)) (onTc (τ := Cert.AdamRef6Ideal.τ) (Cert.AdamRef6Ideal.main (F := Ideal))) ⟨m', fun _ => 0, g'⟩ (fun r => ∀ c : Dev Cert.AdamRef6Ideal.nD,
          r.2.mem ((c.tc : Thread Cert.AdamRef6Ideal.nD Cert.AdamRef6Ideal.τ).loc Cert.AdamRef6Ideal.main_v23) = v0 c
          ∧ r.2.mem ((c.tc : Thread Cert.AdamRef6Ideal.nD Cert.AdamRef6Ideal.τ).loc Cert.AdamRef6Ideal.main_v4) = v1 c
          ∧ r.2.mem ((c.tc : Thread Cert.AdamRef6Ideal.nD Cert.AdamRef6Ideal.τ).loc Cert.AdamRef6Ideal.main_v10) = v2 c
          ∧ r.2.mem ((c.tc : Thread Cert.AdamRef6Ideal.nD Cert.AdamRef6Ideal.τ).loc Cert.AdamRef6Ideal.main_arg0) = m' ((c.tc : Thread Cert.AdamRef6Ideal.nD Cert.AdamRef6Ideal.τ).loc Cert.AdamRef6Ideal.main_arg0)
          ∧ r.2.mem ((c.tc : Thread Cert.AdamRef6Ideal.nD Cert.AdamRef6Ideal.τ).loc Cert.AdamRef6Ideal.main_arg1) = m' ((c.tc : Thread Cert.AdamRef6Ideal.nD Cert.AdamRef6Ideal.τ).loc Cert.AdamRef6Ideal.main_arg1)
          ∧ r.2.mem ((c.tc : Thread Cert.AdamRef6Ideal.nD Cert.AdamRef6Ideal.τ).loc Cert.AdamRef6Ideal.main_arg2) = m' ((c.tc : Thread Cert.AdamRef6Ideal.nD Cert.AdamRef6Ideal.τ).loc Cert.AdamRef6Ideal.main_arg2)
          ∧ r.2.mem ((c.tc : Thread Cert.AdamRef6Ideal.nD Cert.AdamRef6Ideal.τ).loc Cert.AdamRef6Ideal.main_arg3) = m' ((c.tc : Thread Cert.AdamRef6Ideal.nD Cert.AdamRef6Ideal.τ).loc Cert.AdamRef6Ideal.main_arg3))

def preserves_Adam7_Adam7Ideal : Prop :=
  True

def algebraic_Adam7Ideal_AdamRef7Ideal [hAdam7Ideal : Cert.Adam7Ideal.Facts] [hAdamRef7Ideal : Cert.AdamRef7Ideal.Facts] : Prop :=
  ∀ (m : (ℓ : Loc Cert.Adam7Ideal.nD Cert.Adam7Ideal.τ Cert.Adam7Ideal.sig) → Buf (Elt Ideal) ℓ) (g : Dev Cert.Adam7Ideal.nD → PrngReg)
    (m' : (ℓ : Loc Cert.AdamRef7Ideal.nD Cert.AdamRef7Ideal.τ Cert.AdamRef7Ideal.sig) → Buf (Elt Ideal) ℓ) (g' : Dev Cert.AdamRef7Ideal.nD → PrngReg), Pre_Adam7Ideal m →
    (∀ c : Dev Cert.Adam7Ideal.nD,
      m' ((c.tc : Thread Cert.AdamRef7Ideal.nD Cert.AdamRef7Ideal.τ).loc Cert.AdamRef7Ideal.main_arg0) = m ((c.tc : Thread Cert.Adam7Ideal.nD Cert.Adam7Ideal.τ).loc Cert.Adam7Ideal.main_arg0)
      ∧ m' ((c.tc : Thread Cert.AdamRef7Ideal.nD Cert.AdamRef7Ideal.τ).loc Cert.AdamRef7Ideal.main_arg1) = m ((c.tc : Thread Cert.Adam7Ideal.nD Cert.Adam7Ideal.τ).loc Cert.Adam7Ideal.main_arg1)
      ∧ m' ((c.tc : Thread Cert.AdamRef7Ideal.nD Cert.AdamRef7Ideal.τ).loc Cert.AdamRef7Ideal.main_arg2) = m ((c.tc : Thread Cert.Adam7Ideal.nD Cert.Adam7Ideal.τ).loc Cert.Adam7Ideal.main_arg2)
      ∧ m' ((c.tc : Thread Cert.AdamRef7Ideal.nD Cert.AdamRef7Ideal.τ).loc Cert.AdamRef7Ideal.main_arg3) = m ((c.tc : Thread Cert.Adam7Ideal.nD Cert.Adam7Ideal.τ).loc Cert.Adam7Ideal.main_arg3)) →
    ∃ (v0 : (c : Dev Cert.Adam7Ideal.nD) → Buf (Elt Ideal) ((c.tc : Thread Cert.Adam7Ideal.nD Cert.Adam7Ideal.τ).loc Cert.Adam7Ideal.main_v0_0)) (v1 : (c : Dev Cert.Adam7Ideal.nD) → Buf (Elt Ideal) ((c.tc : Thread Cert.Adam7Ideal.nD Cert.Adam7Ideal.τ).loc Cert.Adam7Ideal.main_v0_1)) (v2 : (c : Dev Cert.Adam7Ideal.nD) → Buf (Elt Ideal) ((c.tc : Thread Cert.Adam7Ideal.nD Cert.Adam7Ideal.τ).loc Cert.Adam7Ideal.main_v0_2)),
      θ_run (Cert.Adam7Ideal.defs (F := Ideal)) (onTc (τ := Cert.Adam7Ideal.τ) (Cert.Adam7Ideal.main (F := Ideal))) ⟨m, fun _ => 0, g⟩ (fun r => ∀ c : Dev Cert.Adam7Ideal.nD,
          r.2.mem ((c.tc : Thread Cert.Adam7Ideal.nD Cert.Adam7Ideal.τ).loc Cert.Adam7Ideal.main_v0_0) = v0 c
          ∧ r.2.mem ((c.tc : Thread Cert.Adam7Ideal.nD Cert.Adam7Ideal.τ).loc Cert.Adam7Ideal.main_v0_1) = v1 c
          ∧ r.2.mem ((c.tc : Thread Cert.Adam7Ideal.nD Cert.Adam7Ideal.τ).loc Cert.Adam7Ideal.main_v0_2) = v2 c
          ∧ r.2.mem ((c.tc : Thread Cert.Adam7Ideal.nD Cert.Adam7Ideal.τ).loc Cert.Adam7Ideal.main_arg0) = m ((c.tc : Thread Cert.Adam7Ideal.nD Cert.Adam7Ideal.τ).loc Cert.Adam7Ideal.main_arg0)
          ∧ r.2.mem ((c.tc : Thread Cert.Adam7Ideal.nD Cert.Adam7Ideal.τ).loc Cert.Adam7Ideal.main_arg1) = m ((c.tc : Thread Cert.Adam7Ideal.nD Cert.Adam7Ideal.τ).loc Cert.Adam7Ideal.main_arg1)
          ∧ r.2.mem ((c.tc : Thread Cert.Adam7Ideal.nD Cert.Adam7Ideal.τ).loc Cert.Adam7Ideal.main_arg2) = m ((c.tc : Thread Cert.Adam7Ideal.nD Cert.Adam7Ideal.τ).loc Cert.Adam7Ideal.main_arg2)
          ∧ r.2.mem ((c.tc : Thread Cert.Adam7Ideal.nD Cert.Adam7Ideal.τ).loc Cert.Adam7Ideal.main_arg3) = m ((c.tc : Thread Cert.Adam7Ideal.nD Cert.Adam7Ideal.τ).loc Cert.Adam7Ideal.main_arg3))
      ∧ θ_run (Cert.AdamRef7Ideal.defs (F := Ideal)) (onTc (τ := Cert.AdamRef7Ideal.τ) (Cert.AdamRef7Ideal.main (F := Ideal))) ⟨m', fun _ => 0, g'⟩ (fun r => ∀ c : Dev Cert.AdamRef7Ideal.nD,
          r.2.mem ((c.tc : Thread Cert.AdamRef7Ideal.nD Cert.AdamRef7Ideal.τ).loc Cert.AdamRef7Ideal.main_v23) = v0 c
          ∧ r.2.mem ((c.tc : Thread Cert.AdamRef7Ideal.nD Cert.AdamRef7Ideal.τ).loc Cert.AdamRef7Ideal.main_v4) = v1 c
          ∧ r.2.mem ((c.tc : Thread Cert.AdamRef7Ideal.nD Cert.AdamRef7Ideal.τ).loc Cert.AdamRef7Ideal.main_v10) = v2 c
          ∧ r.2.mem ((c.tc : Thread Cert.AdamRef7Ideal.nD Cert.AdamRef7Ideal.τ).loc Cert.AdamRef7Ideal.main_arg0) = m' ((c.tc : Thread Cert.AdamRef7Ideal.nD Cert.AdamRef7Ideal.τ).loc Cert.AdamRef7Ideal.main_arg0)
          ∧ r.2.mem ((c.tc : Thread Cert.AdamRef7Ideal.nD Cert.AdamRef7Ideal.τ).loc Cert.AdamRef7Ideal.main_arg1) = m' ((c.tc : Thread Cert.AdamRef7Ideal.nD Cert.AdamRef7Ideal.τ).loc Cert.AdamRef7Ideal.main_arg1)
          ∧ r.2.mem ((c.tc : Thread Cert.AdamRef7Ideal.nD Cert.AdamRef7Ideal.τ).loc Cert.AdamRef7Ideal.main_arg2) = m' ((c.tc : Thread Cert.AdamRef7Ideal.nD Cert.AdamRef7Ideal.τ).loc Cert.AdamRef7Ideal.main_arg2)
          ∧ r.2.mem ((c.tc : Thread Cert.AdamRef7Ideal.nD Cert.AdamRef7Ideal.τ).loc Cert.AdamRef7Ideal.main_arg3) = m' ((c.tc : Thread Cert.AdamRef7Ideal.nD Cert.AdamRef7Ideal.τ).loc Cert.AdamRef7Ideal.main_arg3))

def preserves_Adam8_Adam8Ideal : Prop :=
  True

def algebraic_Adam8Ideal_AdamRef8Ideal [hAdam8Ideal : Cert.Adam8Ideal.Facts] [hAdamRef8Ideal : Cert.AdamRef8Ideal.Facts] : Prop :=
  ∀ (m : (ℓ : Loc Cert.Adam8Ideal.nD Cert.Adam8Ideal.τ Cert.Adam8Ideal.sig) → Buf (Elt Ideal) ℓ) (g : Dev Cert.Adam8Ideal.nD → PrngReg)
    (m' : (ℓ : Loc Cert.AdamRef8Ideal.nD Cert.AdamRef8Ideal.τ Cert.AdamRef8Ideal.sig) → Buf (Elt Ideal) ℓ) (g' : Dev Cert.AdamRef8Ideal.nD → PrngReg), Pre_Adam8Ideal m →
    (∀ c : Dev Cert.Adam8Ideal.nD,
      m' ((c.tc : Thread Cert.AdamRef8Ideal.nD Cert.AdamRef8Ideal.τ).loc Cert.AdamRef8Ideal.main_arg0) = m ((c.tc : Thread Cert.Adam8Ideal.nD Cert.Adam8Ideal.τ).loc Cert.Adam8Ideal.main_arg0)
      ∧ m' ((c.tc : Thread Cert.AdamRef8Ideal.nD Cert.AdamRef8Ideal.τ).loc Cert.AdamRef8Ideal.main_arg1) = m ((c.tc : Thread Cert.Adam8Ideal.nD Cert.Adam8Ideal.τ).loc Cert.Adam8Ideal.main_arg1)
      ∧ m' ((c.tc : Thread Cert.AdamRef8Ideal.nD Cert.AdamRef8Ideal.τ).loc Cert.AdamRef8Ideal.main_arg2) = m ((c.tc : Thread Cert.Adam8Ideal.nD Cert.Adam8Ideal.τ).loc Cert.Adam8Ideal.main_arg2)
      ∧ m' ((c.tc : Thread Cert.AdamRef8Ideal.nD Cert.AdamRef8Ideal.τ).loc Cert.AdamRef8Ideal.main_arg3) = m ((c.tc : Thread Cert.Adam8Ideal.nD Cert.Adam8Ideal.τ).loc Cert.Adam8Ideal.main_arg3)) →
    ∃ (v0 : (c : Dev Cert.Adam8Ideal.nD) → Buf (Elt Ideal) ((c.tc : Thread Cert.Adam8Ideal.nD Cert.Adam8Ideal.τ).loc Cert.Adam8Ideal.main_v0_0)) (v1 : (c : Dev Cert.Adam8Ideal.nD) → Buf (Elt Ideal) ((c.tc : Thread Cert.Adam8Ideal.nD Cert.Adam8Ideal.τ).loc Cert.Adam8Ideal.main_v0_1)) (v2 : (c : Dev Cert.Adam8Ideal.nD) → Buf (Elt Ideal) ((c.tc : Thread Cert.Adam8Ideal.nD Cert.Adam8Ideal.τ).loc Cert.Adam8Ideal.main_v0_2)),
      θ_run (Cert.Adam8Ideal.defs (F := Ideal)) (onTc (τ := Cert.Adam8Ideal.τ) (Cert.Adam8Ideal.main (F := Ideal))) ⟨m, fun _ => 0, g⟩ (fun r => ∀ c : Dev Cert.Adam8Ideal.nD,
          r.2.mem ((c.tc : Thread Cert.Adam8Ideal.nD Cert.Adam8Ideal.τ).loc Cert.Adam8Ideal.main_v0_0) = v0 c
          ∧ r.2.mem ((c.tc : Thread Cert.Adam8Ideal.nD Cert.Adam8Ideal.τ).loc Cert.Adam8Ideal.main_v0_1) = v1 c
          ∧ r.2.mem ((c.tc : Thread Cert.Adam8Ideal.nD Cert.Adam8Ideal.τ).loc Cert.Adam8Ideal.main_v0_2) = v2 c
          ∧ r.2.mem ((c.tc : Thread Cert.Adam8Ideal.nD Cert.Adam8Ideal.τ).loc Cert.Adam8Ideal.main_arg0) = m ((c.tc : Thread Cert.Adam8Ideal.nD Cert.Adam8Ideal.τ).loc Cert.Adam8Ideal.main_arg0)
          ∧ r.2.mem ((c.tc : Thread Cert.Adam8Ideal.nD Cert.Adam8Ideal.τ).loc Cert.Adam8Ideal.main_arg1) = m ((c.tc : Thread Cert.Adam8Ideal.nD Cert.Adam8Ideal.τ).loc Cert.Adam8Ideal.main_arg1)
          ∧ r.2.mem ((c.tc : Thread Cert.Adam8Ideal.nD Cert.Adam8Ideal.τ).loc Cert.Adam8Ideal.main_arg2) = m ((c.tc : Thread Cert.Adam8Ideal.nD Cert.Adam8Ideal.τ).loc Cert.Adam8Ideal.main_arg2)
          ∧ r.2.mem ((c.tc : Thread Cert.Adam8Ideal.nD Cert.Adam8Ideal.τ).loc Cert.Adam8Ideal.main_arg3) = m ((c.tc : Thread Cert.Adam8Ideal.nD Cert.Adam8Ideal.τ).loc Cert.Adam8Ideal.main_arg3))
      ∧ θ_run (Cert.AdamRef8Ideal.defs (F := Ideal)) (onTc (τ := Cert.AdamRef8Ideal.τ) (Cert.AdamRef8Ideal.main (F := Ideal))) ⟨m', fun _ => 0, g'⟩ (fun r => ∀ c : Dev Cert.AdamRef8Ideal.nD,
          r.2.mem ((c.tc : Thread Cert.AdamRef8Ideal.nD Cert.AdamRef8Ideal.τ).loc Cert.AdamRef8Ideal.main_v23) = v0 c
          ∧ r.2.mem ((c.tc : Thread Cert.AdamRef8Ideal.nD Cert.AdamRef8Ideal.τ).loc Cert.AdamRef8Ideal.main_v4) = v1 c
          ∧ r.2.mem ((c.tc : Thread Cert.AdamRef8Ideal.nD Cert.AdamRef8Ideal.τ).loc Cert.AdamRef8Ideal.main_v10) = v2 c
          ∧ r.2.mem ((c.tc : Thread Cert.AdamRef8Ideal.nD Cert.AdamRef8Ideal.τ).loc Cert.AdamRef8Ideal.main_arg0) = m' ((c.tc : Thread Cert.AdamRef8Ideal.nD Cert.AdamRef8Ideal.τ).loc Cert.AdamRef8Ideal.main_arg0)
          ∧ r.2.mem ((c.tc : Thread Cert.AdamRef8Ideal.nD Cert.AdamRef8Ideal.τ).loc Cert.AdamRef8Ideal.main_arg1) = m' ((c.tc : Thread Cert.AdamRef8Ideal.nD Cert.AdamRef8Ideal.τ).loc Cert.AdamRef8Ideal.main_arg1)
          ∧ r.2.mem ((c.tc : Thread Cert.AdamRef8Ideal.nD Cert.AdamRef8Ideal.τ).loc Cert.AdamRef8Ideal.main_arg2) = m' ((c.tc : Thread Cert.AdamRef8Ideal.nD Cert.AdamRef8Ideal.τ).loc Cert.AdamRef8Ideal.main_arg2)
          ∧ r.2.mem ((c.tc : Thread Cert.AdamRef8Ideal.nD Cert.AdamRef8Ideal.τ).loc Cert.AdamRef8Ideal.main_arg3) = m' ((c.tc : Thread Cert.AdamRef8Ideal.nD Cert.AdamRef8Ideal.τ).loc Cert.AdamRef8Ideal.main_arg3))

def preserves_Adam9_Adam9Ideal : Prop :=
  True

def algebraic_Adam9Ideal_AdamRef9Ideal [hAdam9Ideal : Cert.Adam9Ideal.Facts] [hAdamRef9Ideal : Cert.AdamRef9Ideal.Facts] : Prop :=
  ∀ (m : (ℓ : Loc Cert.Adam9Ideal.nD Cert.Adam9Ideal.τ Cert.Adam9Ideal.sig) → Buf (Elt Ideal) ℓ) (g : Dev Cert.Adam9Ideal.nD → PrngReg)
    (m' : (ℓ : Loc Cert.AdamRef9Ideal.nD Cert.AdamRef9Ideal.τ Cert.AdamRef9Ideal.sig) → Buf (Elt Ideal) ℓ) (g' : Dev Cert.AdamRef9Ideal.nD → PrngReg), Pre_Adam9Ideal m →
    (∀ c : Dev Cert.Adam9Ideal.nD,
      m' ((c.tc : Thread Cert.AdamRef9Ideal.nD Cert.AdamRef9Ideal.τ).loc Cert.AdamRef9Ideal.main_arg0) = m ((c.tc : Thread Cert.Adam9Ideal.nD Cert.Adam9Ideal.τ).loc Cert.Adam9Ideal.main_arg0)
      ∧ m' ((c.tc : Thread Cert.AdamRef9Ideal.nD Cert.AdamRef9Ideal.τ).loc Cert.AdamRef9Ideal.main_arg1) = m ((c.tc : Thread Cert.Adam9Ideal.nD Cert.Adam9Ideal.τ).loc Cert.Adam9Ideal.main_arg1)
      ∧ m' ((c.tc : Thread Cert.AdamRef9Ideal.nD Cert.AdamRef9Ideal.τ).loc Cert.AdamRef9Ideal.main_arg2) = m ((c.tc : Thread Cert.Adam9Ideal.nD Cert.Adam9Ideal.τ).loc Cert.Adam9Ideal.main_arg2)
      ∧ m' ((c.tc : Thread Cert.AdamRef9Ideal.nD Cert.AdamRef9Ideal.τ).loc Cert.AdamRef9Ideal.main_arg3) = m ((c.tc : Thread Cert.Adam9Ideal.nD Cert.Adam9Ideal.τ).loc Cert.Adam9Ideal.main_arg3)) →
    ∃ (v0 : (c : Dev Cert.Adam9Ideal.nD) → Buf (Elt Ideal) ((c.tc : Thread Cert.Adam9Ideal.nD Cert.Adam9Ideal.τ).loc Cert.Adam9Ideal.main_v0_0)) (v1 : (c : Dev Cert.Adam9Ideal.nD) → Buf (Elt Ideal) ((c.tc : Thread Cert.Adam9Ideal.nD Cert.Adam9Ideal.τ).loc Cert.Adam9Ideal.main_v0_1)) (v2 : (c : Dev Cert.Adam9Ideal.nD) → Buf (Elt Ideal) ((c.tc : Thread Cert.Adam9Ideal.nD Cert.Adam9Ideal.τ).loc Cert.Adam9Ideal.main_v0_2)),
      θ_run (Cert.Adam9Ideal.defs (F := Ideal)) (onTc (τ := Cert.Adam9Ideal.τ) (Cert.Adam9Ideal.main (F := Ideal))) ⟨m, fun _ => 0, g⟩ (fun r => ∀ c : Dev Cert.Adam9Ideal.nD,
          r.2.mem ((c.tc : Thread Cert.Adam9Ideal.nD Cert.Adam9Ideal.τ).loc Cert.Adam9Ideal.main_v0_0) = v0 c
          ∧ r.2.mem ((c.tc : Thread Cert.Adam9Ideal.nD Cert.Adam9Ideal.τ).loc Cert.Adam9Ideal.main_v0_1) = v1 c
          ∧ r.2.mem ((c.tc : Thread Cert.Adam9Ideal.nD Cert.Adam9Ideal.τ).loc Cert.Adam9Ideal.main_v0_2) = v2 c
          ∧ r.2.mem ((c.tc : Thread Cert.Adam9Ideal.nD Cert.Adam9Ideal.τ).loc Cert.Adam9Ideal.main_arg0) = m ((c.tc : Thread Cert.Adam9Ideal.nD Cert.Adam9Ideal.τ).loc Cert.Adam9Ideal.main_arg0)
          ∧ r.2.mem ((c.tc : Thread Cert.Adam9Ideal.nD Cert.Adam9Ideal.τ).loc Cert.Adam9Ideal.main_arg1) = m ((c.tc : Thread Cert.Adam9Ideal.nD Cert.Adam9Ideal.τ).loc Cert.Adam9Ideal.main_arg1)
          ∧ r.2.mem ((c.tc : Thread Cert.Adam9Ideal.nD Cert.Adam9Ideal.τ).loc Cert.Adam9Ideal.main_arg2) = m ((c.tc : Thread Cert.Adam9Ideal.nD Cert.Adam9Ideal.τ).loc Cert.Adam9Ideal.main_arg2)
          ∧ r.2.mem ((c.tc : Thread Cert.Adam9Ideal.nD Cert.Adam9Ideal.τ).loc Cert.Adam9Ideal.main_arg3) = m ((c.tc : Thread Cert.Adam9Ideal.nD Cert.Adam9Ideal.τ).loc Cert.Adam9Ideal.main_arg3))
      ∧ θ_run (Cert.AdamRef9Ideal.defs (F := Ideal)) (onTc (τ := Cert.AdamRef9Ideal.τ) (Cert.AdamRef9Ideal.main (F := Ideal))) ⟨m', fun _ => 0, g'⟩ (fun r => ∀ c : Dev Cert.AdamRef9Ideal.nD,
          r.2.mem ((c.tc : Thread Cert.AdamRef9Ideal.nD Cert.AdamRef9Ideal.τ).loc Cert.AdamRef9Ideal.main_v23) = v0 c
          ∧ r.2.mem ((c.tc : Thread Cert.AdamRef9Ideal.nD Cert.AdamRef9Ideal.τ).loc Cert.AdamRef9Ideal.main_v4) = v1 c
          ∧ r.2.mem ((c.tc : Thread Cert.AdamRef9Ideal.nD Cert.AdamRef9Ideal.τ).loc Cert.AdamRef9Ideal.main_v10) = v2 c
          ∧ r.2.mem ((c.tc : Thread Cert.AdamRef9Ideal.nD Cert.AdamRef9Ideal.τ).loc Cert.AdamRef9Ideal.main_arg0) = m' ((c.tc : Thread Cert.AdamRef9Ideal.nD Cert.AdamRef9Ideal.τ).loc Cert.AdamRef9Ideal.main_arg0)
          ∧ r.2.mem ((c.tc : Thread Cert.AdamRef9Ideal.nD Cert.AdamRef9Ideal.τ).loc Cert.AdamRef9Ideal.main_arg1) = m' ((c.tc : Thread Cert.AdamRef9Ideal.nD Cert.AdamRef9Ideal.τ).loc Cert.AdamRef9Ideal.main_arg1)
          ∧ r.2.mem ((c.tc : Thread Cert.AdamRef9Ideal.nD Cert.AdamRef9Ideal.τ).loc Cert.AdamRef9Ideal.main_arg2) = m' ((c.tc : Thread Cert.AdamRef9Ideal.nD Cert.AdamRef9Ideal.τ).loc Cert.AdamRef9Ideal.main_arg2)
          ∧ r.2.mem ((c.tc : Thread Cert.AdamRef9Ideal.nD Cert.AdamRef9Ideal.τ).loc Cert.AdamRef9Ideal.main_arg3) = m' ((c.tc : Thread Cert.AdamRef9Ideal.nD Cert.AdamRef9Ideal.τ).loc Cert.AdamRef9Ideal.main_arg3))

def preserves_Adam10_Adam10Ideal : Prop :=
  True

def algebraic_Adam10Ideal_AdamRef10Ideal [hAdam10Ideal : Cert.Adam10Ideal.Facts] [hAdamRef10Ideal : Cert.AdamRef10Ideal.Facts] : Prop :=
  ∀ (m : (ℓ : Loc Cert.Adam10Ideal.nD Cert.Adam10Ideal.τ Cert.Adam10Ideal.sig) → Buf (Elt Ideal) ℓ) (g : Dev Cert.Adam10Ideal.nD → PrngReg)
    (m' : (ℓ : Loc Cert.AdamRef10Ideal.nD Cert.AdamRef10Ideal.τ Cert.AdamRef10Ideal.sig) → Buf (Elt Ideal) ℓ) (g' : Dev Cert.AdamRef10Ideal.nD → PrngReg), Pre_Adam10Ideal m →
    (∀ c : Dev Cert.Adam10Ideal.nD,
      m' ((c.tc : Thread Cert.AdamRef10Ideal.nD Cert.AdamRef10Ideal.τ).loc Cert.AdamRef10Ideal.main_arg0) = m ((c.tc : Thread Cert.Adam10Ideal.nD Cert.Adam10Ideal.τ).loc Cert.Adam10Ideal.main_arg0)
      ∧ m' ((c.tc : Thread Cert.AdamRef10Ideal.nD Cert.AdamRef10Ideal.τ).loc Cert.AdamRef10Ideal.main_arg1) = m ((c.tc : Thread Cert.Adam10Ideal.nD Cert.Adam10Ideal.τ).loc Cert.Adam10Ideal.main_arg1)
      ∧ m' ((c.tc : Thread Cert.AdamRef10Ideal.nD Cert.AdamRef10Ideal.τ).loc Cert.AdamRef10Ideal.main_arg2) = m ((c.tc : Thread Cert.Adam10Ideal.nD Cert.Adam10Ideal.τ).loc Cert.Adam10Ideal.main_arg2)
      ∧ m' ((c.tc : Thread Cert.AdamRef10Ideal.nD Cert.AdamRef10Ideal.τ).loc Cert.AdamRef10Ideal.main_arg3) = m ((c.tc : Thread Cert.Adam10Ideal.nD Cert.Adam10Ideal.τ).loc Cert.Adam10Ideal.main_arg3)) →
    ∃ (v0 : (c : Dev Cert.Adam10Ideal.nD) → Buf (Elt Ideal) ((c.tc : Thread Cert.Adam10Ideal.nD Cert.Adam10Ideal.τ).loc Cert.Adam10Ideal.main_v0_0)) (v1 : (c : Dev Cert.Adam10Ideal.nD) → Buf (Elt Ideal) ((c.tc : Thread Cert.Adam10Ideal.nD Cert.Adam10Ideal.τ).loc Cert.Adam10Ideal.main_v0_1)) (v2 : (c : Dev Cert.Adam10Ideal.nD) → Buf (Elt Ideal) ((c.tc : Thread Cert.Adam10Ideal.nD Cert.Adam10Ideal.τ).loc Cert.Adam10Ideal.main_v0_2)),
      θ_run (Cert.Adam10Ideal.defs (F := Ideal)) (onTc (τ := Cert.Adam10Ideal.τ) (Cert.Adam10Ideal.main (F := Ideal))) ⟨m, fun _ => 0, g⟩ (fun r => ∀ c : Dev Cert.Adam10Ideal.nD,
          r.2.mem ((c.tc : Thread Cert.Adam10Ideal.nD Cert.Adam10Ideal.τ).loc Cert.Adam10Ideal.main_v0_0) = v0 c
          ∧ r.2.mem ((c.tc : Thread Cert.Adam10Ideal.nD Cert.Adam10Ideal.τ).loc Cert.Adam10Ideal.main_v0_1) = v1 c
          ∧ r.2.mem ((c.tc : Thread Cert.Adam10Ideal.nD Cert.Adam10Ideal.τ).loc Cert.Adam10Ideal.main_v0_2) = v2 c
          ∧ r.2.mem ((c.tc : Thread Cert.Adam10Ideal.nD Cert.Adam10Ideal.τ).loc Cert.Adam10Ideal.main_arg0) = m ((c.tc : Thread Cert.Adam10Ideal.nD Cert.Adam10Ideal.τ).loc Cert.Adam10Ideal.main_arg0)
          ∧ r.2.mem ((c.tc : Thread Cert.Adam10Ideal.nD Cert.Adam10Ideal.τ).loc Cert.Adam10Ideal.main_arg1) = m ((c.tc : Thread Cert.Adam10Ideal.nD Cert.Adam10Ideal.τ).loc Cert.Adam10Ideal.main_arg1)
          ∧ r.2.mem ((c.tc : Thread Cert.Adam10Ideal.nD Cert.Adam10Ideal.τ).loc Cert.Adam10Ideal.main_arg2) = m ((c.tc : Thread Cert.Adam10Ideal.nD Cert.Adam10Ideal.τ).loc Cert.Adam10Ideal.main_arg2)
          ∧ r.2.mem ((c.tc : Thread Cert.Adam10Ideal.nD Cert.Adam10Ideal.τ).loc Cert.Adam10Ideal.main_arg3) = m ((c.tc : Thread Cert.Adam10Ideal.nD Cert.Adam10Ideal.τ).loc Cert.Adam10Ideal.main_arg3))
      ∧ θ_run (Cert.AdamRef10Ideal.defs (F := Ideal)) (onTc (τ := Cert.AdamRef10Ideal.τ) (Cert.AdamRef10Ideal.main (F := Ideal))) ⟨m', fun _ => 0, g'⟩ (fun r => ∀ c : Dev Cert.AdamRef10Ideal.nD,
          r.2.mem ((c.tc : Thread Cert.AdamRef10Ideal.nD Cert.AdamRef10Ideal.τ).loc Cert.AdamRef10Ideal.main_v23) = v0 c
          ∧ r.2.mem ((c.tc : Thread Cert.AdamRef10Ideal.nD Cert.AdamRef10Ideal.τ).loc Cert.AdamRef10Ideal.main_v4) = v1 c
          ∧ r.2.mem ((c.tc : Thread Cert.AdamRef10Ideal.nD Cert.AdamRef10Ideal.τ).loc Cert.AdamRef10Ideal.main_v10) = v2 c
          ∧ r.2.mem ((c.tc : Thread Cert.AdamRef10Ideal.nD Cert.AdamRef10Ideal.τ).loc Cert.AdamRef10Ideal.main_arg0) = m' ((c.tc : Thread Cert.AdamRef10Ideal.nD Cert.AdamRef10Ideal.τ).loc Cert.AdamRef10Ideal.main_arg0)
          ∧ r.2.mem ((c.tc : Thread Cert.AdamRef10Ideal.nD Cert.AdamRef10Ideal.τ).loc Cert.AdamRef10Ideal.main_arg1) = m' ((c.tc : Thread Cert.AdamRef10Ideal.nD Cert.AdamRef10Ideal.τ).loc Cert.AdamRef10Ideal.main_arg1)
          ∧ r.2.mem ((c.tc : Thread Cert.AdamRef10Ideal.nD Cert.AdamRef10Ideal.τ).loc Cert.AdamRef10Ideal.main_arg2) = m' ((c.tc : Thread Cert.AdamRef10Ideal.nD Cert.AdamRef10Ideal.τ).loc Cert.AdamRef10Ideal.main_arg2)
          ∧ r.2.mem ((c.tc : Thread Cert.AdamRef10Ideal.nD Cert.AdamRef10Ideal.τ).loc Cert.AdamRef10Ideal.main_arg3) = m' ((c.tc : Thread Cert.AdamRef10Ideal.nD Cert.AdamRef10Ideal.τ).loc Cert.AdamRef10Ideal.main_arg3))

def preserves_Adam11_Adam11Ideal : Prop :=
  True

def algebraic_Adam11Ideal_AdamRef11Ideal [hAdam11Ideal : Cert.Adam11Ideal.Facts] [hAdamRef11Ideal : Cert.AdamRef11Ideal.Facts] : Prop :=
  ∀ (m : (ℓ : Loc Cert.Adam11Ideal.nD Cert.Adam11Ideal.τ Cert.Adam11Ideal.sig) → Buf (Elt Ideal) ℓ) (g : Dev Cert.Adam11Ideal.nD → PrngReg)
    (m' : (ℓ : Loc Cert.AdamRef11Ideal.nD Cert.AdamRef11Ideal.τ Cert.AdamRef11Ideal.sig) → Buf (Elt Ideal) ℓ) (g' : Dev Cert.AdamRef11Ideal.nD → PrngReg), Pre_Adam11Ideal m →
    (∀ c : Dev Cert.Adam11Ideal.nD,
      m' ((c.tc : Thread Cert.AdamRef11Ideal.nD Cert.AdamRef11Ideal.τ).loc Cert.AdamRef11Ideal.main_arg0) = m ((c.tc : Thread Cert.Adam11Ideal.nD Cert.Adam11Ideal.τ).loc Cert.Adam11Ideal.main_arg0)
      ∧ m' ((c.tc : Thread Cert.AdamRef11Ideal.nD Cert.AdamRef11Ideal.τ).loc Cert.AdamRef11Ideal.main_arg1) = m ((c.tc : Thread Cert.Adam11Ideal.nD Cert.Adam11Ideal.τ).loc Cert.Adam11Ideal.main_arg1)
      ∧ m' ((c.tc : Thread Cert.AdamRef11Ideal.nD Cert.AdamRef11Ideal.τ).loc Cert.AdamRef11Ideal.main_arg2) = m ((c.tc : Thread Cert.Adam11Ideal.nD Cert.Adam11Ideal.τ).loc Cert.Adam11Ideal.main_arg2)
      ∧ m' ((c.tc : Thread Cert.AdamRef11Ideal.nD Cert.AdamRef11Ideal.τ).loc Cert.AdamRef11Ideal.main_arg3) = m ((c.tc : Thread Cert.Adam11Ideal.nD Cert.Adam11Ideal.τ).loc Cert.Adam11Ideal.main_arg3)) →
    ∃ (v0 : (c : Dev Cert.Adam11Ideal.nD) → Buf (Elt Ideal) ((c.tc : Thread Cert.Adam11Ideal.nD Cert.Adam11Ideal.τ).loc Cert.Adam11Ideal.main_v0_0)) (v1 : (c : Dev Cert.Adam11Ideal.nD) → Buf (Elt Ideal) ((c.tc : Thread Cert.Adam11Ideal.nD Cert.Adam11Ideal.τ).loc Cert.Adam11Ideal.main_v0_1)) (v2 : (c : Dev Cert.Adam11Ideal.nD) → Buf (Elt Ideal) ((c.tc : Thread Cert.Adam11Ideal.nD Cert.Adam11Ideal.τ).loc Cert.Adam11Ideal.main_v0_2)),
      θ_run (Cert.Adam11Ideal.defs (F := Ideal)) (onTc (τ := Cert.Adam11Ideal.τ) (Cert.Adam11Ideal.main (F := Ideal))) ⟨m, fun _ => 0, g⟩ (fun r => ∀ c : Dev Cert.Adam11Ideal.nD,
          r.2.mem ((c.tc : Thread Cert.Adam11Ideal.nD Cert.Adam11Ideal.τ).loc Cert.Adam11Ideal.main_v0_0) = v0 c
          ∧ r.2.mem ((c.tc : Thread Cert.Adam11Ideal.nD Cert.Adam11Ideal.τ).loc Cert.Adam11Ideal.main_v0_1) = v1 c
          ∧ r.2.mem ((c.tc : Thread Cert.Adam11Ideal.nD Cert.Adam11Ideal.τ).loc Cert.Adam11Ideal.main_v0_2) = v2 c
          ∧ r.2.mem ((c.tc : Thread Cert.Adam11Ideal.nD Cert.Adam11Ideal.τ).loc Cert.Adam11Ideal.main_arg0) = m ((c.tc : Thread Cert.Adam11Ideal.nD Cert.Adam11Ideal.τ).loc Cert.Adam11Ideal.main_arg0)
          ∧ r.2.mem ((c.tc : Thread Cert.Adam11Ideal.nD Cert.Adam11Ideal.τ).loc Cert.Adam11Ideal.main_arg1) = m ((c.tc : Thread Cert.Adam11Ideal.nD Cert.Adam11Ideal.τ).loc Cert.Adam11Ideal.main_arg1)
          ∧ r.2.mem ((c.tc : Thread Cert.Adam11Ideal.nD Cert.Adam11Ideal.τ).loc Cert.Adam11Ideal.main_arg2) = m ((c.tc : Thread Cert.Adam11Ideal.nD Cert.Adam11Ideal.τ).loc Cert.Adam11Ideal.main_arg2)
          ∧ r.2.mem ((c.tc : Thread Cert.Adam11Ideal.nD Cert.Adam11Ideal.τ).loc Cert.Adam11Ideal.main_arg3) = m ((c.tc : Thread Cert.Adam11Ideal.nD Cert.Adam11Ideal.τ).loc Cert.Adam11Ideal.main_arg3))
      ∧ θ_run (Cert.AdamRef11Ideal.defs (F := Ideal)) (onTc (τ := Cert.AdamRef11Ideal.τ) (Cert.AdamRef11Ideal.main (F := Ideal))) ⟨m', fun _ => 0, g'⟩ (fun r => ∀ c : Dev Cert.AdamRef11Ideal.nD,
          r.2.mem ((c.tc : Thread Cert.AdamRef11Ideal.nD Cert.AdamRef11Ideal.τ).loc Cert.AdamRef11Ideal.main_v23) = v0 c
          ∧ r.2.mem ((c.tc : Thread Cert.AdamRef11Ideal.nD Cert.AdamRef11Ideal.τ).loc Cert.AdamRef11Ideal.main_v4) = v1 c
          ∧ r.2.mem ((c.tc : Thread Cert.AdamRef11Ideal.nD Cert.AdamRef11Ideal.τ).loc Cert.AdamRef11Ideal.main_v10) = v2 c
          ∧ r.2.mem ((c.tc : Thread Cert.AdamRef11Ideal.nD Cert.AdamRef11Ideal.τ).loc Cert.AdamRef11Ideal.main_arg0) = m' ((c.tc : Thread Cert.AdamRef11Ideal.nD Cert.AdamRef11Ideal.τ).loc Cert.AdamRef11Ideal.main_arg0)
          ∧ r.2.mem ((c.tc : Thread Cert.AdamRef11Ideal.nD Cert.AdamRef11Ideal.τ).loc Cert.AdamRef11Ideal.main_arg1) = m' ((c.tc : Thread Cert.AdamRef11Ideal.nD Cert.AdamRef11Ideal.τ).loc Cert.AdamRef11Ideal.main_arg1)
          ∧ r.2.mem ((c.tc : Thread Cert.AdamRef11Ideal.nD Cert.AdamRef11Ideal.τ).loc Cert.AdamRef11Ideal.main_arg2) = m' ((c.tc : Thread Cert.AdamRef11Ideal.nD Cert.AdamRef11Ideal.τ).loc Cert.AdamRef11Ideal.main_arg2)
          ∧ r.2.mem ((c.tc : Thread Cert.AdamRef11Ideal.nD Cert.AdamRef11Ideal.τ).loc Cert.AdamRef11Ideal.main_arg3) = m' ((c.tc : Thread Cert.AdamRef11Ideal.nD Cert.AdamRef11Ideal.τ).loc Cert.AdamRef11Ideal.main_arg3))

def preserves_Adam12_Adam12Ideal : Prop :=
  True

def algebraic_Adam12Ideal_AdamRef12Ideal [hAdam12Ideal : Cert.Adam12Ideal.Facts] [hAdamRef12Ideal : Cert.AdamRef12Ideal.Facts] : Prop :=
  ∀ (m : (ℓ : Loc Cert.Adam12Ideal.nD Cert.Adam12Ideal.τ Cert.Adam12Ideal.sig) → Buf (Elt Ideal) ℓ) (g : Dev Cert.Adam12Ideal.nD → PrngReg)
    (m' : (ℓ : Loc Cert.AdamRef12Ideal.nD Cert.AdamRef12Ideal.τ Cert.AdamRef12Ideal.sig) → Buf (Elt Ideal) ℓ) (g' : Dev Cert.AdamRef12Ideal.nD → PrngReg), Pre_Adam12Ideal m →
    (∀ c : Dev Cert.Adam12Ideal.nD,
      m' ((c.tc : Thread Cert.AdamRef12Ideal.nD Cert.AdamRef12Ideal.τ).loc Cert.AdamRef12Ideal.main_arg0) = m ((c.tc : Thread Cert.Adam12Ideal.nD Cert.Adam12Ideal.τ).loc Cert.Adam12Ideal.main_arg0)
      ∧ m' ((c.tc : Thread Cert.AdamRef12Ideal.nD Cert.AdamRef12Ideal.τ).loc Cert.AdamRef12Ideal.main_arg1) = m ((c.tc : Thread Cert.Adam12Ideal.nD Cert.Adam12Ideal.τ).loc Cert.Adam12Ideal.main_arg1)
      ∧ m' ((c.tc : Thread Cert.AdamRef12Ideal.nD Cert.AdamRef12Ideal.τ).loc Cert.AdamRef12Ideal.main_arg2) = m ((c.tc : Thread Cert.Adam12Ideal.nD Cert.Adam12Ideal.τ).loc Cert.Adam12Ideal.main_arg2)
      ∧ m' ((c.tc : Thread Cert.AdamRef12Ideal.nD Cert.AdamRef12Ideal.τ).loc Cert.AdamRef12Ideal.main_arg3) = m ((c.tc : Thread Cert.Adam12Ideal.nD Cert.Adam12Ideal.τ).loc Cert.Adam12Ideal.main_arg3)) →
    ∃ (v0 : (c : Dev Cert.Adam12Ideal.nD) → Buf (Elt Ideal) ((c.tc : Thread Cert.Adam12Ideal.nD Cert.Adam12Ideal.τ).loc Cert.Adam12Ideal.main_v0_0)) (v1 : (c : Dev Cert.Adam12Ideal.nD) → Buf (Elt Ideal) ((c.tc : Thread Cert.Adam12Ideal.nD Cert.Adam12Ideal.τ).loc Cert.Adam12Ideal.main_v0_1)) (v2 : (c : Dev Cert.Adam12Ideal.nD) → Buf (Elt Ideal) ((c.tc : Thread Cert.Adam12Ideal.nD Cert.Adam12Ideal.τ).loc Cert.Adam12Ideal.main_v0_2)),
      θ_run (Cert.Adam12Ideal.defs (F := Ideal)) (onTc (τ := Cert.Adam12Ideal.τ) (Cert.Adam12Ideal.main (F := Ideal))) ⟨m, fun _ => 0, g⟩ (fun r => ∀ c : Dev Cert.Adam12Ideal.nD,
          r.2.mem ((c.tc : Thread Cert.Adam12Ideal.nD Cert.Adam12Ideal.τ).loc Cert.Adam12Ideal.main_v0_0) = v0 c
          ∧ r.2.mem ((c.tc : Thread Cert.Adam12Ideal.nD Cert.Adam12Ideal.τ).loc Cert.Adam12Ideal.main_v0_1) = v1 c
          ∧ r.2.mem ((c.tc : Thread Cert.Adam12Ideal.nD Cert.Adam12Ideal.τ).loc Cert.Adam12Ideal.main_v0_2) = v2 c
          ∧ r.2.mem ((c.tc : Thread Cert.Adam12Ideal.nD Cert.Adam12Ideal.τ).loc Cert.Adam12Ideal.main_arg0) = m ((c.tc : Thread Cert.Adam12Ideal.nD Cert.Adam12Ideal.τ).loc Cert.Adam12Ideal.main_arg0)
          ∧ r.2.mem ((c.tc : Thread Cert.Adam12Ideal.nD Cert.Adam12Ideal.τ).loc Cert.Adam12Ideal.main_arg1) = m ((c.tc : Thread Cert.Adam12Ideal.nD Cert.Adam12Ideal.τ).loc Cert.Adam12Ideal.main_arg1)
          ∧ r.2.mem ((c.tc : Thread Cert.Adam12Ideal.nD Cert.Adam12Ideal.τ).loc Cert.Adam12Ideal.main_arg2) = m ((c.tc : Thread Cert.Adam12Ideal.nD Cert.Adam12Ideal.τ).loc Cert.Adam12Ideal.main_arg2)
          ∧ r.2.mem ((c.tc : Thread Cert.Adam12Ideal.nD Cert.Adam12Ideal.τ).loc Cert.Adam12Ideal.main_arg3) = m ((c.tc : Thread Cert.Adam12Ideal.nD Cert.Adam12Ideal.τ).loc Cert.Adam12Ideal.main_arg3))
      ∧ θ_run (Cert.AdamRef12Ideal.defs (F := Ideal)) (onTc (τ := Cert.AdamRef12Ideal.τ) (Cert.AdamRef12Ideal.main (F := Ideal))) ⟨m', fun _ => 0, g'⟩ (fun r => ∀ c : Dev Cert.AdamRef12Ideal.nD,
          r.2.mem ((c.tc : Thread Cert.AdamRef12Ideal.nD Cert.AdamRef12Ideal.τ).loc Cert.AdamRef12Ideal.main_v23) = v0 c
          ∧ r.2.mem ((c.tc : Thread Cert.AdamRef12Ideal.nD Cert.AdamRef12Ideal.τ).loc Cert.AdamRef12Ideal.main_v4) = v1 c
          ∧ r.2.mem ((c.tc : Thread Cert.AdamRef12Ideal.nD Cert.AdamRef12Ideal.τ).loc Cert.AdamRef12Ideal.main_v10) = v2 c
          ∧ r.2.mem ((c.tc : Thread Cert.AdamRef12Ideal.nD Cert.AdamRef12Ideal.τ).loc Cert.AdamRef12Ideal.main_arg0) = m' ((c.tc : Thread Cert.AdamRef12Ideal.nD Cert.AdamRef12Ideal.τ).loc Cert.AdamRef12Ideal.main_arg0)
          ∧ r.2.mem ((c.tc : Thread Cert.AdamRef12Ideal.nD Cert.AdamRef12Ideal.τ).loc Cert.AdamRef12Ideal.main_arg1) = m' ((c.tc : Thread Cert.AdamRef12Ideal.nD Cert.AdamRef12Ideal.τ).loc Cert.AdamRef12Ideal.main_arg1)
          ∧ r.2.mem ((c.tc : Thread Cert.AdamRef12Ideal.nD Cert.AdamRef12Ideal.τ).loc Cert.AdamRef12Ideal.main_arg2) = m' ((c.tc : Thread Cert.AdamRef12Ideal.nD Cert.AdamRef12Ideal.τ).loc Cert.AdamRef12Ideal.main_arg2)
          ∧ r.2.mem ((c.tc : Thread Cert.AdamRef12Ideal.nD Cert.AdamRef12Ideal.τ).loc Cert.AdamRef12Ideal.main_arg3) = m' ((c.tc : Thread Cert.AdamRef12Ideal.nD Cert.AdamRef12Ideal.τ).loc Cert.AdamRef12Ideal.main_arg3))

def preserves_Adam13_Adam13Ideal : Prop :=
  True

def algebraic_Adam13Ideal_AdamRef13Ideal [hAdam13Ideal : Cert.Adam13Ideal.Facts] [hAdamRef13Ideal : Cert.AdamRef13Ideal.Facts] : Prop :=
  ∀ (m : (ℓ : Loc Cert.Adam13Ideal.nD Cert.Adam13Ideal.τ Cert.Adam13Ideal.sig) → Buf (Elt Ideal) ℓ) (g : Dev Cert.Adam13Ideal.nD → PrngReg)
    (m' : (ℓ : Loc Cert.AdamRef13Ideal.nD Cert.AdamRef13Ideal.τ Cert.AdamRef13Ideal.sig) → Buf (Elt Ideal) ℓ) (g' : Dev Cert.AdamRef13Ideal.nD → PrngReg), Pre_Adam13Ideal m →
    (∀ c : Dev Cert.Adam13Ideal.nD,
      m' ((c.tc : Thread Cert.AdamRef13Ideal.nD Cert.AdamRef13Ideal.τ).loc Cert.AdamRef13Ideal.main_arg0) = m ((c.tc : Thread Cert.Adam13Ideal.nD Cert.Adam13Ideal.τ).loc Cert.Adam13Ideal.main_arg0)
      ∧ m' ((c.tc : Thread Cert.AdamRef13Ideal.nD Cert.AdamRef13Ideal.τ).loc Cert.AdamRef13Ideal.main_arg1) = m ((c.tc : Thread Cert.Adam13Ideal.nD Cert.Adam13Ideal.τ).loc Cert.Adam13Ideal.main_arg1)
      ∧ m' ((c.tc : Thread Cert.AdamRef13Ideal.nD Cert.AdamRef13Ideal.τ).loc Cert.AdamRef13Ideal.main_arg2) = m ((c.tc : Thread Cert.Adam13Ideal.nD Cert.Adam13Ideal.τ).loc Cert.Adam13Ideal.main_arg2)
      ∧ m' ((c.tc : Thread Cert.AdamRef13Ideal.nD Cert.AdamRef13Ideal.τ).loc Cert.AdamRef13Ideal.main_arg3) = m ((c.tc : Thread Cert.Adam13Ideal.nD Cert.Adam13Ideal.τ).loc Cert.Adam13Ideal.main_arg3)) →
    ∃ (v0 : (c : Dev Cert.Adam13Ideal.nD) → Buf (Elt Ideal) ((c.tc : Thread Cert.Adam13Ideal.nD Cert.Adam13Ideal.τ).loc Cert.Adam13Ideal.main_v0_0)) (v1 : (c : Dev Cert.Adam13Ideal.nD) → Buf (Elt Ideal) ((c.tc : Thread Cert.Adam13Ideal.nD Cert.Adam13Ideal.τ).loc Cert.Adam13Ideal.main_v0_1)) (v2 : (c : Dev Cert.Adam13Ideal.nD) → Buf (Elt Ideal) ((c.tc : Thread Cert.Adam13Ideal.nD Cert.Adam13Ideal.τ).loc Cert.Adam13Ideal.main_v0_2)),
      θ_run (Cert.Adam13Ideal.defs (F := Ideal)) (onTc (τ := Cert.Adam13Ideal.τ) (Cert.Adam13Ideal.main (F := Ideal))) ⟨m, fun _ => 0, g⟩ (fun r => ∀ c : Dev Cert.Adam13Ideal.nD,
          r.2.mem ((c.tc : Thread Cert.Adam13Ideal.nD Cert.Adam13Ideal.τ).loc Cert.Adam13Ideal.main_v0_0) = v0 c
          ∧ r.2.mem ((c.tc : Thread Cert.Adam13Ideal.nD Cert.Adam13Ideal.τ).loc Cert.Adam13Ideal.main_v0_1) = v1 c
          ∧ r.2.mem ((c.tc : Thread Cert.Adam13Ideal.nD Cert.Adam13Ideal.τ).loc Cert.Adam13Ideal.main_v0_2) = v2 c
          ∧ r.2.mem ((c.tc : Thread Cert.Adam13Ideal.nD Cert.Adam13Ideal.τ).loc Cert.Adam13Ideal.main_arg0) = m ((c.tc : Thread Cert.Adam13Ideal.nD Cert.Adam13Ideal.τ).loc Cert.Adam13Ideal.main_arg0)
          ∧ r.2.mem ((c.tc : Thread Cert.Adam13Ideal.nD Cert.Adam13Ideal.τ).loc Cert.Adam13Ideal.main_arg1) = m ((c.tc : Thread Cert.Adam13Ideal.nD Cert.Adam13Ideal.τ).loc Cert.Adam13Ideal.main_arg1)
          ∧ r.2.mem ((c.tc : Thread Cert.Adam13Ideal.nD Cert.Adam13Ideal.τ).loc Cert.Adam13Ideal.main_arg2) = m ((c.tc : Thread Cert.Adam13Ideal.nD Cert.Adam13Ideal.τ).loc Cert.Adam13Ideal.main_arg2)
          ∧ r.2.mem ((c.tc : Thread Cert.Adam13Ideal.nD Cert.Adam13Ideal.τ).loc Cert.Adam13Ideal.main_arg3) = m ((c.tc : Thread Cert.Adam13Ideal.nD Cert.Adam13Ideal.τ).loc Cert.Adam13Ideal.main_arg3))
      ∧ θ_run (Cert.AdamRef13Ideal.defs (F := Ideal)) (onTc (τ := Cert.AdamRef13Ideal.τ) (Cert.AdamRef13Ideal.main (F := Ideal))) ⟨m', fun _ => 0, g'⟩ (fun r => ∀ c : Dev Cert.AdamRef13Ideal.nD,
          r.2.mem ((c.tc : Thread Cert.AdamRef13Ideal.nD Cert.AdamRef13Ideal.τ).loc Cert.AdamRef13Ideal.main_v23) = v0 c
          ∧ r.2.mem ((c.tc : Thread Cert.AdamRef13Ideal.nD Cert.AdamRef13Ideal.τ).loc Cert.AdamRef13Ideal.main_v4) = v1 c
          ∧ r.2.mem ((c.tc : Thread Cert.AdamRef13Ideal.nD Cert.AdamRef13Ideal.τ).loc Cert.AdamRef13Ideal.main_v10) = v2 c
          ∧ r.2.mem ((c.tc : Thread Cert.AdamRef13Ideal.nD Cert.AdamRef13Ideal.τ).loc Cert.AdamRef13Ideal.main_arg0) = m' ((c.tc : Thread Cert.AdamRef13Ideal.nD Cert.AdamRef13Ideal.τ).loc Cert.AdamRef13Ideal.main_arg0)
          ∧ r.2.mem ((c.tc : Thread Cert.AdamRef13Ideal.nD Cert.AdamRef13Ideal.τ).loc Cert.AdamRef13Ideal.main_arg1) = m' ((c.tc : Thread Cert.AdamRef13Ideal.nD Cert.AdamRef13Ideal.τ).loc Cert.AdamRef13Ideal.main_arg1)
          ∧ r.2.mem ((c.tc : Thread Cert.AdamRef13Ideal.nD Cert.AdamRef13Ideal.τ).loc Cert.AdamRef13Ideal.main_arg2) = m' ((c.tc : Thread Cert.AdamRef13Ideal.nD Cert.AdamRef13Ideal.τ).loc Cert.AdamRef13Ideal.main_arg2)
          ∧ r.2.mem ((c.tc : Thread Cert.AdamRef13Ideal.nD Cert.AdamRef13Ideal.τ).loc Cert.AdamRef13Ideal.main_arg3) = m' ((c.tc : Thread Cert.AdamRef13Ideal.nD Cert.AdamRef13Ideal.τ).loc Cert.AdamRef13Ideal.main_arg3))

def preserves_Mul0_Mul0Ideal : Prop :=
  True

def algebraic_Mul0Ideal_MulRef0Ideal [hMul0Ideal : Cert.Mul0Ideal.Facts] [hMulRef0Ideal : Cert.MulRef0Ideal.Facts] : Prop :=
  ∀ (m : (ℓ : Loc Cert.Mul0Ideal.nD Cert.Mul0Ideal.τ Cert.Mul0Ideal.sig) → Buf (Elt Ideal) ℓ) (g : Dev Cert.Mul0Ideal.nD → PrngReg)
    (m' : (ℓ : Loc Cert.MulRef0Ideal.nD Cert.MulRef0Ideal.τ Cert.MulRef0Ideal.sig) → Buf (Elt Ideal) ℓ) (g' : Dev Cert.MulRef0Ideal.nD → PrngReg), Pre_Mul0Ideal m →
    (∀ c : Dev Cert.Mul0Ideal.nD,
      m' ((c.tc : Thread Cert.MulRef0Ideal.nD Cert.MulRef0Ideal.τ).loc Cert.MulRef0Ideal.main_arg0) = m ((c.tc : Thread Cert.Mul0Ideal.nD Cert.Mul0Ideal.τ).loc Cert.Mul0Ideal.main_arg0)
      ∧ m' ((c.tc : Thread Cert.MulRef0Ideal.nD Cert.MulRef0Ideal.τ).loc Cert.MulRef0Ideal.main_arg1) = m ((c.tc : Thread Cert.Mul0Ideal.nD Cert.Mul0Ideal.τ).loc Cert.Mul0Ideal.main_arg1)) →
    ∃ (v0 : (c : Dev Cert.Mul0Ideal.nD) → Buf (Elt Ideal) ((c.tc : Thread Cert.Mul0Ideal.nD Cert.Mul0Ideal.τ).loc Cert.Mul0Ideal.main_v0)),
      θ_run (Cert.Mul0Ideal.defs (F := Ideal)) (onTc (τ := Cert.Mul0Ideal.τ) (Cert.Mul0Ideal.main (F := Ideal))) ⟨m, fun _ => 0, g⟩ (fun r => ∀ c : Dev Cert.Mul0Ideal.nD,
          r.2.mem ((c.tc : Thread Cert.Mul0Ideal.nD Cert.Mul0Ideal.τ).loc Cert.Mul0Ideal.main_v0) = v0 c
          ∧ r.2.mem ((c.tc : Thread Cert.Mul0Ideal.nD Cert.Mul0Ideal.τ).loc Cert.Mul0Ideal.main_arg0) = m ((c.tc : Thread Cert.Mul0Ideal.nD Cert.Mul0Ideal.τ).loc Cert.Mul0Ideal.main_arg0)
          ∧ r.2.mem ((c.tc : Thread Cert.Mul0Ideal.nD Cert.Mul0Ideal.τ).loc Cert.Mul0Ideal.main_arg1) = m ((c.tc : Thread Cert.Mul0Ideal.nD Cert.Mul0Ideal.τ).loc Cert.Mul0Ideal.main_arg1))
      ∧ θ_run (Cert.MulRef0Ideal.defs (F := Ideal)) (onTc (τ := Cert.MulRef0Ideal.τ) (Cert.MulRef0Ideal.main (F := Ideal))) ⟨m', fun _ => 0, g'⟩ (fun r => ∀ c : Dev Cert.MulRef0Ideal.nD,
          r.2.mem ((c.tc : Thread Cert.MulRef0Ideal.nD Cert.MulRef0Ideal.τ).loc Cert.MulRef0Ideal.main_v2) = v0 c
          ∧ r.2.mem ((c.tc : Thread Cert.MulRef0Ideal.nD Cert.MulRef0Ideal.τ).loc Cert.MulRef0Ideal.main_arg0) = m' ((c.tc : Thread Cert.MulRef0Ideal.nD Cert.MulRef0Ideal.τ).loc Cert.MulRef0Ideal.main_arg0)
          ∧ r.2.mem ((c.tc : Thread Cert.MulRef0Ideal.nD Cert.MulRef0Ideal.τ).loc Cert.MulRef0Ideal.main_arg1) = m' ((c.tc : Thread Cert.MulRef0Ideal.nD Cert.MulRef0Ideal.τ).loc Cert.MulRef0Ideal.main_arg1))

def preserves_Mul1_Mul1Ideal : Prop :=
  True

def algebraic_Mul1Ideal_MulRef1Ideal [hMul1Ideal : Cert.Mul1Ideal.Facts] [hMulRef1Ideal : Cert.MulRef1Ideal.Facts] : Prop :=
  ∀ (m : (ℓ : Loc Cert.Mul1Ideal.nD Cert.Mul1Ideal.τ Cert.Mul1Ideal.sig) → Buf (Elt Ideal) ℓ) (g : Dev Cert.Mul1Ideal.nD → PrngReg)
    (m' : (ℓ : Loc Cert.MulRef1Ideal.nD Cert.MulRef1Ideal.τ Cert.MulRef1Ideal.sig) → Buf (Elt Ideal) ℓ) (g' : Dev Cert.MulRef1Ideal.nD → PrngReg), Pre_Mul1Ideal m →
    (∀ c : Dev Cert.Mul1Ideal.nD,
      m' ((c.tc : Thread Cert.MulRef1Ideal.nD Cert.MulRef1Ideal.τ).loc Cert.MulRef1Ideal.main_arg0) = m ((c.tc : Thread Cert.Mul1Ideal.nD Cert.Mul1Ideal.τ).loc Cert.Mul1Ideal.main_arg0)
      ∧ m' ((c.tc : Thread Cert.MulRef1Ideal.nD Cert.MulRef1Ideal.τ).loc Cert.MulRef1Ideal.main_arg1) = m ((c.tc : Thread Cert.Mul1Ideal.nD Cert.Mul1Ideal.τ).loc Cert.Mul1Ideal.main_arg1)) →
    ∃ (v0 : (c : Dev Cert.Mul1Ideal.nD) → Buf (Elt Ideal) ((c.tc : Thread Cert.Mul1Ideal.nD Cert.Mul1Ideal.τ).loc Cert.Mul1Ideal.main_v0)),
      θ_run (Cert.Mul1Ideal.defs (F := Ideal)) (onTc (τ := Cert.Mul1Ideal.τ) (Cert.Mul1Ideal.main (F := Ideal))) ⟨m, fun _ => 0, g⟩ (fun r => ∀ c : Dev Cert.Mul1Ideal.nD,
          r.2.mem ((c.tc : Thread Cert.Mul1Ideal.nD Cert.Mul1Ideal.τ).loc Cert.Mul1Ideal.main_v0) = v0 c
          ∧ r.2.mem ((c.tc : Thread Cert.Mul1Ideal.nD Cert.Mul1Ideal.τ).loc Cert.Mul1Ideal.main_arg0) = m ((c.tc : Thread Cert.Mul1Ideal.nD Cert.Mul1Ideal.τ).loc Cert.Mul1Ideal.main_arg0)
          ∧ r.2.mem ((c.tc : Thread Cert.Mul1Ideal.nD Cert.Mul1Ideal.τ).loc Cert.Mul1Ideal.main_arg1) = m ((c.tc : Thread Cert.Mul1Ideal.nD Cert.Mul1Ideal.τ).loc Cert.Mul1Ideal.main_arg1))
      ∧ θ_run (Cert.MulRef1Ideal.defs (F := Ideal)) (onTc (τ := Cert.MulRef1Ideal.τ) (Cert.MulRef1Ideal.main (F := Ideal))) ⟨m', fun _ => 0, g'⟩ (fun r => ∀ c : Dev Cert.MulRef1Ideal.nD,
          r.2.mem ((c.tc : Thread Cert.MulRef1Ideal.nD Cert.MulRef1Ideal.τ).loc Cert.MulRef1Ideal.main_v2) = v0 c
          ∧ r.2.mem ((c.tc : Thread Cert.MulRef1Ideal.nD Cert.MulRef1Ideal.τ).loc Cert.MulRef1Ideal.main_arg0) = m' ((c.tc : Thread Cert.MulRef1Ideal.nD Cert.MulRef1Ideal.τ).loc Cert.MulRef1Ideal.main_arg0)
          ∧ r.2.mem ((c.tc : Thread Cert.MulRef1Ideal.nD Cert.MulRef1Ideal.τ).loc Cert.MulRef1Ideal.main_arg1) = m' ((c.tc : Thread Cert.MulRef1Ideal.nD Cert.MulRef1Ideal.τ).loc Cert.MulRef1Ideal.main_arg1))

def preserves_Mul2_Mul2Ideal : Prop :=
  True

def algebraic_Mul2Ideal_MulRef2Ideal [hMul2Ideal : Cert.Mul2Ideal.Facts] [hMulRef2Ideal : Cert.MulRef2Ideal.Facts] : Prop :=
  ∀ (m : (ℓ : Loc Cert.Mul2Ideal.nD Cert.Mul2Ideal.τ Cert.Mul2Ideal.sig) → Buf (Elt Ideal) ℓ) (g : Dev Cert.Mul2Ideal.nD → PrngReg)
    (m' : (ℓ : Loc Cert.MulRef2Ideal.nD Cert.MulRef2Ideal.τ Cert.MulRef2Ideal.sig) → Buf (Elt Ideal) ℓ) (g' : Dev Cert.MulRef2Ideal.nD → PrngReg), Pre_Mul2Ideal m →
    (∀ c : Dev Cert.Mul2Ideal.nD,
      m' ((c.tc : Thread Cert.MulRef2Ideal.nD Cert.MulRef2Ideal.τ).loc Cert.MulRef2Ideal.main_arg0) = m ((c.tc : Thread Cert.Mul2Ideal.nD Cert.Mul2Ideal.τ).loc Cert.Mul2Ideal.main_arg0)
      ∧ m' ((c.tc : Thread Cert.MulRef2Ideal.nD Cert.MulRef2Ideal.τ).loc Cert.MulRef2Ideal.main_arg1) = m ((c.tc : Thread Cert.Mul2Ideal.nD Cert.Mul2Ideal.τ).loc Cert.Mul2Ideal.main_arg1)) →
    ∃ (v0 : (c : Dev Cert.Mul2Ideal.nD) → Buf (Elt Ideal) ((c.tc : Thread Cert.Mul2Ideal.nD Cert.Mul2Ideal.τ).loc Cert.Mul2Ideal.main_v0)),
      θ_run (Cert.Mul2Ideal.defs (F := Ideal)) (onTc (τ := Cert.Mul2Ideal.τ) (Cert.Mul2Ideal.main (F := Ideal))) ⟨m, fun _ => 0, g⟩ (fun r => ∀ c : Dev Cert.Mul2Ideal.nD,
          r.2.mem ((c.tc : Thread Cert.Mul2Ideal.nD Cert.Mul2Ideal.τ).loc Cert.Mul2Ideal.main_v0) = v0 c
          ∧ r.2.mem ((c.tc : Thread Cert.Mul2Ideal.nD Cert.Mul2Ideal.τ).loc Cert.Mul2Ideal.main_arg0) = m ((c.tc : Thread Cert.Mul2Ideal.nD Cert.Mul2Ideal.τ).loc Cert.Mul2Ideal.main_arg0)
          ∧ r.2.mem ((c.tc : Thread Cert.Mul2Ideal.nD Cert.Mul2Ideal.τ).loc Cert.Mul2Ideal.main_arg1) = m ((c.tc : Thread Cert.Mul2Ideal.nD Cert.Mul2Ideal.τ).loc Cert.Mul2Ideal.main_arg1))
      ∧ θ_run (Cert.MulRef2Ideal.defs (F := Ideal)) (onTc (τ := Cert.MulRef2Ideal.τ) (Cert.MulRef2Ideal.main (F := Ideal))) ⟨m', fun _ => 0, g'⟩ (fun r => ∀ c : Dev Cert.MulRef2Ideal.nD,
          r.2.mem ((c.tc : Thread Cert.MulRef2Ideal.nD Cert.MulRef2Ideal.τ).loc Cert.MulRef2Ideal.main_v2) = v0 c
          ∧ r.2.mem ((c.tc : Thread Cert.MulRef2Ideal.nD Cert.MulRef2Ideal.τ).loc Cert.MulRef2Ideal.main_arg0) = m' ((c.tc : Thread Cert.MulRef2Ideal.nD Cert.MulRef2Ideal.τ).loc Cert.MulRef2Ideal.main_arg0)
          ∧ r.2.mem ((c.tc : Thread Cert.MulRef2Ideal.nD Cert.MulRef2Ideal.τ).loc Cert.MulRef2Ideal.main_arg1) = m' ((c.tc : Thread Cert.MulRef2Ideal.nD Cert.MulRef2Ideal.τ).loc Cert.MulRef2Ideal.main_arg1))

def preserves_Mul3_Mul3Ideal : Prop :=
  True

def algebraic_Mul3Ideal_MulRef3Ideal [hMul3Ideal : Cert.Mul3Ideal.Facts] [hMulRef3Ideal : Cert.MulRef3Ideal.Facts] : Prop :=
  ∀ (m : (ℓ : Loc Cert.Mul3Ideal.nD Cert.Mul3Ideal.τ Cert.Mul3Ideal.sig) → Buf (Elt Ideal) ℓ) (g : Dev Cert.Mul3Ideal.nD → PrngReg)
    (m' : (ℓ : Loc Cert.MulRef3Ideal.nD Cert.MulRef3Ideal.τ Cert.MulRef3Ideal.sig) → Buf (Elt Ideal) ℓ) (g' : Dev Cert.MulRef3Ideal.nD → PrngReg), Pre_Mul3Ideal m →
    (∀ c : Dev Cert.Mul3Ideal.nD,
      m' ((c.tc : Thread Cert.MulRef3Ideal.nD Cert.MulRef3Ideal.τ).loc Cert.MulRef3Ideal.main_arg0) = m ((c.tc : Thread Cert.Mul3Ideal.nD Cert.Mul3Ideal.τ).loc Cert.Mul3Ideal.main_arg0)
      ∧ m' ((c.tc : Thread Cert.MulRef3Ideal.nD Cert.MulRef3Ideal.τ).loc Cert.MulRef3Ideal.main_arg1) = m ((c.tc : Thread Cert.Mul3Ideal.nD Cert.Mul3Ideal.τ).loc Cert.Mul3Ideal.main_arg1)) →
    ∃ (v0 : (c : Dev Cert.Mul3Ideal.nD) → Buf (Elt Ideal) ((c.tc : Thread Cert.Mul3Ideal.nD Cert.Mul3Ideal.τ).loc Cert.Mul3Ideal.main_v0)),
      θ_run (Cert.Mul3Ideal.defs (F := Ideal)) (onTc (τ := Cert.Mul3Ideal.τ) (Cert.Mul3Ideal.main (F := Ideal))) ⟨m, fun _ => 0, g⟩ (fun r => ∀ c : Dev Cert.Mul3Ideal.nD,
          r.2.mem ((c.tc : Thread Cert.Mul3Ideal.nD Cert.Mul3Ideal.τ).loc Cert.Mul3Ideal.main_v0) = v0 c
          ∧ r.2.mem ((c.tc : Thread Cert.Mul3Ideal.nD Cert.Mul3Ideal.τ).loc Cert.Mul3Ideal.main_arg0) = m ((c.tc : Thread Cert.Mul3Ideal.nD Cert.Mul3Ideal.τ).loc Cert.Mul3Ideal.main_arg0)
          ∧ r.2.mem ((c.tc : Thread Cert.Mul3Ideal.nD Cert.Mul3Ideal.τ).loc Cert.Mul3Ideal.main_arg1) = m ((c.tc : Thread Cert.Mul3Ideal.nD Cert.Mul3Ideal.τ).loc Cert.Mul3Ideal.main_arg1))
      ∧ θ_run (Cert.MulRef3Ideal.defs (F := Ideal)) (onTc (τ := Cert.MulRef3Ideal.τ) (Cert.MulRef3Ideal.main (F := Ideal))) ⟨m', fun _ => 0, g'⟩ (fun r => ∀ c : Dev Cert.MulRef3Ideal.nD,
          r.2.mem ((c.tc : Thread Cert.MulRef3Ideal.nD Cert.MulRef3Ideal.τ).loc Cert.MulRef3Ideal.main_v2) = v0 c
          ∧ r.2.mem ((c.tc : Thread Cert.MulRef3Ideal.nD Cert.MulRef3Ideal.τ).loc Cert.MulRef3Ideal.main_arg0) = m' ((c.tc : Thread Cert.MulRef3Ideal.nD Cert.MulRef3Ideal.τ).loc Cert.MulRef3Ideal.main_arg0)
          ∧ r.2.mem ((c.tc : Thread Cert.MulRef3Ideal.nD Cert.MulRef3Ideal.τ).loc Cert.MulRef3Ideal.main_arg1) = m' ((c.tc : Thread Cert.MulRef3Ideal.nD Cert.MulRef3Ideal.τ).loc Cert.MulRef3Ideal.main_arg1))

def preserves_Mul4_Mul4Ideal : Prop :=
  True

def algebraic_Mul4Ideal_MulRef4Ideal [hMul4Ideal : Cert.Mul4Ideal.Facts] [hMulRef4Ideal : Cert.MulRef4Ideal.Facts] : Prop :=
  ∀ (m : (ℓ : Loc Cert.Mul4Ideal.nD Cert.Mul4Ideal.τ Cert.Mul4Ideal.sig) → Buf (Elt Ideal) ℓ) (g : Dev Cert.Mul4Ideal.nD → PrngReg)
    (m' : (ℓ : Loc Cert.MulRef4Ideal.nD Cert.MulRef4Ideal.τ Cert.MulRef4Ideal.sig) → Buf (Elt Ideal) ℓ) (g' : Dev Cert.MulRef4Ideal.nD → PrngReg), Pre_Mul4Ideal m →
    (∀ c : Dev Cert.Mul4Ideal.nD,
      m' ((c.tc : Thread Cert.MulRef4Ideal.nD Cert.MulRef4Ideal.τ).loc Cert.MulRef4Ideal.main_arg0) = m ((c.tc : Thread Cert.Mul4Ideal.nD Cert.Mul4Ideal.τ).loc Cert.Mul4Ideal.main_arg0)
      ∧ m' ((c.tc : Thread Cert.MulRef4Ideal.nD Cert.MulRef4Ideal.τ).loc Cert.MulRef4Ideal.main_arg1) = m ((c.tc : Thread Cert.Mul4Ideal.nD Cert.Mul4Ideal.τ).loc Cert.Mul4Ideal.main_arg1)) →
    ∃ (v0 : (c : Dev Cert.Mul4Ideal.nD) → Buf (Elt Ideal) ((c.tc : Thread Cert.Mul4Ideal.nD Cert.Mul4Ideal.τ).loc Cert.Mul4Ideal.main_v0)),
      θ_run (Cert.Mul4Ideal.defs (F := Ideal)) (onTc (τ := Cert.Mul4Ideal.τ) (Cert.Mul4Ideal.main (F := Ideal))) ⟨m, fun _ => 0, g⟩ (fun r => ∀ c : Dev Cert.Mul4Ideal.nD,
          r.2.mem ((c.tc : Thread Cert.Mul4Ideal.nD Cert.Mul4Ideal.τ).loc Cert.Mul4Ideal.main_v0) = v0 c
          ∧ r.2.mem ((c.tc : Thread Cert.Mul4Ideal.nD Cert.Mul4Ideal.τ).loc Cert.Mul4Ideal.main_arg0) = m ((c.tc : Thread Cert.Mul4Ideal.nD Cert.Mul4Ideal.τ).loc Cert.Mul4Ideal.main_arg0)
          ∧ r.2.mem ((c.tc : Thread Cert.Mul4Ideal.nD Cert.Mul4Ideal.τ).loc Cert.Mul4Ideal.main_arg1) = m ((c.tc : Thread Cert.Mul4Ideal.nD Cert.Mul4Ideal.τ).loc Cert.Mul4Ideal.main_arg1))
      ∧ θ_run (Cert.MulRef4Ideal.defs (F := Ideal)) (onTc (τ := Cert.MulRef4Ideal.τ) (Cert.MulRef4Ideal.main (F := Ideal))) ⟨m', fun _ => 0, g'⟩ (fun r => ∀ c : Dev Cert.MulRef4Ideal.nD,
          r.2.mem ((c.tc : Thread Cert.MulRef4Ideal.nD Cert.MulRef4Ideal.τ).loc Cert.MulRef4Ideal.main_v2) = v0 c
          ∧ r.2.mem ((c.tc : Thread Cert.MulRef4Ideal.nD Cert.MulRef4Ideal.τ).loc Cert.MulRef4Ideal.main_arg0) = m' ((c.tc : Thread Cert.MulRef4Ideal.nD Cert.MulRef4Ideal.τ).loc Cert.MulRef4Ideal.main_arg0)
          ∧ r.2.mem ((c.tc : Thread Cert.MulRef4Ideal.nD Cert.MulRef4Ideal.τ).loc Cert.MulRef4Ideal.main_arg1) = m' ((c.tc : Thread Cert.MulRef4Ideal.nD Cert.MulRef4Ideal.τ).loc Cert.MulRef4Ideal.main_arg1))

def preserves_Mul5_Mul5Ideal : Prop :=
  True

def algebraic_Mul5Ideal_MulRef5Ideal [hMul5Ideal : Cert.Mul5Ideal.Facts] [hMulRef5Ideal : Cert.MulRef5Ideal.Facts] : Prop :=
  ∀ (m : (ℓ : Loc Cert.Mul5Ideal.nD Cert.Mul5Ideal.τ Cert.Mul5Ideal.sig) → Buf (Elt Ideal) ℓ) (g : Dev Cert.Mul5Ideal.nD → PrngReg)
    (m' : (ℓ : Loc Cert.MulRef5Ideal.nD Cert.MulRef5Ideal.τ Cert.MulRef5Ideal.sig) → Buf (Elt Ideal) ℓ) (g' : Dev Cert.MulRef5Ideal.nD → PrngReg), Pre_Mul5Ideal m →
    (∀ c : Dev Cert.Mul5Ideal.nD,
      m' ((c.tc : Thread Cert.MulRef5Ideal.nD Cert.MulRef5Ideal.τ).loc Cert.MulRef5Ideal.main_arg0) = m ((c.tc : Thread Cert.Mul5Ideal.nD Cert.Mul5Ideal.τ).loc Cert.Mul5Ideal.main_arg0)
      ∧ m' ((c.tc : Thread Cert.MulRef5Ideal.nD Cert.MulRef5Ideal.τ).loc Cert.MulRef5Ideal.main_arg1) = m ((c.tc : Thread Cert.Mul5Ideal.nD Cert.Mul5Ideal.τ).loc Cert.Mul5Ideal.main_arg1)) →
    ∃ (v0 : (c : Dev Cert.Mul5Ideal.nD) → Buf (Elt Ideal) ((c.tc : Thread Cert.Mul5Ideal.nD Cert.Mul5Ideal.τ).loc Cert.Mul5Ideal.main_v0)),
      θ_run (Cert.Mul5Ideal.defs (F := Ideal)) (onTc (τ := Cert.Mul5Ideal.τ) (Cert.Mul5Ideal.main (F := Ideal))) ⟨m, fun _ => 0, g⟩ (fun r => ∀ c : Dev Cert.Mul5Ideal.nD,
          r.2.mem ((c.tc : Thread Cert.Mul5Ideal.nD Cert.Mul5Ideal.τ).loc Cert.Mul5Ideal.main_v0) = v0 c
          ∧ r.2.mem ((c.tc : Thread Cert.Mul5Ideal.nD Cert.Mul5Ideal.τ).loc Cert.Mul5Ideal.main_arg0) = m ((c.tc : Thread Cert.Mul5Ideal.nD Cert.Mul5Ideal.τ).loc Cert.Mul5Ideal.main_arg0)
          ∧ r.2.mem ((c.tc : Thread Cert.Mul5Ideal.nD Cert.Mul5Ideal.τ).loc Cert.Mul5Ideal.main_arg1) = m ((c.tc : Thread Cert.Mul5Ideal.nD Cert.Mul5Ideal.τ).loc Cert.Mul5Ideal.main_arg1))
      ∧ θ_run (Cert.MulRef5Ideal.defs (F := Ideal)) (onTc (τ := Cert.MulRef5Ideal.τ) (Cert.MulRef5Ideal.main (F := Ideal))) ⟨m', fun _ => 0, g'⟩ (fun r => ∀ c : Dev Cert.MulRef5Ideal.nD,
          r.2.mem ((c.tc : Thread Cert.MulRef5Ideal.nD Cert.MulRef5Ideal.τ).loc Cert.MulRef5Ideal.main_v2) = v0 c
          ∧ r.2.mem ((c.tc : Thread Cert.MulRef5Ideal.nD Cert.MulRef5Ideal.τ).loc Cert.MulRef5Ideal.main_arg0) = m' ((c.tc : Thread Cert.MulRef5Ideal.nD Cert.MulRef5Ideal.τ).loc Cert.MulRef5Ideal.main_arg0)
          ∧ r.2.mem ((c.tc : Thread Cert.MulRef5Ideal.nD Cert.MulRef5Ideal.τ).loc Cert.MulRef5Ideal.main_arg1) = m' ((c.tc : Thread Cert.MulRef5Ideal.nD Cert.MulRef5Ideal.τ).loc Cert.MulRef5Ideal.main_arg1))

def preserves_Mul6_Mul6Ideal : Prop :=
  True

def algebraic_Mul6Ideal_MulRef6Ideal [hMul6Ideal : Cert.Mul6Ideal.Facts] [hMulRef6Ideal : Cert.MulRef6Ideal.Facts] : Prop :=
  ∀ (m : (ℓ : Loc Cert.Mul6Ideal.nD Cert.Mul6Ideal.τ Cert.Mul6Ideal.sig) → Buf (Elt Ideal) ℓ) (g : Dev Cert.Mul6Ideal.nD → PrngReg)
    (m' : (ℓ : Loc Cert.MulRef6Ideal.nD Cert.MulRef6Ideal.τ Cert.MulRef6Ideal.sig) → Buf (Elt Ideal) ℓ) (g' : Dev Cert.MulRef6Ideal.nD → PrngReg), Pre_Mul6Ideal m →
    (∀ c : Dev Cert.Mul6Ideal.nD,
      m' ((c.tc : Thread Cert.MulRef6Ideal.nD Cert.MulRef6Ideal.τ).loc Cert.MulRef6Ideal.main_arg0) = m ((c.tc : Thread Cert.Mul6Ideal.nD Cert.Mul6Ideal.τ).loc Cert.Mul6Ideal.main_arg0)
      ∧ m' ((c.tc : Thread Cert.MulRef6Ideal.nD Cert.MulRef6Ideal.τ).loc Cert.MulRef6Ideal.main_arg1) = m ((c.tc : Thread Cert.Mul6Ideal.nD Cert.Mul6Ideal.τ).loc Cert.Mul6Ideal.main_arg1)) →
    ∃ (v0 : (c : Dev Cert.Mul6Ideal.nD) → Buf (Elt Ideal) ((c.tc : Thread Cert.Mul6Ideal.nD Cert.Mul6Ideal.τ).loc Cert.Mul6Ideal.main_v0)),
      θ_run (Cert.Mul6Ideal.defs (F := Ideal)) (onTc (τ := Cert.Mul6Ideal.τ) (Cert.Mul6Ideal.main (F := Ideal))) ⟨m, fun _ => 0, g⟩ (fun r => ∀ c : Dev Cert.Mul6Ideal.nD,
          r.2.mem ((c.tc : Thread Cert.Mul6Ideal.nD Cert.Mul6Ideal.τ).loc Cert.Mul6Ideal.main_v0) = v0 c
          ∧ r.2.mem ((c.tc : Thread Cert.Mul6Ideal.nD Cert.Mul6Ideal.τ).loc Cert.Mul6Ideal.main_arg0) = m ((c.tc : Thread Cert.Mul6Ideal.nD Cert.Mul6Ideal.τ).loc Cert.Mul6Ideal.main_arg0)
          ∧ r.2.mem ((c.tc : Thread Cert.Mul6Ideal.nD Cert.Mul6Ideal.τ).loc Cert.Mul6Ideal.main_arg1) = m ((c.tc : Thread Cert.Mul6Ideal.nD Cert.Mul6Ideal.τ).loc Cert.Mul6Ideal.main_arg1))
      ∧ θ_run (Cert.MulRef6Ideal.defs (F := Ideal)) (onTc (τ := Cert.MulRef6Ideal.τ) (Cert.MulRef6Ideal.main (F := Ideal))) ⟨m', fun _ => 0, g'⟩ (fun r => ∀ c : Dev Cert.MulRef6Ideal.nD,
          r.2.mem ((c.tc : Thread Cert.MulRef6Ideal.nD Cert.MulRef6Ideal.τ).loc Cert.MulRef6Ideal.main_v2) = v0 c
          ∧ r.2.mem ((c.tc : Thread Cert.MulRef6Ideal.nD Cert.MulRef6Ideal.τ).loc Cert.MulRef6Ideal.main_arg0) = m' ((c.tc : Thread Cert.MulRef6Ideal.nD Cert.MulRef6Ideal.τ).loc Cert.MulRef6Ideal.main_arg0)
          ∧ r.2.mem ((c.tc : Thread Cert.MulRef6Ideal.nD Cert.MulRef6Ideal.τ).loc Cert.MulRef6Ideal.main_arg1) = m' ((c.tc : Thread Cert.MulRef6Ideal.nD Cert.MulRef6Ideal.τ).loc Cert.MulRef6Ideal.main_arg1))

def preserves_Norm0_Norm0Ideal : Prop :=
  True

def algebraic_Norm0Ideal_NormRef0Ideal [hNorm0Ideal : Cert.Norm0Ideal.Facts] [hNormRef0Ideal : Cert.NormRef0Ideal.Facts] : Prop :=
  ∀ (m : (ℓ : Loc Cert.Norm0Ideal.nD Cert.Norm0Ideal.τ Cert.Norm0Ideal.sig) → Buf (Elt Ideal) ℓ) (g : Dev Cert.Norm0Ideal.nD → PrngReg)
    (m' : (ℓ : Loc Cert.NormRef0Ideal.nD Cert.NormRef0Ideal.τ Cert.NormRef0Ideal.sig) → Buf (Elt Ideal) ℓ) (g' : Dev Cert.NormRef0Ideal.nD → PrngReg), Pre_Norm0Ideal m →
    (∀ c : Dev Cert.Norm0Ideal.nD,
      m' ((c.tc : Thread Cert.NormRef0Ideal.nD Cert.NormRef0Ideal.τ).loc Cert.NormRef0Ideal.main_arg0) = m ((c.tc : Thread Cert.Norm0Ideal.nD Cert.Norm0Ideal.τ).loc Cert.Norm0Ideal.main_arg0)
      ∧ m' ((c.tc : Thread Cert.NormRef0Ideal.nD Cert.NormRef0Ideal.τ).loc Cert.NormRef0Ideal.main_arg1) = m ((c.tc : Thread Cert.Norm0Ideal.nD Cert.Norm0Ideal.τ).loc Cert.Norm0Ideal.main_arg1)) →
    ∃ (v0 : (c : Dev Cert.Norm0Ideal.nD) → Buf (Elt Ideal) ((c.tc : Thread Cert.Norm0Ideal.nD Cert.Norm0Ideal.τ).loc Cert.Norm0Ideal.main_v0)),
      θ_run (Cert.Norm0Ideal.defs (F := Ideal)) (onTc (τ := Cert.Norm0Ideal.τ) (Cert.Norm0Ideal.main (F := Ideal))) ⟨m, fun _ => 0, g⟩ (fun r => ∀ c : Dev Cert.Norm0Ideal.nD,
          r.2.mem ((c.tc : Thread Cert.Norm0Ideal.nD Cert.Norm0Ideal.τ).loc Cert.Norm0Ideal.main_v0) = v0 c
          ∧ r.2.mem ((c.tc : Thread Cert.Norm0Ideal.nD Cert.Norm0Ideal.τ).loc Cert.Norm0Ideal.main_arg0) = m ((c.tc : Thread Cert.Norm0Ideal.nD Cert.Norm0Ideal.τ).loc Cert.Norm0Ideal.main_arg0)
          ∧ r.2.mem ((c.tc : Thread Cert.Norm0Ideal.nD Cert.Norm0Ideal.τ).loc Cert.Norm0Ideal.main_arg1) = m ((c.tc : Thread Cert.Norm0Ideal.nD Cert.Norm0Ideal.τ).loc Cert.Norm0Ideal.main_arg1))
      ∧ θ_run (Cert.NormRef0Ideal.defs (F := Ideal)) (onTc (τ := Cert.NormRef0Ideal.τ) (Cert.NormRef0Ideal.main (F := Ideal))) ⟨m', fun _ => 0, g'⟩ (fun r => ∀ c : Dev Cert.NormRef0Ideal.nD,
          r.2.mem ((c.tc : Thread Cert.NormRef0Ideal.nD Cert.NormRef0Ideal.τ).loc Cert.NormRef0Ideal.main_v11) = v0 c
          ∧ r.2.mem ((c.tc : Thread Cert.NormRef0Ideal.nD Cert.NormRef0Ideal.τ).loc Cert.NormRef0Ideal.main_arg0) = m' ((c.tc : Thread Cert.NormRef0Ideal.nD Cert.NormRef0Ideal.τ).loc Cert.NormRef0Ideal.main_arg0)
          ∧ r.2.mem ((c.tc : Thread Cert.NormRef0Ideal.nD Cert.NormRef0Ideal.τ).loc Cert.NormRef0Ideal.main_arg1) = m' ((c.tc : Thread Cert.NormRef0Ideal.nD Cert.NormRef0Ideal.τ).loc Cert.NormRef0Ideal.main_arg1))

def preserves_Norm1_Norm1Ideal : Prop :=
  True

def algebraic_Norm1Ideal_NormRef1Ideal [hNorm1Ideal : Cert.Norm1Ideal.Facts] [hNormRef1Ideal : Cert.NormRef1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.NormRef1Ideal.nD Cert.NormRef1Ideal.τ Cert.NormRef1Ideal.sig) → Buf (Elt Ideal) ℓ) (g' : Dev Cert.NormRef1Ideal.nD → PrngReg), Pre_Norm1Ideal m →
    (∀ c : Dev Cert.Norm1Ideal.nD,
      m' ((c.tc : Thread Cert.NormRef1Ideal.nD Cert.NormRef1Ideal.τ).loc Cert.NormRef1Ideal.main_arg0) = m ((c.tc : Thread Cert.Norm1Ideal.nD Cert.Norm1Ideal.τ).loc Cert.Norm1Ideal.main_arg0)
      ∧ m' ((c.tc : Thread Cert.NormRef1Ideal.nD Cert.NormRef1Ideal.τ).loc Cert.NormRef1Ideal.main_arg1) = m ((c.tc : Thread Cert.Norm1Ideal.nD Cert.Norm1Ideal.τ).loc Cert.Norm1Ideal.main_arg1)
      ∧ m' ((c.tc : Thread Cert.NormRef1Ideal.nD Cert.NormRef1Ideal.τ).loc Cert.NormRef1Ideal.main_arg2) = m ((c.tc : Thread Cert.Norm1Ideal.nD Cert.Norm1Ideal.τ).loc Cert.Norm1Ideal.main_arg2)) →
    ∃ (v0 : (c : Dev Cert.Norm1Ideal.nD) → Buf (Elt Ideal) ((c.tc : Thread Cert.Norm1Ideal.nD Cert.Norm1Ideal.τ).loc Cert.Norm1Ideal.main_v0)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v0) = v0 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2))
      ∧ θ_run (Cert.NormRef1Ideal.defs (F := Ideal)) (onTc (τ := Cert.NormRef1Ideal.τ) (Cert.NormRef1Ideal.main (F := Ideal))) ⟨m', fun _ => 0, g'⟩ (fun r => ∀ c : Dev Cert.NormRef1Ideal.nD,
          r.2.mem ((c.tc : Thread Cert.NormRef1Ideal.nD Cert.NormRef1Ideal.τ).loc Cert.NormRef1Ideal.main_v12) = v0 c
          ∧ r.2.mem ((c.tc : Thread Cert.NormRef1Ideal.nD Cert.NormRef1Ideal.τ).loc Cert.NormRef1Ideal.main_arg0) = m' ((c.tc : Thread Cert.NormRef1Ideal.nD Cert.NormRef1Ideal.τ).loc Cert.NormRef1Ideal.main_arg0)
          ∧ r.2.mem ((c.tc : Thread Cert.NormRef1Ideal.nD Cert.NormRef1Ideal.τ).loc Cert.NormRef1Ideal.main_arg1) = m' ((c.tc : Thread Cert.NormRef1Ideal.nD Cert.NormRef1Ideal.τ).loc Cert.NormRef1Ideal.main_arg1)
          ∧ r.2.mem ((c.tc : Thread Cert.NormRef1Ideal.nD Cert.NormRef1Ideal.τ).loc Cert.NormRef1Ideal.main_arg2) = m' ((c.tc : Thread Cert.NormRef1Ideal.nD Cert.NormRef1Ideal.τ).loc Cert.NormRef1Ideal.main_arg2))

def preserves_Dx0_Dx0Ideal : Prop :=
  True

def algebraic_Dx0Ideal_DxRef0Ideal [hDx0Ideal : Cert.Dx0Ideal.Facts] [hDxRef0Ideal : Cert.DxRef0Ideal.Facts] : Prop :=
  ∀ (m : (ℓ : Loc Cert.Dx0Ideal.nD Cert.Dx0Ideal.τ Cert.Dx0Ideal.sig) → Buf (Elt Ideal) ℓ) (g : Dev Cert.Dx0Ideal.nD → PrngReg)
    (m' : (ℓ : Loc Cert.DxRef0Ideal.nD Cert.DxRef0Ideal.τ Cert.DxRef0Ideal.sig) → Buf (Elt Ideal) ℓ) (g' : Dev Cert.DxRef0Ideal.nD → PrngReg), Pre_Dx0Ideal m →
    (∀ c : Dev Cert.Dx0Ideal.nD,
      m' ((c.tc : Thread Cert.DxRef0Ideal.nD Cert.DxRef0Ideal.τ).loc Cert.DxRef0Ideal.main_arg0) = m ((c.tc : Thread Cert.Dx0Ideal.nD Cert.Dx0Ideal.τ).loc Cert.Dx0Ideal.main_arg0)
      ∧ m' ((c.tc : Thread Cert.DxRef0Ideal.nD Cert.DxRef0Ideal.τ).loc Cert.DxRef0Ideal.main_arg1) = m ((c.tc : Thread Cert.Dx0Ideal.nD Cert.Dx0Ideal.τ).loc Cert.Dx0Ideal.main_arg1)) →
    ∃ (v0 : (c : Dev Cert.Dx0Ideal.nD) → Buf (Elt Ideal) ((c.tc : Thread Cert.Dx0Ideal.nD Cert.Dx0Ideal.τ).loc Cert.Dx0Ideal.main_v0)),
      θ_run (Cert.Dx0Ideal.defs (F := Ideal)) (onTc (τ := Cert.Dx0Ideal.τ) (Cert.Dx0Ideal.main (F := Ideal))) ⟨m, fun _ => 0, g⟩ (fun r => ∀ c : Dev Cert.Dx0Ideal.nD,
          r.2.mem ((c.tc : Thread Cert.Dx0Ideal.nD Cert.Dx0Ideal.τ).loc Cert.Dx0Ideal.main_v0) = v0 c
          ∧ r.2.mem ((c.tc : Thread Cert.Dx0Ideal.nD Cert.Dx0Ideal.τ).loc Cert.Dx0Ideal.main_arg0) = m ((c.tc : Thread Cert.Dx0Ideal.nD Cert.Dx0Ideal.τ).loc Cert.Dx0Ideal.main_arg0)
          ∧ r.2.mem ((c.tc : Thread Cert.Dx0Ideal.nD Cert.Dx0Ideal.τ).loc Cert.Dx0Ideal.main_arg1) = m ((c.tc : Thread Cert.Dx0Ideal.nD Cert.Dx0Ideal.τ).loc Cert.Dx0Ideal.main_arg1))
      ∧ θ_run (Cert.DxRef0Ideal.defs (F := Ideal)) (onTc (τ := Cert.DxRef0Ideal.τ) (Cert.DxRef0Ideal.main (F := Ideal))) ⟨m', fun _ => 0, g'⟩ (fun r => ∀ c : Dev Cert.DxRef0Ideal.nD,
          r.2.mem ((c.tc : Thread Cert.DxRef0Ideal.nD Cert.DxRef0Ideal.τ).loc Cert.DxRef0Ideal.main_v2) = v0 c
          ∧ r.2.mem ((c.tc : Thread Cert.DxRef0Ideal.nD Cert.DxRef0Ideal.τ).loc Cert.DxRef0Ideal.main_arg0) = m' ((c.tc : Thread Cert.DxRef0Ideal.nD Cert.DxRef0Ideal.τ).loc Cert.DxRef0Ideal.main_arg0)
          ∧ r.2.mem ((c.tc : Thread Cert.DxRef0Ideal.nD Cert.DxRef0Ideal.τ).loc Cert.DxRef0Ideal.main_arg1) = m' ((c.tc : Thread Cert.DxRef0Ideal.nD Cert.DxRef0Ideal.τ).loc Cert.DxRef0Ideal.main_arg1))

def preserves_Dx1_Dx1Ideal : Prop :=
  True

def algebraic_Dx1Ideal_DxRef1Ideal [hDx1Ideal : Cert.Dx1Ideal.Facts] [hDxRef1Ideal : Cert.DxRef1Ideal.Facts] : Prop :=
  ∀ (m : (ℓ : Loc Cert.Dx1Ideal.nD Cert.Dx1Ideal.τ Cert.Dx1Ideal.sig) → Buf (Elt Ideal) ℓ) (g : Dev Cert.Dx1Ideal.nD → PrngReg)
    (m' : (ℓ : Loc Cert.DxRef1Ideal.nD Cert.DxRef1Ideal.τ Cert.DxRef1Ideal.sig) → Buf (Elt Ideal) ℓ) (g' : Dev Cert.DxRef1Ideal.nD → PrngReg), Pre_Dx1Ideal m →
    (∀ c : Dev Cert.Dx1Ideal.nD,
      m' ((c.tc : Thread Cert.DxRef1Ideal.nD Cert.DxRef1Ideal.τ).loc Cert.DxRef1Ideal.main_arg0) = m ((c.tc : Thread Cert.Dx1Ideal.nD Cert.Dx1Ideal.τ).loc Cert.Dx1Ideal.main_arg0)
      ∧ m' ((c.tc : Thread Cert.DxRef1Ideal.nD Cert.DxRef1Ideal.τ).loc Cert.DxRef1Ideal.main_arg1) = m ((c.tc : Thread Cert.Dx1Ideal.nD Cert.Dx1Ideal.τ).loc Cert.Dx1Ideal.main_arg1)) →
    ∃ (v0 : (c : Dev Cert.Dx1Ideal.nD) → Buf (Elt Ideal) ((c.tc : Thread Cert.Dx1Ideal.nD Cert.Dx1Ideal.τ).loc Cert.Dx1Ideal.main_v0)),
      θ_run (Cert.Dx1Ideal.defs (F := Ideal)) (onTc (τ := Cert.Dx1Ideal.τ) (Cert.Dx1Ideal.main (F := Ideal))) ⟨m, fun _ => 0, g⟩ (fun r => ∀ c : Dev Cert.Dx1Ideal.nD,
          r.2.mem ((c.tc : Thread Cert.Dx1Ideal.nD Cert.Dx1Ideal.τ).loc Cert.Dx1Ideal.main_v0) = v0 c
          ∧ r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
          ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1))
      ∧ θ_run (Cert.DxRef1Ideal.defs (F := Ideal)) (onTc (τ := Cert.DxRef1Ideal.τ) (Cert.DxRef1Ideal.main (F := Ideal))) ⟨m', fun _ => 0, g'⟩ (fun r => ∀ c : Dev Cert.DxRef1Ideal.nD,
          r.2.mem ((c.tc : Thread Cert.DxRef1Ideal.nD Cert.DxRef1Ideal.τ).loc Cert.DxRef1Ideal.main_v2) = v0 c
          ∧ r.2.mem ((c.tc : Thread Cert.DxRef1Ideal.nD Cert.DxRef1Ideal.τ).loc Cert.DxRef1Ideal.main_arg0) = m' ((c.tc : Thread Cert.DxRef1Ideal.nD Cert.DxRef1Ideal.τ).loc Cert.DxRef1Ideal.main_arg0)
          ∧ r.2.mem ((c.tc : Thread Cert.DxRef1Ideal.nD Cert.DxRef1Ideal.τ).loc Cert.DxRef1Ideal.main_arg1) = m' ((c.tc : Thread Cert.DxRef1Ideal.nD Cert.DxRef1Ideal.τ).loc Cert.DxRef1Ideal.main_arg1))

def preserves_Dx2_Dx2Ideal : Prop :=
  True

def algebraic_Dx2Ideal_DxRef2Ideal [hDx2Ideal : Cert.Dx2Ideal.Facts] [hDxRef2Ideal : Cert.DxRef2Ideal.Facts] : Prop :=
  ∀ (m : (ℓ : Loc Cert.Dx2Ideal.nD Cert.Dx2Ideal.τ Cert.Dx2Ideal.sig) → Buf (Elt Ideal) ℓ) (g : Dev Cert.Dx2Ideal.nD → PrngReg)
    (m' : (ℓ : Loc Cert.DxRef2Ideal.nD Cert.DxRef2Ideal.τ Cert.DxRef2Ideal.sig) → Buf (Elt Ideal) ℓ) (g' : Dev Cert.DxRef2Ideal.nD → PrngReg), Pre_Dx2Ideal m →
    (∀ c : Dev Cert.Dx2Ideal.nD,
      m' ((c.tc : Thread Cert.DxRef2Ideal.nD Cert.DxRef2Ideal.τ).loc Cert.DxRef2Ideal.main_arg0) = m ((c.tc : Thread Cert.Dx2Ideal.nD Cert.Dx2Ideal.τ).loc Cert.Dx2Ideal.main_arg0)
      ∧ m' ((c.tc : Thread Cert.DxRef2Ideal.nD Cert.DxRef2Ideal.τ).loc Cert.DxRef2Ideal.main_arg1) = m ((c.tc : Thread Cert.Dx2Ideal.nD Cert.Dx2Ideal.τ).loc Cert.Dx2Ideal.main_arg1)) →
    ∃ (v0 : (c : Dev Cert.Dx2Ideal.nD) → Buf (Elt Ideal) ((c.tc : Thread Cert.Dx2Ideal.nD Cert.Dx2Ideal.τ).loc Cert.Dx2Ideal.main_v0)),
      θ_run (Cert.Dx2Ideal.defs (F := Ideal)) (onTc (τ := Cert.Dx2Ideal.τ) (Cert.Dx2Ideal.main (F := Ideal))) ⟨m, fun _ => 0, g⟩ (fun r => ∀ c : Dev Cert.Dx2Ideal.nD,
          r.2.mem ((c.tc : Thread Cert.Dx2Ideal.nD Cert.Dx2Ideal.τ).loc Cert.Dx2Ideal.main_v0) = v0 c
          ∧ r.2.mem ((c.tc : Thread Cert.Dx2Ideal.nD Cert.Dx2Ideal.τ).loc Cert.Dx2Ideal.main_arg0) = m ((c.tc : Thread Cert.Dx2Ideal.nD Cert.Dx2Ideal.τ).loc Cert.Dx2Ideal.main_arg0)
          ∧ r.2.mem ((c.tc : Thread Cert.Dx2Ideal.nD Cert.Dx2Ideal.τ).loc Cert.Dx2Ideal.main_arg1) = m ((c.tc : Thread Cert.Dx2Ideal.nD Cert.Dx2Ideal.τ).loc Cert.Dx2Ideal.main_arg1))
      ∧ θ_run (Cert.DxRef2Ideal.defs (F := Ideal)) (onTc (τ := Cert.DxRef2Ideal.τ) (Cert.DxRef2Ideal.main (F := Ideal))) ⟨m', fun _ => 0, g'⟩ (fun r => ∀ c : Dev Cert.DxRef2Ideal.nD,
          r.2.mem ((c.tc : Thread Cert.DxRef2Ideal.nD Cert.DxRef2Ideal.τ).loc Cert.DxRef2Ideal.main_v2) = v0 c
          ∧ r.2.mem ((c.tc : Thread Cert.DxRef2Ideal.nD Cert.DxRef2Ideal.τ).loc Cert.DxRef2Ideal.main_arg0) = m' ((c.tc : Thread Cert.DxRef2Ideal.nD Cert.DxRef2Ideal.τ).loc Cert.DxRef2Ideal.main_arg0)
          ∧ r.2.mem ((c.tc : Thread Cert.DxRef2Ideal.nD Cert.DxRef2Ideal.τ).loc Cert.DxRef2Ideal.main_arg1) = m' ((c.tc : Thread Cert.DxRef2Ideal.nD Cert.DxRef2Ideal.τ).loc Cert.DxRef2Ideal.main_arg1))

def preserves_Dx3_Dx3Ideal : Prop :=
  True

def algebraic_Dx3Ideal_DxRef3Ideal [hDx3Ideal : Cert.Dx3Ideal.Facts] [hDxRef3Ideal : Cert.DxRef3Ideal.Facts] : Prop :=
  ∀ (m : (ℓ : Loc Cert.Dx3Ideal.nD Cert.Dx3Ideal.τ Cert.Dx3Ideal.sig) → Buf (Elt Ideal) ℓ) (g : Dev Cert.Dx3Ideal.nD → PrngReg)
    (m' : (ℓ : Loc Cert.DxRef3Ideal.nD Cert.DxRef3Ideal.τ Cert.DxRef3Ideal.sig) → Buf (Elt Ideal) ℓ) (g' : Dev Cert.DxRef3Ideal.nD → PrngReg), Pre_Dx3Ideal m →
    (∀ c : Dev Cert.Dx3Ideal.nD,
      m' ((c.tc : Thread Cert.DxRef3Ideal.nD Cert.DxRef3Ideal.τ).loc Cert.DxRef3Ideal.main_arg0) = m ((c.tc : Thread Cert.Dx3Ideal.nD Cert.Dx3Ideal.τ).loc Cert.Dx3Ideal.main_arg0)
      ∧ m' ((c.tc : Thread Cert.DxRef3Ideal.nD Cert.DxRef3Ideal.τ).loc Cert.DxRef3Ideal.main_arg1) = m ((c.tc : Thread Cert.Dx3Ideal.nD Cert.Dx3Ideal.τ).loc Cert.Dx3Ideal.main_arg1)) →
    ∃ (v0 : (c : Dev Cert.Dx3Ideal.nD) → Buf (Elt Ideal) ((c.tc : Thread Cert.Dx3Ideal.nD Cert.Dx3Ideal.τ).loc Cert.Dx3Ideal.main_v0)),
      θ_run (Cert.Dx3Ideal.defs (F := Ideal)) (onTc (τ := Cert.Dx3Ideal.τ) (Cert.Dx3Ideal.main (F := Ideal))) ⟨m, fun _ => 0, g⟩ (fun r => ∀ c : Dev Cert.Dx3Ideal.nD,
          r.2.mem ((c.tc : Thread Cert.Dx3Ideal.nD Cert.Dx3Ideal.τ).loc Cert.Dx3Ideal.main_v0) = v0 c
          ∧ r.2.mem ((c.tc : Thread Cert.Dx3Ideal.nD Cert.Dx3Ideal.τ).loc Cert.Dx3Ideal.main_arg0) = m ((c.tc : Thread Cert.Dx3Ideal.nD Cert.Dx3Ideal.τ).loc Cert.Dx3Ideal.main_arg0)
          ∧ r.2.mem ((c.tc : Thread Cert.Dx3Ideal.nD Cert.Dx3Ideal.τ).loc Cert.Dx3Ideal.main_arg1) = m ((c.tc : Thread Cert.Dx3Ideal.nD Cert.Dx3Ideal.τ).loc Cert.Dx3Ideal.main_arg1))
      ∧ θ_run (Cert.DxRef3Ideal.defs (F := Ideal)) (onTc (τ := Cert.DxRef3Ideal.τ) (Cert.DxRef3Ideal.main (F := Ideal))) ⟨m', fun _ => 0, g'⟩ (fun r => ∀ c : Dev Cert.DxRef3Ideal.nD,
          r.2.mem ((c.tc : Thread Cert.DxRef3Ideal.nD Cert.DxRef3Ideal.τ).loc Cert.DxRef3Ideal.main_v2) = v0 c
          ∧ r.2.mem ((c.tc : Thread Cert.DxRef3Ideal.nD Cert.DxRef3Ideal.τ).loc Cert.DxRef3Ideal.main_arg0) = m' ((c.tc : Thread Cert.DxRef3Ideal.nD Cert.DxRef3Ideal.τ).loc Cert.DxRef3Ideal.main_arg0)
          ∧ r.2.mem ((c.tc : Thread Cert.DxRef3Ideal.nD Cert.DxRef3Ideal.τ).loc Cert.DxRef3Ideal.main_arg1) = m' ((c.tc : Thread Cert.DxRef3Ideal.nD Cert.DxRef3Ideal.τ).loc Cert.DxRef3Ideal.main_arg1))

def preserves_Dx4_Dx4Ideal : Prop :=
  True

def algebraic_Dx4Ideal_DxRef4Ideal [hDx4Ideal : Cert.Dx4Ideal.Facts] [hDxRef4Ideal : Cert.DxRef4Ideal.Facts] : Prop :=
  ∀ (m : (ℓ : Loc Cert.Dx4Ideal.nD Cert.Dx4Ideal.τ Cert.Dx4Ideal.sig) → Buf (Elt Ideal) ℓ) (g : Dev Cert.Dx4Ideal.nD → PrngReg)
    (m' : (ℓ : Loc Cert.DxRef4Ideal.nD Cert.DxRef4Ideal.τ Cert.DxRef4Ideal.sig) → Buf (Elt Ideal) ℓ) (g' : Dev Cert.DxRef4Ideal.nD → PrngReg), Pre_Dx4Ideal m →
    (∀ c : Dev Cert.Dx4Ideal.nD,
      m' ((c.tc : Thread Cert.DxRef4Ideal.nD Cert.DxRef4Ideal.τ).loc Cert.DxRef4Ideal.main_arg0) = m ((c.tc : Thread Cert.Dx4Ideal.nD Cert.Dx4Ideal.τ).loc Cert.Dx4Ideal.main_arg0)
      ∧ m' ((c.tc : Thread Cert.DxRef4Ideal.nD Cert.DxRef4Ideal.τ).loc Cert.DxRef4Ideal.main_arg1) = m ((c.tc : Thread Cert.Dx4Ideal.nD Cert.Dx4Ideal.τ).loc Cert.Dx4Ideal.main_arg1)) →
    ∃ (v0 : (c : Dev Cert.Dx4Ideal.nD) → Buf (Elt Ideal) ((c.tc : Thread Cert.Dx4Ideal.nD Cert.Dx4Ideal.τ).loc Cert.Dx4Ideal.main_v0)),
      θ_run (Cert.Dx4Ideal.defs (F := Ideal)) (onTc (τ := Cert.Dx4Ideal.τ) (Cert.Dx4Ideal.main (F := Ideal))) ⟨m, fun _ => 0, g⟩ (fun r => ∀ c : Dev Cert.Dx4Ideal.nD,
          r.2.mem ((c.tc : Thread Cert.Dx4Ideal.nD Cert.Dx4Ideal.τ).loc Cert.Dx4Ideal.main_v0) = v0 c
          ∧ r.2.mem ((c.tc : Thread Cert.Dx4Ideal.nD Cert.Dx4Ideal.τ).loc Cert.Dx4Ideal.main_arg0) = m ((c.tc : Thread Cert.Dx4Ideal.nD Cert.Dx4Ideal.τ).loc Cert.Dx4Ideal.main_arg0)
          ∧ r.2.mem ((c.tc : Thread Cert.Dx4Ideal.nD Cert.Dx4Ideal.τ).loc Cert.Dx4Ideal.main_arg1) = m ((c.tc : Thread Cert.Dx4Ideal.nD Cert.Dx4Ideal.τ).loc Cert.Dx4Ideal.main_arg1))
      ∧ θ_run (Cert.DxRef4Ideal.defs (F := Ideal)) (onTc (τ := Cert.DxRef4Ideal.τ) (Cert.DxRef4Ideal.main (F := Ideal))) ⟨m', fun _ => 0, g'⟩ (fun r => ∀ c : Dev Cert.DxRef4Ideal.nD,
          r.2.mem ((c.tc : Thread Cert.DxRef4Ideal.nD Cert.DxRef4Ideal.τ).loc Cert.DxRef4Ideal.main_v2) = v0 c
          ∧ r.2.mem ((c.tc : Thread Cert.DxRef4Ideal.nD Cert.DxRef4Ideal.τ).loc Cert.DxRef4Ideal.main_arg0) = m' ((c.tc : Thread Cert.DxRef4Ideal.nD Cert.DxRef4Ideal.τ).loc Cert.DxRef4Ideal.main_arg0)
          ∧ r.2.mem ((c.tc : Thread Cert.DxRef4Ideal.nD Cert.DxRef4Ideal.τ).loc Cert.DxRef4Ideal.main_arg1) = m' ((c.tc : Thread Cert.DxRef4Ideal.nD Cert.DxRef4Ideal.τ).loc Cert.DxRef4Ideal.main_arg1))

def preserves_Dx5_Dx5Ideal : Prop :=
  True

def algebraic_Dx5Ideal_DxRef5Ideal [hDx5Ideal : Cert.Dx5Ideal.Facts] [hDxRef5Ideal : Cert.DxRef5Ideal.Facts] : Prop :=
  ∀ (m : (ℓ : Loc Cert.Dx5Ideal.nD Cert.Dx5Ideal.τ Cert.Dx5Ideal.sig) → Buf (Elt Ideal) ℓ) (g : Dev Cert.Dx5Ideal.nD → PrngReg)
    (m' : (ℓ : Loc Cert.DxRef5Ideal.nD Cert.DxRef5Ideal.τ Cert.DxRef5Ideal.sig) → Buf (Elt Ideal) ℓ) (g' : Dev Cert.DxRef5Ideal.nD → PrngReg), Pre_Dx5Ideal m →
    (∀ c : Dev Cert.Dx5Ideal.nD,
      m' ((c.tc : Thread Cert.DxRef5Ideal.nD Cert.DxRef5Ideal.τ).loc Cert.DxRef5Ideal.main_arg0) = m ((c.tc : Thread Cert.Dx5Ideal.nD Cert.Dx5Ideal.τ).loc Cert.Dx5Ideal.main_arg0)
      ∧ m' ((c.tc : Thread Cert.DxRef5Ideal.nD Cert.DxRef5Ideal.τ).loc Cert.DxRef5Ideal.main_arg1) = m ((c.tc : Thread Cert.Dx5Ideal.nD Cert.Dx5Ideal.τ).loc Cert.Dx5Ideal.main_arg1)) →
    ∃ (v0 : (c : Dev Cert.Dx5Ideal.nD) → Buf (Elt Ideal) ((c.tc : Thread Cert.Dx5Ideal.nD Cert.Dx5Ideal.τ).loc Cert.Dx5Ideal.main_v0)),
      θ_run (Cert.Dx5Ideal.defs (F := Ideal)) (onTc (τ := Cert.Dx5Ideal.τ) (Cert.Dx5Ideal.main (F := Ideal))) ⟨m, fun _ => 0, g⟩ (fun r => ∀ c : Dev Cert.Dx5Ideal.nD,
          r.2.mem ((c.tc : Thread Cert.Dx5Ideal.nD Cert.Dx5Ideal.τ).loc Cert.Dx5Ideal.main_v0) = v0 c
          ∧ r.2.mem ((c.tc : Thread Cert.Dx5Ideal.nD Cert.Dx5Ideal.τ).loc Cert.Dx5Ideal.main_arg0) = m ((c.tc : Thread Cert.Dx5Ideal.nD Cert.Dx5Ideal.τ).loc Cert.Dx5Ideal.main_arg0)
          ∧ r.2.mem ((c.tc : Thread Cert.Dx5Ideal.nD Cert.Dx5Ideal.τ).loc Cert.Dx5Ideal.main_arg1) = m ((c.tc : Thread Cert.Dx5Ideal.nD Cert.Dx5Ideal.τ).loc Cert.Dx5Ideal.main_arg1))
      ∧ θ_run (Cert.DxRef5Ideal.defs (F := Ideal)) (onTc (τ := Cert.DxRef5Ideal.τ) (Cert.DxRef5Ideal.main (F := Ideal))) ⟨m', fun _ => 0, g'⟩ (fun r => ∀ c : Dev Cert.DxRef5Ideal.nD,
          r.2.mem ((c.tc : Thread Cert.DxRef5Ideal.nD Cert.DxRef5Ideal.τ).loc Cert.DxRef5Ideal.main_v2) = v0 c
          ∧ r.2.mem ((c.tc : Thread Cert.DxRef5Ideal.nD Cert.DxRef5Ideal.τ).loc Cert.DxRef5Ideal.main_arg0) = m' ((c.tc : Thread Cert.DxRef5Ideal.nD Cert.DxRef5Ideal.τ).loc Cert.DxRef5Ideal.main_arg0)
          ∧ r.2.mem ((c.tc : Thread Cert.DxRef5Ideal.nD Cert.DxRef5Ideal.τ).loc Cert.DxRef5Ideal.main_arg1) = m' ((c.tc : Thread Cert.DxRef5Ideal.nD Cert.DxRef5Ideal.τ).loc Cert.DxRef5Ideal.main_arg1))

def preserves_Dx6_Dx6Ideal : Prop :=
  True

def algebraic_Dx6Ideal_DxRef6Ideal [hDx6Ideal : Cert.Dx6Ideal.Facts] [hDxRef6Ideal : Cert.DxRef6Ideal.Facts] : Prop :=
  ∀ (m : (ℓ : Loc Cert.Dx6Ideal.nD Cert.Dx6Ideal.τ Cert.Dx6Ideal.sig) → Buf (Elt Ideal) ℓ) (g : Dev Cert.Dx6Ideal.nD → PrngReg)
    (m' : (ℓ : Loc Cert.DxRef6Ideal.nD Cert.DxRef6Ideal.τ Cert.DxRef6Ideal.sig) → Buf (Elt Ideal) ℓ) (g' : Dev Cert.DxRef6Ideal.nD → PrngReg), Pre_Dx6Ideal m →
    (∀ c : Dev Cert.Dx6Ideal.nD,
      m' ((c.tc : Thread Cert.DxRef6Ideal.nD Cert.DxRef6Ideal.τ).loc Cert.DxRef6Ideal.main_arg0) = m ((c.tc : Thread Cert.Dx6Ideal.nD Cert.Dx6Ideal.τ).loc Cert.Dx6Ideal.main_arg0)
      ∧ m' ((c.tc : Thread Cert.DxRef6Ideal.nD Cert.DxRef6Ideal.τ).loc Cert.DxRef6Ideal.main_arg1) = m ((c.tc : Thread Cert.Dx6Ideal.nD Cert.Dx6Ideal.τ).loc Cert.Dx6Ideal.main_arg1)) →
    ∃ (v0 : (c : Dev Cert.Dx6Ideal.nD) → Buf (Elt Ideal) ((c.tc : Thread Cert.Dx6Ideal.nD Cert.Dx6Ideal.τ).loc Cert.Dx6Ideal.main_v0)),
      θ_run (Cert.Dx6Ideal.defs (F := Ideal)) (onTc (τ := Cert.Dx6Ideal.τ) (Cert.Dx6Ideal.main (F := Ideal))) ⟨m, fun _ => 0, g⟩ (fun r => ∀ c : Dev Cert.Dx6Ideal.nD,
          r.2.mem ((c.tc : Thread Cert.Dx6Ideal.nD Cert.Dx6Ideal.τ).loc Cert.Dx6Ideal.main_v0) = v0 c
          ∧ r.2.mem ((c.tc : Thread Cert.Dx6Ideal.nD Cert.Dx6Ideal.τ).loc Cert.Dx6Ideal.main_arg0) = m ((c.tc : Thread Cert.Dx6Ideal.nD Cert.Dx6Ideal.τ).loc Cert.Dx6Ideal.main_arg0)
          ∧ r.2.mem ((c.tc : Thread Cert.Dx6Ideal.nD Cert.Dx6Ideal.τ).loc Cert.Dx6Ideal.main_arg1) = m ((c.tc : Thread Cert.Dx6Ideal.nD Cert.Dx6Ideal.τ).loc Cert.Dx6Ideal.main_arg1))
      ∧ θ_run (Cert.DxRef6Ideal.defs (F := Ideal)) (onTc (τ := Cert.DxRef6Ideal.τ) (Cert.DxRef6Ideal.main (F := Ideal))) ⟨m', fun _ => 0, g'⟩ (fun r => ∀ c : Dev Cert.DxRef6Ideal.nD,
          r.2.mem ((c.tc : Thread Cert.DxRef6Ideal.nD Cert.DxRef6Ideal.τ).loc Cert.DxRef6Ideal.main_v2) = v0 c
          ∧ r.2.mem ((c.tc : Thread Cert.DxRef6Ideal.nD Cert.DxRef6Ideal.τ).loc Cert.DxRef6Ideal.main_arg0) = m' ((c.tc : Thread Cert.DxRef6Ideal.nD Cert.DxRef6Ideal.τ).loc Cert.DxRef6Ideal.main_arg0)
          ∧ r.2.mem ((c.tc : Thread Cert.DxRef6Ideal.nD Cert.DxRef6Ideal.τ).loc Cert.DxRef6Ideal.main_arg1) = m' ((c.tc : Thread Cert.DxRef6Ideal.nD Cert.DxRef6Ideal.τ).loc Cert.DxRef6Ideal.main_arg1))

def preserves_Dw0_Dw0Ideal : Prop :=
  True

def algebraic_Dw0Ideal_DwRef0Ideal [hDw0Ideal : Cert.Dw0Ideal.Facts] [hDwRef0Ideal : Cert.DwRef0Ideal.Facts] : Prop :=
  ∀ (m : (ℓ : Loc Cert.Dw0Ideal.nD Cert.Dw0Ideal.τ Cert.Dw0Ideal.sig) → Buf (Elt Ideal) ℓ) (g : Dev Cert.Dw0Ideal.nD → PrngReg)
    (m' : (ℓ : Loc Cert.DwRef0Ideal.nD Cert.DwRef0Ideal.τ Cert.DwRef0Ideal.sig) → Buf (Elt Ideal) ℓ) (g' : Dev Cert.DwRef0Ideal.nD → PrngReg), Pre_Dw0Ideal m →
    (∀ c : Dev Cert.Dw0Ideal.nD,
      m' ((c.tc : Thread Cert.DwRef0Ideal.nD Cert.DwRef0Ideal.τ).loc Cert.DwRef0Ideal.main_arg0) = m ((c.tc : Thread Cert.Dw0Ideal.nD Cert.Dw0Ideal.τ).loc Cert.Dw0Ideal.main_arg0)
      ∧ m' ((c.tc : Thread Cert.DwRef0Ideal.nD Cert.DwRef0Ideal.τ).loc Cert.DwRef0Ideal.main_arg1) = m ((c.tc : Thread Cert.Dw0Ideal.nD Cert.Dw0Ideal.τ).loc Cert.Dw0Ideal.main_arg1)) →
    ∃ (v0 : (c : Dev Cert.Dw0Ideal.nD) → Buf (Elt Ideal) ((c.tc : Thread Cert.Dw0Ideal.nD Cert.Dw0Ideal.τ).loc Cert.Dw0Ideal.main_v0)),
      θ_run (Cert.Dw0Ideal.defs (F := Ideal)) (onTc (τ := Cert.Dw0Ideal.τ) (Cert.Dw0Ideal.main (F := Ideal))) ⟨m, fun _ => 0, g⟩ (fun r => ∀ c : Dev Cert.Dw0Ideal.nD,
          r.2.mem ((c.tc : Thread Cert.Dw0Ideal.nD Cert.Dw0Ideal.τ).loc Cert.Dw0Ideal.main_v0) = v0 c
          ∧ r.2.mem ((c.tc : Thread Cert.Dw0Ideal.nD Cert.Dw0Ideal.τ).loc Cert.Dw0Ideal.main_arg0) = m ((c.tc : Thread Cert.Dw0Ideal.nD Cert.Dw0Ideal.τ).loc Cert.Dw0Ideal.main_arg0)
          ∧ r.2.mem ((c.tc : Thread Cert.Dw0Ideal.nD Cert.Dw0Ideal.τ).loc Cert.Dw0Ideal.main_arg1) = m ((c.tc : Thread Cert.Dw0Ideal.nD Cert.Dw0Ideal.τ).loc Cert.Dw0Ideal.main_arg1))
      ∧ θ_run (Cert.DwRef0Ideal.defs (F := Ideal)) (onTc (τ := Cert.DwRef0Ideal.τ) (Cert.DwRef0Ideal.main (F := Ideal))) ⟨m', fun _ => 0, g'⟩ (fun r => ∀ c : Dev Cert.DwRef0Ideal.nD,
          r.2.mem ((c.tc : Thread Cert.DwRef0Ideal.nD Cert.DwRef0Ideal.τ).loc Cert.DwRef0Ideal.main_v4) = v0 c
          ∧ r.2.mem ((c.tc : Thread Cert.DwRef0Ideal.nD Cert.DwRef0Ideal.τ).loc Cert.DwRef0Ideal.main_arg0) = m' ((c.tc : Thread Cert.DwRef0Ideal.nD Cert.DwRef0Ideal.τ).loc Cert.DwRef0Ideal.main_arg0)
          ∧ r.2.mem ((c.tc : Thread Cert.DwRef0Ideal.nD Cert.DwRef0Ideal.τ).loc Cert.DwRef0Ideal.main_arg1) = m' ((c.tc : Thread Cert.DwRef0Ideal.nD Cert.DwRef0Ideal.τ).loc Cert.DwRef0Ideal.main_arg1))

def preserves_Dw1_Dw1Ideal : Prop :=
  True

def algebraic_Dw1Ideal_DwRef1Ideal [hDw1Ideal : Cert.Dw1Ideal.Facts] [hDwRef1Ideal : Cert.DwRef1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.DwRef1Ideal.nD Cert.DwRef1Ideal.τ Cert.DwRef1Ideal.sig) → Buf (Elt Ideal) ℓ) (g' : Dev Cert.DwRef1Ideal.nD → PrngReg), Pre_Dw1Ideal m →
    (∀ c : Dev Cert.Dw1Ideal.nD,
      m' ((c.tc : Thread Cert.DwRef1Ideal.nD Cert.DwRef1Ideal.τ).loc Cert.DwRef1Ideal.main_arg0) = m ((c.tc : Thread Cert.Dw1Ideal.nD Cert.Dw1Ideal.τ).loc Cert.Dw1Ideal.main_arg0)
      ∧ m' ((c.tc : Thread Cert.DwRef1Ideal.nD Cert.DwRef1Ideal.τ).loc Cert.DwRef1Ideal.main_arg1) = m ((c.tc : Thread Cert.Dw1Ideal.nD Cert.Dw1Ideal.τ).loc Cert.Dw1Ideal.main_arg1)) →
    ∃ (v0 : (c : Dev Cert.Dw1Ideal.nD) → Buf (Elt Ideal) ((c.tc : Thread Cert.Dw1Ideal.nD Cert.Dw1Ideal.τ).loc Cert.Dw1Ideal.main_v0)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v0) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ θ_run (Cert.DwRef1Ideal.defs (F := Ideal)) (onTc (τ := Cert.DwRef1Ideal.τ) (Cert.DwRef1Ideal.main (F := Ideal))) ⟨m', fun _ => 0, g'⟩ (fun r => ∀ c : Dev Cert.DwRef1Ideal.nD,
          r.2.mem ((c.tc : Thread Cert.DwRef1Ideal.nD Cert.DwRef1Ideal.τ).loc Cert.DwRef1Ideal.main_v4) = v0 c
          ∧ r.2.mem ((c.tc : Thread Cert.DwRef1Ideal.nD Cert.DwRef1Ideal.τ).loc Cert.DwRef1Ideal.main_arg0) = m' ((c.tc : Thread Cert.DwRef1Ideal.nD Cert.DwRef1Ideal.τ).loc Cert.DwRef1Ideal.main_arg0)
          ∧ r.2.mem ((c.tc : Thread Cert.DwRef1Ideal.nD Cert.DwRef1Ideal.τ).loc Cert.DwRef1Ideal.main_arg1) = m' ((c.tc : Thread Cert.DwRef1Ideal.nD Cert.DwRef1Ideal.τ).loc Cert.DwRef1Ideal.main_arg1))

def preserves_Dw2_Dw2Ideal : Prop :=
  True

def algebraic_Dw2Ideal_DwRef2Ideal [hDw2Ideal : Cert.Dw2Ideal.Facts] [hDwRef2Ideal : Cert.DwRef2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.DwRef2Ideal.nD Cert.DwRef2Ideal.τ Cert.DwRef2Ideal.sig) → Buf (Elt Ideal) ℓ) (g' : Dev Cert.DwRef2Ideal.nD → PrngReg), Pre_Dw2Ideal m →
    (∀ c : Dev Cert.Dw2Ideal.nD,
      m' ((c.tc : Thread Cert.DwRef2Ideal.nD Cert.DwRef2Ideal.τ).loc Cert.DwRef2Ideal.main_arg0) = m ((c.tc : Thread Cert.Dw2Ideal.nD Cert.Dw2Ideal.τ).loc Cert.Dw2Ideal.main_arg0)
      ∧ m' ((c.tc : Thread Cert.DwRef2Ideal.nD Cert.DwRef2Ideal.τ).loc Cert.DwRef2Ideal.main_arg1) = m ((c.tc : Thread Cert.Dw2Ideal.nD Cert.Dw2Ideal.τ).loc Cert.Dw2Ideal.main_arg1)) →
    ∃ (v0 : (c : Dev Cert.Dw2Ideal.nD) → Buf (Elt Ideal) ((c.tc : Thread Cert.Dw2Ideal.nD Cert.Dw2Ideal.τ).loc Cert.Dw2Ideal.main_v0)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v0) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ θ_run (Cert.DwRef2Ideal.defs (F := Ideal)) (onTc (τ := Cert.DwRef2Ideal.τ) (Cert.DwRef2Ideal.main (F := Ideal))) ⟨m', fun _ => 0, g'⟩ (fun r => ∀ c : Dev Cert.DwRef2Ideal.nD,
          r.2.mem ((c.tc : Thread Cert.DwRef2Ideal.nD Cert.DwRef2Ideal.τ).loc Cert.DwRef2Ideal.main_v4) = v0 c
          ∧ r.2.mem ((c.tc : Thread Cert.DwRef2Ideal.nD Cert.DwRef2Ideal.τ).loc Cert.DwRef2Ideal.main_arg0) = m' ((c.tc : Thread Cert.DwRef2Ideal.nD Cert.DwRef2Ideal.τ).loc Cert.DwRef2Ideal.main_arg0)
          ∧ r.2.mem ((c.tc : Thread Cert.DwRef2Ideal.nD Cert.DwRef2Ideal.τ).loc Cert.DwRef2Ideal.main_arg1) = m' ((c.tc : Thread Cert.DwRef2Ideal.nD Cert.DwRef2Ideal.τ).loc Cert.DwRef2Ideal.main_arg1))

def preserves_Dw3_Dw3Ideal : Prop :=
  True

def algebraic_Dw3Ideal_DwRef3Ideal [hDw3Ideal : Cert.Dw3Ideal.Facts] [hDwRef3Ideal : Cert.DwRef3Ideal.Facts] : Prop :=
  ∀ (m : (ℓ : Loc Cert.Dw3Ideal.nD Cert.Dw3Ideal.τ Cert.Dw3Ideal.sig) → Buf (Elt Ideal) ℓ) (g : Dev Cert.Dw3Ideal.nD → PrngReg)
    (m' : (ℓ : Loc Cert.DwRef3Ideal.nD Cert.DwRef3Ideal.τ Cert.DwRef3Ideal.sig) → Buf (Elt Ideal) ℓ) (g' : Dev Cert.DwRef3Ideal.nD → PrngReg), Pre_Dw3Ideal m →
    (∀ c : Dev Cert.Dw3Ideal.nD,
      m' ((c.tc : Thread Cert.DwRef3Ideal.nD Cert.DwRef3Ideal.τ).loc Cert.DwRef3Ideal.main_arg0) = m ((c.tc : Thread Cert.Dw3Ideal.nD Cert.Dw3Ideal.τ).loc Cert.Dw3Ideal.main_arg0)
      ∧ m' ((c.tc : Thread Cert.DwRef3Ideal.nD Cert.DwRef3Ideal.τ).loc Cert.DwRef3Ideal.main_arg1) = m ((c.tc : Thread Cert.Dw3Ideal.nD Cert.Dw3Ideal.τ).loc Cert.Dw3Ideal.main_arg1)) →
    ∃ (v0 : (c : Dev Cert.Dw3Ideal.nD) → Buf (Elt Ideal) ((c.tc : Thread Cert.Dw3Ideal.nD Cert.Dw3Ideal.τ).loc Cert.Dw3Ideal.main_v0)),
      θ_run (Cert.Dw3Ideal.defs (F := Ideal)) (onTc (τ := Cert.Dw3Ideal.τ) (Cert.Dw3Ideal.main (F := Ideal))) ⟨m, fun _ => 0, g⟩ (fun r => ∀ c : Dev Cert.Dw3Ideal.nD,
          r.2.mem ((c.tc : Thread Cert.Dw3Ideal.nD Cert.Dw3Ideal.τ).loc Cert.Dw3Ideal.main_v0) = v0 c
          ∧ r.2.mem ((c.tc : Thread Cert.Dw3Ideal.nD Cert.Dw3Ideal.τ).loc Cert.Dw3Ideal.main_arg0) = m ((c.tc : Thread Cert.Dw3Ideal.nD Cert.Dw3Ideal.τ).loc Cert.Dw3Ideal.main_arg0)
          ∧ r.2.mem ((c.tc : Thread Cert.Dw3Ideal.nD Cert.Dw3Ideal.τ).loc Cert.Dw3Ideal.main_arg1) = m ((c.tc : Thread Cert.Dw3Ideal.nD Cert.Dw3Ideal.τ).loc Cert.Dw3Ideal.main_arg1))
      ∧ θ_run (Cert.DwRef3Ideal.defs (F := Ideal)) (onTc (τ := Cert.DwRef3Ideal.τ) (Cert.DwRef3Ideal.main (F := Ideal))) ⟨m', fun _ => 0, g'⟩ (fun r => ∀ c : Dev Cert.DwRef3Ideal.nD,
          r.2.mem ((c.tc : Thread Cert.DwRef3Ideal.nD Cert.DwRef3Ideal.τ).loc Cert.DwRef3Ideal.main_v4) = v0 c
          ∧ r.2.mem ((c.tc : Thread Cert.DwRef3Ideal.nD Cert.DwRef3Ideal.τ).loc Cert.DwRef3Ideal.main_arg0) = m' ((c.tc : Thread Cert.DwRef3Ideal.nD Cert.DwRef3Ideal.τ).loc Cert.DwRef3Ideal.main_arg0)
          ∧ r.2.mem ((c.tc : Thread Cert.DwRef3Ideal.nD Cert.DwRef3Ideal.τ).loc Cert.DwRef3Ideal.main_arg1) = m' ((c.tc : Thread Cert.DwRef3Ideal.nD Cert.DwRef3Ideal.τ).loc Cert.DwRef3Ideal.main_arg1))

def preserves_Dw4_Dw4Ideal : Prop :=
  True

def algebraic_Dw4Ideal_DwRef4Ideal [hDw4Ideal : Cert.Dw4Ideal.Facts] [hDwRef4Ideal : Cert.DwRef4Ideal.Facts] : Prop :=
  ∀ (m : (ℓ : Loc Cert.Dw4Ideal.nD Cert.Dw4Ideal.τ Cert.Dw4Ideal.sig) → Buf (Elt Ideal) ℓ) (g : Dev Cert.Dw4Ideal.nD → PrngReg)
    (m' : (ℓ : Loc Cert.DwRef4Ideal.nD Cert.DwRef4Ideal.τ Cert.DwRef4Ideal.sig) → Buf (Elt Ideal) ℓ) (g' : Dev Cert.DwRef4Ideal.nD → PrngReg), Pre_Dw4Ideal m →
    (∀ c : Dev Cert.Dw4Ideal.nD,
      m' ((c.tc : Thread Cert.DwRef4Ideal.nD Cert.DwRef4Ideal.τ).loc Cert.DwRef4Ideal.main_arg0) = m ((c.tc : Thread Cert.Dw4Ideal.nD Cert.Dw4Ideal.τ).loc Cert.Dw4Ideal.main_arg0)
      ∧ m' ((c.tc : Thread Cert.DwRef4Ideal.nD Cert.DwRef4Ideal.τ).loc Cert.DwRef4Ideal.main_arg1) = m ((c.tc : Thread Cert.Dw4Ideal.nD Cert.Dw4Ideal.τ).loc Cert.Dw4Ideal.main_arg1)) →
    ∃ (v0 : (c : Dev Cert.Dw4Ideal.nD) → Buf (Elt Ideal) ((c.tc : Thread Cert.Dw4Ideal.nD Cert.Dw4Ideal.τ).loc Cert.Dw4Ideal.main_v0)),
      θ_run (Cert.Dw4Ideal.defs (F := Ideal)) (onTc (τ := Cert.Dw4Ideal.τ) (Cert.Dw4Ideal.main (F := Ideal))) ⟨m, fun _ => 0, g⟩ (fun r => ∀ c : Dev Cert.Dw4Ideal.nD,
          r.2.mem ((c.tc : Thread Cert.Dw4Ideal.nD Cert.Dw4Ideal.τ).loc Cert.Dw4Ideal.main_v0) = v0 c
          ∧ r.2.mem ((c.tc : Thread Cert.Dw4Ideal.nD Cert.Dw4Ideal.τ).loc Cert.Dw4Ideal.main_arg0) = m ((c.tc : Thread Cert.Dw4Ideal.nD Cert.Dw4Ideal.τ).loc Cert.Dw4Ideal.main_arg0)
          ∧ r.2.mem ((c.tc : Thread Cert.Dw4Ideal.nD Cert.Dw4Ideal.τ).loc Cert.Dw4Ideal.main_arg1) = m ((c.tc : Thread Cert.Dw4Ideal.nD Cert.Dw4Ideal.τ).loc Cert.Dw4Ideal.main_arg1))
      ∧ θ_run (Cert.DwRef4Ideal.defs (F := Ideal)) (onTc (τ := Cert.DwRef4Ideal.τ) (Cert.DwRef4Ideal.main (F := Ideal))) ⟨m', fun _ => 0, g'⟩ (fun r => ∀ c : Dev Cert.DwRef4Ideal.nD,
          r.2.mem ((c.tc : Thread Cert.DwRef4Ideal.nD Cert.DwRef4Ideal.τ).loc Cert.DwRef4Ideal.main_v4) = v0 c
          ∧ r.2.mem ((c.tc : Thread Cert.DwRef4Ideal.nD Cert.DwRef4Ideal.τ).loc Cert.DwRef4Ideal.main_arg0) = m' ((c.tc : Thread Cert.DwRef4Ideal.nD Cert.DwRef4Ideal.τ).loc Cert.DwRef4Ideal.main_arg0)
          ∧ r.2.mem ((c.tc : Thread Cert.DwRef4Ideal.nD Cert.DwRef4Ideal.τ).loc Cert.DwRef4Ideal.main_arg1) = m' ((c.tc : Thread Cert.DwRef4Ideal.nD Cert.DwRef4Ideal.τ).loc Cert.DwRef4Ideal.main_arg1))

def preserves_Dw5_Dw5Ideal : Prop :=
  True

def algebraic_Dw5Ideal_DwRef5Ideal [hDw5Ideal : Cert.Dw5Ideal.Facts] [hDwRef5Ideal : Cert.DwRef5Ideal.Facts] : Prop :=
  ∀ (m : (ℓ : Loc Cert.Dw5Ideal.nD Cert.Dw5Ideal.τ Cert.Dw5Ideal.sig) → Buf (Elt Ideal) ℓ) (g : Dev Cert.Dw5Ideal.nD → PrngReg)
    (m' : (ℓ : Loc Cert.DwRef5Ideal.nD Cert.DwRef5Ideal.τ Cert.DwRef5Ideal.sig) → Buf (Elt Ideal) ℓ) (g' : Dev Cert.DwRef5Ideal.nD → PrngReg), Pre_Dw5Ideal m →
    (∀ c : Dev Cert.Dw5Ideal.nD,
      m' ((c.tc : Thread Cert.DwRef5Ideal.nD Cert.DwRef5Ideal.τ).loc Cert.DwRef5Ideal.main_arg0) = m ((c.tc : Thread Cert.Dw5Ideal.nD Cert.Dw5Ideal.τ).loc Cert.Dw5Ideal.main_arg0)
      ∧ m' ((c.tc : Thread Cert.DwRef5Ideal.nD Cert.DwRef5Ideal.τ).loc Cert.DwRef5Ideal.main_arg1) = m ((c.tc : Thread Cert.Dw5Ideal.nD Cert.Dw5Ideal.τ).loc Cert.Dw5Ideal.main_arg1)) →
    ∃ (v0 : (c : Dev Cert.Dw5Ideal.nD) → Buf (Elt Ideal) ((c.tc : Thread Cert.Dw5Ideal.nD Cert.Dw5Ideal.τ).loc Cert.Dw5Ideal.main_v0)),
      θ_run (Cert.Dw5Ideal.defs (F := Ideal)) (onTc (τ := Cert.Dw5Ideal.τ) (Cert.Dw5Ideal.main (F := Ideal))) ⟨m, fun _ => 0, g⟩ (fun r => ∀ c : Dev Cert.Dw5Ideal.nD,
          r.2.mem ((c.tc : Thread Cert.Dw5Ideal.nD Cert.Dw5Ideal.τ).loc Cert.Dw5Ideal.main_v0) = v0 c
          ∧ r.2.mem ((c.tc : Thread Cert.Dw5Ideal.nD Cert.Dw5Ideal.τ).loc Cert.Dw5Ideal.main_arg0) = m ((c.tc : Thread Cert.Dw5Ideal.nD Cert.Dw5Ideal.τ).loc Cert.Dw5Ideal.main_arg0)
          ∧ r.2.mem ((c.tc : Thread Cert.Dw5Ideal.nD Cert.Dw5Ideal.τ).loc Cert.Dw5Ideal.main_arg1) = m ((c.tc : Thread Cert.Dw5Ideal.nD Cert.Dw5Ideal.τ).loc Cert.Dw5Ideal.main_arg1))
      ∧ θ_run (Cert.DwRef5Ideal.defs (F := Ideal)) (onTc (τ := Cert.DwRef5Ideal.τ) (Cert.DwRef5Ideal.main (F := Ideal))) ⟨m', fun _ => 0, g'⟩ (fun r => ∀ c : Dev Cert.DwRef5Ideal.nD,
          r.2.mem ((c.tc : Thread Cert.DwRef5Ideal.nD Cert.DwRef5Ideal.τ).loc Cert.DwRef5Ideal.main_v4) = v0 c
          ∧ r.2.mem ((c.tc : Thread Cert.DwRef5Ideal.nD Cert.DwRef5Ideal.τ).loc Cert.DwRef5Ideal.main_arg0) = m' ((c.tc : Thread Cert.DwRef5Ideal.nD Cert.DwRef5Ideal.τ).loc Cert.DwRef5Ideal.main_arg0)
          ∧ r.2.mem ((c.tc : Thread Cert.DwRef5Ideal.nD Cert.DwRef5Ideal.τ).loc Cert.DwRef5Ideal.main_arg1) = m' ((c.tc : Thread Cert.DwRef5Ideal.nD Cert.DwRef5Ideal.τ).loc Cert.DwRef5Ideal.main_arg1))

def preserves_Dw6_Dw6Ideal : Prop :=
  True

def algebraic_Dw6Ideal_DwRef6Ideal [hDw6Ideal : Cert.Dw6Ideal.Facts] [hDwRef6Ideal : Cert.DwRef6Ideal.Facts] : Prop :=
  ∀ (m : (ℓ : Loc Cert.Dw6Ideal.nD Cert.Dw6Ideal.τ Cert.Dw6Ideal.sig) → Buf (Elt Ideal) ℓ) (g : Dev Cert.Dw6Ideal.nD → PrngReg)
    (m' : (ℓ : Loc Cert.DwRef6Ideal.nD Cert.DwRef6Ideal.τ Cert.DwRef6Ideal.sig) → Buf (Elt Ideal) ℓ) (g' : Dev Cert.DwRef6Ideal.nD → PrngReg), Pre_Dw6Ideal m →
    (∀ c : Dev Cert.Dw6Ideal.nD,
      m' ((c.tc : Thread Cert.DwRef6Ideal.nD Cert.DwRef6Ideal.τ).loc Cert.DwRef6Ideal.main_arg0) = m ((c.tc : Thread Cert.Dw6Ideal.nD Cert.Dw6Ideal.τ).loc Cert.Dw6Ideal.main_arg0)
      ∧ m' ((c.tc : Thread Cert.DwRef6Ideal.nD Cert.DwRef6Ideal.τ).loc Cert.DwRef6Ideal.main_arg1) = m ((c.tc : Thread Cert.Dw6Ideal.nD Cert.Dw6Ideal.τ).loc Cert.Dw6Ideal.main_arg1)) →
    ∃ (v0 : (c : Dev Cert.Dw6Ideal.nD) → Buf (Elt Ideal) ((c.tc : Thread Cert.Dw6Ideal.nD Cert.Dw6Ideal.τ).loc Cert.Dw6Ideal.main_v0)),
      θ_run (Cert.Dw6Ideal.defs (F := Ideal)) (onTc (τ := Cert.Dw6Ideal.τ) (Cert.Dw6Ideal.main (F := Ideal))) ⟨m, fun _ => 0, g⟩ (fun r => ∀ c : Dev Cert.Dw6Ideal.nD,
          r.2.mem ((c.tc : Thread Cert.Dw6Ideal.nD Cert.Dw6Ideal.τ).loc Cert.Dw6Ideal.main_v0) = v0 c
          ∧ r.2.mem ((c.tc : Thread Cert.Dw6Ideal.nD Cert.Dw6Ideal.τ).loc Cert.Dw6Ideal.main_arg0) = m ((c.tc : Thread Cert.Dw6Ideal.nD Cert.Dw6Ideal.τ).loc Cert.Dw6Ideal.main_arg0)
          ∧ r.2.mem ((c.tc : Thread Cert.Dw6Ideal.nD Cert.Dw6Ideal.τ).loc Cert.Dw6Ideal.main_arg1) = m ((c.tc : Thread Cert.Dw6Ideal.nD Cert.Dw6Ideal.τ).loc Cert.Dw6Ideal.main_arg1))
      ∧ θ_run (Cert.DwRef6Ideal.defs (F := Ideal)) (onTc (τ := Cert.DwRef6Ideal.τ) (Cert.DwRef6Ideal.main (F := Ideal))) ⟨m', fun _ => 0, g'⟩ (fun r => ∀ c : Dev Cert.DwRef6Ideal.nD,
          r.2.mem ((c.tc : Thread Cert.DwRef6Ideal.nD Cert.DwRef6Ideal.τ).loc Cert.DwRef6Ideal.main_v4) = v0 c
          ∧ r.2.mem ((c.tc : Thread Cert.DwRef6Ideal.nD Cert.DwRef6Ideal.τ).loc Cert.DwRef6Ideal.main_arg0) = m' ((c.tc : Thread Cert.DwRef6Ideal.nD Cert.DwRef6Ideal.τ).loc Cert.DwRef6Ideal.main_arg0)
          ∧ r.2.mem ((c.tc : Thread Cert.DwRef6Ideal.nD Cert.DwRef6Ideal.τ).loc Cert.DwRef6Ideal.main_arg1) = m' ((c.tc : Thread Cert.DwRef6Ideal.nD Cert.DwRef6Ideal.τ).loc Cert.DwRef6Ideal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v26) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v0_0)) (v1 : (c : Dev Cert.GluIdeal.nD) → Buf (Elt Ideal) ((c.tc : Thread Cert.GluIdeal.nD Cert.GluIdeal.τ).loc Cert.GluIdeal.main_v0_1)) (v2 : (c : Dev Cert.GluIdeal.nD) → Buf (Elt Ideal) ((c.tc : Thread Cert.GluIdeal.nD Cert.GluIdeal.τ).loc Cert.GluIdeal.main_v0_2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0_0) = v0 c
          ∧ r.2.mem ((c.tc : Thread Cert.GluIdeal.nD Cert.GluIdeal.τ).loc Cert.GluIdeal.main_v0_1) = v1 c
          ∧ r.2.mem ((c.tc : Thread Cert.GluIdeal.nD Cert.GluIdeal.τ).loc Cert.GluIdeal.main_v0_2) = v2 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v23) = v0 c
          ∧ r.2.mem ((c.tc : Thread Cert.GluRefIdeal.nD Cert.GluRefIdeal.τ).loc Cert.GluRefIdeal.main_v24) = v1 c
          ∧ r.2.mem ((c.tc : Thread Cert.GluRefIdeal.nD Cert.GluRefIdeal.τ).loc Cert.GluRefIdeal.main_v27) = v2 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def Claim : Prop :=
  ∃ (hGather : Cert.Gather.Facts) (hGatherIdeal : Cert.GatherIdeal.Facts) (hGatherRefIdeal : Cert.GatherRefIdeal.Facts) (hGatherRef : Cert.GatherRef.Facts) (hScatter : Cert.Scatter.Facts) (hScatterIdeal : Cert.ScatterIdeal.Facts) (hScatterRefIdeal : Cert.ScatterRefIdeal.Facts) (hGather1 : Cert.Gather1.Facts) (hGather1Ideal : Cert.Gather1Ideal.Facts) (hGatherRef1Ideal : Cert.GatherRef1Ideal.Facts) (hGatherRef1 : Cert.GatherRef1.Facts) (hScatter1 : Cert.Scatter1.Facts) (hScatter1Ideal : Cert.Scatter1Ideal.Facts) (hScatterRef1Ideal : Cert.ScatterRef1Ideal.Facts) (hGather2 : Cert.Gather2.Facts) (hGather2Ideal : Cert.Gather2Ideal.Facts) (hGatherRef2Ideal : Cert.GatherRef2Ideal.Facts) (hGatherRef2 : Cert.GatherRef2.Facts) (hScatter2 : Cert.Scatter2.Facts) (hScatter2Ideal : Cert.Scatter2Ideal.Facts) (hScatterRef2Ideal : Cert.ScatterRef2Ideal.Facts) (hSmall : Cert.Small.Facts) (hSmallIdeal : Cert.SmallIdeal.Facts) (hSmallRefIdeal : Cert.SmallRefIdeal.Facts) (hAdam0 : Cert.Adam0.Facts) (hAdam0Ideal : Cert.Adam0Ideal.Facts) (hAdamRef0Ideal : Cert.AdamRef0Ideal.Facts) (hAdam1 : Cert.Adam1.Facts) (hAdam1Ideal : Cert.Adam1Ideal.Facts) (hAdamRef1Ideal : Cert.AdamRef1Ideal.Facts) (hAdam2 : Cert.Adam2.Facts) (hAdam2Ideal : Cert.Adam2Ideal.Facts) (hAdamRef2Ideal : Cert.AdamRef2Ideal.Facts) (hAdam3 : Cert.Adam3.Facts) (hAdam3Ideal : Cert.Adam3Ideal.Facts) (hAdamRef3Ideal : Cert.AdamRef3Ideal.Facts) (hAdam4 : Cert.Adam4.Facts) (hAdam4Ideal : Cert.Adam4Ideal.Facts) (hAdamRef4Ideal : Cert.AdamRef4Ideal.Facts) (hAdam5 : Cert.Adam5.Facts) (hAdam5Ideal : Cert.Adam5Ideal.Facts) (hAdamRef5Ideal : Cert.AdamRef5Ideal.Facts) (hAdam6 : Cert.Adam6.Facts) (hAdam6Ideal : Cert.Adam6Ideal.Facts) (hAdamRef6Ideal : Cert.AdamRef6Ideal.Facts) (hAdam7 : Cert.Adam7.Facts) (hAdam7Ideal : Cert.Adam7Ideal.Facts) (hAdamRef7Ideal : Cert.AdamRef7Ideal.Facts) (hAdam8 : Cert.Adam8.Facts) (hAdam8Ideal : Cert.Adam8Ideal.Facts) (hAdamRef8Ideal : Cert.AdamRef8Ideal.Facts) (hAdam9 : Cert.Adam9.Facts) (hAdam9Ideal : Cert.Adam9Ideal.Facts) (hAdamRef9Ideal : Cert.AdamRef9Ideal.Facts) (hAdam10 : Cert.Adam10.Facts) (hAdam10Ideal : Cert.Adam10Ideal.Facts) (hAdamRef10Ideal : Cert.AdamRef10Ideal.Facts) (hAdam11 : Cert.Adam11.Facts) (hAdam11Ideal : Cert.Adam11Ideal.Facts) (hAdamRef11Ideal : Cert.AdamRef11Ideal.Facts) (hAdam12 : Cert.Adam12.Facts) (hAdam12Ideal : Cert.Adam12Ideal.Facts) (hAdamRef12Ideal : Cert.AdamRef12Ideal.Facts) (hAdam13 : Cert.Adam13.Facts) (hAdam13Ideal : Cert.Adam13Ideal.Facts) (hAdamRef13Ideal : Cert.AdamRef13Ideal.Facts) (hMul0 : Cert.Mul0.Facts) (hMul0Ideal : Cert.Mul0Ideal.Facts) (hMulRef0Ideal : Cert.MulRef0Ideal.Facts) (hMul1 : Cert.Mul1.Facts) (hMul1Ideal : Cert.Mul1Ideal.Facts) (hMulRef1Ideal : Cert.MulRef1Ideal.Facts) (hMul2 : Cert.Mul2.Facts) (hMul2Ideal : Cert.Mul2Ideal.Facts) (hMulRef2Ideal : Cert.MulRef2Ideal.Facts) (hMul3 : Cert.Mul3.Facts) (hMul3Ideal : Cert.Mul3Ideal.Facts) (hMulRef3Ideal : Cert.MulRef3Ideal.Facts) (hMul4 : Cert.Mul4.Facts) (hMul4Ideal : Cert.Mul4Ideal.Facts) (hMulRef4Ideal : Cert.MulRef4Ideal.Facts) (hMul5 : Cert.Mul5.Facts) (hMul5Ideal : Cert.Mul5Ideal.Facts) (hMulRef5Ideal : Cert.MulRef5Ideal.Facts) (hMul6 : Cert.Mul6.Facts) (hMul6Ideal : Cert.Mul6Ideal.Facts) (hMulRef6Ideal : Cert.MulRef6Ideal.Facts) (hNorm0 : Cert.Norm0.Facts) (hNorm0Ideal : Cert.Norm0Ideal.Facts) (hNormRef0Ideal : Cert.NormRef0Ideal.Facts) (hNorm1 : Cert.Norm1.Facts) (hNorm1Ideal : Cert.Norm1Ideal.Facts) (hNormRef1Ideal : Cert.NormRef1Ideal.Facts) (hDx0 : Cert.Dx0.Facts) (hDx0Ideal : Cert.Dx0Ideal.Facts) (hDxRef0Ideal : Cert.DxRef0Ideal.Facts) (hDx1 : Cert.Dx1.Facts) (hDx1Ideal : Cert.Dx1Ideal.Facts) (hDxRef1Ideal : Cert.DxRef1Ideal.Facts) (hDx2 : Cert.Dx2.Facts) (hDx2Ideal : Cert.Dx2Ideal.Facts) (hDxRef2Ideal : Cert.DxRef2Ideal.Facts) (hDx3 : Cert.Dx3.Facts) (hDx3Ideal : Cert.Dx3Ideal.Facts) (hDxRef3Ideal : Cert.DxRef3Ideal.Facts) (hDx4 : Cert.Dx4.Facts) (hDx4Ideal : Cert.Dx4Ideal.Facts) (hDxRef4Ideal : Cert.DxRef4Ideal.Facts) (hDx5 : Cert.Dx5.Facts) (hDx5Ideal : Cert.Dx5Ideal.Facts) (hDxRef5Ideal : Cert.DxRef5Ideal.Facts) (hDx6 : Cert.Dx6.Facts) (hDx6Ideal : Cert.Dx6Ideal.Facts) (hDxRef6Ideal : Cert.DxRef6Ideal.Facts) (hDw0 : Cert.Dw0.Facts) (hDw0Ideal : Cert.Dw0Ideal.Facts) (hDwRef0Ideal : Cert.DwRef0Ideal.Facts) (hDw1 : Cert.Dw1.Facts) (hDw1Ideal : Cert.Dw1Ideal.Facts) (hDwRef1Ideal : Cert.DwRef1Ideal.Facts) (hDw2 : Cert.Dw2.Facts) (hDw2Ideal : Cert.Dw2Ideal.Facts) (hDwRef2Ideal : Cert.DwRef2Ideal.Facts) (hDw3 : Cert.Dw3.Facts) (hDw3Ideal : Cert.Dw3Ideal.Facts) (hDwRef3Ideal : Cert.DwRef3Ideal.Facts) (hDw4 : Cert.Dw4.Facts) (hDw4Ideal : Cert.Dw4Ideal.Facts) (hDwRef4Ideal : Cert.DwRef4Ideal.Facts) (hDw5 : Cert.Dw5.Facts) (hDw5Ideal : Cert.Dw5Ideal.Facts) (hDwRef5Ideal : Cert.DwRef5Ideal.Facts) (hDw6 : Cert.Dw6.Facts) (hDw6Ideal : Cert.Dw6Ideal.Facts) (hDwRef6Ideal : Cert.DwRef6Ideal.Facts) (hConv : Cert.Conv.Facts) (hConvIdeal : Cert.ConvIdeal.Facts) (hConvRefIdeal : Cert.ConvRefIdeal.Facts) (hGlu : Cert.Glu.Facts) (hGluIdeal : Cert.GluIdeal.Facts) (hGluRefIdeal : Cert.GluRefIdeal.Facts),
    quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Scatter (hScatter := hScatter)
    ∧ quiescent_ScatterIdeal (hScatterIdeal := hScatterIdeal)
    ∧ quiescent_ScatterRefIdeal (hScatterRefIdeal := hScatterRefIdeal)
    ∧ quiescent_Gather1 (hGather1 := hGather1)
    ∧ quiescent_Gather1Ideal (hGather1Ideal := hGather1Ideal)
    ∧ quiescent_GatherRef1Ideal (hGatherRef1Ideal := hGatherRef1Ideal)
    ∧ quiescent_GatherRef1 (hGatherRef1 := hGatherRef1)
    ∧ quiescent_Scatter1 (hScatter1 := hScatter1)
    ∧ quiescent_Scatter1Ideal (hScatter1Ideal := hScatter1Ideal)
    ∧ quiescent_ScatterRef1Ideal (hScatterRef1Ideal := hScatterRef1Ideal)
    ∧ quiescent_Gather2 (hGather2 := hGather2)
    ∧ quiescent_Gather2Ideal (hGather2Ideal := hGather2Ideal)
    ∧ quiescent_GatherRef2Ideal (hGatherRef2Ideal := hGatherRef2Ideal)
    ∧ quiescent_GatherRef2 (hGatherRef2 := hGatherRef2)
    ∧ quiescent_Scatter2 (hScatter2 := hScatter2)
    ∧ quiescent_Scatter2Ideal (hScatter2Ideal := hScatter2Ideal)
    ∧ quiescent_ScatterRef2Ideal (hScatterRef2Ideal := hScatterRef2Ideal)
    ∧ quiescent_Small (hSmall := hSmall)
    ∧ quiescent_SmallIdeal (hSmallIdeal := hSmallIdeal)
    ∧ quiescent_SmallRefIdeal (hSmallRefIdeal := hSmallRefIdeal)
    ∧ quiescent_Adam0 (hAdam0 := hAdam0)
    ∧ quiescent_Adam0Ideal (hAdam0Ideal := hAdam0Ideal)
    ∧ quiescent_AdamRef0Ideal (hAdamRef0Ideal := hAdamRef0Ideal)
    ∧ quiescent_Adam1 (hAdam1 := hAdam1)
    ∧ quiescent_Adam1Ideal (hAdam1Ideal := hAdam1Ideal)
    ∧ quiescent_AdamRef1Ideal (hAdamRef1Ideal := hAdamRef1Ideal)
    ∧ quiescent_Adam2 (hAdam2 := hAdam2)
    ∧ quiescent_Adam2Ideal (hAdam2Ideal := hAdam2Ideal)
    ∧ quiescent_AdamRef2Ideal (hAdamRef2Ideal := hAdamRef2Ideal)
    ∧ quiescent_Adam3 (hAdam3 := hAdam3)
    ∧ quiescent_Adam3Ideal (hAdam3Ideal := hAdam3Ideal)
    ∧ quiescent_AdamRef3Ideal (hAdamRef3Ideal := hAdamRef3Ideal)
    ∧ quiescent_Adam4 (hAdam4 := hAdam4)
    ∧ quiescent_Adam4Ideal (hAdam4Ideal := hAdam4Ideal)
    ∧ quiescent_AdamRef4Ideal (hAdamRef4Ideal := hAdamRef4Ideal)
    ∧ quiescent_Adam5 (hAdam5 := hAdam5)
    ∧ quiescent_Adam5Ideal (hAdam5Ideal := hAdam5Ideal)
    ∧ quiescent_AdamRef5Ideal (hAdamRef5Ideal := hAdamRef5Ideal)
    ∧ quiescent_Adam6 (hAdam6 := hAdam6)
    ∧ quiescent_Adam6Ideal (hAdam6Ideal := hAdam6Ideal)
    ∧ quiescent_AdamRef6Ideal (hAdamRef6Ideal := hAdamRef6Ideal)
    ∧ quiescent_Adam7 (hAdam7 := hAdam7)
    ∧ quiescent_Adam7Ideal (hAdam7Ideal := hAdam7Ideal)
    ∧ quiescent_AdamRef7Ideal (hAdamRef7Ideal := hAdamRef7Ideal)
    ∧ quiescent_Adam8 (hAdam8 := hAdam8)
    ∧ quiescent_Adam8Ideal (hAdam8Ideal := hAdam8Ideal)
    ∧ quiescent_AdamRef8Ideal (hAdamRef8Ideal := hAdamRef8Ideal)
    ∧ quiescent_Adam9 (hAdam9 := hAdam9)
    ∧ quiescent_Adam9Ideal (hAdam9Ideal := hAdam9Ideal)
    ∧ quiescent_AdamRef9Ideal (hAdamRef9Ideal := hAdamRef9Ideal)
    ∧ quiescent_Adam10 (hAdam10 := hAdam10)
    ∧ quiescent_Adam10Ideal (hAdam10Ideal := hAdam10Ideal)
    ∧ quiescent_AdamRef10Ideal (hAdamRef10Ideal := hAdamRef10Ideal)
    ∧ quiescent_Adam11 (hAdam11 := hAdam11)
    ∧ quiescent_Adam11Ideal (hAdam11Ideal := hAdam11Ideal)
    ∧ quiescent_AdamRef11Ideal (hAdamRef11Ideal := hAdamRef11Ideal)
    ∧ quiescent_Adam12 (hAdam12 := hAdam12)
    ∧ quiescent_Adam12Ideal (hAdam12Ideal := hAdam12Ideal)
    ∧ quiescent_AdamRef12Ideal (hAdamRef12Ideal := hAdamRef12Ideal)
    ∧ quiescent_Adam13 (hAdam13 := hAdam13)
    ∧ quiescent_Adam13Ideal (hAdam13Ideal := hAdam13Ideal)
    ∧ quiescent_AdamRef13Ideal (hAdamRef13Ideal := hAdamRef13Ideal)
    ∧ quiescent_Mul0 (hMul0 := hMul0)
    ∧ quiescent_Mul0Ideal (hMul0Ideal := hMul0Ideal)
    ∧ quiescent_MulRef0Ideal (hMulRef0Ideal := hMulRef0Ideal)
    ∧ quiescent_Mul1 (hMul1 := hMul1)
    ∧ quiescent_Mul1Ideal (hMul1Ideal := hMul1Ideal)
    ∧ quiescent_MulRef1Ideal (hMulRef1Ideal := hMulRef1Ideal)
    ∧ quiescent_Mul2 (hMul2 := hMul2)
    ∧ quiescent_Mul2Ideal (hMul2Ideal := hMul2Ideal)
    ∧ quiescent_MulRef2Ideal (hMulRef2Ideal := hMulRef2Ideal)
    ∧ quiescent_Mul3 (hMul3 := hMul3)
    ∧ quiescent_Mul3Ideal (hMul3Ideal := hMul3Ideal)
    ∧ quiescent_MulRef3Ideal (hMulRef3Ideal := hMulRef3Ideal)
    ∧ quiescent_Mul4 (hMul4 := hMul4)
    ∧ quiescent_Mul4Ideal (hMul4Ideal := hMul4Ideal)
    ∧ quiescent_MulRef4Ideal (hMulRef4Ideal := hMulRef4Ideal)
    ∧ quiescent_Mul5 (hMul5 := hMul5)
    ∧ quiescent_Mul5Ideal (hMul5Ideal := hMul5Ideal)
    ∧ quiescent_MulRef5Ideal (hMulRef5Ideal := hMulRef5Ideal)
    ∧ quiescent_Mul6 (hMul6 := hMul6)
    ∧ quiescent_Mul6Ideal (hMul6Ideal := hMul6Ideal)
    ∧ quiescent_MulRef6Ideal (hMulRef6Ideal := hMulRef6Ideal)
    ∧ quiescent_Norm0 (hNorm0 := hNorm0)
    ∧ quiescent_Norm0Ideal (hNorm0Ideal := hNorm0Ideal)
    ∧ quiescent_NormRef0Ideal (hNormRef0Ideal := hNormRef0Ideal)
    ∧ quiescent_Norm1 (hNorm1 := hNorm1)
    ∧ quiescent_Norm1Ideal (hNorm1Ideal := hNorm1Ideal)
    ∧ quiescent_NormRef1Ideal (hNormRef1Ideal := hNormRef1Ideal)
    ∧ quiescent_Dx0 (hDx0 := hDx0)
    ∧ quiescent_Dx0Ideal (hDx0Ideal := hDx0Ideal)
    ∧ quiescent_DxRef0Ideal (hDxRef0Ideal := hDxRef0Ideal)
    ∧ quiescent_Dx1 (hDx1 := hDx1)
    ∧ quiescent_Dx1Ideal (hDx1Ideal := hDx1Ideal)
    ∧ quiescent_DxRef1Ideal (hDxRef1Ideal := hDxRef1Ideal)
    ∧ quiescent_Dx2 (hDx2 := hDx2)
    ∧ quiescent_Dx2Ideal (hDx2Ideal := hDx2Ideal)
    ∧ quiescent_DxRef2Ideal (hDxRef2Ideal := hDxRef2Ideal)
    ∧ quiescent_Dx3 (hDx3 := hDx3)
    ∧ quiescent_Dx3Ideal (hDx3Ideal := hDx3Ideal)
    ∧ quiescent_DxRef3Ideal (hDxRef3Ideal := hDxRef3Ideal)
    ∧ quiescent_Dx4 (hDx4 := hDx4)
    ∧ quiescent_Dx4Ideal (hDx4Ideal := hDx4Ideal)
    ∧ quiescent_DxRef4Ideal (hDxRef4Ideal := hDxRef4Ideal)
    ∧ quiescent_Dx5 (hDx5 := hDx5)
    ∧ quiescent_Dx5Ideal (hDx5Ideal := hDx5Ideal)
    ∧ quiescent_DxRef5Ideal (hDxRef5Ideal := hDxRef5Ideal)
    ∧ quiescent_Dx6 (hDx6 := hDx6)
    ∧ quiescent_Dx6Ideal (hDx6Ideal := hDx6Ideal)
    ∧ quiescent_DxRef6Ideal (hDxRef6Ideal := hDxRef6Ideal)
    ∧ quiescent_Dw0 (hDw0 := hDw0)
    ∧ quiescent_Dw0Ideal (hDw0Ideal := hDw0Ideal)
    ∧ quiescent_DwRef0Ideal (hDwRef0Ideal := hDwRef0Ideal)
    ∧ quiescent_Dw1 (hDw1 := hDw1)
    ∧ quiescent_Dw1Ideal (hDw1Ideal := hDw1Ideal)
    ∧ quiescent_DwRef1Ideal (hDwRef1Ideal := hDwRef1Ideal)
    ∧ quiescent_Dw2 (hDw2 := hDw2)
    ∧ quiescent_Dw2Ideal (hDw2Ideal := hDw2Ideal)
    ∧ quiescent_DwRef2Ideal (hDwRef2Ideal := hDwRef2Ideal)
    ∧ quiescent_Dw3 (hDw3 := hDw3)
    ∧ quiescent_Dw3Ideal (hDw3Ideal := hDw3Ideal)
    ∧ quiescent_DwRef3Ideal (hDwRef3Ideal := hDwRef3Ideal)
    ∧ quiescent_Dw4 (hDw4 := hDw4)
    ∧ quiescent_Dw4Ideal (hDw4Ideal := hDw4Ideal)
    ∧ quiescent_DwRef4Ideal (hDwRef4Ideal := hDwRef4Ideal)
    ∧ quiescent_Dw5 (hDw5 := hDw5)
    ∧ quiescent_Dw5Ideal (hDw5Ideal := hDw5Ideal)
    ∧ quiescent_DwRef5Ideal (hDwRef5Ideal := hDwRef5Ideal)
    ∧ quiescent_Dw6 (hDw6 := hDw6)
    ∧ quiescent_Dw6Ideal (hDw6Ideal := hDw6Ideal)
    ∧ quiescent_DwRef6Ideal (hDwRef6Ideal := hDwRef6Ideal)
    ∧ quiescent_Conv (hConv := hConv)
    ∧ quiescent_ConvIdeal (hConvIdeal := hConvIdeal)
    ∧ quiescent_ConvRefIdeal (hConvRefIdeal := hConvRefIdeal)
    ∧ quiescent_Glu (hGlu := hGlu)
    ∧ quiescent_GluIdeal (hGluIdeal := hGluIdeal)
    ∧ quiescent_GluRefIdeal (hGluRefIdeal := hGluRefIdeal)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Scatter_ScatterIdeal
    ∧ algebraic_ScatterIdeal_ScatterRefIdeal (hScatterIdeal := hScatterIdeal) (hScatterRefIdeal := hScatterRefIdeal)
    ∧ preserves_Gather1_Gather1Ideal
    ∧ algebraic_Gather1Ideal_GatherRef1Ideal (hGather1Ideal := hGather1Ideal) (hGatherRef1Ideal := hGatherRef1Ideal)
    ∧ bitexact_Gather1_GatherRef1 (hGather1 := hGather1) (hGatherRef1 := hGatherRef1)
    ∧ preserves_Scatter1_Scatter1Ideal
    ∧ algebraic_Scatter1Ideal_ScatterRef1Ideal (hScatter1Ideal := hScatter1Ideal) (hScatterRef1Ideal := hScatterRef1Ideal)
    ∧ preserves_Gather2_Gather2Ideal
    ∧ algebraic_Gather2Ideal_GatherRef2Ideal (hGather2Ideal := hGather2Ideal) (hGatherRef2Ideal := hGatherRef2Ideal)
    ∧ bitexact_Gather2_GatherRef2 (hGather2 := hGather2) (hGatherRef2 := hGatherRef2)
    ∧ preserves_Scatter2_Scatter2Ideal
    ∧ algebraic_Scatter2Ideal_ScatterRef2Ideal (hScatter2Ideal := hScatter2Ideal) (hScatterRef2Ideal := hScatterRef2Ideal)
    ∧ preserves_Small_SmallIdeal
    ∧ algebraic_SmallIdeal_SmallRefIdeal (hSmallIdeal := hSmallIdeal) (hSmallRefIdeal := hSmallRefIdeal)
    ∧ preserves_Adam0_Adam0Ideal
    ∧ algebraic_Adam0Ideal_AdamRef0Ideal (hAdam0Ideal := hAdam0Ideal) (hAdamRef0Ideal := hAdamRef0Ideal)
    ∧ preserves_Adam1_Adam1Ideal
    ∧ algebraic_Adam1Ideal_AdamRef1Ideal (hAdam1Ideal := hAdam1Ideal) (hAdamRef1Ideal := hAdamRef1Ideal)
    ∧ preserves_Adam2_Adam2Ideal
    ∧ algebraic_Adam2Ideal_AdamRef2Ideal (hAdam2Ideal := hAdam2Ideal) (hAdamRef2Ideal := hAdamRef2Ideal)
    ∧ preserves_Adam3_Adam3Ideal
    ∧ algebraic_Adam3Ideal_AdamRef3Ideal (hAdam3Ideal := hAdam3Ideal) (hAdamRef3Ideal := hAdamRef3Ideal)
    ∧ preserves_Adam4_Adam4Ideal
    ∧ algebraic_Adam4Ideal_AdamRef4Ideal (hAdam4Ideal := hAdam4Ideal) (hAdamRef4Ideal := hAdamRef4Ideal)
    ∧ preserves_Adam5_Adam5Ideal
    ∧ algebraic_Adam5Ideal_AdamRef5Ideal (hAdam5Ideal := hAdam5Ideal) (hAdamRef5Ideal := hAdamRef5Ideal)
    ∧ preserves_Adam6_Adam6Ideal
    ∧ algebraic_Adam6Ideal_AdamRef6Ideal (hAdam6Ideal := hAdam6Ideal) (hAdamRef6Ideal := hAdamRef6Ideal)
    ∧ preserves_Adam7_Adam7Ideal
    ∧ algebraic_Adam7Ideal_AdamRef7Ideal (hAdam7Ideal := hAdam7Ideal) (hAdamRef7Ideal := hAdamRef7Ideal)
    ∧ preserves_Adam8_Adam8Ideal
    ∧ algebraic_Adam8Ideal_AdamRef8Ideal (hAdam8Ideal := hAdam8Ideal) (hAdamRef8Ideal := hAdamRef8Ideal)
    ∧ preserves_Adam9_Adam9Ideal
    ∧ algebraic_Adam9Ideal_AdamRef9Ideal (hAdam9Ideal := hAdam9Ideal) (hAdamRef9Ideal := hAdamRef9Ideal)
    ∧ preserves_Adam10_Adam10Ideal
    ∧ algebraic_Adam10Ideal_AdamRef10Ideal (hAdam10Ideal := hAdam10Ideal) (hAdamRef10Ideal := hAdamRef10Ideal)
    ∧ preserves_Adam11_Adam11Ideal
    ∧ algebraic_Adam11Ideal_AdamRef11Ideal (hAdam11Ideal := hAdam11Ideal) (hAdamRef11Ideal := hAdamRef11Ideal)
    ∧ preserves_Adam12_Adam12Ideal
    ∧ algebraic_Adam12Ideal_AdamRef12Ideal (hAdam12Ideal := hAdam12Ideal) (hAdamRef12Ideal := hAdamRef12Ideal)
    ∧ preserves_Adam13_Adam13Ideal
    ∧ algebraic_Adam13Ideal_AdamRef13Ideal (hAdam13Ideal := hAdam13Ideal) (hAdamRef13Ideal := hAdamRef13Ideal)
    ∧ preserves_Mul0_Mul0Ideal
    ∧ algebraic_Mul0Ideal_MulRef0Ideal (hMul0Ideal := hMul0Ideal) (hMulRef0Ideal := hMulRef0Ideal)
    ∧ preserves_Mul1_Mul1Ideal
    ∧ algebraic_Mul1Ideal_MulRef1Ideal (hMul1Ideal := hMul1Ideal) (hMulRef1Ideal := hMulRef1Ideal)
    ∧ preserves_Mul2_Mul2Ideal
    ∧ algebraic_Mul2Ideal_MulRef2Ideal (hMul2Ideal := hMul2Ideal) (hMulRef2Ideal := hMulRef2Ideal)
    ∧ preserves_Mul3_Mul3Ideal
    ∧ algebraic_Mul3Ideal_MulRef3Ideal (hMul3Ideal := hMul3Ideal) (hMulRef3Ideal := hMulRef3Ideal)
    ∧ preserves_Mul4_Mul4Ideal
    ∧ algebraic_Mul4Ideal_MulRef4Ideal (hMul4Ideal := hMul4Ideal) (hMulRef4Ideal := hMulRef4Ideal)
    ∧ preserves_Mul5_Mul5Ideal
    ∧ algebraic_Mul5Ideal_MulRef5Ideal (hMul5Ideal := hMul5Ideal) (hMulRef5Ideal := hMulRef5Ideal)
    ∧ preserves_Mul6_Mul6Ideal
    ∧ algebraic_Mul6Ideal_MulRef6Ideal (hMul6Ideal := hMul6Ideal) (hMulRef6Ideal := hMulRef6Ideal)
    ∧ preserves_Norm0_Norm0Ideal
    ∧ algebraic_Norm0Ideal_NormRef0Ideal (hNorm0Ideal := hNorm0Ideal) (hNormRef0Ideal := hNormRef0Ideal)
    ∧ preserves_Norm1_Norm1Ideal
    ∧ algebraic_Norm1Ideal_NormRef1Ideal (hNorm1Ideal := hNorm1Ideal) (hNormRef1Ideal := hNormRef1Ideal)
    ∧ preserves_Dx0_Dx0Ideal
    ∧ algebraic_Dx0Ideal_DxRef0Ideal (hDx0Ideal := hDx0Ideal) (hDxRef0Ideal := hDxRef0Ideal)
    ∧ preserves_Dx1_Dx1Ideal
    ∧ algebraic_Dx1Ideal_DxRef1Ideal (hDx1Ideal := hDx1Ideal) (hDxRef1Ideal := hDxRef1Ideal)
    ∧ preserves_Dx2_Dx2Ideal
    ∧ algebraic_Dx2Ideal_DxRef2Ideal (hDx2Ideal := hDx2Ideal) (hDxRef2Ideal := hDxRef2Ideal)
    ∧ preserves_Dx3_Dx3Ideal
    ∧ algebraic_Dx3Ideal_DxRef3Ideal (hDx3Ideal := hDx3Ideal) (hDxRef3Ideal := hDxRef3Ideal)
    ∧ preserves_Dx4_Dx4Ideal
    ∧ algebraic_Dx4Ideal_DxRef4Ideal (hDx4Ideal := hDx4Ideal) (hDxRef4Ideal := hDxRef4Ideal)
    ∧ preserves_Dx5_Dx5Ideal
    ∧ algebraic_Dx5Ideal_DxRef5Ideal (hDx5Ideal := hDx5Ideal) (hDxRef5Ideal := hDxRef5Ideal)
    ∧ preserves_Dx6_Dx6Ideal
    ∧ algebraic_Dx6Ideal_DxRef6Ideal (hDx6Ideal := hDx6Ideal) (hDxRef6Ideal := hDxRef6Ideal)
    ∧ preserves_Dw0_Dw0Ideal
    ∧ algebraic_Dw0Ideal_DwRef0Ideal (hDw0Ideal := hDw0Ideal) (hDwRef0Ideal := hDwRef0Ideal)
    ∧ preserves_Dw1_Dw1Ideal
    ∧ algebraic_Dw1Ideal_DwRef1Ideal (hDw1Ideal := hDw1Ideal) (hDwRef1Ideal := hDwRef1Ideal)
    ∧ preserves_Dw2_Dw2Ideal
    ∧ algebraic_Dw2Ideal_DwRef2Ideal (hDw2Ideal := hDw2Ideal) (hDwRef2Ideal := hDwRef2Ideal)
    ∧ preserves_Dw3_Dw3Ideal
    ∧ algebraic_Dw3Ideal_DwRef3Ideal (hDw3Ideal := hDw3Ideal) (hDwRef3Ideal := hDwRef3Ideal)
    ∧ preserves_Dw4_Dw4Ideal
    ∧ algebraic_Dw4Ideal_DwRef4Ideal (hDw4Ideal := hDw4Ideal) (hDwRef4Ideal := hDwRef4Ideal)
    ∧ preserves_Dw5_Dw5Ideal
    ∧ algebraic_Dw5Ideal_DwRef5Ideal (hDw5Ideal := hDw5Ideal) (hDwRef5Ideal := hDwRef5Ideal)
    ∧ preserves_Dw6_Dw6Ideal
    ∧ algebraic_Dw6Ideal_DwRef6Ideal (hDw6Ideal := hDw6Ideal) (hDwRef6Ideal := hDwRef6Ideal)
    ∧ preserves_Conv_ConvIdeal
    ∧ algebraic_ConvIdeal_ConvRefIdeal (hConvIdeal := hConvIdeal) (hConvRefIdeal := hConvRefIdeal)
    ∧ preserves_Glu_GluIdeal
    ∧ algebraic_GluIdeal_GluRefIdeal (hGluIdeal := hGluIdeal) (hGluRefIdeal := hGluRefIdeal)
-- ==== Gather.lean ====
abbrev S13824x512 : Shape := ⟨2, ![13824, 512]⟩
abbrev S8x13824x512 : Shape := ⟨3, ![8, 13824, 512]⟩
abbrev S7 : Shape := ⟨1, ![7]⟩
abbrev S_ : Shape := ⟨0, ![]⟩
abbrev S1x13824x512 : Shape := ⟨3, ![1, 13824, 512]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S13824x512, .bf16⟩
  | .hbm, ⟨1, _⟩ => ⟨S8x13824x512, .bf16⟩
  | _, _ => ⟨S13824x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherRefIdeal.lean ====
abbrev S110592x512 : Shape := ⟨2, ![110592, 512]⟩
abbrev S8x13824x512 : Shape := ⟨3, ![8, 13824, 512]⟩

abbrev nBuf : Space → Nat
  | .hbm => 2
  | .vmem => 0
  | .smem => 0
  | _ => 0

abbrev bufTy : (tb : Table) → Fin (tcTables nBuf tb) → BufTy
  | .hbm, ⟨0, _⟩ => ⟨S110592x512, .bf16⟩
  | .hbm, ⟨1, _⟩ => ⟨S8x13824x512, .bf16⟩
  | _, _ => ⟨S110592x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherRef.lean ====
abbrev S110592x512 : Shape := ⟨2, ![110592, 512]⟩
abbrev S8x13824x512 : Shape := ⟨3, ![8, 13824, 512]⟩

abbrev nBuf : Space → Nat
  | .hbm => 2
  | .vmem => 0
  | .smem => 0
  | _ => 0

abbrev bufTy : (tb : Table) → Fin (tcTables nBuf tb) → BufTy
  | .hbm, ⟨0, _⟩ => ⟨S110592x512, .bf16⟩
  | .hbm, ⟨1, _⟩ => ⟨S8x13824x512, .bf16⟩
  | _, _ => ⟨S110592x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Scatter.lean ====
abbrev S8x13824x512 : Shape := ⟨3, ![8, 13824, 512]⟩
abbrev S7 : Shape := ⟨1, ![7]⟩
abbrev S_ : Shape := ⟨0, ![]⟩
abbrev S1x13824x512 : Shape := ⟨3, ![1, 13824, 512]⟩
abbrev S13824x512 : Shape := ⟨2, ![13824, 512]⟩
abbrev S1 : Shape := ⟨1, ![1]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 3
  | .vmem => 4
  | .smem => 0
  | _ => 0

abbrev bufTy : (tb : Table) → Fin (tcTables nBuf tb) → BufTy
  | .hbm, ⟨0, _⟩ => ⟨S8x13824x512, .bf16⟩
  | .hbm, ⟨1, _⟩ => ⟨S8x13824x512, .bf16⟩
  | .hbm, ⟨2, _⟩ => ⟨S13824x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | _, _ => ⟨S8x13824x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 15
abbrev cc1_sem0_1 : DmaSem sig := 16
abbrev cc1_sem1_0 : DmaSem sig := 17
abbrev cc1_sem1_1 : DmaSem sig := 18

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_off2 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_9 v2
  let c2_i32_10 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_10 v5
  let v20 : BitVec 32 := Scalar.addi v18 v19
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let v21 : BitVec 32 := Scalar.addi v20 v17
  let c0_i32_42 : BitVec 32 := 0#32
  let c0_i32_43 : BitVec 32 := 0#32
  ![v21.toNat, 0, 0]
def k0_dev1 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v57 : BitVec 32 := Scalar.muli v2 c4_i32_36
  let v58 : BitVec 32 := Scalar.addi c0_i32_37 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v59 : BitVec 32 := Scalar.muli v5 c2_i32_38
  let v60 : BitVec 32 := Scalar.addi v58 v59
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_39 : BitVec 32 := 1#32
  let v61 : BitVec 32 := Scalar.muli v17 c1_i32_39
  let v62 : BitVec 32 := Scalar.addi v60 v61
  v62.toNat
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.muli c4_i32_12 v2
  let c2_i32_13 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let v24 : BitVec 32 := Scalar.muli c2_i32_13 v22
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.addi v25 v8
  let c0_i32_52 : BitVec 32 := 0#32
  let c0_i32_53 : BitVec 32 := 0#32
  ![v26.toNat, 0, 0]
def k0_dev2 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v71 : BitVec 32 := Scalar.muli v2 c4_i32_46
  let v72 : BitVec 32 := Scalar.addi c0_i32_47 v71
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let c2_i32_48 : BitVec 32 := 2#32
  let v73 : BitVec 32 := Scalar.muli v22 c2_i32_48
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v75 : BitVec 32 := Scalar.muli v8 c1_i32_49
  let v76 : BitVec 32 := Scalar.addi v74 v75
  v76.toNat
def k0_off4 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.muli c4_i32_16 v2
  let c2_i32_17 : BitVec 32 := 2#32
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_14 v5
  let v30 : BitVec 32 := Scalar.muli c2_i32_17 v27
  let v31 : BitVec 32 := Scalar.addi v29 v30
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let v32 : BitVec 32 := Scalar.addi v31 v28
  let c0_i32_62 : BitVec 32 := 0#32
  let c0_i32_63 : BitVec 32 := 0#32
  ![v32.toNat, 0, 0]
def k0_dev3 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v85 : BitVec 32 := Scalar.muli v2 c4_i32_56
  let v86 : BitVec 32 := Scalar.addi c0_i32_57 v85
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_14 v5
  let c2_i32_58 : BitVec 32 := 2#32
  let v87 : BitVec 32 := Scalar.muli v27 c2_i32_58
  let v88 : BitVec 32 := Scalar.addi v86 v87
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let c1_i32_59 : BitVec 32 := 1#32
  let v89 : BitVec 32 := Scalar.muli v28 c1_i32_59
  let v90 : BitVec 32 := Scalar.addi v88 v89
  v90.toNat
def k0_off5 (d0 : Dev nD) : Fin 3 → Nat :=
  let c4_i32_19 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_18 v2
  let v34 : BitVec 32 := Scalar.muli c4_i32_19 v33
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_20 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_71 : BitVec 32 := 0#32
  let c0_i32_72 : BitVec 32 := 0#32
  ![v37.toNat, 0, 0]
def k0_dev4 (d0 : Dev nD) : Nat :=
  let c0_i32_66 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_18 v2
  let c4_i32_65 : BitVec 32 := 4#32
  let v99 : BitVec 32 := Scalar.muli v33 c4_i32_65
  let v100 : BitVec 32 := Scalar.addi c0_i32_66 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v101 : BitVec 32 := Scalar.muli v5 c2_i32_67
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v103 : BitVec 32 := Scalar.muli v8 c1_i32_68
  let v104 : BitVec 32 := Scalar.addi v102 v103
  v104.toNat
def k0_off6 (d0 : Dev nD) : Fin 3 → Nat :=
  let c4_i32_23 : BitVec 32 := 4#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_21 v2
  let v40 : BitVec 32 := Scalar.muli c4_i32_23 v38
  let c2_i32_24 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.muli c2_i32_24 v5
  let v42 : BitVec 32 := Scalar.addi v40 v41
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_22 v8
  let v43 : BitVec 32 := Scalar.addi v42 v39
  let c0_i32_81 : BitVec 32 := 0#32
  let c0_i32_82 : BitVec 32 := 0#32
  ![v43.toNat, 0, 0]
def k0_dev5 (d0 : Dev nD) : Nat :=
  let c0_i32_76 : BitVec 32 := 0#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_21 v2
  let c4_i32_75 : BitVec 32 := 4#32
  let v113 : BitVec 32 := Scalar.muli v38 c4_i32_75
  let v114 : BitVec 32 := Scalar.addi c0_i32_76 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v115 : BitVec 32 := Scalar.muli v5 c2_i32_77
  let v116 : BitVec 32 := Scalar.addi v114 v115
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_22 v8
  let c1_i32_78 : BitVec 32 := 1#32
  let v117 : BitVec 32 := Scalar.muli v39 c1_i32_78
  let v118 : BitVec 32 := Scalar.addi v116 v117
  v118.toNat
def k0_off7 (d0 : Dev nD) : Fin 3 → Nat :=
  let c4_i32_27 : BitVec 32 := 4#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_25 v2
  let v46 : BitVec 32 := Scalar.muli c4_i32_27 v44
  let c2_i32_28 : BitVec 32 := 2#32
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_26 v5
  let v47 : BitVec 32 := Scalar.muli c2_i32_28 v45
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.addi v48 v8
  let c0_i32_90 : BitVec 32 := 0#32
  let c0_i32_91 : BitVec 32 := 0#32
  ![v49.toNat, 0, 0]
def k0_dev6 (d0 : Dev nD) : Nat :=
  let c0_i32_85 : BitVec 32 := 0#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_25 v2
  let c4_i32_84 : BitVec 32 := 4#32
  let v127 : BitVec 32 := Scalar.muli v44 c4_i32_84
  let v128 : BitVec 32 := Scalar.addi c0_i32_85 v127
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_26 v5
  let c2_i32_86 : BitVec 32 := 2#32
  let v129 : BitVec 32 := Scalar.muli v45 c2_i32_86
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v131 : BitVec 32 := Scalar.muli v8 c1_i32_87
  let v132 : BitVec 32 := Scalar.addi v130 v131
  v132.toNat
def k0_off8 (d0 : Dev nD) : Fin 3 → Nat :=
  let c4_i32_32 : BitVec 32 := 4#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_29 v2
  let v53 : BitVec 32 := Scalar.muli c4_i32_32 v50
  let c2_i32_33 : BitVec 32 := 2#32
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_30 v5
  let v54 : BitVec 32 := Scalar.muli c2_i32_33 v51
  let v55 : BitVec 32 := Scalar.addi v53 v54
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_31 v8
  let v56 : BitVec 32 := Scalar.addi v55 v52
  let c0_i32_99 : BitVec 32 := 0#32
  let c0_i32_100 : BitVec 32 := 0#32
  ![v56.toNat, 0, 0]
def k0_dev7 (d0 : Dev nD) : Nat :=
  let c0_i32_94 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_29 v2
  let c4_i32_93 : BitVec 32 := 4#32
  let v141 : BitVec 32 := Scalar.muli v50 c4_i32_93
  let v142 : BitVec 32 := Scalar.addi c0_i32_94 v141
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_30 v5
  let c2_i32_95 : BitVec 32 := 2#32
  let v143 : BitVec 32 := Scalar.muli v51 c2_i32_95
  let v144 : BitVec 32 := Scalar.addi v142 v143
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_31 v8
  let c1_i32_96 : BitVec 32 := 1#32
  let v145 : BitVec 32 := Scalar.muli v52 c1_i32_96
  let v146 : BitVec 32 := Scalar.addi v144 v145
  v146.toNat
abbrev grid1 : Pipeline.Grid := ⟨1, ![27], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ScatterRefIdeal.lean ====
abbrev S64x13824x512 : Shape := ⟨3, ![64, 13824, 512]⟩
abbrev S8x8x13824x512 : Shape := ⟨4, ![8, 8, 13824, 512]⟩
abbrev S_ : Shape := ⟨0, ![]⟩
abbrev S8x13824x512 : Shape := ⟨3, ![8, 13824, 512]⟩
abbrev S110592x512 : Shape := ⟨2, ![110592, 512]⟩

abbrev nBuf : Space → Nat
  | .hbm => 6
  | .vmem => 0
  | .smem => 0
  | _ => 0

abbrev bufTy : (tb : Table) → Fin (tcTables nBuf tb) → BufTy
  | .hbm, ⟨0, _⟩ => ⟨S64x13824x512, .bf16⟩
  | .hbm, ⟨1, _⟩ => ⟨S8x8x13824x512, .bf16⟩
  | .hbm, ⟨2, _⟩ => ⟨S8x8x13824x512, .f32⟩
  | .hbm, ⟨3, _⟩ => ⟨S_, .f32⟩
  | .hbm, ⟨4, _⟩ => ⟨S8x13824x512, .f32⟩
  | .hbm, ⟨5, _⟩ => ⟨S110592x512, .f32⟩
  | _, _ => ⟨S64x13824x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Gather1.lean ====
abbrev S11264x512 : Shape := ⟨2, ![11264, 512]⟩
abbrev S8x11264x512 : Shape := ⟨3, ![8, 11264, 512]⟩
abbrev S7 : Shape := ⟨1, ![7]⟩
abbrev S_ : Shape := ⟨0, ![]⟩
abbrev S1x11264x512 : Shape := ⟨3, ![1, 11264, 512]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S11264x512, .bf16⟩
  | .hbm, ⟨1, _⟩ => ⟨S8x11264x512, .bf16⟩
  | _, _ => ⟨S11264x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherRef1Ideal.lean ====
abbrev S90112x512 : Shape := ⟨2, ![90112, 512]⟩
abbrev S8x11264x512 : Shape := ⟨3, ![8, 11264, 512]⟩

abbrev nBuf : Space → Nat
  | .hbm => 2
  | .vmem => 0
  | .smem => 0
  | _ => 0

abbrev bufTy : (tb : Table) → Fin (tcTables nBuf tb) → BufTy
  | .hbm, ⟨0, _⟩ => ⟨S90112x512, .bf16⟩
  | .hbm, ⟨1, _⟩ => ⟨S8x11264x512, .bf16⟩
  | _, _ => ⟨S90112x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherRef1.lean ====
abbrev S90112x512 : Shape := ⟨2, ![90112, 512]⟩
abbrev S8x11264x512 : Shape := ⟨3, ![8, 11264, 512]⟩

abbrev nBuf : Space → Nat
  | .hbm => 2
  | .vmem => 0
  | .smem => 0
  | _ => 0

abbrev bufTy : (tb : Table) → Fin (tcTables nBuf tb) → BufTy
  | .hbm, ⟨0, _⟩ => ⟨S90112x512, .bf16⟩
  | .hbm, ⟨1, _⟩ => ⟨S8x11264x512, .bf16⟩
  | _, _ => ⟨S90112x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Scatter1.lean ====
abbrev S8x11264x512 : Shape := ⟨3, ![8, 11264, 512]⟩
abbrev S7 : Shape := ⟨1, ![7]⟩
abbrev S_ : Shape := ⟨0, ![]⟩
abbrev S1x11264x512 : Shape := ⟨3, ![1, 11264, 512]⟩
abbrev S11264x512 : Shape := ⟨2, ![11264, 512]⟩
abbrev S1 : Shape := ⟨1, ![1]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 3
  | .vmem => 4
  | .smem => 0
  | _ => 0

abbrev bufTy : (tb : Table) → Fin (tcTables nBuf tb) → BufTy
  | .hbm, ⟨0, _⟩ => ⟨S8x11264x512, .bf16⟩
  | .hbm, ⟨1, _⟩ => ⟨S8x11264x512, .bf16⟩
  | .hbm, ⟨2, _⟩ => ⟨S11264x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | _, _ => ⟨S8x11264x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 15
abbrev cc1_sem0_1 : DmaSem sig := 16
abbrev cc1_sem1_0 : DmaSem sig := 17
abbrev cc1_sem1_1 : DmaSem sig := 18

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_off2 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_9 v2
  let c2_i32_10 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_10 v5
  let v20 : BitVec 32 := Scalar.addi v18 v19
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let v21 : BitVec 32 := Scalar.addi v20 v17
  let c0_i32_42 : BitVec 32 := 0#32
  let c0_i32_43 : BitVec 32 := 0#32
  ![v21.toNat, 0, 0]
def k0_dev1 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v57 : BitVec 32 := Scalar.muli v2 c4_i32_36
  let v58 : BitVec 32 := Scalar.addi c0_i32_37 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v59 : BitVec 32 := Scalar.muli v5 c2_i32_38
  let v60 : BitVec 32 := Scalar.addi v58 v59
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_39 : BitVec 32 := 1#32
  let v61 : BitVec 32 := Scalar.muli v17 c1_i32_39
  let v62 : BitVec 32 := Scalar.addi v60 v61
  v62.toNat
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.muli c4_i32_12 v2
  let c2_i32_13 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let v24 : BitVec 32 := Scalar.muli c2_i32_13 v22
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.addi v25 v8
  let c0_i32_52 : BitVec 32 := 0#32
  let c0_i32_53 : BitVec 32 := 0#32
  ![v26.toNat, 0, 0]
def k0_dev2 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v71 : BitVec 32 := Scalar.muli v2 c4_i32_46
  let v72 : BitVec 32 := Scalar.addi c0_i32_47 v71
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let c2_i32_48 : BitVec 32 := 2#32
  let v73 : BitVec 32 := Scalar.muli v22 c2_i32_48
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v75 : BitVec 32 := Scalar.muli v8 c1_i32_49
  let v76 : BitVec 32 := Scalar.addi v74 v75
  v76.toNat
def k0_off4 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.muli c4_i32_16 v2
  let c2_i32_17 : BitVec 32 := 2#32
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_14 v5
  let v30 : BitVec 32 := Scalar.muli c2_i32_17 v27
  let v31 : BitVec 32 := Scalar.addi v29 v30
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let v32 : BitVec 32 := Scalar.addi v31 v28
  let c0_i32_62 : BitVec 32 := 0#32
  let c0_i32_63 : BitVec 32 := 0#32
  ![v32.toNat, 0, 0]
def k0_dev3 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v85 : BitVec 32 := Scalar.muli v2 c4_i32_56
  let v86 : BitVec 32 := Scalar.addi c0_i32_57 v85
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_14 v5
  let c2_i32_58 : BitVec 32 := 2#32
  let v87 : BitVec 32 := Scalar.muli v27 c2_i32_58
  let v88 : BitVec 32 := Scalar.addi v86 v87
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let c1_i32_59 : BitVec 32 := 1#32
  let v89 : BitVec 32 := Scalar.muli v28 c1_i32_59
  let v90 : BitVec 32 := Scalar.addi v88 v89
  v90.toNat
def k0_off5 (d0 : Dev nD) : Fin 3 → Nat :=
  let c4_i32_19 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_18 v2
  let v34 : BitVec 32 := Scalar.muli c4_i32_19 v33
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_20 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_71 : BitVec 32 := 0#32
  let c0_i32_72 : BitVec 32 := 0#32
  ![v37.toNat, 0, 0]
def k0_dev4 (d0 : Dev nD) : Nat :=
  let c0_i32_66 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_18 v2
  let c4_i32_65 : BitVec 32 := 4#32
  let v99 : BitVec 32 := Scalar.muli v33 c4_i32_65
  let v100 : BitVec 32 := Scalar.addi c0_i32_66 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v101 : BitVec 32 := Scalar.muli v5 c2_i32_67
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v103 : BitVec 32 := Scalar.muli v8 c1_i32_68
  let v104 : BitVec 32 := Scalar.addi v102 v103
  v104.toNat
def k0_off6 (d0 : Dev nD) : Fin 3 → Nat :=
  let c4_i32_23 : BitVec 32 := 4#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_21 v2
  let v40 : BitVec 32 := Scalar.muli c4_i32_23 v38
  let c2_i32_24 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.muli c2_i32_24 v5
  let v42 : BitVec 32 := Scalar.addi v40 v41
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_22 v8
  let v43 : BitVec 32 := Scalar.addi v42 v39
  let c0_i32_81 : BitVec 32 := 0#32
  let c0_i32_82 : BitVec 32 := 0#32
  ![v43.toNat, 0, 0]
def k0_dev5 (d0 : Dev nD) : Nat :=
  let c0_i32_76 : BitVec 32 := 0#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_21 v2
  let c4_i32_75 : BitVec 32 := 4#32
  let v113 : BitVec 32 := Scalar.muli v38 c4_i32_75
  let v114 : BitVec 32 := Scalar.addi c0_i32_76 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v115 : BitVec 32 := Scalar.muli v5 c2_i32_77
  let v116 : BitVec 32 := Scalar.addi v114 v115
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_22 v8
  let c1_i32_78 : BitVec 32 := 1#32
  let v117 : BitVec 32 := Scalar.muli v39 c1_i32_78
  let v118 : BitVec 32 := Scalar.addi v116 v117
  v118.toNat
def k0_off7 (d0 : Dev nD) : Fin 3 → Nat :=
  let c4_i32_27 : BitVec 32 := 4#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_25 v2
  let v46 : BitVec 32 := Scalar.muli c4_i32_27 v44
  let c2_i32_28 : BitVec 32 := 2#32
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_26 v5
  let v47 : BitVec 32 := Scalar.muli c2_i32_28 v45
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.addi v48 v8
  let c0_i32_90 : BitVec 32 := 0#32
  let c0_i32_91 : BitVec 32 := 0#32
  ![v49.toNat, 0, 0]
def k0_dev6 (d0 : Dev nD) : Nat :=
  let c0_i32_85 : BitVec 32 := 0#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_25 v2
  let c4_i32_84 : BitVec 32 := 4#32
  let v127 : BitVec 32 := Scalar.muli v44 c4_i32_84
  let v128 : BitVec 32 := Scalar.addi c0_i32_85 v127
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_26 v5
  let c2_i32_86 : BitVec 32 := 2#32
  let v129 : BitVec 32 := Scalar.muli v45 c2_i32_86
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v131 : BitVec 32 := Scalar.muli v8 c1_i32_87
  let v132 : BitVec 32 := Scalar.addi v130 v131
  v132.toNat
def k0_off8 (d0 : Dev nD) : Fin 3 → Nat :=
  let c4_i32_32 : BitVec 32 := 4#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_29 v2
  let v53 : BitVec 32 := Scalar.muli c4_i32_32 v50
  let c2_i32_33 : BitVec 32 := 2#32
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_30 v5
  let v54 : BitVec 32 := Scalar.muli c2_i32_33 v51
  let v55 : BitVec 32 := Scalar.addi v53 v54
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_31 v8
  let v56 : BitVec 32 := Scalar.addi v55 v52
  let c0_i32_99 : BitVec 32 := 0#32
  let c0_i32_100 : BitVec 32 := 0#32
  ![v56.toNat, 0, 0]
def k0_dev7 (d0 : Dev nD) : Nat :=
  let c0_i32_94 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_29 v2
  let c4_i32_93 : BitVec 32 := 4#32
  let v141 : BitVec 32 := Scalar.muli v50 c4_i32_93
  let v142 : BitVec 32 := Scalar.addi c0_i32_94 v141
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_30 v5
  let c2_i32_95 : BitVec 32 := 2#32
  let v143 : BitVec 32 := Scalar.muli v51 c2_i32_95
  let v144 : BitVec 32 := Scalar.addi v142 v143
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_31 v8
  let c1_i32_96 : BitVec 32 := 1#32
  let v145 : BitVec 32 := Scalar.muli v52 c1_i32_96
  let v146 : BitVec 32 := Scalar.addi v144 v145
  v146.toNat
abbrev grid1 : Pipeline.Grid := ⟨1, ![22], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ScatterRef1Ideal.lean ====
abbrev S64x11264x512 : Shape := ⟨3, ![64, 11264, 512]⟩
abbrev S8x8x11264x512 : Shape := ⟨4, ![8, 8, 11264, 512]⟩
abbrev S_ : Shape := ⟨0, ![]⟩
abbrev S8x11264x512 : Shape := ⟨3, ![8, 11264, 512]⟩
abbrev S90112x512 : Shape := ⟨2, ![90112, 512]⟩

abbrev nBuf : Space → Nat
  | .hbm => 6
  | .vmem => 0
  | .smem => 0
  | _ => 0

abbrev bufTy : (tb : Table) → Fin (tcTables nBuf tb) → BufTy
  | .hbm, ⟨0, _⟩ => ⟨S64x11264x512, .bf16⟩
  | .hbm, ⟨1, _⟩ => ⟨S8x8x11264x512, .bf16⟩
  | .hbm, ⟨2, _⟩ => ⟨S8x8x11264x512, .f32⟩
  | .hbm, ⟨3, _⟩ => ⟨S_, .f32⟩
  | .hbm, ⟨4, _⟩ => ⟨S8x11264x512, .f32⟩
  | .hbm, ⟨5, _⟩ => ⟨S90112x512, .f32⟩
  | _, _ => ⟨S64x11264x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Gather2.lean ====
abbrev S12800x512 : Shape := ⟨2, ![12800, 512]⟩
abbrev S8x12800x512 : Shape := ⟨3, ![8, 12800, 512]⟩
abbrev S7 : Shape := ⟨1, ![7]⟩
abbrev S_ : Shape := ⟨0, ![]⟩
abbrev S1x12800x512 : Shape := ⟨3, ![1, 12800, 512]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S12800x512, .bf16⟩
  | .hbm, ⟨1, _⟩ => ⟨S8x12800x512, .bf16⟩
  | _, _ => ⟨S12800x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherRef2.lean ====
abbrev S102400x512 : Shape := ⟨2, ![102400, 512]⟩
abbrev S8x12800x512 : Shape := ⟨3, ![8, 12800, 512]⟩

abbrev nBuf : Space → Nat
  | .hbm => 2
  | .vmem => 0
  | .smem => 0
  | _ => 0

abbrev bufTy : (tb : Table) → Fin (tcTables nBuf tb) → BufTy
  | .hbm, ⟨0, _⟩ => ⟨S102400x512, .bf16⟩
  | .hbm, ⟨1, _⟩ => ⟨S8x12800x512, .bf16⟩
  | _, _ => ⟨S102400x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Scatter2.lean ====
abbrev S8x12800x512 : Shape := ⟨3, ![8, 12800, 512]⟩
abbrev S7 : Shape := ⟨1, ![7]⟩
abbrev S_ : Shape := ⟨0, ![]⟩
abbrev S1x12800x512 : Shape := ⟨3, ![1, 12800, 512]⟩
abbrev S12800x512 : Shape := ⟨2, ![12800, 512]⟩
abbrev S1 : Shape := ⟨1, ![1]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 3
  | .vmem => 4
  | .smem => 0
  | _ => 0

abbrev bufTy : (tb : Table) → Fin (tcTables nBuf tb) → BufTy
  | .hbm, ⟨0, _⟩ => ⟨S8x12800x512, .bf16⟩
  | .hbm, ⟨1, _⟩ => ⟨S8x12800x512, .bf16⟩
  | .hbm, ⟨2, _⟩ => ⟨S12800x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | _, _ => ⟨S8x12800x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 15
abbrev cc1_sem0_1 : DmaSem sig := 16
abbrev cc1_sem1_0 : DmaSem sig := 17
abbrev cc1_sem1_1 : DmaSem sig := 18

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_off2 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_9 v2
  let c2_i32_10 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_10 v5
  let v20 : BitVec 32 := Scalar.addi v18 v19
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let v21 : BitVec 32 := Scalar.addi v20 v17
  let c0_i32_42 : BitVec 32 := 0#32
  let c0_i32_43 : BitVec 32 := 0#32
  ![v21.toNat, 0, 0]
def k0_dev1 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v57 : BitVec 32 := Scalar.muli v2 c4_i32_36
  let v58 : BitVec 32 := Scalar.addi c0_i32_37 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v59 : BitVec 32 := Scalar.muli v5 c2_i32_38
  let v60 : BitVec 32 := Scalar.addi v58 v59
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_39 : BitVec 32 := 1#32
  let v61 : BitVec 32 := Scalar.muli v17 c1_i32_39
  let v62 : BitVec 32 := Scalar.addi v60 v61
  v62.toNat
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.muli c4_i32_12 v2
  let c2_i32_13 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let v24 : BitVec 32 := Scalar.muli c2_i32_13 v22
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.addi v25 v8
  let c0_i32_52 : BitVec 32 := 0#32
  let c0_i32_53 : BitVec 32 := 0#32
  ![v26.toNat, 0, 0]
def k0_dev2 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v71 : BitVec 32 := Scalar.muli v2 c4_i32_46
  let v72 : BitVec 32 := Scalar.addi c0_i32_47 v71
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let c2_i32_48 : BitVec 32 := 2#32
  let v73 : BitVec 32 := Scalar.muli v22 c2_i32_48
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v75 : BitVec 32 := Scalar.muli v8 c1_i32_49
  let v76 : BitVec 32 := Scalar.addi v74 v75
  v76.toNat
def k0_off4 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.muli c4_i32_16 v2
  let c2_i32_17 : BitVec 32 := 2#32
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_14 v5
  let v30 : BitVec 32 := Scalar.muli c2_i32_17 v27
  let v31 : BitVec 32 := Scalar.addi v29 v30
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let v32 : BitVec 32 := Scalar.addi v31 v28
  let c0_i32_62 : BitVec 32 := 0#32
  let c0_i32_63 : BitVec 32 := 0#32
  ![v32.toNat, 0, 0]
def k0_dev3 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v85 : BitVec 32 := Scalar.muli v2 c4_i32_56
  let v86 : BitVec 32 := Scalar.addi c0_i32_57 v85
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_14 v5
  let c2_i32_58 : BitVec 32 := 2#32
  let v87 : BitVec 32 := Scalar.muli v27 c2_i32_58
  let v88 : BitVec 32 := Scalar.addi v86 v87
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let c1_i32_59 : BitVec 32 := 1#32
  let v89 : BitVec 32 := Scalar.muli v28 c1_i32_59
  let v90 : BitVec 32 := Scalar.addi v88 v89
  v90.toNat
def k0_off5 (d0 : Dev nD) : Fin 3 → Nat :=
  let c4_i32_19 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_18 v2
  let v34 : BitVec 32 := Scalar.muli c4_i32_19 v33
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_20 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_71 : BitVec 32 := 0#32
  let c0_i32_72 : BitVec 32 := 0#32
  ![v37.toNat, 0, 0]
def k0_dev4 (d0 : Dev nD) : Nat :=
  let c0_i32_66 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_18 v2
  let c4_i32_65 : BitVec 32 := 4#32
  let v99 : BitVec 32 := Scalar.muli v33 c4_i32_65
  let v100 : BitVec 32 := Scalar.addi c0_i32_66 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v101 : BitVec 32 := Scalar.muli v5 c2_i32_67
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v103 : BitVec 32 := Scalar.muli v8 c1_i32_68
  let v104 : BitVec 32 := Scalar.addi v102 v103
  v104.toNat
def k0_off6 (d0 : Dev nD) : Fin 3 → Nat :=
  let c4_i32_23 : BitVec 32 := 4#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_21 v2
  let v40 : BitVec 32 := Scalar.muli c4_i32_23 v38
  let c2_i32_24 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.muli c2_i32_24 v5
  let v42 : BitVec 32 := Scalar.addi v40 v41
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_22 v8
  let v43 : BitVec 32 := Scalar.addi v42 v39
  let c0_i32_81 : BitVec 32 := 0#32
  let c0_i32_82 : BitVec 32 := 0#32
  ![v43.toNat, 0, 0]
def k0_dev5 (d0 : Dev nD) : Nat :=
  let c0_i32_76 : BitVec 32 := 0#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_21 v2
  let c4_i32_75 : BitVec 32 := 4#32
  let v113 : BitVec 32 := Scalar.muli v38 c4_i32_75
  let v114 : BitVec 32 := Scalar.addi c0_i32_76 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v115 : BitVec 32 := Scalar.muli v5 c2_i32_77
  let v116 : BitVec 32 := Scalar.addi v114 v115
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_22 v8
  let c1_i32_78 : BitVec 32 := 1#32
  let v117 : BitVec 32 := Scalar.muli v39 c1_i32_78
  let v118 : BitVec 32 := Scalar.addi v116 v117
  v118.toNat
def k0_off7 (d0 : Dev nD) : Fin 3 → Nat :=
  let c4_i32_27 : BitVec 32 := 4#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_25 v2
  let v46 : BitVec 32 := Scalar.muli c4_i32_27 v44
  let c2_i32_28 : BitVec 32 := 2#32
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_26 v5
  let v47 : BitVec 32 := Scalar.muli c2_i32_28 v45
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.addi v48 v8
  let c0_i32_90 : BitVec 32 := 0#32
  let c0_i32_91 : BitVec 32 := 0#32
  ![v49.toNat, 0, 0]
def k0_dev6 (d0 : Dev nD) : Nat :=
  let c0_i32_85 : BitVec 32 := 0#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_25 v2
  let c4_i32_84 : BitVec 32 := 4#32
  let v127 : BitVec 32 := Scalar.muli v44 c4_i32_84
  let v128 : BitVec 32 := Scalar.addi c0_i32_85 v127
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_26 v5
  let c2_i32_86 : BitVec 32 := 2#32
  let v129 : BitVec 32 := Scalar.muli v45 c2_i32_86
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v131 : BitVec 32 := Scalar.muli v8 c1_i32_87
  let v132 : BitVec 32 := Scalar.addi v130 v131
  v132.toNat
def k0_off8 (d0 : Dev nD) : Fin 3 → Nat :=
  let c4_i32_32 : BitVec 32 := 4#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_29 v2
  let v53 : BitVec 32 := Scalar.muli c4_i32_32 v50
  let c2_i32_33 : BitVec 32 := 2#32
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_30 v5
  let v54 : BitVec 32 := Scalar.muli c2_i32_33 v51
  let v55 : BitVec 32 := Scalar.addi v53 v54
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_31 v8
  let v56 : BitVec 32 := Scalar.addi v55 v52
  let c0_i32_99 : BitVec 32 := 0#32
  let c0_i32_100 : BitVec 32 := 0#32
  ![v56.toNat, 0, 0]
def k0_dev7 (d0 : Dev nD) : Nat :=
  let c0_i32_94 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_29 v2
  let c4_i32_93 : BitVec 32 := 4#32
  let v141 : BitVec 32 := Scalar.muli v50 c4_i32_93
  let v142 : BitVec 32 := Scalar.addi c0_i32_94 v141
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_30 v5
  let c2_i32_95 : BitVec 32 := 2#32
  let v143 : BitVec 32 := Scalar.muli v51 c2_i32_95
  let v144 : BitVec 32 := Scalar.addi v142 v143
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_31 v8
  let c1_i32_96 : BitVec 32 := 1#32
  let v145 : BitVec 32 := Scalar.muli v52 c1_i32_96
  let v146 : BitVec 32 := Scalar.addi v144 v145
  v146.toNat
abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ScatterRef2Ideal.lean ====
abbrev S64x12800x512 : Shape := ⟨3, ![64, 12800, 512]⟩
abbrev S8x8x12800x512 : Shape := ⟨4, ![8, 8, 12800, 512]⟩
abbrev S_ : Shape := ⟨0, ![]⟩
abbrev S8x12800x512 : Shape := ⟨3, ![8, 12800, 512]⟩
abbrev S102400x512 : Shape := ⟨2, ![102400, 512]⟩

abbrev nBuf : Space → Nat
  | .hbm => 6
  | .vmem => 0
  | .smem => 0
  | _ => 0

abbrev bufTy : (tb : Table) → Fin (tcTables nBuf tb) → BufTy
  | .hbm, ⟨0, _⟩ => ⟨S64x12800x512, .bf16⟩
  | .hbm, ⟨1, _⟩ => ⟨S8x8x12800x512, .bf16⟩
  | .hbm, ⟨2, _⟩ => ⟨S8x8x12800x512, .f32⟩
  | .hbm, ⟨3, _⟩ => ⟨S_, .f32⟩
  | .hbm, ⟨4, _⟩ => ⟨S8x12800x512, .f32⟩
  | .hbm, ⟨5, _⟩ => ⟨S102400x512, .f32⟩
  | _, _ => ⟨S64x12800x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Small.lean ====
abbrev S88x1024 : Shape := ⟨2, ![88, 1024]⟩
abbrev S8x88x1024 : Shape := ⟨3, ![8, 88, 1024]⟩
abbrev S7 : Shape := ⟨1, ![7]⟩
abbrev S_ : Shape := ⟨0, ![]⟩
abbrev S1x88x1024 : Shape := ⟨3, ![1, 88, 1024]⟩
abbrev S1 : Shape := ⟨1, ![1]⟩

abbrev nBuf : Space → Nat
  | .hbm => 3
  | .vmem => 2
  | .smem => 0
  | _ => 0

abbrev bufTy : (tb : Table) → Fin (tcTables nBuf tb) → BufTy
  | .hbm, ⟨0, _⟩ => ⟨S88x1024, .f32⟩
  | .hbm, ⟨1, _⟩ => ⟨S8x88x1024, .f32⟩
  | .hbm, ⟨2, _⟩ => ⟨S88x1024, .f32⟩
  | .local _ .vmem, ⟨0, _⟩ => ⟨S8x88x1024, .f32⟩
  | .local _ .vmem, ⟨1, _⟩ => ⟨S88x1024, .f32⟩
  | _, _ => ⟨S88x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg1_0 : Ref sig .tc := ⟨.vmem, 1, rfl⟩
abbrev cc1_sem0_0 : DmaSem sig := 15
abbrev cc1_sem1_0 : DmaSem sig := 16

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8x88x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S88x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]
-- ==== SmallRefIdeal.lean ====
abbrev S704x1024 : Shape := ⟨2, ![704, 1024]⟩
abbrev S8x88x1024 : Shape := ⟨3, ![8, 88, 1024]⟩
abbrev S_ : Shape := ⟨0, ![]⟩
abbrev S88x1024 : Shape := ⟨2, ![88, 1024]⟩

abbrev nBuf : Space → Nat
  | .hbm => 4
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S8x88x1024, .f32⟩
  | .hbm, ⟨2, _⟩ => ⟨S_, .f32⟩
  | .hbm, ⟨3, _⟩ => ⟨S88x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Adam0.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adam0Ideal.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRef0Ideal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam1.lean ====
abbrev S2048x320 : Shape := ⟨2, ![2048, 320]⟩
abbrev S256x320 : Shape := ⟨2, ![256, 320]⟩

abbrev nBuf : Space → Nat
  | .hbm => 7
  | .vmem => 14
  | .smem => 0
  | _ => 0

abbrev bufTy : (tb : Table) → Fin (tcTables nBuf tb) → BufTy
  | .hbm, ⟨0, _⟩ => ⟨S2048x320, .f32⟩
  | .hbm, ⟨1, _⟩ => ⟨S2048x320, .f32⟩
  | .hbm, ⟨2, _⟩ => ⟨S2048x320, .f32⟩
  | .hbm, ⟨3, _⟩ => ⟨S2048x320, .f32⟩
  | .hbm, ⟨4, _⟩ => ⟨S2048x320, .f32⟩
  | .hbm, ⟨5, _⟩ => ⟨S2048x320, .f32⟩
  | .hbm, ⟨6, _⟩ => ⟨S2048x320, .f32⟩
  | .local _ .vmem, ⟨0, _⟩ => ⟨S256x320, .f32⟩
  | .local _ .vmem, ⟨1, _⟩ => ⟨S256x320, .f32⟩
  | .local _ .vmem, ⟨2, _⟩ => ⟨S256x320, .f32⟩
  | .local _ .vmem, ⟨3, _⟩ => ⟨S256x320, .f32⟩
  | .local _ .vmem, ⟨4, _⟩ => ⟨S256x320, .f32⟩
  | .local _ .vmem, ⟨5, _⟩ => ⟨S256x320, .f32⟩
  | .local _ .vmem, ⟨6, _⟩ => ⟨S256x320, .f32⟩
  | .local _ .vmem, ⟨7, _⟩ => ⟨S256x320, .f32⟩
  | .local _ .vmem, ⟨8, _⟩ => ⟨S256x320, .f32⟩
  | .local _ .vmem, ⟨9, _⟩ => ⟨S256x320, .f32⟩
  | .local _ .vmem, ⟨10, _⟩ => ⟨S256x320, .f32⟩
  | .local _ .vmem, ⟨11, _⟩ => ⟨S256x320, .f32⟩
  | .local _ .vmem, ⟨12, _⟩ => ⟨S256x320, .f32⟩
  | .local _ .vmem, ⟨13, _⟩ => ⟨S256x320, .f32⟩
  | _, _ => ⟨S2048x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adam1Ideal.lean ====
abbrev S2048x320 : Shape := ⟨2, ![2048, 320]⟩
abbrev S256x320 : Shape := ⟨2, ![256, 320]⟩

abbrev nBuf : Space → Nat
  | .hbm => 7
  | .vmem => 14
  | .smem => 0
  | _ => 0

abbrev bufTy : (tb : Table) → Fin (tcTables nBuf tb) → BufTy
  | .hbm, ⟨0, _⟩ => ⟨S2048x320, .f32⟩
  | .hbm, ⟨1, _⟩ => ⟨S2048x320, .f32⟩
  | .hbm, ⟨2, _⟩ => ⟨S2048x320, .f32⟩
  | .hbm, ⟨3, _⟩ => ⟨S2048x320, .f32⟩
  | .hbm, ⟨4, _⟩ => ⟨S2048x320, .f32⟩
  | .hbm, ⟨5, _⟩ => ⟨S2048x320, .f32⟩
  | .hbm, ⟨6, _⟩ => ⟨S2048x320, .f32⟩
  | .local _ .vmem, ⟨0, _⟩ => ⟨S256x320, .f32⟩
  | .local _ .vmem, ⟨1, _⟩ => ⟨S256x320, .f32⟩
  | .local _ .vmem, ⟨2, _⟩ => ⟨S256x320, .f32⟩
  | .local _ .vmem, ⟨3, _⟩ => ⟨S256x320, .f32⟩
  | .local _ .vmem, ⟨4, _⟩ => ⟨S256x320, .f32⟩
  | .local _ .vmem, ⟨5, _⟩ => ⟨S256x320, .f32⟩
  | .local _ .vmem, ⟨6, _⟩ => ⟨S256x320, .f32⟩
  | .local _ .vmem, ⟨7, _⟩ => ⟨S256x320, .f32⟩
  | .local _ .vmem, ⟨8, _⟩ => ⟨S256x320, .f32⟩
  | .local _ .vmem, ⟨9, _⟩ => ⟨S256x320, .f32⟩
  | .local _ .vmem, ⟨10, _⟩ => ⟨S256x320, .f32⟩
  | .local _ .vmem, ⟨11, _⟩ => ⟨S256x320, .f32⟩
  | .local _ .vmem, ⟨12, _⟩ => ⟨S256x320, .f32⟩
  | .local _ .vmem, ⟨13, _⟩ => ⟨S256x320, .f32⟩
  | _, _ => ⟨S2048x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRef1Ideal.lean ====
abbrev S2048x320 : Shape := ⟨2, ![2048, 320]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x320, .f32⟩
  | .hbm, ⟨1, _⟩ => ⟨S2048x320, .f32⟩
  | .hbm, ⟨2, _⟩ => ⟨S2048x320, .f32⟩
  | .hbm, ⟨3, _⟩ => ⟨S2048x320, .f32⟩
  | .hbm, ⟨4, _⟩ => ⟨S_, .f32⟩
  | .hbm, ⟨5, _⟩ => ⟨S2048x320, .f32⟩
  | .hbm, ⟨6, _⟩ => ⟨S2048x320, .f32⟩
  | .hbm, ⟨7, _⟩ => ⟨S_, .f32⟩
  | .hbm, ⟨8, _⟩ => ⟨S2048x320, .f32⟩
  | .hbm, ⟨9, _⟩ => ⟨S2048x320, .f32⟩
  | .hbm, ⟨10, _⟩ => ⟨S2048x320, .f32⟩
  | .hbm, ⟨11, _⟩ => ⟨S_, .f32⟩
  | .hbm, ⟨12, _⟩ => ⟨S2048x320, .f32⟩
  | .hbm, ⟨13, _⟩ => ⟨S2048x320, .f32⟩
  | .hbm, ⟨14, _⟩ => ⟨S2048x320, .f32⟩
  | .hbm, ⟨15, _⟩ => ⟨S_, .f32⟩
  | .hbm, ⟨16, _⟩ => ⟨S2048x320, .f32⟩
  | .hbm, ⟨17, _⟩ => ⟨S2048x320, .f32⟩
  | .hbm, ⟨18, _⟩ => ⟨S2048x320, .f32⟩
  | .hbm, ⟨19, _⟩ => ⟨S_, .f32⟩
  | .hbm, ⟨20, _⟩ => ⟨S2048x320, .f32⟩
  | .hbm, ⟨21, _⟩ => ⟨S2048x320, .f32⟩
  | .hbm, ⟨22, _⟩ => ⟨S_, .f32⟩
  | .hbm, ⟨23, _⟩ => ⟨S2048x320, .f32⟩
  | .hbm, ⟨24, _⟩ => ⟨S2048x320, .f32⟩
  | .hbm, ⟨25, _⟩ => ⟨S2048x320, .f32⟩
  | .hbm, ⟨26, _⟩ => ⟨S_, .f32⟩
  | .hbm, ⟨27, _⟩ => ⟨S2048x320, .f32⟩
  | .hbm, ⟨28, _⟩ => ⟨S2048x320, .f32⟩
  | .hbm, ⟨29, _⟩ => ⟨S2048x320, .f32⟩
  | .hbm, ⟨30, _⟩ => ⟨S_, .f32⟩
  | .hbm, ⟨31, _⟩ => ⟨S2048x320, .f32⟩
  | .hbm, ⟨32, _⟩ => ⟨S2048x320, .f32⟩
  | .hbm, ⟨33, _⟩ => ⟨S2048x320, .f32⟩
  | .hbm, ⟨34, _⟩ => ⟨S_, .f32⟩
  | .hbm, ⟨35, _⟩ => ⟨S2048x320, .f32⟩
  | .hbm, ⟨36, _⟩ => ⟨S2048x320, .f32⟩
  | _, _ => ⟨S2048x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam2.lean ====
abbrev S2048x768 : Shape := ⟨2, ![2048, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adam2Ideal.lean ====
abbrev S2048x768 : Shape := ⟨2, ![2048, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRef2Ideal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam3.lean ====
abbrev S2048x1028 : Shape := ⟨2, ![2048, 1028]⟩
abbrev S256x1028 : Shape := ⟨2, ![256, 1028]⟩

abbrev nBuf : Space → Nat
  | .hbm => 7
  | .vmem => 14
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | .hbm, ⟨3, _⟩ => ⟨S2048x1028, .f32⟩
  | .hbm, ⟨4, _⟩ => ⟨S2048x1028, .f32⟩
  | .hbm, ⟨5, _⟩ => ⟨S2048x1028, .f32⟩
  | .hbm, ⟨6, _⟩ => ⟨S2048x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S256x1028, .f32⟩
  | .local _ .vmem, ⟨9, _⟩ => ⟨S256x1028, .f32⟩
  | .local _ .vmem, ⟨10, _⟩ => ⟨S256x1028, .f32⟩
  | .local _ .vmem, ⟨11, _⟩ => ⟨S256x1028, .f32⟩
  | .local _ .vmem, ⟨12, _⟩ => ⟨S256x1028, .f32⟩
  | .local _ .vmem, ⟨13, _⟩ => ⟨S256x1028, .f32⟩
  | _, _ => ⟨S2048x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adam3Ideal.lean ====
abbrev S2048x1028 : Shape := ⟨2, ![2048, 1028]⟩
abbrev S256x1028 : Shape := ⟨2, ![256, 1028]⟩

abbrev nBuf : Space → Nat
  | .hbm => 7
  | .vmem => 14
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | .hbm, ⟨3, _⟩ => ⟨S2048x1028, .f32⟩
  | .hbm, ⟨4, _⟩ => ⟨S2048x1028, .f32⟩
  | .hbm, ⟨5, _⟩ => ⟨S2048x1028, .f32⟩
  | .hbm, ⟨6, _⟩ => ⟨S2048x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S256x1028, .f32⟩
  | .local _ .vmem, ⟨9, _⟩ => ⟨S256x1028, .f32⟩
  | .local _ .vmem, ⟨10, _⟩ => ⟨S256x1028, .f32⟩
  | .local _ .vmem, ⟨11, _⟩ => ⟨S256x1028, .f32⟩
  | .local _ .vmem, ⟨12, _⟩ => ⟨S256x1028, .f32⟩
  | .local _ .vmem, ⟨13, _⟩ => ⟨S256x1028, .f32⟩
  | _, _ => ⟨S2048x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRef3Ideal.lean ====
abbrev S2048x1028 : Shape := ⟨2, ![2048, 1028]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | .hbm, ⟨3, _⟩ => ⟨S2048x1028, .f32⟩
  | .hbm, ⟨4, _⟩ => ⟨S_, .f32⟩
  | .hbm, ⟨5, _⟩ => ⟨S2048x1028, .f32⟩
  | .hbm, ⟨6, _⟩ => ⟨S2048x1028, .f32⟩
  | .hbm, ⟨7, _⟩ => ⟨S_, .f32⟩
  | .hbm, ⟨8, _⟩ => ⟨S2048x1028, .f32⟩
  | .hbm, ⟨9, _⟩ => ⟨S2048x1028, .f32⟩
  | .hbm, ⟨10, _⟩ => ⟨S2048x1028, .f32⟩
  | .hbm, ⟨11, _⟩ => ⟨S_, .f32⟩
  | .hbm, ⟨12, _⟩ => ⟨S2048x1028, .f32⟩
  | .hbm, ⟨13, _⟩ => ⟨S2048x1028, .f32⟩
  | .hbm, ⟨14, _⟩ => ⟨S2048x1028, .f32⟩
  | .hbm, ⟨15, _⟩ => ⟨S_, .f32⟩
  | .hbm, ⟨16, _⟩ => ⟨S2048x1028, .f32⟩
  | .hbm, ⟨17, _⟩ => ⟨S2048x1028, .f32⟩
  | .hbm, ⟨18, _⟩ => ⟨S2048x1028, .f32⟩
  | .hbm, ⟨19, _⟩ => ⟨S_, .f32⟩
  | .hbm, ⟨20, _⟩ => ⟨S2048x1028, .f32⟩
  | .hbm, ⟨21, _⟩ => ⟨S2048x1028, .f32⟩
  | .hbm, ⟨22, _⟩ => ⟨S_, .f32⟩
  | .hbm, ⟨23, _⟩ => ⟨S2048x1028, .f32⟩
  | .hbm, ⟨24, _⟩ => ⟨S2048x1028, .f32⟩
  | .hbm, ⟨25, _⟩ => ⟨S2048x1028, .f32⟩
  | .hbm, ⟨26, _⟩ => ⟨S_, .f32⟩
  | .hbm, ⟨27, _⟩ => ⟨S2048x1028, .f32⟩
  | .hbm, ⟨28, _⟩ => ⟨S2048x1028, .f32⟩
  | .hbm, ⟨29, _⟩ => ⟨S2048x1028, .f32⟩
  | .hbm, ⟨30, _⟩ => ⟨S_, .f32⟩
  | .hbm, ⟨31, _⟩ => ⟨S2048x1028, .f32⟩
  | .hbm, ⟨32, _⟩ => ⟨S2048x1028, .f32⟩
  | .hbm, ⟨33, _⟩ => ⟨S2048x1028, .f32⟩
  | .hbm, ⟨34, _⟩ => ⟨S_, .f32⟩
  | .hbm, ⟨35, _⟩ => ⟨S2048x1028, .f32⟩
  | .hbm, ⟨36, _⟩ => ⟨S2048x1028, .f32⟩
  | _, _ => ⟨S2048x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam4.lean ====
abbrev S8192x1408 : Shape := ⟨2, ![8192, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adam4Ideal.lean ====
abbrev S8192x1408 : Shape := ⟨2, ![8192, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRef4Ideal.lean ====
abbrev S8192x1408 : Shape := ⟨2, ![8192, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S_, .f32⟩
  | .hbm, ⟨5, _⟩ => ⟨S8192x1408, .f32⟩
  | .hbm, ⟨6, _⟩ => ⟨S8192x1408, .f32⟩
  | .hbm, ⟨7, _⟩ => ⟨S_, .f32⟩
  | .hbm, ⟨8, _⟩ => ⟨S8192x1408, .f32⟩
  | .hbm, ⟨9, _⟩ => ⟨S8192x1408, .f32⟩
  | .hbm, ⟨10, _⟩ => ⟨S8192x1408, .f32⟩
  | .hbm, ⟨11, _⟩ => ⟨S_, .f32⟩
  | .hbm, ⟨12, _⟩ => ⟨S8192x1408, .f32⟩
  | .hbm, ⟨13, _⟩ => ⟨S8192x1408, .f32⟩
  | .hbm, ⟨14, _⟩ => ⟨S8192x1408, .f32⟩
  | .hbm, ⟨15, _⟩ => ⟨S_, .f32⟩
  | .hbm, ⟨16, _⟩ => ⟨S8192x1408, .f32⟩
  | .hbm, ⟨17, _⟩ => ⟨S8192x1408, .f32⟩
  | .hbm, ⟨18, _⟩ => ⟨S8192x1408, .f32⟩
  | .hbm, ⟨19, _⟩ => ⟨S_, .f32⟩
  | .hbm, ⟨20, _⟩ => ⟨S8192x1408, .f32⟩
  | .hbm, ⟨21, _⟩ => ⟨S8192x1408, .f32⟩
  | .hbm, ⟨22, _⟩ => ⟨S_, .f32⟩
  | .hbm, ⟨23, _⟩ => ⟨S8192x1408, .f32⟩
  | .hbm, ⟨24, _⟩ => ⟨S8192x1408, .f32⟩
  | .hbm, ⟨25, _⟩ => ⟨S8192x1408, .f32⟩
  | .hbm, ⟨26, _⟩ => ⟨S_, .f32⟩
  | .hbm, ⟨27, _⟩ => ⟨S8192x1408, .f32⟩
  | .hbm, ⟨28, _⟩ => ⟨S8192x1408, .f32⟩
  | .hbm, ⟨29, _⟩ => ⟨S8192x1408, .f32⟩
  | .hbm, ⟨30, _⟩ => ⟨S_, .f32⟩
  | .hbm, ⟨31, _⟩ => ⟨S8192x1408, .f32⟩
  | .hbm, ⟨32, _⟩ => ⟨S8192x1408, .f32⟩
  | .hbm, ⟨33, _⟩ => ⟨S8192x1408, .f32⟩
  | .hbm, ⟨34, _⟩ => ⟨S_, .f32⟩
  | .hbm, ⟨35, _⟩ => ⟨S8192x1408, .f32⟩
  | .hbm, ⟨36, _⟩ => ⟨S8192x1408, .f32⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam5.lean ====
abbrev S2816x2048 : Shape := ⟨2, ![2816, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2816x2048, .f32⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adam5Ideal.lean ====
abbrev S2816x2048 : Shape := ⟨2, ![2816, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2816x2048, .f32⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRef5Ideal.lean ====
abbrev S2816x2048 : Shape := ⟨2, ![2816, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x2048, .f32⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S_, .f32⟩
  | .hbm, ⟨5, _⟩ => ⟨S2816x2048, .f32⟩
  | .hbm, ⟨6, _⟩ => ⟨S2816x2048, .f32⟩
  | .hbm, ⟨7, _⟩ => ⟨S_, .f32⟩
  | .hbm, ⟨8, _⟩ => ⟨S2816x2048, .f32⟩
  | .hbm, ⟨9, _⟩ => ⟨S2816x2048, .f32⟩
  | .hbm, ⟨10, _⟩ => ⟨S2816x2048, .f32⟩
  | .hbm, ⟨11, _⟩ => ⟨S_, .f32⟩
  | .hbm, ⟨12, _⟩ => ⟨S2816x2048, .f32⟩
  | .hbm, ⟨13, _⟩ => ⟨S2816x2048, .f32⟩
  | .hbm, ⟨14, _⟩ => ⟨S2816x2048, .f32⟩
  | .hbm, ⟨15, _⟩ => ⟨S_, .f32⟩
  | .hbm, ⟨16, _⟩ => ⟨S2816x2048, .f32⟩
  | .hbm, ⟨17, _⟩ => ⟨S2816x2048, .f32⟩
  | .hbm, ⟨18, _⟩ => ⟨S2816x2048, .f32⟩
  | .hbm, ⟨19, _⟩ => ⟨S_, .f32⟩
  | .hbm, ⟨20, _⟩ => ⟨S2816x2048, .f32⟩
  | .hbm, ⟨21, _⟩ => ⟨S2816x2048, .f32⟩
  | .hbm, ⟨22, _⟩ => ⟨S_, .f32⟩
  | .hbm, ⟨23, _⟩ => ⟨S2816x2048, .f32⟩
  | .hbm, ⟨24, _⟩ => ⟨S2816x2048, .f32⟩
  | .hbm, ⟨25, _⟩ => ⟨S2816x2048, .f32⟩
  | .hbm, ⟨26, _⟩ => ⟨S_, .f32⟩
  | .hbm, ⟨27, _⟩ => ⟨S2816x2048, .f32⟩
  | .hbm, ⟨28, _⟩ => ⟨S2816x2048, .f32⟩
  | .hbm, ⟨29, _⟩ => ⟨S2816x2048, .f32⟩
  | .hbm, ⟨30, _⟩ => ⟨S_, .f32⟩
  | .hbm, ⟨31, _⟩ => ⟨S2816x2048, .f32⟩
  | .hbm, ⟨32, _⟩ => ⟨S2816x2048, .f32⟩
  | .hbm, ⟨33, _⟩ => ⟨S2816x2048, .f32⟩
  | .hbm, ⟨34, _⟩ => ⟨S_, .f32⟩
  | .hbm, ⟨35, _⟩ => ⟨S2816x2048, .f32⟩
  | .hbm, ⟨36, _⟩ => ⟨S2816x2048, .f32⟩
  | _, _ => ⟨S2816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam6.lean ====
abbrev S256x2048 : Shape := ⟨2, ![256, 2048]⟩

abbrev nBuf : Space → Nat
  | .hbm => 7
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adam6Ideal.lean ====
abbrev S256x2048 : Shape := ⟨2, ![256, 2048]⟩

abbrev nBuf : Space → Nat
  | .hbm => 7
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRef6Ideal.lean ====
abbrev S256x2048 : Shape := ⟨2, ![256, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256x2048, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam7.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adam7Ideal.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRef7Ideal.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam8.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adam8Ideal.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRef8Ideal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam9.lean ====
abbrev S5x2048 : Shape := ⟨2, ![5, 2048]⟩

abbrev nBuf : Space → Nat
  | .hbm => 7
  | .vmem => 7
  | .smem => 0
  | _ => 0

abbrev bufTy : (tb : Table) → Fin (tcTables nBuf tb) → BufTy
  | .hbm, ⟨0, _⟩ => ⟨S5x2048, .f32⟩
  | .hbm, ⟨1, _⟩ => ⟨S5x2048, .f32⟩
  | .hbm, ⟨2, _⟩ => ⟨S5x2048, .f32⟩
  | .hbm, ⟨3, _⟩ => ⟨S5x2048, .f32⟩
  | .hbm, ⟨4, _⟩ => ⟨S5x2048, .f32⟩
  | .hbm, ⟨5, _⟩ => ⟨S5x2048, .f32⟩
  | .hbm, ⟨6, _⟩ => ⟨S5x2048, .f32⟩
  | .local _ .vmem, ⟨0, _⟩ => ⟨S5x2048, .f32⟩
  | .local _ .vmem, ⟨1, _⟩ => ⟨S5x2048, .f32⟩
  | .local _ .vmem, ⟨2, _⟩ => ⟨S5x2048, .f32⟩
  | .local _ .vmem, ⟨3, _⟩ => ⟨S5x2048, .f32⟩
  | .local _ .vmem, ⟨4, _⟩ => ⟨S5x2048, .f32⟩
  | .local _ .vmem, ⟨5, _⟩ => ⟨S5x2048, .f32⟩
  | .local _ .vmem, ⟨6, _⟩ => ⟨S5x2048, .f32⟩
  | _, _ => ⟨S5x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S5x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S5x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S5x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S5x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S5x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S5x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S5x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adam9Ideal.lean ====
abbrev S5x2048 : Shape := ⟨2, ![5, 2048]⟩

abbrev nBuf : Space → Nat
  | .hbm => 7
  | .vmem => 7
  | .smem => 0
  | _ => 0

abbrev bufTy : (tb : Table) → Fin (tcTables nBuf tb) → BufTy
  | .hbm, ⟨0, _⟩ => ⟨S5x2048, .f32⟩
  | .hbm, ⟨1, _⟩ => ⟨S5x2048, .f32⟩
  | .hbm, ⟨2, _⟩ => ⟨S5x2048, .f32⟩
  | .hbm, ⟨3, _⟩ => ⟨S5x2048, .f32⟩
  | .hbm, ⟨4, _⟩ => ⟨S5x2048, .f32⟩
  | .hbm, ⟨5, _⟩ => ⟨S5x2048, .f32⟩
  | .hbm, ⟨6, _⟩ => ⟨S5x2048, .f32⟩
  | .local _ .vmem, ⟨0, _⟩ => ⟨S5x2048, .f32⟩
  | .local _ .vmem, ⟨1, _⟩ => ⟨S5x2048, .f32⟩
  | .local _ .vmem, ⟨2, _⟩ => ⟨S5x2048, .f32⟩
  | .local _ .vmem, ⟨3, _⟩ => ⟨S5x2048, .f32⟩
  | .local _ .vmem, ⟨4, _⟩ => ⟨S5x2048, .f32⟩
  | .local _ .vmem, ⟨5, _⟩ => ⟨S5x2048, .f32⟩
  | .local _ .vmem, ⟨6, _⟩ => ⟨S5x2048, .f32⟩
  | _, _ => ⟨S5x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S5x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S5x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S5x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S5x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S5x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S5x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S5x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRef9Ideal.lean ====
abbrev S5x2048 : Shape := ⟨2, ![5, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S5x2048, .f32⟩
  | .hbm, ⟨1, _⟩ => ⟨S5x2048, .f32⟩
  | .hbm, ⟨2, _⟩ => ⟨S5x2048, .f32⟩
  | .hbm, ⟨3, _⟩ => ⟨S5x2048, .f32⟩
  | .hbm, ⟨4, _⟩ => ⟨S_, .f32⟩
  | .hbm, ⟨5, _⟩ => ⟨S5x2048, .f32⟩
  | .hbm, ⟨6, _⟩ => ⟨S5x2048, .f32⟩
  | .hbm, ⟨7, _⟩ => ⟨S_, .f32⟩
  | .hbm, ⟨8, _⟩ => ⟨S5x2048, .f32⟩
  | .hbm, ⟨9, _⟩ => ⟨S5x2048, .f32⟩
  | .hbm, ⟨10, _⟩ => ⟨S5x2048, .f32⟩
  | .hbm, ⟨11, _⟩ => ⟨S_, .f32⟩
  | .hbm, ⟨12, _⟩ => ⟨S5x2048, .f32⟩
  | .hbm, ⟨13, _⟩ => ⟨S5x2048, .f32⟩
  | .hbm, ⟨14, _⟩ => ⟨S5x2048, .f32⟩
  | .hbm, ⟨15, _⟩ => ⟨S_, .f32⟩
  | .hbm, ⟨16, _⟩ => ⟨S5x2048, .f32⟩
  | .hbm, ⟨17, _⟩ => ⟨S5x2048, .f32⟩
  | .hbm, ⟨18, _⟩ => ⟨S5x2048, .f32⟩
  | .hbm, ⟨19, _⟩ => ⟨S_, .f32⟩
  | .hbm, ⟨20, _⟩ => ⟨S5x2048, .f32⟩
  | .hbm, ⟨21, _⟩ => ⟨S5x2048, .f32⟩
  | .hbm, ⟨22, _⟩ => ⟨S_, .f32⟩
  | .hbm, ⟨23, _⟩ => ⟨S5x2048, .f32⟩
  | .hbm, ⟨24, _⟩ => ⟨S5x2048, .f32⟩
  | .hbm, ⟨25, _⟩ => ⟨S5x2048, .f32⟩
  | .hbm, ⟨26, _⟩ => ⟨S_, .f32⟩
  | .hbm, ⟨27, _⟩ => ⟨S5x2048, .f32⟩
  | .hbm, ⟨28, _⟩ => ⟨S5x2048, .f32⟩
  | .hbm, ⟨29, _⟩ => ⟨S5x2048, .f32⟩
  | .hbm, ⟨30, _⟩ => ⟨S_, .f32⟩
  | .hbm, ⟨31, _⟩ => ⟨S5x2048, .f32⟩
  | .hbm, ⟨32, _⟩ => ⟨S5x2048, .f32⟩
  | .hbm, ⟨33, _⟩ => ⟨S5x2048, .f32⟩
  | .hbm, ⟨34, _⟩ => ⟨S_, .f32⟩
  | .hbm, ⟨35, _⟩ => ⟨S5x2048, .f32⟩
  | .hbm, ⟨36, _⟩ => ⟨S5x2048, .f32⟩
  | _, _ => ⟨S5x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam10.lean ====
abbrev S1x32 : Shape := ⟨2, ![1, 32]⟩

abbrev nBuf : Space → Nat
  | .hbm => 7
  | .vmem => 7
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adam10Ideal.lean ====
abbrev S1x32 : Shape := ⟨2, ![1, 32]⟩

abbrev nBuf : Space → Nat
  | .hbm => 7
  | .vmem => 7
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRef10Ideal.lean ====
abbrev S1x32 : Shape := ⟨2, ![1, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S_, .f32⟩
  | .hbm, ⟨5, _⟩ => ⟨S1x32, .f32⟩
  | .hbm, ⟨6, _⟩ => ⟨S1x32, .f32⟩
  | .hbm, ⟨7, _⟩ => ⟨S_, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S_, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S_, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S_, .f32⟩
  | .hbm, ⟨20, _⟩ => ⟨S1x32, .f32⟩
  | .hbm, ⟨21, _⟩ => ⟨S1x32, .f32⟩
  | .hbm, ⟨22, _⟩ => ⟨S_, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S_, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S_, .f32⟩
  | .hbm, ⟨31, _⟩ => ⟨S1x32, .f32⟩
  | .hbm, ⟨32, _⟩ => ⟨S1x32, .f32⟩
  | .hbm, ⟨33, _⟩ => ⟨S1x32, .f32⟩
  | .hbm, ⟨34, _⟩ => ⟨S_, .f32⟩
  | .hbm, ⟨35, _⟩ => ⟨S1x32, .f32⟩
  | .hbm, ⟨36, _⟩ => ⟨S1x32, .f32⟩
  | _, _ => ⟨S1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam11.lean ====
abbrev S3x256 : Shape := ⟨2, ![3, 256]⟩

abbrev nBuf : Space → Nat
  | .hbm => 7
  | .vmem => 7
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x256, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | _, _ => ⟨S3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adam11Ideal.lean ====
abbrev S3x256 : Shape := ⟨2, ![3, 256]⟩

abbrev nBuf : Space → Nat
  | .hbm => 7
  | .vmem => 7
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x256, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | _, _ => ⟨S3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRef11Ideal.lean ====
abbrev S3x256 : Shape := ⟨2, ![3, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S_, .f32⟩
  | .hbm, ⟨5, _⟩ => ⟨S3x256, .f32⟩
  | .hbm, ⟨6, _⟩ => ⟨S3x256, .f32⟩
  | .hbm, ⟨7, _⟩ => ⟨S_, .f32⟩
  | .hbm, ⟨8, _⟩ => ⟨S3x256, .f32⟩
  | .hbm, ⟨9, _⟩ => ⟨S3x256, .f32⟩
  | .hbm, ⟨10, _⟩ => ⟨S3x256, .f32⟩
  | .hbm, ⟨11, _⟩ => ⟨S_, .f32⟩
  | .hbm, ⟨12, _⟩ => ⟨S3x256, .f32⟩
  | .hbm, ⟨13, _⟩ => ⟨S3x256, .f32⟩
  | .hbm, ⟨14, _⟩ => ⟨S3x256, .f32⟩
  | .hbm, ⟨15, _⟩ => ⟨S_, .f32⟩
  | .hbm, ⟨16, _⟩ => ⟨S3x256, .f32⟩
  | .hbm, ⟨17, _⟩ => ⟨S3x256, .f32⟩
  | .hbm, ⟨18, _⟩ => ⟨S3x256, .f32⟩
  | .hbm, ⟨19, _⟩ => ⟨S_, .f32⟩
  | .hbm, ⟨20, _⟩ => ⟨S3x256, .f32⟩
  | .hbm, ⟨21, _⟩ => ⟨S3x256, .f32⟩
  | .hbm, ⟨22, _⟩ => ⟨S_, .f32⟩
  | .hbm, ⟨23, _⟩ => ⟨S3x256, .f32⟩
  | .hbm, ⟨24, _⟩ => ⟨S3x256, .f32⟩
  | .hbm, ⟨25, _⟩ => ⟨S3x256, .f32⟩
  | .hbm, ⟨26, _⟩ => ⟨S_, .f32⟩
  | .hbm, ⟨27, _⟩ => ⟨S3x256, .f32⟩
  | .hbm, ⟨28, _⟩ => ⟨S3x256, .f32⟩
  | .hbm, ⟨29, _⟩ => ⟨S3x256, .f32⟩
  | .hbm, ⟨30, _⟩ => ⟨S_, .f32⟩
  | .hbm, ⟨31, _⟩ => ⟨S3x256, .f32⟩
  | .hbm, ⟨32, _⟩ => ⟨S3x256, .f32⟩
  | .hbm, ⟨33, _⟩ => ⟨S3x256, .f32⟩
  | .hbm, ⟨34, _⟩ => ⟨S_, .f32⟩
  | .hbm, ⟨35, _⟩ => ⟨S3x256, .f32⟩
  | .hbm, ⟨36, _⟩ => ⟨S3x256, .f32⟩
  | _, _ => ⟨S3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam12.lean ====
abbrev S12x1408 : Shape := ⟨2, ![12, 1408]⟩

abbrev nBuf : Space → Nat
  | .hbm => 7
  | .vmem => 7
  | .smem => 0
  | _ => 0

abbrev bufTy : (tb : Table) → Fin (tcTables nBuf tb) → BufTy
  | .hbm, ⟨0, _⟩ => ⟨S12x1408, .f32⟩
  | .hbm, ⟨1, _⟩ => ⟨S12x1408, .f32⟩
  | .hbm, ⟨2, _⟩ => ⟨S12x1408, .f32⟩
  | .hbm, ⟨3, _⟩ => ⟨S12x1408, .f32⟩
  | .hbm, ⟨4, _⟩ => ⟨S12x1408, .f32⟩
  | .hbm, ⟨5, _⟩ => ⟨S12x1408, .f32⟩
  | .hbm, ⟨6, _⟩ => ⟨S12x1408, .f32⟩
  | .local _ .vmem, ⟨0, _⟩ => ⟨S12x1408, .f32⟩
  | .local _ .vmem, ⟨1, _⟩ => ⟨S12x1408, .f32⟩
  | .local _ .vmem, ⟨2, _⟩ => ⟨S12x1408, .f32⟩
  | .local _ .vmem, ⟨3, _⟩ => ⟨S12x1408, .f32⟩
  | .local _ .vmem, ⟨4, _⟩ => ⟨S12x1408, .f32⟩
  | .local _ .vmem, ⟨5, _⟩ => ⟨S12x1408, .f32⟩
  | .local _ .vmem, ⟨6, _⟩ => ⟨S12x1408, .f32⟩
  | _, _ => ⟨S12x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adam12Ideal.lean ====
abbrev S12x1408 : Shape := ⟨2, ![12, 1408]⟩

abbrev nBuf : Space → Nat
  | .hbm => 7
  | .vmem => 7
  | .smem => 0
  | _ => 0

abbrev bufTy : (tb : Table) → Fin (tcTables nBuf tb) → BufTy
  | .hbm, ⟨0, _⟩ => ⟨S12x1408, .f32⟩
  | .hbm, ⟨1, _⟩ => ⟨S12x1408, .f32⟩
  | .hbm, ⟨2, _⟩ => ⟨S12x1408, .f32⟩
  | .hbm, ⟨3, _⟩ => ⟨S12x1408, .f32⟩
  | .hbm, ⟨4, _⟩ => ⟨S12x1408, .f32⟩
  | .hbm, ⟨5, _⟩ => ⟨S12x1408, .f32⟩
  | .hbm, ⟨6, _⟩ => ⟨S12x1408, .f32⟩
  | .local _ .vmem, ⟨0, _⟩ => ⟨S12x1408, .f32⟩
  | .local _ .vmem, ⟨1, _⟩ => ⟨S12x1408, .f32⟩
  | .local _ .vmem, ⟨2, _⟩ => ⟨S12x1408, .f32⟩
  | .local _ .vmem, ⟨3, _⟩ => ⟨S12x1408, .f32⟩
  | .local _ .vmem, ⟨4, _⟩ => ⟨S12x1408, .f32⟩
  | .local _ .vmem, ⟨5, _⟩ => ⟨S12x1408, .f32⟩
  | .local _ .vmem, ⟨6, _⟩ => ⟨S12x1408, .f32⟩
  | _, _ => ⟨S12x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRef12Ideal.lean ====
abbrev S12x1408 : Shape := ⟨2, ![12, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x1408, .f32⟩
  | .hbm, ⟨1, _⟩ => ⟨S12x1408, .f32⟩
  | .hbm, ⟨2, _⟩ => ⟨S12x1408, .f32⟩
  | .hbm, ⟨3, _⟩ => ⟨S12x1408, .f32⟩
  | .hbm, ⟨4, _⟩ => ⟨S_, .f32⟩
  | .hbm, ⟨5, _⟩ => ⟨S12x1408, .f32⟩
  | .hbm, ⟨6, _⟩ => ⟨S12x1408, .f32⟩
  | .hbm, ⟨7, _⟩ => ⟨S_, .f32⟩
  | .hbm, ⟨8, _⟩ => ⟨S12x1408, .f32⟩
  | .hbm, ⟨9, _⟩ => ⟨S12x1408, .f32⟩
  | .hbm, ⟨10, _⟩ => ⟨S12x1408, .f32⟩
  | .hbm, ⟨11, _⟩ => ⟨S_, .f32⟩
  | .hbm, ⟨12, _⟩ => ⟨S12x1408, .f32⟩
  | .hbm, ⟨13, _⟩ => ⟨S12x1408, .f32⟩
  | .hbm, ⟨14, _⟩ => ⟨S12x1408, .f32⟩
  | .hbm, ⟨15, _⟩ => ⟨S_, .f32⟩
  | .hbm, ⟨16, _⟩ => ⟨S12x1408, .f32⟩
  | .hbm, ⟨17, _⟩ => ⟨S12x1408, .f32⟩
  | .hbm, ⟨18, _⟩ => ⟨S12x1408, .f32⟩
  | .hbm, ⟨19, _⟩ => ⟨S_, .f32⟩
  | .hbm, ⟨20, _⟩ => ⟨S12x1408, .f32⟩
  | .hbm, ⟨21, _⟩ => ⟨S12x1408, .f32⟩
  | .hbm, ⟨22, _⟩ => ⟨S_, .f32⟩
  | .hbm, ⟨23, _⟩ => ⟨S12x1408, .f32⟩
  | .hbm, ⟨24, _⟩ => ⟨S12x1408, .f32⟩
  | .hbm, ⟨25, _⟩ => ⟨S12x1408, .f32⟩
  | .hbm, ⟨26, _⟩ => ⟨S_, .f32⟩
  | .hbm, ⟨27, _⟩ => ⟨S12x1408, .f32⟩
  | .hbm, ⟨28, _⟩ => ⟨S12x1408, .f32⟩
  | .hbm, ⟨29, _⟩ => ⟨S12x1408, .f32⟩
  | .hbm, ⟨30, _⟩ => ⟨S_, .f32⟩
  | .hbm, ⟨31, _⟩ => ⟨S12x1408, .f32⟩
  | .hbm, ⟨32, _⟩ => ⟨S12x1408, .f32⟩
  | .hbm, ⟨33, _⟩ => ⟨S12x1408, .f32⟩
  | .hbm, ⟨34, _⟩ => ⟨S_, .f32⟩
  | .hbm, ⟨35, _⟩ => ⟨S12x1408, .f32⟩
  | .hbm, ⟨36, _⟩ => ⟨S12x1408, .f32⟩
  | _, _ => ⟨S12x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam13.lean ====
abbrev S4x11264 : Shape := ⟨2, ![4, 11264]⟩

abbrev nBuf : Space → Nat
  | .hbm => 7
  | .vmem => 7
  | .smem => 0
  | _ => 0

abbrev bufTy : (tb : Table) → Fin (tcTables nBuf tb) → BufTy
  | .hbm, ⟨0, _⟩ => ⟨S4x11264, .f32⟩
  | .hbm, ⟨1, _⟩ => ⟨S4x11264, .f32⟩
  | .hbm, ⟨2, _⟩ => ⟨S4x11264, .f32⟩
  | .hbm, ⟨3, _⟩ => ⟨S4x11264, .f32⟩
  | .hbm, ⟨4, _⟩ => ⟨S4x11264, .f32⟩
  | .hbm, ⟨5, _⟩ => ⟨S4x11264, .f32⟩
  | .hbm, ⟨6, _⟩ => ⟨S4x11264, .f32⟩
  | .local _ .vmem, ⟨0, _⟩ => ⟨S4x11264, .f32⟩
  | .local _ .vmem, ⟨1, _⟩ => ⟨S4x11264, .f32⟩
  | .local _ .vmem, ⟨2, _⟩ => ⟨S4x11264, .f32⟩
  | .local _ .vmem, ⟨3, _⟩ => ⟨S4x11264, .f32⟩
  | .local _ .vmem, ⟨4, _⟩ => ⟨S4x11264, .f32⟩
  | .local _ .vmem, ⟨5, _⟩ => ⟨S4x11264, .f32⟩
  | .local _ .vmem, ⟨6, _⟩ => ⟨S4x11264, .f32⟩
  | _, _ => ⟨S4x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x11264 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x11264 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x11264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x11264 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x11264 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adam13Ideal.lean ====
abbrev S4x11264 : Shape := ⟨2, ![4, 11264]⟩

abbrev nBuf : Space → Nat
  | .hbm => 7
  | .vmem => 7
  | .smem => 0
  | _ => 0

abbrev bufTy : (tb : Table) → Fin (tcTables nBuf tb) → BufTy
  | .hbm, ⟨0, _⟩ => ⟨S4x11264, .f32⟩
  | .hbm, ⟨1, _⟩ => ⟨S4x11264, .f32⟩
  | .hbm, ⟨2, _⟩ => ⟨S4x11264, .f32⟩
  | .hbm, ⟨3, _⟩ => ⟨S4x11264, .f32⟩
  | .hbm, ⟨4, _⟩ => ⟨S4x11264, .f32⟩
  | .hbm, ⟨5, _⟩ => ⟨S4x11264, .f32⟩
  | .hbm, ⟨6, _⟩ => ⟨S4x11264, .f32⟩
  | .local _ .vmem, ⟨0, _⟩ => ⟨S4x11264, .f32⟩
  | .local _ .vmem, ⟨1, _⟩ => ⟨S4x11264, .f32⟩
  | .local _ .vmem, ⟨2, _⟩ => ⟨S4x11264, .f32⟩
  | .local _ .vmem, ⟨3, _⟩ => ⟨S4x11264, .f32⟩
  | .local _ .vmem, ⟨4, _⟩ => ⟨S4x11264, .f32⟩
  | .local _ .vmem, ⟨5, _⟩ => ⟨S4x11264, .f32⟩
  | .local _ .vmem, ⟨6, _⟩ => ⟨S4x11264, .f32⟩
  | _, _ => ⟨S4x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x11264 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x11264 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x11264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x11264 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x11264 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRef13Ideal.lean ====
abbrev S4x11264 : Shape := ⟨2, ![4, 11264]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x11264, .f32⟩
  | .hbm, ⟨1, _⟩ => ⟨S4x11264, .f32⟩
  | .hbm, ⟨2, _⟩ => ⟨S4x11264, .f32⟩
  | .hbm, ⟨3, _⟩ => ⟨S4x11264, .f32⟩
  | .hbm, ⟨4, _⟩ => ⟨S_, .f32⟩
  | .hbm, ⟨5, _⟩ => ⟨S4x11264, .f32⟩
  | .hbm, ⟨6, _⟩ => ⟨S4x11264, .f32⟩
  | .hbm, ⟨7, _⟩ => ⟨S_, .f32⟩
  | .hbm, ⟨8, _⟩ => ⟨S4x11264, .f32⟩
  | .hbm, ⟨9, _⟩ => ⟨S4x11264, .f32⟩
  | .hbm, ⟨10, _⟩ => ⟨S4x11264, .f32⟩
  | .hbm, ⟨11, _⟩ => ⟨S_, .f32⟩
  | .hbm, ⟨12, _⟩ => ⟨S4x11264, .f32⟩
  | .hbm, ⟨13, _⟩ => ⟨S4x11264, .f32⟩
  | .hbm, ⟨14, _⟩ => ⟨S4x11264, .f32⟩
  | .hbm, ⟨15, _⟩ => ⟨S_, .f32⟩
  | .hbm, ⟨16, _⟩ => ⟨S4x11264, .f32⟩
  | .hbm, ⟨17, _⟩ => ⟨S4x11264, .f32⟩
  | .hbm, ⟨18, _⟩ => ⟨S4x11264, .f32⟩
  | .hbm, ⟨19, _⟩ => ⟨S_, .f32⟩
  | .hbm, ⟨20, _⟩ => ⟨S4x11264, .f32⟩
  | .hbm, ⟨21, _⟩ => ⟨S4x11264, .f32⟩
  | .hbm, ⟨22, _⟩ => ⟨S_, .f32⟩
  | .hbm, ⟨23, _⟩ => ⟨S4x11264, .f32⟩
  | .hbm, ⟨24, _⟩ => ⟨S4x11264, .f32⟩
  | .hbm, ⟨25, _⟩ => ⟨S4x11264, .f32⟩
  | .hbm, ⟨26, _⟩ => ⟨S_, .f32⟩
  | .hbm, ⟨27, _⟩ => ⟨S4x11264, .f32⟩
  | .hbm, ⟨28, _⟩ => ⟨S4x11264, .f32⟩
  | .hbm, ⟨29, _⟩ => ⟨S4x11264, .f32⟩
  | .hbm, ⟨30, _⟩ => ⟨S_, .f32⟩
  | .hbm, ⟨31, _⟩ => ⟨S4x11264, .f32⟩
  | .hbm, ⟨32, _⟩ => ⟨S4x11264, .f32⟩
  | .hbm, ⟨33, _⟩ => ⟨S4x11264, .f32⟩
  | .hbm, ⟨34, _⟩ => ⟨S_, .f32⟩
  | .hbm, ⟨35, _⟩ => ⟨S4x11264, .f32⟩
  | .hbm, ⟨36, _⟩ => ⟨S4x11264, .f32⟩
  | _, _ => ⟨S4x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Mul0.lean ====
abbrev S4096x2048 : Shape := ⟨2, ![4096, 2048]⟩
abbrev S2048x11264 : Shape := ⟨2, ![2048, 11264]⟩
abbrev S4096x11264 : Shape := ⟨2, ![4096, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mul0Ideal.lean ====
abbrev S4096x2048 : Shape := ⟨2, ![4096, 2048]⟩
abbrev S2048x11264 : Shape := ⟨2, ![2048, 11264]⟩
abbrev S4096x11264 : Shape := ⟨2, ![4096, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulRef0Ideal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mul1.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mul1Ideal.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulRef1Ideal.lean ====
abbrev S4096x2048 : Shape := ⟨2, ![4096, 2048]⟩
abbrev S2048x8192 : Shape := ⟨2, ![2048, 8192]⟩
abbrev S4096x8192 : Shape := ⟨2, ![4096, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mul2.lean ====
abbrev S4096x2048 : Shape := ⟨2, ![4096, 2048]⟩
abbrev S2048x2560 : Shape := ⟨2, ![2048, 2560]⟩
abbrev S4096x2560 : Shape := ⟨2, ![4096, 2560]⟩
abbrev S1024x2048 : Shape := ⟨2, ![1024, 2048]⟩
abbrev S2048x640 : Shape := ⟨2, ![2048, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2560, .bf16⟩
  | .hbm, ⟨2, _⟩ => ⟨S4096x2560, .f32⟩
  | .local _ .vmem, ⟨0, _⟩ => ⟨S1024x2048, .bf16⟩
  | .local _ .vmem, ⟨1, _⟩ => ⟨S1024x2048, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .f32⟩
  | .local _ .vmem, ⟨5, _⟩ => ⟨S1024x640, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mul2Ideal.lean ====
abbrev S4096x2048 : Shape := ⟨2, ![4096, 2048]⟩
abbrev S2048x2560 : Shape := ⟨2, ![2048, 2560]⟩
abbrev S4096x2560 : Shape := ⟨2, ![4096, 2560]⟩
abbrev S1024x2048 : Shape := ⟨2, ![1024, 2048]⟩
abbrev S2048x640 : Shape := ⟨2, ![2048, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2560, .bf16⟩
  | .hbm, ⟨2, _⟩ => ⟨S4096x2560, .f32⟩
  | .local _ .vmem, ⟨0, _⟩ => ⟨S1024x2048, .bf16⟩
  | .local _ .vmem, ⟨1, _⟩ => ⟨S1024x2048, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .f32⟩
  | .local _ .vmem, ⟨5, _⟩ => ⟨S1024x640, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulRef2Ideal.lean ====
abbrev S4096x2048 : Shape := ⟨2, ![4096, 2048]⟩
abbrev S2048x2560 : Shape := ⟨2, ![2048, 2560]⟩
abbrev S4096x2560 : Shape := ⟨2, ![4096, 2560]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2560, .bf16⟩
  | .hbm, ⟨2, _⟩ => ⟨S4096x2048, .f32⟩
  | .hbm, ⟨3, _⟩ => ⟨S2048x2560, .f32⟩
  | .hbm, ⟨4, _⟩ => ⟨S4096x2560, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mul3.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mul3Ideal.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulRef3Ideal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mul4.lean ====
abbrev S4096x2048 : Shape := ⟨2, ![4096, 2048]⟩
abbrev S2048x128 : Shape := ⟨2, ![2048, 128]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x128, .bf16⟩
  | .hbm, ⟨2, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mul4Ideal.lean ====
abbrev S4096x2048 : Shape := ⟨2, ![4096, 2048]⟩
abbrev S2048x128 : Shape := ⟨2, ![2048, 128]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x128, .bf16⟩
  | .hbm, ⟨2, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulRef4Ideal.lean ====
abbrev S4096x2048 : Shape := ⟨2, ![4096, 2048]⟩
abbrev S2048x128 : Shape := ⟨2, ![2048, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x128, .bf16⟩
  | .hbm, ⟨2, _⟩ => ⟨S4096x2048, .f32⟩
  | .hbm, ⟨3, _⟩ => ⟨S2048x128, .f32⟩
  | .hbm, ⟨4, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mul5.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mul5Ideal.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulRef5Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mul6.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mul6Ideal.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulRef6Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Norm0.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRef0Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Norm1.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRef1Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Dx0.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dx0Ideal.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxRef0Ideal.lean ====
abbrev S4096x2048 : Shape := ⟨2, ![4096, 2048]⟩
abbrev S5632x2048 : Shape := ⟨2, ![5632, 2048]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S5632x2048, .f32⟩
  | .hbm, ⟨3, _⟩ => ⟨S4096x2048, .f32⟩
  | .hbm, ⟨4, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dx1.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dx1Ideal.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxRef1Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S4096x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dx2.lean ====
abbrev S4096x128 : Shape := ⟨2, ![4096, 128]⟩
abbrev S2048x128 : Shape := ⟨2, ![2048, 128]⟩
abbrev S4096x2048 : Shape := ⟨2, ![4096, 2048]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S2048x128, .bf16⟩
  | .hbm, ⟨2, _⟩ => ⟨S4096x2048, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dx2Ideal.lean ====
abbrev S4096x128 : Shape := ⟨2, ![4096, 128]⟩
abbrev S2048x128 : Shape := ⟨2, ![2048, 128]⟩
abbrev S4096x2048 : Shape := ⟨2, ![4096, 2048]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S2048x128, .bf16⟩
  | .hbm, ⟨2, _⟩ => ⟨S4096x2048, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxRef2Ideal.lean ====
abbrev S4096x128 : Shape := ⟨2, ![4096, 128]⟩
abbrev S2048x128 : Shape := ⟨2, ![2048, 128]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S2048x128, .bf16⟩
  | .hbm, ⟨2, _⟩ => ⟨S2048x128, .f32⟩
  | .hbm, ⟨3, _⟩ => ⟨S4096x128, .f32⟩
  | .hbm, ⟨4, _⟩ => ⟨S4096x2048, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dx3.lean ====
abbrev S4096x11264 : Shape := ⟨2, ![4096, 11264]⟩
abbrev S2048x11264 : Shape := ⟨2, ![2048, 11264]⟩
abbrev S4096x2048 : Shape := ⟨2, ![4096, 2048]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dx3Ideal.lean ====
abbrev S4096x11264 : Shape := ⟨2, ![4096, 11264]⟩
abbrev S2048x11264 : Shape := ⟨2, ![2048, 11264]⟩
abbrev S4096x2048 : Shape := ⟨2, ![4096, 2048]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxRef3Ideal.lean ====
abbrev S4096x11264 : Shape := ⟨2, ![4096, 11264]⟩
abbrev S2048x11264 : Shape := ⟨2, ![2048, 11264]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S2048x11264, .f32⟩
  | .hbm, ⟨3, _⟩ => ⟨S4096x11264, .f32⟩
  | .hbm, ⟨4, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dx4.lean ====
abbrev S4096x8192 : Shape := ⟨2, ![4096, 8192]⟩
abbrev S2048x8192 : Shape := ⟨2, ![2048, 8192]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dx4Ideal.lean ====
abbrev S4096x8192 : Shape := ⟨2, ![4096, 8192]⟩
abbrev S2048x8192 : Shape := ⟨2, ![2048, 8192]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxRef4Ideal.lean ====
abbrev S4096x8192 : Shape := ⟨2, ![4096, 8192]⟩
abbrev S2048x8192 : Shape := ⟨2, ![2048, 8192]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S2048x8192, .f32⟩
  | .hbm, ⟨3, _⟩ => ⟨S4096x8192, .f32⟩
  | .hbm, ⟨4, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dx5.lean ====
abbrev S4096x2560 : Shape := ⟨2, ![4096, 2560]⟩
abbrev S2048x2560 : Shape := ⟨2, ![2048, 2560]⟩
abbrev S4096x2048 : Shape := ⟨2, ![4096, 2048]⟩
abbrev S1024x1280 : Shape := ⟨2, ![1024, 1280]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2560, .bf16⟩
  | .hbm, ⟨1, _⟩ => ⟨S2048x2560, .bf16⟩
  | .hbm, ⟨2, _⟩ => ⟨S4096x2048, .f32⟩
  | .local _ .vmem, ⟨0, _⟩ => ⟨S1024x1280, .bf16⟩
  | .local _ .vmem, ⟨1, _⟩ => ⟨S1024x1280, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dx5Ideal.lean ====
abbrev S4096x2560 : Shape := ⟨2, ![4096, 2560]⟩
abbrev S2048x2560 : Shape := ⟨2, ![2048, 2560]⟩
abbrev S4096x2048 : Shape := ⟨2, ![4096, 2048]⟩
abbrev S1024x1280 : Shape := ⟨2, ![1024, 1280]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2560, .bf16⟩
  | .hbm, ⟨1, _⟩ => ⟨S2048x2560, .bf16⟩
  | .hbm, ⟨2, _⟩ => ⟨S4096x2048, .f32⟩
  | .local _ .vmem, ⟨0, _⟩ => ⟨S1024x1280, .bf16⟩
  | .local _ .vmem, ⟨1, _⟩ => ⟨S1024x1280, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxRef5Ideal.lean ====
abbrev S4096x2560 : Shape := ⟨2, ![4096, 2560]⟩
abbrev S2048x2560 : Shape := ⟨2, ![2048, 2560]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S2048x2560, .bf16⟩
  | .hbm, ⟨2, _⟩ => ⟨S2048x2560, .f32⟩
  | .hbm, ⟨3, _⟩ => ⟨S4096x2560, .f32⟩
  | .hbm, ⟨4, _⟩ => ⟨S4096x2048, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dx6.lean ====
abbrev S4096x6144 : Shape := ⟨2, ![4096, 6144]⟩
abbrev S2048x6144 : Shape := ⟨2, ![2048, 6144]⟩
abbrev S4096x2048 : Shape := ⟨2, ![4096, 2048]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dx6Ideal.lean ====
abbrev S4096x6144 : Shape := ⟨2, ![4096, 6144]⟩
abbrev S2048x6144 : Shape := ⟨2, ![2048, 6144]⟩
abbrev S4096x2048 : Shape := ⟨2, ![4096, 2048]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxRef6Ideal.lean ====
abbrev S4096x6144 : Shape := ⟨2, ![4096, 6144]⟩
abbrev S2048x6144 : Shape := ⟨2, ![2048, 6144]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S2048x6144, .f32⟩
  | .hbm, ⟨3, _⟩ => ⟨S4096x6144, .f32⟩
  | .hbm, ⟨4, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dw0.lean ====
abbrev S4096x5632 : Shape := ⟨2, ![4096, 5632]⟩
abbrev S4096x2048 : Shape := ⟨2, ![4096, 2048]⟩
abbrev S5632x2048 : Shape := ⟨2, ![5632, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw0Ideal.lean ====
abbrev S4096x5632 : Shape := ⟨2, ![4096, 5632]⟩
abbrev S4096x2048 : Shape := ⟨2, ![4096, 2048]⟩
abbrev S5632x2048 : Shape := ⟨2, ![5632, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRef0Ideal.lean ====
abbrev S4096x5632 : Shape := ⟨2, ![4096, 5632]⟩
abbrev S4096x2048 : Shape := ⟨2, ![4096, 2048]⟩
abbrev S2048x5632 : Shape := ⟨2, ![2048, 5632]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S2048x5632, .f32⟩
  | .hbm, ⟨5, _⟩ => ⟨S5632x2048, .f32⟩
  | .hbm, ⟨6, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Dw1.lean ====
abbrev S4096x2048 : Shape := ⟨2, ![4096, 2048]⟩
abbrev S4096x11264 : Shape := ⟨2, ![4096, 11264]⟩
abbrev S2048x11264 : Shape := ⟨2, ![2048, 11264]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S2048x11264, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw1Ideal.lean ====
abbrev S4096x2048 : Shape := ⟨2, ![4096, 2048]⟩
abbrev S4096x11264 : Shape := ⟨2, ![4096, 11264]⟩
abbrev S2048x11264 : Shape := ⟨2, ![2048, 11264]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S2048x11264, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRef1Ideal.lean ====
abbrev S4096x2048 : Shape := ⟨2, ![4096, 2048]⟩
abbrev S4096x11264 : Shape := ⟨2, ![4096, 11264]⟩
abbrev S11264x2048 : Shape := ⟨2, ![11264, 2048]⟩
abbrev S2048x11264 : Shape := ⟨2, ![2048, 11264]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S4096x2048, .f32⟩
  | .hbm, ⟨3, _⟩ => ⟨S4096x11264, .f32⟩
  | .hbm, ⟨4, _⟩ => ⟨S11264x2048, .f32⟩
  | .hbm, ⟨5, _⟩ => ⟨S2048x11264, .f32⟩
  | .hbm, ⟨6, _⟩ => ⟨S2048x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Dw2.lean ====
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw2Ideal.lean ====
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRef2Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Dw3.lean ====
abbrev S4096x2048 : Shape := ⟨2, ![4096, 2048]⟩
abbrev S4096x8192 : Shape := ⟨2, ![4096, 8192]⟩
abbrev S2048x8192 : Shape := ⟨2, ![2048, 8192]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw3Ideal.lean ====
abbrev S4096x2048 : Shape := ⟨2, ![4096, 2048]⟩
abbrev S4096x8192 : Shape := ⟨2, ![4096, 8192]⟩
abbrev S2048x8192 : Shape := ⟨2, ![2048, 8192]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRef3Ideal.lean ====
abbrev S4096x2048 : Shape := ⟨2, ![4096, 2048]⟩
abbrev S4096x8192 : Shape := ⟨2, ![4096, 8192]⟩
abbrev S8192x2048 : Shape := ⟨2, ![8192, 2048]⟩
abbrev S2048x8192 : Shape := ⟨2, ![2048, 8192]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S2048x8192, .f32⟩
  | .hbm, ⟨6, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Dw4.lean ====
abbrev S4096x2048 : Shape := ⟨2, ![4096, 2048]⟩
abbrev S4096x2560 : Shape := ⟨2, ![4096, 2560]⟩
abbrev S2048x2560 : Shape := ⟨2, ![2048, 2560]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2560, .bf16⟩
  | .hbm, ⟨2, _⟩ => ⟨S2048x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw4Ideal.lean ====
abbrev S4096x2048 : Shape := ⟨2, ![4096, 2048]⟩
abbrev S4096x2560 : Shape := ⟨2, ![4096, 2560]⟩
abbrev S2048x2560 : Shape := ⟨2, ![2048, 2560]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2560, .bf16⟩
  | .hbm, ⟨2, _⟩ => ⟨S2048x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRef4Ideal.lean ====
abbrev S4096x2048 : Shape := ⟨2, ![4096, 2048]⟩
abbrev S4096x2560 : Shape := ⟨2, ![4096, 2560]⟩
abbrev S2560x2048 : Shape := ⟨2, ![2560, 2048]⟩
abbrev S2048x2560 : Shape := ⟨2, ![2048, 2560]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2560, .bf16⟩
  | .hbm, ⟨2, _⟩ => ⟨S4096x2048, .f32⟩
  | .hbm, ⟨3, _⟩ => ⟨S4096x2560, .f32⟩
  | .hbm, ⟨4, _⟩ => ⟨S2560x2048, .f32⟩
  | .hbm, ⟨5, _⟩ => ⟨S2048x2560, .f32⟩
  | .hbm, ⟨6, _⟩ => ⟨S2048x2560, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Dw5.lean ====
abbrev S4096x2048 : Shape := ⟨2, ![4096, 2048]⟩
abbrev S4096x6144 : Shape := ⟨2, ![4096, 6144]⟩
abbrev S2048x6144 : Shape := ⟨2, ![2048, 6144]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw5Ideal.lean ====
abbrev S4096x2048 : Shape := ⟨2, ![4096, 2048]⟩
abbrev S4096x6144 : Shape := ⟨2, ![4096, 6144]⟩
abbrev S2048x6144 : Shape := ⟨2, ![2048, 6144]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRef5Ideal.lean ====
abbrev S4096x2048 : Shape := ⟨2, ![4096, 2048]⟩
abbrev S4096x6144 : Shape := ⟨2, ![4096, 6144]⟩
abbrev S6144x2048 : Shape := ⟨2, ![6144, 2048]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4096x2048, .f32⟩
  | .hbm, ⟨3, _⟩ => ⟨S4096x6144, .f32⟩
  | .hbm, ⟨4, _⟩ => ⟨S6144x2048, .f32⟩
  | .hbm, ⟨5, _⟩ => ⟨S2048x6144, .f32⟩
  | .hbm, ⟨6, _⟩ => ⟨S2048x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Dw6.lean ====
abbrev S4096x2048 : Shape := ⟨2, ![4096, 2048]⟩
abbrev S4096x128 : Shape := ⟨2, ![4096, 128]⟩
abbrev S2048x128 : Shape := ⟨2, ![2048, 128]⟩
abbrev S1024x1024 : Shape := ⟨2, ![1024, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S2048x128, .bf16⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRef6Ideal.lean ====
abbrev S4096x2048 : Shape := ⟨2, ![4096, 2048]⟩
abbrev S4096x128 : Shape := ⟨2, ![4096, 128]⟩
abbrev S128x2048 : Shape := ⟨2, ![128, 2048]⟩
abbrev S2048x128 : Shape := ⟨2, ![2048, 128]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S4096x2048, .f32⟩
  | .hbm, ⟨3, _⟩ => ⟨S4096x128, .f32⟩
  | .hbm, ⟨4, _⟩ => ⟨S128x2048, .f32⟩
  | .hbm, ⟨5, _⟩ => ⟨S2048x128, .f32⟩
  | .hbm, ⟨6, _⟩ => ⟨S2048x128, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Conv.lean ====
abbrev S4096x6144 : Shape := ⟨2, ![4096, 6144]⟩
abbrev S3x2048 : Shape := ⟨2, ![3, 2048]⟩
abbrev S4096x2048 : Shape := ⟨2, ![4096, 2048]⟩
abbrev S256x512 : Shape := ⟨2, ![256, 512]⟩
abbrev S8x512 : Shape := ⟨2, ![8, 512]⟩
abbrev S3x512 : Shape := ⟨2, ![3, 512]⟩
abbrev S1x512 : Shape := ⟨2, ![1, 512]⟩

abbrev nBuf : Space → Nat
  | .hbm => 3
  | .vmem => 14
  | .smem => 0
  | _ => 0

abbrev bufTy : (tb : Table) → Fin (tcTables nBuf tb) → BufTy
  | .hbm, ⟨0, _⟩ => ⟨S4096x6144, .f32⟩
  | .hbm, ⟨1, _⟩ => ⟨S3x2048, .f32⟩
  | .hbm, ⟨2, _⟩ => ⟨S4096x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S3x512, .f32⟩
  | .local _ .vmem, ⟨11, _⟩ => ⟨S3x512, .f32⟩
  | .local _ .vmem, ⟨12, _⟩ => ⟨S256x512, .bf16⟩
  | .local _ .vmem, ⟨13, _⟩ => ⟨S256x512, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi arg1 c4_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi arg1 c8_i32
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvRefIdeal.lean ====
abbrev S4096x6144 : Shape := ⟨2, ![4096, 6144]⟩
abbrev S3x2048 : Shape := ⟨2, ![3, 2048]⟩
abbrev S4096x2048 : Shape := ⟨2, ![4096, 2048]⟩
abbrev S_ : Shape := ⟨0, ![]⟩
abbrev S4098x2048 : Shape := ⟨2, ![4098, 2048]⟩
abbrev S1x2048 : Shape := ⟨2, ![1, 2048]⟩
abbrev S2048 : Shape := ⟨1, ![2048]⟩

abbrev nBuf : Space → Nat
  | .hbm => 31
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S3x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .i32⟩
  | .hbm, ⟨7, _⟩ => ⟨S_, .f32⟩
  | .hbm, ⟨8, _⟩ => ⟨S4098x2048, .f32⟩
  | .hbm, ⟨9, _⟩ => ⟨S1x2048, .f32⟩
  | .hbm, ⟨10, _⟩ => ⟨S2048, .f32⟩
  | .hbm, ⟨11, _⟩ => ⟨S4096x2048, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== Glu.lean ====
abbrev S4096x11264 : Shape := ⟨2, ![4096, 11264]⟩
abbrev S3x11264 : Shape := ⟨2, ![3, 11264]⟩
abbrev S1x11264 : Shape := ⟨2, ![1, 11264]⟩
abbrev S4096x5632 : Shape := ⟨2, ![4096, 5632]⟩
abbrev S256x512 : Shape := ⟨2, ![256, 512]⟩
abbrev S8x512 : Shape := ⟨2, ![8, 512]⟩
abbrev S3x512 : Shape := ⟨2, ![3, 512]⟩
abbrev S1x512 : Shape := ⟨2, ![1, 512]⟩

abbrev nBuf : Space → Nat
  | .hbm => 6
  | .vmem => 22
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S1x11264, .f32⟩
  | .hbm, ⟨3, _⟩ => ⟨S4096x5632, .f32⟩
  | .hbm, ⟨4, _⟩ => ⟨S4096x5632, .f32⟩
  | .hbm, ⟨5, _⟩ => ⟨S4096x5632, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .bf16⟩
  | .local _ .vmem, ⟨21, _⟩ => ⟨S256x512, .bf16⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg1 c0_i32_0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg1 c11_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== GluRefIdeal.lean ====
abbrev S4096x11264 : Shape := ⟨2, ![4096, 11264]⟩
abbrev S3x11264 : Shape := ⟨2, ![3, 11264]⟩
abbrev S1x11264 : Shape := ⟨2, ![1, 11264]⟩
abbrev S_ : Shape := ⟨0, ![]⟩
abbrev S4098x11264 : Shape := ⟨2, ![4098, 11264]⟩
abbrev S11264 : Shape := ⟨1, ![11264]⟩
abbrev S4096x5632 : Shape := ⟨2, ![4096, 5632]⟩

abbrev nBuf : Space → Nat
  | .hbm => 41
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S1x11264, .f32⟩
  | .hbm, ⟨3, _⟩ => ⟨S_, .i32⟩
  | .hbm, ⟨4, _⟩ => ⟨S_, .f32⟩
  | .hbm, ⟨5, _⟩ => ⟨S4098x11264, .f32⟩
  | .hbm, ⟨6, _⟩ => ⟨S1x11264, .f32⟩
  | .hbm, ⟨7, _⟩ => ⟨S11264, .f32⟩
  | .hbm, ⟨8, _⟩ => ⟨S4096x11264, .f32⟩
  | .hbm, ⟨9, _⟩ => ⟨S1x11264, .f32⟩
  | .hbm, ⟨10, _⟩ => ⟨S4096x11264, .f32⟩
  | .hbm, ⟨11, _⟩ => ⟨S4096x11264, .f32⟩
  | .hbm, ⟨12, _⟩ => ⟨S1x11264, .f32⟩
  | .hbm, ⟨13, _⟩ => ⟨S11264, .f32⟩
  | .hbm, ⟨14, _⟩ => ⟨S4096x11264, .f32⟩
  | .hbm, ⟨15, _⟩ => ⟨S1x11264, .f32⟩
  | .hbm, ⟨16, _⟩ => ⟨S4096x11264, .f32⟩
  | .hbm, ⟨17, _⟩ => ⟨S4096x11264, .f32⟩
  | .hbm, ⟨18, _⟩ => ⟨S1x11264, .f32⟩
  | .hbm, ⟨19, _⟩ => ⟨S11264, .f32⟩
  | .hbm, ⟨20, _⟩ => ⟨S4096x11264, .f32⟩
  | .hbm, ⟨21, _⟩ => ⟨S1x11264, .f32⟩
  | .hbm, ⟨22, _⟩ => ⟨S4096x11264, .f32⟩
  | .hbm, ⟨23, _⟩ => ⟨S4096x11264, .f32⟩
  | .hbm, ⟨24, _⟩ => ⟨S4096x11264, .f32⟩
  | .hbm, ⟨25, _⟩ => ⟨S4096x11264, .f32⟩
  | .hbm, ⟨26, _⟩ => ⟨S4096x11264, .f32⟩
  | .hbm, ⟨27, _⟩ => ⟨S4096x11264, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S_, .f32⟩
  | .hbm, ⟨33, _⟩ => ⟨S4096x5632, .f32⟩
  | .hbm, ⟨34, _⟩ => ⟨S4096x5632, .f32⟩
  | .hbm, ⟨35, _⟩ => ⟨S_, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S4096x5632, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Adam.lean ====
/-
# One AdamW step

The step on a weight of any shape: what the host's operations give over the extended reals, entry by entry. The
division and the square root on the host are then those of the kernel, so the kernel's three arrays are the host's.
-/
module

public import Idealize.ShloMosaic.PureOps.Ideal
public import Idealize.ShloMosaic.Lib.StableHlo.Run

@[expose] public section

noncomputable section

namespace Cert.Adam

open Idealize.ShloMosaic

/-- An array of floats of shape `s`. -/
abbrev Arr (s : Shape) : Type := FVec Ideal s .f32

/-- An entry of such an array. -/
abbrev Num : Type := Ideal FTy.f32

/-- The word `b` in every entry of an array, as the host writes it. -/
abbrev fill {s : Shape} (h : (⟨0, ![]⟩ : Shape).BroadcastsInDim s (![] : Fin 0 → Fin s.rank)) (b : BitVec 32) : Arr s :=
  broadcastInDim s ![] h (constant (F := Ideal) ⟨0, ![]⟩ .f32 b)

/-- The word `b` as a float. -/
abbrev lit (b : BitVec 32) : Num := Scalar.ofBits .f32 b

/-- The new first moment of an entry, from its gradient and its first moment. -/
abbrev first (g m : Num) : Num :=
  FloatOps.addf (FloatOps.mulf (lit 0x3F666666#32) m) (FloatOps.mulf (lit 0x3DCCCCCD#32) g)

/-- The new second moment of an entry, from its gradient and its second moment. -/
abbrev second (g v : Num) : Num :=
  FloatOps.addf (FloatOps.mulf (lit 0x3F7FBE77#32) v) (FloatOps.mulf (lit 0x3A83126F#32) (FloatOps.mulf g g))

/-- The change of an entry, from its value, its gradient and its moments, with the kernel's division and root. -/
abbrev change (w g m v : Num) : Num :=
  FloatOps.mulf (lit 0xBA83126F#32) (FloatOps.addf
    (FloatOps.divf (FloatOps.divf (first g m) (lit 0x3F26BD02#32))
      (FloatOps.addf (FloatOps.sqrt (FloatOps.divf (second g v) (lit 0x3C231ACC#32))) (lit 0x322BCC77#32)))
    (FloatOps.mulf (lit 0x3C23D70A#32) w))

variable {s : Shape} (h : (⟨0, ![]⟩ : Shape).BroadcastsInDim s (![] : Fin 0 → Fin s.rank)) {w g m v w' g' m' v' : Arr s}

/-- The host's first moment, of arrays equal to the kernel's. -/
theorem first_eq (e : w' = w ∧ g' = g ∧ m' = m ∧ v' = v) :
    (addf (mulf (fill h 0x3F666666#32) m') (mulf (fill h 0x3DCCCCCD#32) g') : FVec Ideal s .f32) = fun i => first (g i) (m i) := by
  obtain ⟨rfl, rfl, rfl, rfl⟩ := e
  rfl

/-- The host's second moment, of arrays equal to the kernel's. -/
theorem second_eq (e : w' = w ∧ g' = g ∧ m' = m ∧ v' = v) :
    (addf (mulf (fill h 0x3F7FBE77#32) v') (mulf (fill h 0x3A83126F#32) (mulf g' g')) : Arr s)
      = fun i => second (g i) (v i) := by
  obtain ⟨rfl, rfl, rfl, rfl⟩ := e
  rfl

/-- The host's change of the weight, of arrays equal to the kernel's. -/
theorem change_eq (e : w' = w ∧ g' = g ∧ m' = m ∧ v' = v) :
    (mulf (fill h 0xBA83126F#32) (addf
      (Host.divf (Host.divf (addf (mulf (fill h 0x3F666666#32) m') (mulf (fill h 0x3DCCCCCD#32) g')) (fill h 0x3F26BD02#32))
        (addf (Host.sqrt (Host.divf (addf (mulf (fill h 0x3F7FBE77#32) v') (mulf (fill h 0x3A83126F#32) (mulf g' g')))
          (fill h 0x3C231ACC#32))) (fill h 0x322BCC77#32)))
      (mulf (fill h 0x3C23D70A#32) w')) : FVec Ideal s .f32) = fun i => change (w i) (g i) (m i) (v i) := by
  obtain ⟨rfl, rfl, rfl, rfl⟩ := e
  rfl

/-- The host's three arrays are the kernel's, of arrays equal to the kernel's; what else is known stays. -/
theorem step {d f n : Arr s} {rest : Prop} (e : w' = w ∧ g' = g ∧ m' = m ∧ v' = v)
    (k : d = mulf (fill h 0xBA83126F#32) (addf
        (Host.divf (Host.divf (addf (mulf (fill h 0x3F666666#32) m') (mulf (fill h 0x3DCCCCCD#32) g')) (fill h 0x3F26BD02#32))
          (addf (Host.sqrt (Host.divf (addf (mulf (fill h 0x3F7FBE77#32) v') (mulf (fill h 0x3A83126F#32) (mulf g' g')))
            (fill h 0x3C231ACC#32))) (fill h 0x322BCC77#32)))
        (mulf (fill h 0x3C23D70A#32) w'))
      ∧ f = addf (mulf (fill h 0x3F666666#32) m') (mulf (fill h 0x3DCCCCCD#32) g')
      ∧ n = addf (mulf (fill h 0x3F7FBE77#32) v') (mulf (fill h 0x3A83126F#32) (mulf g' g')) ∧ rest) :
    (d = fun i => change (w i) (g i) (m i) (v i)) ∧ (f = fun i => first (g i) (m i)) ∧ (n = fun i => second (g i) (v i))
      ∧ rest :=
  ⟨k.1.trans (change_eq h e), k.2.1.trans (first_eq h e), k.2.2.1.trans (second_eq h e), k.2.2.2⟩

end Cert.Adam

end
-- ==== Proof.Product.lean ====
/-
# Products of matrices, block by block

The product of two matrices over the extended reals, entry by entry: the host's product is that, and so is each block
of a kernel that multiplies whole rows by whole columns.
-/
module

public import Idealize.ShloMosaic.Lib.MatmulPlain
public import Idealize.ShloMosaic.Lib.StackMember

@[expose] public section

noncomputable section

namespace Cert.Product

open Idealize.ShloMosaic Idealize.ShloMosaic.ValueIdx
open scoped BigOperators

/-- The shape of a matrix. -/
abbrev Sq (a b : ℕ) : Shape := ⟨2, ![a, b]⟩

/-- The corner of a matrix. -/
theorem corner : (![0, 0] : Fin 2 → ℕ) = fun _ => 0 := by
  funext a
  match a with
  | ⟨0, _⟩ => rfl
  | ⟨1, _⟩ => rfl

variable {M K N : ℕ} {φ ψ : FTy}

/-- The product of two matrices, entry by entry. -/
def mul (A : FVec Ideal (Sq M K) φ) (B : FVec Ideal (Sq K N) ψ) : FVec Ideal (Sq M N) .f32 :=
  fun i => ∑ k : Fin K, A (ix2 (i 0) k) * B (ix2 k (i 1))

/-- The host's product of two matrices that are widened first is their product. -/
theorem host (A A' : FVec Ideal (Sq M K) .bf16) (B B' : FVec Ideal (Sq K N) .bf16) (h h' : FTy.bf16.bits < FTy.f32.bits)
    (e : A' = A ∧ B' = B) : Host.dotGeneral (DotDims.plain M K N) none (extf .f32 A' h) (extf .f32 B' h') = mul A B := by
  obtain ⟨rfl, rfl⟩ := e
  funext i
  exact (congrArg _ (eq_ix2 i)).trans (StackMember.dotGeneral_plain_apply none (extf .f32 A' h) (extf .f32 B' h') (i 0) (i 1))

/-- A product of blocks added to an array is, entry by entry, the sum over a stretch of the inner axis: `p` and `q` name the first row and
    the first column of the blocks in the whole matrices, and `s` their first inner place. -/
theorem part {m k n : ℕ} (A : FVec Ideal (Sq M K) φ) (B : FVec Ideal (Sq K N) ψ) (acc : FVec Ideal (Sq m n) .f32)
    (f : (Sq m k).Idx → (Sq M K).Idx) (g : (Sq k n).Idx → (Sq K N).Idx) (p q s : ℕ) (y : (Sq m n).Idx) (i : (Sq M N).Idx)
    (hi : (i 0).val = p + (y 0).val ∧ (i 1).val = q + (y 1).val) (hs : s + k ≤ K)
    (hf : ∀ x, (f x 0).val = p + (x 0).val ∧ (f x 1).val = s + (x 1).val)
    (hg : ∀ x, (g x 0).val = s + (x 0).val ∧ (g x 1).val = q + (x 1).val) :
    FloatOps.matmul (F := Ideal) (DotDims.plain m k n) none (fun x => A (f x) : FVec Ideal (Sq m k) φ) (fun x => B (g x) : FVec Ideal (Sq k n) ψ) acc y
      = acc y + ∑ x : Fin k, A (ix2 (i 0) ⟨s + x.val, by omega⟩) * B (ix2 ⟨s + x.val, by omega⟩ (i 1)) := by
  obtain ⟨u, v, rfl⟩ : ∃ (u : Fin m) (v : Fin n), y = ix2 u v := ⟨y 0, y 1, eq_ix2 y⟩
  rw [Ideal.matmul_plain_apply]
  refine congrArg _ (Finset.sum_congr rfl fun x _ => ?_)
  have ef : f (ix2 u x) = ix2 (i 0) ⟨s + x.val, by omega⟩ := by
    funext a
    apply Fin.ext
    match a with
    | ⟨0, _⟩ => exact (hf _).1.trans hi.1.symm
    | ⟨1, _⟩ => exact (hf _).2
  have eg : g (ix2 x v) = ix2 ⟨s + x.val, by omega⟩ (i 1) := by
    funext a
    apply Fin.ext
    match a with
    | ⟨0, _⟩ => exact (hg _).1
    | ⟨1, _⟩ => exact (hg _).2.trans hi.2.symm
  rw [ef, eg]
  rfl

/-- The sum over the first `n` places of the inner axis. -/
def upto (A : FVec Ideal (Sq M K) φ) (B : FVec Ideal (Sq K N) ψ) (n : ℕ) (i : (Sq M N).Idx) : Ideal .f32 :=
  ∑ k ∈ Finset.range n, (if h : k < K then A (ix2 (i 0) ⟨k, h⟩) * B (ix2 ⟨k, h⟩ (i 1)) else 0 : EReal)

theorem upto_all (A : FVec Ideal (Sq M K) φ) (B : FVec Ideal (Sq K N) ψ) (i : (Sq M N).Idx) : upto A B K i = mul A B i := by
  unfold upto mul
  rw [← Fin.sum_univ_eq_sum_range]
  exact Finset.sum_congr rfl fun k _ => dif_pos k.isLt

/-- A product of blocks added to the sum so far is the sum that reaches over their stretch of the inner axis too. -/
theorem grow {m k n : ℕ} (A : FVec Ideal (Sq M K) φ) (B : FVec Ideal (Sq K N) ψ) (z : Ideal .f32)
    (f : (Sq m k).Idx → (Sq M K).Idx) (g : (Sq k n).Idx → (Sq K N).Idx) (p q s : ℕ) (y : (Sq m n).Idx) (i : (Sq M N).Idx)
    (hz : z = upto A B s i)
    (hi : (i 0).val = p + (y 0).val ∧ (i 1).val = q + (y 1).val) (hs : s + k ≤ K)
    (hf : ∀ x, (f x 0).val = p + (x 0).val ∧ (f x 1).val = s + (x 1).val)
    (hg : ∀ x, (g x 0).val = s + (x 0).val ∧ (g x 1).val = q + (x 1).val) :
    FloatOps.addf z (FloatOps.matmul (F := Ideal) (DotDims.plain m k n) none (fun x => A (f x) : FVec Ideal (Sq m k) φ)
      (fun x => B (g x) : FVec Ideal (Sq k n) ψ) (constant (Sq m n) .f32 0x00000000#32) y) = upto A B (s + k) i := by
  rw [part A B _ f g p q s y i hi hs hf hg, hz]
  show (upto A B s i : EReal) + (Ideal.ofBits .f32 0x00000000#32 + _) = _
  rw [Ideal.ofBits_zero_f32, zero_add]
  unfold upto
  rw [Finset.sum_range_add]
  refine congrArg (_ + ·) ?_
  rw [← Fin.sum_univ_eq_sum_range (fun x => (if h : s + x < K then A (ix2 (i 0) ⟨s + x, h⟩) * B (ix2 ⟨s + x, h⟩ (i 1)) else 0 : EReal))]
  exact Finset.sum_congr rfl fun x _ => by
    have h : s + x.val < K := by omega
    rw [dif_pos h]

/-- A product of whole rows by whole columns is a block of the product. The blocks are numbered: `a` and `b` are the
    numbers of the two factors' blocks, and `c` that of the product's. -/
theorem block {m n : ℕ} (A : FVec Ideal (Sq M K) φ) (B : FVec Ideal (Sq K N) ψ) (f : (Sq m K).Idx → (Sq M K).Idx)
    (g : (Sq K n).Idx → (Sq K N).Idx) (a b c : Fin 2 → ℕ) (y : (Sq m n).Idx) (i : (Sq M N).Idx)
    (h : a 0 = c 0 ∧ a 1 = 0 ∧ b 0 = 0 ∧ b 1 = c 1)
    (hi : (i 0).val = c 0 * m + 1 * (y 0).val ∧ (i 1).val = c 1 * n + 1 * (y 1).val)
    (hf : ∀ x, (f x 0).val = a 0 * m + 1 * (x 0).val ∧ (f x 1).val = a 1 * K + 1 * (x 1).val)
    (hg : ∀ x, (g x 0).val = b 0 * K + 1 * (x 0).val ∧ (g x 1).val = b 1 * n + 1 * (x 1).val) :
    FloatOps.matmul (F := Ideal) (DotDims.plain m K n) none (fun x => A (f x) : FVec Ideal (Sq m K) φ) (fun x => B (g x) : FVec Ideal (Sq K n) ψ)
      (constant (Sq m n) .f32 0x00000000#32) y = mul A B i := by
  obtain ⟨h0, h1, h2, h3⟩ := h
  simp only [one_mul, h0, h1, h2, h3, zero_mul] at hi hf hg
  rw [part A B _ f g _ _ 0 y i hi (by omega) hf hg]
  simp only [Nat.zero_add]
  show Ideal.ofBits .f32 0x00000000#32 + _ = _
  rw [Ideal.ofBits_zero_f32, zero_add]
  rfl

/-- Where every block has a point of the grid, an entry lies in the block of some point. -/
theorem met {P Q m n : ℕ} {T : Type} {c : T → Fin 2 → ℕ} (h : ∀ (p : Fin P) (q : Fin Q), ∃ t, c t = ![p.val, q.val]) (hM : M = P * m) (hN : N = Q * n)
    (i : (Sq M N).Idx) : ∃ t, ∀ a : Fin 2, c t a * ![m, n] a ≤ (i a).val ∧ (i a).val < c t a * ![m, n] a + ![m, n] a := by
  subst hM hN
  have key (x w r : ℕ) (hx : x < r * w) : x / w < r ∧ x / w * w ≤ x ∧ x < x / w * w + w :=
    have hw : 0 < w := Nat.pos_of_ne_zero fun e => by simp [e] at hx
    ⟨(Nat.div_lt_iff_lt_mul hw).2 hx, Nat.div_mul_le_self x w,
      by have := Nat.div_add_mod x w; have := Nat.mod_lt x hw; have := Nat.mul_comm w (x / w); omega⟩
  have h0 := key _ _ _ (i 0).isLt
  have h1 := key _ _ _ (i 1).isLt
  obtain ⟨t, e⟩ := h ⟨_, h0.1⟩ ⟨_, h1.1⟩
  refine ⟨t, fun a => ?_⟩
  rw [e]
  match a with
  | ⟨0, _⟩ => exact h0.2
  | ⟨1, _⟩ => exact h1.2

end Cert.Product

end
-- ==== Proof.Whole.lean ====
/-
# The products with one inner block

The forward products of the layers whose inner axis, of 2048 places, is one block: at each point of the grid the
kernel multiplies 1024 whole rows by a number of whole columns, so the array that it leaves is the product. For each
number of columns `numbers` says which blocks a point of the grid takes, and that every block of the product is
taken by some point; `final` is then an instance of what `Product.lean` proves of any blocks.
-/
module

public import proofs.«01_k».proof.Proof.Product
public import proofs.«01_k».proof.Proof.Gen.Mul0Ideal.Value
public import proofs.«01_k».proof.Proof.Gen.Mul1Ideal.Value
public import proofs.«01_k».proof.Proof.Gen.Mul2Ideal.Value
public import proofs.«01_k».proof.Proof.Gen.Mul3Ideal.Value
public import proofs.«01_k».proof.Proof.Gen.Mul4Ideal.Value
public import proofs.«01_k».proof.Proof.Gen.Mul5Ideal.Value

@[expose] public section

noncomputable section

open Idealize.ShloMosaic Idealize.ShloMosaic.TcCoe

namespace Cert.Mul0Ideal.Whole

open Cert.Mul0Ideal Cert.Mul0Ideal.Gen Cert.Product

theorem numbers : (∀ t : Fin cfg0.N, win0_0.index t 0 = win0_2.index t 0 ∧ win0_0.index t 1 = 0 ∧ win0_1.index t 0 = 0 ∧ win0_1.index t 1 = win0_2.index t 1)
    ∧ ∀ (p : Fin 4) (q : Fin 11), ∃ t : Fin cfg0.N, win0_2.index t = ![p.val, q.val] :=
  ⟨(by decide +kernel : ∀ t : Fin grid0.N, _), (by decide +kernel : ∀ (p : Fin 4) (q : Fin 11), ∃ t : Fin grid0.N, win0_2.index t = ![p.val, q.val])⟩

/-- 11264 columns, as in the feed-forward blocks' first product: the array that the kernel leaves is the product of its arguments. -/
theorem final (m : (ℓ : Loc nD τ sig) → Buf (Elt Ideal) ℓ) (c : Dev nD) :
    (dats m 0 c).arrAt 2 cfg0.N = @mul 4096 2048 11264 .bf16 .bf16 (m ((c : Thread nD τ).loc main_arg0)) (m ((c : Thread nD τ).loc main_arg1)) := by
  rw [← V_main_arg0 m c, ← V_main_arg1 m c]
  refine (dats m 0 c).arrAt_eq_of_cover 2 _ (fun t _ => ?_) (fun i => ?_)
  · rw [Value.flushed2]
    unfold out0_2
    rw [View.canon_unit_zero corner]
    simp only [View.ld_unit_zero (S := S1024x2048) corner, View.ld_unit_zero (S := S2048x1024) corner]
    exact funext fun y => @block 4096 2048 11264 .bf16 .bf16 1024 1024 (V m c main_arg0) (V m c main_arg1) ((cfg0.win 0).blk t).view.emb ((cfg0.win 1).blk t).view.emb
      (win0_0.index t) (win0_1.index t) (win0_2.index t) y (((cfg0.win 2).blk t).view.emb y) (numbers.1 t) ⟨rfl, rfl⟩ (fun _ => ⟨rfl, rfl⟩) (fun _ => ⟨rfl, rfl⟩)
  · obtain ⟨t, h⟩ := @met 4096 11264 4 11 1024 1024 _ _ numbers.2 rfl rfl i
    refine ⟨t, flush0_2 t, ?_⟩
    show i ∈ ((View.whole main_v0).slice (win0_2.rect t)).set
    rw [View.set_slice_whole, Rect.mem_set_unit]
    exact h

end Cert.Mul0Ideal.Whole

namespace Cert.Mul1Ideal.Whole

open Cert.Mul1Ideal Cert.Mul1Ideal.Gen Cert.Product

theorem numbers : (∀ t : Fin cfg0.N, win0_0.index t 0 = win0_2.index t 0 ∧ win0_0.index t 1 = 0 ∧ win0_1.index t 0 = 0 ∧ win0_1.index t 1 = win0_2.index t 1)
    ∧ ∀ (p : Fin 4) (q : Fin 8), ∃ t : Fin cfg0.N, win0_2.index t = ![p.val, q.val] :=
  ⟨(by decide +kernel : ∀ t : Fin grid0.N, _), (by decide +kernel : ∀ (p : Fin 4) (q : Fin 8), ∃ t : Fin grid0.N, win0_2.index t = ![p.val, q.val])⟩

/-- 8192 columns, as in the first product of the first and of the fourth mixer: the array that the kernel leaves is the product of its arguments. -/
theorem final (m : (ℓ : Loc nD τ sig) → Buf (Elt Ideal) ℓ) (c : Dev nD) :
    (dats m 0 c).arrAt 2 cfg0.N = @mul 4096 2048 8192 .bf16 .bf16 (m ((c : Thread nD τ).loc main_arg0)) (m ((c : Thread nD τ).loc main_arg1)) := by
  rw [← V_main_arg0 m c, ← V_main_arg1 m c]
  refine (dats m 0 c).arrAt_eq_of_cover 2 _ (fun t _ => ?_) (fun i => ?_)
  · rw [Value.flushed2]
    unfold out0_2
    rw [View.canon_unit_zero corner]
    simp only [View.ld_unit_zero (S := S1024x2048) corner, View.ld_unit_zero (S := S2048x1024) corner]
    exact funext fun y => @block 4096 2048 8192 .bf16 .bf16 1024 1024 (V m c main_arg0) (V m c main_arg1) ((cfg0.win 0).blk t).view.emb ((cfg0.win 1).blk t).view.emb
      (win0_0.index t) (win0_1.index t) (win0_2.index t) y (((cfg0.win 2).blk t).view.emb y) (numbers.1 t) ⟨rfl, rfl⟩ (fun _ => ⟨rfl, rfl⟩) (fun _ => ⟨rfl, rfl⟩)
  · obtain ⟨t, h⟩ := @met 4096 8192 4 8 1024 1024 _ _ numbers.2 rfl rfl i
    refine ⟨t, flush0_2 t, ?_⟩
    show i ∈ ((View.whole main_v0).slice (win0_2.rect t)).set
    rw [View.set_slice_whole, Rect.mem_set_unit]
    exact h

end Cert.Mul1Ideal.Whole

namespace Cert.Mul2Ideal.Whole

open Cert.Mul2Ideal Cert.Mul2Ideal.Gen Cert.Product

theorem numbers : (∀ t : Fin cfg0.N, win0_0.index t 0 = win0_2.index t 0 ∧ win0_0.index t 1 = 0 ∧ win0_1.index t 0 = 0 ∧ win0_1.index t 1 = win0_2.index t 1)
    ∧ ∀ (p : Fin 4) (q : Fin 4), ∃ t : Fin cfg0.N, win0_2.index t = ![p.val, q.val] :=
  ⟨(by decide +kernel : ∀ t : Fin grid0.N, _), (by decide +kernel : ∀ (p : Fin 4) (q : Fin 4), ∃ t : Fin grid0.N, win0_2.index t = ![p.val, q.val])⟩

/-- 2560 columns, as in the second mixer's first product: the array that the kernel leaves is the product of its arguments. -/
theorem final (m : (ℓ : Loc nD τ sig) → Buf (Elt Ideal) ℓ) (c : Dev nD) :
    (dats m 0 c).arrAt 2 cfg0.N = @mul 4096 2048 2560 .bf16 .bf16 (m ((c : Thread nD τ).loc main_arg0)) (m ((c : Thread nD τ).loc main_arg1)) := by
  rw [← V_main_arg0 m c, ← V_main_arg1 m c]
  refine (dats m 0 c).arrAt_eq_of_cover 2 _ (fun t _ => ?_) (fun i => ?_)
  · rw [Value.flushed2]
    unfold out0_2
    rw [View.canon_unit_zero corner]
    simp only [View.ld_unit_zero (S := S1024x2048) corner, View.ld_unit_zero (S := S2048x640) corner]
    exact funext fun y => @block 4096 2048 2560 .bf16 .bf16 1024 640 (V m c main_arg0) (V m c main_arg1) ((cfg0.win 0).blk t).view.emb ((cfg0.win 1).blk t).view.emb
      (win0_0.index t) (win0_1.index t) (win0_2.index t) y (((cfg0.win 2).blk t).view.emb y) (numbers.1 t) ⟨rfl, rfl⟩ (fun _ => ⟨rfl, rfl⟩) (fun _ => ⟨rfl, rfl⟩)
  · obtain ⟨t, h⟩ := @met 4096 2560 4 4 1024 640 _ _ numbers.2 rfl rfl i
    refine ⟨t, flush0_2 t, ?_⟩
    show i ∈ ((View.whole main_v0).slice (win0_2.rect t)).set
    rw [View.set_slice_whole, Rect.mem_set_unit]
    exact h

end Cert.Mul2Ideal.Whole

namespace Cert.Mul3Ideal.Whole

open Cert.Mul3Ideal Cert.Mul3Ideal.Gen Cert.Product

theorem numbers : (∀ t : Fin cfg0.N, win0_0.index t 0 = win0_2.index t 0 ∧ win0_0.index t 1 = 0 ∧ win0_1.index t 0 = 0 ∧ win0_1.index t 1 = win0_2.index t 1)
    ∧ ∀ (p : Fin 4) (q : Fin 6), ∃ t : Fin cfg0.N, win0_2.index t = ![p.val, q.val] :=
  ⟨(by decide +kernel : ∀ t : Fin grid0.N, _), (by decide +kernel : ∀ (p : Fin 4) (q : Fin 6), ∃ t : Fin grid0.N, win0_2.index t = ![p.val, q.val])⟩

/-- 6144 columns, as in the third mixer's first product: the array that the kernel leaves is the product of its arguments. -/
theorem final (m : (ℓ : Loc nD τ sig) → Buf (Elt Ideal) ℓ) (c : Dev nD) :
    (dats m 0 c).arrAt 2 cfg0.N = @mul 4096 2048 6144 .bf16 .bf16 (m ((c : Thread nD τ).loc main_arg0)) (m ((c : Thread nD τ).loc main_arg1)) := by
  rw [← V_main_arg0 m c, ← V_main_arg1 m c]
  refine (dats m 0 c).arrAt_eq_of_cover 2 _ (fun t _ => ?_) (fun i => ?_)
  · rw [Value.flushed2]
    unfold out0_2
    rw [View.canon_unit_zero corner]
    simp only [View.ld_unit_zero (S := S1024x2048) corner, View.ld_unit_zero (S := S2048x1024) corner]
    exact funext fun y => @block 4096 2048 6144 .bf16 .bf16 1024 1024 (V m c main_arg0) (V m c main_arg1) ((cfg0.win 0).blk t).view.emb ((cfg0.win 1).blk t).view.emb
      (win0_0.index t) (win0_1.index t) (win0_2.index t) y (((cfg0.win 2).blk t).view.emb y) (numbers.1 t) ⟨rfl, rfl⟩ (fun _ => ⟨rfl, rfl⟩) (fun _ => ⟨rfl, rfl⟩)
  · obtain ⟨t, h⟩ := @met 4096 6144 4 6 1024 1024 _ _ numbers.2 rfl rfl i
    refine ⟨t, flush0_2 t, ?_⟩
    show i ∈ ((View.whole main_v0).slice (win0_2.rect t)).set
    rw [View.set_slice_whole, Rect.mem_set_unit]
    exact h

end Cert.Mul3Ideal.Whole

namespace Cert.Mul4Ideal.Whole

open Cert.Mul4Ideal Cert.Mul4Ideal.Gen Cert.Product

theorem numbers : (∀ t : Fin cfg0.N, win0_0.index t 0 = win0_2.index t 0 ∧ win0_0.index t 1 = 0 ∧ win0_1.index t 0 = 0 ∧ win0_1.index t 1 = win0_2.index t 1)
    ∧ ∀ (p : Fin 4) (q : Fin 1), ∃ t : Fin cfg0.N, win0_2.index t = ![p.val, q.val] :=
  ⟨(by decide +kernel : ∀ t : Fin grid0.N, _), (by decide +kernel : ∀ (p : Fin 4) (q : Fin 1), ∃ t : Fin grid0.N, win0_2.index t = ![p.val, q.val])⟩

/-- 128 columns, as in the fourth mixer's decays: the array that the kernel leaves is the product of its arguments. -/
theorem final (m : (ℓ : Loc nD τ sig) → Buf (Elt Ideal) ℓ) (c : Dev nD) :
    (dats m 0 c).arrAt 2 cfg0.N = @mul 4096 2048 128 .bf16 .bf16 (m ((c : Thread nD τ).loc main_arg0)) (m ((c : Thread nD τ).loc main_arg1)) := by
  rw [← V_main_arg0 m c, ← V_main_arg1 m c]
  refine (dats m 0 c).arrAt_eq_of_cover 2 _ (fun t _ => ?_) (fun i => ?_)
  · rw [Value.flushed2]
    unfold out0_2
    rw [View.canon_unit_zero corner]
    simp only [View.ld_unit_zero (S := S1024x2048) corner, View.ld_unit_zero (S := S2048x128) corner]
    exact funext fun y => @block 4096 2048 128 .bf16 .bf16 1024 128 (V m c main_arg0) (V m c main_arg1) ((cfg0.win 0).blk t).view.emb ((cfg0.win 1).blk t).view.emb
      (win0_0.index t) (win0_1.index t) (win0_2.index t) y (((cfg0.win 2).blk t).view.emb y) (numbers.1 t) ⟨rfl, rfl⟩ (fun _ => ⟨rfl, rfl⟩) (fun _ => ⟨rfl, rfl⟩)
  · obtain ⟨t, h⟩ := @met 4096 128 4 1 1024 128 _ _ numbers.2 rfl rfl i
    refine ⟨t, flush0_2 t, ?_⟩
    show i ∈ ((View.whole main_v0).slice (win0_2.rect t)).set
    rw [View.set_slice_whole, Rect.mem_set_unit]
    exact h

end Cert.Mul4Ideal.Whole

namespace Cert.Mul5Ideal.Whole

open Cert.Mul5Ideal Cert.Mul5Ideal.Gen Cert.Product

theorem numbers : (∀ t : Fin cfg0.N, win0_0.index t 0 = win0_2.index t 0 ∧ win0_0.index t 1 = 0 ∧ win0_1.index t 0 = 0 ∧ win0_1.index t 1 = win0_2.index t 1)
    ∧ ∀ (p : Fin 4) (q : Fin 2), ∃ t : Fin cfg0.N, win0_2.index t = ![p.val, q.val] :=
  ⟨(by decide +kernel : ∀ t : Fin grid0.N, _), (by decide +kernel : ∀ (p : Fin 4) (q : Fin 2), ∃ t : Fin grid0.N, win0_2.index t = ![p.val, q.val])⟩

/-- 2048 columns, as in the last product of every mixer: the array that the kernel leaves is the product of its arguments. -/
theorem final (m : (ℓ : Loc nD τ sig) → Buf (Elt Ideal) ℓ) (c : Dev nD) :
    (dats m 0 c).arrAt 2 cfg0.N = @mul 4096 2048 2048 .bf16 .bf16 (m ((c : Thread nD τ).loc main_arg0)) (m ((c : Thread nD τ).loc main_arg1)) := by
  rw [← V_main_arg0 m c, ← V_main_arg1 m c]
  refine (dats m 0 c).arrAt_eq_of_cover 2 _ (fun t _ => ?_) (fun i => ?_)
  · rw [Value.flushed2]
    unfold out0_2
    rw [View.canon_unit_zero corner]
    simp only [View.ld_unit_zero (S := S1024x2048) corner, View.ld_unit_zero (S := S2048x1024) corner]
    exact funext fun y => @block 4096 2048 2048 .bf16 .bf16 1024 1024 (V m c main_arg0) (V m c main_arg1) ((cfg0.win 0).blk t).view.emb ((cfg0.win 1).blk t).view.emb
      (win0_0.index t) (win0_1.index t) (win0_2.index t) y (((cfg0.win 2).blk t).view.emb y) (numbers.1 t) ⟨rfl, rfl⟩ (fun _ => ⟨rfl, rfl⟩) (fun _ => ⟨rfl, rfl⟩)
  · obtain ⟨t, h⟩ := @met 4096 2048 4 2 1024 1024 _ _ numbers.2 rfl rfl i
    refine ⟨t, flush0_2 t, ?_⟩
    show i ∈ ((View.whole main_v0).slice (win0_2.rect t)).set
    rw [View.set_slice_whole, Rect.mem_set_unit]
    exact h

end Cert.Mul5Ideal.Whole

end
-- ==== Proof.Sums.lean ====
/-
# The product with several inner blocks

The forward product of the first layer's last weight has an inner axis of 5632 places, which the kernel takes in four
stretches of 1408: it keeps the sum so far in a scratch block, which the first stretch starts and the fourth hands
out. After each point the scratch holds the sum over the stretches so far (`kept`), so the array is the product.
-/
module

public import proofs.«01_k».proof.Proof.Product
public import proofs.«01_k».proof.Proof.Gen.Mul6Ideal.Value

@[expose] public section

noncomputable section

open Idealize.ShloMosaic Idealize.ShloMosaic.TcCoe Idealize.ShloMosaic.Tactic

namespace Cert.Mul6Ideal.Whole

open Cert.Mul6Ideal Cert.Mul6Ideal.Gen Cert.Product

section cases

variable (c : Dev nD) (i : grid0.Coords) (a0 : Memref sig .tc .vmem S1024x1408 .bf16) (h0 : a0.IsWhole)
  (a1 : Memref sig .tc .vmem S1408x1024 .bf16) (h1 : a1.IsWhole) (a2 a3 : Memref sig .tc .vmem S1024x1024 .f32)
  (h2 : a2.IsWhole) (h3 : a3.IsWhole) (x0 : Vec Ideal S1024x1408 .bf16) (x1 : Vec Ideal S1408x1024 .bf16)
  (z : Vec Ideal S1024x1024 .f32)

/-- The first stretch leaves its own sum. -/
theorem first (k0 : cond0_0 i) (k1 : ¬cond0_1 i) (k2 : ¬cond0_2 i) :
    sout0_A_0 c i a0 h0 a1 h1 a2 h2 a3 h3 k0 k1 k2 x0 x1 = k0_pay1 x0 x1 := by
  unfold sout0_A_0
  rw [View.read_writes_eq_canon _ _ _ (scover0_A_0 c i a0 h0 a1 h1 a2 h2 a3 h3 k0 k1 k2 x0 x1)]
  unfold kernelRun0_A
  dsimp only
  rw [View.canon_unit_zero (S := S1024x1024) corner]
  unfold k0_pay2
  simp only [View.readAt_eq_ld, h0.read_unread, h1.read_unread, View.ld_unit_zero (S := S1024x1408) corner,
    View.ld_unit_zero (S := S1408x1024) corner, shapeCast_self]

/-- The stretches between add theirs. -/
theorem between (k0 : ¬cond0_0 i) (k1 : cond0_1 i) (k2 : ¬cond0_2 i) :
    sout0_B_0 c i a0 h0 a1 h1 a2 h2 a3 h3 k0 k1 k2 x0 x1 z = addf z (k0_pay1 x0 x1) := by
  unfold sout0_B_0
  rw [View.read_writes_eq_canon _ _ _ (scover0_B_0 c i a0 h0 a1 h1 a2 h2 a3 h3 k0 k1 k2 x0 x1 z)]
  unfold kernelRun0_B
  dsimp only
  rw [View.canon_unit_zero (S := S1024x1024) corner]
  unfold k0_pay3
  simp only [View.readAt_eq_ld, h0.read_unread, h1.read_unread, h3.read_unread, View.ld_unit_zero (S := S1024x1408) corner,
    View.ld_unit_zero (S := S1408x1024) corner, View.ld_unit_zero (S := S1024x1024) corner, shapeCast_self]

/-- The last stretch adds its own, -/
theorem last (k0 : ¬cond0_0 i) (k1 : cond0_1 i) (k2 : cond0_2 i) :
    sout0_C_0 c i a0 h0 a1 h1 a2 h2 a3 h3 k0 k1 k2 x0 x1 z = addf z (k0_pay1 x0 x1) := by
  unfold sout0_C_0
  rw [View.read_writes_eq_canon _ _ _ (scover0_C_0 c i a0 h0 a1 h1 a2 h2 a3 h3 k0 k1 k2 x0 x1 z)]
  unfold kernelRun0_C
  dsimp only
  sl_unfold_words
  rw [View.canon_unit_zero (S := S1024x1024) corner]
  unfold k0_pay3
  simp only [View.readAt_eq_ld, h0.read_unread, h1.read_unread, h3.read_unread, View.ld_unit_zero (S := S1024x1408) corner,
    View.ld_unit_zero (S := S1408x1024) corner, View.ld_unit_zero (S := S1024x1024) corner, shapeCast_self]

/-- and hands the sum out. -/
theorem handed (k0 : ¬cond0_0 i) (k1 : cond0_1 i) (k2 : cond0_2 i) :
    out0_C_2 c i a0 h0 a1 h1 a2 h2 a3 h3 k0 k1 k2 x0 x1 z = addf z (k0_pay1 x0 x1) := by
  unfold out0_C_2
  rw [View.read_writes_eq_canon _ _ _ (cover0_C_2 c i a0 h0 a1 h1 a2 h2 a3 h3 k0 k1 k2 x0 x1 z)]
  unfold kernelRun0_C
  dsimp only
  sl_unfold_words
  rw [View.canon_unit_zero (S := S1024x1024) corner]
  simp only [View.readCov_unit_zero (S := S1024x1024) _ corner]
  unfold k0_pay3
  simp only [View.readAt_eq_ld, h0.read_unread, h1.read_unread, h3.read_unread, View.ld_unit_zero (S := S1024x1408) corner,
    View.ld_unit_zero (S := S1408x1024) corner, View.ld_unit_zero (S := S1024x1024) corner, shapeCast_self]

end cases

/-- Each point takes its stretch of the block's rows and columns; the four points of a block follow one another; and
    every block is taken. -/
theorem numbers : (∀ t, win0_0.index t = ![win0_2.index t 0, t.val % 4] ∧ win0_1.index t = ![t.val % 4, win0_2.index t 1])
    ∧ (∀ t u : Fin grid0.N, t.val = u.val + 1 → t.val % 4 ≠ 0 → win0_2.index u = win0_2.index t)
    ∧ ∀ (p : Fin 4) (q : Fin 2), ∃ t : {t : Fin grid0.N // t.val % 4 = 3}, win0_2.index t.1 = ![p.val, q.val] := by decide

variable (m : (ℓ : Loc nD τ sig) → Buf (Elt Ideal) ℓ)

/-- Where the entries of a point's block of the product lie. -/
abbrev place (t : Fin cfg0.N) : S1024x1024.Idx → S4096x2048.Idx := ((cfg0.win 2).blk t).view.emb

/-- The sum over the first stretches. -/
abbrev sum (c : Dev nD) (n : ℕ) (i : S4096x2048.Idx) : Ideal .f32 :=
  @upto 4096 5632 2048 .bf16 .bf16 (V m c main_arg0) (V m c main_arg1) (n * 1408) i

/-- A point's own sum takes the sum so far one stretch further. -/
theorem step (c : Dev nD) (t : Fin cfg0.N) (z : Ideal .f32) (y : S1024x1024.Idx) (hz : z = sum m c (t.val % 4) (place t y)) :
    FloatOps.addf z (k0_pay1 (iblk m c 0 t) (iblk m c 1 t) y) = sum m c (t.val % 4 + 1) (place t y) := by
  obtain ⟨n0, n1⟩ := numbers.1 t
  refine (@grow 4096 5632 2048 .bf16 .bf16 1024 1408 1024 (V m c main_arg0) (V m c main_arg1) z
    ((cfg0.win 0).blk t).view.emb ((cfg0.win 1).blk t).view.emb (win0_2.index t 0 * 1024) (win0_2.index t 1 * 1024) (t.val % 4 * 1408) y (place t y) hz
    ⟨?_, ?_⟩ ?_ (fun x => ⟨?_, ?_⟩) (fun x => ⟨?_, ?_⟩)).trans ?_
  · exact congrArg (_ + ·) (one_mul _)
  · exact congrArg (_ + ·) (one_mul _)
  · omega
  · show win0_0.index t 0 * 1024 + 1 * (x 0).val = _
    rw [n0, one_mul]; rfl
  · show win0_0.index t 1 * 1408 + 1 * (x 1).val = _
    rw [n0, one_mul]; rfl
  · show win0_1.index t 0 * 1408 + 1 * (x 0).val = _
    rw [n1, one_mul]; rfl
  · show win0_1.index t 1 * 1024 + 1 * (x 1).val = _
    rw [n1, one_mul]; rfl
  · exact congrArg (fun n => @upto 4096 5632 2048 .bf16 .bf16 (V m c main_arg0) (V m c main_arg1) n (place t y)) (Nat.succ_mul _ _).symm

/-- The next point of the same block has it in the same place. -/
theorem stays (t u : Fin cfg0.N) (h : t.val = u.val + 1) (h0 : t.val % 4 ≠ 0) (y : S1024x1024.Idx) : place u y = place t y := by
  have e := numbers.2.1 t u h h0
  funext a
  apply Fin.ext
  match a with
  | ⟨0, _⟩ => show win0_2.index u 0 * 1024 + 1 * (y 0).val = win0_2.index t 0 * 1024 + 1 * (y 0).val; rw [e]
  | ⟨1, _⟩ => show win0_2.index u 1 * 1024 + 1 * (y 1).val = win0_2.index t 1 * 1024 + 1 * (y 1).val; rw [e]

/-- After each point the scratch holds the sum so far. -/
theorem kept (c : Dev nD) (n : ℕ) (h : n < cfg0.N) : (outsAt0 m c n h).2 = fun y => sum m c (n % 4 + 1) (place ⟨n, h⟩ y) := by
  induction n with
  | zero =>
    rw [outsAt0_A m c ⟨0, h⟩ rfl (by simp) (by simp)]
    dsimp only
    rw [first]
    funext y
    refine Eq.trans ?_ (step m c ⟨0, h⟩ 0 y ?_)
    · exact (zero_add _).symm
    · show (0 : EReal) = upto _ _ (0 * 1408) _
      simp [upto]
  | succ n ih =>
    have ih := ih (Nat.lt_of_succ_lt h)
    by_cases e0 : (n + 1) % 4 = 0
    · rw [outsAt0_A m c ⟨n + 1, h⟩ e0 (by dsimp only; omega) (by dsimp only; omega)]
      dsimp only
      rw [first]
      funext y
      refine Eq.trans ?_ (step m c ⟨n + 1, h⟩ 0 y ?_)
      · exact (zero_add _).symm
      · show (0 : EReal) = upto _ _ ((n + 1) % 4 * 1408) _
        rw [e0]
        simp [upto]
    · have so (y) : (outsAt0 m c n (Nat.lt_of_succ_lt h)).2 y = sum m c ((n + 1) % 4) (place ⟨n + 1, h⟩ y) := by
        rw [ih, ← stays ⟨n + 1, h⟩ ⟨n, Nat.lt_of_succ_lt h⟩ rfl e0 y]
        show sum m c (n % 4 + 1) _ = _
        rw [show n % 4 + 1 = (n + 1) % 4 by omega]
      by_cases e2 : (n + 1) % 4 = 3
      · rw [outsAt0_C m c ⟨n + 1, h⟩ e0 (by dsimp only; omega) e2]
        dsimp only
        rw [last]
        exact funext fun y => step m c ⟨n + 1, h⟩ _ y (so y)
      · rw [outsAt0_B m c ⟨n + 1, h⟩ e0 (by dsimp only; omega) e2]
        dsimp only
        rw [between]
        exact funext fun y => step m c ⟨n + 1, h⟩ _ y (so y)

/-- The array that the product leaves. -/
theorem final (c : Dev nD) : (dats m 0 c).arrAt 2 cfg0.N
    = @mul 4096 5632 2048 .bf16 .bf16 (m ((c : Thread nD τ).loc main_arg0)) (m ((c : Thread nD τ).loc main_arg1)) := by
  rw [← V_main_arg0 m c, ← V_main_arg1 m c]
  refine (dats m 0 c).arrAt_eq_of_cover 2 _ (fun t ht => ?_) (fun i => ?_)
  · have h3 : t.val % 4 = 3 := (flush0_2 t).mp ht
    rw [Value.flushed2_C m c t (by omega) (by omega) h3, handed]
    funext y
    refine (step m c t _ y ?_).trans ?_
    · rw [kept m c (t.val - 1) _]
      rw [← stays t ⟨t.val - 1, Nat.lt_of_le_of_lt (Nat.sub_le _ _) t.isLt⟩ (by dsimp only; omega) (by omega) y]
      show sum m c ((t.val - 1) % 4 + 1) _ = _
      rw [show (t.val - 1) % 4 + 1 = t.val % 4 by omega]
    · rw [h3]
      have e : (3 + 1) * 1408 = 5632 := by norm_num
      unfold sum
      rw [e]
      refine (@upto_all 4096 5632 2048 .bf16 .bf16 (V m c main_arg0) (V m c main_arg1) (place t y)).trans ?_
      generalize @mul 4096 5632 2048 .bf16 .bf16 (V m c main_arg0) (V m c main_arg1) = z
      rfl
  · obtain ⟨t, h⟩ := @met 4096 2048 4 2 1024 1024 _ _ numbers.2.2 rfl rfl i
    refine ⟨t.1, (flush0_2 t.1).mpr t.2, ?_⟩
    show i ∈ ((View.whole main_v0).slice (win0_2.rect t.1)).set
    rw [View.set_slice_whole, Rect.mem_set_unit]
    exact h

end Cert.Mul6Ideal.Whole

end
-- ==== Proof.Norm.lean ====
/-
# Rows divided by the root of their mean square

The forward norm over the extended reals, entry by entry: the host's norm is that, and so is each block of whole
rows of the kernel's norm.
-/
module

public import proofs.«01_k».proof.Proof.Product
public import Idealize.ShloMosaic.Lib.IdealHost
public import proofs.«01_k».proof.Proof.Gen.Norm0Ideal.Value
public import proofs.«01_k».proof.Proof.Gen.Norm1Ideal.Value

@[expose] public section

noncomputable section

open Idealize.ShloMosaic Idealize.ShloMosaic.TcCoe

namespace Cert.Norm

open Idealize.ShloMosaic.ValueIdx Cert.Product
open scoped BigOperators

/-- An extended real. -/
abbrev Num : Type := Ideal .f32

/-- An entry of the norm, of the entry, of its column's weight and of the sum of the squares along its row. -/
def entry (p q s : Num) : Num :=
  FloatOps.mulf (FloatOps.mulf p (FloatOps.rsqrt (FloatOps.addf (FloatOps.divf s (Scalar.ofBits .f32 0x45000000#32)) (Scalar.ofBits .f32 0x358637BD#32)))) q

variable {M K : ℕ}

/-- The norm of the rows of a matrix, weighted column by column. -/
def norm (x : FVec Ideal (Sq M K) .f32) (g : FVec Ideal (Sq 1 K) .f32) : FVec Ideal (Sq M K) .f32 :=
  fun i => entry (x i) (g (ix2 0 (i 1))) (∑ k : Fin K, x (ix2 (i 0) k) * x (ix2 (i 0) k))

/-- A block of whole rows: `p` is its first row, and `u`, `j`, `z` are where the kernel reads the entry, its row's
    sum and its column's weight. -/
theorem block {m : ℕ} (x : FVec Ideal (Sq M K) .f32) (g : FVec Ideal (Sq 1 K) .f32) (f : (Sq m K).Idx → (Sq M K).Idx)
    (e : (Sq 1 K).Idx → (Sq 1 K).Idx) (p : ℕ) (i : (Sq M K).Idx) (u : (Sq m K).Idx) (j : (⟨1, ![m]⟩ : Shape).Idx) (z : (Sq 1 K).Idx)
    (w : BitVec FTy.f32.bits) (h : (Sq m K).Reduces [1] ⟨1, ![m]⟩) (hφ : FKind.Formats .f32) (hw : w = FKind.add.neutral .f32 hφ)
    (hf : ∀ y, (f y 0).val = p + (y 0).val ∧ (f y 1).val = (y 1).val) (he : ∀ y, (e y 1).val = (y 1).val)
    (hu : (i 0).val = p + (u 0).val ∧ (i 1).val = (u 1).val) (hj : (j 0).val = (u 0).val) (hz : (z 1).val = (u 1).val) :
    entry (x (f u)) (g (e z)) (multiReduction .add [1] ⟨1, ![m]⟩ (mulf (fun y => x (f y) : FVec Ideal (Sq m K) .f32) (fun y => x (f y))) w h hφ hw j)
      = norm x g i := by
  have e0 : f u = i := by
    funext a
    apply Fin.ext
    match a with
    | ⟨0, _⟩ => exact (hf u).1.trans hu.1.symm
    | ⟨1, _⟩ => exact (hf u).2.trans hu.2.symm
  have e1 : e z = ix2 0 (i 1) := by
    funext a
    apply Fin.ext
    match a with
    | ⟨0, _⟩ => exact (Nat.lt_one_iff.1 (e z 0).isLt)
    | ⟨1, _⟩ => exact ((he z).trans hz).trans hu.2.symm
  have e2 (k : Fin K) : f (h.lift j k) = ix2 (i 0) k := by
    funext a
    apply Fin.ext
    match a with
    | ⟨0, _⟩ => exact (hf _).1.trans ((congrArg (p + ·) hj).trans hu.1.symm)
    | ⟨1, _⟩ => exact (hf _).2
  rw [e0, e1, Ideal.multiReduction_add_single]
  refine congrArg (entry _ _) (Finset.sum_congr rfl fun k _ => ?_)
  exact congrArg (fun z => x z * x z) (e2 k)

/-- The host's norm, at the shapes of the layers. -/
theorem host (x x' : FVec Ideal (Sq 4096 2048) .f32) (g g' : FVec Ideal (Sq 1 2048) .f32)
    (h0 : (Sq 4096 1).BroadcastsInDim (Sq 4096 2048) ![0, 1]) (h1 : (⟨1, ![4096]⟩ : Shape).BroadcastsInDim (Sq 4096 1) ![0])
    (h2 h3 : (⟨0, ![]⟩ : Shape).BroadcastsInDim (Sq 4096 1) ![]) (h4 : (Sq 1 2048).BroadcastsInDim (Sq 4096 2048) ![0, 1])
    (h : (Sq 4096 2048).ReducesTo [1] ⟨1, ![4096]⟩) (hu : 0 < (⟨0, ![]⟩ : Shape).numel) (e : x' = x ∧ g' = g) :
    mulf (mulf x' (broadcastInDim (Sq 4096 2048) ![0, 1] h0 (Host.rsqrt (addf (Host.divf
        (broadcastInDim (Sq 4096 1) ![0] h1 (Host.reduceAdd (mulf x' x') (constant ⟨0, ![]⟩ .f32 0x00000000#32) h hu))
        (broadcastInDim (Sq 4096 1) ![] h2 (constant ⟨0, ![]⟩ .f32 0x45000000#32)))
        (broadcastInDim (Sq 4096 1) ![] h3 (constant ⟨0, ![]⟩ .f32 0x358637BD#32))))))
      (broadcastInDim (Sq 4096 2048) ![0, 1] h4 g') = norm x g := by
  obtain ⟨rfl, rfl⟩ := e
  have r : (Sq 4096 2048).Reduces [1] ⟨1, ![4096]⟩ := by decide
  funext i
  have s : Host.reduceAdd (mulf x' x') (constant (F := Ideal) ⟨0, ![]⟩ .f32 0x00000000#32) h hu (ix1 (i 0)) = ∑ k : Fin 2048, x' (ix2 (i 0) k) * x' (ix2 (i 0) k) := by
    refine (Ideal.hostReduceAdd_single h r _ _ _).trans ?_
    refine (congrArg (· + _) Ideal.ofBits_zero_f32).trans ((zero_add _).trans (Finset.sum_congr rfl fun k _ => ?_))
    have q : r.lift (ix1 (i 0)) k = ix2 (i 0) k := by
      funext a
      apply Fin.ext
      match a with
      | ⟨0, _⟩ => rfl
      | ⟨1, _⟩ => rfl
    show x' (r.lift (ix1 (i 0)) k) * x' (r.lift (ix1 (i 0)) k) = _
    rw [q]; rfl
  have a (v : FVec Ideal (Sq 4096 1) .f32) : broadcastInDim (Sq 4096 2048) ![0, 1] h0 v i = v (ix2 (i 0) 0) :=
    broadcastInDim_apply ![0, 1] h0 v i (ix2 (i 0) 0) (fun a => match a with | ⟨0, _⟩ => rfl | ⟨1, _⟩ => rfl)
  have b (v : FVec Ideal ⟨1, ![4096]⟩ .f32) : broadcastInDim (Sq 4096 1) ![0] h1 v (ix2 (i 0) 0) = v (ix1 (i 0)) :=
    broadcastInDim_apply ![0] h1 v (ix2 (i 0) 0) (ix1 (i 0)) (fun a => match a with | ⟨0, _⟩ => rfl)
  have d : broadcastInDim (Sq 4096 2048) ![0, 1] h4 g' i = g' (ix2 0 (i 1)) :=
    broadcastInDim_apply ![0, 1] h4 g' i (ix2 0 (i 1)) (fun a => match a with | ⟨0, _⟩ => rfl | ⟨1, _⟩ => rfl)
  exact congrArg₂ FloatOps.mulf (congrArg (FloatOps.mulf (x' i)) ((a _).trans (congrArg (fun s : Num =>
    FloatOps.rsqrt (FloatOps.addf (FloatOps.divf s (Scalar.ofBits .f32 0x45000000#32)) (Scalar.ofBits .f32 0x358637BD#32))) ((b _).trans s)))) d

/-- The same, added to another array. -/
theorem host_add (x x' : FVec Ideal (Sq 4096 2048) .f32) (g g' : FVec Ideal (Sq 1 2048) .f32) (r r' : FVec Ideal (Sq 4096 2048) .f32)
    (h0 : (Sq 4096 1).BroadcastsInDim (Sq 4096 2048) ![0, 1]) (h1 : (⟨1, ![4096]⟩ : Shape).BroadcastsInDim (Sq 4096 1) ![0])
    (h2 h3 : (⟨0, ![]⟩ : Shape).BroadcastsInDim (Sq 4096 1) ![]) (h4 : (Sq 1 2048).BroadcastsInDim (Sq 4096 2048) ![0, 1])
    (h : (Sq 4096 2048).ReducesTo [1] ⟨1, ![4096]⟩) (hu : 0 < (⟨0, ![]⟩ : Shape).numel) (e : x' = x ∧ g' = g ∧ r' = r) :
    addf r' (mulf (mulf x' (broadcastInDim (Sq 4096 2048) ![0, 1] h0 (Host.rsqrt (addf (Host.divf
        (broadcastInDim (Sq 4096 1) ![0] h1 (Host.reduceAdd (mulf x' x') (constant ⟨0, ![]⟩ .f32 0x00000000#32) h hu))
        (broadcastInDim (Sq 4096 1) ![] h2 (constant ⟨0, ![]⟩ .f32 0x45000000#32)))
        (broadcastInDim (Sq 4096 1) ![] h3 (constant ⟨0, ![]⟩ .f32 0x358637BD#32))))))
      (broadcastInDim (Sq 4096 2048) ![0, 1] h4 g')) = fun i => FloatOps.addf (r i) (norm x g i) := by
  obtain ⟨e0, e1, rfl⟩ := e
  rw [host x x' g g' h0 h1 h2 h3 h4 h hu ⟨e0, e1⟩]
  rfl

end Cert.Norm

namespace Cert.Norm0Ideal.Whole

open Cert.Norm0Ideal Cert.Norm0Ideal.Gen Cert.Product Cert.Norm

/-- The blocks of rows in turn, and every block is taken. -/
theorem numbers : (∀ t, win0_0.index t = ![(win0_2.index t) 0, 0] ∧ win0_1.index t = ![0, 0] ∧ (win0_2.index t) 1 = 0)
    ∧ ∀ (p : Fin 16) (q : Fin 1), ∃ t, win0_2.index t = ![p.val, q.val] := by decide

variable (m : (ℓ : Loc nD τ sig) → Buf (Elt Ideal) ℓ)

/-- The array that the norm leaves. -/
theorem final (c : Dev nD) : (dats m 0 c).arrAt 2 cfg0.N = @norm 4096 2048 (m ((c : Thread nD τ).loc main_arg0)) (m ((c : Thread nD τ).loc main_arg1)) := by
  rw [← V_main_arg0 m c, ← V_main_arg1 m c]
  refine (dats m 0 c).arrAt_eq_of_cover 2 _ (fun t _ => ?_) (fun i => ?_)
  · rw [Value.flushed2]
    unfold out0_2
    funext y
    rw [View.ld_unit_zero (S := S256x2048) corner, View.ld_unit_zero (S := S1x2048) corner]
    refine (Value.canon2_eq _ _ y).trans ?_
    obtain ⟨n0, n1, n2⟩ := numbers.1 t
    exact @block 4096 2048 256 (V m c main_arg0) (V m c main_arg1) ((cfg0.win 0).blk t).view.emb ((cfg0.win 1).blk t).view.emb
      (win0_2.index t 0 * 256) (((cfg0.win 2).blk t).view.emb y) (Value.ix2_0 y) (Value.ix2_1 y) (Value.ix2_2 y) _ reduces_S256x2048_S256 (.inl rfl) rfl
      (fun z => by
        refine ⟨?_, ?_⟩
        · show win0_0.index t 0 * 256 + 1 * (z 0).val = _
          rw [n0, one_mul]; rfl
        · show win0_0.index t 1 * 2048 + 1 * (z 1).val = _
          rw [n0, one_mul]; exact Nat.zero_add _)
      (fun z => by
        show win0_1.index t 1 * 2048 + 1 * (z 1).val = _
        rw [n1, one_mul]; exact Nat.zero_add _)
      ⟨congrArg (_ + ·) (one_mul (y 0).val), by
        show win0_2.index t 1 * 2048 + 1 * (y 1).val = _
        rw [n2, one_mul]; exact Nat.zero_add _⟩ rfl rfl
  · obtain ⟨t, h⟩ := @met 4096 2048 16 1 256 2048 _ _ numbers.2 rfl rfl i
    refine ⟨t, flush0_2 t, ?_⟩
    show i ∈ ((View.whole main_v0).slice (win0_2.rect t)).set
    rw [View.set_slice_whole, Rect.mem_set_unit]
    exact h

end Cert.Norm0Ideal.Whole

namespace Cert.Norm1Ideal.Whole

open Cert.Norm1Ideal Cert.Norm1Ideal.Gen Cert.Product Cert.Norm

/-- The blocks of rows in turn, and every block is taken. -/
theorem numbers : (∀ t, win0_0.index t = ![(win0_3.index t) 0, 0] ∧ win0_1.index t = ![0, 0] ∧ win0_2.index t = win0_3.index t ∧ (win0_3.index t) 1 = 0)
    ∧ ∀ (p : Fin 16) (q : Fin 1), ∃ t, win0_3.index t = ![p.val, q.val] := by decide

variable (m : (ℓ : Loc nD τ sig) → Buf (Elt Ideal) ℓ)

/-- The array that the norm leaves, with what is added to it. -/
theorem final (c : Dev nD) : (dats m 0 c).arrAt 3 cfg0.N
    = fun i => FloatOps.addf (m ((c : Thread nD τ).loc main_arg2) i) (@norm 4096 2048 (m ((c : Thread nD τ).loc main_arg0)) (m ((c : Thread nD τ).loc main_arg1)) i) := by
  rw [← V_main_arg0 m c, ← V_main_arg1 m c, ← V_main_arg2 m c]
  refine (dats m 0 c).arrAt_eq_of_cover 3 _ (fun t _ => ?_) (fun i => ?_)
  · rw [Value.flushed3]
    unfold out0_3
    funext y
    simp only [View.ld_unit_zero (S := S256x2048) corner, View.ld_unit_zero (S := S1x2048) corner]
    refine (Value.canon3_eq _ _ _ y).trans ?_
    obtain ⟨n0, n1, n3, n2⟩ := numbers.1 t
    refine (add_comm _ _).trans (congrArg₂ (fun u v : Num => u + v) ?_ ?_)
    · refine congrArg (V m c main_arg2) (funext fun a => Fin.ext ?_)
      match a with
      | ⟨0, _⟩ => show win0_2.index t 0 * 256 + 1 * (y 0).val = win0_3.index t 0 * 256 + 1 * (y 0).val; rw [n3]
      | ⟨1, _⟩ => show win0_2.index t 1 * 2048 + 1 * (y 1).val = win0_3.index t 1 * 2048 + 1 * (y 1).val; rw [n3]
    · exact @block 4096 2048 256 (V m c main_arg0) (V m c main_arg1) ((cfg0.win 0).blk t).view.emb ((cfg0.win 1).blk t).view.emb
        (win0_3.index t 0 * 256) (((cfg0.win 3).blk t).view.emb y) (Value.ix3_0 y) (Value.ix3_1 y) (Value.ix3_2 y) _ reduces_S256x2048_S256 (.inl rfl) rfl
        (fun z => by
          refine ⟨?_, ?_⟩
          · show win0_0.index t 0 * 256 + 1 * (z 0).val = _
            rw [n0, one_mul]; rfl
          · show win0_0.index t 1 * 2048 + 1 * (z 1).val = _
            rw [n0, one_mul]; exact Nat.zero_add _)
        (fun z => by
          show win0_1.index t 1 * 2048 + 1 * (z 1).val = _
          rw [n1, one_mul]; exact Nat.zero_add _)
        ⟨congrArg (_ + ·) (one_mul (y 0).val), by
          show win0_3.index t 1 * 2048 + 1 * (y 1).val = _
          rw [n2, one_mul]; exact Nat.zero_add _⟩ rfl rfl
  · obtain ⟨t, h⟩ := @met 4096 2048 16 1 256 2048 _ _ numbers.2 rfl rfl i
    refine ⟨t, flush0_3 t, ?_⟩
    show i ∈ ((View.whole main_v0).slice (win0_3.rect t)).set
    rw [View.set_slice_whole, Rect.mem_set_unit]
    exact h

end Cert.Norm1Ideal.Whole

end
-- ==== Proof.Turned.lean ====
/-
# Products with a factor turned, and products taken in stretches

The backward products have one factor with its rows and columns exchanged: the gradient of the activations is the
gradient times the turned weight, and the gradient of the weight is the turned activations times the gradient.
Each is the product `mul` of `Product.lean` with that factor turned, for the host and for a kernel's blocks. Where the
inner axis is taken in stretches, a scratch block holds the sum so far (`kept`), and at the end the product (`whole`).
-/
module

public import proofs.«01_k».proof.Proof.Product
public import Idealize.ShloMosaic.Lib.Pipeline.Value
public import Idealize.ShloMosaic.Lib.ValueLayout

@[expose] public section

noncomputable section

namespace Cert.Product

open Idealize.ShloMosaic Idealize.ShloMosaic.ValueIdx
open scoped BigOperators

variable {M K N : ℕ} {φ ψ : FTy}

/-- A matrix with its rows and columns exchanged. -/
def turn (A : FVec Ideal (Sq M N) φ) : FVec Ideal (Sq N M) φ := fun i => A (ix2 (i 1) (i 0))

/-- Two indices with the same numbers are the same. -/
theorem same {i j : (Sq M N).Idx} (h0 : (i 0).val = (j 0).val) (h1 : (i 1).val = (j 1).val) : i = j := by
  funext a
  apply Fin.ext
  match a with
  | ⟨0, _⟩ => exact h0
  | ⟨1, _⟩ => exact h1

/-- The dimensions of a product over the rows of both factors. -/
def rows (M K N : ℕ) : DotDims (Sq K M) (Sq K N) (Sq M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- A product over the rows of both factors, read at an index. -/
theorem rows_apply (prec : Option ContractPrecision) (A : FVec Ideal (Sq K M) φ) (B : FVec Ideal (Sq K N) ψ)
    (acc : FVec Ideal (Sq M N) .f32) (r : Fin M) (c : Fin N) :
    FloatOps.matmul (rows M K N) prec A B acc (ix2 r c) = acc (ix2 r c) + ∑ k : Fin K, A (ix2 k r) * B (ix2 k c) := by
  rw [Ideal.matmul_apply, ← Equiv.sum_comp (contrEquiv1 (rows M K N) K rfl rfl).symm]
  refine congrArg (acc (ix2 r c) + ·) (Finset.sum_congr rfl fun k _ => ?_)
  have hk := contrEquiv1_symm_val (rows M K N) K rfl rfl k
  rw [show (rows M K N).lhsIdx (ix2 r c) ((contrEquiv1 (rows M K N) K rfl rfl).symm k) = ix2 k r from same hk rfl,
    show (rows M K N).rhsIdx (ix2 r c) ((contrEquiv1 (rows M K N) K rfl rfl).symm k) = ix2 k c from same hk rfl]

/-- A product over the columns of both factors is the product by the second turned; -/
theorem by_turned (A : FVec Ideal (Sq M K) φ) (B : FVec Ideal (Sq N K) ψ) (acc : FVec Ideal (Sq M N) .f32) :
    FloatOps.matmul (DotDims.transposedRhs M K N) none A B acc = FloatOps.matmul (DotDims.plain M K N) none A (turn B) acc := by
  funext y
  obtain ⟨u, v, rfl⟩ : ∃ (u : Fin M) (v : Fin N), y = ix2 u v := ⟨y 0, y 1, eq_ix2 y⟩
  rw [Ideal.matmul_transposedRhs_apply, Ideal.matmul_plain_apply]
  rfl

/-- and a product over the rows of both is the product of the first turned. -/
theorem of_turned (A : FVec Ideal (Sq K M) φ) (B : FVec Ideal (Sq K N) ψ) (acc : FVec Ideal (Sq M N) .f32) :
    FloatOps.matmul (rows M K N) none A B acc = FloatOps.matmul (DotDims.plain M K N) none (turn A) B acc := by
  funext y
  obtain ⟨u, v, rfl⟩ : ∃ (u : Fin M) (v : Fin N), y = ix2 u v := ⟨y 0, y 1, eq_ix2 y⟩
  rw [rows_apply, Ideal.matmul_plain_apply]
  rfl

/-- The host's product is a kernel's onto zeros. -/
theorem onto {sl sr so : Shape} (d : DotDims sl sr so) (A : FVec Ideal sl φ) (B : FVec Ideal sr ψ) :
    Host.dotGeneral d none A B = FloatOps.matmul d none A B (fun _ => (0 : EReal)) := by
  funext i
  show FloatOps.dotGeneral d none _ A B i = _
  rw [Ideal.dotGeneral_apply, Ideal.matmul_apply, zero_add]

/-- The kernel's product onto zeros is the product. -/
theorem plain_zero (A : FVec Ideal (Sq M K) φ) (B : FVec Ideal (Sq K N) ψ) :
    FloatOps.matmul (DotDims.plain M K N) none A B (fun _ => (0 : EReal)) = mul A B := by
  funext i
  obtain ⟨u, v, rfl⟩ : ∃ (u : Fin M) (v : Fin N), i = ix2 u v := ⟨i 0, i 1, eq_ix2 i⟩
  rw [Ideal.matmul_plain_apply, zero_add]
  rfl

/-- The host's gradient of the activations is the gradient times the turned weight; -/
theorem host_by (A A' : FVec Ideal (Sq M K) .bf16) (B B' : FVec Ideal (Sq N K) .bf16) (h h' : FTy.bf16.bits < FTy.f32.bits)
    (e : A' = A ∧ B' = B) : Host.dotGeneral (DotDims.transposedRhs M K N) none (extf .f32 A' h) (extf .f32 B' h') = mul A (turn B) := by
  obtain ⟨rfl, rfl⟩ := e
  rw [onto, by_turned, plain_zero]
  rfl

/-- its gradient of the weight, computed the other way round and turned, is the turned activations times the gradient. -/
theorem host_of (A A' : FVec Ideal (Sq K M) .bf16) (B B' : FVec Ideal (Sq K N) .bf16) (h h' : FTy.bf16.bits < FTy.f32.bits)
    (hp : Shape.Transposes (Sq N M) [1, 0] (Sq M N)) (hb : FTy.bf16.bits < FTy.f32.bits) (e : A' = A ∧ B' = B) :
    truncf .bf16 (transpose (Sq M N) [1, 0] (Host.dotGeneral (rows N K M) none (extf .f32 B' h') (extf .f32 A' h)) hp) hb = mul (turn A) B := by
  obtain ⟨rfl, rfl⟩ := e
  rw [onto, of_turned, plain_zero]
  funext i
  obtain ⟨u, v, rfl⟩ : ∃ (u : Fin M) (v : Fin N), i = ix2 u v := ⟨i 0, i 1, eq_ix2 i⟩
  refine (transpose_ix2_apply (mul (turn B') A') hp u v).trans ?_
  exact Finset.sum_congr rfl fun k _ => mul_comm (G := EReal) _ _

/-- One stretch of a product by a turned factor. The blocks are numbered: `a` and `b` are the numbers of the two factors' blocks, `c` that of
    the product's, and `s` that of the stretch. -/
theorem stretch_by {m k n : ℕ} (A : FVec Ideal (Sq M K) φ) (B : FVec Ideal (Sq N K) ψ) (f : (Sq m k).Idx → (Sq M K).Idx)
    (g : (Sq n k).Idx → (Sq N K).Idx) (a b c : Fin 2 → ℕ) (s : ℕ) (z : Ideal .f32) (y : (Sq m n).Idx) (i : (Sq M N).Idx)
    (h : a = ![c 0, s] ∧ b = ![c 1, s]) (hs : s * k + k ≤ K) (hz : z = upto A (turn B) (s * k) i)
    (hi : (i 0).val = c 0 * m + 1 * (y 0).val ∧ (i 1).val = c 1 * n + 1 * (y 1).val)
    (hf : ∀ x, (f x 0).val = a 0 * m + 1 * (x 0).val ∧ (f x 1).val = a 1 * k + 1 * (x 1).val)
    (hg : ∀ x, (g x 0).val = b 0 * n + 1 * (x 0).val ∧ (g x 1).val = b 1 * k + 1 * (x 1).val) :
    FloatOps.addf z (FloatOps.matmul (F := Ideal) (DotDims.transposedRhs m k n) none (fun x => A (f x) : FVec Ideal (Sq m k) φ)
      (fun x => B (g x) : FVec Ideal (Sq n k) ψ) (constant (Sq m n) .f32 0x00000000#32) y) = upto A (turn B) ((s + 1) * k) i := by
  obtain ⟨rfl, rfl⟩ := h
  simp only [one_mul] at hi hf hg
  rw [by_turned, Nat.succ_mul]
  refine Eq.trans ?_ (grow A (turn B) z f (fun x : (Sq k n).Idx => ix2 (g (ix2 (x 1) (x 0)) 1) (g (ix2 (x 1) (x 0)) 0)) _ _ (s * k) y i hz hi hs hf
    fun x => ⟨(hg _).2, (hg _).1⟩)
  have e : turn (fun x => B (g x) : FVec Ideal (Sq n k) ψ)
      = fun x : (Sq k n).Idx => turn B (ix2 (g (ix2 (x 1) (x 0)) 1) (g (ix2 (x 1) (x 0)) 0)) := by
    funext x
    exact congrArg B (same rfl rfl)
  rw [e]

/-- One stretch of a product of a turned factor. -/
theorem stretch_of {m k n : ℕ} (A : FVec Ideal (Sq K M) φ) (B : FVec Ideal (Sq K N) ψ) (f : (Sq k m).Idx → (Sq K M).Idx)
    (g : (Sq k n).Idx → (Sq K N).Idx) (a b c : Fin 2 → ℕ) (s : ℕ) (z : Ideal .f32) (y : (Sq m n).Idx) (i : (Sq M N).Idx)
    (h : a = ![s, c 0] ∧ b = ![s, c 1]) (hs : s * k + k ≤ K) (hz : z = upto (turn A) B (s * k) i)
    (hi : (i 0).val = c 0 * m + 1 * (y 0).val ∧ (i 1).val = c 1 * n + 1 * (y 1).val)
    (hf : ∀ x, (f x 0).val = a 0 * k + 1 * (x 0).val ∧ (f x 1).val = a 1 * m + 1 * (x 1).val)
    (hg : ∀ x, (g x 0).val = b 0 * k + 1 * (x 0).val ∧ (g x 1).val = b 1 * n + 1 * (x 1).val) :
    FloatOps.addf z (FloatOps.matmul (F := Ideal) (rows m k n) none (fun x => A (f x) : FVec Ideal (Sq k m) φ)
      (fun x => B (g x) : FVec Ideal (Sq k n) ψ) (constant (Sq m n) .f32 0x00000000#32) y) = upto (turn A) B ((s + 1) * k) i := by
  obtain ⟨rfl, rfl⟩ := h
  simp only [one_mul] at hi hf hg
  rw [of_turned, Nat.succ_mul]
  refine Eq.trans ?_ (grow (turn A) B z (fun x : (Sq m k).Idx => ix2 (f (ix2 (x 1) (x 0)) 1) (f (ix2 (x 1) (x 0)) 0)) g _ _ (s * k) y i hz hi hs
    (fun x => ⟨(hf _).2, (hf _).1⟩) hg)
  have e : turn (fun x => A (f x) : FVec Ideal (Sq k m) φ)
      = fun x : (Sq m k).Idx => turn A (ix2 (f (ix2 (x 1) (x 0)) 1) (f (ix2 (x 1) (x 0)) 0)) := by
    funext x
    exact congrArg A (same rfl rfl)
  rw [e]

/-- A block of a product by a turned factor, where the inner axis is one stretch. -/
theorem block_by {m n : ℕ} (A : FVec Ideal (Sq M K) φ) (B : FVec Ideal (Sq N K) ψ) (f : (Sq m K).Idx → (Sq M K).Idx)
    (g : (Sq n K).Idx → (Sq N K).Idx) (a b c : Fin 2 → ℕ) (y : (Sq m n).Idx) (i : (Sq M N).Idx)
    (h : a = ![c 0, 0] ∧ b = ![c 1, 0])
    (hi : (i 0).val = c 0 * m + 1 * (y 0).val ∧ (i 1).val = c 1 * n + 1 * (y 1).val)
    (hf : ∀ x, (f x 0).val = a 0 * m + 1 * (x 0).val ∧ (f x 1).val = a 1 * K + 1 * (x 1).val)
    (hg : ∀ x, (g x 0).val = b 0 * n + 1 * (x 0).val ∧ (g x 1).val = b 1 * K + 1 * (x 1).val) :
    FloatOps.matmul (F := Ideal) (DotDims.transposedRhs m K n) none (fun x => A (f x) : FVec Ideal (Sq m K) φ)
      (fun x => B (g x) : FVec Ideal (Sq n K) ψ) (constant (Sq m n) .f32 0x00000000#32) y = mul A (turn B) i := by
  have e := stretch_by A B f g a b c 0 (0 : EReal) y i h (by omega) (by simp [upto]) hi hf hg
  rw [show (0 + 1) * K = K by omega, upto_all] at e
  exact (zero_add (M := EReal) _).symm.trans e

/-! ### Loads and stores of whole blocks -/

section words

variable {Val : EltTy → Type} [∀ e, Nonempty (Val e)] {sig : RefSig} {κ : Kind} {sp : Space} {e : EltTy} {m n : ℕ}

/-- A whole block that was just stored reads as what was stored; -/
theorem stored (v : View sig κ sp (Sq m n) e) (f : v.ty.Contents Val) (inb : ∀ a, (![0, 0] : Fin 2 → ℕ) a + (![m, n] : Fin 2 → ℕ) a ≤ (Sq m n).size a)
    (w : (Sq m n).Idx → Val e) : v.read Val (v.writes Val f [⟨Rect.unit (s := Sq m n) ![0, 0] ![m, n] inb, w⟩]) = w := by
  have hc := View.canon_unit_zero (S := Sq m n) corner inb w
  rw [View.read_writes_eq_canon, hc]
  intro y
  refine ⟨_, List.mem_singleton_self _, ?_⟩
  rw [Rect.mem_set_unit]
  intro a
  match a with
  | ⟨0, _⟩ => exact ⟨Nat.zero_le _, (y 0).isLt.trans_eq (Nat.zero_add _).symm⟩
  | ⟨1, _⟩ => exact ⟨Nat.zero_le _, (y 1).isLt.trans_eq (Nat.zero_add _).symm⟩

/-- so does a load of it; -/
theorem stored_load (v : View sig κ sp (Sq m n) e) (inb : ∀ a, (![0, 0] : Fin 2 → ℕ) a + (![m, n] : Fin 2 → ℕ) a ≤ (Sq m n).size a)
    (w : (Sq m n).Idx → Val e) :
    v.readCov [(⟨Rect.unit (s := Sq m n) ![0, 0] ![m, n] inb, w⟩ : View.Piece Val (Sq m n) e)] (Rect.unit (s := Sq m n) ![0, 0] ![m, n] inb).toLoadRect = w :=
  View.readCov_unit_zero (S := Sq m n) v corner inb w

/-- and a load of a whole block is what it holds. -/
theorem loaded (v : View sig κ sp (Sq m n) e) (f : v.ty.Contents Val) (inb : ∀ a, (![0, 0] : Fin 2 → ℕ) a + (![m, n] : Fin 2 → ℕ) a ≤ (Sq m n).size a) :
    v.readAt Val (Rect.unit (s := Sq m n) ![0, 0] ![m, n] inb) f = v.read Val f := by
  rw [View.readAt_eq_ld, View.ld_unit_zero (S := Sq m n) corner]

end words

section sums

variable {m n k b T : ℕ} (A : FVec Ideal (Sq M K) φ) (B : FVec Ideal (Sq K N) ψ) (c : Fin T → Fin 2 → ℕ)
  (place : Fin T → (Sq m n).Idx → (Sq M N).Idx) (own : Fin T → FVec Ideal (Sq m n) .f32)
  (out : (t : ℕ) → t < T → ((Sq m n).Idx → EReal) × FVec Ideal (Sq m n) .f32)

/-- What the points of a product do, where each block of it takes `b` of them: the first of a block starts the sum in
    the scratch block, which is `out`'s second half, the further ones add theirs, and the last hands the sum out. -/
def Points (b : ℕ) (own : Fin T → FVec Ideal (Sq m n) .f32) (out : (t : ℕ) → t < T → ((Sq m n).Idx → EReal) × FVec Ideal (Sq m n) .f32) : Prop :=
  ∀ t : Fin T, (t.val % b = 0 → (out t.val t.isLt).2 = own t)
    ∧ (t.val % b ≠ 0 → (out t.val t.isLt).2 = addf (out (t.val - 1) (Nat.lt_of_le_of_lt (Nat.sub_le _ _) t.isLt)).2 (own t))
    ∧ (t.val % b + 1 = b → (out t.val t.isLt).1 = (out t.val t.isLt).2)

/-- After each point the scratch block holds the sum over the stretches so far. -/
theorem kept (hplace : ∀ t y, (place t y 0).val = c t 0 * m + 1 * (y 0).val ∧ (place t y 1).val = c t 1 * n + 1 * (y 1).val)
    (stays : ∀ t u : Fin T, t.val = u.val + 1 → t.val % b ≠ 0 → c u = c t) (points : Points b own out)
    (step : ∀ t z y, z = upto A B (t.val % b * k) (place t y) → FloatOps.addf z (own t y) = upto A B ((t.val % b + 1) * k) (place t y))
    (t : ℕ) (h : t < T) (y : (Sq m n).Idx) : (out t h).2 y = upto A B ((t % b + 1) * k) (place ⟨t, h⟩ y) := by
  have start (t : Fin T) (e : t.val % b = 0) (y) : (out t.val t.isLt).2 y = upto A B ((t.val % b + 1) * k) (place t y) := by
    rw [(points t).1 e]
    refine (zero_add (M := EReal) _).symm.trans (step t (0 : EReal) y ?_)
    rw [e]
    simp [upto]
  induction t generalizing y with
  | zero => exact start ⟨0, h⟩ (Nat.zero_mod b) y
  | succ t ih =>
    by_cases e : (t + 1) % b = 0
    · exact start ⟨t + 1, h⟩ e y
    · refine (congrFun ((points ⟨t + 1, h⟩).2.1 e) y).trans (step ⟨t + 1, h⟩ _ y ((ih (Nat.lt_of_succ_lt h) y).trans ?_))
      have e1 : place ⟨t, Nat.lt_of_succ_lt h⟩ y = place ⟨t + 1, h⟩ y := by
        have hc := stays ⟨t + 1, h⟩ ⟨t, Nat.lt_of_succ_lt h⟩ rfl e
        exact same (by rw [(hplace _ y).1, (hplace _ y).1, hc]) (by rw [(hplace _ y).2, (hplace _ y).2, hc])
      have e2 : t % b + 1 = (t + 1) % b := by
        rcases Nat.eq_zero_or_pos b with rfl | hb
        · simp
        · have hl := Nat.mod_lt t hb
          rcases Nat.lt_or_eq_of_le (show t % b + 1 ≤ b by omega) with h2 | h2
          · rw [← Nat.mod_add_mod, Nat.mod_eq_of_lt h2]
          · exact absurd (by rw [← Nat.mod_add_mod, h2, Nat.mod_self]) e
      rw [e1, e2]

/-- So the last point of a block hands out the block of the product. -/
theorem whole (hplace : ∀ t y, (place t y 0).val = c t 0 * m + 1 * (y 0).val ∧ (place t y 1).val = c t 1 * n + 1 * (y 1).val)
    (stays : ∀ t u : Fin T, t.val = u.val + 1 → t.val % b ≠ 0 → c u = c t) (points : Points b own out)
    (step : ∀ t z y, z = upto A B (t.val % b * k) (place t y) → FloatOps.addf z (own t y) = upto A B ((t.val % b + 1) * k) (place t y))
    (hK : b * k = K) (t : Fin T) (e : t.val % b + 1 = b) : (out t.val t.isLt).1 = fun y => mul A B (place t y) :=
  funext fun y => by rw [(points t).2.2 e, kept A B c place own out hplace stays points step t.val t.isLt y, e, hK, upto_all]

/-- A product by a turned factor. -/
theorem whole_by (A : FVec Ideal (Sq M K) φ) (B : FVec Ideal (Sq N K) ψ) (f : Fin T → (Sq m k).Idx → (Sq M K).Idx)
    (g : Fin T → (Sq n k).Idx → (Sq N K).Idx) (p q c : Fin T → Fin 2 → ℕ) (hK : b * k = K)
    (numbers : (∀ t, p t = ![c t 0, t.val % b] ∧ q t = ![c t 1, t.val % b]) ∧ ∀ t u : Fin T, t.val = u.val + 1 → t.val % b ≠ 0 → c u = c t)
    (hplace : ∀ t y, (place t y 0).val = c t 0 * m + 1 * (y 0).val ∧ (place t y 1).val = c t 1 * n + 1 * (y 1).val)
    (hf : ∀ t x, (f t x 0).val = p t 0 * m + 1 * (x 0).val ∧ (f t x 1).val = p t 1 * k + 1 * (x 1).val)
    (hg : ∀ t x, (g t x 0).val = q t 0 * n + 1 * (x 0).val ∧ (g t x 1).val = q t 1 * k + 1 * (x 1).val)
    (points : Points b (fun t => FloatOps.matmul (F := Ideal) (DotDims.transposedRhs m k n) none (fun x => A (f t x) : FVec Ideal (Sq m k) φ)
      (fun x => B (g t x) : FVec Ideal (Sq n k) ψ) (constant (Sq m n) .f32 0x00000000#32)) out)
    (t : Fin T) (e : t.val % b + 1 = b) : (out t.val t.isLt).1 = fun y => mul A (turn B) (place t y) := by
  have hb : 0 < b := by omega
  refine whole (k := k) A (turn B) c place _ out hplace numbers.2 points (fun t z y hz => ?_) hK t e
  refine stretch_by A B (f t) (g t) (p t) (q t) (c t) (t.val % b) z y (place t y) (numbers.1 t) ?_ hz (hplace t y) (hf t) (hg t)
  rw [← Nat.succ_mul, ← hK]
  exact Nat.mul_le_mul_right k (Nat.mod_lt _ hb)

/-- A product of a turned factor. -/
theorem whole_of (A : FVec Ideal (Sq K M) φ) (B : FVec Ideal (Sq K N) ψ) (f : Fin T → (Sq k m).Idx → (Sq K M).Idx)
    (g : Fin T → (Sq k n).Idx → (Sq K N).Idx) (p q c : Fin T → Fin 2 → ℕ) (hK : b * k = K)
    (numbers : (∀ t, p t = ![t.val % b, c t 0] ∧ q t = ![t.val % b, c t 1]) ∧ ∀ t u : Fin T, t.val = u.val + 1 → t.val % b ≠ 0 → c u = c t)
    (hplace : ∀ t y, (place t y 0).val = c t 0 * m + 1 * (y 0).val ∧ (place t y 1).val = c t 1 * n + 1 * (y 1).val)
    (hf : ∀ t x, (f t x 0).val = p t 0 * k + 1 * (x 0).val ∧ (f t x 1).val = p t 1 * m + 1 * (x 1).val)
    (hg : ∀ t x, (g t x 0).val = q t 0 * k + 1 * (x 0).val ∧ (g t x 1).val = q t 1 * n + 1 * (x 1).val)
    (points : Points b (fun t => FloatOps.matmul (F := Ideal) (rows m k n) none (fun x => A (f t x) : FVec Ideal (Sq k m) φ)
      (fun x => B (g t x) : FVec Ideal (Sq k n) ψ) (constant (Sq m n) .f32 0x00000000#32)) out)
    (t : Fin T) (e : t.val % b + 1 = b) : (out t.val t.isLt).1 = fun y => mul (turn A) B (place t y) := by
  have hb : 0 < b := by omega
  refine whole (k := k) (turn A) B c place _ out hplace numbers.2 points (fun t z y hz => ?_) hK t e
  refine stretch_of A B (f t) (g t) (p t) (q t) (c t) (t.val % b) z y (place t y) (numbers.1 t) ?_ hz (hplace t y) (hf t) (hg t)
  rw [← Nat.succ_mul, ← hK]
  exact Nat.mul_le_mul_right k (Nat.mod_lt _ hb)

end sums

end Cert.Product

end
-- ==== Proof.ActGrad.lean ====
/-
# The gradients of the activations

In the backward pass the gradient of a product's activations is the product's gradient times the turned weight. Where
the inner axis is one block (`Dx0`, `Dx1`, `Dx2`) a point of the grid leaves its block of the product at once. In the
other programs the kernel keeps the sum so far in a scratch block: `points` reads off the printed program what its
points do with that block, `numbers` says which blocks a point takes, and the rest is `Turned.lean`'s.
-/
module

public import proofs.«01_k».proof.Proof.Turned
public import proofs.«01_k».proof.Proof.Gen.Dx0Ideal.Value
public import proofs.«01_k».proof.Proof.Gen.Dx1Ideal.Value
public import proofs.«01_k».proof.Proof.Gen.Dx2Ideal.Value
public import proofs.«01_k».proof.Proof.Gen.Dx3Ideal.Value
public import proofs.«01_k».proof.Proof.Gen.Dx4Ideal.Value
public import proofs.«01_k».proof.Proof.Gen.Dx5Ideal.Value
public import proofs.«01_k».proof.Proof.Gen.Dx6Ideal.Value

@[expose] public section

noncomputable section

open Idealize.ShloMosaic Idealize.ShloMosaic.TcCoe Idealize.ShloMosaic.Tactic

namespace Cert.Dx0Ideal.Whole

open Cert.Dx0Ideal Cert.Dx0Ideal.Gen Cert.Product

theorem numbers : (∀ t : Fin cfg0.N, win0_0.index t = ![win0_2.index t 0, 0] ∧ win0_1.index t = ![win0_2.index t 1, 0])
    ∧ ∀ (p : Fin 4) (q : Fin 11), ∃ t : Fin cfg0.N, win0_2.index t = ![p.val, q.val] :=
  ⟨(by decide +kernel : ∀ t : Fin grid0.N, _), (by decide +kernel : ∀ (p : Fin 4) (q : Fin 11), ∃ t : Fin grid0.N, win0_2.index t = ![p.val, q.val])⟩

/-- 2048 inner places and 5632 columns, as in the feed-forward blocks' second product: the array is the gradient times the turned weight. -/
theorem final (m : (ℓ : Loc nD τ sig) → Buf (Elt Ideal) ℓ) (c : Dev nD) : (dats m 0 c).arrAt 2 cfg0.N
    = @mul 4096 2048 5632 .bf16 .bf16 (m ((c : Thread nD τ).loc main_arg0)) (@turn 5632 2048 .bf16 (m ((c : Thread nD τ).loc main_arg1))) := by
  rw [← V_main_arg0 m c, ← V_main_arg1 m c]
  refine (dats m 0 c).arrAt_eq_of_cover 2 _ (fun t _ => ?_) (fun i => ?_)
  · rw [Value.flushed2]
    unfold out0_2
    rw [View.canon_unit_zero corner]
    simp only [View.ld_unit_zero (S := S1024x2048) corner, View.ld_unit_zero (S := S512x2048) corner]
    exact funext fun y => @block_by 4096 2048 5632 .bf16 .bf16 1024 512 (V m c main_arg0) (V m c main_arg1) ((cfg0.win 0).blk t).view.emb ((cfg0.win 1).blk t).view.emb
      (win0_0.index t) (win0_1.index t) (win0_2.index t) y (((cfg0.win 2).blk t).view.emb y) (numbers.1 t) ⟨rfl, rfl⟩ (fun _ => ⟨rfl, rfl⟩) (fun _ => ⟨rfl, rfl⟩)
  · obtain ⟨t, h⟩ := @met 4096 5632 4 11 1024 512 _ _ numbers.2 rfl rfl i
    refine ⟨t, flush0_2 t, ?_⟩
    show i ∈ ((View.whole main_v0).slice (win0_2.rect t)).set
    rw [View.set_slice_whole, Rect.mem_set_unit]
    exact h

end Cert.Dx0Ideal.Whole

namespace Cert.Dx1Ideal.Whole

open Cert.Dx1Ideal Cert.Dx1Ideal.Gen Cert.Product

theorem numbers : (∀ t : Fin cfg0.N, win0_0.index t = ![win0_2.index t 0, 0] ∧ win0_1.index t = ![win0_2.index t 1, 0])
    ∧ ∀ (p : Fin 4) (q : Fin 2), ∃ t : Fin cfg0.N, win0_2.index t = ![p.val, q.val] :=
  ⟨(by decide +kernel : ∀ t : Fin grid0.N, _), (by decide +kernel : ∀ (p : Fin 4) (q : Fin 2), ∃ t : Fin grid0.N, win0_2.index t = ![p.val, q.val])⟩

/-- 2048 columns, as in the mixers' last products. -/
theorem final (m : (ℓ : Loc nD τ sig) → Buf (Elt Ideal) ℓ) (c : Dev nD) : (dats m 0 c).arrAt 2 cfg0.N
    = @mul 4096 2048 2048 .bf16 .bf16 (m ((c : Thread nD τ).loc main_arg0)) (@turn 2048 2048 .bf16 (m ((c : Thread nD τ).loc main_arg1))) := by
  rw [← V_main_arg0 m c, ← V_main_arg1 m c]
  refine (dats m 0 c).arrAt_eq_of_cover 2 _ (fun t _ => ?_) (fun i => ?_)
  · rw [Value.flushed2]
    unfold out0_2
    rw [View.canon_unit_zero corner]
    simp only [View.ld_unit_zero (S := S1024x2048) corner]
    exact funext fun y => @block_by 4096 2048 2048 .bf16 .bf16 1024 1024 (V m c main_arg0) (V m c main_arg1) ((cfg0.win 0).blk t).view.emb ((cfg0.win 1).blk t).view.emb
      (win0_0.index t) (win0_1.index t) (win0_2.index t) y (((cfg0.win 2).blk t).view.emb y) (numbers.1 t) ⟨rfl, rfl⟩ (fun _ => ⟨rfl, rfl⟩) (fun _ => ⟨rfl, rfl⟩)
  · obtain ⟨t, h⟩ := @met 4096 2048 4 2 1024 1024 _ _ numbers.2 rfl rfl i
    exact ⟨t, flush0_2 t, (View.set_slice_whole main_v0 (win0_2.rect t)).symm ▸ Rect.mem_set_unit.mpr h⟩

end Cert.Dx1Ideal.Whole

namespace Cert.Dx2Ideal.Whole

open Cert.Dx2Ideal Cert.Dx2Ideal.Gen Cert.Product

theorem numbers : (∀ t : Fin cfg0.N, win0_0.index t = ![win0_2.index t 0, 0] ∧ win0_1.index t = ![win0_2.index t 1, 0])
    ∧ ∀ (p : Fin 4) (q : Fin 2), ∃ t : Fin cfg0.N, win0_2.index t = ![p.val, q.val] :=
  ⟨(by decide +kernel : ∀ t : Fin grid0.N, _), (by decide +kernel : ∀ (p : Fin 4) (q : Fin 2), ∃ t : Fin grid0.N, win0_2.index t = ![p.val, q.val])⟩

/-- 128 inner places, as in the last layer's gates. -/
theorem final (m : (ℓ : Loc nD τ sig) → Buf (Elt Ideal) ℓ) (c : Dev nD) : (dats m 0 c).arrAt 2 cfg0.N
    = @mul 4096 128 2048 .bf16 .bf16 (m ((c : Thread nD τ).loc main_arg0)) (@turn 2048 128 .bf16 (m ((c : Thread nD τ).loc main_arg1))) := by
  rw [← V_main_arg0 m c, ← V_main_arg1 m c]
  refine (dats m 0 c).arrAt_eq_of_cover 2 _ (fun t _ => ?_) (fun i => ?_)
  · rw [Value.flushed2]
    unfold out0_2
    rw [View.canon_unit_zero corner]
    simp only [View.ld_unit_zero (S := S1024x128) corner]
    exact funext fun y => @block_by 4096 128 2048 .bf16 .bf16 1024 1024 (V m c main_arg0) (V m c main_arg1) ((cfg0.win 0).blk t).view.emb ((cfg0.win 1).blk t).view.emb
      (win0_0.index t) (win0_1.index t) (win0_2.index t) y (((cfg0.win 2).blk t).view.emb y) (numbers.1 t) ⟨rfl, rfl⟩ (fun _ => ⟨rfl, rfl⟩) (fun _ => ⟨rfl, rfl⟩)
  · obtain ⟨t, h⟩ := @met 4096 2048 4 2 1024 1024 _ _ numbers.2 rfl rfl i
    exact ⟨t, flush0_2 t, (View.set_slice_whole main_v0 (win0_2.rect t)).symm ▸ Rect.mem_set_unit.mpr h⟩

end Cert.Dx2Ideal.Whole

namespace Cert.Dx3Ideal.Whole

open Cert.Dx3Ideal Cert.Dx3Ideal.Gen Cert.Product

theorem numbers : ((∀ t : Fin grid0.N, win0_0.index t = ![win0_2.index t 0, t.val % 8] ∧ win0_1.index t = ![win0_2.index t 1, t.val % 8])
      ∧ ∀ t u : Fin grid0.N, t.val = u.val + 1 → t.val % 8 ≠ 0 → win0_2.index u = win0_2.index t)
    ∧ ∀ (p : Fin 4) (q : Fin 2), ∃ t : {t : Fin grid0.N // t.val % 8 = 7}, win0_2.index t.1 = ![p.val, q.val] := by decide +kernel

variable (m : (ℓ : Loc nD τ sig) → Buf (Elt Ideal) ℓ) (c : Dev nD)

theorem points : @Points 1024 1024 cfg0.N 8 (fun t => k0_pay1 (iblk m c 0 t) (iblk m c 1 t)) (outsAt0 m c) := by
  refine fun t => ⟨fun e => ?_, fun e => ?_, fun e => ?_⟩
  · rw [outsAt0_A m c t e (by omega) (by omega)]
    unfold sout0_A_0 kernelRun0_A
    simp only [stored, loaded, k0_pay2, Memref.IsWhole.read_unread, shapeCast_self]
  · by_cases e2 : t.val % 8 = 7
    · rw [outsAt0_C m c t e (by omega) e2]
      unfold sout0_C_0 kernelRun0_C
      sl_unfold_words
      simp only [stored, loaded, k0_pay3, Memref.IsWhole.read_unread, (Memref.isWhole_whole cc0_scratch0).read_unread, shapeCast_self]
    · rw [outsAt0_B m c t e (by omega) e2]
      unfold sout0_B_0 kernelRun0_B
      simp only [stored, loaded, k0_pay3, Memref.IsWhole.read_unread, (Memref.isWhole_whole cc0_scratch0).read_unread, shapeCast_self]
  · rw [outsAt0_C m c t (by omega) (by omega) (by omega)]
    unfold out0_C_2 sout0_C_0 kernelRun0_C
    sl_unfold_words
    simp only [stored, stored_load]

/-- 11264 inner places in eight stretches, as in the feed-forward blocks' first product: the array is the gradient times the turned weight. -/
theorem final : (dats m 0 c).arrAt 2 cfg0.N
    = @mul 4096 11264 2048 .bf16 .bf16 (m ((c : Thread nD τ).loc main_arg0)) (@turn 2048 11264 .bf16 (m ((c : Thread nD τ).loc main_arg1))) := by
  rw [← V_main_arg0 m c, ← V_main_arg1 m c]
  refine (dats m 0 c).arrAt_eq_of_cover 2 _ (fun t ht => ?_) (fun i => ?_)
  · have e := (flush0_2 t).mp ht
    refine (@whole_by 4096 11264 2048 .bf16 .bf16 1024 1024 1408 8 cfg0.N (fun t => ((cfg0.win 2).blk t).view.emb) _ (V m c main_arg0) (V m c main_arg1)
      (fun t => ((cfg0.win 0).blk t).view.emb) (fun t => ((cfg0.win 1).blk t).view.emb) win0_0.index win0_1.index win0_2.index rfl
      numbers.1 (fun _ _ => ⟨rfl, rfl⟩) (fun _ _ => ⟨rfl, rfl⟩) (fun _ _ => ⟨rfl, rfl⟩) (points m c) t (by omega)).trans ?_
    generalize @mul 4096 11264 2048 .bf16 .bf16 _ _ = z
    rfl
  · obtain ⟨t, h⟩ := @met 4096 2048 4 2 1024 1024 _ _ numbers.2 rfl rfl i
    exact ⟨t.1, (flush0_2 t.1).mpr t.2, (View.set_slice_whole main_v0 (win0_2.rect t.1)).symm ▸ Rect.mem_set_unit.mpr h⟩

end Cert.Dx3Ideal.Whole

namespace Cert.Dx4Ideal.Whole

open Cert.Dx4Ideal Cert.Dx4Ideal.Gen Cert.Product

theorem numbers : ((∀ t : Fin grid0.N, win0_0.index t = ![win0_2.index t 0, t.val % 8] ∧ win0_1.index t = ![win0_2.index t 1, t.val % 8])
      ∧ ∀ t u : Fin grid0.N, t.val = u.val + 1 → t.val % 8 ≠ 0 → win0_2.index u = win0_2.index t)
    ∧ ∀ (p : Fin 4) (q : Fin 2), ∃ t : {t : Fin grid0.N // t.val % 8 = 7}, win0_2.index t.1 = ![p.val, q.val] := by decide +kernel

variable (m : (ℓ : Loc nD τ sig) → Buf (Elt Ideal) ℓ) (c : Dev nD)

theorem points : @Points 1024 1024 cfg0.N 8 (fun t => k0_pay1 (iblk m c 0 t) (iblk m c 1 t)) (outsAt0 m c) := by
  refine fun t => ⟨fun e => ?_, fun e => ?_, fun e => ?_⟩
  · rw [outsAt0_A m c t e (by omega) (by omega)]
    unfold sout0_A_0 kernelRun0_A
    simp only [stored, loaded, k0_pay2, Memref.IsWhole.read_unread, shapeCast_self]
  · by_cases e2 : t.val % 8 = 7
    · rw [outsAt0_C m c t e (by omega) e2]
      unfold sout0_C_0 kernelRun0_C
      sl_unfold_words
      simp only [stored, loaded, k0_pay3, Memref.IsWhole.read_unread, (Memref.isWhole_whole cc0_scratch0).read_unread, shapeCast_self]
    · rw [outsAt0_B m c t e (by omega) e2]
      unfold sout0_B_0 kernelRun0_B
      simp only [stored, loaded, k0_pay3, Memref.IsWhole.read_unread, (Memref.isWhole_whole cc0_scratch0).read_unread, shapeCast_self]
  · rw [outsAt0_C m c t (by omega) (by omega) (by omega)]
    unfold out0_C_2 sout0_C_0 kernelRun0_C
    sl_unfold_words
    simp only [stored, stored_load]

/-- 8192 inner places in eight stretches, as in two mixers' first products. -/
theorem final : (dats m 0 c).arrAt 2 cfg0.N
    = @mul 4096 8192 2048 .bf16 .bf16 (m ((c : Thread nD τ).loc main_arg0)) (@turn 2048 8192 .bf16 (m ((c : Thread nD τ).loc main_arg1))) := by
  rw [← V_main_arg0 m c, ← V_main_arg1 m c]
  refine (dats m 0 c).arrAt_eq_of_cover 2 _ (fun t ht => ?_) (fun i => ?_)
  · have e := (flush0_2 t).mp ht
    refine (@whole_by 4096 8192 2048 .bf16 .bf16 1024 1024 1024 8 cfg0.N (fun t => ((cfg0.win 2).blk t).view.emb) _ (V m c main_arg0) (V m c main_arg1)
      (fun t => ((cfg0.win 0).blk t).view.emb) (fun t => ((cfg0.win 1).blk t).view.emb) win0_0.index win0_1.index win0_2.index rfl
      numbers.1 (fun _ _ => ⟨rfl, rfl⟩) (fun _ _ => ⟨rfl, rfl⟩) (fun _ _ => ⟨rfl, rfl⟩) (points m c) t (by omega)).trans ?_
    generalize @mul 4096 8192 2048 .bf16 .bf16 _ _ = z
    rfl
  · obtain ⟨t, h⟩ := @met 4096 2048 4 2 1024 1024 _ _ numbers.2 rfl rfl i
    exact ⟨t.1, (flush0_2 t.1).mpr t.2, (View.set_slice_whole main_v0 (win0_2.rect t.1)).symm ▸ Rect.mem_set_unit.mpr h⟩

end Cert.Dx4Ideal.Whole

namespace Cert.Dx5Ideal.Whole

open Cert.Dx5Ideal Cert.Dx5Ideal.Gen Cert.Product

theorem numbers : ((∀ t : Fin grid0.N, win0_0.index t = ![win0_2.index t 0, t.val % 2] ∧ win0_1.index t = ![win0_2.index t 1, t.val % 2])
      ∧ ∀ t u : Fin grid0.N, t.val = u.val + 1 → t.val % 2 ≠ 0 → win0_2.index u = win0_2.index t)
    ∧ ∀ (p : Fin 4) (q : Fin 2), ∃ t : {t : Fin grid0.N // t.val % 2 = 1}, win0_2.index t.1 = ![p.val, q.val] := by decide +kernel

variable (m : (ℓ : Loc nD τ sig) → Buf (Elt Ideal) ℓ) (c : Dev nD)

/-- With two stretches the second one adds and hands out. -/
theorem points : @Points 1024 1024 cfg0.N 2 (fun t => k0_pay1 (iblk m c 0 t) (iblk m c 1 t)) (outsAt0 m c) := by
  refine fun t => ⟨fun e => ?_, fun e => ?_, fun e => ?_⟩
  · rw [outsAt0_A m c t e (by omega) (by omega)]
    unfold sout0_A_0 kernelRun0_A
    simp only [stored, loaded, k0_pay2, Memref.IsWhole.read_unread, shapeCast_self]
  · rw [outsAt0_B m c t e (by omega) (by omega)]
    unfold sout0_B_0 kernelRun0_B
    sl_unfold_words
    simp only [stored, loaded, k0_pay3, Memref.IsWhole.read_unread, (Memref.isWhole_whole cc0_scratch0).read_unread, shapeCast_self]
  · rw [outsAt0_B m c t (by omega) (by omega) (by omega)]
    unfold out0_B_2 sout0_B_0 kernelRun0_B
    sl_unfold_words
    simp only [stored, stored_load]

/-- 2560 inner places in two stretches, as in the second layer's first product. -/
theorem final : (dats m 0 c).arrAt 2 cfg0.N
    = @mul 4096 2560 2048 .bf16 .bf16 (m ((c : Thread nD τ).loc main_arg0)) (@turn 2048 2560 .bf16 (m ((c : Thread nD τ).loc main_arg1))) := by
  rw [← V_main_arg0 m c, ← V_main_arg1 m c]
  refine (dats m 0 c).arrAt_eq_of_cover 2 _ (fun t ht => ?_) (fun i => ?_)
  · have e := (flush0_2 t).mp ht
    refine (@whole_by 4096 2560 2048 .bf16 .bf16 1024 1024 1280 2 cfg0.N (fun t => ((cfg0.win 2).blk t).view.emb) _ (V m c main_arg0) (V m c main_arg1)
      (fun t => ((cfg0.win 0).blk t).view.emb) (fun t => ((cfg0.win 1).blk t).view.emb) win0_0.index win0_1.index win0_2.index rfl
      numbers.1 (fun _ _ => ⟨rfl, rfl⟩) (fun _ _ => ⟨rfl, rfl⟩) (fun _ _ => ⟨rfl, rfl⟩) (points m c) t (by omega)).trans ?_
    generalize @mul 4096 2560 2048 .bf16 .bf16 _ _ = z
    rfl
  · obtain ⟨t, h⟩ := @met 4096 2048 4 2 1024 1024 _ _ numbers.2 rfl rfl i
    exact ⟨t.1, (flush0_2 t.1).mpr t.2, (View.set_slice_whole main_v0 (win0_2.rect t.1)).symm ▸ Rect.mem_set_unit.mpr h⟩

end Cert.Dx5Ideal.Whole

namespace Cert.Dx6Ideal.Whole

open Cert.Dx6Ideal Cert.Dx6Ideal.Gen Cert.Product

theorem numbers : ((∀ t : Fin grid0.N, win0_0.index t = ![win0_2.index t 0, t.val % 4] ∧ win0_1.index t = ![win0_2.index t 1, t.val % 4])
      ∧ ∀ t u : Fin grid0.N, t.val = u.val + 1 → t.val % 4 ≠ 0 → win0_2.index u = win0_2.index t)
    ∧ ∀ (p : Fin 4) (q : Fin 2), ∃ t : {t : Fin grid0.N // t.val % 4 = 3}, win0_2.index t.1 = ![p.val, q.val] := by decide +kernel

variable (m : (ℓ : Loc nD τ sig) → Buf (Elt Ideal) ℓ) (c : Dev nD)

theorem points : @Points 1024 1024 cfg0.N 4 (fun t => k0_pay1 (iblk m c 0 t) (iblk m c 1 t)) (outsAt0 m c) := by
  refine fun t => ⟨fun e => ?_, fun e => ?_, fun e => ?_⟩
  · rw [outsAt0_A m c t e (by omega) (by omega)]
    unfold sout0_A_0 kernelRun0_A
    simp only [stored, loaded, k0_pay2, Memref.IsWhole.read_unread, shapeCast_self]
  · by_cases e2 : t.val % 4 = 3
    · rw [outsAt0_C m c t e (by omega) e2]
      unfold sout0_C_0 kernelRun0_C
      sl_unfold_words
      simp only [stored, loaded, k0_pay3, Memref.IsWhole.read_unread, (Memref.isWhole_whole cc0_scratch0).read_unread, shapeCast_self]
    · rw [outsAt0_B m c t e (by omega) e2]
      unfold sout0_B_0 kernelRun0_B
      simp only [stored, loaded, k0_pay3, Memref.IsWhole.read_unread, (Memref.isWhole_whole cc0_scratch0).read_unread, shapeCast_self]
  · rw [outsAt0_C m c t (by omega) (by omega) (by omega)]
    unfold out0_C_2 sout0_C_0 kernelRun0_C
    sl_unfold_words
    simp only [stored, stored_load]

/-- 6144 inner places in four stretches, as in the third layer's first product. -/
theorem final : (dats m 0 c).arrAt 2 cfg0.N
    = @mul 4096 6144 2048 .bf16 .bf16 (m ((c : Thread nD τ).loc main_arg0)) (@turn 2048 6144 .bf16 (m ((c : Thread nD τ).loc main_arg1))) := by
  rw [← V_main_arg0 m c, ← V_main_arg1 m c]
  refine (dats m 0 c).arrAt_eq_of_cover 2 _ (fun t ht => ?_) (fun i => ?_)
  · have e := (flush0_2 t).mp ht
    refine (@whole_by 4096 6144 2048 .bf16 .bf16 1024 1024 1536 4 cfg0.N (fun t => ((cfg0.win 2).blk t).view.emb) _ (V m c main_arg0) (V m c main_arg1)
      (fun t => ((cfg0.win 0).blk t).view.emb) (fun t => ((cfg0.win 1).blk t).view.emb) win0_0.index win0_1.index win0_2.index rfl
      numbers.1 (fun _ _ => ⟨rfl, rfl⟩) (fun _ _ => ⟨rfl, rfl⟩) (fun _ _ => ⟨rfl, rfl⟩) (points m c) t (by omega)).trans ?_
    generalize @mul 4096 6144 2048 .bf16 .bf16 _ _ = z
    rfl
  · obtain ⟨t, h⟩ := @met 4096 2048 4 2 1024 1024 _ _ numbers.2 rfl rfl i
    exact ⟨t.1, (flush0_2 t.1).mpr t.2, (View.set_slice_whole main_v0 (win0_2.rect t.1)).symm ▸ Rect.mem_set_unit.mpr h⟩

end Cert.Dx6Ideal.Whole

end
-- ==== Proof.WeightGrad.lean ====
/-
# The gradients of the weights

In the backward pass the gradient of a product's weight is the turned activations times the product's gradient. The
inner axis, of 4096 tokens, is taken in four stretches: as in `ActGrad.lean` the sum so far is kept in a scratch
block, and the last point of a block hands it out, narrowed.
-/
module

public import proofs.«01_k».proof.Proof.Turned
public import proofs.«01_k».proof.Proof.Gen.Dw0Ideal.Value
public import proofs.«01_k».proof.Proof.Gen.Dw1Ideal.Value
public import proofs.«01_k».proof.Proof.Gen.Dw2Ideal.Value
public import proofs.«01_k».proof.Proof.Gen.Dw3Ideal.Value
public import proofs.«01_k».proof.Proof.Gen.Dw4Ideal.Value
public import proofs.«01_k».proof.Proof.Gen.Dw5Ideal.Value
public import proofs.«01_k».proof.Proof.Gen.Dw6Ideal.Value

@[expose] public section

noncomputable section

open Idealize.ShloMosaic Idealize.ShloMosaic.TcCoe Idealize.ShloMosaic.Tactic

namespace Cert.Dw0Ideal.Whole

open Cert.Dw0Ideal Cert.Dw0Ideal.Gen Cert.Product

theorem numbers : ((∀ t : Fin grid0.N, win0_0.index t = ![t.val % 4, win0_2.index t 0] ∧ win0_1.index t = ![t.val % 4, win0_2.index t 1])
      ∧ ∀ t u : Fin grid0.N, t.val = u.val + 1 → t.val % 4 ≠ 0 → win0_2.index u = win0_2.index t)
    ∧ ∀ (p : Fin 11) (q : Fin 2), ∃ t : {t : Fin grid0.N // t.val % 4 = 3}, win0_2.index t.1 = ![p.val, q.val] := by decide +kernel

variable (m : (ℓ : Loc nD τ sig) → Buf (Elt Ideal) ℓ) (c : Dev nD)

theorem points : @Points 512 1024 cfg0.N 4 (fun t => k0_pay1 (iblk m c 0 t) (iblk m c 1 t)) (outsAt0 m c) := by
  refine fun t => ⟨fun e => ?_, fun e => ?_, fun e => ?_⟩
  · rw [outsAt0_A m c t e (by omega) (by omega)]
    unfold sout0_A_0 kernelRun0_A
    simp only [stored, loaded, k0_pay2, Memref.IsWhole.read_unread, shapeCast_self]
  · by_cases e2 : t.val % 4 = 3
    · rw [outsAt0_C m c t e (by omega) e2]
      unfold sout0_C_0 kernelRun0_C
      sl_unfold_words
      simp only [stored, loaded, k0_pay3, Memref.IsWhole.read_unread, (Memref.isWhole_whole cc0_scratch0).read_unread, shapeCast_self]
    · rw [outsAt0_B m c t e (by omega) e2]
      unfold sout0_B_0 kernelRun0_B
      simp only [stored, loaded, k0_pay3, Memref.IsWhole.read_unread, (Memref.isWhole_whole cc0_scratch0).read_unread, shapeCast_self]
  · rw [outsAt0_C m c t (by omega) (by omega) (by omega)]
    unfold out0_C_2 sout0_C_0 kernelRun0_C
    sl_unfold_words
    simp only [stored, stored_load]
    rfl

/-- 5632 rows and 2048 columns, as in the feed-forward blocks' second product: the array is the turned activations times the gradient. -/
theorem final : (dats m 0 c).arrAt 2 cfg0.N
    = @mul 5632 4096 2048 .bf16 .bf16 (@turn 4096 5632 .bf16 (m ((c : Thread nD τ).loc main_arg0))) (m ((c : Thread nD τ).loc main_arg1)) := by
  rw [← V_main_arg0 m c, ← V_main_arg1 m c]
  refine (dats m 0 c).arrAt_eq_of_cover 2 _ (fun t ht => ?_) (fun i => ?_)
  · have e := (flush0_2 t).mp ht
    refine (@whole_of 5632 4096 2048 .bf16 .bf16 512 1024 1024 4 cfg0.N (fun t => ((cfg0.win 2).blk t).view.emb) _ (V m c main_arg0) (V m c main_arg1)
      (fun t => ((cfg0.win 0).blk t).view.emb) (fun t => ((cfg0.win 1).blk t).view.emb) win0_0.index win0_1.index win0_2.index rfl
      numbers.1 (fun _ _ => ⟨rfl, rfl⟩) (fun _ _ => ⟨rfl, rfl⟩) (fun _ _ => ⟨rfl, rfl⟩) (points m c) t (by omega)).trans ?_
    generalize @mul 5632 4096 2048 .bf16 .bf16 _ _ = z
    rfl
  · obtain ⟨t, h⟩ := @met 5632 2048 11 2 512 1024 _ _ numbers.2 rfl rfl i
    exact ⟨t.1, (flush0_2 t.1).mpr t.2, (View.set_slice_whole main_v0 (win0_2.rect t.1)).symm ▸ Rect.mem_set_unit.mpr h⟩

end Cert.Dw0Ideal.Whole

namespace Cert.Dw1Ideal.Whole

open Cert.Dw1Ideal Cert.Dw1Ideal.Gen Cert.Product

theorem numbers : ((∀ t : Fin grid0.N, win0_0.index t = ![t.val % 4, win0_2.index t 0] ∧ win0_1.index t = ![t.val % 4, win0_2.index t 1])
      ∧ ∀ t u : Fin grid0.N, t.val = u.val + 1 → t.val % 4 ≠ 0 → win0_2.index u = win0_2.index t)
    ∧ ∀ (p : Fin 2) (q : Fin 11), ∃ t : {t : Fin grid0.N // t.val % 4 = 3}, win0_2.index t.1 = ![p.val, q.val] := by decide +kernel

variable (m : (ℓ : Loc nD τ sig) → Buf (Elt Ideal) ℓ) (c : Dev nD)

theorem points : @Points 1024 1024 cfg0.N 4 (fun t => k0_pay1 (iblk m c 0 t) (iblk m c 1 t)) (outsAt0 m c) := by
  refine fun t => ⟨fun e => ?_, fun e => ?_, fun e => ?_⟩
  · rw [outsAt0_A m c t e (by omega) (by omega)]
    unfold sout0_A_0 kernelRun0_A
    simp only [stored, loaded, k0_pay2, Memref.IsWhole.read_unread, shapeCast_self]
  · by_cases e2 : t.val % 4 = 3
    · rw [outsAt0_C m c t e (by omega) e2]
      unfold sout0_C_0 kernelRun0_C
      sl_unfold_words
      simp only [stored, loaded, k0_pay3, Memref.IsWhole.read_unread, (Memref.isWhole_whole cc0_scratch0).read_unread, shapeCast_self]
    · rw [outsAt0_B m c t e (by omega) e2]
      unfold sout0_B_0 kernelRun0_B
      simp only [stored, loaded, k0_pay3, Memref.IsWhole.read_unread, (Memref.isWhole_whole cc0_scratch0).read_unread, shapeCast_self]
  · rw [outsAt0_C m c t (by omega) (by omega) (by omega)]
    unfold out0_C_2 sout0_C_0 kernelRun0_C
    sl_unfold_words
    simp only [stored, stored_load]
    rfl

/-- 11264 columns, as in the feed-forward blocks' first product. -/
theorem final : (dats m 0 c).arrAt 2 cfg0.N
    = @mul 2048 4096 11264 .bf16 .bf16 (@turn 4096 2048 .bf16 (m ((c : Thread nD τ).loc main_arg0))) (m ((c : Thread nD τ).loc main_arg1)) := by
  rw [← V_main_arg0 m c, ← V_main_arg1 m c]
  refine (dats m 0 c).arrAt_eq_of_cover 2 _ (fun t ht => ?_) (fun i => ?_)
  · have e := (flush0_2 t).mp ht
    refine (@whole_of 2048 4096 11264 .bf16 .bf16 1024 1024 1024 4 cfg0.N (fun t => ((cfg0.win 2).blk t).view.emb) _ (V m c main_arg0) (V m c main_arg1)
      (fun t => ((cfg0.win 0).blk t).view.emb) (fun t => ((cfg0.win 1).blk t).view.emb) win0_0.index win0_1.index win0_2.index rfl
      numbers.1 (fun _ _ => ⟨rfl, rfl⟩) (fun _ _ => ⟨rfl, rfl⟩) (fun _ _ => ⟨rfl, rfl⟩) (points m c) t (by omega)).trans ?_
    generalize @mul 2048 4096 11264 .bf16 .bf16 _ _ = z
    rfl
  · obtain ⟨t, h⟩ := @met 2048 11264 2 11 1024 1024 _ _ numbers.2 rfl rfl i
    exact ⟨t.1, (flush0_2 t.1).mpr t.2, (View.set_slice_whole main_v0 (win0_2.rect t.1)).symm ▸ Rect.mem_set_unit.mpr h⟩

end Cert.Dw1Ideal.Whole

namespace Cert.Dw2Ideal.Whole

open Cert.Dw2Ideal Cert.Dw2Ideal.Gen Cert.Product

theorem numbers : ((∀ t : Fin grid0.N, win0_0.index t = ![t.val % 4, win0_2.index t 0] ∧ win0_1.index t = ![t.val % 4, win0_2.index t 1])
      ∧ ∀ t u : Fin grid0.N, t.val = u.val + 1 → t.val % 4 ≠ 0 → win0_2.index u = win0_2.index t)
    ∧ ∀ (p : Fin 2) (q : Fin 2), ∃ t : {t : Fin grid0.N // t.val % 4 = 3}, win0_2.index t.1 = ![p.val, q.val] := by decide +kernel

variable (m : (ℓ : Loc nD τ sig) → Buf (Elt Ideal) ℓ) (c : Dev nD)

theorem points : @Points 1024 1024 cfg0.N 4 (fun t => k0_pay1 (iblk m c 0 t) (iblk m c 1 t)) (outsAt0 m c) := by
  refine fun t => ⟨fun e => ?_, fun e => ?_, fun e => ?_⟩
  · rw [outsAt0_A m c t e (by omega) (by omega)]
    unfold sout0_A_0 kernelRun0_A
    simp only [stored, loaded, k0_pay2, Memref.IsWhole.read_unread, shapeCast_self]
  · by_cases e2 : t.val % 4 = 3
    · rw [outsAt0_C m c t e (by omega) e2]
      unfold sout0_C_0 kernelRun0_C
      sl_unfold_words
      simp only [stored, loaded, k0_pay3, Memref.IsWhole.read_unread, (Memref.isWhole_whole cc0_scratch0).read_unread, shapeCast_self]
    · rw [outsAt0_B m c t e (by omega) e2]
      unfold sout0_B_0 kernelRun0_B
      simp only [stored, loaded, k0_pay3, Memref.IsWhole.read_unread, (Memref.isWhole_whole cc0_scratch0).read_unread, shapeCast_self]
  · rw [outsAt0_C m c t (by omega) (by omega) (by omega)]
    unfold out0_C_2 sout0_C_0 kernelRun0_C
    sl_unfold_words
    simp only [stored, stored_load]
    rfl

/-- 2048 columns, as in the mixers' last products. -/
theorem final : (dats m 0 c).arrAt 2 cfg0.N
    = @mul 2048 4096 2048 .bf16 .bf16 (@turn 4096 2048 .bf16 (m ((c : Thread nD τ).loc main_arg0))) (m ((c : Thread nD τ).loc main_arg1)) := by
  rw [← V_main_arg0 m c, ← V_main_arg1 m c]
  refine (dats m 0 c).arrAt_eq_of_cover 2 _ (fun t ht => ?_) (fun i => ?_)
  · have e := (flush0_2 t).mp ht
    refine (@whole_of 2048 4096 2048 .bf16 .bf16 1024 1024 1024 4 cfg0.N (fun t => ((cfg0.win 2).blk t).view.emb) _ (V m c main_arg0) (V m c main_arg1)
      (fun t => ((cfg0.win 0).blk t).view.emb) (fun t => ((cfg0.win 1).blk t).view.emb) win0_0.index win0_1.index win0_2.index rfl
      numbers.1 (fun _ _ => ⟨rfl, rfl⟩) (fun _ _ => ⟨rfl, rfl⟩) (fun _ _ => ⟨rfl, rfl⟩) (points m c) t (by omega)).trans ?_
    generalize @mul 2048 4096 2048 .bf16 .bf16 _ _ = z
    rfl
  · obtain ⟨t, h⟩ := @met 2048 2048 2 2 1024 1024 _ _ numbers.2 rfl rfl i
    exact ⟨t.1, (flush0_2 t.1).mpr t.2, (View.set_slice_whole main_v0 (win0_2.rect t.1)).symm ▸ Rect.mem_set_unit.mpr h⟩

end Cert.Dw2Ideal.Whole

namespace Cert.Dw3Ideal.Whole

open Cert.Dw3Ideal Cert.Dw3Ideal.Gen Cert.Product

theorem numbers : ((∀ t : Fin grid0.N, win0_0.index t = ![t.val % 4, win0_2.index t 0] ∧ win0_1.index t = ![t.val % 4, win0_2.index t 1])
      ∧ ∀ t u : Fin grid0.N, t.val = u.val + 1 → t.val % 4 ≠ 0 → win0_2.index u = win0_2.index t)
    ∧ ∀ (p : Fin 2) (q : Fin 8), ∃ t : {t : Fin grid0.N // t.val % 4 = 3}, win0_2.index t.1 = ![p.val, q.val] := by decide +kernel

variable (m : (ℓ : Loc nD τ sig) → Buf (Elt Ideal) ℓ) (c : Dev nD)

theorem points : @Points 1024 1024 cfg0.N 4 (fun t => k0_pay1 (iblk m c 0 t) (iblk m c 1 t)) (outsAt0 m c) := by
  refine fun t => ⟨fun e => ?_, fun e => ?_, fun e => ?_⟩
  · rw [outsAt0_A m c t e (by omega) (by omega)]
    unfold sout0_A_0 kernelRun0_A
    simp only [stored, loaded, k0_pay2, Memref.IsWhole.read_unread, shapeCast_self]
  · by_cases e2 : t.val % 4 = 3
    · rw [outsAt0_C m c t e (by omega) e2]
      unfold sout0_C_0 kernelRun0_C
      sl_unfold_words
      simp only [stored, loaded, k0_pay3, Memref.IsWhole.read_unread, (Memref.isWhole_whole cc0_scratch0).read_unread, shapeCast_self]
    · rw [outsAt0_B m c t e (by omega) e2]
      unfold sout0_B_0 kernelRun0_B
      simp only [stored, loaded, k0_pay3, Memref.IsWhole.read_unread, (Memref.isWhole_whole cc0_scratch0).read_unread, shapeCast_self]
  · rw [outsAt0_C m c t (by omega) (by omega) (by omega)]
    unfold out0_C_2 sout0_C_0 kernelRun0_C
    sl_unfold_words
    simp only [stored, stored_load]
    rfl

/-- 8192 columns, as in two mixers' first products. -/
theorem final : (dats m 0 c).arrAt 2 cfg0.N
    = @mul 2048 4096 8192 .bf16 .bf16 (@turn 4096 2048 .bf16 (m ((c : Thread nD τ).loc main_arg0))) (m ((c : Thread nD τ).loc main_arg1)) := by
  rw [← V_main_arg0 m c, ← V_main_arg1 m c]
  refine (dats m 0 c).arrAt_eq_of_cover 2 _ (fun t ht => ?_) (fun i => ?_)
  · have e := (flush0_2 t).mp ht
    refine (@whole_of 2048 4096 8192 .bf16 .bf16 1024 1024 1024 4 cfg0.N (fun t => ((cfg0.win 2).blk t).view.emb) _ (V m c main_arg0) (V m c main_arg1)
      (fun t => ((cfg0.win 0).blk t).view.emb) (fun t => ((cfg0.win 1).blk t).view.emb) win0_0.index win0_1.index win0_2.index rfl
      numbers.1 (fun _ _ => ⟨rfl, rfl⟩) (fun _ _ => ⟨rfl, rfl⟩) (fun _ _ => ⟨rfl, rfl⟩) (points m c) t (by omega)).trans ?_
    generalize @mul 2048 4096 8192 .bf16 .bf16 _ _ = z
    rfl
  · obtain ⟨t, h⟩ := @met 2048 8192 2 8 1024 1024 _ _ numbers.2 rfl rfl i
    exact ⟨t.1, (flush0_2 t.1).mpr t.2, (View.set_slice_whole main_v0 (win0_2.rect t.1)).symm ▸ Rect.mem_set_unit.mpr h⟩

end Cert.Dw3Ideal.Whole

namespace Cert.Dw4Ideal.Whole

open Cert.Dw4Ideal Cert.Dw4Ideal.Gen Cert.Product

theorem numbers : ((∀ t : Fin grid0.N, win0_0.index t = ![t.val % 4, win0_2.index t 0] ∧ win0_1.index t = ![t.val % 4, win0_2.index t 1])
      ∧ ∀ t u : Fin grid0.N, t.val = u.val + 1 → t.val % 4 ≠ 0 → win0_2.index u = win0_2.index t)
    ∧ ∀ (p : Fin 2) (q : Fin 4), ∃ t : {t : Fin grid0.N // t.val % 4 = 3}, win0_2.index t.1 = ![p.val, q.val] := by decide +kernel

variable (m : (ℓ : Loc nD τ sig) → Buf (Elt Ideal) ℓ) (c : Dev nD)

theorem points : @Points 1024 640 cfg0.N 4 (fun t => k0_pay1 (iblk m c 0 t) (iblk m c 1 t)) (outsAt0 m c) := by
  refine fun t => ⟨fun e => ?_, fun e => ?_, fun e => ?_⟩
  · rw [outsAt0_A m c t e (by omega) (by omega)]
    unfold sout0_A_0 kernelRun0_A
    simp only [stored, loaded, k0_pay2, Memref.IsWhole.read_unread, shapeCast_self]
  · by_cases e2 : t.val % 4 = 3
    · rw [outsAt0_C m c t e (by omega) e2]
      unfold sout0_C_0 kernelRun0_C
      sl_unfold_words
      simp only [stored, loaded, k0_pay3, Memref.IsWhole.read_unread, (Memref.isWhole_whole cc0_scratch0).read_unread, shapeCast_self]
    · rw [outsAt0_B m c t e (by omega) e2]
      unfold sout0_B_0 kernelRun0_B
      simp only [stored, loaded, k0_pay3, Memref.IsWhole.read_unread, (Memref.isWhole_whole cc0_scratch0).read_unread, shapeCast_self]
  · rw [outsAt0_C m c t (by omega) (by omega) (by omega)]
    unfold out0_C_2 sout0_C_0 kernelRun0_C
    sl_unfold_words
    simp only [stored, stored_load]
    rfl

/-- 2560 columns, as in the second layer's first product. -/
theorem final : (dats m 0 c).arrAt 2 cfg0.N
    = @mul 2048 4096 2560 .bf16 .bf16 (@turn 4096 2048 .bf16 (m ((c : Thread nD τ).loc main_arg0))) (m ((c : Thread nD τ).loc main_arg1)) := by
  rw [← V_main_arg0 m c, ← V_main_arg1 m c]
  refine (dats m 0 c).arrAt_eq_of_cover 2 _ (fun t ht => ?_) (fun i => ?_)
  · have e := (flush0_2 t).mp ht
    refine (@whole_of 2048 4096 2560 .bf16 .bf16 1024 640 1024 4 cfg0.N (fun t => ((cfg0.win 2).blk t).view.emb) _ (V m c main_arg0) (V m c main_arg1)
      (fun t => ((cfg0.win 0).blk t).view.emb) (fun t => ((cfg0.win 1).blk t).view.emb) win0_0.index win0_1.index win0_2.index rfl
      numbers.1 (fun _ _ => ⟨rfl, rfl⟩) (fun _ _ => ⟨rfl, rfl⟩) (fun _ _ => ⟨rfl, rfl⟩) (points m c) t (by omega)).trans ?_
    generalize @mul 2048 4096 2560 .bf16 .bf16 _ _ = z
    rfl
  · obtain ⟨t, h⟩ := @met 2048 2560 2 4 1024 640 _ _ numbers.2 rfl rfl i
    exact ⟨t.1, (flush0_2 t.1).mpr t.2, (View.set_slice_whole main_v0 (win0_2.rect t.1)).symm ▸ Rect.mem_set_unit.mpr h⟩

end Cert.Dw4Ideal.Whole

namespace Cert.Dw5Ideal.Whole

open Cert.Dw5Ideal Cert.Dw5Ideal.Gen Cert.Product

theorem numbers : ((∀ t : Fin grid0.N, win0_0.index t = ![t.val % 4, win0_2.index t 0] ∧ win0_1.index t = ![t.val % 4, win0_2.index t 1])
      ∧ ∀ t u : Fin grid0.N, t.val = u.val + 1 → t.val % 4 ≠ 0 → win0_2.index u = win0_2.index t)
    ∧ ∀ (p : Fin 2) (q : Fin 6), ∃ t : {t : Fin grid0.N // t.val % 4 = 3}, win0_2.index t.1 = ![p.val, q.val] := by decide +kernel

variable (m : (ℓ : Loc nD τ sig) → Buf (Elt Ideal) ℓ) (c : Dev nD)

theorem points : @Points 1024 1024 cfg0.N 4 (fun t => k0_pay1 (iblk m c 0 t) (iblk m c 1 t)) (outsAt0 m c) := by
  refine fun t => ⟨fun e => ?_, fun e => ?_, fun e => ?_⟩
  · rw [outsAt0_A m c t e (by omega) (by omega)]
    unfold sout0_A_0 kernelRun0_A
    simp only [stored, loaded, k0_pay2, Memref.IsWhole.read_unread, shapeCast_self]
  · by_cases e2 : t.val % 4 = 3
    · rw [outsAt0_C m c t e (by omega) e2]
      unfold sout0_C_0 kernelRun0_C
      sl_unfold_words
      simp only [stored, loaded, k0_pay3, Memref.IsWhole.read_unread, (Memref.isWhole_whole cc0_scratch0).read_unread, shapeCast_self]
    · rw [outsAt0_B m c t e (by omega) e2]
      unfold sout0_B_0 kernelRun0_B
      simp only [stored, loaded, k0_pay3, Memref.IsWhole.read_unread, (Memref.isWhole_whole cc0_scratch0).read_unread, shapeCast_self]
  · rw [outsAt0_C m c t (by omega) (by omega) (by omega)]
    unfold out0_C_2 sout0_C_0 kernelRun0_C
    sl_unfold_words
    simp only [stored, stored_load]
    rfl

/-- 6144 columns, as in the third layer's first product. -/
theorem final : (dats m 0 c).arrAt 2 cfg0.N
    = @mul 2048 4096 6144 .bf16 .bf16 (@turn 4096 2048 .bf16 (m ((c : Thread nD τ).loc main_arg0))) (m ((c : Thread nD τ).loc main_arg1)) := by
  rw [← V_main_arg0 m c, ← V_main_arg1 m c]
  refine (dats m 0 c).arrAt_eq_of_cover 2 _ (fun t ht => ?_) (fun i => ?_)
  · have e := (flush0_2 t).mp ht
    refine (@whole_of 2048 4096 6144 .bf16 .bf16 1024 1024 1024 4 cfg0.N (fun t => ((cfg0.win 2).blk t).view.emb) _ (V m c main_arg0) (V m c main_arg1)
      (fun t => ((cfg0.win 0).blk t).view.emb) (fun t => ((cfg0.win 1).blk t).view.emb) win0_0.index win0_1.index win0_2.index rfl
      numbers.1 (fun _ _ => ⟨rfl, rfl⟩) (fun _ _ => ⟨rfl, rfl⟩) (fun _ _ => ⟨rfl, rfl⟩) (points m c) t (by omega)).trans ?_
    generalize @mul 2048 4096 6144 .bf16 .bf16 _ _ = z
    rfl
  · obtain ⟨t, h⟩ := @met 2048 6144 2 6 1024 1024 _ _ numbers.2 rfl rfl i
    exact ⟨t.1, (flush0_2 t.1).mpr t.2, (View.set_slice_whole main_v0 (win0_2.rect t.1)).symm ▸ Rect.mem_set_unit.mpr h⟩

end Cert.Dw5Ideal.Whole

namespace Cert.Dw6Ideal.Whole

open Cert.Dw6Ideal Cert.Dw6Ideal.Gen Cert.Product

theorem numbers : ((∀ t : Fin grid0.N, win0_0.index t = ![t.val % 4, win0_2.index t 0] ∧ win0_1.index t = ![t.val % 4, win0_2.index t 1])
      ∧ ∀ t u : Fin grid0.N, t.val = u.val + 1 → t.val % 4 ≠ 0 → win0_2.index u = win0_2.index t)
    ∧ ∀ (p : Fin 2) (q : Fin 1), ∃ t : {t : Fin grid0.N // t.val % 4 = 3}, win0_2.index t.1 = ![p.val, q.val] := by decide +kernel

variable (m : (ℓ : Loc nD τ sig) → Buf (Elt Ideal) ℓ) (c : Dev nD)

theorem points : @Points 1024 128 cfg0.N 4 (fun t => k0_pay1 (iblk m c 0 t) (iblk m c 1 t)) (outsAt0 m c) := by
  refine fun t => ⟨fun e => ?_, fun e => ?_, fun e => ?_⟩
  · rw [outsAt0_A m c t e (by omega) (by omega)]
    unfold sout0_A_0 kernelRun0_A
    simp only [stored, loaded, k0_pay2, Memref.IsWhole.read_unread, shapeCast_self]
  · by_cases e2 : t.val % 4 = 3
    · rw [outsAt0_C m c t e (by omega) e2]
      unfold sout0_C_0 kernelRun0_C
      sl_unfold_words
      simp only [stored, loaded, k0_pay3, Memref.IsWhole.read_unread, (Memref.isWhole_whole cc0_scratch0).read_unread, shapeCast_self]
    · rw [outsAt0_B m c t e (by omega) e2]
      unfold sout0_B_0 kernelRun0_B
      simp only [stored, loaded, k0_pay3, Memref.IsWhole.read_unread, (Memref.isWhole_whole cc0_scratch0).read_unread, shapeCast_self]
  · rw [outsAt0_C m c t (by omega) (by omega) (by omega)]
    unfold out0_C_2 sout0_C_0 kernelRun0_C
    sl_unfold_words
    simp only [stored, stored_load]
    rfl

/-- 128 columns, as in the last layer's gates. -/
theorem final : (dats m 0 c).arrAt 2 cfg0.N
    = @mul 2048 4096 128 .bf16 .bf16 (@turn 4096 2048 .bf16 (m ((c : Thread nD τ).loc main_arg0))) (m ((c : Thread nD τ).loc main_arg1)) := by
  rw [← V_main_arg0 m c, ← V_main_arg1 m c]
  refine (dats m 0 c).arrAt_eq_of_cover 2 _ (fun t ht => ?_) (fun i => ?_)
  · have e := (flush0_2 t).mp ht
    refine (@whole_of 2048 4096 128 .bf16 .bf16 1024 128 1024 4 cfg0.N (fun t => ((cfg0.win 2).blk t).view.emb) _ (V m c main_arg0) (V m c main_arg1)
      (fun t => ((cfg0.win 0).blk t).view.emb) (fun t => ((cfg0.win 1).blk t).view.emb) win0_0.index win0_1.index win0_2.index rfl
      numbers.1 (fun _ _ => ⟨rfl, rfl⟩) (fun _ _ => ⟨rfl, rfl⟩) (fun _ _ => ⟨rfl, rfl⟩) (points m c) t (by omega)).trans ?_
    generalize @mul 2048 4096 128 .bf16 .bf16 _ _ = z
    rfl
  · obtain ⟨t, h⟩ := @met 2048 128 2 1 1024 128 _ _ numbers.2 rfl rfl i
    exact ⟨t.1, (flush0_2 t.1).mpr t.2, (View.set_slice_whole main_v0 (win0_2.rect t.1)).symm ▸ Rect.mem_set_unit.mpr h⟩

end Cert.Dw6Ideal.Whole

end
-- ==== Proof.Taps.lean ====
/-
# A causal convolution of three taps down the rows

Every entry of the convolution is a weighted sum of the entry itself and of the two entries above it in its column, and
above the first row there are zeros. The host writes it with the rows padded and sliced; a kernel takes it block by block,
with its rows turned around and the two rows before the block put in place.
-/
module

public import proofs.«01_k».proof.Proof.Product
public import Idealize.ShloMosaic.Lib.KernelVsHost

@[expose] public section

noncomputable section

namespace Cert.Taps

open Idealize.ShloMosaic Idealize.ShloMosaic.ValueIdx Cert.Product

/-- An extended real. -/
abbrev Num : Type := Ideal .f32

variable {T C : ℕ}

/-- The entry of a column at a row, and zero past the last. -/
def col (X : FVec Ideal (Sq T C) .f32) (c : Fin C) (r : ℕ) : Num :=
  if h : r < T then X (ix2 ⟨r, h⟩ c) else (0 : EReal)

/-- The entry of a column `s` rows above a row, and zero above the first. -/
def above (X : FVec Ideal (Sq T C) .f32) (c : Fin C) (r s : ℕ) : Num :=
  if s ≤ r then col X c (r - s) else (0 : EReal)

/-- The convolution, entry by entry. -/
def taps (w : FVec Ideal (Sq 3 C) .f32) (X : FVec Ideal (Sq T C) .f32) : FVec Ideal (Sq T C) .f32 :=
  fun i => FloatOps.addf (FloatOps.addf (FloatOps.mulf (w (ix2 0 (i 1))) (above X (i 1) (i 0).val 2))
    (FloatOps.mulf (w (ix2 1 (i 1))) (above X (i 1) (i 0).val 1))) (FloatOps.mulf (w (ix2 2 (i 1))) (above X (i 1) (i 0).val 0))

theorem col_of (X : FVec Ideal (Sq T C) .f32) (i : (Sq T C).Idx) (c : Fin C) (r : ℕ) (h : (i 0).val = r ∧ (i 1).val = c.val) : X i = col X c r := by
  have hr : r < T := h.1 ▸ (i 0).isLt
  unfold col
  rw [dif_pos hr]
  refine congrArg X (funext fun a => Fin.ext ?_)
  match a with
  | ⟨0, _⟩ => exact h.1
  | ⟨1, _⟩ => exact h.2

/-! ## The host's text -/

/-- A row of the weights, put beside every row. -/
theorem weight (w : FVec Ideal (Sq 3 C) .f32) (k : Fin 3) (hb hb' hs hc) (i : (Sq T C).Idx) :
    broadcastInDim (Sq T C) ![0, 1] hb (broadcastInDim (s := ⟨1, ![C]⟩) (Sq 1 C) ![1] hb' (shapeCast ⟨1, ![C]⟩ (extractStridedSlice (Sq 1 C) ![k.val, 0] w hs) hc)) i
      = w (ix2 k (i 1)) := by
  have hC : (i 1).val < C := (i 1).isLt
  have one {n : ℕ} (hn : n < C) : n = if C = 1 then 0 else n := by
    split <;> omega
  refine (broadcastInDim_apply _ _ _ i (ix2 0 (i 1)) (fun a => ?_)).trans ((broadcastInDim_apply _ _ _ _ (show (⟨1, ![C]⟩ : Shape).Idx from fun a => ⟨(i 1).val, by match a with | ⟨0, _⟩ => exact hC⟩) (fun a => ?_)).trans
    ((shapeCast_apply _ _ _ (ix2 (0 : Fin 1) (i 1)) ?_).trans (extractStridedSlice_apply _ _ _ _ (ix2 k (i 1)) (fun a => ?_))))
  · match a with
    | ⟨0, _⟩ => rfl
    | ⟨1, _⟩ => exact one hC
  · match a with
    | ⟨0, _⟩ => exact one hC
  · rw [Shape.rowMajor_val_two, Shape.rowMajor_val_one]
    show 0 * C + (i 1).val = (i 1).val
    omega
  · match a with
    | ⟨0, _⟩ => rfl
    | ⟨1, _⟩ => exact (Nat.zero_add _).symm

/-- The rows moved down by `s`, by a pad of two rows of zeros and a slice. -/
theorem moved (X : FVec Ideal (Sq T C) .f32) {u : Shape} (v : FVec Ideal u .f32) (h hu) (k s : ℕ) (hs) (hk : k + s = 2)
    (hv : v (Shape.Idx.first hu) = (0 : EReal)) (i : (Sq T C).Idx) :
    extractStridedSlice (s := Sq (T + 2) C) (Sq T C) ![k, 0] (pad (Sq (T + 2) C) ![2, 0] ![0, 0] ![0, 0] X v h hu) hs i = above X (i 1) (i 0).val s := by
  have h0 : (i 0).val < T := (i 0).isLt
  refine (extractStridedSlice_apply _ _ _ i (ix2 (⟨k + (i 0).val, by omega⟩ : Fin (T + 2)) (i 1)) (fun a => ?_)).trans ?_
  · match a with
    | ⟨0, _⟩ => rfl
    | ⟨1, _⟩ => exact (Nat.zero_add _).symm
  unfold above
  by_cases hr : s ≤ (i 0).val
  · refine Eq.trans ?_ (if_pos hr).symm
    refine (pad_apply_of_inside _ _ _ X v h hu _ (ix2 (⟨(i 0).val - s, by omega⟩ : Fin T) (i 1)) (fun a => ?_)).trans (col_of X _ _ _ ⟨rfl, rfl⟩)
    match a with
    | ⟨0, _⟩ => show k + (i 0).val = 2 + ((i 0).val - s) * (0 + 1); omega
    | ⟨1, _⟩ => show (i 1).val = 0 + (i 1).val * (0 + 1); omega
  · refine Eq.trans ?_ (if_neg hr).symm
    refine (pad_apply_of_not_inside _ _ _ X v h hu _ 0 (fun e => ?_)).trans hv
    have : 2 ≤ k + (i 0).val := e.1
    omega

/-- What the host's text computes. -/
theorem host (w : FVec Ideal (Sq 3 C) .f32) (X : FVec Ideal (Sq T C) .f32) {u : Shape} (v : FVec Ideal u .f32) (hu) (hb hb' hc h s0 s1 s2 t0 t1 t2)
    (hv : v (Shape.Idx.first hu) = (0 : EReal)) :
    addf (addf
      (mulf (broadcastInDim (Sq T C) ![0, 1] hb (broadcastInDim (s := ⟨1, ![C]⟩) (Sq 1 C) ![1] hb' (shapeCast ⟨1, ![C]⟩ (extractStridedSlice (Sq 1 C) ![0, 0] w s0) hc)))
        (extractStridedSlice (s := Sq (T + 2) C) (Sq T C) ![0, 0] (pad (Sq (T + 2) C) ![2, 0] ![0, 0] ![0, 0] X v h hu) t0))
      (mulf (broadcastInDim (Sq T C) ![0, 1] hb (broadcastInDim (s := ⟨1, ![C]⟩) (Sq 1 C) ![1] hb' (shapeCast ⟨1, ![C]⟩ (extractStridedSlice (Sq 1 C) ![1, 0] w s1) hc)))
        (extractStridedSlice (s := Sq (T + 2) C) (Sq T C) ![1, 0] (pad (Sq (T + 2) C) ![2, 0] ![0, 0] ![0, 0] X v h hu) t1)))
      (mulf (broadcastInDim (Sq T C) ![0, 1] hb (broadcastInDim (s := ⟨1, ![C]⟩) (Sq 1 C) ![1] hb' (shapeCast ⟨1, ![C]⟩ (extractStridedSlice (Sq 1 C) ![2, 0] w s2) hc)))
        (extractStridedSlice (s := Sq (T + 2) C) (Sq T C) ![2, 0] (pad (Sq (T + 2) C) ![2, 0] ![0, 0] ![0, 0] X v h hu) t2))
      = taps w X := by
  funext i
  show FloatOps.addf (FloatOps.addf (FloatOps.mulf _ _) (FloatOps.mulf _ _)) (FloatOps.mulf _ _) = _
  rw [moved X v h hu 0 2 t0 rfl hv i, moved X v h hu 1 1 t1 rfl hv i, moved X v h hu 2 0 t2 rfl hv i]
  exact congrArg₂ FloatOps.addf (congrArg₂ FloatOps.addf (congrArg (FloatOps.mulf · _) (weight w 0 hb hb' s0 hc i))
    (congrArg (FloatOps.mulf · _) (weight w 1 hb hb' s1 hc i))) (congrArg (FloatOps.mulf · _) (weight w 2 hb hb' s2 hc i))

/-! ## A block -/

variable {m n : ℕ}

/-- A row put on every row of a block. -/
theorem spread (x : FVec Ideal (Sq 1 n) .f32) (h) (y : (Sq m n).Idx) : broadcastTo (Sq m n) x h y = x (ix2 0 (y 1)) :=
  broadcastTo_apply x h y _ fun a => by
    have : (y 1).val < n := (y 1).isLt
    match a with
    | ⟨0, _⟩ => rfl
    | ⟨1, _⟩ => show (y 1).val = if n = 1 then 0 else (y 1).val; split <;> omega

/-- The rows of a block turned around by `s`, past its first `s`. -/
theorem turned (x : FVec Ideal (Sq m n) .f32) (s : ℕ) (hs : s < m ∧ m < 2 ^ 32) (h) (y : (Sq m n).Idx) (hy : s ≤ (y 0).val) :
    dynamicRotate 0 (BitVec.ofNat 32 s) none x h y = x (ix2 ⟨(y 0).val - s, by have : (y 0).val < m := (y 0).isLt; omega⟩ (y 1)) := by
  have h0 : (y 0).val < m := (y 0).isLt
  refine dynamicRotate_apply 0 _ x h y _ fun b => ?_
  match b with
  | ⟨0, _⟩ =>
    show (y 0).val - s = ((y 0).val + m - (BitVec.ofNat 32 s).toNat % m) % m
    rw [BitVec.toNat_ofNat, Nat.mod_eq_of_lt (show s < 2 ^ 32 by omega), Nat.mod_eq_of_lt hs.1,
      show (y 0).val + m - s = ((y 0).val - s) + m by omega, Nat.add_mod_right, Nat.mod_eq_of_lt (by omega)]
  | ⟨1, _⟩ => rfl

/-- A choice by the number of the row. -/
theorem chosen (k : ℕ) (hk : k < 2 ^ 32) (hm : m < 2 ^ 32) (hi) (A B : FVec Ideal (Sq m n) .f32) (y : (Sq m n).Idx) :
    select (cmpi .eq (iota .tc (Sq m n) 32 [0] hi) (broadcast (Sq m n) (BitVec.ofNat 32 k))) A B y = if (y 0).val = k then A y else B y := by
  have h0 : (y 0).val < m := (y 0).isLt
  show (if BitVec.ofBool (iota .tc (Sq m n) 32 [0] hi y == BitVec.ofNat 32 k) = 1 then A y else B y) = _
  rw [iota_single_apply]
  by_cases e : (y 0).val = k
  · rw [if_pos e, e, if_pos (by simp)]
  · rw [if_neg e, if_neg]
    intro c
    have c' : BitVec.ofNat 32 (y 0).val = BitVec.ofNat 32 k := by
      by_contra hne
      rw [beq_eq_false_iff_ne.2 hne] at c
      exact absurd c (by decide)
    have := congrArg BitVec.toNat c'
    rw [BitVec.toNat_ofNat, BitVec.toNat_ofNat, Nat.mod_eq_of_lt hk, Nat.mod_eq_of_lt (by omega)] at this
    exact e this

/-- A row kept past the first block of rows, and zeros in its place at the first. -/
theorem kept (r : ℕ) (hr : r < 2 ^ 31) (A : FVec Ideal (Sq 1 n) .f32) (z : (Sq 1 n).Idx) :
    (Scalar.select (Scalar.cmpi .sgt (BitVec.ofNat 32 r) 0#32) A (broadcast (Sq 1 n) (Scalar.ofBits .f32 0x00000000#32)) : FVec Ideal (Sq 1 n) .f32) z
      = if 0 < r then A z else (0 : EReal) := by
  have e : Scalar.cmpi .sgt (BitVec.ofNat 32 r) 0#32 = if 0 < r then 1#1 else 0#1 := by
    show BitVec.ofBool ((0#32 : BitVec 32).slt (BitVec.ofNat 32 r)) = _
    have ht : (BitVec.ofNat 32 r).toInt = r := by
      rw [BitVec.toInt_eq_toNat_cond, BitVec.toNat_ofNat, Nat.mod_eq_of_lt (by omega), if_pos (by omega)]
    rw [BitVec.slt, ht]
    by_cases h : 0 < r
    · rw [if_pos h]; simp [h]
    · rw [if_neg h]; simp [h]
  rw [e]
  by_cases h : 0 < r
  · rw [if_pos h, if_pos h]; rfl
  · rw [if_neg h, if_neg h]; exact Ideal.ofBits_zero_f32

/-- A block of rows under the convolution: `p` is its first row, `x` holds its entries, and `h1` and `h2` are the row before it and the row
    before that. -/
theorem block (w : FVec Ideal (Sq 3 C) .f32) (X : FVec Ideal (Sq T C) .f32) (x : FVec Ideal (Sq m n) .f32) (h1 h2 w0 w1 w2 : FVec Ideal (Sq 1 n) .f32)
    (p : ℕ) (y : (Sq m n).Idx) (i : (Sq T C).Idx) (hi : (i 0).val = p + (y 0).val) (hm : 2 < m ∧ m < 2 ^ 32)
    (hx : ∀ z : (Sq m n).Idx, z 1 = y 1 → x z = col X (i 1) (p + (z 0).val)) (e1 : h1 (ix2 0 (y 1)) = above X (i 1) p 1)
    (e2 : h2 (ix2 0 (y 1)) = above X (i 1) p 2) (hp : p = 0 ∨ 2 ≤ p)
    (ew : w0 (ix2 0 (y 1)) = w (ix2 0 (i 1)) ∧ w1 (ix2 0 (y 1)) = w (ix2 1 (i 1)) ∧ w2 (ix2 0 (y 1)) = w (ix2 2 (i 1))) (ha hb hc hd) :
    (addf (addf
      (mulf (broadcastTo (Sq m n) w0 hb)
        (select (cmpi .eq (iota .tc (Sq m n) 32 [0] ha) (broadcast (Sq m n) 0#32)) (broadcastTo (Sq m n) (shapeCast (Sq 1 n) h2 hc) hb)
          (select (cmpi .eq (iota .tc (Sq m n) 32 [0] ha) (broadcast (Sq m n) 1#32)) (broadcastTo (Sq m n) (shapeCast (Sq 1 n) h1 hc) hb) (dynamicRotate 0 2#32 none x hd))))
      (mulf (broadcastTo (Sq m n) w1 hb)
        (select (cmpi .eq (iota .tc (Sq m n) 32 [0] ha) (broadcast (Sq m n) 0#32)) (broadcastTo (Sq m n) (shapeCast (Sq 1 n) h1 hc) hb) (dynamicRotate 0 1#32 none x hd))))
      (mulf (broadcastTo (Sq m n) w2 hb) x) : FVec Ideal (Sq m n) .f32) y = taps w X i := by
  have h0 : (y 0).val < m := (y 0).isLt
  have past (s : ℕ) (hs : s < m) (hy : s ≤ (y 0).val) : dynamicRotate 0 (BitVec.ofNat 32 s) none x hd y = above X (i 1) (i 0).val s := by
    refine (turned x s ⟨hs, hm.2⟩ hd y hy).trans ((hx (ix2 ⟨(y 0).val - s, by omega⟩ (y 1)) rfl).trans ?_)
    unfold above
    rw [if_pos (by omega)]
    exact congrArg (col X (i 1)) (show p + ((y 0).val - s) = _ by omega)
  have q1 : select (cmpi .eq (iota .tc (Sq m n) 32 [0] ha) (broadcast (Sq m n) 0#32)) (broadcastTo (Sq m n) (shapeCast (Sq 1 n) h1 hc) hb) (dynamicRotate 0 1#32 none x hd) y
      = above X (i 1) (i 0).val 1 := by
    rw [shapeCast_self]
    refine (chosen 0 (by omega) hm.2 ha _ _ y).trans ?_
    by_cases c : (y 0).val = 0
    · rw [if_pos c, spread, e1, hi, c]; rfl
    · rw [if_neg c]; exact past 1 (by omega) (by omega)
  have q2 : select (cmpi .eq (iota .tc (Sq m n) 32 [0] ha) (broadcast (Sq m n) 0#32)) (broadcastTo (Sq m n) (shapeCast (Sq 1 n) h2 hc) hb)
      (select (cmpi .eq (iota .tc (Sq m n) 32 [0] ha) (broadcast (Sq m n) 1#32)) (broadcastTo (Sq m n) (shapeCast (Sq 1 n) h1 hc) hb) (dynamicRotate 0 2#32 none x hd)) y
      = above X (i 1) (i 0).val 2 := by
    rw [shapeCast_self, shapeCast_self]
    refine (chosen 0 (by omega) hm.2 ha _ _ y).trans ?_
    by_cases c : (y 0).val = 0
    · rw [if_pos c, spread, e2, hi, c]; rfl
    · rw [if_neg c]
      refine (chosen 1 (by omega) hm.2 ha _ _ y).trans ?_
      by_cases d : (y 0).val = 1
      · rw [if_pos d, spread, e1, hi, d]
        unfold above
        rcases hp with rfl | hp
        · rfl
        · rw [if_pos (by omega), if_pos (by omega)]; rfl
      · rw [if_neg d]; exact past 2 (by omega) (by omega)
  show FloatOps.addf (FloatOps.addf (FloatOps.mulf _ _) (FloatOps.mulf _ _)) (FloatOps.mulf _ _) = _
  rw [q1, q2, spread, spread, spread, ew.1, ew.2.1, ew.2.2, hx y rfl, ← hi]
  rfl

/-- A row read out of a few. -/
abbrev taken {k : ℕ} (x : FVec Ideal (Sq k n) .f32) (r : ℕ) (inb : ∀ a, ![r, 0] a + (Sq 1 n).size a ≤ (Sq k n).size a) : FVec Ideal (Sq 1 n) .f32 :=
  View.ld (Val := Elt Ideal) (e' := .f32) x (Rect.unit (s := Sq k n) ![r, 0] (Sq 1 n).size inb)

theorem row {k : ℕ} (x : FVec Ideal (Sq k n) .f32) (r : Fin k) (inb) (c : Fin n) : taken x r.val inb (ix2 0 c) = x (ix2 r c) :=
  congrArg x (funext fun a => Fin.ext (by
    match a with
    | ⟨0, _⟩ => rfl
    | ⟨1, _⟩ => show 0 + 1 * c.val = c.val; omega))

/-- A block of 256 rows, number `a` of them, with the eight rows before it. -/
theorem side (w : FVec Ideal (Sq 3 C) .f32) (X : FVec Ideal (Sq T C) .f32) (x : FVec Ideal (Sq 256 n) .f32) (u : FVec Ideal (Sq 8 n) .f32)
    (v : FVec Ideal (Sq 3 n) .f32) (a : ℕ) (ha : a < 2 ^ 31) (y : (Sq 256 n).Idx) (i : (Sq T C).Idx) (hi : (i 0).val = a * 256 + (y 0).val)
    (hx : ∀ z : (Sq 256 n).Idx, z 1 = y 1 → x z = col X (i 1) (a * 256 + (z 0).val))
    (hu : 0 < a → ∀ k : Fin 8, u (ix2 k (y 1)) = col X (i 1) (a * 256 - 8 + k.val)) (hv : ∀ k : Fin 3, v (ix2 k (y 1)) = w (ix2 k (i 1)))
    (h7 h6 g0 g1 g2 hc hd he hf) :
    (addf (addf
      (mulf (broadcastTo (Sq 256 n) (taken v 0 g0) hd)
        (select (cmpi .eq (iota .tc (Sq 256 n) 32 [0] hc) (broadcast (Sq 256 n) 0#32))
          (broadcastTo (Sq 256 n) (shapeCast (Sq 1 n) (Scalar.select (Scalar.cmpi .sgt (BitVec.ofNat 32 a) 0#32)
            (taken u 6 h6) (broadcast (Sq 1 n) (Scalar.ofBits .f32 0x00000000#32))) he) hd)
          (select (cmpi .eq (iota .tc (Sq 256 n) 32 [0] hc) (broadcast (Sq 256 n) 1#32))
            (broadcastTo (Sq 256 n) (shapeCast (Sq 1 n) (Scalar.select (Scalar.cmpi .sgt (BitVec.ofNat 32 a) 0#32)
              (taken u 7 h7) (broadcast (Sq 1 n) (Scalar.ofBits .f32 0x00000000#32))) he) hd)
            (dynamicRotate 0 2#32 none x hf))))
      (mulf (broadcastTo (Sq 256 n) (taken v 1 g1) hd)
        (select (cmpi .eq (iota .tc (Sq 256 n) 32 [0] hc) (broadcast (Sq 256 n) 0#32))
          (broadcastTo (Sq 256 n) (shapeCast (Sq 1 n) (Scalar.select (Scalar.cmpi .sgt (BitVec.ofNat 32 a) 0#32)
            (taken u 7 h7) (broadcast (Sq 1 n) (Scalar.ofBits .f32 0x00000000#32))) he) hd)
          (dynamicRotate 0 1#32 none x hf))))
      (mulf (broadcastTo (Sq 256 n) (taken v 2 g2) hd) x) : FVec Ideal (Sq 256 n) .f32) y
      = taps w X i := by
  have edge (k : Fin 8) (s : ℕ) (hs : k.val + s = 8) (inb) :
      (Scalar.select (Scalar.cmpi .sgt (BitVec.ofNat 32 a) 0#32) (taken u k.val inb)
        (broadcast (Sq 1 n) (Scalar.ofBits .f32 0x00000000#32)) : FVec Ideal (Sq 1 n) .f32) (ix2 0 (y 1)) = above X (i 1) (a * 256) s := by
    refine (kept a ha _ _).trans ?_
    unfold above
    by_cases c : 0 < a
    · rw [if_pos c, if_pos (by omega)]
      exact (row u k inb (y 1)).trans ((hu c k).trans (congrArg (col X (i 1)) (by omega)))
    · rw [if_neg c, if_neg (by have := k.isLt; omega)]
  exact block w X x _ _ _ _ _ (a * 256) y i hi (by decide) hx (edge 7 1 rfl h7) (edge 6 2 rfl h6) (by omega)
    ⟨(row v 0 g0 (y 1)).trans (hv 0), (row v 1 g1 (y 1)).trans (hv 1), (row v 2 g2 (y 1)).trans (hv 2)⟩ hc hd he hf

end Cert.Taps
-- ==== Proof.ShortConv.lean ====
/-
# The gated short convolution

Over the extended reals: the host's text is a convolution of three taps of the product of two thirds of the columns,
times the first third, and so is every block that the kernel writes.
-/
module

public import proofs.«01_k».proof.Proof.Taps
public import proofs.«01_k».proof.Proof.Gen.ConvIdeal.Value

@[expose] public section

noncomputable section

open Idealize.ShloMosaic Idealize.ShloMosaic.TcCoe

namespace Cert.ShortConv

open Idealize.ShloMosaic.ValueIdx Cert.Product Cert.Taps

/-- A third of the columns, from column `q` on. -/
abbrev third (z : FVec Ideal (Sq 4096 6144) .f32) (q : ℕ) (h : (Sq 4096 6144).Slices ![0, q] (Sq 4096 2048)) : FVec Ideal (Sq 4096 2048) .f32 :=
  extractStridedSlice (Sq 4096 2048) ![0, q] z h

/-- The gated convolution. -/
def gated (z : FVec Ideal (Sq 4096 6144) .f32) (w : FVec Ideal (Sq 3 2048) .f32) : FVec Ideal (Sq 4096 2048) .bf16 :=
  truncf .bf16 (mulf (third z 0 (by decide)) (taps w (mulf (third z 2048 (by decide)) (third z 4096 (by decide))))) (by decide)

theorem at_third (z : FVec Ideal (Sq 4096 6144) .f32) (q : ℕ) (h) (i : (Sq 4096 2048).Idx) (j : (Sq 4096 6144).Idx)
    (e : (j 0).val = (i 0).val ∧ (j 1).val = q + (i 1).val) : third z q h i = z j :=
  extractStridedSlice_apply _ _ _ i j fun a => by
    match a with
    | ⟨0, _⟩ => exact e.1.trans (Nat.zero_add _).symm
    | ⟨1, _⟩ => exact e.2

end Cert.ShortConv

namespace Cert.ConvIdeal.Whole

open Idealize.ShloMosaic.ValueIdx Cert.ConvIdeal Cert.ConvIdeal.Gen Cert.Product Cert.Taps Cert.ShortConv

/-- Where the blocks lie, and every block is taken. -/
theorem numbers : (∀ t, win0_0.index t = win0_6.index t ∧ win0_1.index t = ![win0_6.index t 0, win0_6.index t 1 + 4]
      ∧ win0_2.index t = ![win0_6.index t 0, win0_6.index t 1 + 8] ∧ win0_5.index t = ![0, win0_6.index t 1]
      ∧ (0 < win0_6.index t 0 → win0_3.index t = ![win0_6.index t 0 * 32 - 1, win0_6.index t 1 + 4] ∧ win0_4.index t = ![win0_6.index t 0 * 32 - 1, win0_6.index t 1 + 8])
      ∧ (grid0.coords t 0).val = win0_6.index t 0 ∧ win0_6.index t 0 < 16)
    ∧ ∀ (p : Fin 16) (q : Fin 4), ∃ t, win0_6.index t = ![p.val, q.val] := by decide +kernel

/-- What a block of the kernel writes. -/
theorem wrote (w : FVec Ideal (Sq 3 2048) .f32) (X : FVec Ideal (Sq 4096 2048) .f32) (g : grid0.Coords) (x0 x1 x2 : FVec Ideal (Sq 256 512) .f32)
    (x3 x4 : FVec Ideal (Sq 8 512) .f32) (x5 : FVec Ideal (Sq 3 512) .f32) (a : ℕ) (ha : (g 0).val = a ∧ a < 16) (y : (Sq 256 512).Idx) (i : (Sq 4096 2048).Idx)
    (hi : (i 0).val = a * 256 + (y 0).val) (hx : ∀ z : (Sq 256 512).Idx, z 1 = y 1 → mulf x1 x2 z = col X (i 1) (a * 256 + (z 0).val))
    (hu : 0 < a → ∀ k : Fin 8, mulf x3 x4 (ix2 k (y 1)) = col X (i 1) (a * 256 - 8 + k.val)) (hv : ∀ k : Fin 3, x5 (ix2 k (y 1)) = w (ix2 k (i 1))) :
    out0_6 (F := Ideal) g x0 x1 x2 x3 x4 x5 y = FloatOps.truncf .bf16 bitsLt_bf16_f32 (FloatOps.mulf (x0 y) (taps w X i)) := by
  unfold out0_6
  rw [View.canon_unit_zero (S := S256x512) corner]
  simp only [View.ld_unit_zero (S := S256x512) corner]
  obtain ⟨rfl, ha⟩ := ha
  rw [← side w X (mulf x1 x2) (mulf x3 x4) x5 (g 0).val (by omega) y i hi hx hu hv inb_S8x512_S1x512_7_0 inb_S8x512_S1x512_6_0 inb_S3x512_S1x512_0_0
    inb_S3x512_S1x512_1_0 inb_S3x512_S1x512_2_0 iota_S256x512_d0_w32 broadcasts_S1x512_S256x512 shapeCasts_S1x512_S1x512 rotates_S256x512_d0]
  rfl

variable (m : (ℓ : Loc nD τ sig) → Buf (Elt Ideal) ℓ)

/-- The array that the call leaves. -/
theorem final (c : Dev nD) : (dats m 0 c).arrAt 6 cfg0.N = gated (m ((c : Thread nD τ).loc main_arg0)) (m ((c : Thread nD τ).loc main_arg1)) := by
  rw [← V_main_arg0 m c, ← V_main_arg1 m c]
  refine (dats m 0 c).arrAt_eq_of_cover 6 _ (fun t _ => ?_) (fun i => ?_)
  · rw [Value.flushed6]
    obtain ⟨n0, n1, n2, n5, n34, ng⟩ := numbers.1 t
    generalize ea : win0_6.index t 0 = a at *
    generalize eb : win0_6.index t 1 = b at *
    have e6 (z : (Sq 256 512).Idx) : ((((cfg0.win 6).blk t).view.emb z) 0).val = a * 256 + (z 0).val ∧ ((((cfg0.win 6).blk t).view.emb z) 1).val = b * 512 + (z 1).val :=
      ⟨by show win0_6.index t 0 * 256 + 1 * (z 0).val = _; rw [ea, one_mul], by show win0_6.index t 1 * 512 + 1 * (z 1).val = _; rw [eb, one_mul]⟩
    funext y
    refine (wrote (V m c main_arg1) (mulf (third (V m c main_arg0) 2048 (by decide)) (third (V m c main_arg0) 4096 (by decide))) (grid0.coords t)
      (iblk m c 0 t) (iblk m c 1 t) (iblk m c 2 t) (iblk m c 3 t) (iblk m c 4 t) (iblk m c 5 t) a ng y (((cfg0.win 6).blk t).view.emb y)
      (e6 y).1 (fun z hz => ?_) (fun h k => ?_) (fun k => ?_)).trans ?_
    · refine Eq.trans ?_ (col_of _ (((cfg0.win 6).blk t).view.emb z) _ _ ⟨(e6 z).1, by rw [(e6 z).2, (e6 y).2, hz]⟩)
      refine congrArg₂ FloatOps.mulf (at_third _ _ _ _ (((cfg0.win 1).blk t).view.emb z) ⟨?_, ?_⟩).symm (at_third _ _ _ _ (((cfg0.win 2).blk t).view.emb z) ⟨?_, ?_⟩).symm
      · rw [(e6 z).1]; show win0_1.index t 0 * 256 + 1 * (z 0).val = _; rw [n1, one_mul]; rfl
      · rw [(e6 z).2]; show win0_1.index t 1 * 512 + 1 * (z 1).val = _; rw [n1]; show (b + 4) * 512 + _ = _; omega
      · rw [(e6 z).1]; show win0_2.index t 0 * 256 + 1 * (z 0).val = _; rw [n2, one_mul]; rfl
      · rw [(e6 z).2]; show win0_2.index t 1 * 512 + 1 * (z 1).val = _; rw [n2]; show (b + 8) * 512 + _ = _; omega
    · obtain ⟨n3, n4⟩ := n34 h
      have hk := k.isLt
      refine Eq.trans ?_ (col_of _ (ix2 (⟨a * 256 - 8 + k.val, by omega⟩ : Fin 4096) ((((cfg0.win 6).blk t).view.emb y) 1)) _ _ ⟨rfl, rfl⟩)
      refine congrArg₂ FloatOps.mulf (at_third _ _ _ _ (((cfg0.win 3).blk t).view.emb (ix2 k (y 1))) ⟨?_, ?_⟩).symm
        (at_third _ _ _ _ (((cfg0.win 4).blk t).view.emb (ix2 k (y 1))) ⟨?_, ?_⟩).symm
      · show win0_3.index t 0 * 8 + 1 * k.val = a * 256 - 8 + k.val; rw [n3]; show (a * 32 - 1) * 8 + _ = _; omega
      · show win0_3.index t 1 * 512 + 1 * (y 1).val = 2048 + ((((cfg0.win 6).blk t).view.emb y) 1).val; rw [n3, (e6 y).2]; show (b + 4) * 512 + _ = _; omega
      · show win0_4.index t 0 * 8 + 1 * k.val = a * 256 - 8 + k.val; rw [n4]; show (a * 32 - 1) * 8 + _ = _; omega
      · show win0_4.index t 1 * 512 + 1 * (y 1).val = 4096 + ((((cfg0.win 6).blk t).view.emb y) 1).val; rw [n4, (e6 y).2]; show (b + 8) * 512 + _ = _; omega
    · refine congrArg (V m c main_arg1) (funext fun d => Fin.ext ?_)
      match d with
      | ⟨0, _⟩ => show win0_5.index t 0 * 3 + 1 * k.val = k.val; rw [n5]; show 0 * 3 + _ = _; omega
      | ⟨1, _⟩ => show win0_5.index t 1 * 512 + 1 * (y 1).val = ((((cfg0.win 6).blk t).view.emb y) 1).val; rw [n5, (e6 y).2]; show b * 512 + _ = _; omega
    · refine congrArg (fun u : Num => FloatOps.truncf .bf16 bitsLt_bf16_f32 (FloatOps.mulf u _)) (at_third _ _ _ _ (((cfg0.win 0).blk t).view.emb y) ⟨?_, ?_⟩).symm
      · show win0_0.index t 0 * 256 + 1 * (y 0).val = ((((cfg0.win 6).blk t).view.emb y) 0).val; rw [n0, (e6 y).1, ea, one_mul]
      · show win0_0.index t 1 * 512 + 1 * (y 1).val = 0 + ((((cfg0.win 6).blk t).view.emb y) 1).val; rw [n0, (e6 y).2, eb, one_mul, Nat.zero_add]
  · obtain ⟨t, h⟩ := @met 4096 2048 16 4 256 512 _ _ numbers.2 rfl rfl i
    refine ⟨t, flush0_6 t, ?_⟩
    show i ∈ ((View.whole main_v0).slice (win0_6.rect t)).set
    rw [View.set_slice_whole, Rect.mem_set_unit]
    exact h

end Cert.ConvIdeal.Whole
-- ==== Proof.Glu.lean ====
/-
# The activation of the feed-forward block

Over the extended reals: the host's text is a convolution of three taps with a bias, and the first half of its columns
goes through `x / (1 + exp (-x))` before it is multiplied by the second half. So is every block that the kernel writes.
-/
module

public import proofs.«01_k».proof.Proof.Taps
public import proofs.«01_k».proof.Proof.Gen.GluIdeal.Value

@[expose] public section

noncomputable section

open Idealize.ShloMosaic Idealize.ShloMosaic.TcCoe

namespace Cert.GluAct

open Idealize.ShloMosaic.ValueIdx Cert.Product Cert.Taps

/-- The convolution with its bias. -/
def biased (u : FVec Ideal (Sq 4096 11264) .f32) (w : FVec Ideal (Sq 3 11264) .f32) (b : FVec Ideal (Sq 1 11264) .f32) : FVec Ideal (Sq 4096 11264) .f32 :=
  fun i => FloatOps.addf (taps w u i) (b (ix2 0 (i 1)))

/-- Half of the columns, from column `q` on. -/
abbrev half (x : FVec Ideal (Sq 4096 11264) .f32) (q : ℕ) (h : (Sq 4096 11264).Slices ![0, q] (Sq 4096 5632)) : FVec Ideal (Sq 4096 5632) .f32 :=
  extractStridedSlice (Sq 4096 5632) ![0, q] x h

/-- An entry of the activation, of the entries of the two halves. -/
def act (g u : Num) : Ideal .bf16 :=
  FloatOps.truncf .bf16 (show FTy.bf16.bits < FTy.f32.bits by decide) (FloatOps.mulf (FloatOps.mulf g (FloatOps.divf (Scalar.ofBits .f32 0x3F800000#32)
    (FloatOps.addf (Scalar.ofBits .f32 0x3F800000#32) (FloatOps.exp (FloatOps.subf (Scalar.ofBits .f32 0x00000000#32) g))))) u)

theorem at_half (x : FVec Ideal (Sq 4096 11264) .f32) (q : ℕ) (h) (i : (Sq 4096 5632).Idx) (j : (Sq 4096 11264).Idx)
    (e : (j 0).val = (i 0).val ∧ (j 1).val = q + (i 1).val) : half x q h i = x j :=
  extractStridedSlice_apply _ _ _ i j fun a => by
    match a with
    | ⟨0, _⟩ => exact e.1.trans (Nat.zero_add _).symm
    | ⟨1, _⟩ => exact e.2

/-- The host's bias, put beside every row. -/
theorem bias (b : FVec Ideal (Sq 1 11264) .f32) (h) (i : (Sq 4096 11264).Idx) : broadcastInDim (Sq 4096 11264) ![0, 1] h b i = b (ix2 0 (i 1)) :=
  broadcastInDim_apply _ _ _ i (ix2 0 (i 1)) fun a => by
    match a with
    | ⟨0, _⟩ => rfl
    | ⟨1, _⟩ => rfl

/-- A convolution of the host's with its bias. -/
theorem with_bias (u : FVec Ideal (Sq 4096 11264) .f32) (w : FVec Ideal (Sq 3 11264) .f32) (b : FVec Ideal (Sq 1 11264) .f32) (h) (X : FVec Ideal (Sq 4096 11264) .f32)
    (e : X = taps w u) : addf X (broadcastInDim (Sq 4096 11264) ![0, 1] h b) = biased u w b := by
  subst e
  exact funext fun i => congrArg (FloatOps.addf (taps w u i)) (bias b h i)

/-- What the host's text computes of the two halves. -/
theorem host (g u : FVec Ideal (Sq 4096 5632) .f32) (h h' k) :
    truncf .bf16 (mulf (mulf g (Host.divf (broadcastInDim (s := ⟨0, ![]⟩) (Sq 4096 5632) ![] h (constant ⟨0, ![]⟩ .f32 0x3F800000#32))
      (addf (broadcastInDim (s := ⟨0, ![]⟩) (Sq 4096 5632) ![] h' (constant ⟨0, ![]⟩ .f32 0x3F800000#32)) (Host.exp (Host.negf g))))) u) k = fun i => act (g i) (u i) := by
  rw [← subf_zero_eq_hostNegf]
  rfl

end Cert.GluAct

namespace Cert.GluIdeal.Whole

open Idealize.ShloMosaic.ValueIdx Cert.GluIdeal Cert.GluIdeal.Gen Cert.Product Cert.Taps Cert.GluAct

/-- A block of one half: `f`, `fh`, `fw` and `fb` are where it, the rows before it, its weights and its bias lie. -/
theorem wrote (u : FVec Ideal (Sq 4096 11264) .f32) (w : FVec Ideal (Sq 3 11264) .f32) (b : FVec Ideal (Sq 1 11264) .f32) (g : grid0.Coords)
    (x' : FVec Ideal (Sq 256 512) .f32) (h' : FVec Ideal (Sq 8 512) .f32) (v' : FVec Ideal (Sq 3 512) .f32) (b' : FVec Ideal (Sq 1 512) .f32)
    (f : (Sq 256 512).Idx → (Sq 4096 11264).Idx) (fh : (Sq 8 512).Idx → (Sq 4096 11264).Idx) (fw : (Sq 3 512).Idx → (Sq 3 11264).Idx)
    (fb : (Sq 1 512).Idx → (Sq 1 11264).Idx) (a q : ℕ) (ha : (g 0).val = a ∧ a < 16)
    (e : ∀ z, (f z 0).val = a * 256 + (z 0).val ∧ (f z 1).val = q + (z 1).val)
    (eh : 0 < a → ∀ z, (fh z 0).val = (a * 32 - 1) * 8 + (z 0).val ∧ (fh z 1).val = q + (z 1).val)
    (ew : ∀ z, (fw z 0).val = (z 0).val ∧ (fw z 1).val = q + (z 1).val) (eb : ∀ z, (fb z 1).val = q + (z 1).val) (y : (Sq 256 512).Idx) :
    k0_pay7 (F := Ideal) g (fun z => u (f z)) x' (fun z => u (fh z)) h' (fun z => w (fw z)) v' (fun z => b (fb z)) b' y = biased u w b (f y) := by
  obtain ⟨rfl, ha⟩ := ha
  have key := side w u (fun z => u (f z)) (fun z => u (fh z)) (fun z => w (fw z)) (g 0).val (by omega) y (f y) (e y).1
    (fun z hz => col_of u (f z) _ _ ⟨(e z).1, by rw [(e z).2, (e y).2, hz]⟩)
    (fun h k => col_of u (fh (ix2 k (y 1))) _ _ ⟨by rw [(eh h _).1]; show ((g 0).val * 32 - 1) * 8 + k.val = _; omega, by rw [(eh h _).2, (e y).2]⟩)
    (fun k => congrArg w (funext fun d => Fin.ext (by
      match d with
      | ⟨0, _⟩ => exact (ew _).1
      | ⟨1, _⟩ => exact (ew (ix2 k (y 1))).2.trans (e y).2.symm)))
    inb_S8x512_S1x512_7_0 inb_S8x512_S1x512_6_0 inb_S3x512_S1x512_0_0
    inb_S3x512_S1x512_1_0 inb_S3x512_S1x512_2_0 iota_S256x512_d0_w32 broadcasts_S1x512_S256x512 shapeCasts_S1x512_S1x512 rotates_S256x512_d0
  have tail : broadcastTo (Sq 256 512) (fun z => b (fb z) : FVec Ideal (Sq 1 512) .f32) broadcasts_S1x512_S256x512 y = b (ix2 0 (f y 1)) :=
    (spread _ _ y).trans (congrArg b (funext fun d => Fin.ext (by
      match d with
      | ⟨0, _⟩ => exact (Nat.lt_one_iff.1 (fb (ix2 0 (y 1)) 0).isLt)
      | ⟨1, _⟩ => exact (eb (ix2 0 (y 1))).trans (e y).2.symm)))
  unfold biased
  rw [← key, ← tail]
  unfold k0_pay7
  simp only [View.ld_unit_zero (S := S256x512) corner, View.ld_unit_zero (S := S1x512) corner]
  rfl

/-- Where the blocks lie, and every block is taken. -/
theorem numbers : (∀ t, win0_0.index t = win0_8.index t ∧ win0_1.index t = ![win0_8.index t 0, win0_8.index t 1 + 11]
      ∧ (0 < win0_8.index t 0 → win0_2.index t = ![win0_8.index t 0 * 32 - 1, win0_8.index t 1] ∧ win0_3.index t = ![win0_8.index t 0 * 32 - 1, win0_8.index t 1 + 11])
      ∧ win0_4.index t = ![0, win0_8.index t 1] ∧ win0_5.index t = ![0, win0_8.index t 1 + 11]
      ∧ win0_6.index t = ![0, win0_8.index t 1] ∧ win0_7.index t = ![0, win0_8.index t 1 + 11]
      ∧ win0_9.index t = win0_8.index t ∧ win0_10.index t = win0_8.index t
      ∧ (grid0.coords t 0).val = win0_8.index t 0 ∧ win0_8.index t 0 < 16)
    ∧ ∀ (p : Fin 16) (q : Fin 11), ∃ t, win0_8.index t = ![p.val, q.val] := by decide +kernel

variable (m : (ℓ : Loc nD τ sig) → Buf (Elt Ideal) ℓ)

/-- The convolution of the arguments. -/
abbrev whole (c : Dev nD) : FVec Ideal (Sq 4096 11264) .f32 :=
  biased (m ((c : Thread nD τ).loc main_arg0)) (m ((c : Thread nD τ).loc main_arg1)) (m ((c : Thread nD τ).loc main_arg2))

/-- A place in a block, in the whole array. -/
theorem place {i r k z : ℕ} {x : Fin 2 → ℕ} (s : Fin 2) (h : x s = i) (e : i * r = k) : x s * r + 1 * z = k + z := by
  rw [h, e, one_mul]

/-- A block of the first half. -/
theorem gate (c : Dev nD) (t : Fin cfg0.N) (y : (Sq 256 512).Idx) (i : (Sq 4096 5632).Idx)
    (hi : (i 0).val = win0_8.index t 0 * 256 + (y 0).val ∧ (i 1).val = win0_8.index t 1 * 512 + (y 1).val) :
    k0_pay7 (F := Ideal) (grid0.coords t) (iblk m c 0 t) (iblk m c 1 t) (iblk m c 2 t) (iblk m c 3 t) (iblk m c 4 t) (iblk m c 5 t) (iblk m c 6 t) (iblk m c 7 t) y
      = half (whole m c) 0 (by decide) i := by
  unfold whole
  rw [← V_main_arg0 m c, ← V_main_arg1 m c, ← V_main_arg2 m c]
  obtain ⟨n0, n1, n23, n4, n5, n6, n7, n9, n10, ng⟩ := numbers.1 t
  have e (z : (Sq 256 512).Idx) : ((((cfg0.win 0).blk t).view.emb z) 0).val = win0_8.index t 0 * 256 + (z 0).val
      ∧ ((((cfg0.win 0).blk t).view.emb z) 1).val = win0_8.index t 1 * 512 + (z 1).val :=
    ⟨place 0 (congrFun n0 0) rfl, place 1 (congrFun n0 1) rfl⟩
  refine (wrote (V m c main_arg0) (V m c main_arg1) (V m c main_arg2) _ (iblk m c 1 t) (iblk m c 3 t) (iblk m c 5 t) (iblk m c 7 t)
    ((cfg0.win 0).blk t).view.emb ((cfg0.win 2).blk t).view.emb ((cfg0.win 4).blk t).view.emb ((cfg0.win 6).blk t).view.emb (win0_8.index t 0) (win0_8.index t 1 * 512) ng e
    (fun h z => ⟨place 0 (congrFun (n23 h).1 0) rfl, place 1 (congrFun (n23 h).1 1) rfl⟩)
    (fun z => ⟨(place 0 (congrFun n4 0) (Nat.zero_mul 3)).trans (Nat.zero_add _), place 1 (congrFun n4 1) rfl⟩) (fun z => place 1 (congrFun n6 1) rfl) y).trans ?_
  exact (at_half _ _ _ i _ ⟨(e y).1.trans hi.1.symm, by rw [(e y).2, hi.2]; omega⟩).symm

/-- A block of the second half. -/
theorem up (c : Dev nD) (t : Fin cfg0.N) (y : (Sq 256 512).Idx) (i : (Sq 4096 5632).Idx)
    (hi : (i 0).val = win0_8.index t 0 * 256 + (y 0).val ∧ (i 1).val = win0_8.index t 1 * 512 + (y 1).val) :
    k0_pay7 (F := Ideal) (grid0.coords t) (iblk m c 1 t) (iblk m c 0 t) (iblk m c 3 t) (iblk m c 2 t) (iblk m c 5 t) (iblk m c 4 t) (iblk m c 7 t) (iblk m c 6 t) y
      = half (whole m c) 5632 (by decide) i := by
  unfold whole
  rw [← V_main_arg0 m c, ← V_main_arg1 m c, ← V_main_arg2 m c]
  obtain ⟨n0, n1, n23, n4, n5, n6, n7, n9, n10, ng⟩ := numbers.1 t
  have e (z : (Sq 256 512).Idx) : ((((cfg0.win 1).blk t).view.emb z) 0).val = win0_8.index t 0 * 256 + (z 0).val
      ∧ ((((cfg0.win 1).blk t).view.emb z) 1).val = (win0_8.index t 1 + 11) * 512 + (z 1).val :=
    ⟨place 0 (congrFun n1 0) rfl, place 1 (congrFun n1 1) rfl⟩
  refine (wrote (V m c main_arg0) (V m c main_arg1) (V m c main_arg2) _ (iblk m c 0 t) (iblk m c 2 t) (iblk m c 4 t) (iblk m c 6 t)
    ((cfg0.win 1).blk t).view.emb ((cfg0.win 3).blk t).view.emb ((cfg0.win 5).blk t).view.emb ((cfg0.win 7).blk t).view.emb (win0_8.index t 0) ((win0_8.index t 1 + 11) * 512) ng e
    (fun h z => ⟨place 0 (congrFun (n23 h).2 0) rfl, place 1 (congrFun (n23 h).2 1) rfl⟩)
    (fun z => ⟨(place 0 (congrFun n5 0) (Nat.zero_mul 3)).trans (Nat.zero_add _), place 1 (congrFun n5 1) rfl⟩) (fun z => place 1 (congrFun n7 1) rfl) y).trans ?_
  exact (at_half _ _ _ i _ ⟨(e y).1.trans hi.1.symm, by rw [(e y).2, hi.2]; omega⟩).symm

/-- The first array that the call leaves. -/
theorem final8 (c : Dev nD) : (dats m 0 c).arrAt 8 cfg0.N = half (whole m c) 0 (by decide) := by
  refine (dats m 0 c).arrAt_eq_of_cover 8 _ (fun t _ => ?_) (fun i => ?_)
  · rw [Value.flushed8]
    funext y
    refine Eq.trans ?_ (gate m c t y (((cfg0.win 8).blk t).view.emb y) ⟨place 0 rfl rfl, place 1 rfl rfl⟩)
    exact congrFun (View.canon_unit_zero (S := S256x512) corner inb_S256x512_S256x512_0_0 _) y
  · obtain ⟨t, h⟩ := @met 4096 5632 16 11 256 512 _ _ numbers.2 rfl rfl i
    refine ⟨t, flush0_8 t, ?_⟩
    show i ∈ ((View.whole main_v0_0).slice (win0_8.rect t)).set
    rw [View.set_slice_whole, Rect.mem_set_unit]
    exact h

/-- The second array that the call leaves. -/
theorem final9 (c : Dev nD) : (dats m 0 c).arrAt 9 cfg0.N = half (whole m c) 5632 (by decide) := by
  refine (dats m 0 c).arrAt_eq_of_cover 9 _ (fun t _ => ?_) (fun i => ?_)
  · rw [Value.flushed9]
    funext y
    have n9 := (numbers.1 t).2.2.2.2.2.2.2.1
    refine Eq.trans ?_ (up m c t y (((cfg0.win 9).blk t).view.emb y) ⟨place 0 (congrFun n9 0) rfl, place 1 (congrFun n9 1) rfl⟩)
    exact congrFun (View.canon_unit_zero (S := S256x512) corner inb_S256x512_S256x512_0_0 _) y
  · obtain ⟨t, h⟩ := @met 4096 5632 16 11 256 512 _ _ numbers.2 rfl rfl i
    refine ⟨t, flush0_9 t, ?_⟩
    show i ∈ ((View.whole main_v0_1).slice (win0_9.rect t)).set
    rw [View.set_slice_whole, Rect.mem_set_unit]
    rw [← (numbers.1 t).2.2.2.2.2.2.2.1] at h
    exact h

/-- The third array that the call leaves. -/
theorem final10 (c : Dev nD) : (dats m 0 c).arrAt 10 cfg0.N = fun i => act (half (whole m c) 0 (by decide) i) (half (whole m c) 5632 (by decide) i) := by
  refine (dats m 0 c).arrAt_eq_of_cover 10 _ (fun t _ => ?_) (fun i => ?_)
  · rw [Value.flushed10]
    funext y
    have n10 := (numbers.1 t).2.2.2.2.2.2.2.2.1
    refine Eq.trans ?_ (congrArg₂ act (gate m c t y (((cfg0.win 10).blk t).view.emb y) ⟨place 0 (congrFun n10 0) rfl, place 1 (congrFun n10 1) rfl⟩)
      (up m c t y (((cfg0.win 10).blk t).view.emb y) ⟨place 0 (congrFun n10 0) rfl, place 1 (congrFun n10 1) rfl⟩))
    exact congrFun (View.canon_unit_zero (S := S256x512) corner inb_S256x512_S256x512_0_0 _) y
  · obtain ⟨t, h⟩ := @met 4096 5632 16 11 256 512 _ _ numbers.2 rfl rfl i
    refine ⟨t, flush0_10 t, ?_⟩
    show i ∈ ((View.whole main_v0_2).slice (win0_10.rect t)).set
    rw [View.set_slice_whole, Rect.mem_set_unit]
    rw [← (numbers.1 t).2.2.2.2.2.2.2.2.1] at h
    exact h

end Cert.GluIdeal.Whole
-- ==== Proof.Talk.lean ====
/-
# A conversation in which every semaphore is used once

Both exchanges of this problem follow one pattern: each device has a fixed set of DMA semaphores, each of
them is credited by exactly one transfer, of one fixed size, and each is waited for once. A `Plan` names the
semaphores, says which device's transfer credits which, and what the owner gets for its wait. The lemmas of
this module are the steps of such a conversation: dealing the rights out at launch, starting a copy to the
own memory or to a peer, waiting, and closing the semaphores at the end.
-/
module

public import Idealize.ShloMosaic.Lib.Pipeline.Launch
public import Idealize.ShloMosaic.Lib.Pipeline.Regions
public import Idealize.ShloMosaic.Lib.Pipeline.Kit
public import Idealize.ShloMosaic.Lib.Quiescent

@[expose] public section

set_option Elab.async false

noncomputable section

namespace Cert.Talk

open Idealize.ShloMosaic Idealize.ShloMosaic.TcCoe
open Idealize.SL Idealize.SL.RA
open Idealize.SL.BI (sProp bigSep bigSep_sep' bigSep_mono bigSep_congr bigSep_univ_prod bigSep_univ_equiv bigSep_map bigSep_elim)
open scoped Idealize.SL.BI
open Idealize.SL.BI.BIBase Idealize.SL.BI.Laws Idealize.SL.ProofMode Idealize.SL.Sem
open Idealize.ShloMosaic.Rounds Idealize.ShloMosaic.Pipeline

/-- The ghost state of a run: the pipelines' copy of the rounds library, and the conversation's. -/
abbrev Gho (nD : Nat) (τ : Topo) (sig : RefSig) : Type := UR sig nD τ × UR sig nD τ

variable {nD : Nat} {τ : Topo} {sig : RefSig} {Val : EltTy → Type}

local notation "𝕄" => MT nD τ sig Unit Val ℕ (Gho nD τ sig) ℕ

/-- A conversation: the semaphores `osem k`; the device `peer k c` whose semaphore `k` the transfers of `c`
    credit; the semaphores `recv` that another device's transfer credits; the size `amt` of a transfer; the
    level of each semaphore, for the order of waiting; what the owner gets. -/
structure Plan (nD : Nat) (τ : Topo) (sig : RefSig) (Val : EltTy → Type) (K : Type) where
  osem : K → SemLoc sig
  inj : Function.Injective osem
  peer : K → Dev nD → Dev nD
  peer_peer : ∀ k c, peer k (peer k c) = c
  recv : Finset K
  amt : ℕ
  amt_pos : 0 < amt
  level : K → ℕ
  pay : Dev nD → K → sProp (MT nD τ sig Unit Val ℕ (Gho nD τ sig) ℕ)
  storable : ∀ c k, BI.Storable (upEmb : UEmb _ (MT nD τ sig Unit Val ℕ (Gho nD τ sig) ℕ)) (pay c k)

namespace Plan

/-- The conversation's copy of the rounds library's ghost state. -/
abbrev ER : Emb (URounds (GSem nD τ sig) Unit) 𝕄 := embR

variable {K : Type} [Fintype K] [DecidableEq K] (T : Plan nD τ sig Val K)

/-- Semaphore `k` of device `c`. -/
def cell (ck : Dev nD × K) : GSem nD τ sig := (ck.1.tc, T.osem ck.2)

theorem cell_inj : Function.Injective T.cell := by
  rintro ⟨c, k⟩ ⟨c', k'⟩ h
  unfold cell at h
  have h1 : c = c' := congrArg (fun g : GSem nD τ sig => g.1.1) h
  have h2 : k = k' := T.inj (congrArg (fun g : GSem nD τ sig => g.2) h)
  rw [h1, h2]

open Classical in
/-- The conversation as a schedule of one round: each named semaphore has one duty in it. -/
def sched : Rounds.Schedule (GSem nD τ sig) Unit 𝕄 where
  duties g r := if r = 0 ∧ ∃ ck, T.cell ck = g then {()} else ∅
  amount _ _ _ := T.amt
  payload g _ _ := if h : ∃ ck, T.cell ck = g then T.pay h.choose.1 h.choose.2 else iprop(emp)
  amount_pos _ _ _ _ := T.amt_pos

instance sched_storable (g : GSem nD τ sig) (r : ℕ) (d : Unit) : BI.Storable (upEmb : UEmb _ 𝕄) (T.sched.payload g r d) := by
  unfold sched; dsimp only; split
  · exact T.storable _ _
  · infer_instance

theorem mem_duty (ck : Dev nD × K) : () ∈ T.sched.duties (T.cell ck) 0 := by
  classical
  unfold sched; dsimp only
  rw [if_pos ⟨rfl, ck, rfl⟩]
  exact Finset.mem_singleton_self _

theorem duties_at (ck : Dev nD × K) : T.sched.duties (T.cell ck) 0 = {()} :=
  Finset.eq_singleton_iff_unique_mem.mpr ⟨T.mem_duty ck, fun _ _ => rfl⟩

theorem duties_after (g : GSem nD τ sig) (r : ℕ) (h : 0 + 1 ≤ r) : T.sched.duties g r = ∅ := by
  classical
  unfold sched; dsimp only
  exact if_neg fun h' => by omega

theorem payload_at (ck : Dev nD × K) (r : ℕ) (d : Unit) : T.sched.payload (T.cell ck) r d = T.pay ck.1 ck.2 := by
  have h : ∃ ck', T.cell ck' = T.cell ck := ⟨ck, rfl⟩
  unfold sched; dsimp only
  rw [dif_pos h, T.cell_inj h.choose_spec]

theorem expect_at (ck : Dev nD × K) : T.sched.expect (T.cell ck) 0 = T.amt := by
  unfold Schedule.expect
  rw [T.duties_at]; unfold Schedule.amountOf; rw [Finset.sum_singleton]; rfl

/-! ## What a device owes, holds and knows -/

/-- What device `c` still owes its peers when the semaphores `S` are left. -/
def owed (c : Dev nD) (S : Finset K) : CellTallies nD τ sig Unit := ∑ k ∈ S, tallyAt ((T.peer k c).tc, T.osem k) () T.amt

/-- Device `c` owes its peers the credits of the semaphores `S`. -/
def owing (c : Dev nD) (S : Finset K) : sProp 𝕄 := iprop(∃ W, owes c.tc (T.owed c S) W)

/-- The semaphores that carry levels: a TensorCore's. -/
def L (g : GSem nD τ sig) : Finset Unit := if g.1.2 = .tc then {()} else ∅

theorem L_other (g : GSem nD τ sig) (h : g.1.2 ≠ .tc) : L g = ∅ := if_neg h

open Classical in
/-- The levels. -/
def lv (g : GSem nD τ sig) (_ : Unit) : ℕ := if h : ∃ ck, T.cell ck = g then T.level h.choose.2 else 0

theorem lv_at (ck : Dev nD × K) : T.lv (T.cell ck) () = T.level ck.2 := by
  have h : ∃ ck', T.cell ck' = T.cell ck := ⟨ck, rfl⟩
  unfold lv
  rw [dif_pos h, T.cell_inj h.choose_spec]

/-- The invariants of all the semaphores, under some names, and that their round has been reached. -/
def records (Kn : Dev nD × K → ℕ) : sProp 𝕄 :=
  iprop((bigSep Finset.univ fun ck : Dev nD × K => cellInv ER T.sched (Kn ck) (T.cell ck))
    ∗ bigSep Finset.univ fun ck : Dev nD × K => reached ER (T.cell ck) 0)

instance records_persistent (Kn : Dev nD × K → ℕ) : BI.Persistent (T.records Kn) := by unfold records; infer_instance

/-- What every device knows of the conversation. -/
def recs : sProp 𝕄 := iprop(∃ Kn, T.records Kn)

instance recs_persistent : BI.Persistent T.recs := by unfold recs; infer_instance

/-- One semaphore's invariant. -/
theorem inv_at (ck : Dev nD × K) : T.recs ⊢ iprop(∃ κ, cellInv ER T.sched κ (T.cell ck) ∗ reached ER (T.cell ck) 0) := by
  unfold recs records
  iintro ⟨%Kn, Hi, Hr⟩
  ihave Hi := (show (bigSep Finset.univ fun ck : Dev nD × K => (cellInv ER T.sched (Kn ck) (T.cell ck) : sProp 𝕄)) ⊢ cellInv ER T.sched (Kn ck) (T.cell ck)
    from bigSep_elim (Finset.mem_univ ck)) $$ Hi
  ihave Hr := (show (bigSep Finset.univ fun ck : Dev nD × K => (reached ER (T.cell ck) 0 : sProp 𝕄)) ⊢ reached ER (T.cell ck) 0
    from bigSep_elim (Finset.mem_univ ck)) $$ Hr
  iexists Kn ck
  isplitl [Hi]; · iexact Hi
  iexact Hr

/-- The right of device `c` to credit semaphore `k` of its peer. -/
def tok (c : Dev nD) (k : K) : sProp 𝕄 := dutyTok ER (T.cell (T.peer k c, k)) 0 ()
/-- Device `c` has not waited for its semaphore `k` yet. -/
def fresh (c : Dev nD) (k : K) : sProp 𝕄 := atPos ER (T.cell (c, k)) 0 ∅ 0
/-- Device `c` has waited for its semaphore `k`. -/
def done (c : Dev nD) (k : K) : sProp 𝕄 := atPos ER (T.cell (c, k)) (0 + 1) ∅ 0
/-- The right of device `c` to wait for its semaphore `k`. -/
def credit (c : Dev nD) (k : K) : sProp 𝕄 := cred (tallyAt (T.cell (c, k)) () T.amt)

/-! ## The steps -/

variable {Λ : Labels} {defs : Defs nD τ sig Val Λ} (𝒱 : Variants) (c : Dev nD)

/-- Starting a copy within the own memory, on the own semaphore `k`. -/
theorem step_copy {sp sp' : Space} {s : Shape} {e : EltTy} {α : Type}
    {src : Memref sig (c.tc (τ := τ)).2.kind sp s e} {dst : Memref sig (c.tc (τ := τ)).2.kind sp' s e} {sem : SemLoc sig}
    {hsrc : src.view.WordExact} {hdst : dst.view.WordExact} {hsem : DmaTarget.Typed (nD := nD) sp sem (.here dst)}
    {k : PUnit → Prog (TpuEff nD τ sig Val Λ (c.tc (τ := τ)).2) α} {Q : α → sProp 𝕄} {q : PosShare TreeShare}
    {fs : Buf Val (src.view.loc c.tc)} {fd : Buf Val (dst.view.loc c.tc)}
    (ks : K) (hS : sem = T.osem ks) (hto : T.peer ks c = c) (hN : dst.view.amount sem = T.amt)
    (hpay : iprop((dst.view.loc c.tc ↦[dst.view.set]{fullShare} (dst.view.write Val fd (src.view.read Val fs) Finset.univ))
              ∗ (src.view.loc c.tc ↦[src.view.set]{q} fs)) ⊢ T.pay c ks) :
    iprop(T.recs ∗ (src.view.loc c.tc ↦[src.view.set]{q} fs) ∗ (dst.view.loc c.tc ↦[dst.view.set]{fullShare} fd) ∗ T.tok c ks)
      ⊢ iprop((T.credit c ks -∗ wp frame (wpE defs 𝒱 c.tc none) Set.univ (k ⟨⟩) Q)
          -∗ wp frame (wpE defs 𝒱 c.tc none) Set.univ (.op (.enqueueDma src (.here dst) sem hsrc hdst hsem) k) Q) := by
  subst hS
  iintro ⟨#Hr, Hs, Hd, Ht⟩
  iintro Hk
  ihave Hi := (T.inv_at (c, ks)) $$ Hr
  icases Hi with ⟨%κ, #Hi, #Hrd⟩
  unfold tok
  rw [hto]
  unfold credit cell
  iapply (Rounds.wp_copy_pointsTo 𝒱 ER T.sched (c.tc : Thread nD τ) none (κ := κ) (T.mem_duty (c, ks)) () T.amt hN rfl
    (by rw [show T.sched.payload ((c.tc : Thread nD τ), T.osem ks) 0 () = T.pay c ks from T.payload_at (c, ks) 0 ()]; exact hpay)) $$ [Hs Hd Ht]
  · isplitr; · iexact Hi
    isplitl [Hs]; · iexact Hs
    isplitl [Hd]; · iexact Hd
    isplitl [Ht]; · iexact Ht
    iexact Hrd
  iexact Hk

/-- Starting a copy to the peer `dv`: it credits the own semaphore `ks` and the peer's `kr`. -/
theorem step_send {sp sp' : Space} {s : Shape} {e : EltTy} {α : Type} {dv : Dev nD}
    {src : Memref sig (c.tc (τ := τ)).2.kind sp s e} {dst : Memref sig (dv.tc (τ := τ)).2.kind sp' s e} {hsc : dst.view.ref.isScScratch = false}
    {sS sem : SemLoc sig} {hsrc : src.view.WordExact} {hdst : dst.view.WordExact}
    {hsem : DmaTarget.Typed sp sem (.remote (dv.tc (τ := τ)) dst sS hsc)}
    {k : PUnit → Prog (TpuEff nD τ sig Val Λ (c.tc (τ := τ)).2) α} {Q : α → sProp 𝕄} {q : PosShare TreeShare}
    {fs : Buf Val (src.view.loc c.tc)} {fd : Buf Val (dst.view.loc dv.tc)}
    (ks kr : K) (hS : sS = T.osem ks) (hR : sem = T.osem kr) (hto : T.peer ks c = c) (hdv : dv = T.peer kr c)
    (hN : dst.view.amount sem = T.amt) (S : Finset K) (hkr : kr ∈ S)
    (hpay₁ : (src.view.loc c.tc ↦[src.view.set]{q} fs) ⊢ T.pay c ks)
    (hpay₂ : (dst.view.loc dv.tc ↦[dst.view.set]{fullShare} (dst.view.write Val fd (src.view.read Val fs) Finset.univ)) ⊢ T.pay dv kr) :
    iprop(T.recs ∗ (src.view.loc c.tc ↦[src.view.set]{q} fs) ∗ (dst.view.loc dv.tc ↦[dst.view.set]{fullShare} fd)
        ∗ T.owing c S ∗ T.tok c ks ∗ T.tok c kr)
      ⊢ iprop((iprop(T.credit c ks ∗ T.owing c (S.erase kr)) -∗ wp frame (wpE defs 𝒱 c.tc none) Set.univ (k ⟨⟩) Q)
          -∗ wp frame (wpE defs 𝒱 c.tc none) Set.univ (.op (.enqueueDma src (.remote dv.tc dst sS hsc) sem hsrc hdst hsem) k) Q) := by
  subst hS hR hdv
  unfold owing
  iintro ⟨#Hr, Hs, Hd, ⟨%W, HO⟩, Ht, Ht'⟩
  iintro Hk
  ihave Hi := (T.inv_at (c, ks)) $$ Hr
  icases Hi with ⟨%κ, #Hi, #Hrd⟩
  ihave Hi' := (T.inv_at (T.peer kr c, kr)) $$ Hr
  icases Hi' with ⟨%κ', #Hi', #Hrd'⟩
  unfold tok
  rw [hto]
  unfold credit cell
  have hO : T.owed c S = T.owed c (S.erase kr) + tallyAt (((T.peer kr c).tc : Thread nD τ), T.osem kr) () T.amt :=
    (Finset.sum_erase_add S _ hkr).symm
  iapply (Rounds.wp_send_pointsTo 𝒱 ER T.sched (c.tc : Thread nD τ) none (κ₁ := κ) (κ₂ := κ') (T.mem_duty (c, ks)) (T.mem_duty (T.peer kr c, kr))
    () () T.amt hN rfl rfl (T.owed c (S.erase kr)) hO
    (by rw [show T.sched.payload ((c.tc : Thread nD τ), T.osem ks) 0 () = T.pay c ks from T.payload_at (c, ks) 0 ()]; exact hpay₁)
    (by rw [show T.sched.payload (((T.peer kr c).tc : Thread nD τ), T.osem kr) 0 () = T.pay (T.peer kr c) kr from T.payload_at (T.peer kr c, kr) 0 ()]; exact hpay₂))
    $$ [Hs Hd HO Ht Ht']
  · isplitr; · iexact Hi
    isplitr; · iexact Hi'
    isplitl [Hs]; · iexact Hs
    isplitl [Hd]; · iexact Hd
    isplitl [HO]; · iexact HO
    isplitl [Ht]; · iexact Ht
    isplitr; · iexact Hrd
    isplitl [Ht']; · iexact Ht'
    iexact Hrd'
  iintro ⟨Hc, HO⟩
  iapply Hk
  isplitl [Hc]; · iexact Hc
  iexists W
  iexact HO

/-- Waiting for the own semaphore `kw`, while only credits of later semaphores are owed. -/
theorem step_wait {sp sp' : Space} {s s' : Shape} {e e' : EltTy} {α : Type} {sem : DmaSem sig}
    {src : Memref sig (c.tc (τ := τ)).2.kind sp' s' e'} {κd : Kind} {dst : Memref sig κd sp s e}
    {hsrc : src.view.WordExact} {hdst : dst.view.WordExact}
    {k : PUnit → Prog (TpuEff nD τ sig Val Λ (c.tc (τ := τ)).2) α} {Q : α → sProp 𝕄}
    (kw : K) (hS : SemLoc.dma sem = T.osem kw) (hN : dst.view.dmaCredit = T.amt) (S : Finset K)
    (hlev : ∀ j ∈ S, T.level kw < T.level j) :
    iprop(T.recs ∗ levAts L T.lv ∗ T.credit c kw ∗ T.owing c S ∗ T.fresh c kw)
      ⊢ iprop((iprop(T.pay c kw ∗ T.owing c S ∗ T.done c kw) -∗ wp frame (wpE defs 𝒱 c.tc none) Set.univ (k ⟨⟩) Q)
          -∗ wp frame (wpE defs 𝒱 c.tc none) Set.univ (.op (.waitDma2 sem src dst hsrc hdst) k) Q) := by
  unfold owing
  iintro ⟨#Hr, #Hlev, Hc, ⟨%W, HO⟩, Hat⟩
  iintro Hk
  ihave Hi := (T.inv_at (c, kw)) $$ Hr
  icases Hi with ⟨%κ, #Hi, #Hrd⟩
  unfold fresh done credit
  have hcell : T.cell (c, kw) = ((c.tc : Thread nD τ), SemLoc.dma sem) := by rw [hS]; rfl
  have hpay : (bigSep (T.sched.duties (T.cell (c, kw)) 0 \ ∅) fun d => T.sched.payload (T.cell (c, kw)) 0 d) ⊢ T.pay c kw := by
    rw [Finset.sdiff_empty, T.duties_at, BI.bigSep_singleton, T.payload_at]
  have hex := T.expect_at (c, kw)
  have hlv : ∀ (g : GSem nD τ sig) (i : Unit), 0 < T.owed c S g i → i ∈ L g ∧ T.lv (T.cell (c, kw)) () < T.lv g i := by
    intro g i hg
    obtain ⟨j, hj, hp⟩ := sum_pos_exists hg
    obtain ⟨rfl, rfl⟩ := tallyAt_pos hp
    refine ⟨by unfold L; rw [if_pos rfl]; exact Finset.mem_singleton_self _, ?_⟩
    rw [show T.lv (((T.peer j c).tc : Thread nD τ), T.osem j) () = T.level j from T.lv_at (T.peer j c, j), T.lv_at]
    exact hlev j hj
  rw [hcell] at hpay hex hlv ⊢
  iapply (Rounds.wp_wait_rest_token 𝒱 ER T.sched (c.tc : Thread nD τ) none (κ := κ) (fun K => wpE_waitDma2_eq 𝒱 (c.tc : Thread nD τ) none Set.univ K) (Set.mem_univ _) ()
      (O := T.owed c S) (W := W) (R := 0) (m := 0) (T := ∅) (by rw [Nat.zero_add, hex, hN])) $$ [Hc HO Hat]
  · isplitr; · iexact Hi
    isplitl [Hc]; · rw [hN]; iexact Hc
    isplitl [HO]; · iexact HO
    isplitr
    · iapply (mayWait_of_levAts (by unfold L; rw [if_pos rfl]; exact Finset.mem_singleton_self _) hlv)
      iexact Hlev
    iexact Hat
  iintro ⟨HO, Hat, -, Hp⟩
  iapply Hk
  isplitl [Hp]; · iapply hpay; iexact Hp
  isplitl [HO]
  · iexists _; iexact HO
  iexact Hat

/-- When every wait is over the semaphores are the device's again, at zero. -/
theorem close_all : iprop(T.recs ∗ bigSep Finset.univ fun k => T.done c k)
    ⊢ (|={Set.univ}=> bigSep Finset.univ fun k => semVal (T.cell (c, k)) 0 : sProp 𝕄) := by
  refine Entails.trans ?_ (BI.bigSep_fupd _ _)
  refine Entails.trans ?_ (bigSep_mono fun k _ => show iprop(T.recs ∗ T.done c k) ⊢ (|={Set.univ}=> semVal (T.cell (c, k)) 0 : sProp 𝕄) from ?_)
  · rw [bigSep_sep']
    exact sep_mono_left (BI.bigSep_of_persistent _ _)
  · iintro ⟨#Hr, Hd⟩
    ihave Hi := (T.inv_at (c, k)) $$ Hr
    icases Hi with ⟨%κ, #Hi, -⟩
    unfold done
    iapply (Rounds.cell_close ER T.sched (Set.mem_univ κ) (fun h => h) (R := 0 + 1) (fun r hr => T.duties_after _ r hr))
    isplitr; · iexact Hi
    iexact Hd

/-! ## The launch -/

/-- The semaphores of the conversation. -/
def cellSet : Finset (GSem nD τ sig) := Finset.univ.map ⟨T.cell, T.cell_inj⟩
/-- The duties of the conversation. -/
def tokSet : Finset (GSem nD τ sig × ℕ × Unit) := Finset.univ.map ⟨fun ck => (T.cell ck, 0, ()), fun _ _ h => T.cell_inj (congrArg Prod.fst h)⟩

/-- Crediting the peer is a rearrangement of the semaphores. -/
def turn : (Dev nD × K) ≃ (Dev nD × K) where
  toFun ck := (T.peer ck.2 ck.1, ck.2)
  invFun ck := (T.peer ck.2 ck.1, ck.2)
  left_inv ck := by dsimp only; rw [T.peer_peer]
  right_inv ck := by dsimp only; rw [T.peer_peer]

/-- What a launch deals to device `c`: its place at each of its semaphores, its rights to credit, and its
    credits for what it is owed. -/
def start : sProp 𝕄 :=
  iprop((bigSep Finset.univ fun k => T.fresh c k) ∗ (bigSep Finset.univ fun k => T.tok c k) ∗ bigSep T.recv fun k => T.credit c k)

/-- The credits of a launch. -/
theorem credits : (launchCred (fun d => T.owed d T.recv) c : sProp 𝕄) ⊢ bigSep T.recv fun k => T.credit c k := by
  unfold owed
  rw [launchCred_sum]
  exact bigSep_mono fun k _ => launchCred_tallyAt (T.osem k) (T.peer k) (T.peer k) (T.peer_peer k) (T.peer_peer k) () T.amt c

/-- The launch of a conversation: from all the semaphores at zero, the ghost state and the launch's credits,
    what every device knows and each device's part. -/
theorem launch :
    iprop((bigSep Finset.univ fun c : Dev nD => bigSep Finset.univ fun k => semVal (T.cell (c, k)) 0)
        ∗ BI.own (ER (initOf T.cellSet T.tokSet)) ∗ bigSep Finset.univ fun c => launchCred (fun d => T.owed d T.recv) c)
      ⊢ (|={Set.univ}=> iprop(T.recs ∗ bigSep Finset.univ fun c => T.start c) : sProp 𝕄) := by
  have hv : (bigSep Finset.univ fun c : Dev nD => bigSep Finset.univ fun k => (semVal (T.cell (c, k)) 0 : sProp 𝕄))
      = bigSep Finset.univ fun ck : Dev nD × K => semVal (T.cell ck) 0 := (bigSep_univ_prod fun ck => semVal (T.cell ck) 0).symm
  iintro ⟨Hv, Hg, Hc⟩
  ihave Hv := (Entails.of_eq hv) $$ Hv
  imod (show BI.own (ER (initOf T.cellSet T.tokSet)) ⊢ (|==> iprop((bigSep Finset.univ fun ck : Dev nD × K => roundState ER T.sched (T.cell ck) 0)
      ∗ (bigSep Finset.univ fun ck : Dev nD × K => reached ER (T.cell ck) 0) ∗ (bigSep Finset.univ fun ck : Dev nD × K => atPos ER (T.cell ck) 0 ∅ 0)
      ∗ bigSep Finset.univ fun ck : Dev nD × K => dutyTok ER (T.cell ck) 0 ()) : sProp 𝕄) from by
        refine (Rounds.fund ER T.sched T.cellSet T.tokSet).trans (Entails.of_eq ?_)
        unfold cellSet tokSet
        rw [bigSep_map, bigSep_map, bigSep_map, bigSep_map]
        rfl) $$ Hg with ⟨Hst, Hr, Hat, Htok⟩
  imod (show iprop((bigSep Finset.univ fun ck : Dev nD × K => semVal (T.cell ck) 0) ∗ bigSep Finset.univ fun ck : Dev nD × K => roundState ER T.sched (T.cell ck) 0)
      ⊢ (|={Set.univ}=> bigSep Finset.univ fun ck => iprop(∃ κ : ℕ, cellInv ER T.sched κ (T.cell ck)) : sProp 𝕄) from by
        rw [← bigSep_sep']
        exact (bigSep_mono fun ck _ => (Rounds.body_intro ER T.sched (T.cell ck)).trans inv_alloc).trans (BI.bigSep_fupd _ _)) $$ [Hv Hst] with Hinv
  · isplitl [Hv]; · iexact Hv
    iexact Hst
  ihave Hinv := (BI.bigSep_exists_pi (Finset.univ : Finset (Dev nD × K)) (fun ck κ => cellInv ER T.sched κ (T.cell ck))) $$ Hinv
  icases Hinv with ⟨%Kn, Hinv⟩
  have ht : (bigSep Finset.univ fun ck : Dev nD × K => (dutyTok ER (T.cell ck) 0 () : sProp 𝕄))
      = bigSep Finset.univ fun c : Dev nD => bigSep Finset.univ fun k => T.tok c k :=
    (bigSep_univ_equiv T.turn fun ck => dutyTok ER (T.cell ck) 0 ()).trans (bigSep_univ_prod fun ck => dutyTok ER (T.cell (T.turn ck)) 0 ())
  have ha : (bigSep Finset.univ fun ck : Dev nD × K => (atPos ER (T.cell ck) 0 ∅ 0 : sProp 𝕄))
      = bigSep Finset.univ fun c : Dev nD => bigSep Finset.univ fun k => T.fresh c k := bigSep_univ_prod fun ck => atPos ER (T.cell ck) 0 ∅ 0
  imodintro
  isplitl [Hinv Hr]
  · unfold recs records
    iexists Kn
    isplitl [Hinv]; · iexact Hinv
    iexact Hr
  unfold start
  rw [bigSep_sep', bigSep_sep', ← ht, ← ha]
  isplitl [Hat]; · iexact Hat
  isplitl [Htok]; · iexact Htok
  iapply (show (bigSep Finset.univ fun c => (launchCred (fun d => T.owed d T.recv) c : sProp 𝕄)) ⊢ bigSep Finset.univ fun c => bigSep T.recv fun k => T.credit c k
    from bigSep_mono fun c _ => T.credits c)
  iexact Hc

end Plan

end Cert.Talk
-- ==== Proof.Blocks.lean ====
/-
# An array held block by block

The arrays that are exchanged are cut, on their leading axis, into one block for each of the eight devices. This
module names the blocks of such an array, whatever its rows, says what a device holds of one (`holds` at a value,
`room` at any), and cuts a whole array into its blocks and puts it together again.
-/
module

public import proofs.«01_k».proof.Proof.Talk
public import Idealize.ShloMosaic.Lib.Ring

@[expose] public section

set_option Elab.async false

noncomputable section

namespace Cert.Talk

open Idealize.ShloMosaic Idealize.ShloMosaic.TcCoe
open Idealize.SL Idealize.SL.RA
open Idealize.SL.BI (sProp bigSep bigSepL bigSep_sep' bigSep_mono bigSep_congr bigSep_univ_prod bigSep_univ_equiv bigSep_univ_eq_bigSepL)
open scoped Idealize.SL.BI
open Idealize.SL.BI.BIBase Idealize.SL.BI.Laws Idealize.SL.ProofMode Idealize.SL.Sem

/-! ## The devices -/

/-- The device whose number differs from that of `c` in the bits of `n`. -/
def flip (n : Fin 8) (c : Dev 8) : Dev 8 := ⟨(c.val ^^^ n.val) % 8, Nat.mod_lt _ (by decide)⟩

theorem flip_flip (n : Fin 8) (c : Dev 8) : flip n (flip n c) = c := by revert n c; decide
theorem flip_zero (c : Dev 8) : flip 0 c = c := by revert c; decide
theorem flip_inj (c : Dev 8) : Function.Injective fun n : Fin 8 => flip n c := by revert c; unfold Function.Injective; decide +kernel

/-- Every device is reached from `c` by one change of bits. -/
def flipEquiv (c : Dev 8) : Fin 8 ≃ Dev 8 := Equiv.ofBijective _ ((Fintype.bijective_iff_injective_and_card _).mpr ⟨flip_inj c, rfl⟩)

/-! ## The blocks of an array -/

variable {τ : Topo} {sig : RefSig} {Val : EltTy → Type} {n w : ℕ} {e : EltTy}

local notation "𝕄" => MT 8 τ sig Unit Val ℕ (Gho 8 τ sig) ℕ

/-- One array of eight blocks of `n` rows of `w`, one block with its unit axis, and a block. -/
abbrev S8 (n w : ℕ) : Shape := ⟨3, ![8, n, w]⟩
abbrev S1' (n w : ℕ) : Shape := ⟨3, ![1, n, w]⟩
abbrev Sb (n w : ℕ) : Shape := ⟨2, ![n, w]⟩

theorem blk_inb (n w : ℕ) (b : Dev 8) : ∀ a, (![b.val, 0, 0] : Fin 3 → ℕ) a + (S1' n w).size a ≤ (S8 n w).size a := by
  intro a
  have := b.isLt
  fin_cases a
  · show b.val + 1 ≤ 8; omega
  · show 0 + n ≤ n; omega
  · show 0 + w ≤ w; omega

/-- The rectangle of block `b`. -/
abbrev blkRect (n w : ℕ) (b : Dev 8) : Rect (S8 n w) := Rect.unit (s := S8 n w) ![b.val, 0, 0] (S1' n w).size (blk_inb n w b)

variable (hsq : (S1' n w).Squeezes (Sb n w))

/-- Block `b` of the array `M`. -/
def blk (M : Memref sig .tc .hbm (S8 n w) e) (b : Dev 8) : Memref sig .tc .hbm (Sb n w) e :=
  (M.slice (blkRect n w b) (fun _ => rfl)).squeeze (Sb n w) hsq

/-- A slice at offset `b` on the leading axis is block `b`. -/
theorem slice_eq (M : Memref sig .tc .hbm (S8 n w) e) (b : Dev 8) (off : Fin 3 → ℕ) (inb : ∀ a, off a + (S1' n w).size a ≤ (S8 n w).size a)
    (h : off = ![b.val, 0, 0]) :
    (M.slice (Rect.unit (s := S8 n w) off (S1' n w).size inb) (fun _ => rfl)).squeeze (Sb n w) hsq = blk hsq M b := by
  subst h; rfl

/-- The elements of block `b`, in the buffer of the array. -/
def blkSet (M : Memref sig .tc .hbm (S8 n w) e) (b : Dev 8) : Finset M.view.ty.Idx := (blkRect n w b).set.map M.view.emb

theorem blk_set (M : Memref sig .tc .hbm (S8 n w) e) (b : Dev 8) : (blk hsq M b).view.set = blkSet M b :=
  (View.set_reshape _ _).trans (View.set_slice _ _)

theorem blk_disjoint (M : Memref sig .tc .hbm (S8 n w) e) (b b' : Dev 8) (h : b ≠ b') : Disjoint (blkSet M b) (blkSet M b') :=
  (Finset.disjoint_map _).mpr
    (Ring.lead_disjoint (s := S8 n w) (NB := 8) 0 1 (fun b => ![b.val, 0, 0]) (S1' n w).size (blk_inb n w) (fun b => (Nat.one_mul _).symm) rfl b b' h)

theorem blk_cover (M : Memref sig .tc .hbm (S8 n w) e) : Finset.univ.biUnion (blkSet M) = M.view.set := by
  have h := Ring.lead_cover (s := S8 n w) (NB := 8) 0 1 (fun b => ![b.val, 0, 0]) (S1' n w).size (blk_inb n w) (fun b => (Nat.one_mul _).symm)
    (fun b a ha => by fin_cases a <;> first | exact absurd rfl ha | rfl) rfl (fun a ha => by fin_cases a <;> first | exact absurd rfl ha | rfl) rfl
  ext i
  constructor
  · intro hi
    obtain ⟨b, -, hb⟩ := Finset.mem_biUnion.mp hi
    obtain ⟨x, -, rfl⟩ := Finset.mem_map.mp hb
    exact M.view.emb_mem_set x
  · intro hi
    obtain ⟨x, -, rfl⟩ := Finset.mem_map.mp hi
    obtain ⟨b, hb, hx⟩ := Finset.mem_biUnion.mp (h ▸ Finset.mem_univ x)
    exact Finset.mem_biUnion.mpr ⟨b, hb, Finset.mem_map_of_mem _ hx⟩

/-- Block `b` of a value, and the value of given blocks. -/
def row {α : Type} (b : Dev 8) (X : (S8 n w).Idx → α) : (Sb n w).Idx → α :=
  fun x => X (Fin.cons (α := fun a : Fin 3 => Fin ((![8, n, w] : Fin 3 → ℕ) a)) b x)
def glue {α : Type} (X : Dev 8 → (Sb n w).Idx → α) : (S8 n w).Idx → α := fun ix => X (ix 0) (fun a => ix a.succ)

theorem row_glue {α : Type} (X : Dev 8 → (Sb n w).Idx → α) (b : Dev 8) : row b (glue X) = X b := rfl

theorem glue_row {α : Type} (X : (S8 n w).Idx → α) : glue (fun b => row b X) = X := by
  funext ix
  unfold glue row
  exact congrArg X (Fin.cons_self_tail (α := fun a : Fin 3 => Fin ((![8, n, w] : Fin 3 → ℕ) a)) ix)

/-- What is read of block `b` is block `b` of what is read. -/
theorem read_blk (M : Memref sig .tc .hbm (S8 n w) e) (b : Dev 8) (f : M.view.ty.Contents Val) :
    (blk hsq M b).view.read Val f = row b (M.view.read Val f) := by
  funext x
  have hx : Shape.reshapeEquiv (s := S1' n w) (s' := Sb n w) hsq.numel_eq x = Fin.cons (α := fun a : Fin 3 => Fin ((![1, n, w] : Fin 3 → ℕ) a)) ⟨0, Nat.one_pos⟩ x :=
    Shape.reshapeEquiv_cons_one (d := ![n, w]) _ x
  show M.view.read Val f ((blkRect n w b).emb (Shape.reshapeEquiv (s := S1' n w) (s' := Sb n w) hsq.numel_eq x)) = M.view.read Val f _
  rw [hx]
  refine congrArg _ (funext fun a => Fin.ext ?_)
  rw [Rect.emb_apply]
  fin_cases a
  · show b.val + 1 * 0 = b.val; omega
  · show 0 + 1 * (x 0).val = (x 0).val; omega
  · show 0 + 1 * (x 1).val = (x 1).val; omega

/-! ## What a device holds of an array -/

variable {s : Shape}

/-- Device `d` holds the array `M`, at the value `X`. -/
def holds (d : Dev 8) (M : Memref sig .tc .hbm s e) (X : s.Idx → Val e) : sProp 𝕄 :=
  iprop(∃ f : Buf Val (M.view.loc (d.tc : Thread 8 τ)), ⌜M.view.read Val f = X⌝ ∗ (M.view.loc (d.tc : Thread 8 τ) ↦[M.view.set]{fullShare} f))
/-- Device `d` holds the array `M`, at some value. -/
def room (d : Dev 8) (M : Memref sig .tc .hbm s e) : sProp 𝕄 :=
  iprop(∃ f : Buf Val (M.view.loc (d.tc : Thread 8 τ)), M.view.loc (d.tc : Thread 8 τ) ↦[M.view.set]{fullShare} f)

instance holds_storable (d : Dev 8) (M : Memref sig .tc .hbm s e) (X : s.Idx → Val e) : BI.Storable (upEmb : UEmb _ 𝕄) (holds d M X) := by
  unfold holds; infer_instance

theorem holds_intro (d : Dev 8) (M : Memref sig .tc .hbm s e) (f : Buf Val (M.view.loc (d.tc : Thread 8 τ))) (X : s.Idx → Val e) (h : M.view.read Val f = X) :
    (M.view.loc (d.tc : Thread 8 τ) ↦[M.view.set]{fullShare} f : sProp 𝕄) ⊢ holds d M X := by
  unfold holds
  iintro H; iexists f
  isplitr; · ipureintro; exact h
  iexact H

/-- Contents that read alike agree on what is read. -/
theorem eq_of_read {v : View sig .tc .hbm s e} {f g : v.ty.Contents Val} (h : v.read Val f = v.read Val g) : ∀ i ∈ v.set, f i = g i := by
  intro i hi
  obtain ⟨x, -, rfl⟩ := Finset.mem_map.mp hi
  exact cast_inj _ |>.mp (congrFun h x)

/-- The contents of an array on the elements of all blocks, block by block. -/
theorem pointsTo_blocks (d : Dev 8) (M : Memref sig .tc .hbm (S8 n w) e) (f : Buf Val (M.view.loc (d.tc : Thread 8 τ))) :
    (M.view.loc (d.tc : Thread 8 τ) ↦[M.view.set]{fullShare} f : sProp 𝕄)
      = bigSep Finset.univ fun b => (M.view.loc (d.tc : Thread 8 τ) ↦[blkSet M b]{fullShare} f : sProp 𝕄) :=
  Ring.pointsTo_sub_blocks (ℓ := M.view.loc (d.tc : Thread 8 τ)) (fun b => blkSet M b) (blk_disjoint M) M.view.set (blk_cover M) f

theorem pointsTo_blk (d : Dev 8) (M : Memref sig .tc .hbm (S8 n w) e) (b : Dev 8) (f : Buf Val (M.view.loc (d.tc : Thread 8 τ))) :
    (M.view.loc (d.tc : Thread 8 τ) ↦[blkSet M b]{fullShare} f : sProp 𝕄)
      = ((blk hsq M b).view.loc (d.tc : Thread 8 τ) ↦[(blk hsq M b).view.set]{fullShare} f : sProp 𝕄) :=
  congrArg (fun S => (M.view.loc (d.tc : Thread 8 τ) ↦[S]{fullShare} f : sProp 𝕄)) (blk_set hsq M b).symm

/-- An array at a value is its blocks at theirs. -/
theorem holds_split (d : Dev 8) (M : Memref sig .tc .hbm (S8 n w) e) (X : (S8 n w).Idx → Val e) :
    (holds d M X : sProp 𝕄) ⊢ bigSep Finset.univ fun b => holds d (blk hsq M b) (row b X) := by
  unfold holds
  iintro ⟨%f, %h, H⟩
  have e2 : (M.view.loc (d.tc : Thread 8 τ) ↦[M.view.set]{fullShare} f : sProp 𝕄) ⊢ bigSep Finset.univ fun b => holds d (blk hsq M b) (row b X) :=
    (Entails.of_eq (pointsTo_blocks d M f)).trans (bigSep_mono fun b _ => (Entails.of_eq (pointsTo_blk hsq d M b f)).trans
      (holds_intro d (blk hsq M b) f _ ((read_blk hsq M b f).trans (congrArg (row b) h))))
  iapply e2
  iexact H

/-- An array at some value is its blocks at some values. -/
theorem room_split (d : Dev 8) (M : Memref sig .tc .hbm (S8 n w) e) : (room d M : sProp 𝕄) ⊢ bigSep Finset.univ fun b => room d (blk hsq M b) := by
  unfold room
  iintro ⟨%f, H⟩
  have e2 : (M.view.loc (d.tc : Thread 8 τ) ↦[M.view.set]{fullShare} f : sProp 𝕄) ⊢ bigSep Finset.univ fun b => room d (blk hsq M b) := by
    refine (Entails.of_eq (pointsTo_blocks d M f)).trans (bigSep_mono fun b _ => (Entails.of_eq (pointsTo_blk hsq d M b f)).trans ?_)
    unfold room
    iintro H; iexists f; iexact H
  iapply e2
  iexact H

/-- A block at its value is the elements of that block in any contents of the array with the value there. -/
theorem holds_blk (d : Dev 8) (M : Memref sig .tc .hbm (S8 n w) e) (b : Dev 8) (X : (Sb n w).Idx → Val e) (g : Buf Val (M.view.loc (d.tc : Thread 8 τ)))
    (hg : row b (M.view.read Val g) = X) :
    (holds d (blk hsq M b) X : sProp 𝕄) ⊢ (M.view.loc (d.tc : Thread 8 τ) ↦[blkSet M b]{fullShare} g) := by
  unfold holds
  iintro ⟨%f, %h, H⟩
  have e2 : ((blk hsq M b).view.loc (d.tc : Thread 8 τ) ↦[(blk hsq M b).view.set]{fullShare} f : sProp 𝕄)
      ⊢ (M.view.loc (d.tc : Thread 8 τ) ↦[blkSet M b]{fullShare} g) := by
    refine (Entails.of_eq ?_).trans (Entails.of_eq (pointsTo_blk hsq d M b g).symm)
    exact pointsTo_congr (eq_of_read (v := (blk hsq M b).view) (h.trans (hg.symm.trans (read_blk hsq M b g).symm)))
  iapply e2
  iexact H

/-- Blocks at values of their own are the array at the value they make up. The contents `f₀` are any. -/
theorem holds_join (d : Dev 8) (M : Memref sig .tc .hbm (S8 n w) e) (f₀ : Buf Val (M.view.loc (d.tc : Thread 8 τ))) (X : Dev 8 → (Sb n w).Idx → Val e) :
    (bigSep Finset.univ fun b => holds d (blk hsq M b) (X b) : sProp 𝕄) ⊢ holds d M (glue X) := by
  have hr : M.view.read Val (M.view.write Val f₀ (glue X) Finset.univ) = glue X := View.read_write_univ _ _
  refine BI.Entails.trans (bigSep_mono fun b _ => holds_blk hsq d M b (X b) (M.view.write Val f₀ (glue X) Finset.univ) ?_)
    ((Entails.of_eq (pointsTo_blocks d M _).symm).trans (holds_intro d M _ _ hr))
  rw [hr]; rfl

end Cert.Talk

end
-- ==== Proof.Spread.lean ====
/-
# The all-gather: what a device holds, and who writes what

Every device ends with the array of all devices' blocks: row `b` of its leading axis is the block device `b`
started with. A device sends its own block to its sibling and to the three devices of its own core number on
the other chips; the three blocks it receives from those it passes on to its sibling. This module says what each
block holds at the end and states the conversation: which semaphore is credited by whose transfer, and what its
wait brings. It is for any two arrays of a program.
-/
module

public import proofs.«01_k».proof.Proof.Talk
public import proofs.«01_k».proof.Proof.Blocks
public import Idealize.ShloMosaic.Lib.Transfers

@[expose] public section

set_option Elab.async false

noncomputable section

namespace Cert.Talk

open Idealize.ShloMosaic Idealize.ShloMosaic.TcCoe
open Idealize.SL Idealize.SL.RA
open Idealize.SL.BI (sProp bigSep bigSepL bigSep_sep' bigSep_mono bigSep_congr bigSep_univ_prod bigSep_univ_equiv bigSep_univ_eq_bigSepL)
open scoped Idealize.SL.BI
open Idealize.SL.BI.BIBase Idealize.SL.BI.Laws Idealize.SL.ProofMode Idealize.SL.Sem

/-- An all-gather: the own block `x`, the array `o` of all blocks, the semaphores. -/
structure Spr (sig : RefSig) (n w : ℕ) (e : EltTy) where
  x : Memref sig .tc .hbm (Sb n w) e
  o : Memref sig .tc .hbm (S8 n w) e
  hsq : (S1' n w).Squeezes (Sb n w)
  sem : Fin 15 → DmaSem sig
  sem_inj : Function.Injective sem
  amt : ℕ
  amt_pos : 0 < amt
  amt_x : x.view.dmaCredit = amt
  amt_o : ∀ b, (blk hsq o b).view.dmaCredit = amt

namespace Spr

variable {τ : Topo} {sig : RefSig} {Val : EltTy → Type} {n w : ℕ} {e : EltTy}

local notation "𝕄" => MT 8 τ sig Unit Val ℕ (Gho 8 τ sig) ℕ

variable (S : Spr sig n w e)

/-! ## What a device holds -/

variable (m : (ℓ : Loc 8 τ sig) → Buf Val ℓ)

/-- Block `b` of the result. -/
abbrev blkM (b : Dev 8) : Memref sig .tc .hbm (Sb n w) e := blk S.hsq S.o b

/-- What device `d` starts with. -/
def inp (d : Dev 8) : (Sb n w).Idx → Val e := S.x.view.read Val (m (S.x.view.loc (d.tc : Thread 8 τ)))

/-- What every device ends with. -/
def res : (S8 n w).Idx → Val e := glue (S.inp m)

/-- Block `b` of device `d`'s result with its final contents, and with any. -/
def got (d b : Dev 8) : sProp 𝕄 := holds d (S.blkM b) (S.inp m b)
def free (d b : Dev 8) : sProp 𝕄 := room d (S.blkM b)

/-- A share of device `d`'s input. -/
def inpPts (d : Dev 8) (q : PosShare TreeShare) : sProp 𝕄 :=
  S.x.view.loc (d.tc : Thread 8 τ) ↦[S.x.view.set]{q} m (S.x.view.loc (d.tc : Thread 8 τ))

instance got_storable (d b : Dev 8) : BI.Storable (upEmb : UEmb _ 𝕄) (S.got m d b) := by unfold got; infer_instance
instance inpPts_storable (d : Dev 8) (q : PosShare TreeShare) : BI.Storable (upEmb : UEmb _ 𝕄) (S.inpPts m d q) := by
  unfold inpPts; infer_instance

/-- The shares of the input: one for each of the four transfers to other devices, and the rest. -/
def shr (k : Fin 4) : PosShare TreeShare := Transfers.shareTok fullShare 4 k
def shrRest : PosShare TreeShare := Transfers.shareDrop fullShare 4

theorem inp_shares (d : Dev 8) : (S.inpPts m d fullShare : sProp 𝕄) ⊣⊢ iprop(S.inpPts m d shrRest ∗ bigSep Finset.univ fun k => S.inpPts m d (shr k)) :=
  Transfers.pointsTo_toks fullShare 4

/-! ## The conversation -/

/-- The device whose semaphore number `k` a transfer of `c` credits: the sends and the local copy credit one's own. -/
def peerOf (k : Fin 15) : Fin 8 := ![0, 0, 0, 0, 0, 0, 0, 1, 4, 2, 6, 1, 1, 1, 0] k

/-- What the wait for semaphore number `k` brings device `c`: the sends give their source back, the receives a block of
    the result that has its final contents, the local copy both. -/
def pay (c : Dev 8) (k : Fin 15) : sProp 𝕄 :=
  match k with
  | 0 => S.inpPts m c (shr 0)
  | 1 => S.inpPts m c (shr 1)
  | 2 => S.inpPts m c (shr 2)
  | 3 => S.inpPts m c (shr 3)
  | 4 => S.got m c (flip 4 c)
  | 5 => S.got m c (flip 2 c)
  | 6 => S.got m c (flip 6 c)
  | 7 => S.got m c (flip 1 c)
  | 8 => S.got m c (flip 4 c)
  | 9 => S.got m c (flip 2 c)
  | 10 => S.got m c (flip 6 c)
  | 11 => S.got m c (flip 5 c)
  | 12 => S.got m c (flip 3 c)
  | 13 => S.got m c (flip 7 c)
  | 14 => iprop(S.got m c c ∗ S.inpPts m c shrRest)

/-- The semaphores that another device's transfer credits. -/
def recvs : Finset (Fin 15) := {7, 8, 9, 10, 11, 12, 13}

/-- The order of waiting: the blocks that are passed on come first. -/
def lev (k : Fin 15) : ℕ := ![0, 0, 0, 0, 0, 0, 0, 2, 1, 1, 1, 2, 2, 2, 0] k

/-- The conversation of the all-gather. -/
def plan : Plan 8 τ sig Val (Fin 15) where
  osem k := .dma (S.sem k)
  inj a b h := S.sem_inj (by injection h)
  peer k c := flip (peerOf k) c
  peer_peer k c := flip_flip (peerOf k) c
  recv := recvs
  amt := S.amt
  amt_pos := S.amt_pos
  level := lev
  pay := S.pay m
  storable c k := by fin_cases k <;> (simp only [pay]; infer_instance)

end Spr

end Cert.Talk

end
-- ==== Proof.Deal.lean ====
/-
# Launching a program whose first kernel exchanges data at once

The kernels of this problem send to their peers without any handshake: a device's first transfer may start
before the peer has reached its own kernel. So what a transfer needs of the peer, the block of the peer's
result it writes and the right to credit the peer's semaphore, must be dealt when the program is launched,
before any device runs. `run_of_dealt` is a launch at which every device's buffers and semaphores are on the
table together and one update deals them out; `wp_first_region` is the step of a kernel region whose own
semaphores have been dealt out that way.
-/
module

public import Idealize.ShloMosaic.Lib.Pipeline.Launch
public import Idealize.ShloMosaic.Lib.Pipeline.Regions
public import Idealize.ShloMosaic.Lib.Pipeline.Kit
public import Idealize.ShloMosaic.Lib.Quiescent

@[expose] public section

set_option Elab.async false

noncomputable section

namespace Cert.Talk

open Idealize.ShloMosaic Idealize.ShloMosaic.TcCoe
open Idealize.SL Idealize.SL.RA
open Idealize.SL.BI (sProp bigSep bigSep_sep' bigSep_mono bigSep_congr bigSep_univ_prod)
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Labels} {P : Type} [Fintype P]
variable (pcs : P → PCfg sig Λ₀ Val) (a : (p : P) → (pcs p).Adm)
  (pdats : (p : P) → (c : Dev nD) → Dat τ Val Ix Name U Lvl (pin pcs a p) c) (ι : Ix)
  (phinj : Function.Injective (cellOf (nD := nD) (pin pcs a)))
  (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)

local notation "𝔻" => Pipeline.defs pcs defs₀
local notation "𝕍" => Variants.lift 𝒱₀

/-- Every device's level facts, from its cells' unassigned levels, when only TensorCore cells carry an index. -/
theorem levels_all (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have hnone (d : Dev nD) (p : Proc τ) (hp : p ≠ .tc) : (coreLevAts ((d, p) : Thread nD τ) L lv : sProp 𝕄) = BI.emp := by
    unfold coreLevAts
    exact (bigSep_congr fun sm _ => by rw [hL (((d, p) : Thread nD τ), sm) hp, BI.bigSep_empty]).trans (BI.bigSep_emp_const _)
  have he : (bigSep Finset.univ fun d : Dev nD => bigSep (Finset.univ.erase Proc.tc) fun p => (coreLevAts ((d, p) : Thread nD τ) L lv : sProp 𝕄)) = BI.emp :=
    (bigSep_congr fun d _ => (bigSep_congr fun p hp => hnone d p (Finset.ne_of_mem_erase hp)).trans (BI.bigSep_emp_const _)).trans (BI.bigSep_emp_const _)
  have hall : (bigSep Finset.univ fun c : Dev nD => coreLevAts (c.tc : Thread nD τ) L lv : sProp 𝕄) ⊢ levAts L lv := by
    rw [show (levAts L lv : sProp 𝕄) = bigSep Finset.univ fun c : Thread nD τ => coreLevAts c L lv
      from bigSep_univ_prod fun g : GSem nD τ sig => bigSep (L g) fun i => levAt g i (lv g i), bigSep_threads, he]
    iintro H; isplitl; · iexact H
    iempintro
  refine (bigSep_mono fun c _ => lev_assign_cells (c.tc : Thread nD τ) L lv).trans <| (BI.bigSep_bupd _ _).trans <| BI.bupd_mono <| (bigSep_mono fun c _ => ?_).trans hall
  show iprop((bigSep Finset.univ fun sm : SemLoc sig => levels ((c.tc : Thread nD τ), sm) (L ((c.tc : Thread nD τ), sm))) ∗ coreLevAts (c.tc : Thread nD τ) L lv)
    ⊢ coreLevAts (c.tc : Thread nD τ) L lv
  iintro ⟨-, H⟩; iexact H

/-- What the launch puts on the table for device `c`: its region boundary, its unscoped buffers as launched, its
    unscoped semaphores, what it owes, the credit others owe it, its generator register, the pipelines' ghost state. -/
def dealt [DecidableEq P] (m : (ℓ : Loc nD τ sig) → Buf Val ℓ) (g : Dev nD → PrngReg) (O₀ : Dev nD → CellTallies nD τ sig Ix) (c : Dev nD) : sProp 𝕄 :=
  iprop(boundary (c.tc : Thread nD τ) ∗ unscopedBufs c (fun b => m ((c.tc : Thread nD τ).loc b)) ∗ unscopedSems0 c
    ∗ owes (c.tc : Thread nD τ) (O₀ c) ∅ ∗ launchCred O₀ c ∗ prngReg c (g c) ∗ ghostOn pcs a EP Finset.univ c)

include phinj in
/-- A program launched with every device's holdings dealt out at once (`hdeal`): if from its share each device runs
    `main` to its last state `Tₙ c`, at the region boundary and owing nothing, then every weakly fair execution
    terminates, and its final memory satisfies `Q`, which may use what the last states show (`hfin`) and that every
    scoped counter reads zero. -/
theorem run_of_dealt [DecidableEq P] [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (O₀ : Dev nD → CellTallies nD τ sig Ix) (hL : ∀ g : GSem nD τ sig, g.1.2 ≠ .tc → L g = ∅)
    (G : sProp 𝕄) (u₀ : U)
    (hu₀ : (ownU u₀ : sProp 𝕄)
      ⊢ |={Set.univ}=> iprop(BI.own (EP (initOf (cells (pin pcs a) phinj) (launchToks (pin pcs a) phinj))) ∗ G))
    (pre Tₙ : Dev nD → sProp 𝕄)
    (hdeal : iprop((bigSep Finset.univ fun c : Dev nD => dealt pcs a EP m g O₀ c) ∗ G ∗ levAts L lv) ⊢ |={Set.univ}=> bigSep Finset.univ pre)
    (hcore : ∀ c : Dev nD, pre c ⊢ wp frame (wpE 𝔻 𝕍 (c.tc : Thread nD τ) none) Set.univ (main c) fun _ =>
      iprop(iprop(Tₙ c ∗ boundary (c.tc : Thread nD τ)) ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre)
      (fun _ c => iprop(Tₙ c ∗ boundary (c.tc : Thread nD τ))) (fun _ => iprop(emp)) Set.univ ?_ (fun _ c => ?_) fun _ => ?_))
  · -- the launch
    have hghost : iprop((bigSep Finset.univ fun c : Dev nD => bigSep Finset.univ fun p => cellsGhost (pin pcs a) EP p c)
          ∗ (bigSep Finset.univ fun c : Dev nD => bigSep Finset.univ fun p => (toksInit (pin pcs a) EP p c : sProp 𝕄)))
        ⊢ bigSep Finset.univ fun c : Dev nD => ghostOn pcs a EP Finset.univ c :=
      Entails.of_eq (by rw [← bigSep_sep']; exact bigSep_congr fun c _ => (bigSep_sep' _ _ _).symm)
    have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => iprop(boundary (c.tc : Thread nD τ) ∗ unscopedBufs c (fun b => m ((c.tc : Thread nD τ).loc b)) ∗ unscopedSems0 c
              ∗ owes (c.tc : Thread nD τ) (O₀ c) ∅ ∗ launchCred O₀ c ∗ prngReg c (g c)))
            ∗ bigSep Finset.univ fun c : Dev nD => levels0 (Ix := Ix) (Val := Val) (Name := Name) (U := U) (Lvl := Lvl) (τ := τ) (sig := sig) c : sProp 𝕄) := by
      rw [← bigSep_sep']
      refine bigSep_mono fun c _ => (coreInit_boundary_owing O₀ m g c).trans ?_
      iintro ⟨Hb, Hub, Hus, HL, Hlv, Hpr, Hcr⟩
      isplitr [Hlv]
      · isplitl [Hb]; · iexact Hb
        isplitl [Hub]; · iexact Hub
        isplitl [Hus]; · iexact Hus
        isplitl [HL]; · iexact HL
        isplitl [Hcr]; · iexact Hcr
        iexact Hpr
      · iexact Hlv
    have hjoin : iprop((bigSep Finset.univ fun c : Dev nD => iprop(boundary (c.tc : Thread nD τ) ∗ unscopedBufs c (fun b => m ((c.tc : Thread nD τ).loc b)) ∗ unscopedSems0 c
              ∗ owes (c.tc : Thread nD τ) (O₀ c) ∅ ∗ launchCred O₀ c ∗ prngReg c (g c)))
            ∗ bigSep Finset.univ fun c : Dev nD => ghostOn pcs a EP Finset.univ c)
        ⊢ (bigSep Finset.univ fun c : Dev nD => dealt pcs a EP m g O₀ c : sProp 𝕄) := by
      rw [← bigSep_sep']
      refine bigSep_mono fun c _ => show iprop(iprop(boundary (c.tc : Thread nD τ) ∗ unscopedBufs c (fun b => m ((c.tc : Thread nD τ).loc b)) ∗ unscopedSems0 c
              ∗ owes (c.tc : Thread nD τ) (O₀ c) ∅ ∗ launchCred O₀ c ∗ prngReg c (g c)) ∗ ghostOn pcs a EP Finset.univ c)
          ⊢ iprop(boundary (c.tc : Thread nD τ) ∗ unscopedBufs c (fun b => m ((c.tc : Thread nD τ).loc b)) ∗ unscopedSems0 c
              ∗ owes (c.tc : Thread nD τ) (O₀ c) ∅ ∗ launchCred O₀ c ∗ prngReg c (g c) ∗ ghostOn pcs a EP Finset.univ c) from ?_
      iintro ⟨⟨Hb, Hub, Hus, HL, Hcr, Hpr⟩, Hg⟩
      isplitl [Hb]; · iexact Hb
      isplitl [Hub]; · iexact Hub
      isplitl [Hus]; · iexact Hus
      isplitl [HL]; · iexact HL
      isplitl [Hcr]; · iexact Hcr
      isplitl [Hpr] <;> iassumption
    iintro ⟨Hc, Hu⟩
    ihave H := hcores $$ Hc
    icases H with ⟨Hc, Hlv⟩
    imod (levels_all L lv hL) $$ Hlv with Hla
    imod hu₀ $$ Hu with ⟨HP, HG⟩
    imod (fund_ghost (pin pcs a) EP phinj) $$ HP with ⟨Hg, Ht⟩
    imod hdeal $$ [Hc Hg Ht HG Hla] with Hpre
    · isplitl [Hc Hg Ht]
      · iapply hjoin
        isplitl [Hc]; · iexact Hc
        iapply hghost
        isplitl [Hg] <;> iassumption
      isplitl [HG] <;> iassumption
    imodintro
    iexists ()
    isplitl [Hpre]; · iexact Hpre
    iempintro
  · -- one device's run
    refine (hcore c).trans ((wp frame (wpE 𝔻 𝕍 (c.tc : Thread nD τ) none) Set.univ (main c)).mono fun _ => ?_)
    unfold post; simp only [liftTc_tc]
    exact BI.Entails.refl _
  · -- the final read
    iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

section First

variable (p : P) {K : Type} [Fintype K] {osem : K → SemLoc sig} (win : WinFacts₀ (pcs p).spec) (ho : OwnSemFacts (pcs p).spec osem)

/-- The boundary of device `c` with the region's own semaphores taken out. -/
def boundaryLess (c : Dev nD) : sProp 𝕄 :=
  iprop(scopedBufs (c.tc : Thread nD τ) ∗ (cellsSems0 (pin pcs a) p c ∗ idleSems0 (pin pcs a) phinj p ho c) ∗ opIdle (c.tc : Thread nD τ))

include win in
/-- The boundary is the region's own semaphores at zero and the rest. -/
theorem boundary_take (c : Dev nD) :
    (boundary (c.tc : Thread nD τ) : sProp 𝕄) ⊢ iprop(ownSems0 osem c ∗ boundaryLess pcs a phinj p ho c) := by
  have h := scopedSems0_split (pin pcs a) phinj p win ho (Ix := Ix) (Val := Val) (Name := Name) (U := U) (Lvl := Lvl) (τ := τ) c
  unfold boundary boundaryLess; rw [h]
  iintro ⟨Hs, ⟨⟨Hc, Ho⟩, Hi⟩, Hidl⟩
  isplitl [Ho]; · iexact Ho
  isplitl [Hs]; · iexact Hs
  isplitl [Hc Hi]
  · isplitl [Hc] <;> iassumption
  iexact Hidl

include phinj win in
/-- One kernel region on device `c` whose own semaphores were dealt out beforehand: from the rest of the boundary,
    the arrays, the tables, what the device owes and `X c`, the call runs to the whole boundary, the arrays at their
    final contents, what is owed at the end and `Y c`. -/
theorem wp_first_region [∀ e, Nonempty (Val e)] [Infinite Name] [EP.LandsIn (upEmb : UEmb _ 𝕄)]
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (c : Dev nD) (hbody : BodyObligationLoose (pdats p c) defs₀ 𝒱₀ ι Set.univ)
    (hwaits : (levAts L lv : sProp 𝕄) ⊢ cellsWaits (pin pcs a) pdats ι p c)
    (X Y : sProp 𝕄)
    (hin : iprop(X ∗ prefHeld (pcs p).pre c (fun _ => fullShare) (a p).1 ∗ scopedRest (pin pcs a p).spec c) ⊢ (pdats p c).Φ 0)
    (hout : (pdats p c).Φ (Fin.last (pin pcs a p).N) ⊢ iprop(Y ∗ ownSems0 osem c ∗ scopedRest (pin pcs a p).spec c))
    {α : Type} (k : PUnit → Prog (TpuEff nD τ sig Val (Sig Λ₀ P fun p => (pcs p).Adm) .tc) α) (Q : α → sProp 𝕄) :
    iprop((iprop(boundary (c.tc : Thread nD τ) ∗ (pdats p c).arrays ((pdats p c).arrAt · (pin pcs a p).N)
            ∗ (pdats p c).owesAt ι (Fin.last (pin pcs a p).N) ∗ Y) -∗ wp frame (wpE 𝔻 𝕍 (c.tc : Thread nD τ) none) Set.univ (k ⟨⟩) Q)
        ∗ boundaryLess pcs a phinj p ho c ∗ (pdats p c).arrays ((pdats p c).arrAt · 0) ∗ prefHeld (pcs p).pre c (fun _ => fullShare) (a p).1
        ∗ (pdats p c).owesAt ι 0 ∗ X ∗ levAts L lv ∗ cellsGhost (pin pcs a) EP p c ∗ toksInit (pin pcs a) EP p c)
      ⊢ wp frame (wpE 𝔻 𝕍 (c.tc : Thread nD τ) none) Set.univ (.op (.customCall (entry p) ()) k) Q := by
  classical
  have hss := scopedSems0_split (pin pcs a) phinj p win ho (Ix := Ix) (Val := Val) (Name := Name) (U := U) (Lvl := Lvl) (τ := τ) c
  have hsb := scopedBufs_split (pin pcs a) p win.stage_scoped win.stage_inj stage_whole (nD := nD) (τ := τ) (Ix := Ix) (Val := Val) (Name := Name) (U := U) (Lvl := Lvl) c
  have hout' : iprop((pdats p c).Φ (Fin.last (pin pcs a p).N) ∗ cellsSems0 (pin pcs a) p c ∗ Dat.staging (pin pcs a p) c ∗ idleSems0 (pin pcs a) phinj p ho c)
      ⊢ iprop(Y ∗ scopedSems0 (c.tc : Thread nD τ) ∗ scopedBufs (c.tc : Thread nD τ)) := by
    rw [hss, hsb]
    iintro ⟨HΦ, Hcells, Hst, Hidle⟩
    ihave H := hout $$ HΦ
    icases H with ⟨HY, Hos, Hrest⟩
    isplitl [HY]; · iexact HY
    isplitl [Hcells Hos Hidle]
    · isplitl [Hcells Hos]; · isplitl [Hcells] <;> iassumption
      iexact Hidle
    isplitl [Hst] <;> iassumption
  unfold boundaryLess
  iintro ⟨Hk, ⟨Hsc, ⟨Hcells, Hidle⟩, Hidl⟩, Harr, Hpf, HO, HX, #Hla, Hg, Ht⟩
  ihave Hw := hwaits $$ Hla
  iapply (fupd_wp frame (wpE 𝔻 𝕍 (c.tc : Thread nD τ) none) Set.univ _ _)
  imod (cellsInit_alloc (pin pcs a) pdats EP phinj p c) $$ [Hcells Hg] with ⟨%κ, -, Hinit⟩
  · isplitl [Hcells] <;> iassumption
  imodintro
  iapply (wp_customCall_entry_frame pcs a pdats ι EP κ phinj p defs₀ 𝒱₀ (fun _ => fullShare) c Set.univ (fun _ _ => Set.mem_univ _)
      hbody block_pos none (fun u h => nomatch h) (X := X) (Y := Y) (R := scopedRest (pin pcs a p).spec c)
      (I := idleSems0 (pin pcs a) phinj p ho c) (Entails.of_eq hsb) hin hout' (k := k) (Q := Q)) $$ [Harr HO Hw Hinit Ht Hpf HX Hidle Hsc]
  · isplitl [Harr HO Hw Hinit Ht]
    · unfold EntryPre PerCore.EntryPre
      isplitl [Harr]; · iexact Harr
      isplitl [HO]; · iexact HO
      isplitl [Hw]; · iexact Hw
      isplitl [Hinit] <;> iassumption
    isplitl [Hpf]; · iexact Hpf
    isplitl [HX]; · iexact HX
    isplitl [Hidle] <;> iassumption
  iintro ⟨Hpost, HY, Hss, Hsc⟩
  unfold EntryPost PerCore.EntryPost
  icases Hpost with ⟨Ha, HO⟩
  iapply Hk
  isplitl [Hss Hsc Hidl]
  · unfold boundary
    isplitl [Hsc]; · iexact Hsc
    isplitl [Hss] <;> iassumption
  isplitl [Ha]; · iexact Ha
  isplitl [HO] <;> iassumption

end First

end Cert.Talk

end
-- ==== Proof.Opening.lean ====
/-
# Launching a program that begins with a conversation

A program whose first kernel is one conversation of all devices: the launch deals every device its rights and its
part of the arrays that the devices write for one another, the kernel's region runs the conversation, and the program
goes on from what it leaves. The theorem `run_opening` takes the kernel's body and the rest of the program as
hypotheses.
-/
module

public import proofs.«01_k».proof.Proof.Blocks
public import proofs.«01_k».proof.Proof.Deal

@[expose] public section

set_option Elab.async false

noncomputable section

namespace Cert.Talk

open Idealize.ShloMosaic Idealize.ShloMosaic.TcCoe
open Idealize.SL Idealize.SL.RA
open Idealize.SL.BI (sProp bigSep bigSepL bigSep_sep' bigSep_mono bigSep_congr bigSep_univ_prod bigSep_univ_equiv bigSep_univ_eq_bigSepL)
open scoped Idealize.SL.BI
open Idealize.SL.BI.BIBase Idealize.SL.BI.Laws Idealize.SL.ProofMode Idealize.SL.Sem
open Idealize.ShloMosaic.Rounds Idealize.ShloMosaic.Pipeline

variable {τ : Topo} {sig : RefSig} {Val : EltTy → Type} {K : Type} [Fintype K] [DecidableEq K]

local notation "𝕄" => MT 8 τ sig Unit Val ℕ (Gho 8 τ sig) ℕ

/-- A conversation of a program's first kernel: what a device holds of its argument, the array that others write, the
    part of all those arrays that it writes itself, and what it holds at the end. -/
structure Opening (τ : Topo) (sig : RefSig) (Val : EltTy → Type) (K : Type) [Fintype K] [DecidableEq K] where
  plan : Plan 8 τ sig Val K
  arg : Dev 8 → sProp (MT 8 τ sig Unit Val ℕ (Gho 8 τ sig) ℕ)
  space : Dev 8 → sProp (MT 8 τ sig Unit Val ℕ (Gho 8 τ sig) ℕ)
  part : Dev 8 → sProp (MT 8 τ sig Unit Val ℕ (Gho 8 τ sig) ℕ)
  leave : Dev 8 → sProp (MT 8 τ sig Unit Val ℕ (Gho 8 τ sig) ℕ)
  deal : (bigSep Finset.univ fun c => space c) ⊢ bigSep Finset.univ fun c => part c

variable (A : Opening τ sig Val K) (m : (ℓ : Loc 8 τ sig) → Buf Val ℓ)

namespace Opening

/-- What a device enters the kernel with. -/
def entry (c : Dev 8) : sProp 𝕄 :=
  iprop(A.plan.recs ∗ levAts Plan.L A.plan.lv ∗ A.plan.start c ∗ A.arg c ∗ A.part c)

section Data

variable {Λ₀ : Labels} (cfg : Cfg sig Λ₀) (hW : cfg.W = 0) (c : Dev 8)

/-- The proof data of the conversation's region: it stages nothing, and has one point. -/
def data : Dat τ Val Unit ℕ (Gho 8 τ sig) ℕ cfg c where
  A v := (Fin.cast hW v).elim0
  after v := (Fin.cast hW v).elim0
  Φ t := if t.val = 0 then iprop(A.entry c ∗ scopedRest cfg.spec c)
    else iprop(iprop(A.leave c ∗ bigSep Finset.univ fun k => semVal (A.plan.cell (c, k)) 0) ∗ scopedRest cfg.spec c)
  q v := (Fin.cast hW v).elim0
  owed t := if t.val = 0 then A.plan.owed c A.plan.recv else 0

include hW in
theorem none_staged {M : Type*} [URA M] (Φ : Fin cfg.W → sProp M) : bigSep Finset.univ Φ = (BI.emp : sProp M) := by
  have : IsEmpty (Fin cfg.W) := ⟨fun v => (Fin.cast hW v).elim0⟩
  rw [Finset.univ_eq_empty, BI.bigSep_empty]

theorem data_arrays (F₀ : (v : Fin cfg.W) → _) : (A.data cfg hW c).arrays F₀ = (BI.emp : sProp 𝕄) := by
  unfold Dat.arrays; exact none_staged cfg hW _

theorem data_first (t : Fin (cfg.N + 1)) (ht : t.val = 0) : (A.data cfg hW c).Φ t = iprop(A.entry c ∗ scopedRest cfg.spec c) := if_pos ht
theorem data_last (t : Fin (cfg.N + 1)) (ht : t.val ≠ 0) : (A.data cfg hW c).Φ t
    = iprop(iprop(A.leave c ∗ bigSep Finset.univ fun k => semVal (A.plan.cell (c, k)) 0) ∗ scopedRest cfg.spec c) := if_neg ht
theorem data_owed_first (t : Fin (cfg.N + 1)) (ht : t.val = 0) :
    ((A.data cfg hW c).owesAt () t : sProp 𝕄) = owesWithin c (A.plan.owed c A.plan.recv) ((A.data cfg hW c).bound () t) :=
  congrArg (fun O => (owesWithin c O ((A.data cfg hW c).bound () t) : sProp 𝕄)) (if_pos ht)
theorem data_owed_last (t : Fin (cfg.N + 1)) (ht : t.val ≠ 0) :
    ((A.data cfg hW c).owesAt () t : sProp 𝕄) = owesWithin c 0 ((A.data cfg hW c).bound () t) :=
  congrArg (fun O => (owesWithin c O ((A.data cfg hW c).bound () t) : sProp 𝕄)) (if_neg ht)

/-- What is asked of a kernel that holds the conversation. -/
def BodyRuns (defs₀ : Defs 8 τ sig Val Λ₀) (𝒱₀ : Variants) {R : Type} (b : Prog (TpuEff 8 τ sig Val Λ₀ .tc) R) : Prop :=
  ∀ Q : sProp 𝕄, iprop(A.entry c ∗ A.plan.owing c A.plan.recv)
    ⊢ iprop((iprop(A.leave c ∗ A.plan.owing c ∅ ∗ bigSep Finset.univ fun k => semVal (A.plan.cell (c, k)) 0) -∗ Q)
      -∗ wp frame (wpE defs₀ 𝒱₀ c.tc none) Set.univ b fun _ => Q)

theorem data_body (hN : cfg.N = 1) (defs₀ : Defs 8 τ sig Val Λ₀) (𝒱₀ : Variants)
    (hb : ∀ t : Fin cfg.N, A.BodyRuns c defs₀ 𝒱₀ (defs₀ .tc cfg.body (cfg.bodyArgs t (cfg.slots t)))) :
    BodyObligation (A.data cfg hW c) defs₀ 𝒱₀ () Set.univ := fun t => by
  have h0 : t.castSucc.val = 0 := by have := t.isLt; show t.val = 0; omega
  have h1 : t.succ.val ≠ 0 := by rw [Fin.val_succ]; omega
  rw [none_staged cfg hW, data_first _ _ _ _ _ h0, data_owed_first _ _ _ _ _ h0]
  have hpost : iprop(A.leave c ∗ A.plan.owing c ∅ ∗ (bigSep Finset.univ fun k => semVal (A.plan.cell (c, k)) 0) ∗ scopedRest cfg.spec c)
      ⊢ iprop((A.data cfg hW c).Φ t.succ ∗ (A.data cfg hW c).owesAt () t.succ ∗ (BI.emp : sProp 𝕄)) := by
    rw [data_last _ _ _ _ _ h1, data_owed_last _ _ _ _ _ h1]
    unfold Plan.owing owesWithin
    rw [show A.plan.owed c ∅ = 0 from Finset.sum_empty]
    iintro ⟨HL, ⟨%W, HO⟩, HZ, HR⟩
    isplitr [HO]
    · isplitl [HL HZ]
      · isplitl [HL] <;> iassumption
      iexact HR
    isplitl [HO]
    · iexists W
      isplitr; · ipureintro; exact fun _ _ => Or.inl trivial
      iexact HO
    iempintro
  refine Entails.trans ?_ ((wp frame (wpE defs₀ 𝒱₀ c.tc none) Set.univ (defs₀ .tc cfg.body (cfg.bodyArgs t (cfg.slots t)))).mono fun u =>
    hpost.trans (Entails.of_eq (by rw [none_staged cfg hW])))
  unfold owesWithin
  iintro ⟨⟨HE, HR⟩, ⟨%W, -, HO⟩, -⟩
  iapply (hb t _) $$ [HE HO]
  · isplitl [HE]; · iexact HE
    unfold Plan.owing; iexists W; iexact HO
  iintro ⟨HL, HO, HZ⟩
  isplitl [HL]; · iexact HL
  isplitl [HO]; · iexact HO
  isplitl [HZ] <;> iassumption

end Data

/-! ## The launch -/

section Launch

variable {Λ₀ : Labels} {P : Type} [Fintype P] [DecidableEq P]
variable (pcs : P → PCfg sig Λ₀ Val) (a : (p : P) → (pcs p).Adm)
  (pdats : (p : P) → (c : Dev 8) → Dat τ Val Unit ℕ (Gho 8 τ sig) ℕ (pin pcs a p) c)
  (phinj : Function.Injective (cellOf (nD := 8) (τ := τ) (pin pcs a))) (defs₀ : Defs 8 τ sig Val Λ₀) (g : Dev 8 → PrngReg)
  (p : P) (hW : (pin pcs a p).W = 0) (win : WinFacts₀ (pcs p).spec)
  (ho : OwnSemFacts (pcs p).spec A.plan.osem) (rest : Dev 8 → sProp (MT 8 τ sig Unit Val ℕ (Gho 8 τ sig) ℕ))

local notation "𝔻" => Pipeline.defs pcs defs₀
local notation "𝕍" => Variants.lift Variants.none

/-- The embedding of the pipelines' ghost state. -/
abbrev EP : Emb (URounds (GSem 8 τ sig) Unit) 𝕄 := embL

/-- The ghost state of the run. -/
def ghost₀ : Gho 8 τ sig :=
  (initOf (cells (pin pcs a) phinj) (launchToks (pin pcs a) phinj),
    initOf A.plan.cellSet A.plan.tokSet)

/-- The part of a device's share that is its own from the start. -/
def mine (c : Dev 8) : sProp 𝕄 :=
  iprop(boundaryLess pcs a phinj p ho c ∗ A.arg c ∗ rest c
    ∗ owes (c.tc : Thread 8 τ) (A.plan.owed c A.plan.recv) ∅
    ∗ cellsGhost (pin pcs a) EP p c ∗ toksInit (pin pcs a) EP p c ∗ ghostOn pcs a EP (Finset.univ.erase p) c)

/-- What a device starts from. -/
def begins (c : Dev 8) : sProp 𝕄 :=
  iprop(A.plan.recs ∗ levAts Plan.L A.plan.lv ∗ A.plan.start c
    ∗ A.part c ∗ mine A pcs a phinj p ho rest c)

variable (hbufs : ∀ c : Dev 8, (unscopedBufs c (fun b => m ((c.tc : Thread 8 τ).loc b)) : sProp (MT 8 τ sig Unit Val ℕ (Gho 8 τ sig) ℕ))
  ⊢ iprop(A.arg c ∗ A.space c ∗ rest c))

theorem own_eq (c : Dev 8) :
    (ownSems0 A.plan.osem c : sProp 𝕄) = bigSep Finset.univ fun k => semVal (A.plan.cell (c, k)) 0 := rfl

include hbufs win in
theorem dealt_one (c : Dev 8) :
    dealt pcs a EP m g (fun d => A.plan.owed d A.plan.recv) c
      ⊢ iprop((bigSep Finset.univ fun k => semVal (A.plan.cell (c, k)) 0)
        ∗ launchCred (fun d => A.plan.owed d A.plan.recv) c
        ∗ A.space c ∗ mine A pcs a phinj p ho rest c) := by
  unfold dealt mine
  have hg : (ghostOn pcs a EP Finset.univ c : sProp 𝕄)
      = iprop((cellsGhost (pin pcs a) EP p c ∗ toksInit (pin pcs a) EP p c)
        ∗ PerCore.ghostOn pcs (fun _ => a) EP (Finset.univ.erase p) c) := PerCore.ghostOn_erase _ _ _ (Finset.mem_univ _) c
  rw [hg]
  iintro ⟨Hb, Hu, -, HO, Hc, -, ⟨Hg, Ht⟩, He⟩
  ihave Hu := (hbufs c) $$ Hu
  icases Hu with ⟨Hx, Hv, Hr⟩
  ihave Hb := (boundary_take pcs a phinj p win ho c) $$ Hb
  icases Hb with ⟨Hs, Hb⟩
  isplitl [Hs]; · rw [← own_eq]; iexact Hs
  isplitl [Hc]; · iexact Hc
  isplitl [Hv]; · iexact Hv
  isplitl [Hb]; · iexact Hb
  isplitl [Hx]; · iexact Hx
  isplitl [Hr]; · iexact Hr
  isplitl [HO]; · iexact HO
  isplitl [Hg]; · iexact Hg
  isplitl [Ht]; · iexact Ht
  iexact He

include hbufs win in
theorem dealt_all :
    (bigSep Finset.univ fun c : Dev 8 => dealt pcs a EP m g (fun d => A.plan.owed d A.plan.recv) c)
      ⊢ iprop((bigSep Finset.univ fun c : Dev 8 => bigSep Finset.univ fun k => semVal (A.plan.cell (c, k)) 0)
        ∗ (bigSep Finset.univ fun c : Dev 8 => launchCred (fun d => A.plan.owed d A.plan.recv) c)
        ∗ (bigSep Finset.univ fun c : Dev 8 => A.space c) ∗ bigSep Finset.univ fun c : Dev 8 => mine A pcs a phinj p ho rest c) := by
  refine Entails.trans (bigSep_mono fun c _ => dealt_one A m pcs a phinj g p win ho rest hbufs c) (Entails.of_eq ?_)
  rw [bigSep_sep', bigSep_sep', bigSep_sep']

theorem begins_all :
    iprop(A.plan.recs ∗ levAts Plan.L A.plan.lv ∗ (bigSep Finset.univ fun c : Dev 8 => A.plan.start c)
        ∗ (bigSep Finset.univ fun c : Dev 8 => A.part c)
        ∗ bigSep Finset.univ fun c : Dev 8 => mine A pcs a phinj p ho rest c)
      ⊢ bigSep Finset.univ (begins A pcs a phinj p ho rest) := by
  have h : iprop((bigSep Finset.univ fun _ : Dev 8 => iprop(A.plan.recs ∗ levAts Plan.L A.plan.lv))
        ∗ (bigSep Finset.univ fun c : Dev 8 => A.plan.start c)
        ∗ (bigSep Finset.univ fun c : Dev 8 => A.part c)
        ∗ bigSep Finset.univ fun c : Dev 8 => mine A pcs a phinj p ho rest c)
      ⊢ bigSep Finset.univ (begins A pcs a phinj p ho rest) := by
    rw [← bigSep_sep', ← bigSep_sep', ← bigSep_sep']
    refine bigSep_mono fun c _ => ?_
    show iprop(iprop(A.plan.recs ∗ levAts Plan.L A.plan.lv) ∗ A.plan.start c
      ∗ A.part c ∗ mine A pcs a phinj p ho rest c) ⊢ begins A pcs a phinj p ho rest c
    unfold begins
    iintro ⟨⟨#Hr, #Hl⟩, Hs, Hd, Hm⟩
    isplitr; · iexact Hr
    isplitr; · iexact Hl
    isplitl [Hs]; · iexact Hs
    isplitl [Hd] <;> iassumption
  iintro ⟨#Hr, #Hl, Hs, Hd, Hm⟩
  iapply h
  isplitr
  · iapply (show iprop(A.plan.recs ∗ levAts Plan.L A.plan.lv)
        ⊢ (bigSep Finset.univ fun _ : Dev 8 => iprop(A.plan.recs ∗ levAts Plan.L A.plan.lv) : sProp 𝕄)
      from BI.bigSep_intro_persistent fun _ _ => BI.Entails.refl _)
    isplitr <;> iassumption
  isplitl [Hs]; · iexact Hs
  isplitl [Hd] <;> iassumption

include hbufs win in
theorem dealing :
    iprop((bigSep Finset.univ fun c : Dev 8 => dealt pcs a EP m g (fun d => A.plan.owed d A.plan.recv) c)
        ∗ BI.own (Plan.ER (initOf A.plan.cellSet A.plan.tokSet)) ∗ levAts Plan.L A.plan.lv)
      ⊢ (|={Set.univ}=> bigSep Finset.univ (begins A pcs a phinj p ho rest) : sProp 𝕄) := by
  iintro ⟨Hd, HG, #Hl⟩
  ihave Hd := (dealt_all A m pcs a phinj g p win ho rest hbufs) $$ Hd
  icases Hd with ⟨Hs, Hc, Hv, Hm⟩
  imod (A.plan.launch) $$ [Hs HG Hc] with ⟨#Hr, Hst⟩
  · isplitl [Hs]; · iexact Hs
    isplitl [HG]; · iexact HG
    iexact Hc
  ihave Hv := A.deal $$ Hv
  imodintro
  iapply (begins_all A pcs a phinj p ho rest)
  isplitr; · iexact Hr
  isplitr; · iexact Hl
  isplitl [Hst]; · iexact Hst
  isplitl [Hv] <;> iassumption

variable (hN : (pin pcs a p).N = 1) (hpre : ∀ c : Dev 8, (prefHeld (pcs p).pre c (fun _ => fullShare) (a p).1 : sProp (MT 8 τ sig Unit Val ℕ (Gho 8 τ sig) ℕ)) = BI.emp)
  (hdat : ∀ c : Dev 8, pdats p c = A.data (pin pcs a p) hW c)
  (stage_whole : ∀ (v : Fin (pin pcs a p).W) (s : Fin ((pin pcs a p).spec v).nbuf), (((pin pcs a p).spec v).stage s).IsWhole)
  (hbody : ∀ (c : Dev 8) (t : Fin (pin pcs a p).N), A.BodyRuns c defs₀ Variants.none
    (defs₀ .tc (pin pcs a p).body ((pin pcs a p).bodyArgs t ((pin pcs a p).slots t))))

/-- What a device has when the conversation is over. -/
def goes (c : Dev 8) : sProp 𝕄 :=
  iprop(boundary (c.tc : Thread 8 τ) ∗ A.leave c ∗ rest c ∗ (∃ W, owes (c.tc : Thread 8 τ) (0 : CellTallies 8 τ sig Unit) W)
    ∗ levAts Plan.L A.plan.lv ∗ ghostOn pcs a EP (Finset.univ.erase p) c)

include hN hpre hdat stage_whole hbody win phinj in
/-- One device's run of the conversation's region. -/
theorem region_runs [∀ e, Nonempty (Val e)] (c : Dev 8) {α : Type} (k : PUnit → Prog (TpuEff 8 τ sig Val (Sig Λ₀ P fun p => (pcs p).Adm) .tc) α) (Q : α → sProp 𝕄) :
    iprop(begins A pcs a phinj p ho rest c
        ∗ (goes A pcs a p rest c -∗ wp frame (wpE 𝔻 𝕍 (c.tc : Thread 8 τ) none) Set.univ (k ⟨⟩) Q))
      ⊢ wp frame (wpE 𝔻 𝕍 (c.tc : Thread 8 τ) none) Set.univ (.op (.customCall (Pipeline.entry p) ()) k) Q := by
  have hl : (Fin.last (pin pcs a p).N).val ≠ 0 := by rw [Fin.val_last]; omega
  have hin : iprop(A.entry c ∗ prefHeld (pcs p).pre c (fun _ => fullShare) (a p).1 ∗ scopedRest (pin pcs a p).spec c)
      ⊢ (pdats p c).Φ 0 := by
    rw [hdat, data_first _ _ _ _ _ rfl]
    iintro ⟨HE, -, HR⟩
    isplitl [HE] <;> iassumption
  have hout : (pdats p c).Φ (Fin.last (pin pcs a p).N)
      ⊢ iprop(A.leave c ∗ ownSems0 A.plan.osem c ∗ scopedRest (pin pcs a p).spec c) := by
    rw [hdat, data_last _ _ _ _ _ hl, own_eq]
    iintro ⟨⟨HL, HS⟩, HR⟩
    isplitl [HL]; · iexact HL
    isplitl [HS] <;> iassumption
  have harr (F₀ : (v : Fin (pin pcs a p).W) → _) : (pdats p c).arrays F₀ = (BI.emp : sProp 𝕄) := by
    unfold Dat.arrays; exact none_staged (pin pcs a p) hW _
  have howe : iprop(owes (c.tc : Thread 8 τ) (A.plan.owed c A.plan.recv) ∅) ⊢ (pdats p c).owesAt () 0 := by
    rw [hdat, data_owed_first _ _ _ _ _ rfl]
    unfold owesWithin
    iintro HO
    iexists ∅
    isplitr; · ipureintro; exact fun _ h => absurd h (by simp)
    iexact HO
  have howe' : (pdats p c).owesAt () (Fin.last (pin pcs a p).N) ⊢ iprop(∃ W, owes (c.tc : Thread 8 τ) (0 : CellTallies 8 τ sig Unit) W) := by
    rw [hdat, data_owed_last _ _ _ _ _ hl]
    unfold owesWithin
    iintro ⟨%W, -, HO⟩
    iexists W
    iexact HO
  have hob : BodyObligation (pdats p c) defs₀ Variants.none () Set.univ := by
    rw [hdat]; exact A.data_body _ hW c hN defs₀ Variants.none (hbody c)
  have h := wp_first_region pcs a pdats () phinj EP defs₀ Variants.none Plan.L A.plan.lv p win ho
    (fun v => (Fin.cast hW v).elim0) stage_whole c hob.loose (cellsWaits_intro _ _ _ _ _ fun v => (Fin.cast hW v).elim0)
    (A.entry c) (A.leave c) hin hout k Q
  rw [harr, harr, hpre] at h
  refine Entails.trans ?_ h
  unfold begins mine Opening.entry
  iintro ⟨⟨#Hr, #Hl, Hs, Hd, Hb, Hx, HR, HO, Hg, Ht, He⟩, Hk⟩
  isplitl [HR He Hk]
  · iintro ⟨Hb, -, HO, Hlv⟩
    iapply Hk
    unfold goes
    isplitl [Hb]; · iexact Hb
    isplitl [Hlv]; · iexact Hlv
    isplitl [HR]; · iexact HR
    isplitl [HO]; · iapply howe'; iexact HO
    isplitr [He]; · iexact Hl
    iexact He
  isplitl [Hb]; · iexact Hb
  isplitr; · iempintro
  isplitr; · iempintro
  isplitl [HO]; · iapply howe; iexact HO
  isplitl [Hs Hd Hx]
  · isplitr; · iexact Hr
    isplitr; · iexact Hl
    isplitl [Hs]; · iexact Hs
    isplitl [Hx] <;> iassumption
  isplitr; · iexact Hl
  isplitl [Hg] <;> iassumption

include hbufs hN hpre hdat stage_whole hbody win phinj ho in
/-- A program that begins with a conversation: if from what it leaves the rest of the program runs to `Tₙ`, every
    weakly fair execution of the whole terminates in a memory that `Tₙ` describes, with every semaphore at zero. -/
theorem run_opening [∀ e, Nonempty (Val e)] (main : Dev 8 → Prog (TpuEff 8 τ sig Val (Sig Λ₀ P fun p => (pcs p).Adm) .tc) PUnit)
    (k : Dev 8 → PUnit → Prog (TpuEff 8 τ sig Val (Sig Λ₀ P fun p => (pcs p).Adm) .tc) PUnit)
    (hmain : ∀ c, main c = .op (.customCall (Pipeline.entry p) ()) (k c)) (Tₙ : Dev 8 → sProp 𝕄)
    (htail : ∀ c : Dev 8, goes A pcs a p rest c ⊢ wp frame (wpE 𝔻 𝕍 (c.tc : Thread 8 τ) none) Set.univ (k c ⟨⟩) fun _ =>
      iprop(iprop(Tₙ c ∗ boundary (c.tc : Thread 8 τ)) ∗ ∃ W, owes (c.tc : Thread 8 τ) (0 : CellTallies 8 τ sig Unit) W))
    (QY : Dev 8 → MemSt 8 τ sig Val → Prop)
    (hfin : ∀ c (s' : Phys 8 τ sig Val), iprop(Tₙ c ∗ SI s') ⊢ |={Set.univ}=> iprop(⌜QY c s'.mem⌝ ∗ SI s'))
    {Q : PUnit × MemSt 8 τ sig Val → Prop} (hQ : ∀ s : MemSt 8 τ sig Val, (∀ c : Dev 8, QY c s) →
      (∀ g' : GSem 8 τ sig, (g'.1.2 ≠ .tc ∨ g'.2.isScoped .tc = true) → s.sem g' = 0) → Q (⟨⟩, s)) :
    θ_run 𝔻 (onTc main) ⟨m, fun _ => 0, g⟩ Q :=
  run_of_dealt pcs a phinj EP defs₀ Variants.none Plan.L A.plan.lv m g main
    (fun d => A.plan.owed d A.plan.recv) Plan.L_other
    (BI.own (Plan.ER (initOf A.plan.cellSet A.plan.tokSet))) (ghost₀ A pcs a phinj)
    (by
      unfold ghost₀
      iintro H
      ihave H := (ownU_pair _ _) $$ H
      imodintro
      iexact H)
    (begins A pcs a phinj p ho rest) Tₙ (dealing A m pcs a phinj g p win ho rest hbufs)
    (fun c => by
      rw [hmain]
      refine Entails.trans ?_ (region_runs A pcs a pdats phinj defs₀ p hW win ho rest hN hpre hdat stage_whole hbody c (k c) _)
      iintro H
      isplitl [H]; · iexact H
      iintro H
      iapply (htail c); iexact H)
    QY hfin hQ

end Launch

end Opening

end Cert.Talk

end
-- ==== Proof.SpreadBody.lean ====
/-
# The all-gather: one device's part

The kernel of the all-gather, transfer by transfer and wait by wait, from a device's input, the blocks it is
to write and its rights in the conversation, to the whole result and all its semaphores used; and the all-gather as a
conversation that opens a program.
-/
module

public import proofs.«01_k».proof.Proof.Spread
public import proofs.«01_k».proof.Proof.Opening

@[expose] public section

set_option Elab.async false

noncomputable section

namespace Cert.Talk

open Idealize.ShloMosaic Idealize.ShloMosaic.TcCoe
open Idealize.SL Idealize.SL.RA
open Idealize.SL.BI (sProp bigSep bigSepL bigSep_sep' bigSep_mono bigSep_congr bigSep_univ_prod bigSep_univ_equiv bigSep_univ_eq_bigSepL)
open scoped Idealize.SL.BI
open Idealize.SL.BI.BIBase Idealize.SL.BI.Laws Idealize.SL.ProofMode Idealize.SL.Sem

namespace Spr

variable {τ : Topo} {sig : RefSig} {Val : EltTy → Type} {n w : ℕ} {e : EltTy} {Λ : Labels}

local notation "𝕄" => MT 8 τ sig Unit Val ℕ (Gho 8 τ sig) ℕ

variable (S : Spr sig n w e) (m : (ℓ : Loc 8 τ sig) → Buf Val ℓ) (D : Defs 8 τ sig Val Λ)

/-! ## The kernel -/

/-- The blocks the kernel names, by their distance from its own. -/
def dist : Fin 8 → Fin 8 := ![0, 4, 2, 6, 1, 5, 3, 7]

/-- The peers of its transfers, by distance: four for its own block, then the sibling for each block passed on. -/
def step : Fin 7 → Fin 8 := ![1, 4, 2, 6, 1, 1, 1]

/-- The blocks of the result a device's kernel names, and the peers. -/
structure Names (S : Spr sig n w e) (τ : Topo) where
  os : Fin 8 → Memref sig .tc .hbm (Sb n w) e
  dv : Fin 7 → Dev 8
  wx : S.x.view.WordExact
  wo : ∀ k, (os k).view.WordExact
  sc : ∀ k, (os k).view.ref.isScScratch = false
  tl : DmaTarget.Typed (nD := 8) (τ := τ) (p := .tc) .hbm (.dma (S.sem 14)) (.here (os 0))
  tr : ∀ j k ks kr, DmaTarget.Typed (nD := 8) (τ := τ) (p := .tc) .hbm (.dma (S.sem kr)) (.remote ((dv k).tc (τ := τ)) (os j) (.dma (S.sem ks)) (sc j))

/-- The names a kernel uses are those of the blocks by distance. -/
structure Names.Right {S : Spr sig n w e} (N : S.Names τ) (c : Dev 8) : Prop where
  os : ∀ k, N.os k = S.blkM (flip (dist k) c)
  dv : ∀ k, N.dv k = flip (step k) c

section Kernel

variable {S} (N : S.Names τ)

/-- Copying the own block into the result. -/
abbrev copyOwn (t : Prog (TpuEff 8 τ sig Val Λ .tc) PUnit) : Prog (TpuEff 8 τ sig Val Λ .tc) PUnit :=
  .op (.enqueueDma S.x (.here (N.os 0)) (.dma (S.sem 14)) N.wx (N.wo 0) N.tl) fun _ => t

/-- The `k`-th send of the own block. -/
abbrev sendOwn (k : Fin 7) (ks kr : Fin 15) (t : Prog (TpuEff 8 τ sig Val Λ .tc) PUnit) : Prog (TpuEff 8 τ sig Val Λ .tc) PUnit :=
  .op (.enqueueDma S.x (.remote ((N.dv k).tc (τ := τ)) (N.os 0) (.dma (S.sem ks)) (N.sc 0)) (.dma (S.sem kr)) N.wx (N.wo 0) (N.tr 0 k ks kr)) fun _ => t

/-- Passing on the block at the `j`-th offset, by the `k`-th transfer. -/
abbrev passOn (j : Fin 8) (k : Fin 7) (ks kr : Fin 15) (t : Prog (TpuEff 8 τ sig Val Λ .tc) PUnit) : Prog (TpuEff 8 τ sig Val Λ .tc) PUnit :=
  .op (.enqueueDma (N.os j) (.remote ((N.dv k).tc (τ := τ)) (N.os j) (.dma (S.sem ks)) (N.sc j)) (.dma (S.sem kr)) (N.wo j) (N.wo j) (N.tr j k ks kr)) fun _ => t

/-- Waiting for a block of the result: for its arrival, or for its being passed on. -/
abbrev waitBlock (j : Fin 8) (kw : Fin 15) (t : Prog (TpuEff 8 τ sig Val Λ .tc) PUnit) : Prog (TpuEff 8 τ sig Val Λ .tc) PUnit :=
  .op (.waitDma2 (S.sem kw) (N.os j) (N.os j) (N.wo j) (N.wo j)) fun _ => t

/-- Waiting for a send of the own block. -/
abbrev waitOwn (kw : Fin 15) (t : Prog (TpuEff 8 τ sig Val Λ .tc) PUnit) : Prog (TpuEff 8 τ sig Val Λ .tc) PUnit :=
  .op (.waitDma2 (S.sem kw) (N.os 0) S.x (N.wo 0) N.wx) fun _ => t

/-- The kernel. -/
abbrev gathers : Prog (TpuEff 8 τ sig Val Λ .tc) PUnit :=
  copyOwn N <| sendOwn N 0 0 7 <| sendOwn N 1 1 8 <| sendOwn N 2 2 9 <| sendOwn N 3 3 10 <|
  waitBlock N 1 8 <| passOn N 1 4 4 11 <| waitBlock N 2 9 <| passOn N 2 5 5 12 <| waitBlock N 3 10 <| passOn N 3 6 6 13 <|
  waitBlock N 4 7 <| waitBlock N 5 11 <| waitBlock N 6 12 <| waitBlock N 7 13 <|
  waitOwn N 0 <| waitOwn N 1 <| waitOwn N 2 <| waitOwn N 3 <|
  waitBlock N 1 4 <| waitBlock N 2 5 <| waitBlock N 3 6 <|
  .op (.waitDma2 (S.sem 14) S.x (N.os 0) N.wx (N.wo 0)) fun _ => .ret PUnit.unit

end Kernel

/-! ## The steps -/

/-- Starting the local copy of the input into the own block. -/
theorem go_local (c : Dev 8) {dst : Memref sig .tc .hbm (Sb n w) e} (hd : dst = S.blkM c)
    {hw : (S.x).view.WordExact} {hw' : dst.view.WordExact}
    {hs : DmaTarget.Typed (nD := 8) (τ := τ) (p := .tc) .hbm (.dma (S.sem 14)) (.here dst)}
    {k : PUnit → Prog (TpuEff 8 τ sig Val Λ .tc) PUnit} {Q : PUnit → sProp 𝕄} :
    iprop((S.plan m).recs ∗ S.inpPts m c shrRest ∗ S.free c c ∗ (S.plan m).tok c 14)
      ⊢ iprop(((S.plan m).credit c 14 -∗ wp frame (wpE D Variants.none c.tc none) Set.univ (k ⟨⟩) Q)
          -∗ wp frame (wpE D Variants.none c.tc none) Set.univ
              (.op (.enqueueDma (S.x) (.here dst) (.dma (S.sem 14)) hw hw' hs) k) Q) := by
  subst hd
  unfold inpPts free room
  iintro ⟨Hr, Hx, ⟨%f, Ho⟩, Ht⟩
  iintro Hk
  iapply ((S.plan m).step_copy (src := S.x) (dst := S.blkM c) (sem := .dma (S.sem 14)) (hsrc := hw) (hdst := hw') (hsem := hs) (k := k) (Q := Q)
    (q := shrRest) (fs := m (S.x.view.loc (c.tc : Thread 8 τ))) (fd := f) (defs := D) Variants.none c 14 rfl (flip_zero c) (S.amt_o c) (by
      show _ ⊢ iprop(S.got m c c ∗ S.inpPts m c shrRest)
      unfold inpPts
      exact sep_mono (holds_intro c (S.blkM c) _ _ (View.read_write_univ _ _)) .rfl)) $$ [Hr Hx Ho Ht]
  · isplitl [Hr]; · iexact Hr
    isplitl [Hx]; · iexact Hx
    isplitl [Ho] <;> iassumption
  iexact Hk

/-- Sending the input into one's own block on another device. -/
theorem go_first (c dv : Dev 8) {dst : Memref sig .tc .hbm (Sb n w) e} {sS sem : SemLoc sig} (q : PosShare TreeShare)
    (ks kr : Fin 15) (hd : dst = S.blkM c) (hS : sS = .dma (S.sem ks)) (hR : sem = .dma (S.sem kr)) (hks : flip (peerOf ks) c = c) (hdv : dv = flip (peerOf kr) c)
    (O : Finset (Fin 15)) (hkr : kr ∈ O)
    (h₁ : S.inpPts m c q ⊢ S.pay m c ks) (h₂ : S.got m (flip (peerOf kr) c) c ⊢ S.pay m (flip (peerOf kr) c) kr)
    {hsc : dst.view.ref.isScScratch = false} {hw : (S.x).view.WordExact} {hw' : dst.view.WordExact}
    {hs : DmaTarget.Typed (nD := 8) (τ := τ) (p := .tc) .hbm sem (.remote (dv.tc (τ := τ)) dst sS hsc)}
    {k : PUnit → Prog (TpuEff 8 τ sig Val Λ .tc) PUnit} {Q : PUnit → sProp 𝕄} :
    iprop((S.plan m).recs ∗ S.inpPts m c q ∗ S.free (flip (peerOf kr) c) c ∗ (S.plan m).owing c O ∗ (S.plan m).tok c ks ∗ (S.plan m).tok c kr)
      ⊢ iprop((iprop((S.plan m).credit c ks ∗ (S.plan m).owing c (O.erase kr)) -∗ wp frame (wpE D Variants.none c.tc none) Set.univ (k ⟨⟩) Q)
          -∗ wp frame (wpE D Variants.none c.tc none) Set.univ
              (.op (.enqueueDma (S.x) (.remote (dv.tc (τ := τ)) dst sS hsc) sem hw hw' hs) k) Q) := by
  subst hd hS hR hdv
  unfold inpPts at h₁ ⊢
  unfold free room
  iintro ⟨Hr, Hx, ⟨%f, Ho⟩, HO, Ht, Ht'⟩
  iintro Hk
  iapply ((S.plan m).step_send (src := S.x) (dst := S.blkM c) (dv := flip (peerOf kr) c) (hsc := hsc) (hsrc := hw) (hdst := hw') (hsem := hs) (k := k) (Q := Q)
    (q := q) (fs := m (S.x.view.loc (c.tc : Thread 8 τ))) (fd := f) (defs := D) Variants.none c ks kr rfl rfl hks rfl (S.amt_o _) O hkr h₁
    ((holds_intro (flip (peerOf kr) c) (S.blkM c) _ _ (View.read_write_univ _ _)).trans h₂)) $$ [Hr Hx Ho HO Ht Ht']
  · isplitl [Hr]; · iexact Hr
    isplitl [Hx]; · iexact Hx
    isplitl [Ho]; · iexact Ho
    isplitl [HO]; · iexact HO
    isplitl [Ht] <;> iassumption
  iexact Hk

/-- Passing block `b` of the result on to another device. -/
theorem go_pass (c dv b : Dev 8) {src dst : Memref sig .tc .hbm (Sb n w) e} {sS sem : SemLoc sig}
    (ks kr : Fin 15) (hb : src = S.blkM b) (hd : dst = S.blkM b) (hS : sS = .dma (S.sem ks)) (hR : sem = .dma (S.sem kr)) (hks : flip (peerOf ks) c = c)
    (hdv : dv = flip (peerOf kr) c) (O : Finset (Fin 15)) (hkr : kr ∈ O)
    (h₁ : S.got m c b ⊢ S.pay m c ks) (h₂ : S.got m (flip (peerOf kr) c) b ⊢ S.pay m (flip (peerOf kr) c) kr)
    {hsc : dst.view.ref.isScScratch = false} {hw : src.view.WordExact} {hw' : dst.view.WordExact}
    {hs : DmaTarget.Typed (nD := 8) (τ := τ) (p := .tc) .hbm sem (.remote (dv.tc (τ := τ)) dst sS hsc)}
    {k : PUnit → Prog (TpuEff 8 τ sig Val Λ .tc) PUnit} {Q : PUnit → sProp 𝕄} :
    iprop((S.plan m).recs ∗ S.got m c b ∗ S.free (flip (peerOf kr) c) b ∗ (S.plan m).owing c O ∗ (S.plan m).tok c ks ∗ (S.plan m).tok c kr)
      ⊢ iprop((iprop((S.plan m).credit c ks ∗ (S.plan m).owing c (O.erase kr)) -∗ wp frame (wpE D Variants.none c.tc none) Set.univ (k ⟨⟩) Q)
          -∗ wp frame (wpE D Variants.none c.tc none) Set.univ
              (.op (.enqueueDma src (.remote (dv.tc (τ := τ)) dst sS hsc) sem hw hw' hs) k) Q) := by
  subst hb hd hS hR hdv
  have hg : (S.got m c b : sProp 𝕄) = holds c (S.blkM b) (S.inp m b) := rfl
  rw [hg] at h₁ ⊢
  unfold holds free room
  iintro ⟨Hr, ⟨%f, %hf, Hx⟩, ⟨%f', Ho⟩, HO, Ht, Ht'⟩
  iintro Hk
  iapply ((S.plan m).step_send (src := S.blkM b) (dst := S.blkM b) (dv := flip (peerOf kr) c) (hsc := hsc) (hsrc := hw) (hdst := hw') (hsem := hs) (k := k) (Q := Q)
    (q := fullShare) (fs := f) (fd := f') (defs := D) Variants.none c ks kr rfl rfl hks rfl (S.amt_o _) O hkr ((holds_intro c (S.blkM b) _ _ hf).trans h₁)
    ((holds_intro (flip (peerOf kr) c) (S.blkM b) _ _ ((View.read_write_univ _ _).trans hf)).trans h₂)) $$ [Hr Hx Ho HO Ht Ht']
  · isplitl [Hr]; · iexact Hr
    isplitl [Hx]; · iexact Hx
    isplitl [Ho]; · iexact Ho
    isplitl [HO]; · iexact HO
    isplitl [Ht] <;> iassumption
  iexact Hk

/-- Waiting. -/
theorem go_wait (c : Dev 8) {src dst : Memref sig .tc .hbm (Sb n w) e}
    (kw : Fin 15) (P : sProp 𝕄) (hP : S.pay m c kw ⊢ P) (hN : dst.view.dmaCredit = S.amt) (O : Finset (Fin 15)) (hlev : ∀ j ∈ O, lev kw < lev j)
    {hw : src.view.WordExact} {hw' : dst.view.WordExact}
    {k : PUnit → Prog (TpuEff 8 τ sig Val Λ .tc) PUnit} {Q : PUnit → sProp 𝕄} :
    iprop((S.plan m).recs ∗ levAts Plan.L (S.plan m).lv ∗ (S.plan m).credit c kw ∗ (S.plan m).owing c O ∗ (S.plan m).fresh c kw)
      ⊢ iprop((iprop(P ∗ (S.plan m).owing c O ∗ (S.plan m).done c kw) -∗ wp frame (wpE D Variants.none c.tc none) Set.univ (k ⟨⟩) Q)
          -∗ wp frame (wpE D Variants.none c.tc none) Set.univ (.op (.waitDma2 (S.sem kw) src dst hw hw') k) Q) := by
  iintro H
  iintro Hk
  iapply ((S.plan m).step_wait (src := src) (dst := dst) (hsrc := hw) (hdst := hw') (k := k) (Q := Q) (defs := D) Variants.none c kw rfl hN O hlev) $$ H
  iintro ⟨HP, Hrest⟩
  iapply Hk
  isplitl [HP]
  · iapply (show (S.plan m).pay c kw ⊢ P from hP); iexact HP
  iexact Hrest

/-! ## The run of the body -/

theorem bigSep15 {M : Type} [URA M] (Φ : Fin 15 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  (bigSep_univ_eq_bigSepL [0, 1, 2, 3, 4, 5, 6, 7, 8, 9, 10, 11, 12, 13, 14] (by decide) (by decide) Φ)

theorem bigSepRecvs {M : Type} [URA M] (Φ : Fin 15 → sProp M) : bigSep recvs Φ = iprop(Φ 7 ∗ Φ 8 ∗ Φ 9 ∗ Φ 10 ∗ Φ 11 ∗ Φ 12 ∗ Φ 13) := by
  unfold recvs
  rw [BI.bigSep_insert (by decide), BI.bigSep_insert (by decide), BI.bigSep_insert (by decide), BI.bigSep_insert (by decide), BI.bigSep_insert (by decide), BI.bigSep_insert (by decide), BI.bigSep_singleton]
  rfl

theorem bigSep4 {M : Type} [URA M] (Φ : Fin 4 → sProp M) : bigSep Finset.univ Φ = iprop(Φ 0 ∗ Φ 1 ∗ Φ 2 ∗ Φ 3) :=
  (bigSep_univ_eq_bigSepL [0, 1, 2, 3] (by decide) (by decide) Φ)

/-- The blocks device `c` is to write: its own, its own on the four devices it sends to, and on its sibling the three it passes on. -/
def dest (c : Dev 8) : sProp 𝕄 :=
  iprop(S.free (flip 1 c) c ∗ S.free (flip 4 c) c ∗ S.free (flip 2 c) c ∗ S.free (flip 6 c) c ∗ S.free (flip 1 c) (flip 4 c) ∗ S.free (flip 1 c) (flip 2 c)
    ∗ S.free (flip 1 c) (flip 6 c) ∗ S.free c c)

/-- The blocks of device `c`'s own result at the end. -/
def full (c : Dev 8) : sProp 𝕄 :=
  iprop(S.got m c c ∗ S.got m c (flip 1 c) ∗ S.got m c (flip 4 c) ∗ S.got m c (flip 2 c) ∗ S.got m c (flip 6 c) ∗ S.got m c (flip 5 c) ∗ S.got m c (flip 3 c) ∗ S.got m c (flip 7 c))

/-! ## The all-gather as an opening -/

/-- Which block of which device's result is the `j`-th that a device writes. -/
def holder (j : Fin 8) : Fin 8 := ![1, 4, 2, 6, 1, 1, 1, 0] j
def block (j : Fin 8) : Fin 8 := ![0, 0, 0, 0, 4, 2, 6, 0] j

theorem place_injective : Function.Injective fun cj : Dev 8 × Fin 8 => ((flip (holder cj.2) cj.1, flip (block cj.2) cj.1) : Dev 8 × Dev 8) := by
  unfold Function.Injective; decide +kernel

/-- Every block of every device's result is written by exactly one device. -/
def place : Dev 8 × Fin 8 ≃ Dev 8 × Dev 8 :=
  Equiv.ofBijective _ ((Fintype.bijective_iff_injective_and_card _).mpr ⟨place_injective, rfl⟩)

theorem dest_eq (c : Dev 8) : (bigSep Finset.univ fun j : Fin 8 => (S.free (flip (holder j) c) (flip (block j) c) : sProp 𝕄)) = S.dest c := by
  rw [bigSep_univ_eq_bigSepL [0, 1, 2, 3, 4, 5, 6, 7] (by decide) (by decide)]
  unfold dest
  show iprop(S.free (flip 1 c) (flip 0 c) ∗ S.free (flip 4 c) (flip 0 c) ∗ S.free (flip 2 c) (flip 0 c) ∗ S.free (flip 6 c) (flip 0 c)
    ∗ S.free (flip 1 c) (flip 4 c) ∗ S.free (flip 1 c) (flip 2 c) ∗ S.free (flip 1 c) (flip 6 c) ∗ S.free (flip 0 c) (flip 0 c)) = _
  rw [flip_zero]

/-- The results of all devices, dealt to the devices that write them. -/
theorem deal_blocks : (bigSep Finset.univ fun c : Dev 8 => (room c S.o : sProp 𝕄)) ⊢ bigSep Finset.univ fun c : Dev 8 => S.dest c := by
  refine Entails.trans (bigSep_mono fun d _ => room_split S.hsq d S.o) (Entails.of_eq ?_)
  show (bigSep Finset.univ fun d : Dev 8 => bigSep Finset.univ fun b : Dev 8 => S.free d b) = _
  rw [← bigSep_univ_prod fun db : Dev 8 × Dev 8 => S.free db.1 db.2, bigSep_univ_equiv place, bigSep_univ_prod]
  exact bigSep_congr fun c _ => S.dest_eq c

/-- The blocks of a device's own result, put together. -/
theorem full_join (c : Dev 8) : (S.full m c : sProp 𝕄) ⊢ holds c S.o (S.res m) := by
  refine Entails.trans (Entails.of_eq ?_) (holds_join S.hsq c S.o (m (S.o.view.loc (c.tc : Thread 8 τ))) (S.inp m))
  rw [bigSep_univ_equiv (flipEquiv c) fun b => holds c (blk S.hsq S.o b) (S.inp m b),
    bigSep_univ_eq_bigSepL [0, 1, 4, 2, 6, 5, 3, 7] (by decide) (by decide)]
  unfold full
  show _ = iprop(S.got m c (flip 0 c) ∗ S.got m c (flip 1 c) ∗ S.got m c (flip 4 c) ∗ S.got m c (flip 2 c)
    ∗ S.got m c (flip 6 c) ∗ S.got m c (flip 5 c) ∗ S.got m c (flip 3 c) ∗ S.got m c (flip 7 c))
  rw [flip_zero]

/-- The all-gather of what the devices start with. -/
def opening : Opening τ sig Val (Fin 15) where
  plan := S.plan m
  arg c := S.inpPts m c fullShare
  space c := room c S.o
  part c := S.dest c
  leave c := iprop(S.inpPts m c fullShare ∗ holds c S.o (S.res m))
  deal := S.deal_blocks

variable {m D}

theorem Names.Right.own {S : Spr sig n w e} {N : S.Names τ} {c : Dev 8} (hN : N.Right c) : N.os 0 = S.blkM c :=
  (hN.os 0).trans (by rw [show dist 0 = 0 from rfl, flip_zero])

theorem Names.Right.amt {S : Spr sig n w e} {N : S.Names τ} {c : Dev 8} (hN : N.Right c) (k : Fin 8) : (N.os k).view.dmaCredit = S.amt := by
  rw [hN.os]; exact S.amt_o _

variable (m D)

set_option maxHeartbeats 800000 in
/-- The kernel, as it is spelled, runs. -/
theorem body_run (N : S.Names τ) (c : Dev 8) (hN : N.Right c) : (S.opening m).BodyRuns c D Variants.none (gathers N) := fun Q => by
  have hsh := (S.inp_shares m c).1
  have hst : (S.plan m).start c = iprop((bigSep Finset.univ fun k => (S.plan m).fresh c k) ∗ (bigSep Finset.univ fun k => (S.plan m).tok c k) ∗ bigSep recvs fun k => (S.plan m).credit c k) := rfl
  rw [bigSep4] at hsh
  show iprop(iprop((S.plan m).recs ∗ levAts Plan.L (S.plan m).lv ∗ (S.plan m).start c ∗ S.inpPts m c fullShare ∗ S.dest c) ∗ (S.plan m).owing c recvs) ⊢ _
  rw [hst, bigSep15, bigSep15, bigSep15, bigSepRecvs]
  unfold dest
  iintro ⟨⟨#Hr, #Hl, ⟨⟨F0, F1, F2, F3, F4, F5, F6, F7, F8, F9, F10, F11, F12, F13, F14⟩, ⟨T0, T1, T2, T3, T4, T5, T6, T7, T8, T9, T10, T11, T12, T13, T14⟩, ⟨C7, C8, C9, C10, C11, C12, C13⟩⟩, Hx, ⟨D0, D1, D2, D3, D4, D5, D6, D7⟩⟩, HO⟩
  iintro Hk
  ihave Hx := hsh $$ Hx
  icases Hx with ⟨Xr, X0, X1, X2, X3⟩
  iapply (S.go_local m D c hN.own) $$ [Xr D7 T14]
  · isplitr; · iexact Hr
    isplitl [Xr]; · iexact Xr
    isplitl [D7]; · iexact D7
    iexact T14
  iintro C14
  iapply (S.go_first m D c _ (shr 0) 0 7 hN.own rfl rfl (flip_zero c) (hN.dv 0) (recvs) (by decide)
      .rfl (Entails.of_eq (congrArg (S.got m (flip 1 c)) (by clear hsh hst hN; revert c; decide)))) $$ [X0 D0 HO T0 T7]
  · isplitr; · iexact Hr
    isplitl [X0]; · iexact X0
    isplitl [D0]; · iexact D0
    isplitl [HO]; · iexact HO
    isplitl [T0]; · iexact T0
    iexact T7
  iintro ⟨C0, HO⟩
  iapply (S.go_first m D c _ (shr 1) 1 8 hN.own rfl rfl (flip_zero c) (hN.dv 1) (recvs.erase 7) (by decide)
      .rfl (Entails.of_eq (congrArg (S.got m (flip 4 c)) (by clear hsh hst hN; revert c; decide)))) $$ [X1 D1 HO T1 T8]
  · isplitr; · iexact Hr
    isplitl [X1]; · iexact X1
    isplitl [D1]; · iexact D1
    isplitl [HO]; · iexact HO
    isplitl [T1]; · iexact T1
    iexact T8
  iintro ⟨C1, HO⟩
  iapply (S.go_first m D c _ (shr 2) 2 9 hN.own rfl rfl (flip_zero c) (hN.dv 2) ((recvs.erase 7).erase 8) (by decide)
      .rfl (Entails.of_eq (congrArg (S.got m (flip 2 c)) (by clear hsh hst hN; revert c; decide)))) $$ [X2 D2 HO T2 T9]
  · isplitr; · iexact Hr
    isplitl [X2]; · iexact X2
    isplitl [D2]; · iexact D2
    isplitl [HO]; · iexact HO
    isplitl [T2]; · iexact T2
    iexact T9
  iintro ⟨C2, HO⟩
  iapply (S.go_first m D c _ (shr 3) 3 10 hN.own rfl rfl (flip_zero c) (hN.dv 3) (((recvs.erase 7).erase 8).erase 9) (by decide)
      .rfl (Entails.of_eq (congrArg (S.got m (flip 6 c)) (by clear hsh hst hN; revert c; decide)))) $$ [X3 D3 HO T3 T10]
  · isplitr; · iexact Hr
    isplitl [X3]; · iexact X3
    isplitl [D3]; · iexact D3
    isplitl [HO]; · iexact HO
    isplitl [T3]; · iexact T3
    iexact T10
  iintro ⟨C3, HO⟩
  iapply (S.go_wait m D c 8 (S.got m c (flip 4 c)) .rfl (hN.amt 1) ((((recvs.erase 7).erase 8).erase 9).erase 10) (by decide)) $$ [C8 HO F8]
  · isplitr; · iexact Hr
    isplitr; · iexact Hl
    isplitl [C8]; · iexact C8
    isplitl [HO]; · iexact HO
    iexact F8
  iintro ⟨P8, HO, F8⟩
  iapply (S.go_pass m D c _ (flip 4 c) 4 11 (hN.os 1) (hN.os 1) rfl rfl (flip_zero c) (hN.dv 4) ((((recvs.erase 7).erase 8).erase 9).erase 10) (by decide)
      .rfl (Entails.of_eq (congrArg (S.got m (flip 1 c)) (by clear hsh hst hN; revert c; decide)))) $$ [P8 D4 HO T4 T11]
  · isplitr; · iexact Hr
    isplitl [P8]; · iexact P8
    isplitl [D4]; · iexact D4
    isplitl [HO]; · iexact HO
    isplitl [T4]; · iexact T4
    iexact T11
  iintro ⟨C4, HO⟩
  iapply (S.go_wait m D c 9 (S.got m c (flip 2 c)) .rfl (hN.amt 2) (((((recvs.erase 7).erase 8).erase 9).erase 10).erase 11) (by decide)) $$ [C9 HO F9]
  · isplitr; · iexact Hr
    isplitr; · iexact Hl
    isplitl [C9]; · iexact C9
    isplitl [HO]; · iexact HO
    iexact F9
  iintro ⟨P9, HO, F9⟩
  iapply (S.go_pass m D c _ (flip 2 c) 5 12 (hN.os 2) (hN.os 2) rfl rfl (flip_zero c) (hN.dv 5) (((((recvs.erase 7).erase 8).erase 9).erase 10).erase 11) (by decide)
      .rfl (Entails.of_eq (congrArg (S.got m (flip 1 c)) (by clear hsh hst hN; revert c; decide)))) $$ [P9 D5 HO T5 T12]
  · isplitr; · iexact Hr
    isplitl [P9]; · iexact P9
    isplitl [D5]; · iexact D5
    isplitl [HO]; · iexact HO
    isplitl [T5]; · iexact T5
    iexact T12
  iintro ⟨C5, HO⟩
  iapply (S.go_wait m D c 10 (S.got m c (flip 6 c)) .rfl (hN.amt 3) ((((((recvs.erase 7).erase 8).erase 9).erase 10).erase 11).erase 12) (by decide)) $$ [C10 HO F10]
  · isplitr; · iexact Hr
    isplitr; · iexact Hl
    isplitl [C10]; · iexact C10
    isplitl [HO]; · iexact HO
    iexact F10
  iintro ⟨P10, HO, F10⟩
  iapply (S.go_pass m D c _ (flip 6 c) 6 13 (hN.os 3) (hN.os 3) rfl rfl (flip_zero c) (hN.dv 6) ((((((recvs.erase 7).erase 8).erase 9).erase 10).erase 11).erase 12) (by decide)
      .rfl (Entails.of_eq (congrArg (S.got m (flip 1 c)) (by clear hsh hst hN; revert c; decide)))) $$ [P10 D6 HO T6 T13]
  · isplitr; · iexact Hr
    isplitl [P10]; · iexact P10
    isplitl [D6]; · iexact D6
    isplitl [HO]; · iexact HO
    isplitl [T6]; · iexact T6
    iexact T13
  iintro ⟨C6, HO⟩
  iapply (S.go_wait m D c 7 (S.got m c (flip 1 c)) .rfl (hN.amt 4) (((((((recvs.erase 7).erase 8).erase 9).erase 10).erase 11).erase 12).erase 13) (by decide)) $$ [C7 HO F7]
  · isplitr; · iexact Hr
    isplitr; · iexact Hl
    isplitl [C7]; · iexact C7
    isplitl [HO]; · iexact HO
    iexact F7
  iintro ⟨P7, HO, F7⟩
  iapply (S.go_wait m D c 11 (S.got m c (flip 5 c)) .rfl (hN.amt 5) (((((((recvs.erase 7).erase 8).erase 9).erase 10).erase 11).erase 12).erase 13) (by decide)) $$ [C11 HO F11]
  · isplitr; · iexact Hr
    isplitr; · iexact Hl
    isplitl [C11]; · iexact C11
    isplitl [HO]; · iexact HO
    iexact F11
  iintro ⟨P11, HO, F11⟩
  iapply (S.go_wait m D c 12 (S.got m c (flip 3 c)) .rfl (hN.amt 6) (((((((recvs.erase 7).erase 8).erase 9).erase 10).erase 11).erase 12).erase 13) (by decide)) $$ [C12 HO F12]
  · isplitr; · iexact Hr
    isplitr; · iexact Hl
    isplitl [C12]; · iexact C12
    isplitl [HO]; · iexact HO
    iexact F12
  iintro ⟨P12, HO, F12⟩
  iapply (S.go_wait m D c 13 (S.got m c (flip 7 c)) .rfl (hN.amt 7) (((((((recvs.erase 7).erase 8).erase 9).erase 10).erase 11).erase 12).erase 13) (by decide)) $$ [C13 HO F13]
  · isplitr; · iexact Hr
    isplitr; · iexact Hl
    isplitl [C13]; · iexact C13
    isplitl [HO]; · iexact HO
    iexact F13
  iintro ⟨P13, HO, F13⟩
  iapply (S.go_wait m D c 0 (S.inpPts m c (shr 0)) .rfl S.amt_x (((((((recvs.erase 7).erase 8).erase 9).erase 10).erase 11).erase 12).erase 13) (by decide)) $$ [C0 HO F0]
  · isplitr; · iexact Hr
    isplitr; · iexact Hl
    isplitl [C0]; · iexact C0
    isplitl [HO]; · iexact HO
    iexact F0
  iintro ⟨P0, HO, F0⟩
  iapply (S.go_wait m D c 1 (S.inpPts m c (shr 1)) .rfl S.amt_x (((((((recvs.erase 7).erase 8).erase 9).erase 10).erase 11).erase 12).erase 13) (by decide)) $$ [C1 HO F1]
  · isplitr; · iexact Hr
    isplitr; · iexact Hl
    isplitl [C1]; · iexact C1
    isplitl [HO]; · iexact HO
    iexact F1
  iintro ⟨P1, HO, F1⟩
  iapply (S.go_wait m D c 2 (S.inpPts m c (shr 2)) .rfl S.amt_x (((((((recvs.erase 7).erase 8).erase 9).erase 10).erase 11).erase 12).erase 13) (by decide)) $$ [C2 HO F2]
  · isplitr; · iexact Hr
    isplitr; · iexact Hl
    isplitl [C2]; · iexact C2
    isplitl [HO]; · iexact HO
    iexact F2
  iintro ⟨P2, HO, F2⟩
  iapply (S.go_wait m D c 3 (S.inpPts m c (shr 3)) .rfl S.amt_x (((((((recvs.erase 7).erase 8).erase 9).erase 10).erase 11).erase 12).erase 13) (by decide)) $$ [C3 HO F3]
  · isplitr; · iexact Hr
    isplitr; · iexact Hl
    isplitl [C3]; · iexact C3
    isplitl [HO]; · iexact HO
    iexact F3
  iintro ⟨P3, HO, F3⟩
  iapply (S.go_wait m D c 4 (S.got m c (flip 4 c)) .rfl (hN.amt 1) (((((((recvs.erase 7).erase 8).erase 9).erase 10).erase 11).erase 12).erase 13) (by decide)) $$ [C4 HO F4]
  · isplitr; · iexact Hr
    isplitr; · iexact Hl
    isplitl [C4]; · iexact C4
    isplitl [HO]; · iexact HO
    iexact F4
  iintro ⟨P4, HO, F4⟩
  iapply (S.go_wait m D c 5 (S.got m c (flip 2 c)) .rfl (hN.amt 2) (((((((recvs.erase 7).erase 8).erase 9).erase 10).erase 11).erase 12).erase 13) (by decide)) $$ [C5 HO F5]
  · isplitr; · iexact Hr
    isplitr; · iexact Hl
    isplitl [C5]; · iexact C5
    isplitl [HO]; · iexact HO
    iexact F5
  iintro ⟨P5, HO, F5⟩
  iapply (S.go_wait m D c 6 (S.got m c (flip 6 c)) .rfl (hN.amt 3) (((((((recvs.erase 7).erase 8).erase 9).erase 10).erase 11).erase 12).erase 13) (by decide)) $$ [C6 HO F6]
  · isplitr; · iexact Hr
    isplitr; · iexact Hl
    isplitl [C6]; · iexact C6
    isplitl [HO]; · iexact HO
    iexact F6
  iintro ⟨P6, HO, F6⟩
  iapply (S.go_wait m D c 14 (iprop(S.got m c c ∗ S.inpPts m c shrRest)) .rfl (hN.amt 0) (((((((recvs.erase 7).erase 8).erase 9).erase 10).erase 11).erase 12).erase 13) (by decide)) $$ [C14 HO F14]
  · isplitr; · iexact Hr
    isplitr; · iexact Hl
    isplitl [C14]; · iexact C14
    isplitl [HO]; · iexact HO
    iexact F14
  iintro ⟨P14, HO, F14⟩
  rw [wp_ret]
  imod ((S.plan m).close_all c) $$ [F0 F1 F2 F3 F4 F5 F6 F7 F8 F9 F10 F11 F12 F13 F14] with HZ
  · isplitr; · iexact Hr
    rw [bigSep15]
    isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [F8]; · iexact F8
    isplitl [F9]; · iexact F9
    isplitl [F10]; · iexact F10
    isplitl [F11]; · iexact F11
    isplitl [F12]; · iexact F12
    isplitl [F13]; · iexact F13
    iexact F14
  imodintro
  iapply Hk
  rw [show (S.opening m).leave c = iprop(S.inpPts m c fullShare ∗ holds c S.o (S.res m)) from rfl]
  icases P14 with ⟨P14, Xr⟩
  isplitl [Xr P0 P1 P2 P3 P14 P7 P4 P5 P6 P11 P12 P13]
  · isplitl [Xr P0 P1 P2 P3]
    · iapply (S.inp_shares m c).2
      rw [bigSep4]
      isplitl [Xr]; · iexact Xr
      isplitl [P0]; · iexact P0
      isplitl [P1]; · iexact P1
      isplitl [P2]; · iexact P2
      iexact P3
    iapply (S.full_join m c)
    unfold full
    isplitl [P14]; · iexact P14
    isplitl [P7]; · iexact P7
    isplitl [P4]; · iexact P4
    isplitl [P5]; · iexact P5
    isplitl [P6]; · iexact P6
    isplitl [P11]; · iexact P11
    isplitl [P12]; · iexact P12
    iexact P13
  isplitl [HO]; · iexact HO
  ihave HZ := (Entails.of_eq (bigSep15 fun k => semVal ((S.plan m).cell (c, k)) 0)) $$ HZ
  iexact HZ

end Spr

end Cert.Talk

end
-- ==== Proof.GatherProgram.lean ====
/-
# The all-gather for any number of rows

The program that gathers the blocks of `n` rows of all devices: its buffers, the names its kernel uses, and the
kernel. A device copies its own block into its result, sends it to its sibling and to the three devices of its own
core number on the other chips, and passes the three blocks that it receives from those on to its sibling. The
all-gathers of the layers are this program at their numbers of rows.
-/
module

public import proofs.«01_k».proof.Proof.Gen.GatherIdeal
public import proofs.«01_k».proof.Proof.Gen.GatherIdeal.Launch
public import proofs.«01_k».proof.Proof.SpreadBody
public import Idealize.ShloMosaic.Lib.Sig

@[expose] public section

set_option Elab.async false

noncomputable section

namespace Cert.Spread

open Idealize.ShloMosaic Idealize.ShloMosaic.TcCoe Idealize.SL.Sem
open Idealize.ShloMosaic.RefSig (ofTc tcTables tileCredit tileCredit_eq_zero tileCredit_pos)
open Cert.GatherIdeal (nBuf bufScoped semScoped dmaSemScoped τ)
open Cert.Talk

/-! ## The program -/

/-- The buffers of an all-gather of blocks of `n` rows. -/
abbrev bufTy (n : ℕ) : (tb : Table) → Fin (tcTables nBuf tb) → BufTy
  | .hbm, ⟨0, _⟩ => ⟨Sb n 512, .bf16⟩
  | .hbm, ⟨1, _⟩ => ⟨S8 n 512, .bf16⟩
  | _, _ => ⟨Sb n 512, .bf16⟩

abbrev sig (n : ℕ) : RefSig :=
  ofTc nBuf (bufTy n) 0 15 bufScoped semScoped dmaSemScoped tileCredit tileCredit_eq_zero tileCredit_pos

/-- The own block, and the blocks of all devices. -/
abbrev src (n : ℕ) : Ref (sig n) .tc := ⟨.hbm, 0, rfl⟩
abbrev out (n : ℕ) : Ref (sig n) .tc := ⟨.hbm, 1, rfl⟩
abbrev srcM (n : ℕ) : Memref (sig n) .tc .hbm (Sb n 512) .bf16 := Memref.whole (src n)
abbrev outM (n : ℕ) : Memref (sig n) .tc .hbm (S8 n 512) .bf16 := Memref.whole (out n)

abbrev win (n : ℕ) : Fin 0 → Pipeline.Window (sig n) .none := Fin.elim0

/-- The label of the kernel. -/
abbrev Λ₀ (n : ℕ) : Labels := ⟨Fin 1, fun
  | 0 => Fin (Pipeline.Grid.none).N × ((v : Fin 0) → Fin (win n v).nbuf)
  | ⟨_ + 1, h⟩ => absurd h (Nat.not_lt.2 (Nat.le_add_left _ _)), fun _ => PUnit⟩

abbrev cfg (n : ℕ) : Pipeline.Cfg (sig n) (Λ₀ n) where
  grid := .none
  W := 0
  win := win n
  body := 0
  bodyArgs t s := (t, s)

abbrev cfgs (n : ℕ) : Fin 1 → Pipeline.Cfg (sig n) (Λ₀ n) := fun _ => cfg n

/-- What the run takes of the sizes. -/
structure Fits (n : ℕ) : Prop where
  hsq : (S1' n 512).Squeezes (Sb n 512)
  words : ∀ b : Dev 8, (blkRect n 512 b).WholeWords (EltTy.packing .bf16)
  amt_pos : 0 < tileCredit (Sb n 512) .bf16
  layout : Pipeline.WinFacts (cfg n).spec
  sems : Pipeline.OwnSemFacts (cfg n).spec (fun k : Fin 15 => (.dma k : SemLoc (sig n)))
  listed : (Finset.univ.filter fun b : Ref (sig n) .tc => ¬ b.isScoped) = [src n, out n].toFinset
  distinct : [src n, out n].Nodup
  scopedSems : ∀ s : SemLoc (sig n), s.isScoped .tc = true
  cells : Function.Injective (Pipeline.cellOf (nD := 8) (τ := τ) (cfgs n))

variable {n : ℕ} (W : Fits n) {F : FTy → Type} [FloatOps F]

abbrev pcfgs (n : ℕ) : Fin 1 → Pipeline.PCfg (sig n) (Λ₀ n) (Elt F) := fun p => (cfgs n p).toPCfg

/-- The one kernel. -/
def main (n : ℕ) : Dev 8 → Prog (TpuEff 8 τ (sig n) (Elt F) (Pipeline.Sig (Λ₀ n) (Fin 1) fun p => (pcfgs (F := F) n p).Adm) .tc) PUnit := fun _ =>
  .op (.customCall (Pipeline.entry 0) ()) fun _ => .ret PUnit.unit

/-! ## The names -/

open Cert.GatherIdeal Cert.GatherIdeal.Gen

/-- The offsets the kernel computes. -/
def off (c : Dev 8) : Fin 8 → Fin 3 → ℕ :=
  ![k0_off1 c, k0_off2 c, k0_off3 c, k0_off4 c, k0_off5 c, k0_off6 c, k0_off7 c, k0_off8 c]

/-- The peers it computes. -/
def dev (c : Dev 8) : Fin 7 → Dev 8 :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]

theorem off_eq (c : Dev 8) (k : Fin 8) : off c k = ![(flip (Spr.dist k) c).val, 0, 0] := by
  unfold off
  rw [k0_off1_eq, k0_off2_eq, k0_off3_eq, k0_off4_eq, k0_off5_eq, k0_off6_eq, k0_off7_eq, k0_off8_eq]
  revert c k; decide +kernel

theorem dev_eq (c : Dev 8) (k : Fin 7) : dev c k = flip (Spr.step k) c := by
  have h : (dev c k).val = (flip (Spr.step k) c).val := by
    have : (dev c k).val = (![k0_dev1 c, k0_dev2 c, k0_dev3 c, k0_dev4 c, k0_dev5 c, k0_dev6 c, k0_dev7 c] : Fin 7 → ℕ) k := by fin_cases k <;> rfl
    rw [this, k0_dev1_eq, k0_dev2_eq, k0_dev3_eq, k0_dev4_eq, k0_dev5_eq, k0_dev6_eq, k0_dev7_eq]
    revert c k; decide +kernel
  exact Fin.ext h

theorem off_inb (n : ℕ) (c : Dev 8) (k : Fin 8) : ∀ a, off c k a + (S1' n 512).size a ≤ (S8 n 512).size a := by
  rw [off_eq]; exact blk_inb n 512 _

/-- A block is whole words when the block at the kernel's offset is. -/
theorem words_of (n : ℕ) (h : ∀ c : Dev 8, ∀ a, k0_off1 c a + (S1' n 512).size a ≤ (S8 n 512).size a)
    (hw : ∀ c, (Rect.unit (s := S8 n 512) (k0_off1 c) (S1' n 512).size (h c)).WholeWords (EltTy.packing .bf16)) (b : Dev 8) :
    (blkRect n 512 b).WholeWords (EltTy.packing .bf16) := by
  have e : ∀ (o : Fin 3 → ℕ) (ho : ∀ a, o a + (S1' n 512).size a ≤ (S8 n 512).size a), o = ![b.val, 0, 0] →
      (Rect.unit (s := S8 n 512) o (S1' n 512).size ho).WholeWords (EltTy.packing .bf16) → (blkRect n 512 b).WholeWords (EltTy.packing .bf16) := by
    rintro o ho rfl h; exact h
  exact e _ (h b) ((off_eq b 0).trans (by rw [show Spr.dist 0 = 0 from rfl, flip_zero])) (hw b)

/-- The all-gather of the own blocks. -/
def S : Spr (sig n) n 512 .bf16 where
  x := srcM n
  o := outM n
  hsq := W.hsq
  sem k := k
  sem_inj _ _ h := h
  amt := tileCredit (Sb n 512) .bf16
  amt_pos := W.amt_pos
  amt_x := rfl
  amt_o _ := rfl

/-- The block of the result at the kernel's `k`-th offset. -/
def named (c : Dev 8) (k : Fin 8) : Memref (sig n) .tc .hbm (Sb n 512) .bf16 :=
  ((outM n).slice (Rect.unit (s := S8 n 512) (off c k) (S1' n 512).size (off_inb n c k)) (fun _ => rfl)).squeeze (Sb n 512) W.hsq

theorem named_eq (c : Dev 8) (k : Fin 8) : named W c k = (S W).blkM (flip (Spr.dist k) c) :=
  slice_eq W.hsq (outM n) (flip (Spr.dist k) c) (off c k) (off_inb n c k) (off_eq c k)

theorem word_named (c : Dev 8) (k : Fin 8) : (named W c k).view.WordExact := by
  rw [named_eq]
  exact ((Memref.isWhole_whole (out n)).wordExact_slice rfl _ (W.words _)).reshape _ _

/-- The names the kernel uses on device `c`. -/
def names (c : Dev 8) : (S W).Names τ where
  os := named W c
  dv := dev c
  wx := (Memref.isWhole_whole (src n)).wordExact
  wo := word_named W c
  sc _ := rfl
  tl := ⟨Or.inl rfl, trivial⟩
  tr _ _ _ _ := ⟨⟨rfl, Or.inl rfl⟩, trivial⟩

theorem names_right (c : Dev 8) : (names W c).Right c := ⟨named_eq W c, dev_eq c⟩

/-- What is asked of the kernel: it gathers what a memory has on the devices. -/
abbrev BodyRuns (m : (ℓ : Loc 8 τ (sig n)) → Buf (Elt F) ℓ) (D : Defs 8 τ (sig n) (Elt F) (Λ₀ n)) (c : Dev 8)
    (b : Prog (TpuEff 8 τ (sig n) (Elt F) (Λ₀ n) .tc) PUnit) : Prop := ((S W).opening m).BodyRuns c D Variants.none b

/-- The all-gather, as the kernel spells it, runs. -/
theorem body_run (m : (ℓ : Loc 8 τ (sig n)) → Buf (Elt F) ℓ) (D : Defs 8 τ (sig n) (Elt F) (Λ₀ n)) (c : Dev 8) :
    BodyRuns W m D c (Spr.gathers (names W c)) := (S W).body_run m D (names W c) c (names_right W c)

end Cert.Spread

end
-- ==== Proof.GatherRun.lean ====
/-
# The run of the all-gather

The launch of the whole program: every device is dealt the blocks it is to write, and ends with its input as it was
and the array of all blocks.
-/
module

public import proofs.«01_k».proof.Proof.GatherProgram
public import proofs.«01_k».proof.Proof.Deal

@[expose] public section

set_option Elab.async false

noncomputable section

namespace Cert.Spread

open Idealize.ShloMosaic Idealize.ShloMosaic.TcCoe
open Idealize.SL Idealize.SL.RA
open Idealize.SL.BI (sProp bigSep bigSepL bigSep_sep' bigSep_mono bigSep_congr bigSep_univ_eq_bigSepL bigSep_univ_prod bigSep_univ_equiv)
open scoped Idealize.SL.BI
open Idealize.SL.BI.BIBase Idealize.SL.BI.Laws Idealize.SL.ProofMode Idealize.SL.Sem
open Idealize.ShloMosaic.Rounds Idealize.ShloMosaic.Pipeline
open Cert.GatherIdeal (τ)
open Cert.Talk

variable {n : ℕ} (W : Fits n) {F : FTy → Type} [FloatOps F]

local notation "𝕄" => MT 8 τ (sig n) Unit (Elt F) ℕ (Gho 8 τ (sig n)) ℕ

variable (m : (ℓ : Loc 8 τ (sig n)) → Buf (Elt F) ℓ) (g : Dev 8 → PrngReg)

/-- What every device ends with. -/
def res : (S8 n 512).Idx → Elt F .bf16 := glue fun b : Dev 8 => m ((b.tc : Thread 8 τ).loc (src n))

/-- A device's input, and its result, whole. -/
abbrev inPts (d : Dev 8) : sProp 𝕄 := (d.tc : Thread 8 τ).loc (src n) ↦{fullShare} m ((d.tc : Thread 8 τ).loc (src n))
abbrev outPts (d : Dev 8) (f : (S8 n 512).Idx → Elt F .bf16) : sProp 𝕄 := (d.tc : Thread 8 τ).loc (out n) ↦{fullShare} f

theorem inPts_eq (d : Dev 8) : (inPts m d : sProp 𝕄) = (S W).inpPts m d fullShare :=
  congrArg (fun Z => ((d.tc : Thread 8 τ).loc (src n) ↦[Z]{fullShare} m ((d.tc : Thread 8 τ).loc (src n)) : sProp 𝕄)) (View.set_whole (src n)).symm

theorem room_out (d : Dev 8) (f : (S8 n 512).Idx → Elt F .bf16) : (outPts d f : sProp 𝕄) ⊢ room d (S W).o := by
  have e : (outM n).view.set = Finset.univ := View.set_whole (out n)
  show _ ⊢ room d (outM n)
  unfold room
  rw [e]
  iintro H; iexists f; iexact H

theorem holds_out (d : Dev 8) (f : (S8 n 512).Idx → Elt F .bf16) : (holds d (S W).o f : sProp 𝕄) = outPts d f :=
  owns_whole (d.tc : Thread 8 τ) (out n) fullShare f

/-! ## The launch -/

abbrev adm (n : ℕ) (F : FTy → Type) [FloatOps F] : (p : Fin 1) → (pcfgs (F := F) n p).Adm := fun p => (cfgs n p).toPCfg_adm

/-- The proof data of the one region. -/
def dats (p : Fin 1) (c : Dev 8) : Dat τ (Elt F) Unit ℕ (Gho 8 τ (sig n)) ℕ (pin (pcfgs (F := F) n) (adm n F) p) c :=
  ((S W).opening m).data (cfg n) rfl c

theorem ownSemFacts : OwnSemFacts (cfg n).spec ((S W).opening (τ := τ) m).plan.osem := W.sems

theorem bufs (c : Dev 8) : (unscopedBufs c (fun b => m ((c.tc : Thread 8 τ).loc b)) : sProp 𝕄)
    ⊢ iprop((S W).inpPts m c fullShare ∗ room c (S W).o ∗ BI.emp) := by
  have h : (unscopedBufs c (fun b => m ((c.tc : Thread 8 τ).loc b)) : sProp 𝕄) = iprop(inPts m c ∗ outPts c (m ((c.tc : Thread 8 τ).loc (out n)))) := by
    unfold unscopedBufs
    exact BI.bigSep_eq_bigSepL_of_eq [src n, out n] W.listed W.distinct _
  rw [h, inPts_eq W]
  iintro ⟨Hx, Ho⟩
  isplitl [Hx]; · iexact Hx
  isplitl [Ho]
  · iapply (room_out W c (m ((c.tc : Thread 8 τ).loc (out n)))); iexact Ho
  iempintro

theorem none_held (p : Fin 1) (c : Dev 8) : (prefHeld (pcfgs (F := F) n p).pre c (fun _ => fullShare) (adm n F p).1 : sProp 𝕄) = BI.emp :=
  (congrArg (fun Z => bigSep Z _) (Finset.univ_eq_empty (α := Fin 0))).trans BI.bigSep_empty

/-- What a device ends with. -/
def post (c : Dev 8) : sProp 𝕄 := iprop(inPts m c ∗ outPts c (res m))

variable {D : Defs 8 τ (sig n) (Elt F) (Λ₀ n)}
variable (B : ∀ (c : Dev 8) (t : Fin (cfg n).N), BodyRuns W m D c (D .tc (cfg n).body ((cfg n).bodyArgs t ((cfg n).slots t))))

theorem tail (c : Dev 8) : Opening.goes ((S W).opening m) (pcfgs (F := F) n) (adm n F) 0 (fun _ => BI.emp) c
    ⊢ wp frame (wpE (Pipeline.defs (pcfgs (F := F) n) D) (Variants.lift Variants.none) (c.tc : Thread 8 τ) none) Set.univ (.ret PUnit.unit)
      fun _ => iprop(iprop(post m c ∗ boundary (c.tc : Thread 8 τ)) ∗ ∃ O, owes (c.tc : Thread 8 τ) (0 : CellTallies 8 τ (sig n) Unit) O) := by
  unfold Opening.goes
  rw [show ((S W).opening m).leave c = iprop((S W).inpPts m c fullShare ∗ holds c (S W).o (res m)) from rfl, holds_out, ← inPts_eq]
  iintro ⟨Hb, ⟨Hx, Ho⟩, -, HO, -, -⟩
  rw [wp_ret]; imodintro
  isplitr [HO]
  · isplitr [Hb]
    · unfold post
      isplitl [Hx] <;> iassumption
    iexact Hb
  iexact HO

/-- What the run shows of a device's memory. -/
def shown (c : Dev 8) (s : MemSt 8 τ (sig n) (Elt F)) : Prop :=
  s.mem ((c.tc : Thread 8 τ).loc (src n)) = m ((c.tc : Thread 8 τ).loc (src n)) ∧ s.mem ((c.tc : Thread 8 τ).loc (out n)) = res m

theorem read_off (c : Dev 8) (s : Phys 8 τ (sig n) (Elt F)) : iprop(post m c ∗ SI s) ⊢ (|={Set.univ}=> iprop(⌜shown m c s.mem⌝ ∗ SI s) : sProp 𝕄) := by
  unfold post
  iintro ⟨⟨Hx, Hf⟩, HS⟩
  ihave %h₁ := (SI_pointsTo_agree) $$ [HS Hx]
  · isplitl [HS]; · iexact HS
    iexact Hx
  ihave %h₂ := (SI_pointsTo_agree) $$ [HS Hf]
  · isplitl [HS]; · iexact HS
    iexact Hf
  imodintro
  isplitr
  · ipureintro
    exact ⟨funext fun i => h₁ i (Finset.mem_univ i), funext fun i => h₂ i (Finset.mem_univ i)⟩
  iexact HS

include B in
/-- The run of the whole program: on every device the input stays and the result is the array of all inputs. -/
theorem run_main : θ_run (Pipeline.defs (pcfgs (F := F) n) D) (onTc (main (F := F) n)) ⟨m, fun _ => 0, g⟩ (fun r => (∀ c, shown m c r.2) ∧ r.2.sem = fun _ => 0) :=
  Opening.run_opening ((S W).opening m) m (pcfgs (F := F) n) (adm n F) (dats W m) W.cells D g 0 rfl W.layout.to₀ (ownSemFacts W m) (fun _ => BI.emp) (bufs W m)
    Cert.GatherIdeal.Gen.N_0 (none_held 0) (fun _ => rfl) (fun v => v.elim0) B (main n) _ (fun _ => rfl) (post m) (tail W m) (shown m) (read_off m)
    (fun s h hs => ⟨h, sem_eq_zero_of_scoped W.scopedSems hs⟩)

end Cert.Spread

end
-- ==== Proof.Rows.lean ====
/-
# An array cut into blocks of rows

Stacking the eight blocks of rows of an array on a new leading axis is the array's reshape.
-/
module

public import Idealize.ShloMosaic.Lib.Layout
public import Idealize.ShloMosaic.Lib.Pipeline.Value

@[expose] public section

noncomputable section

namespace Cert.Talk

open Idealize.ShloMosaic

/-- Element `ix` of the reshape to blocks of `n` rows is element `(ix 1, ix 2)` of block `ix 0`. -/
theorem reshape_blocks {n w N : ℕ} {α : Type} (v : (⟨2, ![N, w]⟩ : Shape).Idx → α)
    (ht : Layout.Tiles ⟨2, ![n, w]⟩ ⟨2, ![N, w]⟩ 0 8) (hc : (⟨2, ![N, w]⟩ : Shape).ShapeCasts ⟨3, ![8, n, w]⟩) (ix : (⟨3, ![8, n, w]⟩ : Shape).Idx) :
    shapeCast ⟨3, ![8, n, w]⟩ v hc ix = Layout.block ⟨2, ![n, w]⟩ ⟨2, ![N, w]⟩ 0 8 (ix 0) v ht (fun a => ix a.succ) := by
  refine shapeCast_apply v hc ix _ ?_
  rw [Shape.rowMajor_val_two, Shape.rowMajor_val_three]
  show ((ix 0).val * n + (ix 1).val) * w + (ix 2).val = ((ix 0).val * n + (ix 1).val) * w + (ix 2).val
  rfl

end Cert.Talk

end
-- ==== Proof.GatherValue.lean ====
/-
# The all-gather: what its run leaves, as the claims say it

Of the run of the general program, over any float values: it keeps its argument and its counters, and every device
ends with the whole array in eight blocks.
-/
module

public import proofs.«01_k».proof.Proof.GatherRun
public import proofs.«01_k».proof.Proof.Rows

@[expose] public section

set_option Elab.async false

noncomputable section

namespace Cert.Spread

open Idealize.ShloMosaic Idealize.ShloMosaic.TcCoe Idealize.SL.Sem
open Cert.GatherIdeal (τ)
open Cert.Talk

variable {n : ℕ} (W : Fits n) {F : FTy → Type} [FloatOps F] {D : Defs 8 τ (sig n) (Elt F) (Λ₀ n)}

/-- What the run takes of the kernel. -/
abbrev Body (D : Defs 8 τ (sig n) (Elt F) (Λ₀ n)) : Prop := ∀ (m : (ℓ : Loc 8 τ (sig n)) → Buf (Elt F) ℓ) (c : Dev 8) (t : Fin (cfg n).N),
  BodyRuns W m D c (D .tc (cfg n).body ((cfg n).bodyArgs t ((cfg n).slots t)))

variable (B : Body W D) (m : (ℓ : Loc 8 τ (sig n)) → Buf (Elt F) ℓ) (g : Dev 8 → PrngReg)

include B in
/-- The run leaves its argument and its counters as they were. -/
theorem keeps : θ_run (Pipeline.defs (pcfgs (F := F) n) D) (onTc (main (F := F) n)) ⟨m, fun _ => 0, g⟩
    (fun r => (∀ c : Dev 8, r.2.mem ((c.tc : Thread 8 τ).loc (src n)) = m ((c.tc : Thread 8 τ).loc (src n))) ∧ r.2.sem = fun _ => 0) :=
  (θ_run _ _ _).mono (fun _ h => ⟨fun c => (h.1 c).1, h.2⟩) (run_main W m g (B m))

/-- What every device ends with is the reshape of the whole array. -/
theorem res_eq {N : ℕ} (v : (⟨2, ![N, 512]⟩ : Shape).Idx → Elt F .bf16) (ht : Layout.Tiles ⟨2, ![n, 512]⟩ ⟨2, ![N, 512]⟩ 0 8)
    (hc : (⟨2, ![N, 512]⟩ : Shape).ShapeCasts ⟨3, ![8, n, 512]⟩)
    (h : ∀ c : Dev 8, m ((c.tc : Thread 8 τ).loc (src n)) = Layout.block ⟨2, ![n, 512]⟩ ⟨2, ![N, 512]⟩ 0 8 c v ht) :
    res m = shapeCast ⟨3, ![8, n, 512]⟩ v hc := by
  funext ix
  refine Eq.trans ?_ (reshape_blocks v ht hc ix).symm
  exact congrFun (h (ix 0)) _

include B in
/-- Every device ends with the reshape of the whole array. -/
theorem spreads {N : ℕ} (v : (⟨2, ![N, 512]⟩ : Shape).Idx → Elt F .bf16) (ht : Layout.Tiles ⟨2, ![n, 512]⟩ ⟨2, ![N, 512]⟩ 0 8)
    (hc : (⟨2, ![N, 512]⟩ : Shape).ShapeCasts ⟨3, ![8, n, 512]⟩)
    (h : ∀ c : Dev 8, m ((c.tc : Thread 8 τ).loc (src n)) = Layout.block ⟨2, ![n, 512]⟩ ⟨2, ![N, 512]⟩ 0 8 c v ht) :
    θ_run (Pipeline.defs (pcfgs (F := F) n) D) (onTc (main (F := F) n)) ⟨m, fun _ => 0, g⟩ (fun r => ∀ c : Dev 8,
      r.2.mem ((c.tc : Thread 8 τ).loc (out n)) = shapeCast ⟨3, ![8, n, 512]⟩ v hc
      ∧ r.2.mem ((c.tc : Thread 8 τ).loc (src n)) = m ((c.tc : Thread 8 τ).loc (src n))) :=
  (θ_run _ _ _).mono (fun _ hr c => ⟨(hr.1 c).2.trans (res_eq m v ht hc h), (hr.1 c).1⟩) (run_main W m g (B m))

end Cert.Spread

end
-- ==== Proof.Gather0.lean ====
/-
# The all-gather of 13824 rows

The program of the first and the last layer is the general one at 13824 rows.
-/
module

public import proofs.«01_k».proof.Proof.GatherValue
public import proofs.«01_k».proof.Proof.Gen.GatherIdeal.Skeleton
public import proofs.«01_k».proof.Proof.Gen.GatherIdeal.Points
public import proofs.«01_k».proof.Proof.Gen.GatherIdeal.Launch

@[expose] public section

set_option Elab.async false

noncomputable section

namespace Cert.GatherIdeal.Run

open Idealize.ShloMosaic Idealize.ShloMosaic.TcCoe Idealize.SL.Sem
open Cert.GatherIdeal.Gen Cert.Talk

theorem fits : Spread.Fits 13824 where
  hsq := squeezes_S1x13824x512_S13824x512
  words := Spread.words_of 13824 k0_off1_inb k0_off1_wordsbf16
  amt_pos := by decide
  layout := winFacts0
  sems := by decide
  listed := by decide
  distinct := by decide
  scopedSems := by decide
  cells := cellOf_inj

variable {F : FTy → Type} [FloatOps F]

/-- The kernel runs the gather. -/
theorem body_runs (m : (ℓ : Loc nD τ sig) → Buf (Elt F) ℓ) (c : Dev nD) :
    Spread.BodyRuns fits m (defs₀ (F := F)) c
      (cc0_layer0_gather (Memref.whole main_arg0) (Memref.isWhole_whole _) (Memref.whole main_v1) (Memref.isWhole_whole _) cc0_scratch0 cc0_scratch1 cc0_scratch2) := fun Q => by
  have h := Spread.body_run fits m (defs₀ (F := F)) c Q
  simp only [cc0_layer0_gather_eq_skeleton]; unfold cc0_layer0_gather_skel
  simp only [k0_part10_eq_skeleton]; unfold k0_part10_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  exact h

theorem body : Spread.Body fits (defs₀ (F := F)) := fun m c t => body_runs m c

end Cert.GatherIdeal.Run

end
-- ==== Proof.Gather1.lean ====
/-
# The all-gather of 11264 rows

The program of the second layer is the general one at 11264 rows.
-/
module

public import proofs.«01_k».proof.Proof.GatherValue
public import proofs.«01_k».proof.Proof.Gen.Gather1Ideal.Skeleton
public import proofs.«01_k».proof.Proof.Gen.Gather1Ideal.Points
public import proofs.«01_k».proof.Proof.Gen.Gather1Ideal.Launch

@[expose] public section

set_option Elab.async false

noncomputable section

namespace Cert.Gather1Ideal.Run

open Idealize.ShloMosaic Idealize.ShloMosaic.TcCoe Idealize.SL.Sem
open Cert.Gather1Ideal.Gen Cert.Talk

theorem fits : Spread.Fits 11264 where
  hsq := squeezes_S1x11264x512_S11264x512
  words := Spread.words_of 11264 k0_off1_inb k0_off1_wordsbf16
  amt_pos := by decide
  layout := winFacts0
  sems := by decide
  listed := by decide
  distinct := by decide
  scopedSems := by decide
  cells := cellOf_inj

variable {F : FTy → Type} [FloatOps F]

/-- The kernel runs the gather. -/
theorem body_runs (m : (ℓ : Loc nD τ sig) → Buf (Elt F) ℓ) (c : Dev nD) :
    Spread.BodyRuns fits m (defs₀ (F := F)) c
      (cc0_layer1_gather (Memref.whole main_arg0) (Memref.isWhole_whole _) (Memref.whole main_v1) (Memref.isWhole_whole _) cc0_scratch0 cc0_scratch1 cc0_scratch2) := fun Q => by
  have h := Spread.body_run fits m (defs₀ (F := F)) c Q
  simp only [cc0_layer1_gather_eq_skeleton]; unfold cc0_layer1_gather_skel
  simp only [k0_part10_eq_skeleton]; unfold k0_part10_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  exact h

theorem body : Spread.Body fits (defs₀ (F := F)) := fun m c t => body_runs m c

end Cert.Gather1Ideal.Run

end
-- ==== Proof.Gather2.lean ====
/-
# The all-gather of 12800 rows

The program of the third layer is the general one at 12800 rows.
-/
module

public import proofs.«01_k».proof.Proof.GatherValue
public import proofs.«01_k».proof.Proof.Gen.Gather2Ideal.Skeleton
public import proofs.«01_k».proof.Proof.Gen.Gather2Ideal.Points
public import proofs.«01_k».proof.Proof.Gen.Gather2Ideal.Launch

@[expose] public section

set_option Elab.async false

noncomputable section

namespace Cert.Gather2Ideal.Run

open Idealize.ShloMosaic Idealize.ShloMosaic.TcCoe Idealize.SL.Sem
open Cert.Gather2Ideal.Gen Cert.Talk

theorem fits : Spread.Fits 12800 where
  hsq := squeezes_S1x12800x512_S12800x512
  words := Spread.words_of 12800 k0_off1_inb k0_off1_wordsbf16
  amt_pos := by decide
  layout := winFacts0
  sems := by decide
  listed := by decide
  distinct := by decide
  scopedSems := by decide
  cells := cellOf_inj

variable {F : FTy → Type} [FloatOps F]

/-- The kernel runs the gather. -/
theorem body_runs (m : (ℓ : Loc nD τ sig) → Buf (Elt F) ℓ) (c : Dev nD) :
    Spread.BodyRuns fits m (defs₀ (F := F)) c
      (cc0_layer2_gather (Memref.whole main_arg0) (Memref.isWhole_whole _) (Memref.whole main_v1) (Memref.isWhole_whole _) cc0_scratch0 cc0_scratch1 cc0_scratch2) := fun Q => by
  have h := Spread.body_run fits m (defs₀ (F := F)) c Q
  simp only [cc0_layer2_gather_eq_skeleton]; unfold cc0_layer2_gather_skel
  simp only [k0_part10_eq_skeleton]; unfold k0_part10_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  exact h

theorem body : Spread.Body fits (defs₀ (F := F)) := fun m c t => body_runs m c

end Cert.Gather2Ideal.Run

end
-- ==== Proof.Exchange.lean ====
/-
# The exchange of blocks

Every device holds an array of eight blocks, one for each device, and sends each block to the device it is for.
The sends, one to each of the seven other devices, are all started before the first wait; the own block is copied
locally. This module states the exchange as a conversation for any number of rows, says what a device holds while
sending and while waiting, and proves one step of each kind. A kernel's run is then one step per transfer and wait.
-/
module

public import proofs.«01_k».proof.Proof.Blocks

@[expose] public section

set_option Elab.async false

noncomputable section

namespace Cert.Talk

open Idealize.ShloMosaic Idealize.ShloMosaic.TcCoe
open Idealize.SL Idealize.SL.RA
open Idealize.SL.BI (sProp bigSep bigSepL bigSep_sep' bigSep_mono bigSep_congr bigSep_univ_prod bigSep_univ_equiv bigSep_univ_eq_bigSepL)
open scoped Idealize.SL.BI
open Idealize.SL.BI.BIBase Idealize.SL.BI.Laws Idealize.SL.ProofMode Idealize.SL.Sem

/-! ## One member of a family -/

theorem bigSep_in {M : Type*} [URA M] {I : Type*} [DecidableEq I] {s : Finset I} {i : I} (h : i ∉ s) {Φ : I → sProp M} :
    bigSep (insert i s) Φ = iprop(Φ i ∗ bigSep s Φ) := BI.bigSep_insert h

theorem bigSep_out {M : Type*} [URA M] {I : Type*} [DecidableEq I] {s : Finset I} {i : I} (h : i ∈ s) {Φ : I → sProp M} :
    bigSep s Φ = iprop(Φ i ∗ bigSep (s.erase i) Φ) := BI.bigSep_erase h

theorem bigSep_swap {M : Type*} [URA M] {I J : Type*} [Fintype I] [Fintype J] (Φ : I → J → sProp M) :
    (bigSep Finset.univ fun i => bigSep Finset.univ fun j => Φ i j) = bigSep Finset.univ fun j => bigSep Finset.univ fun i => Φ i j :=
  (bigSep_univ_prod fun ij : I × J => Φ ij.1 ij.2).symm.trans
    ((bigSep_univ_equiv (Equiv.prodComm J I) fun ij : I × J => Φ ij.1 ij.2).trans (bigSep_univ_prod fun ji : J × I => Φ ji.2 ji.1))

/-! ## Waiting in any order -/

namespace Plan

variable {nD : Nat} {τ : Topo} {sig : RefSig} {Val : EltTy → Type}

local notation "𝕄" => MT nD τ sig Unit Val ℕ (Gho nD τ sig) ℕ

variable {K : Type} [Fintype K] [DecidableEq K] (T : Plan nD τ sig Val K)

/-- Device `c` has still to wait for the semaphores `R`, and owes nothing. -/
def waiting (c : Dev nD) (R : Finset K) : sProp 𝕄 :=
  iprop(T.recs ∗ levAts L T.lv ∗ T.owing c ∅ ∗ (bigSep R fun k => iprop(T.credit c k ∗ T.fresh c k)) ∗ bigSep Rᶜ fun k => iprop(T.pay c k ∗ T.done c k))

theorem compl_erase (R : Finset K) (k : K) (hk : k ∈ R) : (R.erase k)ᶜ = insert k Rᶜ := by
  ext j; simp only [Finset.mem_compl, Finset.mem_erase, Finset.mem_insert]; tauto

theorem notMem_compl (R : Finset K) (k : K) (hk : k ∈ R) : k ∉ Rᶜ := fun h => (Finset.mem_compl.mp h) hk

/-- One wait. -/
theorem go_wait {Λ : Labels} {defs : Defs nD τ sig Val Λ} (𝒱 : Variants) (c : Dev nD)
    {sp sp' : Space} {s s' : Shape} {e e' : EltTy} {α : Type} {sem : DmaSem sig}
    {src : Memref sig (c.tc (τ := τ)).2.kind sp' s' e'} {κd : Kind} {dst : Memref sig κd sp s e}
    {hsrc : src.view.WordExact} {hdst : dst.view.WordExact}
    {k : PUnit → Prog (TpuEff nD τ sig Val Λ (c.tc (τ := τ)).2) α} {Q : α → sProp 𝕄} (R : Finset K)
    (kw : K) (hS : SemLoc.dma sem = T.osem kw) (hN : dst.view.dmaCredit = T.amt) (hk : kw ∈ R) :
    T.waiting c R
      ⊢ iprop((T.waiting c (R.erase kw) -∗ wp frame (wpE defs 𝒱 c.tc none) Set.univ (k ⟨⟩) Q)
          -∗ wp frame (wpE defs 𝒱 c.tc none) Set.univ (.op (.waitDma2 sem src dst hsrc hdst) k) Q) := by
  unfold waiting
  rw [bigSep_out hk, compl_erase R kw hk, bigSep_in (notMem_compl R kw hk)]
  iintro ⟨#Hr, #Hl, HO, ⟨⟨Hc, Hf⟩, HR⟩, HD⟩
  iintro Hk
  iapply (T.step_wait (src := src) (dst := dst) (hsrc := hsrc) (hdst := hdst) (k := k) (Q := Q) (defs := defs) 𝒱 c kw hS hN ∅ (fun j hj => absurd hj (Finset.notMem_empty j))) $$ [HO Hc Hf]
  · isplitr; · iexact Hr
    isplitr; · iexact Hl
    isplitl [Hc]; · iexact Hc
    isplitl [HO] <;> iassumption
  iintro ⟨Hp, HO, Hd⟩
  iapply Hk
  isplitr; · iexact Hr
  isplitr; · iexact Hl
  isplitl [HO]; · iexact HO
  isplitl [HR]; · iexact HR
  isplitl [Hp Hd]
  · isplitl [Hp] <;> iassumption
  iexact HD

/-- Before the first wait. -/
theorem waiting_start (c : Dev nD) :
    iprop(T.recs ∗ levAts L T.lv ∗ T.owing c ∅ ∗ (bigSep Finset.univ fun k => T.credit c k) ∗ bigSep Finset.univ fun k => T.fresh c k) ⊢ T.waiting c Finset.univ := by
  unfold waiting
  rw [Finset.compl_univ, BI.bigSep_empty, bigSep_sep']
  iintro ⟨Hr, Hl, HO, Hc, Hf⟩
  isplitl [Hr]; · iexact Hr
  isplitl [Hl]; · iexact Hl
  isplitl [HO]; · iexact HO
  isplitl [Hc Hf]
  · isplitl [Hc] <;> iassumption
  iempintro

/-- After the last. -/
theorem waiting_end (c : Dev nD) (R : Finset K) (hR : R = ∅) :
    T.waiting c R ⊢ (|={Set.univ}=> iprop(T.owing c ∅ ∗ (bigSep Finset.univ fun k => T.pay c k) ∗ bigSep Finset.univ fun k => semVal (T.cell (c, k)) 0) : sProp 𝕄) := by
  subst hR
  unfold waiting
  rw [Finset.compl_empty, BI.bigSep_empty, bigSep_sep']
  iintro ⟨#Hr, -, HO, -, HP, HD⟩
  imod (T.close_all c) $$ [HD] with HZ
  · isplitr; · iexact Hr
    iexact HD
  imodintro
  isplitl [HO]; · iexact HO
  isplitl [HP] <;> iassumption

end Plan

/-! ## The exchange as a conversation -/

/-- The semaphores of an exchange: for each of the seven other devices one for the own send to it and one for its
    send to oneself, and one for the local copy. -/
abbrev Sm : Type := Fin 7 ⊕ Fin 7 ⊕ Unit

/-- The change of bits from a device to the one whose semaphore it credits. -/
def dist : Sm → Fin 8
  | .inl _ => 0
  | .inr (.inl k) => k.succ
  | .inr (.inr _) => 0

/-- An exchange: the array `x` of blocks to send, the array `o` they are received in, the semaphores. -/
structure Exch (sig : RefSig) (n w : ℕ) (e : EltTy) where
  x : Memref sig .tc .hbm (S8 n w) e
  o : Memref sig .tc .hbm (S8 n w) e
  hsq : (S1' n w).Squeezes (Sb n w)
  sem : Sm → DmaSem sig
  sem_inj : Function.Injective sem
  amt : ℕ
  amt_pos : 0 < amt
  amt_x : ∀ b, (blk hsq x b).view.dmaCredit = amt
  amt_o : ∀ b, (blk hsq o b).view.dmaCredit = amt

namespace Exch

variable {τ : Topo} {sig : RefSig} {Val : EltTy → Type} {n w : ℕ} {e : EltTy}

local notation "𝕄" => MT 8 τ sig Unit Val ℕ (Gho 8 τ sig) ℕ

variable (E : Exch sig n w e) (X : Dev 8 → (S8 n w).Idx → Val e)

/-- What a device gets for its waits: the blocks it sent back, and the blocks sent to it. -/
def pay (c : Dev 8) : Sm → sProp 𝕄
  | .inl k => holds c (blk E.hsq E.x (flip k.succ c)) (row (flip k.succ c) (X c))
  | .inr (.inl k) => holds c (blk E.hsq E.o (flip k.succ c)) (row c (X (flip k.succ c)))
  | .inr (.inr _) => iprop(holds c (blk E.hsq E.o c) (row c (X c)) ∗ holds c (blk E.hsq E.x c) (row c (X c)))

/-- The conversation of an exchange of the values `X`. -/
def plan : Plan 8 τ sig Val Sm where
  osem k := .dma (E.sem k)
  inj k k' h := E.sem_inj (by injection h)
  peer k := flip (dist k)
  peer_peer k c := flip_flip _ _
  recv := Finset.univ.map ⟨fun k : Fin 7 => Sum.inr (Sum.inl k), fun _ _ h => Sum.inl.inj (Sum.inr.inj h)⟩
  amt := E.amt
  amt_pos := E.amt_pos
  level _ := 0
  pay := E.pay X
  storable c k := by
    rcases k with k | k | k <;> · unfold pay; infer_instance

/-- The semaphores of the sends from the devices `R` away. -/
def recvs (R : Finset (Fin 7)) : Finset Sm := R.map ⟨fun k : Fin 7 => Sum.inr (Sum.inl k), fun _ _ h => Sum.inl.inj (Sum.inr.inj h)⟩

theorem recvs_erase (R : Finset (Fin 7)) (k : Fin 7) : recvs (R.erase k) = (recvs R).erase (.inr (.inl k)) := Finset.map_erase _ _ _

theorem mem_recvs (R : Finset (Fin 7)) (k : Fin 7) (hk : k ∈ R) : (.inr (.inl k) : Sm) ∈ recvs R := Finset.mem_map_of_mem _ hk

/-- What device `c` needs for the send to its peer `k`. -/
def parcel (c : Dev 8) (k : Fin 7) : sProp 𝕄 :=
  iprop(holds c (blk E.hsq E.x (flip k.succ c)) (row (flip k.succ c) (X c)) ∗ room (flip k.succ c) (blk E.hsq E.o c)
    ∗ (E.plan X).tok c (.inl k) ∗ (E.plan X).tok c (.inr (.inl k)))

/-- Device `c` has still to start the sends `R`. -/
def sending (c : Dev 8) (R : Finset (Fin 7)) : sProp 𝕄 :=
  iprop((E.plan X).recs ∗ (E.plan (τ := τ) X).owing c (recvs R) ∗ (bigSep R fun k => E.parcel X c k) ∗ bigSep Rᶜ fun k => (E.plan X).credit c (.inl k))

variable {Λ : Labels} {defs : Defs 8 τ sig Val Λ} (𝒱 : Variants) (c : Dev 8)

/-- The local copy of the own block. -/
theorem go_local {α : Type} {src dst : Memref sig .tc .hbm (Sb n w) e} {sem : SemLoc sig}
    {hsrc : src.view.WordExact} {hdst : dst.view.WordExact} {hsem : DmaTarget.Typed (nD := 8) (τ := τ) (p := .tc) .hbm sem (.here dst)}
    {k : PUnit → Prog (TpuEff 8 τ sig Val Λ .tc) α} {Q : α → sProp 𝕄}
    (hs : src = blk E.hsq E.x c) (hd : dst = blk E.hsq E.o c) (hS : sem = .dma (E.sem (.inr (.inr ())))) :
    iprop((E.plan X).recs ∗ holds c (blk E.hsq E.x c) (row c (X c)) ∗ room c (blk E.hsq E.o c) ∗ (E.plan X).tok c (.inr (.inr ())))
      ⊢ iprop(((E.plan X).credit c (.inr (.inr ())) -∗ wp frame (wpE defs 𝒱 c.tc none) Set.univ (k ⟨⟩) Q)
          -∗ wp frame (wpE defs 𝒱 c.tc none) Set.univ (.op (.enqueueDma src (.here dst) sem hsrc hdst hsem) k) Q) := by
  subst hs hd hS
  unfold holds room
  iintro ⟨Hr, ⟨%f, %hf, Hx⟩, ⟨%g, Ho⟩, Ht⟩
  iintro Hk
  iapply ((E.plan X).step_copy (src := blk E.hsq E.x c) (dst := blk E.hsq E.o c) (hsrc := hsrc) (hdst := hdst) (hsem := hsem) (k := k) (Q := Q) (defs := defs)
    (q := fullShare) (fs := f) (fd := g) 𝒱 c (.inr (.inr ())) rfl (flip_zero c) (E.amt_o c) (by
      show _ ⊢ iprop(holds c (blk E.hsq E.o c) (row c (X c)) ∗ holds c (blk E.hsq E.x c) (row c (X c)))
      exact sep_mono (holds_intro c (blk E.hsq E.o c) _ _ ((View.read_write_univ _ _).trans hf)) (holds_intro c (blk E.hsq E.x c) _ _ hf))) $$ [Hr Hx Ho Ht]
  · isplitl [Hr]; · iexact Hr
    isplitl [Hx]; · iexact Hx
    isplitl [Ho] <;> iassumption
  iexact Hk

/-- One send. -/
theorem go_send {α : Type} {dv : Dev 8} {src dst : Memref sig .tc .hbm (Sb n w) e} {sS sem : SemLoc sig} {hsc : dst.view.ref.isScScratch = false}
    {hsrc : src.view.WordExact} {hdst : dst.view.WordExact}
    {hsem : DmaTarget.Typed (nD := 8) (τ := τ) (p := .tc) .hbm sem (.remote (dv.tc (τ := τ)) dst sS hsc)}
    {kk : PUnit → Prog (TpuEff 8 τ sig Val Λ .tc) α} {Q : α → sProp 𝕄} (R : Finset (Fin 7))
    (k : Fin 7) (hs : src = blk E.hsq E.x (flip k.succ c)) (hd : dst = blk E.hsq E.o c) (hdv : dv = flip k.succ c)
    (hS : sS = .dma (E.sem (.inl k))) (hR : sem = .dma (E.sem (.inr (.inl k)))) (hk : k ∈ R) :
    E.sending (τ := τ) X c R
      ⊢ iprop((E.sending (τ := τ) X c (R.erase k) -∗ wp frame (wpE defs 𝒱 c.tc none) Set.univ (kk ⟨⟩) Q)
          -∗ wp frame (wpE defs 𝒱 c.tc none) Set.univ (.op (.enqueueDma src (.remote (dv.tc (τ := τ)) dst sS hsc) sem hsrc hdst hsem) kk) Q) := by
  subst hs hd hdv hS hR
  unfold sending
  rw [bigSep_out hk, Plan.compl_erase R k hk, bigSep_in (Plan.notMem_compl R k hk), recvs_erase]
  unfold parcel holds room
  iintro ⟨#Hr, HO, ⟨⟨⟨%f, %hf, Hx⟩, ⟨%g, Ho⟩, Ht, Ht'⟩, HR⟩, HC⟩
  iintro Hk
  iapply ((E.plan X).step_send (src := blk E.hsq E.x (flip k.succ c)) (dst := blk E.hsq E.o c) (dv := flip k.succ c) (hsc := hsc) (hsrc := hsrc) (hdst := hdst) (hsem := hsem)
    (k := kk) (Q := Q) (defs := defs) (q := fullShare) (fs := f) (fd := g) 𝒱 c (.inl k) (.inr (.inl k)) rfl rfl (flip_zero c) rfl (E.amt_o c) (recvs R) (mem_recvs R k hk)
    (holds_intro c (blk E.hsq E.x (flip k.succ c)) _ _ hf)
    (by
      show _ ⊢ holds (flip k.succ c) (blk E.hsq E.o (flip k.succ (flip k.succ c))) (row (flip k.succ c) (X (flip k.succ (flip k.succ c))))
      rw [flip_flip]
      exact holds_intro (flip k.succ c) (blk E.hsq E.o c) _ _ ((View.read_write_univ _ _).trans hf))) $$ [Hx Ho HO Ht Ht']
  · isplitr; · iexact Hr
    isplitl [Hx]; · iexact Hx
    isplitl [Ho]; · iexact Ho
    isplitl [HO]; · iexact HO
    isplitl [Ht] <;> iassumption
  iintro ⟨Hc, HO⟩
  iapply Hk
  isplitr; · iexact Hr
  isplitl [HO]; · iexact HO
  isplitl [HR]; · iexact HR
  isplitl [Hc] <;> iassumption

/-! ## Before the first send and after the last wait -/

/-- The value of the received blocks on device `c`. -/
def got : (S8 n w).Idx → Val e := glue fun b => row c (X b)

/-- What a device starts an exchange with: its rights, its array, and its block of every device's receiving array. -/
def entry : sProp 𝕄 :=
  iprop((E.plan X).recs ∗ levAts Plan.L (E.plan (τ := τ) X).lv ∗ (E.plan X).start c ∗ holds c E.x (X c)
    ∗ bigSep Finset.univ fun k : Fin 8 => room (flip k c) (blk E.hsq E.o c))

/-- What it ends with. -/
def leave : sProp 𝕄 := iprop(holds c E.x (X c) ∗ holds c E.o (got X c))

theorem bigSep_eight (Φ : Fin 8 → sProp 𝕄) : bigSep Finset.univ Φ = iprop(Φ 0 ∗ bigSep Finset.univ fun k : Fin 7 => Φ k.succ) := by
  rw [bigSep_out (Finset.mem_univ (0 : Fin 8)), show (Finset.univ : Finset (Fin 8)).erase 0 = (Finset.univ : Finset (Fin 7)).map ⟨Fin.succ, Fin.succ_injective _⟩ by decide,
    BI.bigSep_map]
  rfl

theorem bigSep_sm (Φ : Sm → sProp 𝕄) : bigSep Finset.univ Φ
    = iprop((bigSep Finset.univ fun k : Fin 7 => Φ (.inl k)) ∗ (bigSep Finset.univ fun k : Fin 7 => Φ (.inr (.inl k))) ∗ Φ (.inr (.inr ()))) := by
  rw [BI.bigSep_univ_sum, BI.bigSep_univ_sum, show (Finset.univ : Finset Unit) = {()} from rfl, BI.bigSep_singleton]
  rfl

/-- What remains of the start beside the sends. -/
def aside : sProp 𝕄 :=
  iprop(levAts Plan.L (E.plan (τ := τ) X).lv ∗ (bigSep Finset.univ fun k => (E.plan X).fresh c k) ∗ bigSep Finset.univ fun k : Fin 7 => (E.plan X).credit c (.inr (.inl k)))

theorem begin_run : iprop(E.entry X c ∗ (E.plan (τ := τ) X).owing c (E.plan (τ := τ) X).recv)
    ⊢ iprop((E.plan X).recs ∗ (holds c (blk E.hsq E.x c) (row c (X c)) ∗ room c (blk E.hsq E.o c) ∗ (E.plan X).tok c (.inr (.inr ())))
      ∗ E.sending (τ := τ) X c Finset.univ ∗ E.aside X c) := by
  have hx : (holds c E.x (X c) : sProp 𝕄) ⊢ iprop(holds c (blk E.hsq E.x c) (row c (X c))
      ∗ bigSep Finset.univ fun k : Fin 7 => holds c (blk E.hsq E.x (flip k.succ c)) (row (flip k.succ c) (X c))) := by
    refine (holds_split E.hsq c E.x (X c)).trans (Entails.of_eq ?_)
    rw [bigSep_univ_equiv (flipEquiv c) fun b => holds c (blk E.hsq E.x b) (row b (X c)), bigSep_eight]
    show iprop(holds c (blk E.hsq E.x (flip 0 c)) (row (flip 0 c) (X c)) ∗ _) = _
    rw [flip_zero]; rfl
  have ho : (bigSep Finset.univ fun k : Fin 8 => (room (flip k c) (blk E.hsq E.o c) : sProp 𝕄)) ⊢ iprop(room c (blk E.hsq E.o c)
      ∗ bigSep Finset.univ fun k : Fin 7 => room (flip k.succ c) (blk E.hsq E.o c)) := by
    rw [bigSep_eight, flip_zero]
  have hp : (bigSep Finset.univ fun k : Fin 7 => (E.parcel X c k : sProp 𝕄)) = iprop((bigSep Finset.univ fun k : Fin 7 => holds c (blk E.hsq E.x (flip k.succ c)) (row (flip k.succ c) (X c)))
      ∗ (bigSep Finset.univ fun k : Fin 7 => room (flip k.succ c) (blk E.hsq E.o c)) ∗ (bigSep Finset.univ fun k : Fin 7 => (E.plan X).tok c (.inl k))
      ∗ bigSep Finset.univ fun k : Fin 7 => (E.plan X).tok c (.inr (.inl k))) := by
    unfold parcel; rw [bigSep_sep', bigSep_sep', bigSep_sep']
  have hc : (bigSep (E.plan (τ := τ) X).recv fun k => ((E.plan X).credit c k : sProp 𝕄)) = bigSep Finset.univ fun k : Fin 7 => (E.plan X).credit c (.inr (.inl k)) :=
    BI.bigSep_map _
  unfold entry sending aside Plan.start
  rw [hp, hc, Finset.compl_univ, BI.bigSep_empty, bigSep_sm fun k => (E.plan X).tok c k]
  iintro ⟨⟨#Hr, Hl, ⟨Hf, ⟨Ht, Ht', Ht''⟩, Hc⟩, Hx, Ho⟩, HO⟩
  ihave Hx := hx $$ Hx
  icases Hx with ⟨Hx, Hxs⟩
  ihave Ho := ho $$ Ho
  icases Ho with ⟨Ho, Hos⟩
  isplitr; · iexact Hr
  isplitl [Hx Ho Ht'']
  · isplitl [Hx]; · iexact Hx
    isplitl [Ho] <;> iassumption
  isplitl [HO Hxs Hos Ht Ht']
  · isplitr; · iexact Hr
    isplitl [HO]; · iexact HO
    isplitl [Hxs Hos Ht Ht']
    · isplitl [Hxs]; · iexact Hxs
      isplitl [Hos]; · iexact Hos
      isplitl [Ht] <;> iassumption
    iempintro
  isplitl [Hl]; · iexact Hl
  isplitl [Hf] <;> iassumption

theorem turn_run (R : Finset (Fin 7)) (hR : R = ∅) : iprop(E.sending (τ := τ) X c R ∗ E.aside X c ∗ (E.plan X).credit c (.inr (.inr ())))
    ⊢ (E.plan (τ := τ) X).waiting c Finset.univ := by
  subst hR
  refine Entails.trans ?_ ((E.plan X).waiting_start c)
  unfold sending aside
  rw [Finset.compl_empty, BI.bigSep_empty, bigSep_sm fun k => (E.plan X).credit c k, show recvs ∅ = ∅ from Finset.map_empty _]
  iintro ⟨⟨Hr, HO, -, Hs⟩, ⟨Hl, Hf, Hc⟩, Hc'⟩
  isplitl [Hr]; · iexact Hr
  isplitl [Hl]; · iexact Hl
  isplitl [HO]; · iexact HO
  isplitr [Hf]
  · isplitl [Hs]; · iexact Hs
    isplitl [Hc] <;> iassumption
  iexact Hf

theorem end_run (f₀ : Buf Val (E.x.view.loc (c.tc : Thread 8 τ))) (g₀ : Buf Val (E.o.view.loc (c.tc : Thread 8 τ))) (R : Finset Sm) (hR : R = ∅) :
    (E.plan (τ := τ) X).waiting c R
      ⊢ (|={Set.univ}=> iprop(E.leave X c ∗ (E.plan X).owing c ∅ ∗ bigSep Finset.univ fun k => semVal ((E.plan (τ := τ) X).cell (c, k)) 0) : sProp 𝕄) := by
  have hx : iprop(holds c (blk E.hsq E.x c) (row c (X c)) ∗ bigSep Finset.univ fun k : Fin 7 => holds c (blk E.hsq E.x (flip k.succ c)) (row (flip k.succ c) (X c)))
      ⊢ (holds c E.x (X c) : sProp 𝕄) := by
    have h := holds_join E.hsq c E.x f₀ fun b => row b (X c)
    rw [glue_row] at h
    refine Entails.trans (Entails.of_eq ?_) h
    rw [bigSep_univ_equiv (flipEquiv c) fun b => holds c (blk E.hsq E.x b) (row b (X c)), bigSep_eight]
    show _ = iprop(holds c (blk E.hsq E.x (flip 0 c)) (row (flip 0 c) (X c)) ∗ _)
    rw [flip_zero]; rfl
  have ho : iprop(holds c (blk E.hsq E.o c) (row c (X c)) ∗ bigSep Finset.univ fun k : Fin 7 => holds c (blk E.hsq E.o (flip k.succ c)) (row c (X (flip k.succ c))))
      ⊢ (holds c E.o (got X c) : sProp 𝕄) := by
    refine Entails.trans (Entails.of_eq ?_) (holds_join E.hsq c E.o g₀ fun b => row c (X b))
    rw [bigSep_univ_equiv (flipEquiv c) fun b => holds c (blk E.hsq E.o b) (row c (X b)), bigSep_eight]
    show _ = iprop(holds c (blk E.hsq E.o (flip 0 c)) (row c (X (flip 0 c))) ∗ _)
    rw [flip_zero]; rfl
  have hp : (bigSep Finset.univ fun k => ((E.plan X).pay c k : sProp 𝕄)) = iprop((bigSep Finset.univ fun k : Fin 7 => holds c (blk E.hsq E.x (flip k.succ c)) (row (flip k.succ c) (X c)))
      ∗ (bigSep Finset.univ fun k : Fin 7 => holds c (blk E.hsq E.o (flip k.succ c)) (row c (X (flip k.succ c))))
      ∗ holds c (blk E.hsq E.o c) (row c (X c)) ∗ holds c (blk E.hsq E.x c) (row c (X c))) := bigSep_sm fun k => (E.plan X).pay c k
  refine Entails.trans ((E.plan X).waiting_end c R hR) (BI.fupd_mono ?_)
  rw [hp]
  unfold leave
  iintro ⟨HO, ⟨Hxs, Hos, Ho, Hx⟩, HZ⟩
  isplitr [HO HZ]
  · isplitl [Hx Hxs]
    · iapply hx
      isplitl [Hx] <;> iassumption
    iapply ho
    isplitl [Ho] <;> iassumption
  isplitl [HO] <;> iassumption

/-! ## Dealing at the launch -/

/-- Every device's receiving array, dealt to the devices that write its blocks. -/
theorem deal_rooms : (bigSep Finset.univ fun d : Dev 8 => (room d E.o : sProp 𝕄))
    ⊢ bigSep Finset.univ fun c : Dev 8 => bigSep Finset.univ fun k : Fin 8 => room (flip k c) (blk E.hsq E.o c) := by
  refine Entails.trans (bigSep_mono fun d _ => room_split E.hsq d E.o) (Entails.of_eq ?_)
  rw [bigSep_swap]
  exact bigSep_congr fun c _ => bigSep_univ_equiv (flipEquiv c) fun d => room d (blk E.hsq E.o c)

end Exch

end Cert.Talk

end
-- ==== Proof.ExchangeBody.lean ====
/-
# The kernel of an exchange

The exchange as a program: a device copies its own block, sends seven blocks to the seven other devices, waits for
the seven blocks sent to it, for its own sends and for its copy. The theorem `exchange_runs` runs it once for every
size of the blocks.
-/
module

public import proofs.«01_k».proof.Proof.Exchange
public import proofs.«01_k».proof.Proof.Opening

@[expose] public section

set_option Elab.async false

noncomputable section

namespace Cert.Talk

open Idealize.ShloMosaic Idealize.ShloMosaic.TcCoe
open Idealize.SL Idealize.SL.RA
open Idealize.SL.BI (sProp bigSep bigSepL bigSep_sep' bigSep_mono bigSep_congr bigSep_univ_prod bigSep_univ_equiv bigSep_univ_eq_bigSepL)
open scoped Idealize.SL.BI
open Idealize.SL.BI.BIBase Idealize.SL.BI.Laws Idealize.SL.ProofMode Idealize.SL.Sem
open Idealize.ShloMosaic.Rounds Idealize.ShloMosaic.Pipeline

variable {τ : Topo} {sig : RefSig} {Val : EltTy → Type} {n w : ℕ} {e : EltTy}

local notation "𝕄" => MT 8 τ sig Unit Val ℕ (Gho 8 τ sig) ℕ

variable (E : Exch sig n w e)

namespace Exch

/-- What the devices hold in the array they send from, in a given memory. -/
def sent (m : (ℓ : Loc 8 τ sig) → Buf Val ℓ) (c : Dev 8) : (S8 n w).Idx → Val e := E.x.view.read Val (m (E.x.view.loc (c.tc : Thread 8 τ)))

/-- The exchange of the values `X`. -/
def opening (X : Dev 8 → (S8 n w).Idx → Val e) : Opening τ sig Val Sm where
  plan := E.plan X
  arg c := holds c E.x (X c)
  space c := room c E.o
  part c := bigSep Finset.univ fun k : Fin 8 => room (flip k c) (blk E.hsq E.o c)
  leave := E.leave X
  deal := E.deal_rooms

/-- The blocks a device's kernel names: of the array it sends from, of the array it receives in, and its peers. -/
structure Names where
  xs : Fin 8 → Memref sig .tc .hbm (Sb n w) e
  os : Fin 8 → Memref sig .tc .hbm (Sb n w) e
  dv : Fin 7 → Dev 8
  wx : ∀ k, (xs k).view.WordExact
  wo : ∀ k, (os k).view.WordExact
  sc : (os 0).view.ref.isScScratch = false
  tl : DmaTarget.Typed (nD := 8) (τ := τ) (p := .tc) .hbm (.dma (E.sem (.inr (.inr ())))) (.here (os 0))
  tr : ∀ k, DmaTarget.Typed (nD := 8) (τ := τ) (p := .tc) .hbm (.dma (E.sem (.inr (.inl k)))) (.remote ((dv k).tc (τ := τ)) (os 0) (.dma (E.sem (.inl k))) sc)

variable {E} {Λ : Labels} (N : E.Names (τ := τ))

/-- The send of the `k`-th block, and what comes after. -/
abbrev sendOne (k : Fin 7) (t : Prog (TpuEff 8 τ sig Val Λ .tc) PUnit) : Prog (TpuEff 8 τ sig Val Λ .tc) PUnit :=
  .op (.enqueueDma (N.xs k.succ) (.remote ((N.dv k).tc (τ := τ)) (N.os 0) (.dma (E.sem (.inl k))) N.sc) (.dma (E.sem (.inr (.inl k)))) (N.wx k.succ) (N.wo 0) (N.tr k)) fun _ => t

/-- The wait for the block sent by the `k`-th peer. -/
abbrev recvOne (k : Fin 7) (t : Prog (TpuEff 8 τ sig Val Λ .tc) PUnit) : Prog (TpuEff 8 τ sig Val Λ .tc) PUnit :=
  .op (.waitDma2 (E.sem (.inr (.inl k))) (N.xs k.succ) (N.os k.succ) (N.wx k.succ) (N.wo k.succ)) fun _ => t

/-- The wait for the own send to the `k`-th peer. -/
abbrev sentOne (k : Fin 7) (t : Prog (TpuEff 8 τ sig Val Λ .tc) PUnit) : Prog (TpuEff 8 τ sig Val Λ .tc) PUnit :=
  .op (.waitDma2 (E.sem (.inl k)) (N.os 0) (N.xs k.succ) (N.wo 0) (N.wx k.succ)) fun _ => t

/-- The exchange. -/
abbrev exchange : Prog (TpuEff 8 τ sig Val Λ .tc) PUnit :=
  .op (.enqueueDma (N.xs 0) (.here (N.os 0)) (.dma (E.sem (.inr (.inr ())))) (N.wx 0) (N.wo 0) N.tl) fun _ =>
  sendOne N 0 <| sendOne N 1 <| sendOne N 2 <| sendOne N 3 <| sendOne N 4 <| sendOne N 5 <| sendOne N 6 <|
  recvOne N 0 <| recvOne N 1 <| recvOne N 2 <| recvOne N 3 <| recvOne N 4 <| recvOne N 5 <| recvOne N 6 <|
  sentOne N 0 <| sentOne N 1 <| sentOne N 2 <| sentOne N 3 <| sentOne N 4 <| sentOne N 5 <| sentOne N 6 <|
  .op (.waitDma2 (E.sem (.inr (.inr ()))) (N.xs 0) (N.os 0) (N.wx 0) (N.wo 0)) fun _ => .ret PUnit.unit

variable (X : Dev 8 → (S8 n w).Idx → Val e) (c : Dev 8) (defs : Defs 8 τ sig Val Λ) (𝒱 : Variants)

/-- The names a kernel uses are those of the blocks by distance. -/
structure Names.Right : Prop where
  xs : ∀ k, N.xs k = blk E.hsq E.x (flip k c)
  os : ∀ k, N.os k = blk E.hsq E.o (flip k c)
  dv : ∀ k, N.dv k = flip k.succ c

variable {N} {c} (hN : N.Right c)

include hN

theorem Names.Right.xs0 : N.xs 0 = blk E.hsq E.x c := (hN.xs 0).trans (by rw [flip_zero])
theorem Names.Right.os0 : N.os 0 = blk E.hsq E.o c := (hN.os 0).trans (by rw [flip_zero])

theorem send_one (R : Finset (Fin 7)) (k : Fin 7) (hk : k ∈ R) (t : Prog (TpuEff 8 τ sig Val Λ .tc) PUnit) (Q : sProp 𝕄) :
    E.sending (τ := τ) X c R ⊢ iprop((E.sending (τ := τ) X c (R.erase k) -∗ wp frame (wpE defs 𝒱 c.tc none) Set.univ t fun _ => Q)
      -∗ wp frame (wpE defs 𝒱 c.tc none) Set.univ (sendOne N k t) fun _ => Q) :=
  go_send (τ := τ) (defs := defs) (kk := fun _ => t) (Q := fun _ => Q) E X 𝒱 c R k (hN.xs k.succ) hN.os0 (hN.dv k) rfl rfl hk

theorem amt_xs (k : Fin 8) : (N.xs k).view.dmaCredit = E.amt := by rw [hN.xs]; exact E.amt_x _
theorem amt_os (k : Fin 8) : (N.os k).view.dmaCredit = E.amt := by rw [hN.os]; exact E.amt_o _

theorem recv_one (R : Finset Sm) (k : Fin 7) (hk : (.inr (.inl k) : Sm) ∈ R) (t : Prog (TpuEff 8 τ sig Val Λ .tc) PUnit) (Q : sProp 𝕄) :
    (E.plan (τ := τ) X).waiting c R ⊢ iprop(((E.plan (τ := τ) X).waiting c (R.erase (.inr (.inl k))) -∗ wp frame (wpE defs 𝒱 c.tc none) Set.univ t fun _ => Q)
      -∗ wp frame (wpE defs 𝒱 c.tc none) Set.univ (recvOne N k t) fun _ => Q) :=
  Plan.go_wait (E.plan (τ := τ) X) (defs := defs) (k := fun _ => t) (Q := fun _ => Q) 𝒱 c R (.inr (.inl k)) rfl (amt_os hN k.succ) hk

theorem sent_one (R : Finset Sm) (k : Fin 7) (hk : (.inl k : Sm) ∈ R) (t : Prog (TpuEff 8 τ sig Val Λ .tc) PUnit) (Q : sProp 𝕄) :
    (E.plan (τ := τ) X).waiting c R ⊢ iprop(((E.plan (τ := τ) X).waiting c (R.erase (.inl k)) -∗ wp frame (wpE defs 𝒱 c.tc none) Set.univ t fun _ => Q)
      -∗ wp frame (wpE defs 𝒱 c.tc none) Set.univ (sentOne N k t) fun _ => Q) :=
  Plan.go_wait (E.plan (τ := τ) X) (defs := defs) (k := fun _ => t) (Q := fun _ => Q) 𝒱 c R (.inl k) rfl (amt_xs hN k.succ) hk

/-- The exchange runs, from the values `X` to the received blocks. -/
theorem exchange_runs (f₀ : Buf Val (E.x.view.loc (c.tc : Thread 8 τ))) (g₀ : Buf Val (E.o.view.loc (c.tc : Thread 8 τ))) :
    (E.opening X).BodyRuns c defs 𝒱 (exchange N) := fun Q => by
  have hb : iprop((E.opening X).entry c ∗ (E.opening (τ := τ) X).plan.owing c (E.opening (τ := τ) X).plan.recv) ⊢ _ := begin_run E X c
  iintro H
  iintro Hk
  ihave H := hb $$ H
  icases H with ⟨#Hr, ⟨Hx, Ho, Ht⟩, HS, HA⟩
  iapply (go_local E X 𝒱 c hN.xs0 hN.os0 rfl) $$ [Hx Ho Ht]
  · isplitr; · iexact Hr
    isplitl [Hx]; · iexact Hx
    isplitl [Ho] <;> iassumption
  iintro HC
  iapply (send_one X defs 𝒱 hN _ 0 (by decide) _ Q) $$ HS
  iintro HS
  iapply (send_one X defs 𝒱 hN _ 1 (by decide) _ Q) $$ HS
  iintro HS
  iapply (send_one X defs 𝒱 hN _ 2 (by decide) _ Q) $$ HS
  iintro HS
  iapply (send_one X defs 𝒱 hN _ 3 (by decide) _ Q) $$ HS
  iintro HS
  iapply (send_one X defs 𝒱 hN _ 4 (by decide) _ Q) $$ HS
  iintro HS
  iapply (send_one X defs 𝒱 hN _ 5 (by decide) _ Q) $$ HS
  iintro HS
  iapply (send_one X defs 𝒱 hN _ 6 (by decide) _ Q) $$ HS
  iintro HS
  ihave HW := (turn_run E X c (((((((Finset.univ.erase 0).erase 1).erase 2).erase 3).erase 4).erase 5).erase 6) (by decide)) $$ [HS HA HC]
  · isplitl [HS]; · iexact HS
    isplitl [HA] <;> iassumption
  iapply (recv_one X defs 𝒱 hN _ 0 (by decide) _ Q) $$ HW
  iintro HW
  iapply (recv_one X defs 𝒱 hN _ 1 (by decide) _ Q) $$ HW
  iintro HW
  iapply (recv_one X defs 𝒱 hN _ 2 (by decide) _ Q) $$ HW
  iintro HW
  iapply (recv_one X defs 𝒱 hN _ 3 (by decide) _ Q) $$ HW
  iintro HW
  iapply (recv_one X defs 𝒱 hN _ 4 (by decide) _ Q) $$ HW
  iintro HW
  iapply (recv_one X defs 𝒱 hN _ 5 (by decide) _ Q) $$ HW
  iintro HW
  iapply (recv_one X defs 𝒱 hN _ 6 (by decide) _ Q) $$ HW
  iintro HW
  iapply (sent_one X defs 𝒱 hN _ 0 (by decide) _ Q) $$ HW
  iintro HW
  iapply (sent_one X defs 𝒱 hN _ 1 (by decide) _ Q) $$ HW
  iintro HW
  iapply (sent_one X defs 𝒱 hN _ 2 (by decide) _ Q) $$ HW
  iintro HW
  iapply (sent_one X defs 𝒱 hN _ 3 (by decide) _ Q) $$ HW
  iintro HW
  iapply (sent_one X defs 𝒱 hN _ 4 (by decide) _ Q) $$ HW
  iintro HW
  iapply (sent_one X defs 𝒱 hN _ 5 (by decide) _ Q) $$ HW
  iintro HW
  iapply (sent_one X defs 𝒱 hN _ 6 (by decide) _ Q) $$ HW
  iintro HW
  iapply ((E.plan X).go_wait 𝒱 c _ (.inr (.inr ())) rfl (amt_os hN 0) (by decide)) $$ HW
  iintro HW
  rw [wp_ret]
  imod (end_run E X c f₀ g₀ _ (by decide)) $$ HW with H
  imodintro
  iapply Hk
  iexact H

end Exch

end Cert.Talk

end
-- ==== Proof.SumBody.lean ====
/-
# Adding up eight blocks

A kernel that reads the eight blocks of its input one after another, takes each to the output's float type if it is of
another, adds them up from the left, and writes the total over its output.
-/
module

public import proofs.«01_k».proof.Proof.Blocks
public import Idealize.ShloMosaic.Lib.Memref

@[expose] public section

set_option Elab.async false

noncomputable section

namespace Cert.Talk

open Idealize.ShloMosaic Idealize.ShloMosaic.TcCoe
open Idealize.SL Idealize.SL.RA
open Idealize.SL.BI (sProp bigSep bigSep_mono)
open scoped Idealize.SL.BI
open Idealize.SL.BI.BIBase Idealize.SL.BI.Laws Idealize.SL.ProofMode Idealize.SL.Sem

/-! ## Reading and writing what is owned -/

section Access

variable {τ : Topo} {sig : RefSig} {Val : EltTy → Type} {Λ : Labels}

local notation "𝕄" => MT 8 τ sig Unit Val ℕ (Gho 8 τ sig) ℕ

variable (defs : Defs 8 τ sig Val Λ) (𝒱 : Variants) (c : Dev 8) {s : Shape} {e : EltTy} {α : Type} {Q : α → sProp (MT 8 τ sig Unit Val ℕ (Gho 8 τ sig) ℕ)}

/-- A read through a rectangle finds the owned value at the rectangle's indices. -/
theorem load_owned {a : Memref sig .tc .vmem s e} {r : Rect s} {hl : a.view.LoadsAt r.toLoadRect} {q : PosShare TreeShare} {X : s.Idx → Val e}
    {k : (r.shape.Idx → Val e) → Prog (TpuEff 8 τ sig Val Λ .tc) α} :
    (owns (c.tc : Thread 8 τ) a q X : sProp 𝕄) ⊢ iprop((owns (c.tc : Thread 8 τ) a q X -∗ wp frame (wpE defs 𝒱 c.tc none) Set.univ (k fun i => X (r.emb i)) Q)
      -∗ wp frame (wpE defs 𝒱 c.tc none) Set.univ (.op (.load a r.toLoadRect hl) k) Q) := by
  unfold owns
  iintro ⟨%f, %h, H⟩
  iintro Hk
  iapply (wp_load 𝒱 (c.tc : Thread 8 τ) none Set.univ (defs := defs) (m := a) (r := r.toLoadRect) (hl := hl) (k := k) (Q := Q) (f := f) (q := q) (S := a.view.set)
    (a.view.setOn_subset_set _)) $$ H
  iintro H
  have hr : a.view.readAt Val r.toLoadRect f = fun i => X (r.emb i) := by subst h; rfl
  rw [hr]
  iapply Hk
  iexists f
  isplitr; · ipureintro; exact h
  iexact H

/-- A write over the whole of an owned array leaves what was written. -/
theorem store_owned {a : Memref sig .tc .vmem s e} {r : Rect s} {v : r.shape.Idx → Val e} {hx : (a.access r).Stores Finset.univ}
    {hm : (Finset.univ : Finset r.shape.Idx) = Finset.univ ∨ ∀ b, r.stride b = 1} {X Y : s.Idx → Val e} (hv : ∀ i, ∃ j, r.emb j = i ∧ v j = Y i)
    {k : PUnit → Prog (TpuEff 8 τ sig Val Λ .tc) α} :
    (owns (c.tc : Thread 8 τ) a fullShare X : sProp 𝕄)
      ⊢ iprop((owns (c.tc : Thread 8 τ) a fullShare Y -∗ wp frame (wpE defs 𝒱 c.tc none) Set.univ (k ⟨⟩) Q)
        -∗ wp frame (wpE defs 𝒱 c.tc none) Set.univ (.op (.store a r v Finset.univ hx hm) k) Q) := by
  unfold owns
  iintro ⟨%f, %h, H⟩
  iintro Hk
  iapply (wp_store 𝒱 (c.tc : Thread 8 τ) none Set.univ (defs := defs) (m := a) (r := r) (w := v) (hx := hx) (hm := hm) (k := k) (Q := Q) (f := f) (S := a.view.set)
    (by rw [View.setOn_univ, View.set_slice]; exact a.view.setOn_subset_set _)) $$ H
  iintro H
  iapply Hk
  iexists (a.access r).write Val f v Finset.univ
  isplitr
  · ipureintro
    funext i
    obtain ⟨j, rfl, hj⟩ := hv i
    exact (congrFun (View.read_write_univ (v := a.access r) f v) j).trans hj
  iexact H

end Access

/-! ## The sum -/

variable {F : FTy → Type} [FloatOps F] {n w : ℕ} {e : EltTy} (cv : Elt F e → F .f32)

/-- The widening of a summand. -/
abbrev widen (F : FTy → Type) [FloatOps F] : Elt F .bf16 → F .f32 := FloatOps.extf .f32 (by decide)

/-- Eight arrays converted and added up from the left. -/
def fold8 (v : Fin 8 → (Sb n w).Idx → Elt F e) : (Sb n w).Idx → F .f32 :=
  let x (j : Fin 8) : FVec F (Sb n w) .f32 := fun i => cv (v j i)
  addf (addf (addf (addf (addf (addf (addf (x 0) (x 1)) (x 2)) (x 3)) (x 4)) (x 5)) (x 6)) (x 7)

/-- The eight blocks of an array added up. -/
def total (Y : (S8 n w).Idx → Elt F e) : (Sb n w).Idx → F .f32 := fold8 cv fun j => row j Y

/-- The total at a place depends on the blocks at that place. -/
theorem total_at {n' w' : ℕ} (X : (S8 n w).Idx → Elt F e) (Y : (S8 n' w').Idx → Elt F e) (x : (Sb n w).Idx) (y : (Sb n' w').Idx)
    (h : ∀ j, row j X x = row j Y y) : total cv X x = total cv Y y := by
  unfold total fold8 addf
  simp only [h]

variable {τ : Topo} {sig : RefSig} {Λ : Labels}

local notation "𝕄" => MT 8 τ sig Unit (Elt F) ℕ (Gho 8 τ sig) ℕ

variable (a : Memref sig .tc .vmem (S8 n w) e) (b : Memref sig .tc .vmem (Sb n w) .f32)
  (hsq : (S1' n w).ShapeCasts (Sb n w)) (hz : ∀ x, (![0, 0] : Fin 2 → ℕ) x + (Sb n w).size x ≤ (Sb n w).size x)
  (la : ∀ j : Fin 8, a.view.LoadsAt (blkRect n w j).toLoadRect) (lb : b.view.LoadsAt (Rect.unit (s := Sb n w) ![0, 0] (Sb n w).size hz).toLoadRect)
  (sb : (b.access (Rect.unit (s := Sb n w) ![0, 0] (Sb n w).size hz)).Stores Finset.univ)

/-- The kernel. -/
abbrev adds : Prog (TpuEff 8 τ sig (Elt F) Λ .tc) PUnit :=
  .op (.load a (blkRect n w 0).toLoadRect (la 0)) fun v0 => .op (.load a (blkRect n w 1).toLoadRect (la 1)) fun v1 =>
  .op (.load a (blkRect n w 2).toLoadRect (la 2)) fun v2 => .op (.load a (blkRect n w 3).toLoadRect (la 3)) fun v3 =>
  .op (.load a (blkRect n w 4).toLoadRect (la 4)) fun v4 => .op (.load a (blkRect n w 5).toLoadRect (la 5)) fun v5 =>
  .op (.load a (blkRect n w 6).toLoadRect (la 6)) fun v6 => .op (.load a (blkRect n w 7).toLoadRect (la 7)) fun v7 =>
  .op (.load b (Rect.unit (s := Sb n w) ![0, 0] (Sb n w).size hz).toLoadRect lb) fun _ =>
  .op (.store b (Rect.unit (s := Sb n w) ![0, 0] (Sb n w).size hz)
    (fold8 (F := F) (n := n) (w := w) cv ![shapeCast (Sb n w) v0 hsq, shapeCast (Sb n w) v1 hsq, shapeCast (Sb n w) v2 hsq, shapeCast (Sb n w) v3 hsq,
      shapeCast (Sb n w) v4 hsq, shapeCast (Sb n w) v5 hsq, shapeCast (Sb n w) v6 hsq, shapeCast (Sb n w) v7 hsq]) Finset.univ sb (.inl rfl)) fun _ => .ret PUnit.unit

/-- A block as read, without its unit axis, is that block of the value. -/
theorem cast_row {α : Type} (X : (S8 n w).Idx → α) (j : Fin 8) :
    shapeCast (s := S1' n w) (Sb n w) (fun i => X ((blkRect n w j).emb i)) hsq = row j X := by
  funext x
  have hx : Shape.reshapeEquiv (s := S1' n w) (s' := Sb n w) hsq x = Fin.cons (α := fun a : Fin 3 => Fin ((![1, n, w] : Fin 3 → ℕ) a)) ⟨0, Nat.one_pos⟩ x :=
    Shape.reshapeEquiv_cons_one (d := ![n, w]) _ x
  show X ((blkRect n w j).emb (Shape.reshapeEquiv (s := S1' n w) (s' := Sb n w) hsq x)) = X _
  rw [hx]
  refine congrArg _ (funext fun a => Fin.ext ?_)
  rw [Rect.emb_apply]
  fin_cases a
  · show j.val + 1 * 0 = j.val; omega
  · show 0 + 1 * (x 0).val = (x 0).val; omega
  · show 0 + 1 * (x 1).val = (x 1).val; omega

/-- The written rectangle is all of the output, and what is written there is the total. -/
theorem sum_covers (X : (S8 n w).Idx → Elt F e) : ∀ i : (Sb n w).Idx, ∃ j, (Rect.unit (s := Sb n w) ![0, 0] (Sb n w).size hz).emb j = i
    ∧ fold8 (F := F) (n := n) (w := w) cv ![shapeCast (Sb n w) (fun i => X ((blkRect n w 0).emb i)) hsq, shapeCast (Sb n w) (fun i => X ((blkRect n w 1).emb i)) hsq,
      shapeCast (Sb n w) (fun i => X ((blkRect n w 2).emb i)) hsq, shapeCast (Sb n w) (fun i => X ((blkRect n w 3).emb i)) hsq,
      shapeCast (Sb n w) (fun i => X ((blkRect n w 4).emb i)) hsq, shapeCast (Sb n w) (fun i => X ((blkRect n w 5).emb i)) hsq,
      shapeCast (Sb n w) (fun i => X ((blkRect n w 6).emb i)) hsq, shapeCast (Sb n w) (fun i => X ((blkRect n w 7).emb i)) hsq] j = total cv X i := by
  intro i
  refine ⟨i, funext fun x => Fin.ext ?_, ?_⟩
  · rw [Rect.emb_apply]
    fin_cases x
    · show 0 + 1 * (i 0).val = (i 0).val; omega
    · show 0 + 1 * (i 1).val = (i 1).val; omega
  · refine congrFun (congrArg (fold8 (F := F) (n := n) (w := w) cv) (funext fun j => ?_)) i
    fin_cases j <;> exact cast_row hsq X _

/-- The kernel leaves its input and writes the total of the blocks. -/
theorem adds_runs (defs : Defs 8 τ sig (Elt F) Λ) (𝒱 : Variants) (c : Dev 8) (q : PosShare TreeShare) (X : (S8 n w).Idx → Elt F e) (Y : (Sb n w).Idx → F .f32)
    (Q : sProp 𝕄) :
    iprop(owns (c.tc : Thread 8 τ) a q (X : (S8 n w).Idx → Elt F e) ∗ owns (c.tc : Thread 8 τ) b fullShare (Y : (Sb n w).Idx → Elt F .f32))
      ⊢ iprop((iprop(owns (c.tc : Thread 8 τ) a q (X : (S8 n w).Idx → Elt F e)
          ∗ owns (c.tc : Thread 8 τ) b fullShare (total cv X : (Sb n w).Idx → Elt F .f32)) -∗ Q)
        -∗ wp frame (wpE defs 𝒱 c.tc none) Set.univ (adds cv a b hsq hz la lb sb) fun _ => Q) := by
  iintro ⟨HX, HY⟩
  iintro Hk
  iapply (load_owned defs 𝒱 c) $$ HX; iintro HX
  iapply (load_owned defs 𝒱 c) $$ HX; iintro HX
  iapply (load_owned defs 𝒱 c) $$ HX; iintro HX
  iapply (load_owned defs 𝒱 c) $$ HX; iintro HX
  iapply (load_owned defs 𝒱 c) $$ HX; iintro HX
  iapply (load_owned defs 𝒱 c) $$ HX; iintro HX
  iapply (load_owned defs 𝒱 c) $$ HX; iintro HX
  iapply (load_owned defs 𝒱 c) $$ HX; iintro HX
  iapply (load_owned defs 𝒱 c) $$ HY; iintro HY
  iapply (store_owned defs 𝒱 c (Y := (total cv X : (Sb n w).Idx → Elt F .f32)) (sum_covers cv hsq hz X)) $$ HY
  iintro HY
  rw [wp_ret]; imodintro
  iapply Hk
  isplitl [HX] <;> iassumption

end Cert.Talk

end
-- ==== Proof.ReduceProgram.lean ====
/-
# The reduce-scatter for any number of rows

The program that exchanges eight blocks of `n` rows and then adds up the received blocks in `k` stretches of 512
rows: its buffers, its windows and its two kernels. The reduce-scatters of the layers are this program at their
numbers of rows.
-/
module

public import proofs.«01_k».proof.Proof.Gen.ScatterIdeal
public import proofs.«01_k».proof.Proof.ExchangeBody
public import proofs.«01_k».proof.Proof.SumBody
public import Idealize.ShloMosaic.Lib.Sig

@[expose] public section

set_option Elab.async false

noncomputable section

namespace Cert.Reduce

open Idealize.ShloMosaic Idealize.ShloMosaic.TcCoe Idealize.SL.Sem
open Idealize.ShloMosaic.RefSig (ofTc tcTables tileCredit tileCredit_eq_zero tileCredit_pos)
open Cert.ScatterIdeal (nBuf bufScoped semScoped dmaSemScoped τ)
open Cert.Talk

/-! ## The program -/

/-- The buffers of a reduce-scatter of blocks of `n` rows. -/
abbrev bufTy (n : ℕ) : (tb : Table) → Fin (tcTables nBuf tb) → BufTy
  | .hbm, ⟨0, _⟩ => ⟨S8 n 512, .bf16⟩
  | .hbm, ⟨1, _⟩ => ⟨S8 n 512, .bf16⟩
  | .hbm, ⟨2, _⟩ => ⟨Sb n 512, .f32⟩
  | .local _ .vmem, ⟨0, _⟩ => ⟨S8 512 512, .bf16⟩
  | .local _ .vmem, ⟨1, _⟩ => ⟨S8 512 512, .bf16⟩
  | .local _ .vmem, ⟨2, _⟩ => ⟨Sb 512 512, .f32⟩
  | .local _ .vmem, ⟨3, _⟩ => ⟨Sb 512 512, .f32⟩
  | _, _ => ⟨S8 n 512, .bf16⟩

abbrev sig (n : ℕ) : RefSig :=
  ofTc nBuf (bufTy n) 0 19 bufScoped semScoped dmaSemScoped tileCredit tileCredit_eq_zero tileCredit_pos

/-- The blocks to send, the blocks received, and their total. -/
abbrev src (n : ℕ) : Ref (sig n) .tc := ⟨.hbm, 0, rfl⟩
abbrev recvd (n : ℕ) : Ref (sig n) .tc := ⟨.hbm, 1, rfl⟩
abbrev out (n : ℕ) : Ref (sig n) .tc := ⟨.hbm, 2, rfl⟩

/-- The stretches of the sum. -/
abbrev grid (k : ℕ) : Pipeline.Grid := ⟨1, ![k], ![false]⟩

def indexIn (k : ℕ) (i : (grid k).Coords) : Fin 3 → ℕ := ![(0#32).toNat, (BitVec.ofNat 32 (i 0).val).toNat, (0#32).toNat]
def indexOut (k : ℕ) (i : (grid k).Coords) : Fin 2 → ℕ := ![(BitVec.ofNat 32 (i 0).val).toNat, (0#32).toNat]

abbrev stageIn (n : ℕ) : Fin 2 → Memref (sig n) .tc .vmem (S8 512 512) .bf16 := fun
  | 0 => Memref.whole ⟨.vmem, 0, rfl⟩ | 1 => Memref.whole ⟨.vmem, 1, rfl⟩ | ⟨_ + 2, h⟩ => absurd h (Nat.not_lt.2 (Nat.le_add_left _ _))
abbrev stageOut (n : ℕ) : Fin 2 → Memref (sig n) .tc .vmem (Sb 512 512) .f32 := fun
  | 0 => Memref.whole ⟨.vmem, 2, rfl⟩ | 1 => Memref.whole ⟨.vmem, 3, rfl⟩ | ⟨_ + 2, h⟩ => absurd h (Nat.not_lt.2 (Nat.le_add_left _ _))
abbrev semIn (n : ℕ) : Fin 2 → DmaSem (sig n) := fun | 0 => 15 | 1 => 16 | ⟨_ + 2, h⟩ => absurd h (Nat.not_lt.2 (Nat.le_add_left _ _))
abbrev semOut (n : ℕ) : Fin 2 → DmaSem (sig n) := fun | 0 => 17 | 1 => 18 | ⟨_ + 2, h⟩ => absurd h (Nat.not_lt.2 (Nat.le_add_left _ _))

/-- The sizes fit together: what the windows of the sum take. -/
structure Fits₀ (n k : ℕ) : Prop where
  hsq : (S1' n 512).Squeezes (Sb n 512)
  words : ∀ b : Dev 8, (blkRect n 512 b).WholeWords (EltTy.packing .bf16)
  amt_pos : 0 < tileCredit (Sb n 512) .bf16
  hrank : 0 < (grid k).rank
  hstageIn : ∀ j, (stageIn n j).IsWhole
  nbufIn : (grid k).bufCount ![true] false = 2
  hreadsIn : ∀ i i' : (grid k).Coords, (∀ a, (![true] : Fin 1 → Bool) a = true → i a = i' a) → indexIn k i = indexIn k i'
  hinbIn : ∀ (i : (grid k).Coords) a, (indexIn k i a + 1) * (S8 512 512).size a ≤ (S8 n 512).size a
  hwxIn : ∀ i : (grid k).Coords, EltTy.bits .bf16 = 32 ∨ (Rect.block (s := S8 n 512) (S8 512 512).size (indexIn k i) (hinbIn i)).WholeWords (EltTy.packing .bf16)
  hstageOut : ∀ j, (stageOut n j).IsWhole
  nbufOut : (grid k).bufCount ![true] false = 2
  hreadsOut : ∀ i i' : (grid k).Coords, (∀ a, (![true] : Fin 1 → Bool) a = true → i a = i' a) → indexOut k i = indexOut k i'
  hinbOut : ∀ (i : (grid k).Coords) a, (indexOut k i a + 1) * (Sb 512 512).size a ≤ (Sb n 512).size a
  hwxOut : ∀ i : (grid k).Coords, EltTy.bits .f32 = 32 ∨ (Rect.block (s := Sb n 512) (Sb 512 512).size (indexOut k i) (hinbOut i)).WholeWords (EltTy.packing .f32)

variable {n k : ℕ} (H : Fits₀ n k)

abbrev winX : Fin 0 → Pipeline.Window (sig n) .none := Fin.elim0

abbrev winIn : Pipeline.Window (sig n) (grid k) :=
  Pipeline.Window.ofSpec (Memref.whole (recvd n)) (S8 512 512).size (indexIn k) ![true] false false 2 (stageIn n) (semIn n)
    H.hrank H.hreadsIn H.hinbIn H.nbufIn (Memref.isWhole_whole _) H.hwxIn H.hstageIn

abbrev winOut : Pipeline.Window (sig n) (grid k) :=
  Pipeline.Window.ofSpec (Memref.whole (out n)) (Sb 512 512).size (indexOut k) ![true] true false 2 (stageOut n) (semOut n)
    H.hrank H.hreadsOut H.hinbOut H.nbufOut (Memref.isWhole_whole _) H.hwxOut H.hstageOut

abbrev win : Fin 2 → Pipeline.Window (sig n) (grid k) := fun | 0 => winIn H | 1 => winOut H | ⟨_ + 2, h⟩ => absurd h (Nat.not_lt.2 (Nat.le_add_left _ _))

/-- The labels of the two kernels. -/
abbrev Λ₀ : Labels := ⟨Fin 2, fun
  | 0 => Fin (Pipeline.Grid.none).N × ((v : Fin 0) → Fin (winX (n := n) v).nbuf)
  | 1 => Fin (grid k).N × ((v : Fin 2) → Fin (win H v).nbuf)
  | ⟨_ + 2, h⟩ => absurd h (Nat.not_lt.2 (Nat.le_add_left _ _)), fun _ => PUnit⟩

abbrev cfgX : Pipeline.Cfg (sig n) (Λ₀ H) where
  grid := .none
  W := 0
  win := winX
  body := 0
  bodyArgs t s := (t, s)

abbrev cfgS : Pipeline.Cfg (sig n) (Λ₀ H) where
  grid := grid k
  W := 2
  win := win H
  body := 1
  bodyArgs t s := (t, s)

abbrev cfgs : Fin 2 → Pipeline.Cfg (sig n) (Λ₀ H) := fun | ⟨0, _⟩ => cfgX H | ⟨1, _⟩ => cfgS H | _ => cfgX H

variable {F : FTy → Type} [FloatOps F]

abbrev pcfgs : Fin 2 → Pipeline.PCfg (sig n) (Λ₀ H) (Elt F) := fun p => (cfgs H p).toPCfg

/-- The two kernels, one after the other. -/
def main : Dev 8 → Prog (TpuEff 8 τ (sig n) (Elt F) (Pipeline.Sig (Λ₀ H) (Fin 2) fun p => (pcfgs (F := F) H p).Adm) .tc) PUnit := fun _ =>
  .op (.customCall (Pipeline.entry 0) ()) fun _ => .op (.customCall (Pipeline.entry 1) ()) fun _ => .ret PUnit.unit

/-! ## The exchange -/

/-- The semaphores of the exchange, in the order the program declares them. -/
def semOf (n : ℕ) : Sm → DmaSem (sig n)
  | .inl k => ⟨k.val, by have := k.isLt; show k.val < 19; omega⟩
  | .inr (.inl k) => ⟨7 + k.val, by have := k.isLt; show 7 + k.val < 19; omega⟩
  | .inr (.inr _) => ⟨14, by show 14 < 19; omega⟩

theorem semOf_inj (n : ℕ) : Function.Injective (semOf n) := by
  have h : Function.Injective fun s : Sm => (semOf n s).val := by
    have : (fun s : Sm => (semOf n s).val) = fun s : Sm => match s with | .inl k => k.val | .inr (.inl k) => 7 + k.val | .inr (.inr _) => 14 := by
      funext s; rcases s with k | k | k <;> rfl
    rw [this]; unfold Function.Injective; decide
  exact fun a b hab => h (congrArg Fin.val hab)

/-- The exchange of the blocks. -/
def E : Exch (sig n) n 512 .bf16 where
  x := Memref.whole (src n)
  o := Memref.whole (recvd n)
  hsq := H.hsq
  sem := semOf n
  sem_inj := semOf_inj n
  amt := tileCredit (Sb n 512) .bf16
  amt_pos := H.amt_pos
  amt_x _ := rfl
  amt_o _ := rfl

open Cert.ScatterIdeal Cert.ScatterIdeal.Gen

/-- The offsets the kernel computes, by distance. -/
def off (c : Dev 8) : Fin 8 → Fin 3 → ℕ :=
  ![k0_off1 c, k0_off2 c, k0_off3 c, k0_off4 c, k0_off5 c, k0_off6 c, k0_off7 c, k0_off8 c]

/-- The peers it sends to. -/
def dev (c : Dev 8) : Fin 7 → Dev 8 :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]

theorem off_eq (c : Dev 8) (k : Fin 8) : off c k = ![(flip k c).val, 0, 0] := by
  unfold off
  rw [k0_off1_eq, k0_off2_eq, k0_off3_eq, k0_off4_eq, k0_off5_eq, k0_off6_eq, k0_off7_eq, k0_off8_eq]
  revert c k; decide +kernel

theorem dev_eq (c : Dev 8) (k : Fin 7) : dev c k = flip k.succ c := by
  have h : (dev c k).val = (flip k.succ c).val := by
    have : (dev c k).val = (![k0_dev1 c, k0_dev2 c, k0_dev3 c, k0_dev4 c, k0_dev5 c, k0_dev6 c, k0_dev7 c] : Fin 7 → ℕ) k := by fin_cases k <;> rfl
    rw [this, k0_dev1_eq, k0_dev2_eq, k0_dev3_eq, k0_dev4_eq, k0_dev5_eq, k0_dev6_eq, k0_dev7_eq]
    revert c k; decide +kernel
  exact Fin.ext h

theorem off_inb (n : ℕ) (c : Dev 8) (k : Fin 8) : ∀ a, off c k a + (S1' n 512).size a ≤ (S8 n 512).size a := by
  rw [off_eq]; exact blk_inb n 512 _

/-- A block is whole words when the block at the kernel's offset is. -/
theorem words_of (n : ℕ) (h : ∀ c : Dev 8, ∀ a, k0_off1 c a + (S1' n 512).size a ≤ (S8 n 512).size a)
    (hw : ∀ c, (Rect.unit (s := S8 n 512) (k0_off1 c) (S1' n 512).size (h c)).WholeWords (EltTy.packing .bf16)) (b : Dev 8) :
    (blkRect n 512 b).WholeWords (EltTy.packing .bf16) := by
  have e : ∀ (o : Fin 3 → ℕ) (ho : ∀ a, o a + (S1' n 512).size a ≤ (S8 n 512).size a), o = ![b.val, 0, 0] →
      (Rect.unit (s := S8 n 512) o (S1' n 512).size ho).WholeWords (EltTy.packing .bf16) → (blkRect n 512 b).WholeWords (EltTy.packing .bf16) := by
    rintro o ho rfl h; exact h
  exact e _ (h b) ((off_eq b 0).trans (by rw [flip_zero])) (hw b)

/-- The block of `M` at the kernel's `k`-th offset. -/
def named (M : Memref (sig n) .tc .hbm (S8 n 512) .bf16) (c : Dev 8) (k : Fin 8) : Memref (sig n) .tc .hbm (Sb n 512) .bf16 :=
  (M.slice (Rect.unit (s := S8 n 512) (off c k) (S1' n 512).size (off_inb n c k)) (fun _ => rfl)).squeeze (Sb n 512) H.hsq

theorem named_eq (M : Memref (sig n) .tc .hbm (S8 n 512) .bf16) (c : Dev 8) (k : Fin 8) : named H M c k = blk H.hsq M (flip k c) :=
  slice_eq H.hsq M (flip k c) (off c k) (off_inb n c k) (off_eq c k)

theorem wordExact_named (M : Memref (sig n) .tc .hbm (S8 n 512) .bf16) (hM : M.IsWhole) (c : Dev 8) (k : Fin 8) : (named H M c k).view.WordExact := by
  rw [named_eq]
  exact (hM.wordExact_slice rfl _ (H.words _)).reshape _ _

/-- The names the kernel uses on device `c`. -/
def names (c : Dev 8) : (E H).Names (τ := τ) where
  xs := named H (Memref.whole (src n)) c
  os := named H (Memref.whole (recvd n)) c
  dv := dev c
  wx k := wordExact_named H _ (Memref.isWhole_whole _) c k
  wo k := wordExact_named H _ (Memref.isWhole_whole _) c k
  sc := rfl
  tl := ⟨Or.inl rfl, trivial⟩
  tr k := ⟨⟨rfl, Or.inl rfl⟩, trivial⟩

theorem names_right (c : Dev 8) : (names H c).Right c := ⟨named_eq H _ c, named_eq H _ c, dev_eq c⟩

/-- The exchange, as the kernel spells it, runs. -/
theorem exchange_runs (X : Dev 8 → (S8 n 512).Idx → Elt F .bf16) (c : Dev 8) (defs : Defs 8 τ (sig n) (Elt F) (Λ₀ H)) :
    ((E H).opening X).BodyRuns c defs Variants.none (Exch.exchange (names H c)) :=
  Exch.exchange_runs X defs Variants.none (names_right H c) (fun _ => default) (fun _ => default)

end Cert.Reduce

end
-- ==== Proof.Later.lean ====
/-
# A later kernel of a program

A kernel that comes after the exchange, and that only reads and writes memory: its region needs no semaphore of
its own, and its pipeline's transfers are the only ones. From the device's boundary and the kernel's arrays it
runs to the boundary and the arrays at their final contents.
-/
module

public import proofs.«01_k».proof.Proof.Deal

@[expose] public section

set_option Elab.async false

noncomputable section

namespace Cert.Talk

open Idealize.ShloMosaic Idealize.ShloMosaic.TcCoe
open Idealize.SL Idealize.SL.RA
open Idealize.SL.BI (sProp bigSep bigSep_sep' bigSep_mono bigSep_congr)
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Labels} {P : Type} [Fintype P] [DecidableEq P]
variable (pcs : P → PCfg sig Λ₀ Val) (a : (p : P) → (pcs p).Adm)
  (pdats : (p : P) → (c : Dev nD) → Dat τ Val Ix Name U Lvl (pin pcs a p) c) (ι : Ix)
  (phinj : Function.Injective (cellOf (nD := nD) (pin pcs a)))
  (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)

local notation "𝔻" => Pipeline.defs pcs defs₀
local notation "𝕍" => Variants.lift 𝒱₀

variable (p : P) (win : WinFacts₀ (pcs p).spec)

include phinj win in
/-- The region of a later kernel, whose proof data keeps nothing but the scratch buffers and owes nothing. -/
theorem wp_later_region [∀ e, Nonempty (Val e)] [Infinite Name] [EP.LandsIn (upEmb : UEmb _ 𝕄)]
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (c : Dev nD) (hbody : BodyObligationLoose (pdats p c) defs₀ 𝒱₀ ι Set.univ)
    (hΦ : ∀ t, (pdats p c).Φ t = scopedRest (pin pcs a p).spec c) (howed : ∀ t, (pdats p c).owed t = 0)
    (hrec : ∀ t, (pdats p c).recorded t = Set.univ)
    (hpre : (prefHeld (pcs p).pre c (fun _ => fullShare) (a p).1 : sProp 𝕄) = BI.emp)
    (S : Finset P) (hS : p ∈ S)
    {α : Type} (k : PUnit → Prog (TpuEff nD τ sig Val (Sig Λ₀ P fun p => (pcs p).Adm) .tc) α) (Q : α → sProp 𝕄) :
    iprop((iprop(boundary (c.tc : Thread nD τ) ∗ (pdats p c).arrays ((pdats p c).arrAt · (pin pcs a p).N)
            ∗ ∃ W, owes (c.tc : Thread nD τ) (0 : CellTallies nD τ sig Ix) W) -∗ wp frame (wpE 𝔻 𝕍 (c.tc : Thread nD τ) none) Set.univ (k ⟨⟩) Q)
        ∗ boundary (c.tc : Thread nD τ) ∗ (pdats p c).arrays ((pdats p c).arrAt · 0)
        ∗ (∃ W, owes (c.tc : Thread nD τ) (0 : CellTallies nD τ sig Ix) W) ∗ levAts L lv ∗ ghostOn pcs a EP S c)
      ⊢ wp frame (wpE 𝔻 𝕍 (c.tc : Thread nD τ) none) Set.univ (.op (.customCall (entry p) ()) k) Q := by
  have ho : OwnSemFacts (pcs p).spec (fun k : PEmpty => (k.elim : SemLoc sig)) := OwnSemFacts.none _
  have hos : (ownSems0 (fun k : PEmpty => (k.elim : SemLoc sig)) c : sProp 𝕄) = BI.emp := by
    unfold ownSems0; rw [Finset.univ_eq_empty, BI.bigSep_empty]
  have hin : iprop((BI.emp : sProp 𝕄) ∗ prefHeld (pcs p).pre c (fun _ => fullShare) (a p).1 ∗ scopedRest (pin pcs a p).spec c) ⊢ (pdats p c).Φ 0 := by
    rw [hΦ]
    iintro ⟨-, -, H⟩
    iexact H
  have hout : (pdats p c).Φ (Fin.last (pin pcs a p).N)
      ⊢ iprop((BI.emp : sProp 𝕄) ∗ ownSems0 (fun k : PEmpty => (k.elim : SemLoc sig)) c ∗ scopedRest (pin pcs a p).spec c) := by
    rw [hΦ, hos]
    iintro H
    isplitr; · iempintro
    isplitr; · iempintro
    iexact H
  have hw : (levAts L lv : sProp 𝕄) ⊢ cellsWaits (pin pcs a) pdats ι p c :=
    (show (levAts L lv : sProp 𝕄) ⊢ BI.emp from by iintro -; iempintro).trans (cellsWaits_of_owed_zero (pin pcs a) pdats ι p c howed)
  have hg : (ghostOn pcs a EP S c : sProp 𝕄)
      = iprop((cellsGhost (pin pcs a) EP p c ∗ toksInit (pin pcs a) EP p c)
        ∗ PerCore.ghostOn pcs (fun _ => a) EP (S.erase p) c) := PerCore.ghostOn_erase _ _ _ hS c
  have hi : iprop(∃ W, owes (c.tc : Thread nD τ) (0 : CellTallies nD τ sig Ix) W) ⊢ (pdats p c).owesAt ι 0 := by
    unfold Dat.owesAt owesWithin
    rw [howed]
    iintro ⟨%W, H⟩
    iexists W
    isplitr
    · ipureintro; intro x _; unfold Dat.bound; rw [hrec]; exact Or.inl trivial
    iexact H
  have hl : (pdats p c).owesAt ι (Fin.last (pin pcs a p).N) ⊢ iprop(∃ W, owes (c.tc : Thread nD τ) (0 : CellTallies nD τ sig Ix) W) := by
    unfold Dat.owesAt owesWithin
    rw [howed]
    iintro ⟨%W, -, H⟩
    iexists W
    iexact H
  have h := wp_first_region pcs a pdats ι phinj EP defs₀ 𝒱₀ L lv p win ho block_pos stage_whole c hbody hw BI.emp BI.emp hin hout k Q
  rw [hpre] at h
  refine Entails.trans ?_ h
  rw [hg]
  iintro ⟨Hk, Hb, Ha, HO, HL, ⟨Hg, Ht⟩, -⟩
  ihave Hb := (boundary_take pcs a phinj p win ho c) $$ Hb
  icases Hb with ⟨-, Hb⟩
  isplitl [Hk]
  · iintro ⟨Hb, Ha, HO, -⟩
    iapply Hk
    isplitl [Hb]; · iexact Hb
    isplitl [Ha]; · iexact Ha
    iapply hl; iexact HO
  isplitl [Hb]; · iexact Hb
  isplitl [Ha]; · iexact Ha
  isplitr; · iempintro
  isplitl [HO]; · iapply hi; iexact HO
  isplitr; · iempintro
  isplitl [HL]; · iexact HL
  isplitl [Hg] <;> iassumption

end Cert.Talk

end
-- ==== Proof.ReduceRun.lean ====
/-
# The run of the reduce-scatter

After the exchange a second kernel adds up the received blocks, a stretch of rows at a time. The launch of the
whole program leaves every device its input as it was and the total of the blocks it received. All of it is for any
number of rows; what depends on the number is collected in `Fits`.
-/
module

public import proofs.«01_k».proof.Proof.ReduceProgram
public import proofs.«01_k».proof.Proof.Later
public import Idealize.ShloMosaic.Lib.Pipeline.Value
public import proofs.«01_k».proof.Proof.Gen.ScatterIdeal.Launch

@[expose] public section

set_option Elab.async false

noncomputable section

namespace Cert.Reduce

open Idealize.ShloMosaic Idealize.ShloMosaic.TcCoe
open Idealize.SL Idealize.SL.RA
open Idealize.SL.BI (sProp bigSep bigSep_sep' bigSep_mono bigSep_congr bigSep_univ_eq_bigSepL)
open scoped Idealize.SL.BI
open Idealize.SL.BI.BIBase Idealize.SL.BI.Laws Idealize.SL.ProofMode Idealize.SL.Sem
open Idealize.ShloMosaic.Rounds Idealize.ShloMosaic.Pipeline
open Cert.ScatterIdeal (τ)
open Cert.Talk

/-- What the run takes of the sizes: the layout of the launch and the schedule of the sum. -/
structure Fits (n k : ℕ) : Prop extends Fits₀ n k where
  casts : (S1' 512 512).ShapeCasts (Sb 512 512)
  pos_block : 0 < (S1' 512 512).numel
  pos_stretch : 0 < (Sb 512 512).numel
  points : (grid k).N = k
  rows : n = 512 * k
  layoutX : WinFacts (cfgX toFits₀).spec
  layoutS : WinFacts (cfgS toFits₀).spec
  sems : OwnSemFacts (cfgX toFits₀).spec (fun s : Sm => (.dma (semOf n s) : SemLoc (sig n)))
  listed : (Finset.univ.filter fun b : Ref (sig n) .tc => ¬ b.isScoped) = [src n, recvd n, out n].toFinset
  distinct : [src n, recvd n, out n].Nodup
  scopedSems : ∀ s : SemLoc (sig n), s.isScoped .tc = true
  block_pos : ∀ v : Fin 2, 0 < ((cfgS toFits₀).spec v).block.numel
  stage_whole : ∀ (v : Fin 2) (s : Fin ((cfgS toFits₀).spec v).nbuf), (((cfgS toFits₀).spec v).stage s).IsWhole
  cells : Function.Injective (cellOf (nD := 8) (τ := τ) (cfgs toFits₀))
  index_in : ∀ t, (winIn toFits₀).index t = ![0, t.val, 0]
  index_out : ∀ t, (winOut toFits₀).index t = ![t.val, 0]
  fetch : ∀ t, (winIn toFits₀).fetch t = true
  flush : ∀ t, (winOut toFits₀).flush t = true

theorem inb_zero : ∀ a, (![0, 0] : Fin 2 → ℕ) a + (Sb 512 512).size a ≤ (Sb 512 512).size a := by decide

variable {n k : ℕ} (W : Fits n k) {F : FTy → Type} [FloatOps F]

local notation "𝕄" => MT 8 τ (sig n) Unit (Elt F) ℕ (Gho 8 τ (sig n)) ℕ

/-- What the run takes of the two kernels: the first runs the exchange, the second adds up. -/
structure Bodies (D : Defs 8 τ (sig n) (Elt F) (Λ₀ W.toFits₀)) : Prop where
  exchanges : ∀ (X : Dev 8 → (S8 n 512).Idx → Elt F .bf16) (c : Dev 8) (t : Fin (cfgX W.toFits₀).N),
    ((E W.toFits₀).opening X).BodyRuns c D Variants.none (D .tc (cfgX W.toFits₀).body ((cfgX W.toFits₀).bodyArgs t ((cfgX W.toFits₀).slots t)))
  addsUp : ∀ t : Fin (cfgS W.toFits₀).N, D .tc (cfgS W.toFits₀).body ((cfgS W.toFits₀).bodyArgs t ((cfgS W.toFits₀).slots t))
    = adds (F := F) (n := 512) (w := 512) (widen F) ((winIn W.toFits₀).stage ((cfgS W.toFits₀).slots t 0)) ((winOut W.toFits₀).stage ((cfgS W.toFits₀).slots t 1))
        W.casts inb_zero (fun j => View.loadsAt_vmem W.pos_block)
        (View.loadsAt_vmem W.pos_stretch) (View.stores_vmem_bits_univ W.pos_stretch rfl)

theorem both {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

variable {D : Defs 8 τ (sig n) (Elt F) (Λ₀ W.toFits₀)} (B : Bodies W D)

variable (m : (ℓ : Loc 8 τ (sig n)) → Buf (Elt F) ℓ) (g : Dev 8 → PrngReg)

/-! ## The sum -/

/-- The blocks a device receives. -/
abbrev recv (c : Dev 8) : (S8 n 512).Idx → Elt F .bf16 := Exch.got ((E W.toFits₀).sent m) c

/-- Their total. -/
def res (c : Dev 8) : (Sb n 512).Idx → Elt F .f32 := total (F := F) (n := n) (w := 512) (widen F) (recv W m c)

/-- The scratch buffers the sum does not use. -/
@[irreducible] def scratch (c : Dev 8) : sProp 𝕄 := scopedRest (cfgS W.toFits₀).spec c

/-- The proof data of the sum's region. -/
def sums (c : Dev 8) : Dat τ (Elt F) Unit ℕ (Gho 8 τ (sig n)) ℕ (cfgS W.toFits₀) c where
  A v := match v with
    | 0 => recv W m c
    | 1 => m ((c.tc : Thread 8 τ).loc (out n))
  after v t := match v with
    | 0 => fun y => recv W m c (((winIn W.toFits₀).rect t).emb y)
    | 1 => fun y => res W m c (((winOut W.toFits₀).rect t).emb y)
  Φ _ := scratch W c
  q _ := fullShare
  owed _ := 0

theorem sums_scratch (c : Dev 8) (t : Fin ((cfgS W.toFits₀).N + 1)) : (sums W m c).Φ t = scopedRest (cfgS W.toFits₀).spec c := by
  show scratch W c = _
  unfold scratch; rfl

/-- The total of a stretch of the blocks is that stretch of the total. -/
theorem total_stretch (c : Dev 8) (t : Fin (grid k).N) :
    total (F := F) (n := 512) (w := 512) (widen F) (fun y => recv W m c (((winIn W.toFits₀).rect t).emb y)) = fun y => res W m c (((winOut W.toFits₀).rect t).emb y) := by
  funext y
  refine total_at _ _ _ _ _ fun j => congrArg (recv W m c) (funext fun a => Fin.ext ?_)
  have h0 : ∀ x : Fin 3, _ := fun x => Window.rect_emb_val (winIn W.toFits₀) t (Fin.cons (α := fun a : Fin 3 => Fin ((![8, 512, 512] : Fin 3 → ℕ) a)) j y) x
  have h1 : ∀ x : Fin 2, _ := fun x => Window.rect_emb_val (winOut W.toFits₀) t y x
  refine (h0 a).trans ?_
  rw [W.index_in]
  fin_cases a
  · show 0 * 8 + j.val = j.val; omega
  · refine Eq.trans ?_ (h1 0).symm
    rw [W.index_out]; rfl
  · refine Eq.trans ?_ (h1 1).symm
    rw [W.index_out]; rfl

theorem before_in (c : Dev 8) (t : Fin (cfgS W.toFits₀).N) (d) : (sums W m c).before 0 t d = fun y => recv W m c (((winIn W.toFits₀).rect t).emb y) := by
  rw [Dat.before_fetched (sums W m c) 0 t (W.fetch t)]
  unfold Dat.fetched Dat.blockOf; rfl

theorem before_out (c : Dev 8) (t : Fin (cfgS W.toFits₀).N) (d) : (sums W m c).before 1 t d = d :=
  Dat.before_out_reset (sums W m c) 1 rfl t (by
    by_cases h : t.val = 0
    · exact Or.inl h
    · exact Or.inr ⟨h, W.flush _⟩) d

include B in
theorem sum_obligation (c : Dev 8) : BodyObligation (sums W m c) D Variants.none () Set.univ := fun t => by
  rw [both, both]
  show iprop(scratch W c ∗ (sums W m c).owesAt () t.castSucc
      ∗ iprop(∃ d, owns (c.tc : Thread 8 τ) ((winIn W.toFits₀).stage ((cfgS W.toFits₀).slots t 0)) fullShare ((sums W m c).before 0 t d))
      ∗ iprop(∃ d, owns (c.tc : Thread 8 τ) ((winOut W.toFits₀).stage ((cfgS W.toFits₀).slots t 1)) fullShare ((sums W m c).before 1 t d)))
    ⊢ wp frame (wpE D Variants.none c.tc none) Set.univ
      (D .tc (cfgS W.toFits₀).body ((cfgS W.toFits₀).bodyArgs t ((cfgS W.toFits₀).slots t)))
      fun _ => iprop(scratch W c ∗ (sums W m c).owesAt () t.castSucc
        ∗ owns (c.tc : Thread 8 τ) ((winIn W.toFits₀).stage ((cfgS W.toFits₀).slots t 0)) fullShare (fun y => recv W m c (((winIn W.toFits₀).rect t).emb y))
        ∗ owns (c.tc : Thread 8 τ) ((winOut W.toFits₀).stage ((cfgS W.toFits₀).slots t 1)) fullShare (fun y => res W m c (((winOut W.toFits₀).rect t).emb y)))
  rw [B.addsUp t]
  iintro ⟨HR, HO, ⟨%d0, H0⟩, ⟨%d1, H1⟩⟩
  rw [before_in]
  have h := adds_runs (F := F) (τ := τ) (n := 512) (w := 512) (widen F) ((winIn W.toFits₀).stage ((cfgS W.toFits₀).slots t 0)) ((winOut W.toFits₀).stage ((cfgS W.toFits₀).slots t 1)) W.casts inb_zero
    (fun j => View.loadsAt_vmem W.pos_block) (View.loadsAt_vmem W.pos_stretch) (View.stores_vmem_bits_univ W.pos_stretch rfl)
    D Variants.none c fullShare (fun y => recv W m c (((winIn W.toFits₀).rect t).emb y)) ((sums W m c).before 1 t d1)
    iprop(scratch W c ∗ (sums W m c).owesAt () t.castSucc
        ∗ owns (c.tc : Thread 8 τ) ((winIn W.toFits₀).stage ((cfgS W.toFits₀).slots t 0)) fullShare (fun y => recv W m c (((winIn W.toFits₀).rect t).emb y))
        ∗ owns (c.tc : Thread 8 τ) ((winOut W.toFits₀).stage ((cfgS W.toFits₀).slots t 1)) fullShare (fun y => res W m c (((winOut W.toFits₀).rect t).emb y)))
  rw [total_stretch] at h
  iapply h $$ [H0 H1]
  · isplitl [H0]; · iexact H0
    iexact H1
  iintro ⟨H0, H1⟩
  isplitl [HR]; · iexact HR
  isplitl [HO]; · iexact HO
  isplitl [H0]; · iexact H0
  iexact H1

/-- Every row of the result lies in a stretch that is written. -/
theorem covered (i : (Sb n 512).Idx) : ∃ t : Fin (cfgS W.toFits₀).N, ((cfgS W.toFits₀).win 1).flush t = true ∧ i ∈ (((cfgS W.toFits₀).win 1).blk t).view.set := by
  have h0 : (i 0).val < n := (i 0).isLt
  have hN : (i 0).val / 512 < (grid k).N := by rw [W.points]; have := W.rows; omega
  refine ⟨⟨(i 0).val / 512, hN⟩, W.flush _, ?_⟩
  have hm := ((winOut W.toFits₀).blk ⟨(i 0).val / 512, hN⟩).view.emb_mem_set
    (fun a : Fin 2 => match a with
      | 0 => ⟨(i 0).val % 512, Nat.mod_lt _ (by decide)⟩
      | 1 => ⟨(i 1).val, (i 1).isLt⟩)
  refine (congrArg (· ∈ _) (funext fun a => Fin.ext ?_)).mp hm
  refine (Window.rect_emb_val (winOut W.toFits₀) ⟨(i 0).val / 512, hN⟩ _ a).trans ?_
  rw [W.index_out]
  fin_cases a
  · show (i 0).val / 512 * 512 + (i 0).val % 512 = (i 0).val; omega
  · show 0 * 512 + (i 1).val = (i 1).val; omega

theorem final (c : Dev 8) : (sums W m c).arrAt 1 (cfgS W.toFits₀).N = res W m c :=
  Dat.arrAt_eq_of_cover (sums W m c) 1 (res W m c) (fun t _ => rfl) (covered W)

/-! ## The launch -/

abbrev adm : (p : Fin 2) → (pcfgs (F := F) W.toFits₀ p).Adm := fun p => (cfgs W.toFits₀ p).toPCfg_adm

def dats : (p : Fin 2) → (c : Dev 8) → Dat τ (Elt F) Unit ℕ (Gho 8 τ (sig n)) ℕ (pin (pcfgs (F := F) W.toFits₀) (adm W) p) c
  | 0, c => ((E W.toFits₀).opening ((E W.toFits₀).sent m)).data (cfgX W.toFits₀) rfl c
  | 1, c => sums W m c

/-- What the exchange does not touch: the room for the result. -/
def rest (c : Dev 8) : sProp 𝕄 := (c.tc : Thread 8 τ).loc (out n) ↦{fullShare} m ((c.tc : Thread 8 τ).loc (out n))

/-- What a device ends with. -/
def post (c : Dev 8) : sProp 𝕄 :=
  iprop(((c.tc : Thread 8 τ).loc (src n) ↦{fullShare} m ((c.tc : Thread 8 τ).loc (src n))) ∗ ((c.tc : Thread 8 τ).loc (out n) ↦{fullShare} res W m c))

abbrev srcM (n : ℕ) : Memref (sig n) .tc .hbm (S8 n 512) .bf16 := Memref.whole (src n)
abbrev recvdM (n : ℕ) : Memref (sig n) .tc .hbm (S8 n 512) .bf16 := Memref.whole (recvd n)

/-- An array that is a whole buffer is held at a value when the buffer is held at it. -/
theorem holds_arg (c : Dev 8) (f : (S8 n 512).Idx → Elt F .bf16) :
    (holds c (srcM n) f : sProp 𝕄) = (c.tc : Thread 8 τ).loc (src n) ↦{fullShare} f := owns_whole (c.tc : Thread 8 τ) (src n) fullShare f
theorem holds_recv (c : Dev 8) (f : (S8 n 512).Idx → Elt F .bf16) :
    (holds c (recvdM n) f : sProp 𝕄) = (c.tc : Thread 8 τ).loc (recvd n) ↦{fullShare} f := owns_whole (c.tc : Thread 8 τ) (recvd n) fullShare f

/-- A whole buffer is room for what lands in it. -/
theorem room_whole (n : ℕ) {Val : EltTy → Type} (c : Dev 8) (f : Buf Val ((c.tc : Thread 8 τ).loc (recvd n))) :
    ((c.tc : Thread 8 τ).loc (recvd n) ↦{fullShare} f : sProp (MT 8 τ (sig n) Unit Val ℕ (Gho 8 τ (sig n)) ℕ)) ⊢ room c (recvdM n) := by
  have e : (recvdM n).view.set = Finset.univ := View.set_whole (recvd n)
  unfold room
  rw [e]
  iintro H
  iexists f
  iexact H

theorem bufs (c : Dev 8) : (unscopedBufs c (fun b => m ((c.tc : Thread 8 τ).loc b)) : sProp 𝕄)
    ⊢ iprop(holds c (E W.toFits₀).x ((E W.toFits₀).sent m c) ∗ room c (E W.toFits₀).o ∗ rest m c) := by
  have h : (unscopedBufs c (fun b => m ((c.tc : Thread 8 τ).loc b)) : sProp 𝕄)
      = iprop(((c.tc : Thread 8 τ).loc (src n) ↦{fullShare} m ((c.tc : Thread 8 τ).loc (src n)))
        ∗ ((c.tc : Thread 8 τ).loc (recvd n) ↦{fullShare} m ((c.tc : Thread 8 τ).loc (recvd n))) ∗ rest m c) := by
    unfold unscopedBufs
    exact BI.bigSep_eq_bigSepL_of_eq [src n, recvd n, out n] W.listed W.distinct _
  rw [h]
  iintro ⟨Hx, Ho, Hr⟩
  isplitl [Hx]
  · iapply (Entails.of_eq (holds_arg c (m ((c.tc : Thread 8 τ).loc (src n)))).symm); iexact Hx
  isplitl [Ho]
  · iapply (room_whole n c (m ((c.tc : Thread 8 τ).loc (recvd n))))
    iexact Ho
  iexact Hr

theorem arrays_eq (c : Dev 8) (f : (S8 n 512).Idx → Elt F .bf16) (r : (Sb n 512).Idx → Elt F .f32)
    (F₀ : (v : Fin 2) → Buf (Elt F) (((cfgS W.toFits₀).win v).arr.view.loc (c.tc : Thread 8 τ))) (h0 : F₀ 0 = f) (h1 : F₀ 1 = r) :
    ((sums W m c).arrays F₀ : sProp 𝕄) = iprop(((c.tc : Thread 8 τ).loc (recvd n) ↦{fullShare} f) ∗ ((c.tc : Thread 8 τ).loc (out n) ↦{fullShare} r)) := by
  subst h0 h1
  unfold Dat.arrays
  rw [both]
  have e0 : ((cfgS W.toFits₀).win (0 : Fin 2)).arr.view.set = Finset.univ := View.set_whole _
  have e1 : ((cfgS W.toFits₀).win (1 : Fin 2)).arr.view.set = Finset.univ := View.set_whole _
  rw [e0, e1]
  rfl

theorem none_held (p : Fin 2) (c : Dev 8) : (prefHeld (pcfgs (F := F) W.toFits₀ p).pre c (fun _ => fullShare) (adm (F := F) W p).1 : sProp 𝕄) = BI.emp :=
  (congrArg (fun S => bigSep S _) (Finset.univ_eq_empty (α := Fin 0))).trans BI.bigSep_empty

include B in
/-- From the received blocks the sum runs to the total. -/
theorem tail (c : Dev 8) : Opening.goes ((E W.toFits₀).opening ((E W.toFits₀).sent m)) (pcfgs (F := F) W.toFits₀) (adm W) 0 (rest m) c
    ⊢ wp frame (wpE (Pipeline.defs (pcfgs (F := F) W.toFits₀) D) (Variants.lift Variants.none) (c.tc : Thread 8 τ) none) Set.univ
      (.op (.customCall (Pipeline.entry 1) ()) fun _ => .ret PUnit.unit)
      fun _ => iprop(iprop(post W m c ∗ boundary (c.tc : Thread 8 τ)) ∗ ∃ O, owes (c.tc : Thread 8 τ) (0 : CellTallies 8 τ (sig n) Unit) O) := by
  have h := wp_later_region (pcfgs (F := F) W.toFits₀) (adm W) (dats W m) () W.cells Opening.EP D Variants.none Plan.L ((E W.toFits₀).plan (τ := τ) ((E W.toFits₀).sent m)).lv 1 W.layoutS.to₀
    W.block_pos W.stage_whole c (sum_obligation W B m c).loose (sums_scratch W m c) (fun _ => rfl) (fun _ => rfl) (none_held W 1 c) (Finset.univ.erase 0) (by decide)
    (fun _ => .ret PUnit.unit) (fun _ => iprop(iprop(post W m c ∗ boundary (c.tc : Thread 8 τ)) ∗ ∃ O, owes (c.tc : Thread 8 τ) (0 : CellTallies 8 τ (sig n) Unit) O))
  have a0 : ((dats W m 1 c).arrays ((dats W m 1 c).arrAt · 0) : sProp 𝕄) = _ := arrays_eq W m c (recv W m c) (m ((c.tc : Thread 8 τ).loc (out n))) _ rfl rfl
  have a1 : ((dats W m 1 c).arrays ((dats W m 1 c).arrAt · (pin (pcfgs (F := F) W.toFits₀) (adm W) 1).N) : sProp 𝕄) = _ :=
    arrays_eq W m c (recv W m c) (res W m c) _ (Dat.arrAt_in (sums W m c) 0 rfl _) (final W m c)
  rw [a0, a1] at h
  refine Entails.trans ?_ h
  unfold Opening.goes
  rw [show ((E W.toFits₀).opening ((E W.toFits₀).sent m)).leave c = iprop(holds c (E W.toFits₀).x ((E W.toFits₀).sent m c) ∗ holds c (E W.toFits₀).o (recv W m c)) from rfl]
  rw [show (E W.toFits₀).x = srcM n from rfl, show (E W.toFits₀).o = recvdM n from rfl, holds_arg, holds_recv]
  iintro ⟨Hb, ⟨Hx, Ho⟩, Hr, HO, HL, Hg⟩
  isplitl [Hx]
  · iintro ⟨Hb, ⟨-, Hr⟩, HO⟩
    rw [wp_ret]; imodintro
    isplitr [HO]
    · isplitr [Hb]
      · unfold post
        isplitl [Hx]; · iexact Hx
        iexact Hr
      iexact Hb
    iexact HO
  isplitl [Hb]; · iexact Hb
  isplitl [Ho Hr]
  · isplitl [Ho]; · iexact Ho
    unfold rest; iexact Hr
  isplitl [HO]; · iexact HO
  isplitl [HL]; · iexact HL
  iexact Hg

/-- What is shown of a device's memory. -/
def shown (c : Dev 8) (s : MemSt 8 τ (sig n) (Elt F)) : Prop :=
  s.mem ((c.tc : Thread 8 τ).loc (src n)) = m ((c.tc : Thread 8 τ).loc (src n)) ∧ s.mem ((c.tc : Thread 8 τ).loc (out n)) = res W m c

theorem read_off (c : Dev 8) (s : Phys 8 τ (sig n) (Elt F)) : iprop(post W m c ∗ SI s) ⊢ (|={Set.univ}=> iprop(⌜shown W m c s.mem⌝ ∗ SI s) : sProp 𝕄) := by
  unfold post
  iintro ⟨⟨Hx, Hf⟩, HS⟩
  ihave %h₁ := (SI_pointsTo_agree) $$ [HS Hx]
  · isplitl [HS]; · iexact HS
    iexact Hx
  ihave %h₂ := (SI_pointsTo_agree) $$ [HS Hf]
  · isplitl [HS]; · iexact HS
    iexact Hf
  imodintro
  isplitr
  · ipureintro
    exact ⟨funext fun i => h₁ i (Finset.mem_univ i), funext fun i => h₂ i (Finset.mem_univ i)⟩
  iexact HS

theorem ownSemFacts : OwnSemFacts (cfgX W.toFits₀).spec ((E W.toFits₀).plan (τ := τ) ((E W.toFits₀).sent m)).osem := W.sems

theorem main_eq (c : Dev 8) : main (F := F) W.toFits₀ c
    = .op (.customCall (Pipeline.entry 0) ()) fun _ => .op (.customCall (Pipeline.entry 1) ()) fun _ => .ret PUnit.unit := rfl

include B in
/-- The run of the whole program: on every device the input stays and the result is the total of the blocks received. -/
theorem run_main : θ_run (Pipeline.defs (pcfgs (F := F) W.toFits₀) D) (onTc (main (F := F) W.toFits₀)) ⟨m, fun _ => 0, g⟩
    (fun r => (∀ c, shown W m c r.2) ∧ r.2.sem = fun _ => 0) :=
  Opening.run_opening ((E W.toFits₀).opening ((E W.toFits₀).sent m)) m (pcfgs (F := F) W.toFits₀) (adm W) (dats W m) W.cells D g 0 rfl W.layoutX.to₀ (ownSemFacts W m) (rest m) (bufs W m)
    Cert.ScatterIdeal.Gen.N_0 (none_held W 0)
    (fun _ => rfl) (fun v => v.elim0) (fun c t => B.exchanges ((E W.toFits₀).sent m) c t) (main W.toFits₀) _ (main_eq W) (post W m) (tail W B m) (shown W m) (read_off W m)
    (fun s h hs => ⟨h, sem_eq_zero_of_scoped W.scopedSems hs⟩)

end Cert.Reduce

end
-- ==== Proof.Reduce0.lean ====
/-
# The reduce-scatter of 13824 rows

The program of the first and the last layer is the general one at 13824 rows in 27 stretches.
-/
module

public import proofs.«01_k».proof.Proof.ReduceRun
public import proofs.«01_k».proof.Proof.Gen.ScatterIdeal.Skeleton
public import proofs.«01_k».proof.Proof.Gen.ScatterIdeal.Points
public import proofs.«01_k».proof.Proof.Gen.ScatterIdeal.Regions

@[expose] public section

set_option Elab.async false

noncomputable section

namespace Cert.ScatterIdeal.Run

open Idealize.ShloMosaic Idealize.ShloMosaic.TcCoe Idealize.SL.Sem
open Cert.ScatterIdeal.Gen Cert.Talk

theorem fits₀ : Reduce.Fits₀ 13824 27 where
  hsq := squeezes_S1x13824x512_S13824x512
  words := Reduce.words_of 13824 k0_off1_inb k0_off1_wordsbf16
  amt_pos := by decide
  hrank := hrank1
  hstageIn := hstage1_0
  nbufIn := nbuf1_0
  hreadsIn := hreads1_0
  hinbIn := hinb1_0
  hwxIn := hwx1_0
  hstageOut := hstage1_1
  nbufOut := nbuf1_1
  hreadsOut := hreads1_1
  hinbOut := hinb1_1
  hwxOut := hwx1_1

theorem fits : Reduce.Fits 13824 27 where
  toFits₀ := fits₀
  casts := shapeCasts_S1x512x512_S512x512
  pos_block := h_S1x512x512
  pos_stretch := h_S512x512
  points := N_1
  rows := rfl
  layoutX := winFacts0
  layoutS := winFacts1
  sems := by decide
  listed := by decide
  distinct := by decide
  scopedSems := by decide
  block_pos := block_pos1
  stage_whole := stage_whole1
  cells := cellOf_inj
  index_in := by decide +kernel
  index_out := by decide +kernel
  fetch := fetch1_0
  flush := flush1_1

variable {F : FTy → Type} [FloatOps F]

/-- The first kernel runs the exchange. -/
theorem body_runs (X : Dev 8 → (S8 13824 512).Idx → Elt F .bf16) (c : Dev 8) :
    ((Reduce.E fits₀).opening X).BodyRuns c (defs₀ (F := F)) Variants.none
      (cc0_layer0_scatter (Memref.whole main_arg0) (Memref.isWhole_whole _) (Memref.whole main_v1) (Memref.isWhole_whole _) cc0_scratch0 cc0_scratch1 cc0_scratch2) := fun Q => by
  have h := Reduce.exchange_runs fits₀ X c (defs₀ (F := F)) Q
  simp only [cc0_layer0_scatter_eq_skeleton]; unfold cc0_layer0_scatter_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [Prog.lift, Prog.bind_op, Prog.bind_ret, Prog.pure_eq_ret, wp_deviceId]
  exact h

theorem bodies : Reduce.Bodies fits (defs₀ (F := F)) where
  exchanges X c t := body_runs X c
  addsUp t := rfl

/-- The run: on every device the input stays and the result is the total of the blocks received. -/
theorem run_main (m : (ℓ : Loc nD τ sig) → Buf (Elt F) ℓ) (g : Dev nD → PrngReg) :
    θ_run (defs (F := F)) (onTc (main (F := F))) ⟨m, fun _ => 0, g⟩ (fun r => (∀ c, Reduce.shown fits m c r.2) ∧ r.2.sem = fun _ => 0) :=
  Reduce.run_main fits bodies m g

end Cert.ScatterIdeal.Run

end
-- ==== Proof.Reduce1.lean ====
/-
# The reduce-scatter of 11264 rows

The program of the second layer is the general one at 11264 rows in 22 stretches.
-/
module

public import proofs.«01_k».proof.Proof.ReduceRun
public import proofs.«01_k».proof.Proof.Gen.Scatter1Ideal.Skeleton
public import proofs.«01_k».proof.Proof.Gen.Scatter1Ideal.Points
public import proofs.«01_k».proof.Proof.Gen.Scatter1Ideal.Regions

@[expose] public section

set_option Elab.async false

noncomputable section

namespace Cert.Scatter1Ideal.Run

open Idealize.ShloMosaic Idealize.ShloMosaic.TcCoe Idealize.SL.Sem
open Cert.Scatter1Ideal.Gen Cert.Talk

theorem fits₀ : Reduce.Fits₀ 11264 22 where
  hsq := squeezes_S1x11264x512_S11264x512
  words := Reduce.words_of 11264 k0_off1_inb k0_off1_wordsbf16
  amt_pos := by decide
  hrank := hrank1
  hstageIn := hstage1_0
  nbufIn := nbuf1_0
  hreadsIn := hreads1_0
  hinbIn := hinb1_0
  hwxIn := hwx1_0
  hstageOut := hstage1_1
  nbufOut := nbuf1_1
  hreadsOut := hreads1_1
  hinbOut := hinb1_1
  hwxOut := hwx1_1

theorem fits : Reduce.Fits 11264 22 where
  toFits₀ := fits₀
  casts := shapeCasts_S1x512x512_S512x512
  pos_block := h_S1x512x512
  pos_stretch := h_S512x512
  points := N_1
  rows := rfl
  layoutX := winFacts0
  layoutS := winFacts1
  sems := by decide
  listed := by decide
  distinct := by decide
  scopedSems := by decide
  block_pos := block_pos1
  stage_whole := stage_whole1
  cells := cellOf_inj
  index_in := by decide +kernel
  index_out := by decide +kernel
  fetch := fetch1_0
  flush := flush1_1

variable {F : FTy → Type} [FloatOps F]

/-- The first kernel runs the exchange. -/
theorem body_runs (X : Dev 8 → (S8 11264 512).Idx → Elt F .bf16) (c : Dev 8) :
    ((Reduce.E fits₀).opening X).BodyRuns c (defs₀ (F := F)) Variants.none
      (cc0_layer1_scatter (Memref.whole main_arg0) (Memref.isWhole_whole _) (Memref.whole main_v1) (Memref.isWhole_whole _) cc0_scratch0 cc0_scratch1 cc0_scratch2) := fun Q => by
  have h := Reduce.exchange_runs fits₀ X c (defs₀ (F := F)) Q
  simp only [cc0_layer1_scatter_eq_skeleton]; unfold cc0_layer1_scatter_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [Prog.lift, Prog.bind_op, Prog.bind_ret, Prog.pure_eq_ret, wp_deviceId]
  exact h

theorem bodies : Reduce.Bodies fits (defs₀ (F := F)) where
  exchanges X c t := body_runs X c
  addsUp t := rfl

/-- The run: on every device the input stays and the result is the total of the blocks received. -/
theorem run_main (m : (ℓ : Loc nD τ sig) → Buf (Elt F) ℓ) (g : Dev nD → PrngReg) :
    θ_run (defs (F := F)) (onTc (main (F := F))) ⟨m, fun _ => 0, g⟩ (fun r => (∀ c, Reduce.shown fits m c r.2) ∧ r.2.sem = fun _ => 0) :=
  Reduce.run_main fits bodies m g

end Cert.Scatter1Ideal.Run

end
-- ==== Proof.Reduce2.lean ====
/-
# The reduce-scatter of 12800 rows

The program of the third layer is the general one at 12800 rows in 25 stretches.
-/
module

public import proofs.«01_k».proof.Proof.ReduceRun
public import proofs.«01_k».proof.Proof.Gen.Scatter2Ideal.Skeleton
public import proofs.«01_k».proof.Proof.Gen.Scatter2Ideal.Points
public import proofs.«01_k».proof.Proof.Gen.Scatter2Ideal.Regions

@[expose] public section

set_option Elab.async false

noncomputable section

namespace Cert.Scatter2Ideal.Run

open Idealize.ShloMosaic Idealize.ShloMosaic.TcCoe Idealize.SL.Sem
open Cert.Scatter2Ideal.Gen Cert.Talk

theorem fits₀ : Reduce.Fits₀ 12800 25 where
  hsq := squeezes_S1x12800x512_S12800x512
  words := Reduce.words_of 12800 k0_off1_inb k0_off1_wordsbf16
  amt_pos := by decide
  hrank := hrank1
  hstageIn := hstage1_0
  nbufIn := nbuf1_0
  hreadsIn := hreads1_0
  hinbIn := hinb1_0
  hwxIn := hwx1_0
  hstageOut := hstage1_1
  nbufOut := nbuf1_1
  hreadsOut := hreads1_1
  hinbOut := hinb1_1
  hwxOut := hwx1_1

theorem fits : Reduce.Fits 12800 25 where
  toFits₀ := fits₀
  casts := shapeCasts_S1x512x512_S512x512
  pos_block := h_S1x512x512
  pos_stretch := h_S512x512
  points := N_1
  rows := rfl
  layoutX := winFacts0
  layoutS := winFacts1
  sems := by decide
  listed := by decide
  distinct := by decide
  scopedSems := by decide
  block_pos := block_pos1
  stage_whole := stage_whole1
  cells := cellOf_inj
  index_in := by decide +kernel
  index_out := by decide +kernel
  fetch := fetch1_0
  flush := flush1_1

variable {F : FTy → Type} [FloatOps F]

/-- The first kernel runs the exchange. -/
theorem body_runs (X : Dev 8 → (S8 12800 512).Idx → Elt F .bf16) (c : Dev 8) :
    ((Reduce.E fits₀).opening X).BodyRuns c (defs₀ (F := F)) Variants.none
      (cc0_layer2_scatter (Memref.whole main_arg0) (Memref.isWhole_whole _) (Memref.whole main_v1) (Memref.isWhole_whole _) cc0_scratch0 cc0_scratch1 cc0_scratch2) := fun Q => by
  have h := Reduce.exchange_runs fits₀ X c (defs₀ (F := F)) Q
  simp only [cc0_layer2_scatter_eq_skeleton]; unfold cc0_layer2_scatter_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [Prog.lift, Prog.bind_op, Prog.bind_ret, Prog.pure_eq_ret, wp_deviceId]
  exact h

theorem bodies : Reduce.Bodies fits (defs₀ (F := F)) where
  exchanges X c t := body_runs X c
  addsUp t := rfl

/-- The run: on every device the input stays and the result is the total of the blocks received. -/
theorem run_main (m : (ℓ : Loc nD τ sig) → Buf (Elt F) ℓ) (g : Dev nD → PrngReg) :
    θ_run (defs (F := F)) (onTc (main (F := F))) ⟨m, fun _ => 0, g⟩ (fun r => (∀ c, Reduce.shown fits m c r.2) ∧ r.2.sem = fun _ => 0) :=
  Reduce.run_main fits bodies m g

end Cert.Scatter2Ideal.Run

end
-- ==== Proof.TotalValue.lean ====
/-
# The sum of the blocks each device is sent

A whole array is cut along its first axis into eight parts of eight blocks. Adding up, for each device,
the block of that number in every part is reducing the array of parts along the parts.
-/
module

public import proofs.«01_k».proof.Proof.SumBody
public import Idealize.ShloMosaic.Lib.Layout
public import Idealize.ShloMosaic.Lib.IdealHost
public import Idealize.ShloMosaic.Lib.Pipeline.Value
public import Idealize.ShloMosaic.PureOps.Ideal.Laws

@[expose] public section

noncomputable section

namespace Cert.Talk

open Idealize.ShloMosaic

variable {n w N : ℕ}

/-- The reshape of eight blocks of rows to one array of rows, read on device `c`, is block `c`. -/
theorem block_reshape {α : Type} (v : (⟨3, ![8, n, w]⟩ : Shape).Idx → α) (c : Fin 8)
    (ht : Layout.Tiles ⟨2, ![n, w]⟩ ⟨2, ![N, w]⟩ 0 8) (hc : (⟨3, ![8, n, w]⟩ : Shape).ShapeCasts ⟨2, ![N, w]⟩) :
    Layout.block ⟨2, ![n, w]⟩ ⟨2, ![N, w]⟩ 0 8 c (shapeCast ⟨2, ![N, w]⟩ v hc) ht = row c v := by
  funext x
  refine shapeCast_apply v hc _ _ ?_
  rw [Shape.rowMajor_val_two, Shape.rowMajor_val_three]
  rfl

/-- Element `ix` of the array reshaped to eight parts of eight blocks is an element of part `ix 0`. -/
theorem parts_at {α : Type} (v : (⟨3, ![64, n, w]⟩ : Shape).Idx → α) (ht : Layout.Tiles ⟨3, ![8, n, w]⟩ ⟨3, ![64, n, w]⟩ 0 8)
    (hc : (⟨3, ![64, n, w]⟩ : Shape).ShapeCasts ⟨4, ![8, 8, n, w]⟩) (ix : (⟨4, ![8, 8, n, w]⟩ : Shape).Idx) :
    shapeCast ⟨4, ![8, 8, n, w]⟩ v hc ix = Layout.block ⟨3, ![8, n, w]⟩ ⟨3, ![64, n, w]⟩ 0 8 (ix 0) v ht (fun a => ix a.succ) := by
  refine shapeCast_apply v hc ix _ ?_
  rw [Shape.rowMajor_val_three, Shape.rowMajor_val_four]
  rfl

/-- What device `c` holds of the reduced array is the total of the blocks every part has for it. -/
theorem total_parts (v : (⟨3, ![64, n, w]⟩ : Shape).Idx → Elt Ideal .bf16) (c : Fin 8)
    (ht : Layout.Tiles ⟨3, ![8, n, w]⟩ ⟨3, ![64, n, w]⟩ 0 8) (ht' : Layout.Tiles ⟨2, ![n, w]⟩ ⟨2, ![N, w]⟩ 0 8)
    (hc : (⟨3, ![64, n, w]⟩ : Shape).ShapeCasts ⟨4, ![8, 8, n, w]⟩) (hb : FTy.bits .bf16 < FTy.bits .f32)
    (hr : (⟨4, ![8, 8, n, w]⟩ : Shape).ReducesTo [0] ⟨3, ![8, n, w]⟩) (hs : (⟨4, ![8, 8, n, w]⟩ : Shape).Reduces [0] ⟨3, ![8, n, w]⟩)
    (hu : 0 < (⟨0, ![]⟩ : Shape).numel) (hc' : (⟨3, ![8, n, w]⟩ : Shape).ShapeCasts ⟨2, ![N, w]⟩) :
    total (F := Ideal) (widen Ideal) (glue fun b => row c (Layout.block ⟨3, ![8, n, w]⟩ ⟨3, ![64, n, w]⟩ 0 8 b v ht))
      = Layout.block ⟨2, ![n, w]⟩ ⟨2, ![N, w]⟩ 0 8 c (shapeCast ⟨2, ![N, w]⟩
          (Host.reduceAdd (extf .f32 (shapeCast ⟨4, ![8, 8, n, w]⟩ v hc : FVec Ideal ⟨4, ![8, 8, n, w]⟩ .bf16) hb)
            (constant (F := Ideal) ⟨0, ![]⟩ .f32 0x00000000#32) hr hu) hc') ht' := by
  rw [block_reshape]
  funext x
  unfold row
  rw [ValueIdx.hostReduceAdd_apply, Ideal.hostReduceAdd_single hr hs]
  have hz : constant (F := Ideal) ⟨0, ![]⟩ .f32 0x00000000#32 (Shape.Idx.first hu) = (0 : EReal) := Ideal.ofBits_zero_f32
  rw [hz, zero_add]
  refine Eq.trans ?_ (Finset.sum_congr rfl fun k _ => (parts_at v ht hc (hs.lift _ k)).symm)
  refine Eq.trans ?_ (Fin.sum_univ_eight _).symm
  rfl

end Cert.Talk

end
-- ==== Proof.ReduceValue.lean ====
/-
# The reduce-scatter: what its run leaves, as the claims say it

Of the run of the general program: it keeps its argument and its counters, and at the extended reals the total that
device `c` ends with is its part of the whole array's sum.
-/
module

public import proofs.«01_k».proof.Proof.ReduceRun
public import proofs.«01_k».proof.Proof.TotalValue

@[expose] public section

set_option Elab.async false

noncomputable section

namespace Cert.Reduce

open Idealize.ShloMosaic Idealize.ShloMosaic.TcCoe Idealize.SL.Sem
open Cert.ScatterIdeal (τ)
open Cert.Talk

variable {n k : ℕ} (W : Fits n k)

/-- The run leaves its argument and its counters as they were. -/
theorem keeps {F : FTy → Type} [FloatOps F] {D : Defs 8 τ (sig n) (Elt F) (Λ₀ W.toFits₀)} (B : Bodies W D)
    (m : (ℓ : Loc 8 τ (sig n)) → Buf (Elt F) ℓ) (g : Dev 8 → PrngReg) :
    θ_run (Pipeline.defs (pcfgs (F := F) W.toFits₀) D) (onTc (main (F := F) W.toFits₀)) ⟨m, fun _ => 0, g⟩
      (fun r => (∀ c : Dev 8, r.2.mem ((c.tc : Thread 8 τ).loc (src n)) = m ((c.tc : Thread 8 τ).loc (src n))) ∧ r.2.sem = fun _ => 0) :=
  (θ_run _ _ _).mono (fun _ h => ⟨fun c => (h.1 c).1, h.2⟩) (run_main W B m g)

/-- At the extended reals, device `c` ends with its part of the sum over the eight parts of the whole array. -/
theorem reduces {D : Defs 8 τ (sig n) (Elt Ideal) (Λ₀ W.toFits₀)} (B : Bodies W D)
    (m : (ℓ : Loc 8 τ (sig n)) → Buf (Elt Ideal) ℓ) (g : Dev 8 → PrngReg) {N : ℕ} (v : (⟨3, ![64, n, 512]⟩ : Shape).Idx → Elt Ideal .bf16)
    (ht : Layout.Tiles ⟨3, ![8, n, 512]⟩ ⟨3, ![64, n, 512]⟩ 0 8) (ht' : Layout.Tiles ⟨2, ![n, 512]⟩ ⟨2, ![N, 512]⟩ 0 8)
    (hc : (⟨3, ![64, n, 512]⟩ : Shape).ShapeCasts ⟨4, ![8, 8, n, 512]⟩) (hb : FTy.bits .bf16 < FTy.bits .f32)
    (hr : (⟨4, ![8, 8, n, 512]⟩ : Shape).ReducesTo [0] ⟨3, ![8, n, 512]⟩) (hs : (⟨4, ![8, 8, n, 512]⟩ : Shape).Reduces [0] ⟨3, ![8, n, 512]⟩)
    (hu : 0 < (⟨0, ![]⟩ : Shape).numel) (hc' : (⟨3, ![8, n, 512]⟩ : Shape).ShapeCasts ⟨2, ![N, 512]⟩)
    (h : ∀ c : Dev 8, m ((c.tc : Thread 8 τ).loc (src n)) = Layout.block ⟨3, ![8, n, 512]⟩ ⟨3, ![64, n, 512]⟩ 0 8 c v ht) :
    θ_run (Pipeline.defs (pcfgs (F := Ideal) W.toFits₀) D) (onTc (main (F := Ideal) W.toFits₀)) ⟨m, fun _ => 0, g⟩ (fun r => ∀ c : Dev 8,
      r.2.mem ((c.tc : Thread 8 τ).loc (out n)) = Layout.block ⟨2, ![n, 512]⟩ ⟨2, ![N, 512]⟩ 0 8 c (shapeCast ⟨2, ![N, 512]⟩
          (Host.reduceAdd (extf .f32 (shapeCast ⟨4, ![8, 8, n, 512]⟩ v hc : FVec Ideal ⟨4, ![8, 8, n, 512]⟩ .bf16) hb)
            (constant (F := Ideal) ⟨0, ![]⟩ .f32 0x00000000#32) hr hu) hc') ht'
      ∧ r.2.mem ((c.tc : Thread 8 τ).loc (src n)) = m ((c.tc : Thread 8 τ).loc (src n))) :=
  (θ_run _ _ _).mono (fun _ hr' c => ⟨(hr'.1 c).2.trans ((congrArg (fun X : Dev 8 → (S8 n 512).Idx → Elt Ideal .bf16 =>
      total (F := Ideal) (widen Ideal) (glue fun b => row c (X b))) (funext h)).trans
      (total_parts v c ht ht' hc hb hr hs hu hc')), (hr'.1 c).1⟩)
    (run_main W B m g)

end Cert.Reduce

end
-- ==== Proof.SmallGather.lean ====
/-
# The gather of the small arrays

The first kernel of the small program gathers 88 rows of every device, as the all-gathers of the layers gather theirs:
the same sends and waits, on arrays of another float type and width.
-/
module

public import proofs.«01_k».proof.Proof.GatherProgram
public import proofs.«01_k».proof.Proof.Gen.SmallIdeal
public import proofs.«01_k».proof.Proof.Gen.SmallIdeal.Skeleton
public import proofs.«01_k».proof.Proof.Gen.SmallIdeal.Points
public import proofs.«01_k».proof.Proof.Gen.SmallIdeal.Regions

@[expose] public section

set_option Elab.async false

noncomputable section

namespace Cert.SmallIdeal.Run

open Idealize.ShloMosaic Idealize.ShloMosaic.TcCoe Idealize.SL.Sem
open Cert.SmallIdeal.Gen Cert.Talk

/-- The own block, and the blocks of all devices. -/
abbrev srcM : Memref sig .tc .hbm (Sb 88 1024) .f32 := Memref.whole main_arg0
abbrev allM : Memref sig .tc .hbm (S8 88 1024) .f32 := Memref.whole main_v1

/-- The gather of the own blocks. -/
def S : Spr sig 88 1024 .f32 where
  x := srcM
  o := allM
  hsq := squeezes_S1x88x1024_S88x1024
  sem k := k.castLE (by decide)
  sem_inj _ _ h := Fin.castLE_injective _ h
  amt := RefSig.tileCredit (Sb 88 1024) .f32
  amt_pos := by decide
  amt_x := rfl
  amt_o _ := rfl

theorem off_inb (c : Dev 8) (k : Fin 8) : ∀ a, Spread.off c k a + (S1' 88 1024).size a ≤ (S8 88 1024).size a := by
  rw [Spread.off_eq]; exact blk_inb 88 1024 _

/-- The block of all blocks at the kernel's `k`-th offset. -/
def named (c : Dev 8) (k : Fin 8) : Memref sig .tc .hbm (Sb 88 1024) .f32 :=
  (allM.slice (Rect.unit (s := S8 88 1024) (Spread.off c k) (S1' 88 1024).size (off_inb c k)) (fun _ => rfl)).squeeze (Sb 88 1024) squeezes_S1x88x1024_S88x1024

/-- The names the kernel uses on device `c`. -/
def names (c : Dev 8) : S.Names τ where
  os := named c
  dv := Spread.dev c
  wx := (Memref.isWhole_whole main_arg0).wordExact
  wo _ := View.wordExact_bits rfl
  sc _ := rfl
  tl := ⟨Or.inl rfl, trivial⟩
  tr _ _ _ _ := ⟨⟨rfl, Or.inl rfl⟩, trivial⟩

theorem names_right (c : Dev 8) : (names c).Right c :=
  ⟨fun k => slice_eq S.hsq allM (flip (Spr.dist k) c) (Spread.off c k) (off_inb c k) (Spread.off_eq c k), Spread.dev_eq c⟩

variable {F : FTy → Type} [FloatOps F]

/-- The first kernel runs the gather. -/
theorem gather_runs (m : (ℓ : Loc nD τ sig) → Buf (Elt F) ℓ) (c : Dev nD) :
    (S.opening m).BodyRuns c (defs₀ (F := F)) Variants.none
      (cc0_small_gather (Memref.whole main_arg0) (Memref.isWhole_whole _) (Memref.whole main_v1) (Memref.isWhole_whole _) cc0_scratch0 cc0_scratch1 cc0_scratch2) := fun Q => by
  have h := S.body_run m (defs₀ (F := F)) (names c) c (names_right c) Q
  simp only [cc0_small_gather_eq_skeleton]; unfold cc0_small_gather_skel
  simp only [k0_part10_eq_skeleton]; unfold k0_part10_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  exact h

end Cert.SmallIdeal.Run

end
-- ==== Proof.SmallRun.lean ====
/-
# The run of the small program

After the gather a second kernel adds up the eight blocks, in one step. The launch of the whole program leaves every
device its input as it was and the total of the blocks of all devices.
-/
module

public import proofs.«01_k».proof.Proof.SmallGather
public import proofs.«01_k».proof.Proof.SumBody
public import proofs.«01_k».proof.Proof.Later
public import proofs.«01_k».proof.Proof.Rows
public import Idealize.ShloMosaic.Lib.IdealHost
public import Idealize.ShloMosaic.PureOps.Ideal.Laws
public import Idealize.ShloMosaic.Lib.Pipeline.Value

@[expose] public section

set_option Elab.async false

noncomputable section

namespace Cert.SmallIdeal.Run

open Idealize.ShloMosaic Idealize.ShloMosaic.TcCoe
open Idealize.SL Idealize.SL.RA
open Idealize.SL.BI (sProp bigSep bigSep_mono bigSep_congr)
open scoped Idealize.SL.BI
open Idealize.SL.BI.BIBase Idealize.SL.BI.Laws Idealize.SL.ProofMode Idealize.SL.Sem
open Idealize.ShloMosaic.Rounds Idealize.ShloMosaic.Pipeline
open Cert.SmallIdeal.Gen Cert.Talk

variable {F : FTy → Type} [FloatOps F]

local notation "𝕄" => MT 8 τ sig Unit (Elt F) ℕ (Gho 8 τ sig) ℕ

variable (m : (ℓ : Loc 8 τ sig) → Buf (Elt F) ℓ) (g : Dev 8 → PrngReg)

/-! ## The sum -/

/-- The blocks of all devices, as every device ends up with them. -/
def blocks : (S8 88 1024).Idx → Elt F .f32 := glue fun b : Dev 8 => m ((b.tc : Thread 8 τ).loc main_arg0)

/-- Their total. -/
def res : (Sb 88 1024).Idx → Elt F .f32 := total (F := F) (n := 88) (w := 1024) (e := .f32) id (blocks m)

/-- The scratch buffers the sum does not use. -/
@[irreducible] def scratch (c : Dev 8) : sProp 𝕄 := scopedRest cfg1.spec c

/-- The proof data of the sum's region. -/
def sums (c : Dev 8) : Dat τ (Elt F) Unit ℕ (Gho 8 τ sig) ℕ cfg1 c where
  A v := match v with
    | 0 => blocks m
    | 1 => m ((c.tc : Thread 8 τ).loc main_v2)
  after v t := match v with
    | 0 => fun y => blocks m ((win1_0.rect t).emb y)
    | 1 => fun y => res m ((win1_1.rect t).emb y)
  Φ _ := scratch c
  q _ := fullShare
  owed _ := 0

theorem sums_scratch (c : Dev 8) (t : Fin (cfg1.N + 1)) : (sums m c).Φ t = scopedRest cfg1.spec c := by
  show scratch c = _
  unfold scratch; rfl

theorem index_in (t : Fin grid1.N) : win1_0.index t = ![0, 0, 0] := by revert t; decide +kernel
theorem index_out (t : Fin grid1.N) : win1_1.index t = ![0, 0] := by revert t; decide +kernel

/-- The one step reads all of the blocks and writes all of the total. -/
theorem place_in (t : Fin grid1.N) (y : (S8 88 1024).Idx) : (win1_0.rect t).emb y = y := by
  refine funext fun a => Fin.ext ((Window.rect_emb_val win1_0 t y a).trans ?_)
  rw [index_in]
  fin_cases a
  · show 0 * 8 + (y 0).val = (y 0).val; omega
  · show 0 * 88 + (y 1).val = (y 1).val; omega
  · show 0 * 1024 + (y 2).val = (y 2).val; omega

theorem place_out (t : Fin grid1.N) (y : (Sb 88 1024).Idx) : (win1_1.rect t).emb y = y := by
  refine funext fun a => Fin.ext ((Window.rect_emb_val win1_1 t y a).trans ?_)
  rw [index_out]
  fin_cases a
  · show 0 * 88 + (y 0).val = (y 0).val; omega
  · show 0 * 1024 + (y 1).val = (y 1).val; omega

theorem total_step (t : Fin grid1.N) : total (F := F) (n := 88) (w := 1024) (e := .f32) id (fun y => blocks m ((win1_0.rect t).emb y))
    = fun y => res m ((win1_1.rect t).emb y) := by
  funext y
  rw [place_out]
  exact total_at _ _ _ _ _ fun j => congrArg (blocks m) (place_in t _)

theorem before_in (c : Dev 8) (t : Fin cfg1.N) (d) : (sums m c).before 0 t d = fun y => blocks m ((win1_0.rect t).emb y) := by
  rw [Dat.before_fetched (sums m c) 0 t (fetch1_0 t)]
  unfold Dat.fetched Dat.blockOf; rfl

theorem inb_zero : ∀ a, (![0, 0] : Fin 2 → ℕ) a + (Sb 88 1024).size a ≤ (Sb 88 1024).size a := by decide

/-- The second kernel is the sum of eight blocks. -/
abbrev summing (t : Fin cfg1.N) : Prog (TpuEff 8 τ sig (Elt F) Λ₀ .tc) PUnit :=
  adds (F := F) (n := 88) (w := 1024) (e := .f32) id (win1_0.stage (cfg1.slots t 0)) (win1_1.stage (cfg1.slots t 1))
    shapeCasts_S1x88x1024_S88x1024 inb_zero (fun j => View.loadsAt_vmem h_S1x88x1024)
    (View.loadsAt_vmem h_S88x1024) (View.stores_vmem_bits_univ h_S88x1024 rfl)

theorem sum_kernel (t : Fin cfg1.N) : defs₀ (F := F) .tc cfg1.body (cfg1.bodyArgs t (cfg1.slots t)) = summing t := rfl

theorem sum_obligation (c : Dev 8) : BodyObligation (sums m c) (defs₀ (F := F)) Variants.none () Set.univ := fun t => by
  rw [bigSep_W1, bigSep_W1]
  show iprop(scratch c ∗ (sums m c).owesAt () t.castSucc
      ∗ iprop(∃ d, owns (c.tc : Thread 8 τ) (win1_0.stage (cfg1.slots t 0)) fullShare ((sums m c).before 0 t d))
      ∗ iprop(∃ d, owns (c.tc : Thread 8 τ) (win1_1.stage (cfg1.slots t 1)) fullShare ((sums m c).before 1 t d)))
    ⊢ wp frame (wpE (defs₀ (F := F)) Variants.none c.tc none) Set.univ
      (defs₀ (F := F) .tc cfg1.body (cfg1.bodyArgs t (cfg1.slots t)))
      fun _ => iprop(scratch c ∗ (sums m c).owesAt () t.castSucc
        ∗ owns (c.tc : Thread 8 τ) (win1_0.stage (cfg1.slots t 0)) fullShare (fun y => blocks m ((win1_0.rect t).emb y))
        ∗ owns (c.tc : Thread 8 τ) (win1_1.stage (cfg1.slots t 1)) fullShare (fun y => res m ((win1_1.rect t).emb y)))
  rw [sum_kernel t]
  iintro ⟨HR, HO, ⟨%d0, H0⟩, ⟨%d1, H1⟩⟩
  rw [before_in]
  have h := adds_runs (F := F) (τ := τ) (n := 88) (w := 1024) (e := .f32) id (win1_0.stage (cfg1.slots t 0)) (win1_1.stage (cfg1.slots t 1))
    shapeCasts_S1x88x1024_S88x1024 inb_zero (fun j => View.loadsAt_vmem h_S1x88x1024)
    (View.loadsAt_vmem h_S88x1024) (View.stores_vmem_bits_univ h_S88x1024 rfl)
    (defs₀ (F := F)) Variants.none c fullShare (fun y => blocks m ((win1_0.rect t).emb y)) ((sums m c).before 1 t d1)
    iprop(scratch c ∗ (sums m c).owesAt () t.castSucc
        ∗ owns (c.tc : Thread 8 τ) (win1_0.stage (cfg1.slots t 0)) fullShare (fun y => blocks m ((win1_0.rect t).emb y))
        ∗ owns (c.tc : Thread 8 τ) (win1_1.stage (cfg1.slots t 1)) fullShare (fun y => res m ((win1_1.rect t).emb y)))
  rw [total_step] at h
  iapply h $$ [H0 H1]
  · isplitl [H0]; · iexact H0
    iexact H1
  iintro ⟨H0, H1⟩
  isplitl [HR]; · iexact HR
  isplitl [HO]; · iexact HO
  isplitl [H0]; · iexact H0
  iexact H1

/-- All of the result is written. -/
theorem covered (i : (Sb 88 1024).Idx) : ∃ t : Fin cfg1.N, (cfg1.win 1).flush t = true ∧ i ∈ ((cfg1.win 1).blk t).view.set :=
  ⟨t1_0, flush1_1 _, (congrArg (· ∈ _) (place_out t1_0 i)).mp ((win1_1.blk t1_0).view.emb_mem_set i)⟩

theorem final (c : Dev 8) : (sums m c).arrAt 1 cfg1.N = res m :=
  Dat.arrAt_eq_of_cover (sums m c) 1 (res m) (fun t _ => rfl) covered

/-! ## The launch -/

def dats : (p : Fin 2) → (c : Dev 8) → Dat τ (Elt F) Unit ℕ (Gho 8 τ sig) ℕ (pin (pcfgs (F := F)) (adm (F := F)) p) c
  | 0, c => (S.opening m).data cfg0 rfl c
  | 1, c => sums m c

abbrev inPts (d : Dev 8) : sProp 𝕄 := (d.tc : Thread 8 τ).loc main_arg0 ↦{fullShare} m ((d.tc : Thread 8 τ).loc main_arg0)

theorem inPts_eq (d : Dev 8) : (inPts m d : sProp 𝕄) = S.inpPts m d fullShare :=
  congrArg (fun Z => ((d.tc : Thread 8 τ).loc main_arg0 ↦[Z]{fullShare} m ((d.tc : Thread 8 τ).loc main_arg0) : sProp 𝕄)) (View.set_whole main_arg0).symm

theorem room_all (d : Dev 8) (f : (S8 88 1024).Idx → Elt F .f32) : ((d.tc : Thread 8 τ).loc main_v1 ↦{fullShare} f : sProp 𝕄) ⊢ room d S.o := by
  have e : allM.view.set = Finset.univ := View.set_whole main_v1
  show _ ⊢ room d allM
  unfold room
  rw [e]
  iintro H; iexists f; iexact H

theorem holds_all (d : Dev 8) (f : (S8 88 1024).Idx → Elt F .f32) : (holds d S.o f : sProp 𝕄) = (d.tc : Thread 8 τ).loc main_v1 ↦{fullShare} f :=
  owns_whole (d.tc : Thread 8 τ) main_v1 fullShare f

/-- What the gather does not touch: the room for the result. -/
def rest (c : Dev 8) : sProp 𝕄 := (c.tc : Thread 8 τ).loc main_v2 ↦{fullShare} m ((c.tc : Thread 8 τ).loc main_v2)

/-- What a device ends with. -/
def post (c : Dev 8) : sProp 𝕄 := iprop(inPts m c ∗ ((c.tc : Thread 8 τ).loc main_v2 ↦{fullShare} res m))

theorem bufs (c : Dev 8) : (unscopedBufs c (fun b => m ((c.tc : Thread 8 τ).loc b)) : sProp 𝕄)
    ⊢ iprop(S.inpPts m c fullShare ∗ room c S.o ∗ rest m c) := by
  have h : (unscopedBufs c (fun b => m ((c.tc : Thread 8 τ).loc b)) : sProp 𝕄)
      = iprop(inPts m c ∗ ((c.tc : Thread 8 τ).loc main_v1 ↦{fullShare} m ((c.tc : Thread 8 τ).loc main_v1)) ∗ rest m c) := by
    unfold unscopedBufs
    exact BI.bigSep_eq_bigSepL_of_eq [main_arg0, main_v1, main_v2] (by decide) (by decide) _
  rw [h, inPts_eq]
  iintro ⟨Hx, Ho, Hr⟩
  isplitl [Hx]; · iexact Hx
  isplitl [Ho]
  · iapply (room_all c (m ((c.tc : Thread 8 τ).loc main_v1))); iexact Ho
  iexact Hr

theorem arrays_eq (c : Dev 8) (f : (S8 88 1024).Idx → Elt F .f32) (r : (Sb 88 1024).Idx → Elt F .f32)
    (F₀ : (v : Fin 2) → Buf (Elt F) ((cfg1.win v).arr.view.loc (c.tc : Thread 8 τ))) (h0 : F₀ 0 = f) (h1 : F₀ 1 = r) :
    ((sums m c).arrays F₀ : sProp 𝕄) = iprop(((c.tc : Thread 8 τ).loc main_v1 ↦{fullShare} f) ∗ ((c.tc : Thread 8 τ).loc main_v2 ↦{fullShare} r)) := by
  subst h0 h1
  unfold Dat.arrays
  rw [bigSep_W1]
  have e0 : (cfg1.win (0 : Fin 2)).arr.view.set = Finset.univ := View.set_whole _
  have e1 : (cfg1.win (1 : Fin 2)).arr.view.set = Finset.univ := View.set_whole _
  rw [e0, e1]
  rfl

theorem none_held (p : Fin 2) (c : Dev 8) : (prefHeld (pcfgs (F := F) p).pre c (fun _ => fullShare) (adm (F := F) p).1 : sProp 𝕄) = BI.emp :=
  (congrArg (fun Z => bigSep Z _) (Finset.univ_eq_empty (α := Fin 0))).trans BI.bigSep_empty

/-- From the gathered blocks the sum runs to the total. -/
theorem tail (c : Dev 8) : Opening.goes (S.opening m) (pcfgs (F := F)) (adm (F := F)) 0 (rest m) c
    ⊢ wp frame (wpE (defs (F := F)) (Variants.lift Variants.none) (c.tc : Thread 8 τ) none) Set.univ
      (.op (.customCall (Pipeline.entry 1) ()) fun _ => .ret PUnit.unit)
      fun _ => iprop(iprop(post m c ∗ boundary (c.tc : Thread 8 τ)) ∗ ∃ O, owes (c.tc : Thread 8 τ) (0 : CellTallies 8 τ sig Unit) O) := by
  have h := wp_later_region (pcfgs (F := F)) (adm (F := F)) (dats m) () cellOf_inj Opening.EP (defs₀ (F := F)) Variants.none Plan.L (S.opening (τ := τ) m).plan.lv 1 winFacts1.to₀
    block_pos1 stage_whole1 c (sum_obligation m c).loose (sums_scratch m c) (fun _ => rfl) (fun _ => rfl) (none_held 1 c) (Finset.univ.erase 0) (by decide)
    (fun _ => .ret PUnit.unit) (fun _ => iprop(iprop(post m c ∗ boundary (c.tc : Thread 8 τ)) ∗ ∃ O, owes (c.tc : Thread 8 τ) (0 : CellTallies 8 τ sig Unit) O))
  have a0 : ((dats m 1 c).arrays ((dats m 1 c).arrAt · 0) : sProp 𝕄) = _ := arrays_eq m c (blocks m) (m ((c.tc : Thread 8 τ).loc main_v2)) _ rfl rfl
  have a1 : ((dats m 1 c).arrays ((dats m 1 c).arrAt · (pin (pcfgs (F := F)) (adm (F := F)) 1).N) : sProp 𝕄) = _ :=
    arrays_eq m c (blocks m) (res m) _ (Dat.arrAt_in (sums m c) 0 rfl _) (final m c)
  rw [a0, a1] at h
  refine Entails.trans ?_ h
  unfold Opening.goes
  rw [show (S.opening m).leave c = iprop(S.inpPts m c fullShare ∗ holds c S.o (blocks m)) from rfl, holds_all, ← inPts_eq]
  iintro ⟨Hb, ⟨Hx, Ho⟩, Hr, HO, HL, Hg⟩
  isplitl [Hx]
  · iintro ⟨Hb, ⟨-, Hr⟩, HO⟩
    rw [wp_ret]; imodintro
    isplitr [HO]
    · isplitr [Hb]
      · unfold post
        isplitl [Hx]; · iexact Hx
        iexact Hr
      iexact Hb
    iexact HO
  isplitl [Hb]; · iexact Hb
  isplitl [Ho Hr]
  · isplitl [Ho]; · iexact Ho
    unfold rest; iexact Hr
  isplitl [HO]; · iexact HO
  isplitl [HL]; · iexact HL
  iexact Hg

/-- What is shown of a device's memory. -/
def shown (c : Dev 8) (s : MemSt 8 τ sig (Elt F)) : Prop :=
  s.mem ((c.tc : Thread 8 τ).loc main_arg0) = m ((c.tc : Thread 8 τ).loc main_arg0) ∧ s.mem ((c.tc : Thread 8 τ).loc main_v2) = res m

theorem read_off (c : Dev 8) (s : Phys 8 τ sig (Elt F)) : iprop(post m c ∗ SI s) ⊢ (|={Set.univ}=> iprop(⌜shown m c s.mem⌝ ∗ SI s) : sProp 𝕄) := by
  unfold post
  iintro ⟨⟨Hx, Hf⟩, HS⟩
  ihave %h₁ := (SI_pointsTo_agree) $$ [HS Hx]
  · isplitl [HS]; · iexact HS
    iexact Hx
  ihave %h₂ := (SI_pointsTo_agree) $$ [HS Hf]
  · isplitl [HS]; · iexact HS
    iexact Hf
  imodintro
  isplitr
  · ipureintro
    exact ⟨funext fun i => h₁ i (Finset.mem_univ i), funext fun i => h₂ i (Finset.mem_univ i)⟩
  iexact HS

theorem ownSemFacts : OwnSemFacts cfg0.spec (S.opening (τ := τ) m).plan.osem := by
  show OwnSemFacts cfg0.spec (fun k : Fin 15 => (.dma (k.castLE (by decide)) : SemLoc sig))
  decide

/-- The run of the whole program: on every device the input stays and the result is the total of the blocks of all. -/
theorem run_main : θ_run (defs (F := F)) (onTc (main (F := F))) ⟨m, fun _ => 0, g⟩ (fun r => (∀ c, shown m c r.2) ∧ r.2.sem = fun _ => 0) :=
  Opening.run_opening (S.opening m) m (pcfgs (F := F)) (adm (F := F)) (dats m) cellOf_inj (defs₀ (F := F)) g 0 rfl winFacts0.to₀ (ownSemFacts m) (rest m) (bufs m)
    N_0 (none_held 0) (fun _ => rfl) (fun v => v.elim0) (fun c t => gather_runs m c) main _ (fun _ => rfl) (post m) (tail m) (shown m) (read_off m)
    (fun s h hs => ⟨h, sem_eq_zero_of_scoped (by decide) hs⟩)

/-! ## The claims -/

/-- The run leaves its argument and its counters as they were. -/
theorem keeps : θ_run (defs (F := F)) (onTc (main (F := F))) ⟨m, fun _ => 0, g⟩
    (fun r => (∀ c : Dev 8, r.2.mem ((c.tc : Thread 8 τ).loc main_arg0) = m ((c.tc : Thread 8 τ).loc main_arg0)) ∧ r.2.sem = fun _ => 0) :=
  (θ_run _ _ _).mono (fun _ h => ⟨fun c => (h.1 c).1, h.2⟩) (run_main m g)

/-- The total of the blocks of a whole array of rows is the sum along the first axis of the array cut into them. -/
theorem total_blocks {n w N : ℕ} (v : (⟨2, ![N, w]⟩ : Shape).Idx → Elt Ideal .f32) (ht : Layout.Tiles ⟨2, ![n, w]⟩ ⟨2, ![N, w]⟩ 0 8)
    (hc : (⟨2, ![N, w]⟩ : Shape).ShapeCasts ⟨3, ![8, n, w]⟩) (hr : (⟨3, ![8, n, w]⟩ : Shape).ReducesTo [0] ⟨2, ![n, w]⟩)
    (hs : (⟨3, ![8, n, w]⟩ : Shape).Reduces [0] ⟨2, ![n, w]⟩) (hu : 0 < (⟨0, ![]⟩ : Shape).numel) :
    total (F := Ideal) (n := n) (w := w) (e := .f32) id (glue fun b => Layout.block ⟨2, ![n, w]⟩ ⟨2, ![N, w]⟩ 0 8 b v ht)
      = Host.reduceAdd (shapeCast ⟨3, ![8, n, w]⟩ v hc : FVec Ideal ⟨3, ![8, n, w]⟩ .f32) (constant (F := Ideal) ⟨0, ![]⟩ .f32 0x00000000#32) hr hu := by
  funext x
  rw [ValueIdx.hostReduceAdd_apply, Ideal.hostReduceAdd_single hr hs]
  have hz : constant (F := Ideal) ⟨0, ![]⟩ .f32 0x00000000#32 (Shape.Idx.first hu) = (0 : EReal) := Ideal.ofBits_zero_f32
  rw [hz, zero_add]
  refine Eq.trans ?_ (Finset.sum_congr rfl fun k _ => (reshape_blocks v ht hc (hs.lift _ k)).symm)
  refine Eq.trans ?_ (Fin.sum_univ_eight _).symm
  rfl

/-- At the extended reals, every device ends with the sum over the eight blocks of the whole array. -/
theorem sums_up (m : (ℓ : Loc 8 τ sig) → Buf (Elt Ideal) ℓ) (g : Dev 8 → PrngReg) (v : (⟨2, ![704, 1024]⟩ : Shape).Idx → Elt Ideal .f32)
    (ht : Layout.Tiles ⟨2, ![88, 1024]⟩ ⟨2, ![704, 1024]⟩ 0 8) (hc : (⟨2, ![704, 1024]⟩ : Shape).ShapeCasts ⟨3, ![8, 88, 1024]⟩)
    (hr : (⟨3, ![8, 88, 1024]⟩ : Shape).ReducesTo [0] ⟨2, ![88, 1024]⟩) (hs : (⟨3, ![8, 88, 1024]⟩ : Shape).Reduces [0] ⟨2, ![88, 1024]⟩)
    (hu : 0 < (⟨0, ![]⟩ : Shape).numel)
    (h : ∀ c : Dev 8, m ((c.tc : Thread 8 τ).loc main_arg0) = Layout.block ⟨2, ![88, 1024]⟩ ⟨2, ![704, 1024]⟩ 0 8 c v ht) :
    θ_run (defs (F := Ideal)) (onTc (main (F := Ideal))) ⟨m, fun _ => 0, g⟩ (fun r => ∀ c : Dev 8,
      r.2.mem ((c.tc : Thread 8 τ).loc main_v2) = Host.reduceAdd (shapeCast ⟨3, ![8, 88, 1024]⟩ v hc : FVec Ideal ⟨3, ![8, 88, 1024]⟩ .f32)
          (constant (F := Ideal) ⟨0, ![]⟩ .f32 0x00000000#32) hr hu
      ∧ r.2.mem ((c.tc : Thread 8 τ).loc main_arg0) = m ((c.tc : Thread 8 τ).loc main_arg0)) :=
  (θ_run _ _ _).mono (fun _ hr' c => ⟨(hr'.1 c).2.trans ((congrArg (fun X : Dev 8 → (Sb 88 1024).Idx → Elt Ideal .f32 =>
      total (F := Ideal) (n := 88) (w := 1024) (e := .f32) id (glue X)) (funext h)).trans (total_blocks v ht hc hr hs hu)), (hr'.1 c).1⟩)
    (run_main m g)

end Cert.SmallIdeal.Run

end
-- ==== Proof.lean ====
/-
# The claims

The claims of the test file, put together from the runs of the general all-gather (`Cert.Spread`) and the general
reduce-scatter (`Cert.Reduce`) at the rows of each layer, from the run of the small program (`Cert.SmallIdeal.Run`),
from the AdamW step (`Cert.Adam`) and the generated runs
of its kernels, and from the generated runs of the references.
-/
module

public import proofs.«01_k».proof.Defs
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherRefIdeal
public import proofs.«01_k».proof.Proof.Gen.GatherRef
public import proofs.«01_k».proof.Proof.Gen.GatherRef.Run
public import proofs.«01_k».proof.Proof.Gen.GatherRefIdeal.Run
public import proofs.«01_k».proof.Proof.Gen.Scatter
public import proofs.«01_k».proof.Proof.Gen.Scatter.Skeleton
public import proofs.«01_k».proof.Proof.Gen.Scatter.Launch
public import proofs.«01_k».proof.Proof.Gen.Scatter.Points
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Points
public import proofs.«01_k».proof.Proof.Gen.ScatterRefIdeal
public import proofs.«01_k».proof.Proof.Gen.ScatterRefIdeal.Run
public import proofs.«01_k».proof.Proof.Gen.ScatterIdeal.Regions
public import proofs.«01_k».proof.Proof.Gen.ScatterRef1Ideal.Run
public import proofs.«01_k».proof.Proof.Gen.ScatterRef2Ideal.Run
public import proofs.«01_k».proof.Proof.Gen.Scatter1
public import proofs.«01_k».proof.Proof.Gen.Scatter1Ideal
public import proofs.«01_k».proof.Proof.Gen.Scatter1Ideal.Skeleton
public import proofs.«01_k».proof.Proof.Gen.Scatter1Ideal.Launch
public import proofs.«01_k».proof.Proof.Gen.Scatter1Ideal.Points
public import proofs.«01_k».proof.Proof.Gen.Scatter1Ideal.Regions
public import proofs.«01_k».proof.Proof.Gen.Scatter2
public import proofs.«01_k».proof.Proof.Gen.Scatter2Ideal
public import proofs.«01_k».proof.Proof.Gen.Scatter2Ideal.Skeleton
public import proofs.«01_k».proof.Proof.Gen.Scatter2Ideal.Launch
public import proofs.«01_k».proof.Proof.Gen.Scatter2Ideal.Points
public import proofs.«01_k».proof.Proof.Gen.Scatter2Ideal.Regions
public import proofs.«01_k».proof.Proof.Gen.GatherRef1.Run
public import proofs.«01_k».proof.Proof.Gen.GatherRef1Ideal.Run
public import proofs.«01_k».proof.Proof.Gen.Gather1
public import proofs.«01_k».proof.Proof.Gen.Gather1Ideal
public import proofs.«01_k».proof.Proof.Gen.Gather1Ideal.Skeleton
public import proofs.«01_k».proof.Proof.Gen.Gather1Ideal.Launch
public import proofs.«01_k».proof.Proof.Gen.Gather1Ideal.Points
public import proofs.«01_k».proof.Proof.Gen.GatherRef2.Run
public import proofs.«01_k».proof.Proof.Gen.GatherRef2Ideal.Run
public import proofs.«01_k».proof.Proof.Gen.Gather2
public import proofs.«01_k».proof.Proof.Gen.Gather2Ideal
public import proofs.«01_k».proof.Proof.Gen.Gather2Ideal.Skeleton
public import proofs.«01_k».proof.Proof.Gen.Gather2Ideal.Launch
public import proofs.«01_k».proof.Proof.Gen.Gather2Ideal.Points
public import proofs.«01_k».proof.Proof.Gen.Small
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Regions
public import proofs.«01_k».proof.Proof.Gen.SmallRefIdeal.Run
public import proofs.«01_k».proof.Proof.Gen.Adam0.Frame
public import proofs.«01_k».proof.Proof.Gen.Adam0Ideal.Value
public import proofs.«01_k».proof.Proof.Gen.AdamRef0Ideal.Run
public import proofs.«01_k».proof.Proof.Gen.Adam1.Frame
public import proofs.«01_k».proof.Proof.Gen.Adam1Ideal.Value
public import proofs.«01_k».proof.Proof.Gen.AdamRef1Ideal.Run
public import proofs.«01_k».proof.Proof.Gen.Adam2.Frame
public import proofs.«01_k».proof.Proof.Gen.Adam2Ideal.Value
public import proofs.«01_k».proof.Proof.Gen.AdamRef2Ideal.Run
public import proofs.«01_k».proof.Proof.Gen.Adam3.Frame
public import proofs.«01_k».proof.Proof.Gen.Adam3Ideal.Value
public import proofs.«01_k».proof.Proof.Gen.AdamRef3Ideal.Run
public import proofs.«01_k».proof.Proof.Gen.Adam4.Frame
public import proofs.«01_k».proof.Proof.Gen.Adam4Ideal.Value
public import proofs.«01_k».proof.Proof.Gen.AdamRef4Ideal.Run
public import proofs.«01_k».proof.Proof.Gen.Adam5.Frame
public import proofs.«01_k».proof.Proof.Gen.Adam5Ideal.Value
public import proofs.«01_k».proof.Proof.Gen.AdamRef5Ideal.Run
public import proofs.«01_k».proof.Proof.Gen.Adam6.Frame
public import proofs.«01_k».proof.Proof.Gen.Adam6Ideal.Value
public import proofs.«01_k».proof.Proof.Gen.AdamRef6Ideal.Run
public import proofs.«01_k».proof.Proof.Gen.Adam7.Frame
public import proofs.«01_k».proof.Proof.Gen.Adam7Ideal.Value
public import proofs.«01_k».proof.Proof.Gen.AdamRef7Ideal.Run
public import proofs.«01_k».proof.Proof.Gen.Adam8.Frame
public import proofs.«01_k».proof.Proof.Gen.Adam8Ideal.Value
public import proofs.«01_k».proof.Proof.Gen.AdamRef8Ideal.Run
public import proofs.«01_k».proof.Proof.Gen.Adam9.Frame
public import proofs.«01_k».proof.Proof.Gen.Adam9Ideal.Value
public import proofs.«01_k».proof.Proof.Gen.AdamRef9Ideal.Run
public import proofs.«01_k».proof.Proof.Gen.Adam10.Frame
public import proofs.«01_k».proof.Proof.Gen.Adam10Ideal.Value
public import proofs.«01_k».proof.Proof.Gen.AdamRef10Ideal.Run
public import proofs.«01_k».proof.Proof.Gen.Adam11.Frame
public import proofs.«01_k».proof.Proof.Gen.Adam11Ideal.Value
public import proofs.«01_k».proof.Proof.Gen.AdamRef11Ideal.Run
public import proofs.«01_k».proof.Proof.Gen.Adam12.Frame
public import proofs.«01_k».proof.Proof.Gen.Adam12Ideal.Value
public import proofs.«01_k».proof.Proof.Gen.AdamRef12Ideal.Run
public import proofs.«01_k».proof.Proof.Gen.Adam13.Frame
public import proofs.«01_k».proof.Proof.Gen.Adam13Ideal.Value
public import proofs.«01_k».proof.Proof.Gen.AdamRef13Ideal.Run
public import proofs.«01_k».proof.Proof.Gen.Mul0.Frame
public import proofs.«01_k».proof.Proof.Gen.Mul0Ideal.Value
public import proofs.«01_k».proof.Proof.Gen.MulRef0Ideal.Run
public import proofs.«01_k».proof.Proof.Gen.Mul1.Frame
public import proofs.«01_k».proof.Proof.Gen.Mul1Ideal.Value
public import proofs.«01_k».proof.Proof.Gen.MulRef1Ideal.Run
public import proofs.«01_k».proof.Proof.Gen.Mul2.Frame
public import proofs.«01_k».proof.Proof.Gen.Mul2Ideal.Value
public import proofs.«01_k».proof.Proof.Gen.MulRef2Ideal.Run
public import proofs.«01_k».proof.Proof.Gen.Mul3.Frame
public import proofs.«01_k».proof.Proof.Gen.Mul3Ideal.Value
public import proofs.«01_k».proof.Proof.Gen.MulRef3Ideal.Run
public import proofs.«01_k».proof.Proof.Gen.Mul4.Frame
public import proofs.«01_k».proof.Proof.Gen.Mul4Ideal.Value
public import proofs.«01_k».proof.Proof.Gen.MulRef4Ideal.Run
public import proofs.«01_k».proof.Proof.Gen.Mul5.Frame
public import proofs.«01_k».proof.Proof.Gen.Mul5Ideal.Value
public import proofs.«01_k».proof.Proof.Gen.MulRef5Ideal.Run
public import proofs.«01_k».proof.Proof.Gen.Dx0.Frame
public import proofs.«01_k».proof.Proof.Gen.Dx0Ideal.Value
public import proofs.«01_k».proof.Proof.Gen.DxRef0Ideal.Run
public import proofs.«01_k».proof.Proof.Gen.Dx1.Frame
public import proofs.«01_k».proof.Proof.Gen.Dx1Ideal.Value
public import proofs.«01_k».proof.Proof.Gen.DxRef1Ideal.Run
public import proofs.«01_k».proof.Proof.Gen.Dx2.Frame
public import proofs.«01_k».proof.Proof.Gen.Dx2Ideal.Value
public import proofs.«01_k».proof.Proof.Gen.DxRef2Ideal.Run
public import proofs.«01_k».proof.Proof.Gen.Dx3.Frame
public import proofs.«01_k».proof.Proof.Gen.Dx3Ideal.Value
public import proofs.«01_k».proof.Proof.Gen.DxRef3Ideal.Run
public import proofs.«01_k».proof.Proof.Gen.Dx4.Frame
public import proofs.«01_k».proof.Proof.Gen.Dx4Ideal.Value
public import proofs.«01_k».proof.Proof.Gen.DxRef4Ideal.Run
public import proofs.«01_k».proof.Proof.Gen.Dx5.Frame
public import proofs.«01_k».proof.Proof.Gen.Dx5Ideal.Value
public import proofs.«01_k».proof.Proof.Gen.DxRef5Ideal.Run
public import proofs.«01_k».proof.Proof.Gen.Dx6.Frame
public import proofs.«01_k».proof.Proof.Gen.Dx6Ideal.Value
public import proofs.«01_k».proof.Proof.Gen.DxRef6Ideal.Run
public import proofs.«01_k».proof.Proof.Gen.Dw0.Frame
public import proofs.«01_k».proof.Proof.Gen.Dw0Ideal.Value
public import proofs.«01_k».proof.Proof.Gen.DwRef0Ideal.Run
public import proofs.«01_k».proof.Proof.Gen.Dw1.Frame
public import proofs.«01_k».proof.Proof.Gen.Dw1Ideal.Value
public import proofs.«01_k».proof.Proof.Gen.DwRef1Ideal.Run
public import proofs.«01_k».proof.Proof.Gen.Dw2.Frame
public import proofs.«01_k».proof.Proof.Gen.Dw2Ideal.Value
public import proofs.«01_k».proof.Proof.Gen.DwRef2Ideal.Run
public import proofs.«01_k».proof.Proof.Gen.Dw3.Frame
public import proofs.«01_k».proof.Proof.Gen.Dw3Ideal.Value
public import proofs.«01_k».proof.Proof.Gen.DwRef3Ideal.Run
public import proofs.«01_k».proof.Proof.Gen.Dw4.Frame
public import proofs.«01_k».proof.Proof.Gen.Dw4Ideal.Value
public import proofs.«01_k».proof.Proof.Gen.DwRef4Ideal.Run
public import proofs.«01_k».proof.Proof.Gen.Dw5.Frame
public import proofs.«01_k».proof.Proof.Gen.Dw5Ideal.Value
public import proofs.«01_k».proof.Proof.Gen.DwRef5Ideal.Run
public import proofs.«01_k».proof.Proof.Gen.Dw6.Frame
public import proofs.«01_k».proof.Proof.Gen.Dw6Ideal.Value
public import proofs.«01_k».proof.Proof.Gen.DwRef6Ideal.Run
public import proofs.«01_k».proof.Proof.Gen.Mul6.Frame
public import proofs.«01_k».proof.Proof.Gen.Mul6Ideal.Value
public import proofs.«01_k».proof.Proof.Gen.MulRef6Ideal.Run
public import proofs.«01_k».proof.Proof.Gen.Norm0.Frame
public import proofs.«01_k».proof.Proof.Gen.Norm0Ideal.Value
public import proofs.«01_k».proof.Proof.Gen.NormRef0Ideal.Run
public import proofs.«01_k».proof.Proof.Gen.Norm1.Frame
public import proofs.«01_k».proof.Proof.Gen.Norm1Ideal.Value
public import proofs.«01_k».proof.Proof.Gen.NormRef1Ideal.Run
public import proofs.«01_k».proof.Proof.Gen.Conv.Frame
public import proofs.«01_k».proof.Proof.Gen.ConvIdeal.Value
public import proofs.«01_k».proof.Proof.Gen.ConvRefIdeal.Run
public import proofs.«01_k».proof.Proof.Gen.Glu.Frame
public import proofs.«01_k».proof.Proof.Gen.GluIdeal.Value
public import proofs.«01_k».proof.Proof.Gen.GluRefIdeal.Run
public import proofs.«01_k».proof.Proof.Adam
public import proofs.«01_k».proof.Proof.Product
public import proofs.«01_k».proof.Proof.Whole
public import proofs.«01_k».proof.Proof.Sums
public import proofs.«01_k».proof.Proof.Norm
public import proofs.«01_k».proof.Proof.Turned
public import proofs.«01_k».proof.Proof.ActGrad
public import proofs.«01_k».proof.Proof.WeightGrad
public import proofs.«01_k».proof.Proof.ShortConv
public import proofs.«01_k».proof.Proof.Glu
public import proofs.«01_k».proof.Proof.Gather0
public import proofs.«01_k».proof.Proof.Gather1
public import proofs.«01_k».proof.Proof.Gather2
public import proofs.«01_k».proof.Proof.GatherValue
public import proofs.«01_k».proof.Proof.Reduce0
public import proofs.«01_k».proof.Proof.Reduce1
public import proofs.«01_k».proof.Proof.Reduce2
public import proofs.«01_k».proof.Proof.ReduceValue
public import proofs.«01_k».proof.Proof.SmallRun
public import Idealize.ShloMosaic.Adequacy
public import Idealize.ShloMosaic.Init

@[expose] public section

noncomputable section

namespace Cert.Proof

open Idealize.ShloMosaic Idealize.SL.Sem Cert.Gather

/-! ## The all-gather -/

/-- The two printings of the program of 13824 rows run the same body. -/
theorem gather_bodies {F : FTy → Type} [FloatOps F] [Cert.Gather.Facts] [Cert.GatherIdeal.Facts] :
    Cert.Gather.defs₀ (F := F) = Cert.GatherIdeal.defs₀ (F := F) := by
  refine congrArg Defs.onTc (funext fun l => ?_)
  match l with
  | 0 => rfl

theorem frame_gather : Cert.quiescent_Gather := fun m g _ =>
  Cert.Spread.keeps Cert.GatherIdeal.Run.fits (F := Bits) (gather_bodies (F := Bits) ▸ Cert.GatherIdeal.Run.body (F := Bits)) m g

theorem frame_gatherIdeal : Cert.quiescent_GatherIdeal := fun m g _ =>
  Cert.Spread.keeps Cert.GatherIdeal.Run.fits (F := Ideal) Cert.GatherIdeal.Run.body m g

theorem frame_gatherRefIdeal : Cert.quiescent_GatherRefIdeal := fun m g _ =>
  (θ_run Cert.GatherRefIdeal.defs _ _).mono (fun r h => ⟨fun c => (h c).2, sem_eq_zero_of_no_sems rfl r.2⟩) (Cert.GatherRefIdeal.Value.run (F := Ideal) m g)

theorem frame_gatherRef : Cert.quiescent_GatherRef := fun m g _ =>
  (θ_run Cert.GatherRef.defs _ _).mono (fun r h => ⟨fun c => (h c).2, sem_eq_zero_of_no_sems rfl r.2⟩) (Cert.GatherRef.Value.run (F := Bits) m g)

theorem algebraic_gather : Cert.algebraic_GatherIdeal_GatherRefIdeal := fun m g m' g' _ h =>
  ⟨_, Cert.Spread.spreads Cert.GatherIdeal.Run.fits (F := Ideal) Cert.GatherIdeal.Run.body m g (N := 110592) _ (by decide) _ h,
    (θ_run Cert.GatherRefIdeal.defs _ _).mono (fun _ hr => hr 0) (Cert.GatherRefIdeal.Value.run (F := Ideal) m' g')⟩

theorem bitexact_gather : Cert.bitexact_Gather_GatherRef := fun m g m' g' _ h =>
  ⟨_, Cert.Spread.spreads Cert.GatherIdeal.Run.fits (F := Bits) (gather_bodies (F := Bits) ▸ Cert.GatherIdeal.Run.body (F := Bits)) m g (N := 110592) _ (by decide) _ h,
    (θ_run Cert.GatherRef.defs _ _).mono (fun _ hr => hr 0) (Cert.GatherRef.Value.run (F := Bits) m' g')⟩

/-- The two printings of the program of 11264 rows run the same body. -/
theorem gather1_bodies {F : FTy → Type} [FloatOps F] [Cert.Gather1.Facts] [Cert.Gather1Ideal.Facts] :
    Cert.Gather1.defs₀ (F := F) = Cert.Gather1Ideal.defs₀ (F := F) := by
  refine congrArg Defs.onTc (funext fun l => ?_)
  match l with
  | 0 => rfl

theorem frame_gather1 : Cert.quiescent_Gather1 := fun m g _ =>
  Cert.Spread.keeps Cert.Gather1Ideal.Run.fits (F := Bits) (gather1_bodies (F := Bits) ▸ Cert.Gather1Ideal.Run.body (F := Bits)) m g

theorem frame_gather1Ideal : Cert.quiescent_Gather1Ideal := fun m g _ =>
  Cert.Spread.keeps Cert.Gather1Ideal.Run.fits (F := Ideal) Cert.Gather1Ideal.Run.body m g

theorem frame_gatherRef1Ideal : Cert.quiescent_GatherRef1Ideal := fun m g _ =>
  (θ_run Cert.GatherRef1Ideal.defs _ _).mono (fun r h => ⟨fun c => (h c).2, sem_eq_zero_of_no_sems rfl r.2⟩) (Cert.GatherRef1Ideal.Value.run (F := Ideal) m g)

theorem frame_gatherRef1 : Cert.quiescent_GatherRef1 := fun m g _ =>
  (θ_run Cert.GatherRef1.defs _ _).mono (fun r h => ⟨fun c => (h c).2, sem_eq_zero_of_no_sems rfl r.2⟩) (Cert.GatherRef1.Value.run (F := Bits) m g)

theorem algebraic_gather1 : Cert.algebraic_Gather1Ideal_GatherRef1Ideal := fun m g m' g' _ h =>
  ⟨_, Cert.Spread.spreads Cert.Gather1Ideal.Run.fits (F := Ideal) Cert.Gather1Ideal.Run.body m g (N := 90112) _ (by decide) _ h,
    (θ_run Cert.GatherRef1Ideal.defs _ _).mono (fun _ hr => hr 0) (Cert.GatherRef1Ideal.Value.run (F := Ideal) m' g')⟩

theorem bitexact_gather1 : Cert.bitexact_Gather1_GatherRef1 := fun m g m' g' _ h =>
  ⟨_, Cert.Spread.spreads Cert.Gather1Ideal.Run.fits (F := Bits) (gather1_bodies (F := Bits) ▸ Cert.Gather1Ideal.Run.body (F := Bits)) m g (N := 90112) _ (by decide) _ h,
    (θ_run Cert.GatherRef1.defs _ _).mono (fun _ hr => hr 0) (Cert.GatherRef1.Value.run (F := Bits) m' g')⟩

/-- The two printings of the program of 12800 rows run the same body. -/
theorem gather2_bodies {F : FTy → Type} [FloatOps F] [Cert.Gather2.Facts] [Cert.Gather2Ideal.Facts] :
    Cert.Gather2.defs₀ (F := F) = Cert.Gather2Ideal.defs₀ (F := F) := by
  refine congrArg Defs.onTc (funext fun l => ?_)
  match l with
  | 0 => rfl

theorem frame_gather2 : Cert.quiescent_Gather2 := fun m g _ =>
  Cert.Spread.keeps Cert.Gather2Ideal.Run.fits (F := Bits) (gather2_bodies (F := Bits) ▸ Cert.Gather2Ideal.Run.body (F := Bits)) m g

theorem frame_gather2Ideal : Cert.quiescent_Gather2Ideal := fun m g _ =>
  Cert.Spread.keeps Cert.Gather2Ideal.Run.fits (F := Ideal) Cert.Gather2Ideal.Run.body m g

theorem frame_gatherRef2Ideal : Cert.quiescent_GatherRef2Ideal := fun m g _ =>
  (θ_run Cert.GatherRef2Ideal.defs _ _).mono (fun r h => ⟨fun c => (h c).2, sem_eq_zero_of_no_sems rfl r.2⟩) (Cert.GatherRef2Ideal.Value.run (F := Ideal) m g)

theorem frame_gatherRef2 : Cert.quiescent_GatherRef2 := fun m g _ =>
  (θ_run Cert.GatherRef2.defs _ _).mono (fun r h => ⟨fun c => (h c).2, sem_eq_zero_of_no_sems rfl r.2⟩) (Cert.GatherRef2.Value.run (F := Bits) m g)

theorem algebraic_gather2 : Cert.algebraic_Gather2Ideal_GatherRef2Ideal := fun m g m' g' _ h =>
  ⟨_, Cert.Spread.spreads Cert.Gather2Ideal.Run.fits (F := Ideal) Cert.Gather2Ideal.Run.body m g (N := 102400) _ (by decide) _ h,
    (θ_run Cert.GatherRef2Ideal.defs _ _).mono (fun _ hr => hr 0) (Cert.GatherRef2Ideal.Value.run (F := Ideal) m' g')⟩

theorem bitexact_gather2 : Cert.bitexact_Gather2_GatherRef2 := fun m g m' g' _ h =>
  ⟨_, Cert.Spread.spreads Cert.Gather2Ideal.Run.fits (F := Bits) (gather2_bodies (F := Bits) ▸ Cert.Gather2Ideal.Run.body (F := Bits)) m g (N := 102400) _ (by decide) _ h,
    (θ_run Cert.GatherRef2.defs _ _).mono (fun _ hr => hr 0) (Cert.GatherRef2.Value.run (F := Bits) m' g')⟩

/-! ## The reduce-scatter -/

/-- The two printings of the program of 13824 rows run the same bodies. -/
theorem scatter_bodies {F : FTy → Type} [FloatOps F] [Cert.Scatter.Facts] [Cert.ScatterIdeal.Facts] :
    Cert.Scatter.defs₀ (F := F) = Cert.ScatterIdeal.defs₀ (F := F) := by
  refine congrArg Defs.onTc (funext fun l => ?_)
  match l with
  | 0 => rfl
  | 1 => rfl

theorem frame_scatter : Cert.quiescent_Scatter := fun m g _ =>
  Cert.Reduce.keeps Cert.ScatterIdeal.Run.fits (F := Bits) (scatter_bodies (F := Bits) ▸ Cert.ScatterIdeal.Run.bodies (F := Bits)) m g

theorem frame_scatterIdeal : Cert.quiescent_ScatterIdeal := fun m g _ =>
  Cert.Reduce.keeps Cert.ScatterIdeal.Run.fits (F := Ideal) Cert.ScatterIdeal.Run.bodies m g

theorem frame_scatterRefIdeal : Cert.quiescent_ScatterRefIdeal := fun m g _ =>
  (θ_run Cert.ScatterRefIdeal.defs _ _).mono (fun r h => ⟨fun c => (h c).2, sem_eq_zero_of_no_sems rfl r.2⟩) (Cert.ScatterRefIdeal.Value.run (F := Ideal) m g)

theorem algebraic_scatter : Cert.algebraic_ScatterIdeal_ScatterRefIdeal := fun m g m' g' _ h =>
  ⟨_, Cert.Reduce.reduces Cert.ScatterIdeal.Run.fits Cert.ScatterIdeal.Run.bodies m g (N := 110592) _ (by decide) (by decide) _ _ _ (by decide) _ _ h,
    (θ_run Cert.ScatterRefIdeal.defs _ _).mono (fun _ hr => hr 0) (Cert.ScatterRefIdeal.Value.run (F := Ideal) m' g')⟩

/-- The two printings of the program of 11264 rows run the same bodies. -/
theorem scatter1_bodies {F : FTy → Type} [FloatOps F] [Cert.Scatter1.Facts] [Cert.Scatter1Ideal.Facts] :
    Cert.Scatter1.defs₀ (F := F) = Cert.Scatter1Ideal.defs₀ (F := F) := by
  refine congrArg Defs.onTc (funext fun l => ?_)
  match l with
  | 0 => rfl
  | 1 => rfl

theorem frame_scatter1 : Cert.quiescent_Scatter1 := fun m g _ =>
  Cert.Reduce.keeps Cert.Scatter1Ideal.Run.fits (F := Bits) (scatter1_bodies (F := Bits) ▸ Cert.Scatter1Ideal.Run.bodies (F := Bits)) m g

theorem frame_scatter1Ideal : Cert.quiescent_Scatter1Ideal := fun m g _ =>
  Cert.Reduce.keeps Cert.Scatter1Ideal.Run.fits (F := Ideal) Cert.Scatter1Ideal.Run.bodies m g

theorem frame_scatterRef1Ideal : Cert.quiescent_ScatterRef1Ideal := fun m g _ =>
  (θ_run Cert.ScatterRef1Ideal.defs _ _).mono (fun r h => ⟨fun c => (h c).2, sem_eq_zero_of_no_sems rfl r.2⟩) (Cert.ScatterRef1Ideal.Value.run (F := Ideal) m g)

theorem algebraic_scatter1 : Cert.algebraic_Scatter1Ideal_ScatterRef1Ideal := fun m g m' g' _ h =>
  ⟨_, Cert.Reduce.reduces Cert.Scatter1Ideal.Run.fits Cert.Scatter1Ideal.Run.bodies m g (N := 90112) _ (by decide) (by decide) _ _ _ (by decide) _ _ h,
    (θ_run Cert.ScatterRef1Ideal.defs _ _).mono (fun _ hr => hr 0) (Cert.ScatterRef1Ideal.Value.run (F := Ideal) m' g')⟩

/-- The two printings of the program of 12800 rows run the same bodies. -/
theorem scatter2_bodies {F : FTy → Type} [FloatOps F] [Cert.Scatter2.Facts] [Cert.Scatter2Ideal.Facts] :
    Cert.Scatter2.defs₀ (F := F) = Cert.Scatter2Ideal.defs₀ (F := F) := by
  refine congrArg Defs.onTc (funext fun l => ?_)
  match l with
  | 0 => rfl
  | 1 => rfl

theorem frame_scatter2 : Cert.quiescent_Scatter2 := fun m g _ =>
  Cert.Reduce.keeps Cert.Scatter2Ideal.Run.fits (F := Bits) (scatter2_bodies (F := Bits) ▸ Cert.Scatter2Ideal.Run.bodies (F := Bits)) m g

theorem frame_scatter2Ideal : Cert.quiescent_Scatter2Ideal := fun m g _ =>
  Cert.Reduce.keeps Cert.Scatter2Ideal.Run.fits (F := Ideal) Cert.Scatter2Ideal.Run.bodies m g

theorem frame_scatterRef2Ideal : Cert.quiescent_ScatterRef2Ideal := fun m g _ =>
  (θ_run Cert.ScatterRef2Ideal.defs _ _).mono (fun r h => ⟨fun c => (h c).2, sem_eq_zero_of_no_sems rfl r.2⟩) (Cert.ScatterRef2Ideal.Value.run (F := Ideal) m g)

theorem algebraic_scatter2 : Cert.algebraic_Scatter2Ideal_ScatterRef2Ideal := fun m g m' g' _ h =>
  ⟨_, Cert.Reduce.reduces Cert.Scatter2Ideal.Run.fits Cert.Scatter2Ideal.Run.bodies m g (N := 102400) _ (by decide) (by decide) _ _ _ (by decide) _ _ h,
    (θ_run Cert.ScatterRef2Ideal.defs _ _).mono (fun _ hr => hr 0) (Cert.ScatterRef2Ideal.Value.run (F := Ideal) m' g')⟩

/-! ## The small arrays -/

/-- The two printings of the small program run the same bodies. -/
theorem small_bodies {F : FTy → Type} [FloatOps F] [Cert.Small.Facts] [Cert.SmallIdeal.Facts] :
    Cert.Small.defs₀ (F := F) = Cert.SmallIdeal.defs₀ (F := F) := by
  refine congrArg Defs.onTc (funext fun l => ?_)
  match l with
  | 0 => rfl
  | 1 => rfl

theorem small_defs : Cert.Small.defs (F := Bits) = Cert.SmallIdeal.defs (F := Bits) :=
  congrArg (Pipeline.defs (Cert.SmallIdeal.pcfgs (F := Bits))) (small_bodies (F := Bits))

theorem frame_small : Cert.quiescent_Small := fun m g _ => by
  rw [show Cert.Small.defs (F := Bits) = _ from small_defs]
  exact Cert.SmallIdeal.Run.keeps (F := Bits) m g

theorem frame_smallIdeal : Cert.quiescent_SmallIdeal := fun m g _ => Cert.SmallIdeal.Run.keeps (F := Ideal) m g

theorem frame_smallRefIdeal : Cert.quiescent_SmallRefIdeal := fun m g _ =>
  (θ_run Cert.SmallRefIdeal.defs _ _).mono (fun r h => ⟨fun c => (h c).2, sem_eq_zero_of_no_sems rfl r.2⟩) (Cert.SmallRefIdeal.Value.run (F := Ideal) m g)

theorem algebraic_small : Cert.algebraic_SmallIdeal_SmallRefIdeal := fun m g m' g' _ h =>
  ⟨_, Cert.SmallIdeal.Run.sums_up m g _ (by decide) _ _ (by decide) _ h,
    (θ_run Cert.SmallRefIdeal.defs _ _).mono (fun _ hr => hr 0) (Cert.SmallRefIdeal.Value.run (F := Ideal) m' g')⟩

/-! ## The AdamW updates -/

theorem frame_adam0 : Cert.quiescent_Adam0 := fun m g _ => Cert.Adam0.Gen.frame m g

theorem frame_adam0Ideal : Cert.quiescent_Adam0Ideal := fun m g _ => Cert.Adam0Ideal.Gen.frame m g

theorem frame_adamRef0Ideal : Cert.quiescent_AdamRef0Ideal := fun m g _ =>
  (θ_run Cert.AdamRef0Ideal.defs _ _).mono (fun r h => ⟨fun c => (h c).2.2.2, sem_eq_zero_of_no_sems rfl r.2⟩) (Cert.AdamRef0Ideal.Value.run (F := Ideal) m g)

/-- The update of a weight of 2048 × 1024 entries. -/
theorem algebraic_adam0 : Cert.algebraic_Adam0Ideal_AdamRef0Ideal := fun m g m' g' _ h =>
  ⟨_, _, _, Cert.Adam0Ideal.Value.run (F := Ideal) m g,
    (θ_run Cert.AdamRef0Ideal.defs _ _).mono (fun _ hr c => Adam.step _ (h c) (hr c)) (Cert.AdamRef0Ideal.Value.run (F := Ideal) m' g')⟩

theorem frame_adam1 : Cert.quiescent_Adam1 := fun m g _ => Cert.Adam1.Gen.frame m g

theorem frame_adam1Ideal : Cert.quiescent_Adam1Ideal := fun m g _ => Cert.Adam1Ideal.Gen.frame m g

theorem frame_adamRef1Ideal : Cert.quiescent_AdamRef1Ideal := fun m g _ =>
  (θ_run Cert.AdamRef1Ideal.defs _ _).mono (fun r h => ⟨fun c => (h c).2.2.2, sem_eq_zero_of_no_sems rfl r.2⟩) (Cert.AdamRef1Ideal.Value.run (F := Ideal) m g)

/-- The update of a weight of 2048 × 320 entries. -/
theorem algebraic_adam1 : Cert.algebraic_Adam1Ideal_AdamRef1Ideal := fun m g m' g' _ h =>
  ⟨_, _, _, Cert.Adam1Ideal.Value.run (F := Ideal) m g,
    (θ_run Cert.AdamRef1Ideal.defs _ _).mono (fun _ hr c => Adam.step _ (h c) (hr c)) (Cert.AdamRef1Ideal.Value.run (F := Ideal) m' g')⟩

theorem frame_adam2 : Cert.quiescent_Adam2 := fun m g _ => Cert.Adam2.Gen.frame m g

theorem frame_adam2Ideal : Cert.quiescent_Adam2Ideal := fun m g _ => Cert.Adam2Ideal.Gen.frame m g

theorem frame_adamRef2Ideal : Cert.quiescent_AdamRef2Ideal := fun m g _ =>
  (θ_run Cert.AdamRef2Ideal.defs _ _).mono (fun r h => ⟨fun c => (h c).2.2.2, sem_eq_zero_of_no_sems rfl r.2⟩) (Cert.AdamRef2Ideal.Value.run (F := Ideal) m g)

/-- The update of a weight of 2048 × 768 entries. -/
theorem algebraic_adam2 : Cert.algebraic_Adam2Ideal_AdamRef2Ideal := fun m g m' g' _ h =>
  ⟨_, _, _, Cert.Adam2Ideal.Value.run (F := Ideal) m g,
    (θ_run Cert.AdamRef2Ideal.defs _ _).mono (fun _ hr c => Adam.step _ (h c) (hr c)) (Cert.AdamRef2Ideal.Value.run (F := Ideal) m' g')⟩

theorem frame_adam3 : Cert.quiescent_Adam3 := fun m g _ => Cert.Adam3.Gen.frame m g

theorem frame_adam3Ideal : Cert.quiescent_Adam3Ideal := fun m g _ => Cert.Adam3Ideal.Gen.frame m g

theorem frame_adamRef3Ideal : Cert.quiescent_AdamRef3Ideal := fun m g _ =>
  (θ_run Cert.AdamRef3Ideal.defs _ _).mono (fun r h => ⟨fun c => (h c).2.2.2, sem_eq_zero_of_no_sems rfl r.2⟩) (Cert.AdamRef3Ideal.Value.run (F := Ideal) m g)

/-- The update of a weight of 2048 × 1028 entries. -/
theorem algebraic_adam3 : Cert.algebraic_Adam3Ideal_AdamRef3Ideal := fun m g m' g' _ h =>
  ⟨_, _, _, Cert.Adam3Ideal.Value.run (F := Ideal) m g,
    (θ_run Cert.AdamRef3Ideal.defs _ _).mono (fun _ hr c => Adam.step _ (h c) (hr c)) (Cert.AdamRef3Ideal.Value.run (F := Ideal) m' g')⟩

theorem frame_adam4 : Cert.quiescent_Adam4 := fun m g _ => Cert.Adam4.Gen.frame m g

theorem frame_adam4Ideal : Cert.quiescent_Adam4Ideal := fun m g _ => Cert.Adam4Ideal.Gen.frame m g

theorem frame_adamRef4Ideal : Cert.quiescent_AdamRef4Ideal := fun m g _ =>
  (θ_run Cert.AdamRef4Ideal.defs _ _).mono (fun r h => ⟨fun c => (h c).2.2.2, sem_eq_zero_of_no_sems rfl r.2⟩) (Cert.AdamRef4Ideal.Value.run (F := Ideal) m g)

/-- The update of a weight of 8192 × 1408 entries. -/
theorem algebraic_adam4 : Cert.algebraic_Adam4Ideal_AdamRef4Ideal := fun m g m' g' _ h =>
  ⟨_, _, _, Cert.Adam4Ideal.Value.run (F := Ideal) m g,
    (θ_run Cert.AdamRef4Ideal.defs _ _).mono (fun _ hr c => Adam.step _ (h c) (hr c)) (Cert.AdamRef4Ideal.Value.run (F := Ideal) m' g')⟩

theorem frame_adam5 : Cert.quiescent_Adam5 := fun m g _ => Cert.Adam5.Gen.frame m g

theorem frame_adam5Ideal : Cert.quiescent_Adam5Ideal := fun m g _ => Cert.Adam5Ideal.Gen.frame m g

theorem frame_adamRef5Ideal : Cert.quiescent_AdamRef5Ideal := fun m g _ =>
  (θ_run Cert.AdamRef5Ideal.defs _ _).mono (fun r h => ⟨fun c => (h c).2.2.2, sem_eq_zero_of_no_sems rfl r.2⟩) (Cert.AdamRef5Ideal.Value.run (F := Ideal) m g)

/-- The update of a weight of 2816 × 2048 entries. -/
theorem algebraic_adam5 : Cert.algebraic_Adam5Ideal_AdamRef5Ideal := fun m g m' g' _ h =>
  ⟨_, _, _, Cert.Adam5Ideal.Value.run (F := Ideal) m g,
    (θ_run Cert.AdamRef5Ideal.defs _ _).mono (fun _ hr c => Adam.step _ (h c) (hr c)) (Cert.AdamRef5Ideal.Value.run (F := Ideal) m' g')⟩

theorem frame_adam6 : Cert.quiescent_Adam6 := fun m g _ => Cert.Adam6.Gen.frame m g

theorem frame_adam6Ideal : Cert.quiescent_Adam6Ideal := fun m g _ => Cert.Adam6Ideal.Gen.frame m g

theorem frame_adamRef6Ideal : Cert.quiescent_AdamRef6Ideal := fun m g _ =>
  (θ_run Cert.AdamRef6Ideal.defs _ _).mono (fun r h => ⟨fun c => (h c).2.2.2, sem_eq_zero_of_no_sems rfl r.2⟩) (Cert.AdamRef6Ideal.Value.run (F := Ideal) m g)

/-- The update of a weight of 256 × 2048 entries. -/
theorem algebraic_adam6 : Cert.algebraic_Adam6Ideal_AdamRef6Ideal := fun m g m' g' _ h =>
  ⟨_, _, _, Cert.Adam6Ideal.Value.run (F := Ideal) m g,
    (θ_run Cert.AdamRef6Ideal.defs _ _).mono (fun _ hr c => Adam.step _ (h c) (hr c)) (Cert.AdamRef6Ideal.Value.run (F := Ideal) m' g')⟩

theorem frame_adam7 : Cert.quiescent_Adam7 := fun m g _ => Cert.Adam7.Gen.frame m g

theorem frame_adam7Ideal : Cert.quiescent_Adam7Ideal := fun m g _ => Cert.Adam7Ideal.Gen.frame m g

theorem frame_adamRef7Ideal : Cert.quiescent_AdamRef7Ideal := fun m g _ =>
  (θ_run Cert.AdamRef7Ideal.defs _ _).mono (fun r h => ⟨fun c => (h c).2.2.2, sem_eq_zero_of_no_sems rfl r.2⟩) (Cert.AdamRef7Ideal.Value.run (F := Ideal) m g)

/-- The update of a weight of 4 × 2048 entries. -/
theorem algebraic_adam7 : Cert.algebraic_Adam7Ideal_AdamRef7Ideal := fun m g m' g' _ h =>
  ⟨_, _, _, Cert.Adam7Ideal.Value.run (F := Ideal) m g,
    (θ_run Cert.AdamRef7Ideal.defs _ _).mono (fun _ hr c => Adam.step _ (h c) (hr c)) (Cert.AdamRef7Ideal.Value.run (F := Ideal) m' g')⟩

theorem frame_adam8 : Cert.quiescent_Adam8 := fun m g _ => Cert.Adam8.Gen.frame m g

theorem frame_adam8Ideal : Cert.quiescent_Adam8Ideal := fun m g _ => Cert.Adam8Ideal.Gen.frame m g

theorem frame_adamRef8Ideal : Cert.quiescent_AdamRef8Ideal := fun m g _ =>
  (θ_run Cert.AdamRef8Ideal.defs _ _).mono (fun r h => ⟨fun c => (h c).2.2.2, sem_eq_zero_of_no_sems rfl r.2⟩) (Cert.AdamRef8Ideal.Value.run (F := Ideal) m g)

/-- The update of a weight of 1 × 128 entries. -/
theorem algebraic_adam8 : Cert.algebraic_Adam8Ideal_AdamRef8Ideal := fun m g m' g' _ h =>
  ⟨_, _, _, Cert.Adam8Ideal.Value.run (F := Ideal) m g,
    (θ_run Cert.AdamRef8Ideal.defs _ _).mono (fun _ hr c => Adam.step _ (h c) (hr c)) (Cert.AdamRef8Ideal.Value.run (F := Ideal) m' g')⟩

theorem frame_adam9 : Cert.quiescent_Adam9 := fun m g _ => Cert.Adam9.Gen.frame m g

theorem frame_adam9Ideal : Cert.quiescent_Adam9Ideal := fun m g _ => Cert.Adam9Ideal.Gen.frame m g

theorem frame_adamRef9Ideal : Cert.quiescent_AdamRef9Ideal := fun m g _ =>
  (θ_run Cert.AdamRef9Ideal.defs _ _).mono (fun r h => ⟨fun c => (h c).2.2.2, sem_eq_zero_of_no_sems rfl r.2⟩) (Cert.AdamRef9Ideal.Value.run (F := Ideal) m g)

/-- The update of a weight of 5 × 2048 entries. -/
theorem algebraic_adam9 : Cert.algebraic_Adam9Ideal_AdamRef9Ideal := fun m g m' g' _ h =>
  ⟨_, _, _, Cert.Adam9Ideal.Value.run (F := Ideal) m g,
    (θ_run Cert.AdamRef9Ideal.defs _ _).mono (fun _ hr c => Adam.step _ (h c) (hr c)) (Cert.AdamRef9Ideal.Value.run (F := Ideal) m' g')⟩

theorem frame_adam10 : Cert.quiescent_Adam10 := fun m g _ => Cert.Adam10.Gen.frame m g

theorem frame_adam10Ideal : Cert.quiescent_Adam10Ideal := fun m g _ => Cert.Adam10Ideal.Gen.frame m g

theorem frame_adamRef10Ideal : Cert.quiescent_AdamRef10Ideal := fun m g _ =>
  (θ_run Cert.AdamRef10Ideal.defs _ _).mono (fun r h => ⟨fun c => (h c).2.2.2, sem_eq_zero_of_no_sems rfl r.2⟩) (Cert.AdamRef10Ideal.Value.run (F := Ideal) m g)

/-- The update of a weight of 1 × 32 entries. -/
theorem algebraic_adam10 : Cert.algebraic_Adam10Ideal_AdamRef10Ideal := fun m g m' g' _ h =>
  ⟨_, _, _, Cert.Adam10Ideal.Value.run (F := Ideal) m g,
    (θ_run Cert.AdamRef10Ideal.defs _ _).mono (fun _ hr c => Adam.step _ (h c) (hr c)) (Cert.AdamRef10Ideal.Value.run (F := Ideal) m' g')⟩

theorem frame_adam11 : Cert.quiescent_Adam11 := fun m g _ => Cert.Adam11.Gen.frame m g

theorem frame_adam11Ideal : Cert.quiescent_Adam11Ideal := fun m g _ => Cert.Adam11Ideal.Gen.frame m g

theorem frame_adamRef11Ideal : Cert.quiescent_AdamRef11Ideal := fun m g _ =>
  (θ_run Cert.AdamRef11Ideal.defs _ _).mono (fun r h => ⟨fun c => (h c).2.2.2, sem_eq_zero_of_no_sems rfl r.2⟩) (Cert.AdamRef11Ideal.Value.run (F := Ideal) m g)

/-- The update of a weight of 3 × 256 entries. -/
theorem algebraic_adam11 : Cert.algebraic_Adam11Ideal_AdamRef11Ideal := fun m g m' g' _ h =>
  ⟨_, _, _, Cert.Adam11Ideal.Value.run (F := Ideal) m g,
    (θ_run Cert.AdamRef11Ideal.defs _ _).mono (fun _ hr c => Adam.step _ (h c) (hr c)) (Cert.AdamRef11Ideal.Value.run (F := Ideal) m' g')⟩

theorem frame_adam12 : Cert.quiescent_Adam12 := fun m g _ => Cert.Adam12.Gen.frame m g

theorem frame_adam12Ideal : Cert.quiescent_Adam12Ideal := fun m g _ => Cert.Adam12Ideal.Gen.frame m g

theorem frame_adamRef12Ideal : Cert.quiescent_AdamRef12Ideal := fun m g _ =>
  (θ_run Cert.AdamRef12Ideal.defs _ _).mono (fun r h => ⟨fun c => (h c).2.2.2, sem_eq_zero_of_no_sems rfl r.2⟩) (Cert.AdamRef12Ideal.Value.run (F := Ideal) m g)

/-- The update of a weight of 12 × 1408 entries. -/
theorem algebraic_adam12 : Cert.algebraic_Adam12Ideal_AdamRef12Ideal := fun m g m' g' _ h =>
  ⟨_, _, _, Cert.Adam12Ideal.Value.run (F := Ideal) m g,
    (θ_run Cert.AdamRef12Ideal.defs _ _).mono (fun _ hr c => Adam.step _ (h c) (hr c)) (Cert.AdamRef12Ideal.Value.run (F := Ideal) m' g')⟩

theorem frame_adam13 : Cert.quiescent_Adam13 := fun m g _ => Cert.Adam13.Gen.frame m g

theorem frame_adam13Ideal : Cert.quiescent_Adam13Ideal := fun m g _ => Cert.Adam13Ideal.Gen.frame m g

theorem frame_adamRef13Ideal : Cert.quiescent_AdamRef13Ideal := fun m g _ =>
  (θ_run Cert.AdamRef13Ideal.defs _ _).mono (fun r h => ⟨fun c => (h c).2.2.2, sem_eq_zero_of_no_sems rfl r.2⟩) (Cert.AdamRef13Ideal.Value.run (F := Ideal) m g)

/-- The update of a weight of 4 × 11264 entries. -/
theorem algebraic_adam13 : Cert.algebraic_Adam13Ideal_AdamRef13Ideal := fun m g m' g' _ h =>
  ⟨_, _, _, Cert.Adam13Ideal.Value.run (F := Ideal) m g,
    (θ_run Cert.AdamRef13Ideal.defs _ _).mono (fun _ hr c => Adam.step _ (h c) (hr c)) (Cert.AdamRef13Ideal.Value.run (F := Ideal) m' g')⟩

theorem frame_mul0 : Cert.quiescent_Mul0 := fun m g _ => Cert.Mul0.Gen.frame m g

theorem frame_mul0Ideal : Cert.quiescent_Mul0Ideal := fun m g _ => Cert.Mul0Ideal.Gen.frame m g

theorem frame_mulRef0Ideal : Cert.quiescent_MulRef0Ideal := fun m g _ =>
  (θ_run Cert.MulRef0Ideal.defs _ _).mono (fun r h => ⟨fun c => (h c).2, sem_eq_zero_of_no_sems rfl r.2⟩) (Cert.MulRef0Ideal.Value.run (F := Ideal) m g)

/-- The product of 4096 × 2048 by 2048 × 11264 entries. -/
theorem algebraic_mul0 : Cert.algebraic_Mul0Ideal_MulRef0Ideal := fun m g m' g' _ h =>
  ⟨_, (θ_run Cert.Mul0Ideal.defs _ _).mono (fun _ hr c => ⟨(hr c).1.trans (Cert.Mul0Ideal.Whole.final m c), (hr c).2⟩) (Cert.Mul0Ideal.Value.run_blocks (F := Ideal) m g),
    (θ_run Cert.MulRef0Ideal.defs _ _).mono (fun _ hr c => ⟨(hr c).1.trans (Product.host _ _ _ _ _ _ (h c)), (hr c).2⟩) (Cert.MulRef0Ideal.Value.run (F := Ideal) m' g')⟩

theorem frame_mul1 : Cert.quiescent_Mul1 := fun m g _ => Cert.Mul1.Gen.frame m g

theorem frame_mul1Ideal : Cert.quiescent_Mul1Ideal := fun m g _ => Cert.Mul1Ideal.Gen.frame m g

theorem frame_mulRef1Ideal : Cert.quiescent_MulRef1Ideal := fun m g _ =>
  (θ_run Cert.MulRef1Ideal.defs _ _).mono (fun r h => ⟨fun c => (h c).2, sem_eq_zero_of_no_sems rfl r.2⟩) (Cert.MulRef1Ideal.Value.run (F := Ideal) m g)

/-- The product of 4096 × 2048 by 2048 × 8192 entries. -/
theorem algebraic_mul1 : Cert.algebraic_Mul1Ideal_MulRef1Ideal := fun m g m' g' _ h =>
  ⟨_, (θ_run Cert.Mul1Ideal.defs _ _).mono (fun _ hr c => ⟨(hr c).1.trans (Cert.Mul1Ideal.Whole.final m c), (hr c).2⟩) (Cert.Mul1Ideal.Value.run_blocks (F := Ideal) m g),
    (θ_run Cert.MulRef1Ideal.defs _ _).mono (fun _ hr c => ⟨(hr c).1.trans (Product.host _ _ _ _ _ _ (h c)), (hr c).2⟩) (Cert.MulRef1Ideal.Value.run (F := Ideal) m' g')⟩

theorem frame_mul2 : Cert.quiescent_Mul2 := fun m g _ => Cert.Mul2.Gen.frame m g

theorem frame_mul2Ideal : Cert.quiescent_Mul2Ideal := fun m g _ => Cert.Mul2Ideal.Gen.frame m g

theorem frame_mulRef2Ideal : Cert.quiescent_MulRef2Ideal := fun m g _ =>
  (θ_run Cert.MulRef2Ideal.defs _ _).mono (fun r h => ⟨fun c => (h c).2, sem_eq_zero_of_no_sems rfl r.2⟩) (Cert.MulRef2Ideal.Value.run (F := Ideal) m g)

/-- The product of 4096 × 2048 by 2048 × 2560 entries. -/
theorem algebraic_mul2 : Cert.algebraic_Mul2Ideal_MulRef2Ideal := fun m g m' g' _ h =>
  ⟨_, (θ_run Cert.Mul2Ideal.defs _ _).mono (fun _ hr c => ⟨(hr c).1.trans (Cert.Mul2Ideal.Whole.final m c), (hr c).2⟩) (Cert.Mul2Ideal.Value.run_blocks (F := Ideal) m g),
    (θ_run Cert.MulRef2Ideal.defs _ _).mono (fun _ hr c => ⟨(hr c).1.trans (Product.host _ _ _ _ _ _ (h c)), (hr c).2⟩) (Cert.MulRef2Ideal.Value.run (F := Ideal) m' g')⟩

theorem frame_mul3 : Cert.quiescent_Mul3 := fun m g _ => Cert.Mul3.Gen.frame m g

theorem frame_mul3Ideal : Cert.quiescent_Mul3Ideal := fun m g _ => Cert.Mul3Ideal.Gen.frame m g

theorem frame_mulRef3Ideal : Cert.quiescent_MulRef3Ideal := fun m g _ =>
  (θ_run Cert.MulRef3Ideal.defs _ _).mono (fun r h => ⟨fun c => (h c).2, sem_eq_zero_of_no_sems rfl r.2⟩) (Cert.MulRef3Ideal.Value.run (F := Ideal) m g)

/-- The product of 4096 × 2048 by 2048 × 6144 entries. -/
theorem algebraic_mul3 : Cert.algebraic_Mul3Ideal_MulRef3Ideal := fun m g m' g' _ h =>
  ⟨_, (θ_run Cert.Mul3Ideal.defs _ _).mono (fun _ hr c => ⟨(hr c).1.trans (Cert.Mul3Ideal.Whole.final m c), (hr c).2⟩) (Cert.Mul3Ideal.Value.run_blocks (F := Ideal) m g),
    (θ_run Cert.MulRef3Ideal.defs _ _).mono (fun _ hr c => ⟨(hr c).1.trans (Product.host _ _ _ _ _ _ (h c)), (hr c).2⟩) (Cert.MulRef3Ideal.Value.run (F := Ideal) m' g')⟩

theorem frame_mul4 : Cert.quiescent_Mul4 := fun m g _ => Cert.Mul4.Gen.frame m g

theorem frame_mul4Ideal : Cert.quiescent_Mul4Ideal := fun m g _ => Cert.Mul4Ideal.Gen.frame m g

theorem frame_mulRef4Ideal : Cert.quiescent_MulRef4Ideal := fun m g _ =>
  (θ_run Cert.MulRef4Ideal.defs _ _).mono (fun r h => ⟨fun c => (h c).2, sem_eq_zero_of_no_sems rfl r.2⟩) (Cert.MulRef4Ideal.Value.run (F := Ideal) m g)

/-- The product of 4096 × 2048 by 2048 × 128 entries. -/
theorem algebraic_mul4 : Cert.algebraic_Mul4Ideal_MulRef4Ideal := fun m g m' g' _ h =>
  ⟨_, (θ_run Cert.Mul4Ideal.defs _ _).mono (fun _ hr c => ⟨(hr c).1.trans (Cert.Mul4Ideal.Whole.final m c), (hr c).2⟩) (Cert.Mul4Ideal.Value.run_blocks (F := Ideal) m g),
    (θ_run Cert.MulRef4Ideal.defs _ _).mono (fun _ hr c => ⟨(hr c).1.trans (Product.host _ _ _ _ _ _ (h c)), (hr c).2⟩) (Cert.MulRef4Ideal.Value.run (F := Ideal) m' g')⟩

theorem frame_mul5 : Cert.quiescent_Mul5 := fun m g _ => Cert.Mul5.Gen.frame m g

theorem frame_mul5Ideal : Cert.quiescent_Mul5Ideal := fun m g _ => Cert.Mul5Ideal.Gen.frame m g

theorem frame_mulRef5Ideal : Cert.quiescent_MulRef5Ideal := fun m g _ =>
  (θ_run Cert.MulRef5Ideal.defs _ _).mono (fun r h => ⟨fun c => (h c).2, sem_eq_zero_of_no_sems rfl r.2⟩) (Cert.MulRef5Ideal.Value.run (F := Ideal) m g)

/-- The product of 4096 × 2048 by 2048 × 2048 entries. -/
theorem algebraic_mul5 : Cert.algebraic_Mul5Ideal_MulRef5Ideal := fun m g m' g' _ h =>
  ⟨_, (θ_run Cert.Mul5Ideal.defs _ _).mono (fun _ hr c => ⟨(hr c).1.trans (Cert.Mul5Ideal.Whole.final m c), (hr c).2⟩) (Cert.Mul5Ideal.Value.run_blocks (F := Ideal) m g),
    (θ_run Cert.MulRef5Ideal.defs _ _).mono (fun _ hr c => ⟨(hr c).1.trans (Product.host _ _ _ _ _ _ (h c)), (hr c).2⟩) (Cert.MulRef5Ideal.Value.run (F := Ideal) m' g')⟩

theorem frame_mul6 : Cert.quiescent_Mul6 := fun m g _ => Cert.Mul6.Gen.frame m g

theorem frame_mul6Ideal : Cert.quiescent_Mul6Ideal := fun m g _ => Cert.Mul6Ideal.Gen.frame m g

theorem frame_mulRef6Ideal : Cert.quiescent_MulRef6Ideal := fun m g _ =>
  (θ_run Cert.MulRef6Ideal.defs _ _).mono (fun r h => ⟨fun c => (h c).2, sem_eq_zero_of_no_sems rfl r.2⟩) (Cert.MulRef6Ideal.Value.run (F := Ideal) m g)

/-- The product of 4096 × 5632 by 5632 × 2048 entries. -/
theorem algebraic_mul6 : Cert.algebraic_Mul6Ideal_MulRef6Ideal := fun m g m' g' _ h =>
  ⟨_, (θ_run Cert.Mul6Ideal.defs _ _).mono (fun _ hr c => ⟨(hr c).1.trans (Cert.Mul6Ideal.Whole.final m c), (hr c).2⟩) (Cert.Mul6Ideal.Value.run_blocks (F := Ideal) m g),
    (θ_run Cert.MulRef6Ideal.defs _ _).mono (fun _ hr c => ⟨(hr c).1.trans (Product.host _ _ _ _ _ _ (h c)), (hr c).2⟩) (Cert.MulRef6Ideal.Value.run (F := Ideal) m' g')⟩

theorem frame_norm0 : Cert.quiescent_Norm0 := fun m g _ => Cert.Norm0.Gen.frame m g

theorem frame_norm0Ideal : Cert.quiescent_Norm0Ideal := fun m g _ => Cert.Norm0Ideal.Gen.frame m g

theorem frame_normRef0Ideal : Cert.quiescent_NormRef0Ideal := fun m g _ =>
  (θ_run Cert.NormRef0Ideal.defs _ _).mono (fun r h => ⟨fun c => (h c).2, sem_eq_zero_of_no_sems rfl r.2⟩) (Cert.NormRef0Ideal.Value.run (F := Ideal) m g)

/-- The norm of 4096 rows. -/
theorem algebraic_norm0 : Cert.algebraic_Norm0Ideal_NormRef0Ideal := fun m g m' g' _ h =>
  ⟨_, (θ_run Cert.Norm0Ideal.defs _ _).mono (fun _ hr c => ⟨(hr c).1.trans (Cert.Norm0Ideal.Whole.final m c), (hr c).2⟩) (Cert.Norm0Ideal.Value.run_blocks (F := Ideal) m g),
    (θ_run Cert.NormRef0Ideal.defs _ _).mono (fun _ hr c => ⟨(hr c).1.trans (Norm.host _ _ _ _ _ _ _ _ _ _ _ (h c)), (hr c).2⟩) (Cert.NormRef0Ideal.Value.run (F := Ideal) m' g')⟩

theorem frame_norm1 : Cert.quiescent_Norm1 := fun m g _ => Cert.Norm1.Gen.frame m g

theorem frame_norm1Ideal : Cert.quiescent_Norm1Ideal := fun m g _ => Cert.Norm1Ideal.Gen.frame m g

theorem frame_normRef1Ideal : Cert.quiescent_NormRef1Ideal := fun m g _ =>
  (θ_run Cert.NormRef1Ideal.defs _ _).mono (fun r h => ⟨fun c => (h c).2, sem_eq_zero_of_no_sems rfl r.2⟩) (Cert.NormRef1Ideal.Value.run (F := Ideal) m g)

/-- The norm of 4096 rows, added to others. -/
theorem algebraic_norm1 : Cert.algebraic_Norm1Ideal_NormRef1Ideal := fun m g m' g' _ h =>
  ⟨_, (θ_run Cert.Norm1Ideal.defs _ _).mono (fun _ hr c => ⟨(hr c).1.trans (Cert.Norm1Ideal.Whole.final m c), (hr c).2⟩) (Cert.Norm1Ideal.Value.run_blocks (F := Ideal) m g),
    (θ_run Cert.NormRef1Ideal.defs _ _).mono (fun _ hr c => ⟨(hr c).1.trans (Norm.host_add _ _ _ _ _ _ _ _ _ _ _ _ _ (h c)), (hr c).2⟩) (Cert.NormRef1Ideal.Value.run (F := Ideal) m' g')⟩

theorem frame_dxRef0Ideal : Cert.quiescent_DxRef0Ideal := fun m g _ =>
  (θ_run Cert.DxRef0Ideal.defs _ _).mono (fun r h => ⟨fun c => (h c).2, sem_eq_zero_of_no_sems rfl r.2⟩) (Cert.DxRef0Ideal.Value.run (F := Ideal) m g)

/-- The gradient of the activations, through the feed-forward blocks' last product. -/
theorem algebraic_dx0 : Cert.algebraic_Dx0Ideal_DxRef0Ideal := fun m g m' g' _ h =>
  ⟨_, (θ_run Cert.Dx0Ideal.defs _ _).mono (fun _ hr c => ⟨(hr c).1.trans (Cert.Dx0Ideal.Whole.final m c), (hr c).2⟩) (Cert.Dx0Ideal.Value.run_blocks (F := Ideal) m g),
    (θ_run Cert.DxRef0Ideal.defs _ _).mono (fun _ hr c => ⟨(hr c).1.trans (Product.host_by _ _ _ _ _ _ (h c)), (hr c).2⟩) (Cert.DxRef0Ideal.Value.run (F := Ideal) m' g')⟩

theorem frame_dxRef1Ideal : Cert.quiescent_DxRef1Ideal := fun m g _ =>
  (θ_run Cert.DxRef1Ideal.defs _ _).mono (fun r h => ⟨fun c => (h c).2, sem_eq_zero_of_no_sems rfl r.2⟩) (Cert.DxRef1Ideal.Value.run (F := Ideal) m g)

/-- The gradient of the activations, through the mixers' last products. -/
theorem algebraic_dx1 : Cert.algebraic_Dx1Ideal_DxRef1Ideal := fun m g m' g' _ h =>
  ⟨_, (θ_run Cert.Dx1Ideal.defs _ _).mono (fun _ hr c => ⟨(hr c).1.trans (Cert.Dx1Ideal.Whole.final m c), (hr c).2⟩) (Cert.Dx1Ideal.Value.run_blocks (F := Ideal) m g),
    (θ_run Cert.DxRef1Ideal.defs _ _).mono (fun _ hr c => ⟨(hr c).1.trans (Product.host_by _ _ _ _ _ _ (h c)), (hr c).2⟩) (Cert.DxRef1Ideal.Value.run (F := Ideal) m' g')⟩

theorem frame_dxRef2Ideal : Cert.quiescent_DxRef2Ideal := fun m g _ =>
  (θ_run Cert.DxRef2Ideal.defs _ _).mono (fun r h => ⟨fun c => (h c).2, sem_eq_zero_of_no_sems rfl r.2⟩) (Cert.DxRef2Ideal.Value.run (F := Ideal) m g)

/-- The gradient of the activations, through the last layer's gates. -/
theorem algebraic_dx2 : Cert.algebraic_Dx2Ideal_DxRef2Ideal := fun m g m' g' _ h =>
  ⟨_, (θ_run Cert.Dx2Ideal.defs _ _).mono (fun _ hr c => ⟨(hr c).1.trans (Cert.Dx2Ideal.Whole.final m c), (hr c).2⟩) (Cert.Dx2Ideal.Value.run_blocks (F := Ideal) m g),
    (θ_run Cert.DxRef2Ideal.defs _ _).mono (fun _ hr c => ⟨(hr c).1.trans (Product.host_by _ _ _ _ _ _ (h c)), (hr c).2⟩) (Cert.DxRef2Ideal.Value.run (F := Ideal) m' g')⟩

theorem frame_dxRef3Ideal : Cert.quiescent_DxRef3Ideal := fun m g _ =>
  (θ_run Cert.DxRef3Ideal.defs _ _).mono (fun r h => ⟨fun c => (h c).2, sem_eq_zero_of_no_sems rfl r.2⟩) (Cert.DxRef3Ideal.Value.run (F := Ideal) m g)

/-- The gradient of the activations, through the feed-forward blocks' first product. -/
theorem algebraic_dx3 : Cert.algebraic_Dx3Ideal_DxRef3Ideal := fun m g m' g' _ h =>
  ⟨_, (θ_run Cert.Dx3Ideal.defs _ _).mono (fun _ hr c => ⟨(hr c).1.trans (Cert.Dx3Ideal.Whole.final m c), (hr c).2⟩) (Cert.Dx3Ideal.Value.run_blocks (F := Ideal) m g),
    (θ_run Cert.DxRef3Ideal.defs _ _).mono (fun _ hr c => ⟨(hr c).1.trans (Product.host_by _ _ _ _ _ _ (h c)), (hr c).2⟩) (Cert.DxRef3Ideal.Value.run (F := Ideal) m' g')⟩

theorem frame_dxRef4Ideal : Cert.quiescent_DxRef4Ideal := fun m g _ =>
  (θ_run Cert.DxRef4Ideal.defs _ _).mono (fun r h => ⟨fun c => (h c).2, sem_eq_zero_of_no_sems rfl r.2⟩) (Cert.DxRef4Ideal.Value.run (F := Ideal) m g)

/-- The gradient of the activations, through the first products of the first and the last layer. -/
theorem algebraic_dx4 : Cert.algebraic_Dx4Ideal_DxRef4Ideal := fun m g m' g' _ h =>
  ⟨_, (θ_run Cert.Dx4Ideal.defs _ _).mono (fun _ hr c => ⟨(hr c).1.trans (Cert.Dx4Ideal.Whole.final m c), (hr c).2⟩) (Cert.Dx4Ideal.Value.run_blocks (F := Ideal) m g),
    (θ_run Cert.DxRef4Ideal.defs _ _).mono (fun _ hr c => ⟨(hr c).1.trans (Product.host_by _ _ _ _ _ _ (h c)), (hr c).2⟩) (Cert.DxRef4Ideal.Value.run (F := Ideal) m' g')⟩

theorem frame_dxRef5Ideal : Cert.quiescent_DxRef5Ideal := fun m g _ =>
  (θ_run Cert.DxRef5Ideal.defs _ _).mono (fun r h => ⟨fun c => (h c).2, sem_eq_zero_of_no_sems rfl r.2⟩) (Cert.DxRef5Ideal.Value.run (F := Ideal) m g)

/-- The gradient of the activations, through the second layer's first product. -/
theorem algebraic_dx5 : Cert.algebraic_Dx5Ideal_DxRef5Ideal := fun m g m' g' _ h =>
  ⟨_, (θ_run Cert.Dx5Ideal.defs _ _).mono (fun _ hr c => ⟨(hr c).1.trans (Cert.Dx5Ideal.Whole.final m c), (hr c).2⟩) (Cert.Dx5Ideal.Value.run_blocks (F := Ideal) m g),
    (θ_run Cert.DxRef5Ideal.defs _ _).mono (fun _ hr c => ⟨(hr c).1.trans (Product.host_by _ _ _ _ _ _ (h c)), (hr c).2⟩) (Cert.DxRef5Ideal.Value.run (F := Ideal) m' g')⟩

theorem frame_dxRef6Ideal : Cert.quiescent_DxRef6Ideal := fun m g _ =>
  (θ_run Cert.DxRef6Ideal.defs _ _).mono (fun r h => ⟨fun c => (h c).2, sem_eq_zero_of_no_sems rfl r.2⟩) (Cert.DxRef6Ideal.Value.run (F := Ideal) m g)

/-- The gradient of the activations, through the third layer's first product. -/
theorem algebraic_dx6 : Cert.algebraic_Dx6Ideal_DxRef6Ideal := fun m g m' g' _ h =>
  ⟨_, (θ_run Cert.Dx6Ideal.defs _ _).mono (fun _ hr c => ⟨(hr c).1.trans (Cert.Dx6Ideal.Whole.final m c), (hr c).2⟩) (Cert.Dx6Ideal.Value.run_blocks (F := Ideal) m g),
    (θ_run Cert.DxRef6Ideal.defs _ _).mono (fun _ hr c => ⟨(hr c).1.trans (Product.host_by _ _ _ _ _ _ (h c)), (hr c).2⟩) (Cert.DxRef6Ideal.Value.run (F := Ideal) m' g')⟩

theorem frame_dwRef0Ideal : Cert.quiescent_DwRef0Ideal := fun m g _ =>
  (θ_run Cert.DwRef0Ideal.defs _ _).mono (fun r h => ⟨fun c => (h c).2, sem_eq_zero_of_no_sems rfl r.2⟩) (Cert.DwRef0Ideal.Value.run (F := Ideal) m g)

/-- The gradient of the weight of the feed-forward blocks' last product. -/
theorem algebraic_dw0 : Cert.algebraic_Dw0Ideal_DwRef0Ideal := fun m g m' g' _ h =>
  ⟨_, (θ_run Cert.Dw0Ideal.defs _ _).mono (fun _ hr c => ⟨(hr c).1.trans (Cert.Dw0Ideal.Whole.final m c), (hr c).2⟩) (Cert.Dw0Ideal.Value.run_blocks (F := Ideal) m g),
    (θ_run Cert.DwRef0Ideal.defs _ _).mono (fun _ hr c => ⟨(hr c).1.trans (Product.host_of _ _ _ _ _ _ _ _ (h c)), (hr c).2⟩) (Cert.DwRef0Ideal.Value.run (F := Ideal) m' g')⟩

theorem frame_dwRef1Ideal : Cert.quiescent_DwRef1Ideal := fun m g _ =>
  (θ_run Cert.DwRef1Ideal.defs _ _).mono (fun r h => ⟨fun c => (h c).2, sem_eq_zero_of_no_sems rfl r.2⟩) (Cert.DwRef1Ideal.Value.run (F := Ideal) m g)

/-- The gradient of the weight of the feed-forward blocks' first product. -/
theorem algebraic_dw1 : Cert.algebraic_Dw1Ideal_DwRef1Ideal := fun m g m' g' _ h =>
  ⟨_, (θ_run Cert.Dw1Ideal.defs _ _).mono (fun _ hr c => ⟨(hr c).1.trans (Cert.Dw1Ideal.Whole.final m c), (hr c).2⟩) (Cert.Dw1Ideal.Value.run_blocks (F := Ideal) m g),
    (θ_run Cert.DwRef1Ideal.defs _ _).mono (fun _ hr c => ⟨(hr c).1.trans (Product.host_of _ _ _ _ _ _ _ _ (h c)), (hr c).2⟩) (Cert.DwRef1Ideal.Value.run (F := Ideal) m' g')⟩

theorem frame_dwRef2Ideal : Cert.quiescent_DwRef2Ideal := fun m g _ =>
  (θ_run Cert.DwRef2Ideal.defs _ _).mono (fun r h => ⟨fun c => (h c).2, sem_eq_zero_of_no_sems rfl r.2⟩) (Cert.DwRef2Ideal.Value.run (F := Ideal) m g)

/-- The gradient of the weight of the mixers' last products. -/
theorem algebraic_dw2 : Cert.algebraic_Dw2Ideal_DwRef2Ideal := fun m g m' g' _ h =>
  ⟨_, (θ_run Cert.Dw2Ideal.defs _ _).mono (fun _ hr c => ⟨(hr c).1.trans (Cert.Dw2Ideal.Whole.final m c), (hr c).2⟩) (Cert.Dw2Ideal.Value.run_blocks (F := Ideal) m g),
    (θ_run Cert.DwRef2Ideal.defs _ _).mono (fun _ hr c => ⟨(hr c).1.trans (Product.host_of _ _ _ _ _ _ _ _ (h c)), (hr c).2⟩) (Cert.DwRef2Ideal.Value.run (F := Ideal) m' g')⟩

theorem frame_dwRef3Ideal : Cert.quiescent_DwRef3Ideal := fun m g _ =>
  (θ_run Cert.DwRef3Ideal.defs _ _).mono (fun r h => ⟨fun c => (h c).2, sem_eq_zero_of_no_sems rfl r.2⟩) (Cert.DwRef3Ideal.Value.run (F := Ideal) m g)

/-- The gradient of the weights of the first products of the first and the last layer. -/
theorem algebraic_dw3 : Cert.algebraic_Dw3Ideal_DwRef3Ideal := fun m g m' g' _ h =>
  ⟨_, (θ_run Cert.Dw3Ideal.defs _ _).mono (fun _ hr c => ⟨(hr c).1.trans (Cert.Dw3Ideal.Whole.final m c), (hr c).2⟩) (Cert.Dw3Ideal.Value.run_blocks (F := Ideal) m g),
    (θ_run Cert.DwRef3Ideal.defs _ _).mono (fun _ hr c => ⟨(hr c).1.trans (Product.host_of _ _ _ _ _ _ _ _ (h c)), (hr c).2⟩) (Cert.DwRef3Ideal.Value.run (F := Ideal) m' g')⟩

theorem frame_dwRef4Ideal : Cert.quiescent_DwRef4Ideal := fun m g _ =>
  (θ_run Cert.DwRef4Ideal.defs _ _).mono (fun r h => ⟨fun c => (h c).2, sem_eq_zero_of_no_sems rfl r.2⟩) (Cert.DwRef4Ideal.Value.run (F := Ideal) m g)

/-- The gradient of the weight of the second layer's first product. -/
theorem algebraic_dw4 : Cert.algebraic_Dw4Ideal_DwRef4Ideal := fun m g m' g' _ h =>
  ⟨_, (θ_run Cert.Dw4Ideal.defs _ _).mono (fun _ hr c => ⟨(hr c).1.trans (Cert.Dw4Ideal.Whole.final m c), (hr c).2⟩) (Cert.Dw4Ideal.Value.run_blocks (F := Ideal) m g),
    (θ_run Cert.DwRef4Ideal.defs _ _).mono (fun _ hr c => ⟨(hr c).1.trans (Product.host_of _ _ _ _ _ _ _ _ (h c)), (hr c).2⟩) (Cert.DwRef4Ideal.Value.run (F := Ideal) m' g')⟩

theorem frame_dwRef5Ideal : Cert.quiescent_DwRef5Ideal := fun m g _ =>
  (θ_run Cert.DwRef5Ideal.defs _ _).mono (fun r h => ⟨fun c => (h c).2, sem_eq_zero_of_no_sems rfl r.2⟩) (Cert.DwRef5Ideal.Value.run (F := Ideal) m g)

/-- The gradient of the weight of the third layer's first product. -/
theorem algebraic_dw5 : Cert.algebraic_Dw5Ideal_DwRef5Ideal := fun m g m' g' _ h =>
  ⟨_, (θ_run Cert.Dw5Ideal.defs _ _).mono (fun _ hr c => ⟨(hr c).1.trans (Cert.Dw5Ideal.Whole.final m c), (hr c).2⟩) (Cert.Dw5Ideal.Value.run_blocks (F := Ideal) m g),
    (θ_run Cert.DwRef5Ideal.defs _ _).mono (fun _ hr c => ⟨(hr c).1.trans (Product.host_of _ _ _ _ _ _ _ _ (h c)), (hr c).2⟩) (Cert.DwRef5Ideal.Value.run (F := Ideal) m' g')⟩

theorem frame_dwRef6Ideal : Cert.quiescent_DwRef6Ideal := fun m g _ =>
  (θ_run Cert.DwRef6Ideal.defs _ _).mono (fun r h => ⟨fun c => (h c).2, sem_eq_zero_of_no_sems rfl r.2⟩) (Cert.DwRef6Ideal.Value.run (F := Ideal) m g)

/-- The gradient of the weight of the last layer's gates. -/
theorem algebraic_dw6 : Cert.algebraic_Dw6Ideal_DwRef6Ideal := fun m g m' g' _ h =>
  ⟨_, (θ_run Cert.Dw6Ideal.defs _ _).mono (fun _ hr c => ⟨(hr c).1.trans (Cert.Dw6Ideal.Whole.final m c), (hr c).2⟩) (Cert.Dw6Ideal.Value.run_blocks (F := Ideal) m g),
    (θ_run Cert.DwRef6Ideal.defs _ _).mono (fun _ hr c => ⟨(hr c).1.trans (Product.host_of _ _ _ _ _ _ _ _ (h c)), (hr c).2⟩) (Cert.DwRef6Ideal.Value.run (F := Ideal) m' g')⟩

theorem frame_convRefIdeal : Cert.quiescent_ConvRefIdeal := fun m g _ =>
  (θ_run Cert.ConvRefIdeal.defs _ _).mono (fun r h => ⟨fun c => (h c).2, sem_eq_zero_of_no_sems rfl r.2⟩) (Cert.ConvRefIdeal.Value.run (F := Ideal) m g)

/-- The gated short convolution of the third layer. -/
theorem algebraic_conv : Cert.algebraic_ConvIdeal_ConvRefIdeal := fun m g m' g' _ h =>
  ⟨_, (θ_run Cert.ConvIdeal.defs _ _).mono (fun _ hr c => ⟨(hr c).1.trans (Cert.ConvIdeal.Whole.final m c), (hr c).2⟩) (Cert.ConvIdeal.Value.run_blocks (F := Ideal) m g),
    (θ_run Cert.ConvRefIdeal.defs _ _).mono (fun _ hr c => ⟨(hr c).1.trans ((congrArg (fun X => truncf .bf16 (mulf _ X) _)
      (Taps.host _ _ _ _ _ _ _ _ _ _ _ _ _ _ sitofp_zero)).trans (congrArg₂ ShortConv.gated (h c).1 (h c).2)), (hr c).2⟩) (Cert.ConvRefIdeal.Value.run (F := Ideal) m' g')⟩

theorem frame_gluRefIdeal : Cert.quiescent_GluRefIdeal := fun m g _ =>
  (θ_run Cert.GluRefIdeal.defs _ _).mono (fun r h => ⟨fun c => (h c).2.2.2, sem_eq_zero_of_no_sems rfl r.2⟩) (Cert.GluRefIdeal.Value.run (F := Ideal) m g)

/-- The convolution and the activation of a feed-forward block. -/
theorem algebraic_glu : Cert.algebraic_GluIdeal_GluRefIdeal := fun m g m' g' _ h =>
  ⟨_, _, _, (θ_run Cert.GluIdeal.defs _ _).mono (fun _ hr c => ⟨(hr c).1.trans (Cert.GluIdeal.Whole.final8 m c), (hr c).2.1.trans (Cert.GluIdeal.Whole.final9 m c),
      (hr c).2.2.1.trans (Cert.GluIdeal.Whole.final10 m c), (hr c).2.2.2⟩) (Cert.GluIdeal.Value.run_blocks (F := Ideal) m g),
    (θ_run Cert.GluRefIdeal.defs _ _).mono (fun _ hr c =>
      have e : Cert.GluAct.biased _ _ _ = Cert.GluIdeal.Whole.whole m c := congr (congrArg₂ Cert.GluAct.biased (h c).1 (h c).2.1) (h c).2.2
      have E := (Cert.GluAct.with_bias _ _ _ _ _ (Taps.host _ _ _ _ _ _ _ _ _ _ _ _ _ _ sitofp_zero)).trans e
      ⟨(hr c).1.trans (congrArg (Cert.GluAct.half · 0 _) E), (hr c).2.1.trans (congrArg (Cert.GluAct.half · 5632 _) E),
        (hr c).2.2.1.trans ((Cert.GluAct.host _ _ _ _ _).trans (congrArg (fun X i => Cert.GluAct.act (Cert.GluAct.half X 0 _ i) (Cert.GluAct.half X 5632 _ i)) E)),
        (hr c).2.2.2⟩) (Cert.GluRefIdeal.Value.run (F := Ideal) m' g')⟩

theorem claim : Cert.Claim := ⟨
  Cert.Gather.Gen.facts, Cert.GatherIdeal.Gen.facts, Cert.GatherRefIdeal.Gen.facts, Cert.GatherRef.Gen.facts, Cert.Scatter.Gen.facts, Cert.ScatterIdeal.Gen.facts, Cert.ScatterRefIdeal.Gen.facts,
  Cert.Gather1.Gen.facts, Cert.Gather1Ideal.Gen.facts, Cert.GatherRef1Ideal.Gen.facts, Cert.GatherRef1.Gen.facts, Cert.Scatter1.Gen.facts, Cert.Scatter1Ideal.Gen.facts, Cert.ScatterRef1Ideal.Gen.facts,
  Cert.Gather2.Gen.facts, Cert.Gather2Ideal.Gen.facts, Cert.GatherRef2Ideal.Gen.facts, Cert.GatherRef2.Gen.facts, Cert.Scatter2.Gen.facts, Cert.Scatter2Ideal.Gen.facts, Cert.ScatterRef2Ideal.Gen.facts,
  Cert.Small.Gen.facts, Cert.SmallIdeal.Gen.facts, Cert.SmallRefIdeal.Gen.facts,
  Cert.Adam0.Gen.facts, Cert.Adam0Ideal.Gen.facts, Cert.AdamRef0Ideal.Gen.facts,
  Cert.Adam1.Gen.facts, Cert.Adam1Ideal.Gen.facts, Cert.AdamRef1Ideal.Gen.facts,
  Cert.Adam2.Gen.facts, Cert.Adam2Ideal.Gen.facts, Cert.AdamRef2Ideal.Gen.facts,
  Cert.Adam3.Gen.facts, Cert.Adam3Ideal.Gen.facts, Cert.AdamRef3Ideal.Gen.facts,
  Cert.Adam4.Gen.facts, Cert.Adam4Ideal.Gen.facts, Cert.AdamRef4Ideal.Gen.facts,
  Cert.Adam5.Gen.facts, Cert.Adam5Ideal.Gen.facts, Cert.AdamRef5Ideal.Gen.facts,
  Cert.Adam6.Gen.facts, Cert.Adam6Ideal.Gen.facts, Cert.AdamRef6Ideal.Gen.facts,
  Cert.Adam7.Gen.facts, Cert.Adam7Ideal.Gen.facts, Cert.AdamRef7Ideal.Gen.facts,
  Cert.Adam8.Gen.facts, Cert.Adam8Ideal.Gen.facts, Cert.AdamRef8Ideal.Gen.facts,
  Cert.Adam9.Gen.facts, Cert.Adam9Ideal.Gen.facts, Cert.AdamRef9Ideal.Gen.facts,
  Cert.Adam10.Gen.facts, Cert.Adam10Ideal.Gen.facts, Cert.AdamRef10Ideal.Gen.facts,
  Cert.Adam11.Gen.facts, Cert.Adam11Ideal.Gen.facts, Cert.AdamRef11Ideal.Gen.facts,
  Cert.Adam12.Gen.facts, Cert.Adam12Ideal.Gen.facts, Cert.AdamRef12Ideal.Gen.facts,
  Cert.Adam13.Gen.facts, Cert.Adam13Ideal.Gen.facts, Cert.AdamRef13Ideal.Gen.facts,
  Cert.Mul0.Gen.facts, Cert.Mul0Ideal.Gen.facts, Cert.MulRef0Ideal.Gen.facts,
  Cert.Mul1.Gen.facts, Cert.Mul1Ideal.Gen.facts, Cert.MulRef1Ideal.Gen.facts,
  Cert.Mul2.Gen.facts, Cert.Mul2Ideal.Gen.facts, Cert.MulRef2Ideal.Gen.facts,
  Cert.Mul3.Gen.facts, Cert.Mul3Ideal.Gen.facts, Cert.MulRef3Ideal.Gen.facts,
  Cert.Mul4.Gen.facts, Cert.Mul4Ideal.Gen.facts, Cert.MulRef4Ideal.Gen.facts,
  Cert.Mul5.Gen.facts, Cert.Mul5Ideal.Gen.facts, Cert.MulRef5Ideal.Gen.facts,
  Cert.Mul6.Gen.facts, Cert.Mul6Ideal.Gen.facts, Cert.MulRef6Ideal.Gen.facts,
  Cert.Norm0.Gen.facts, Cert.Norm0Ideal.Gen.facts, Cert.NormRef0Ideal.Gen.facts,
  Cert.Norm1.Gen.facts, Cert.Norm1Ideal.Gen.facts, Cert.NormRef1Ideal.Gen.facts,
  Cert.Dx0.Gen.facts, Cert.Dx0Ideal.Gen.facts, Cert.DxRef0Ideal.Gen.facts,
  Cert.Dx1.Gen.facts, Cert.Dx1Ideal.Gen.facts, Cert.DxRef1Ideal.Gen.facts,
  Cert.Dx2.Gen.facts, Cert.Dx2Ideal.Gen.facts, Cert.DxRef2Ideal.Gen.facts,
  Cert.Dx3.Gen.facts, Cert.Dx3Ideal.Gen.facts, Cert.DxRef3Ideal.Gen.facts,
  Cert.Dx4.Gen.facts, Cert.Dx4Ideal.Gen.facts, Cert.DxRef4Ideal.Gen.facts,
  Cert.Dx5.Gen.facts, Cert.Dx5Ideal.Gen.facts, Cert.DxRef5Ideal.Gen.facts,
  Cert.Dx6.Gen.facts, Cert.Dx6Ideal.Gen.facts, Cert.DxRef6Ideal.Gen.facts,
  Cert.Dw0.Gen.facts, Cert.Dw0Ideal.Gen.facts, Cert.DwRef0Ideal.Gen.facts,
  Cert.Dw1.Gen.facts, Cert.Dw1Ideal.Gen.facts, Cert.DwRef1Ideal.Gen.facts,
  Cert.Dw2.Gen.facts, Cert.Dw2Ideal.Gen.facts, Cert.DwRef2Ideal.Gen.facts,
  Cert.Dw3.Gen.facts, Cert.Dw3Ideal.Gen.facts, Cert.DwRef3Ideal.Gen.facts,
  Cert.Dw4.Gen.facts, Cert.Dw4Ideal.Gen.facts, Cert.DwRef4Ideal.Gen.facts,
  Cert.Dw5.Gen.facts, Cert.Dw5Ideal.Gen.facts, Cert.DwRef5Ideal.Gen.facts,
  Cert.Dw6.Gen.facts, Cert.Dw6Ideal.Gen.facts, Cert.DwRef6Ideal.Gen.facts,
  Cert.Conv.Gen.facts, Cert.ConvIdeal.Gen.facts, Cert.ConvRefIdeal.Gen.facts, Cert.Glu.Gen.facts, Cert.GluIdeal.Gen.facts, Cert.GluRefIdeal.Gen.facts,
  frame_gather, frame_gatherIdeal, frame_gatherRefIdeal, frame_gatherRef, frame_scatter, frame_scatterIdeal, frame_scatterRefIdeal,
  frame_gather1, frame_gather1Ideal, frame_gatherRef1Ideal, frame_gatherRef1, frame_scatter1, frame_scatter1Ideal, frame_scatterRef1Ideal,
  frame_gather2, frame_gather2Ideal, frame_gatherRef2Ideal, frame_gatherRef2, frame_scatter2, frame_scatter2Ideal, frame_scatterRef2Ideal,
  frame_small, frame_smallIdeal, frame_smallRefIdeal,
  frame_adam0, frame_adam0Ideal, frame_adamRef0Ideal,
  frame_adam1, frame_adam1Ideal, frame_adamRef1Ideal,
  frame_adam2, frame_adam2Ideal, frame_adamRef2Ideal,
  frame_adam3, frame_adam3Ideal, frame_adamRef3Ideal,
  frame_adam4, frame_adam4Ideal, frame_adamRef4Ideal,
  frame_adam5, frame_adam5Ideal, frame_adamRef5Ideal,
  frame_adam6, frame_adam6Ideal, frame_adamRef6Ideal,
  frame_adam7, frame_adam7Ideal, frame_adamRef7Ideal,
  frame_adam8, frame_adam8Ideal, frame_adamRef8Ideal,
  frame_adam9, frame_adam9Ideal, frame_adamRef9Ideal,
  frame_adam10, frame_adam10Ideal, frame_adamRef10Ideal,
  frame_adam11, frame_adam11Ideal, frame_adamRef11Ideal,
  frame_adam12, frame_adam12Ideal, frame_adamRef12Ideal,
  frame_adam13, frame_adam13Ideal, frame_adamRef13Ideal,
  frame_mul0, frame_mul0Ideal, frame_mulRef0Ideal,
  frame_mul1, frame_mul1Ideal, frame_mulRef1Ideal,
  frame_mul2, frame_mul2Ideal, frame_mulRef2Ideal,
  frame_mul3, frame_mul3Ideal, frame_mulRef3Ideal,
  frame_mul4, frame_mul4Ideal, frame_mulRef4Ideal,
  frame_mul5, frame_mul5Ideal, frame_mulRef5Ideal,
  frame_mul6, frame_mul6Ideal, frame_mulRef6Ideal,
  frame_norm0, frame_norm0Ideal, frame_normRef0Ideal,
  frame_norm1, frame_norm1Ideal, frame_normRef1Ideal,
  fun m g _ => Cert.Dx0.Gen.frame m g, fun m g _ => Cert.Dx0Ideal.Gen.frame m g, frame_dxRef0Ideal,
  fun m g _ => Cert.Dx1.Gen.frame m g, fun m g _ => Cert.Dx1Ideal.Gen.frame m g, frame_dxRef1Ideal,
  fun m g _ => Cert.Dx2.Gen.frame m g, fun m g _ => Cert.Dx2Ideal.Gen.frame m g, frame_dxRef2Ideal,
  fun m g _ => Cert.Dx3.Gen.frame m g, fun m g _ => Cert.Dx3Ideal.Gen.frame m g, frame_dxRef3Ideal,
  fun m g _ => Cert.Dx4.Gen.frame m g, fun m g _ => Cert.Dx4Ideal.Gen.frame m g, frame_dxRef4Ideal,
  fun m g _ => Cert.Dx5.Gen.frame m g, fun m g _ => Cert.Dx5Ideal.Gen.frame m g, frame_dxRef5Ideal,
  fun m g _ => Cert.Dx6.Gen.frame m g, fun m g _ => Cert.Dx6Ideal.Gen.frame m g, frame_dxRef6Ideal,
  fun m g _ => Cert.Dw0.Gen.frame m g, fun m g _ => Cert.Dw0Ideal.Gen.frame m g, frame_dwRef0Ideal,
  fun m g _ => Cert.Dw1.Gen.frame m g, fun m g _ => Cert.Dw1Ideal.Gen.frame m g, frame_dwRef1Ideal,
  fun m g _ => Cert.Dw2.Gen.frame m g, fun m g _ => Cert.Dw2Ideal.Gen.frame m g, frame_dwRef2Ideal,
  fun m g _ => Cert.Dw3.Gen.frame m g, fun m g _ => Cert.Dw3Ideal.Gen.frame m g, frame_dwRef3Ideal,
  fun m g _ => Cert.Dw4.Gen.frame m g, fun m g _ => Cert.Dw4Ideal.Gen.frame m g, frame_dwRef4Ideal,
  fun m g _ => Cert.Dw5.Gen.frame m g, fun m g _ => Cert.Dw5Ideal.Gen.frame m g, frame_dwRef5Ideal,
  fun m g _ => Cert.Dw6.Gen.frame m g, fun m g _ => Cert.Dw6Ideal.Gen.frame m g, frame_dwRef6Ideal,
  fun m g _ => Cert.Conv.Gen.frame m g, fun m g _ => Cert.ConvIdeal.Gen.frame m g, frame_convRefIdeal,
  fun m g _ => Cert.Glu.Gen.frame m g, fun m g _ => Cert.GluIdeal.Gen.frame m g, frame_gluRefIdeal,
  trivial, algebraic_gather, bitexact_gather, trivial, algebraic_scatter, trivial, algebraic_gather1, bitexact_gather1, trivial, algebraic_scatter1, trivial, algebraic_gather2, bitexact_gather2, trivial, algebraic_scatter2, trivial, algebraic_small,
  trivial, algebraic_adam0,
  trivial, algebraic_adam1,
  trivial, algebraic_adam2,
  trivial, algebraic_adam3,
  trivial, algebraic_adam4,
  trivial, algebraic_adam5,
  trivial, algebraic_adam6,
  trivial, algebraic_adam7,
  trivial, algebraic_adam8,
  trivial, algebraic_adam9,
  trivial, algebraic_adam10,
  trivial, algebraic_adam11,
  trivial, algebraic_adam12,
  trivial, algebraic_adam13,
  trivial, algebraic_mul0,
  trivial, algebraic_mul1,
  trivial, algebraic_mul2,
  trivial, algebraic_mul3,
  trivial, algebraic_mul4,
  trivial, algebraic_mul5,
  trivial, algebraic_mul6,
  trivial, algebraic_norm0,
  trivial, algebraic_norm1,
  trivial, algebraic_dx0, trivial, algebraic_dx1, trivial, algebraic_dx2, trivial, algebraic_dx3, trivial, algebraic_dx4, trivial, algebraic_dx5, trivial, algebraic_dx6,
  trivial, algebraic_dw0, trivial, algebraic_dw1, trivial, algebraic_dw2, trivial, algebraic_dw3, trivial, algebraic_dw4, trivial, algebraic_dw5, trivial, algebraic_dw6,
  trivial, algebraic_conv, trivial, algebraic_glu⟩

end Cert.Proof

end
